-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v12_0)) (v1 : (c : Dev Cert.GateIdeal.nD) → Buf (Elt Ideal) ((c.tc : Thread Cert.GateIdeal.nD Cert.GateIdeal.τ).loc Cert.GateIdeal.main_v12_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v12_0) = v0 c
          ∧ r.2.mem ((c.tc : Thread Cert.GateIdeal.nD Cert.GateIdeal.τ).loc Cert.GateIdeal.main_v12_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10) = v0 c
          ∧ r.2.mem ((c.tc : Thread Cert.GateRefIdeal.nD Cert.GateRefIdeal.τ).loc Cert.GateRefIdeal.main_v12) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Attn_AttnIdeal : Prop :=
  IdealRules.named_const.Statement Cert.AttnIdeal.κ "log2_e" .f32 0x3FB8AA3B#32 (((Real.log 2)⁻¹ : ℝ) : EReal)
  ∧ IdealRules.named_const.Statement Cert.AttnIdeal.κ "ln_2" .f32 0x3F317218#32 ((Real.log 2 : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v40)) (v1 : (c : Dev Cert.AttnIdeal.nD) → Buf (Elt Ideal) ((c.tc : Thread Cert.AttnIdeal.nD Cert.AttnIdeal.τ).loc Cert.AttnIdeal.main_v42)) (v2 : (c : Dev Cert.AttnIdeal.nD) → Buf (Elt Ideal) ((c.tc : Thread Cert.AttnIdeal.nD Cert.AttnIdeal.τ).loc Cert.AttnIdeal.main_v44)) (v3 : (c : Dev Cert.AttnIdeal.nD) → Buf (Elt Ideal) ((c.tc : Thread Cert.AttnIdeal.nD Cert.AttnIdeal.τ).loc Cert.AttnIdeal.main_v37)) (v4 : (c : Dev Cert.AttnIdeal.nD) → Buf (Elt Ideal) ((c.tc : Thread Cert.AttnIdeal.nD Cert.AttnIdeal.τ).loc Cert.AttnIdeal.main_v45)) (v5 : (c : Dev Cert.AttnIdeal.nD) → Buf (Elt Ideal) ((c.tc : Thread Cert.AttnIdeal.nD Cert.AttnIdeal.τ).loc Cert.AttnIdeal.main_v47)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v40) = v0 c
          ∧ r.2.mem ((c.tc : Thread Cert.AttnIdeal.nD Cert.AttnIdeal.τ).loc Cert.AttnIdeal.main_v42) = v1 c
          ∧ r.2.mem ((c.tc : Thread Cert.AttnIdeal.nD Cert.AttnIdeal.τ).loc Cert.AttnIdeal.main_v44) = v2 c
          ∧ r.2.mem ((c.tc : Thread Cert.AttnIdeal.nD Cert.AttnIdeal.τ).loc Cert.AttnIdeal.main_v37) = v3 c
          ∧ r.2.mem ((c.tc : Thread Cert.AttnIdeal.nD Cert.AttnIdeal.τ).loc Cert.AttnIdeal.main_v45) = v4 c
          ∧ r.2.mem ((c.tc : Thread Cert.AttnIdeal.nD Cert.AttnIdeal.τ).loc Cert.AttnIdeal.main_v47) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v43) = v0 c
          ∧ r.2.mem ((c.tc : Thread Cert.AttnRefIdeal.nD Cert.AttnRefIdeal.τ).loc Cert.AttnRefIdeal.main_v69) = v1 c
          ∧ r.2.mem ((c.tc : Thread Cert.AttnRefIdeal.nD Cert.AttnRefIdeal.τ).loc Cert.AttnRefIdeal.main_v64) = v2 c
          ∧ r.2.mem ((c.tc : Thread Cert.AttnRefIdeal.nD Cert.AttnRefIdeal.τ).loc Cert.AttnRefIdeal.main_v67) = v3 c
          ∧ r.2.mem ((c.tc : Thread Cert.AttnRefIdeal.nD Cert.AttnRefIdeal.τ).loc Cert.AttnRefIdeal.main_v65) = v4 c
          ∧ r.2.mem ((c.tc : Thread Cert.AttnRefIdeal.nD Cert.AttnRefIdeal.τ).loc Cert.AttnRefIdeal.main_v47) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v13_0)) (v1 : (c : Dev Cert.NormIdeal.nD) → Buf (Elt Ideal) ((c.tc : Thread Cert.NormIdeal.nD Cert.NormIdeal.τ).loc Cert.NormIdeal.main_v13_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v13_0) = v0 c
          ∧ r.2.mem ((c.tc : Thread Cert.NormIdeal.nD Cert.NormIdeal.τ).loc Cert.NormIdeal.main_v13_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v42) = v0 c
          ∧ r.2.mem ((c.tc : Thread Cert.NormRefIdeal.nD Cert.NormRefIdeal.τ).loc Cert.NormRefIdeal.main_v43) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v4)) (v1 : (c : Dev Cert.LossIdeal.nD) → Buf (Elt Ideal) ((c.tc : Thread Cert.LossIdeal.nD Cert.LossIdeal.τ).loc Cert.LossIdeal.main_v2_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0 c
          ∧ r.2.mem ((c.tc : Thread Cert.LossIdeal.nD Cert.LossIdeal.τ).loc Cert.LossIdeal.main_v2_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v17) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v4_0)) (v1 : (c : Dev Cert.PoolIdeal.nD) → Buf (Elt Ideal) ((c.tc : Thread Cert.PoolIdeal.nD Cert.PoolIdeal.τ).loc Cert.PoolIdeal.main_v4_1)) (v2 : (c : Dev Cert.PoolIdeal.nD) → Buf (Elt Ideal) ((c.tc : Thread Cert.PoolIdeal.nD Cert.PoolIdeal.τ).loc Cert.PoolIdeal.main_v4_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v4_0) = v0 c
          ∧ r.2.mem ((c.tc : Thread Cert.PoolIdeal.nD Cert.PoolIdeal.τ).loc Cert.PoolIdeal.main_v4_1) = v1 c
          ∧ r.2.mem ((c.tc : Thread Cert.PoolIdeal.nD Cert.PoolIdeal.τ).loc Cert.PoolIdeal.main_v4_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v190) = v0 c
          ∧ r.2.mem ((c.tc : Thread Cert.PoolRefIdeal.nD Cert.PoolRefIdeal.τ).loc Cert.PoolRefIdeal.main_v130) = v1 c
          ∧ r.2.mem ((c.tc : Thread Cert.PoolRefIdeal.nD Cert.PoolRefIdeal.τ).loc Cert.PoolRefIdeal.main_v191) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def Claim : Prop :=
  ∃ (hGate : Cert.Gate.Facts) (hGateIdeal : Cert.GateIdeal.Facts) (hGateRefIdeal : Cert.GateRefIdeal.Facts) (hAttn : Cert.Attn.Facts) (hAttnIdeal : Cert.AttnIdeal.Facts) (hAttnRefIdeal : Cert.AttnRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hPool : Cert.Pool.Facts) (hPoolIdeal : Cert.PoolIdeal.Facts) (hPoolRefIdeal : Cert.PoolRefIdeal.Facts) (hPre_gate_finite : Cert.Pre_gate_finite.Facts) (hPre_attn_finite : Cert.Pre_attn_finite.Facts) (hPre_norm_finite : Cert.Pre_norm_finite.Facts) (hPre_pool_finite : Cert.Pre_pool_finite.Facts),
    quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Loss (hLoss := hLoss)
    ∧ quiescent_LossIdeal (hLossIdeal := hLossIdeal)
    ∧ quiescent_LossRefIdeal (hLossRefIdeal := hLossRefIdeal)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Loss_LossIdeal
    ∧ algebraic_LossIdeal_LossRefIdeal (hLossIdeal := hLossIdeal) (hLossRefIdeal := hLossRefIdeal)
    ∧ preserves_Pool_PoolIdeal
    ∧ algebraic_PoolIdeal_PoolRefIdeal_pre_pool_finite (hPoolIdeal := hPoolIdeal) (hPoolRefIdeal := hPoolRefIdeal) (hPre_pool_finite := hPre_pool_finite)
-- ==== Pre_attn_finite.lean ====
abbrev S4112x8x64 : Shape := ⟨3, ![4112, 8, 64]⟩
abbrev S4112x8x32 : Shape := ⟨3, ![4112, 8, 32]⟩
abbrev S4112x32 : Shape := ⟨2, ![4112, 32]⟩
abbrev S_ : Shape := ⟨0, ![]⟩

class Facts : Prop where
  bcast_S_S4112x8x64 : S_.BroadcastsInDim S4112x8x64 (![] : Fin 0 → Fin S4112x8x64.rank)
  reducesTo_S4112x8x64_S_d0_1_2 : S4112x8x64.ReducesTo [0, 1, 2] S_
  h_S_ : 0 < S_.numel
  bcast_S_S4112x8x32 : S_.BroadcastsInDim S4112x8x32 (![] : Fin 0 → Fin S4112x8x32.rank)
  reducesTo_S4112x8x32_S_d0_1_2 : S4112x8x32.ReducesTo [0, 1, 2] S_
  bcast_S_S4112x32 : S_.BroadcastsInDim S4112x32 (![] : Fin 0 → Fin S4112x32.rank)
  reducesTo_S4112x32_S_d0_1 : S4112x32.ReducesTo [0, 1] S_

variable [Facts]

def fn_part1 {F : FTy → Type} [FloatOps F] (main_arg4 : FVec F S4112x8x64 .f32) (main_arg5 : FVec F S4112x8x64 .f32) (main_v13 : IVec S_ 1) (main_v16 : IVec S4112x32 1) : IVec S_ 1 :=
  let main_c_5 : IVec S_ 1 := constantI S_ 1 1#1
  let main_v17 : IVec S_ 1 := (fun x v => Host.reduce IntOp.andi x v reducesTo_S4112x32_S_d0_1 h_S_) main_v16 main_c_5
  let main_v18 : IVec S_ 1 := andi main_v13 main_v17
  let main_v19 : FVec F S4112x8x64 .f32 := Host.absf main_arg4
  let main_cst_6 : FVec F S_ .f32 := constant S_ .f32 0x7F800000#32
  let main_v20 : FVec F S4112x8x64 .f32 := broadcastInDim S4112x8x64 ![] bcast_S_S4112x8x64 main_cst_6
  let main_v21 : IVec S4112x8x64 1 := cmpf .olt main_v19 main_v20
  let main_c_7 : IVec S_ 1 := constantI S_ 1 1#1
  let main_v22 : IVec S_ 1 := (fun x v => Host.reduce IntOp.andi x v reducesTo_S4112x8x64_S_d0_1_2 h_S_) main_v21 main_c_7
  let main_v23 : IVec S_ 1 := andi main_v18 main_v22
  let main_v24 : FVec F S4112x8x64 .f32 := Host.absf main_arg5
  let main_cst_8 : FVec F S_ .f32 := constant S_ .f32 0x7F800000#32
  let main_v25 : FVec F S4112x8x64 .f32 := broadcastInDim S4112x8x64 ![] bcast_S_S4112x8x64 main_cst_8
  let main_v26 : IVec S4112x8x64 1 := cmpf .olt main_v24 main_v25
  let main_c_9 : IVec S_ 1 := constantI S_ 1 1#1
  let main_v27 : IVec S_ 1 := (fun x v => Host.reduce IntOp.andi x v reducesTo_S4112x8x64_S_d0_1_2 h_S_) main_v26 main_c_9
  let main_v28 : IVec S_ 1 := andi main_v23 main_v27
  main_v28

def fn {F : FTy → Type} [FloatOps F] (main_arg0 : FVec F S4112x8x64 .f32) (main_arg1 : FVec F S4112x8x32 .f32) (main_arg2 : FVec F S4112x8x64 .f32) (main_arg3 : FVec F S4112x32 .f32) (main_arg4 : FVec F S4112x8x64 .f32) (main_arg5 : FVec F S4112x8x64 .f32) : IVec S_ 1 :=
  let main_v0 : FVec F S4112x8x64 .f32 := Host.absf main_arg0
  let main_cst : FVec F S_ .f32 := constant S_ .f32 0x7F800000#32
  let main_v1 : FVec F S4112x8x64 .f32 := broadcastInDim S4112x8x64 ![] bcast_S_S4112x8x64 main_cst
  let main_v2 : IVec S4112x8x64 1 := cmpf .olt main_v0 main_v1
  let main_c : IVec S_ 1 := constantI S_ 1 1#1
  let main_v3 : IVec S_ 1 := (fun x v => Host.reduce IntOp.andi x v reducesTo_S4112x8x64_S_d0_1_2 h_S_) main_v2 main_c
  let main_v4 : FVec F S4112x8x32 .f32 := Host.absf main_arg1
  let main_cst_0 : FVec F S_ .f32 := constant S_ .f32 0x7F800000#32
  let main_v5 : FVec F S4112x8x32 .f32 := broadcastInDim S4112x8x32 ![] bcast_S_S4112x8x32 main_cst_0
  let main_v6 : IVec S4112x8x32 1 := cmpf .olt main_v4 main_v5
  let main_c_1 : IVec S_ 1 := constantI S_ 1 1#1
  let main_v7 : IVec S_ 1 := (fun x v => Host.reduce IntOp.andi x v reducesTo_S4112x8x32_S_d0_1_2 h_S_) main_v6 main_c_1
  let main_v8 : IVec S_ 1 := andi main_v3 main_v7
  let main_v9 : FVec F S4112x8x64 .f32 := Host.absf main_arg2
  let main_cst_2 : FVec F S_ .f32 := constant S_ .f32 0x7F800000#32
  let main_v10 : FVec F S4112x8x64 .f32 := broadcastInDim S4112x8x64 ![] bcast_S_S4112x8x64 main_cst_2
  let main_v11 : IVec S4112x8x64 1 := cmpf .olt main_v9 main_v10
  let main_c_3 : IVec S_ 1 := constantI S_ 1 1#1
  let main_v12 : IVec S_ 1 := (fun x v => Host.reduce IntOp.andi x v reducesTo_S4112x8x64_S_d0_1_2 h_S_) main_v11 main_c_3
  let main_v13 : IVec S_ 1 := andi main_v8 main_v12
  let main_v14 : FVec F S4112x32 .f32 := Host.absf main_arg3
  let main_cst_4 : FVec F S_ .f32 := constant S_ .f32 0x7F800000#32
  let main_v15 : FVec F S4112x32 .f32 := broadcastInDim S4112x32 ![] bcast_S_S4112x32 main_cst_4
  let main_v16 : IVec S4112x32 1 := cmpf .olt main_v14 main_v15
  fn_part1 (F := F) main_arg4 main_arg5 main_v13 main_v16
-- ==== Pre_gate_finite.lean ====
abbrev S4112x1024 : Shape := ⟨2, ![4112, 1024]⟩
abbrev S1024x2816 : Shape := ⟨2, ![1024, 2816]⟩
abbrev S2816x1024 : Shape := ⟨2, ![2816, 1024]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4112x1024 1) : IVec S_ 1 :=
  let main_c_5 : IVec S_ 1 := constantI S_ 1 1#1
  let main_v17 : IVec S_ 1 := (fun x v => Host.reduce IntOp.andi x v reducesTo_S4112x1024_S_d0_1 h_S_) main_v16 main_c_5
  let main_v18 : IVec S_ 1 := andi main_v13 main_v17
  main_v18

def fn {F : FTy → Type} [FloatOps F] (main_arg0 : FVec F S4112x1024 .f32) (main_arg1 : FVec F S1024x2816 .f32) (main_arg2 : FVec F S1024x2816 .f32) (main_arg3 : FVec F S2816x1024 .f32) (main_arg4 : FVec F S4112x1024 .f32) : IVec S_ 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4112x1024 .f32 := Host.absf main_arg4
  let main_cst_4 : FVec F S_ .f32 := constant S_ .f32 0x7F800000#32
  let main_v15 : FVec F S4112x1024 .f32 := broadcastInDim S4112x1024 ![] bcast_S_S4112x1024 main_cst_4
  let main_v16 : IVec S4112x1024 1 := cmpf .olt main_v14 main_v15
  fn_part1 (F := F) main_v13 main_v16
-- ==== Pre_norm_finite.lean ====
abbrev S4112x1024 : Shape := ⟨2, ![4112, 1024]⟩
abbrev S1024 : Shape := ⟨1, ![1024]⟩
abbrev S1024x2816 : Shape := ⟨2, ![1024, 2816]⟩
abbrev S4112x2816 : Shape := ⟨2, ![4112, 2816]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S4112x2816 : S_.BroadcastsInDim S4112x2816 (![] : Fin 0 → Fin S4112x2816.rank)
  reducesTo_S4112x2816_S_d0_1 : S4112x2816.ReducesTo [0, 1] S_

variable [Facts]

def fn_part1 {F : FTy → Type} [FloatOps F] (main_arg4 : FVec F S4112x2816 .f32) (main_arg5 : FVec F S4112x2816 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S4112x2816 .f32 := Host.absf main_arg4
  let main_cst_6 : FVec F S_ .f32 := constant S_ .f32 0x7F800000#32
  let main_v20 : FVec F S4112x2816 .f32 := broadcastInDim S4112x2816 ![] bcast_S_S4112x2816 main_cst_6
  let main_v21 : IVec S4112x2816 1 := cmpf .olt main_v19 main_v20
  let main_c_7 : IVec S_ 1 := constantI S_ 1 1#1
  let main_v22 : IVec S_ 1 := (fun x v => Host.reduce IntOp.andi x v reducesTo_S4112x2816_S_d0_1 h_S_) main_v21 main_c_7
  let main_v23 : IVec S_ 1 := andi main_v18 main_v22
  let main_v24 : FVec F S4112x2816 .f32 := Host.absf main_arg5
  let main_cst_8 : FVec F S_ .f32 := constant S_ .f32 0x7F800000#32
  let main_v25 : FVec F S4112x2816 .f32 := broadcastInDim S4112x2816 ![] bcast_S_S4112x2816 main_cst_8
  let main_v26 : IVec S4112x2816 1 := cmpf .olt main_v24 main_v25
  let main_c_9 : IVec S_ 1 := constantI S_ 1 1#1
  let main_v27 : IVec S_ 1 := (fun x v => Host.reduce IntOp.andi x v reducesTo_S4112x2816_S_d0_1 h_S_) main_v26 main_c_9
  let main_v28 : IVec S_ 1 := andi main_v23 main_v27
  main_v28

def fn {F : FTy → Type} [FloatOps F] (main_arg0 : FVec F S4112x1024 .f32) (main_arg1 : FVec F S1024 .f32) (main_arg2 : FVec F S1024x2816 .f32) (main_arg3 : FVec F S1024x2816 .f32) (main_arg4 : FVec F S4112x2816 .f32) (main_arg5 : FVec F S4112x2816 .f32) (main_arg6 : FVec F S4112x1024 .f32) : IVec S_ 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_pool_finite.lean ====
abbrev S4112x512 : Shape := ⟨2, ![4112, 512]⟩
abbrev S4x128x128 : Shape := ⟨3, ![4, 128, 128]⟩
abbrev S512 : Shape := ⟨1, ![512]⟩
abbrev S_ : Shape := ⟨0, ![]⟩

class Facts : Prop where
  bcast_S_S4112x512 : S_.BroadcastsInDim S4112x512 (![] : Fin 0 → Fin S4112x512.rank)
  reducesTo_S4112x512_S_d0_1 : S4112x512.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S4112x512 1) : IVec S_ 1 :=
  let main_c_5 : IVec S_ 1 := constantI S_ 1 1#1
  let main_v17 : IVec S_ 1 := (fun x v => Host.reduce IntOp.andi x v reducesTo_S4112x512_S_d0_1 h_S_) main_v16 main_c_5
  let main_v18 : IVec S_ 1 := andi main_v13 main_v17
  main_v18

def fn {F : FTy → Type} [FloatOps F] (main_arg0 : FVec F S4112x512 .f32) (main_arg1 : FVec F S4x128x128 .f32) (main_arg2 : FVec F S512 .f32) (main_arg3 : FVec F S4112x512 .f32) : IVec S_ 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_c : IVec S_ 1 := constantI S_ 1 1#1
  let main_v3 : IVec S_ 1 := (fun x v => Host.reduce IntOp.andi x v reducesTo_S4112x512_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4112x512 .f32 := Host.absf main_arg3
  let main_cst_4 : FVec F S_ .f32 := constant S_ .f32 0x7F800000#32
  let main_v15 : FVec F S4112x512 .f32 := broadcastInDim S4112x512 ![] bcast_S_S4112x512 main_cst_4
  let main_v16 : IVec S4112x512 1 := cmpf .olt main_v14 main_v15
  fn_part1 (F := F) main_v13 main_v16
-- ==== Gate.lean ====
abbrev S4112x1024 : Shape := ⟨2, ![4112, 1024]⟩
abbrev S1024x2816 : Shape := ⟨2, ![1024, 2816]⟩
abbrev S2816x1024 : Shape := ⟨2, ![2816, 1024]⟩
abbrev S_ : Shape := ⟨0, ![]⟩
abbrev S4224x1024 : Shape := ⟨2, ![4224, 1024]⟩
abbrev S8x1x352x1024 : Shape := ⟨4, ![8, 1, 352, 1024]⟩
abbrev S4224x2816 : Shape := ⟨2, ![4224, 2816]⟩
abbrev S1056x1024 : Shape := ⟨2, ![1056, 1024]⟩
abbrev S4x1x352x1024 : Shape := ⟨4, ![4, 1, 352, 1024]⟩
abbrev S1056x1408 : Shape := ⟨2, ![1056, 1408]⟩
abbrev S4x352x1024 : Shape := ⟨3, ![4, 352, 1024]⟩
abbrev S1408x1024 : Shape := ⟨2, ![1408, 1024]⟩

abbrev nBuf : Space → Nat
  | .hbm => 25
  | .vmem => 24
  | .smem => 0
  | _ => 0

abbrev bufTy : (tb : Table) → Fin (tcTables nBuf tb) → BufTy
  | .hbm, ⟨0, _⟩ => ⟨S4112x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4112x1024, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S4224x1024, .bf16⟩
  | .hbm, ⟨9, _⟩ => ⟨S2816x1024, .f32⟩
  | .hbm, ⟨10, _⟩ => ⟨S2816x1024, .bf16⟩
  | .hbm, ⟨11, _⟩ => ⟨S8x1x352x1024, .bf16⟩
  | .hbm, ⟨12, _⟩ => ⟨S2816x1024, .f32⟩
  | .hbm, ⟨13, _⟩ => ⟨S2816x1024, .bf16⟩
  | .hbm, ⟨14, _⟩ => ⟨S8x1x352x1024, .bf16⟩
  | .hbm, ⟨15, _⟩ => ⟨S4224x2816, .bf16⟩
  | .hbm, ⟨16, _⟩ => ⟨S4224x2816, .bf16⟩
  | .hbm, ⟨17, _⟩ => ⟨S4224x2816, .bf16⟩
  | .hbm, ⟨18, _⟩ => ⟨S_, .i32⟩
  | .hbm, ⟨19, _⟩ => ⟨S_, .f32⟩
  | .hbm, ⟨20, _⟩ => ⟨S4224x1024, .f32⟩
  | .hbm, ⟨21, _⟩ => ⟨S2816x1024, .bf16⟩
  | .hbm, ⟨22, _⟩ => ⟨S8x1x352x1024, .bf16⟩
  | .hbm, ⟨23, _⟩ => ⟨S4224x2816, .bf16⟩
  | .hbm, ⟨24, _⟩ => ⟨S4224x2816, .bf16⟩
  | .local _ .vmem, ⟨0, _⟩ => ⟨S1056x1024, .bf16⟩
  | .local _ .vmem, ⟨1, _⟩ => ⟨S1056x1024, .bf16⟩
  | .local _ .vmem, ⟨2, _⟩ => ⟨S4x1x352x1024, .bf16⟩
  | .local _ .vmem, ⟨3, _⟩ => ⟨S4x1x352x1024, .bf16⟩
  | .local _ .vmem, ⟨4, _⟩ => ⟨S4x1x352x1024, .bf16⟩
  | .local _ .vmem, ⟨5, _⟩ => ⟨S4x1x352x1024, .bf16⟩
  | .local _ .vmem, ⟨6, _⟩ => ⟨S1056x1408, .bf16⟩
  | .local _ .vmem, ⟨7, _⟩ => ⟨S1056x1408, .bf16⟩
  | .local _ .vmem, ⟨8, _⟩ => ⟨S1056x1408, .bf16⟩
  | .local _ .vmem, ⟨9, _⟩ => ⟨S1056x1408, .bf16⟩
  | .local _ .vmem, ⟨10, _⟩ => ⟨S1056x1408, .bf16⟩
  | .local _ .vmem, ⟨11, _⟩ => ⟨S1056x1408, .bf16⟩
  | .local _ .vmem, ⟨12, _⟩ => ⟨S1056x1024, .f32⟩
  | .local _ .vmem, ⟨13, _⟩ => ⟨S1056x1024, .f32⟩
  | .local _ .vmem, ⟨14, _⟩ => ⟨S4x1x352x1024, .bf16⟩
  | .local _ .vmem, ⟨15, _⟩ => ⟨S4x1x352x1024, .bf16⟩
  | .local _ .vmem, ⟨16, _⟩ => ⟨S1056x1408, .bf16⟩
  | .local _ .vmem, ⟨17, _⟩ => ⟨S1056x1408, .bf16⟩
  | .local _ .vmem, ⟨18, _⟩ => ⟨S1056x1408, .bf16⟩
  | .local _ .vmem, ⟨19, _⟩ => ⟨S1056x1408, .bf16⟩
  | .local _ .vmem, ⟨20, _⟩ => ⟨S1056x1408, .bf16⟩
  | .local _ .vmem, ⟨21, _⟩ => ⟨S1056x1408, .bf16⟩
  | .local _ .vmem, ⟨22, _⟩ => ⟨S1056x1408, .bf16⟩
  | .local _ .vmem, ⟨23, _⟩ => ⟨S1056x1408, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1056x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1056x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4x1x352x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1056x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1056x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1056x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1056x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== GateRefIdeal.lean ====
abbrev S4112x1024 : Shape := ⟨2, ![4112, 1024]⟩
abbrev S1024x2816 : Shape := ⟨2, ![1024, 2816]⟩
abbrev S2816x1024 : Shape := ⟨2, ![2816, 1024]⟩
abbrev S4112x2816 : Shape := ⟨2, ![4112, 2816]⟩
abbrev S_ : Shape := ⟨0, ![]⟩
abbrev S4224x2816 : Shape := ⟨2, ![4224, 2816]⟩

abbrev nBuf : Space → Nat
  | .hbm => 37
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4112x1024, .f32⟩
  | .hbm, ⟨5, _⟩ => ⟨S4112x2816, .f32⟩
  | .hbm, ⟨6, _⟩ => ⟨S4112x2816, .f32⟩
  | .hbm, ⟨7, _⟩ => ⟨S4112x2816, .f32⟩
  | .hbm, ⟨8, _⟩ => ⟨S4112x2816, .f32⟩
  | .hbm, ⟨9, _⟩ => ⟨S_, .f32⟩
  | .hbm, ⟨10, _⟩ => ⟨S4112x2816, .f32⟩
  | .hbm, ⟨11, _⟩ => ⟨S4112x2816, .f32⟩
  | .hbm, ⟨12, _⟩ => ⟨S_, .f32⟩
  | .hbm, ⟨13, _⟩ => ⟨S4112x2816, .f32⟩
  | .hbm, ⟨14, _⟩ => ⟨S4112x2816, .f32⟩
  | .hbm, ⟨15, _⟩ => ⟨S_, .f32⟩
  | .hbm, ⟨16, _⟩ => ⟨S4112x2816, .f32⟩
  | .hbm, ⟨17, _⟩ => ⟨S4112x2816, .f32⟩
  | .hbm, ⟨18, _⟩ => ⟨S4112x2816, .f32⟩
  | .hbm, ⟨19, _⟩ => ⟨S4112x2816, .f32⟩
  | .hbm, ⟨20, _⟩ => ⟨S4112x2816, .f32⟩
  | .hbm, ⟨21, _⟩ => ⟨S4112x1024, .f32⟩
  | .hbm, ⟨22, _⟩ => ⟨S4112x2816, .f32⟩
  | .hbm, ⟨23, _⟩ => ⟨S4112x2816, .f32⟩
  | .hbm, ⟨24, _⟩ => ⟨S4112x2816, .f32⟩
  | .hbm, ⟨25, _⟩ => ⟨S4112x2816, .f32⟩
  | .hbm, ⟨26, _⟩ => ⟨S4112x2816, .f32⟩
  | .hbm, ⟨27, _⟩ => ⟨S4112x2816, .f32⟩
  | .hbm, ⟨28, _⟩ => ⟨S4112x2816, .f32⟩
  | .hbm, ⟨29, _⟩ => ⟨S_, .i32⟩
  | .hbm, ⟨30, _⟩ => ⟨S_, .f32⟩
  | .hbm, ⟨31, _⟩ => ⟨S4224x2816, .f32⟩
  | .hbm, ⟨32, _⟩ => ⟨S4224x2816, .bf16⟩
  | .hbm, ⟨33, _⟩ => ⟨S_, .i32⟩
  | .hbm, ⟨34, _⟩ => ⟨S_, .f32⟩
  | .hbm, ⟨35, _⟩ => ⟨S4224x2816, .f32⟩
  | .hbm, ⟨36, _⟩ => ⟨S4224x2816, .bf16⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_c : Ref sig .tc := ⟨.hbm, 29, rfl⟩
abbrev main_call2_v0 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call3_v0 : Ref sig .tc := ⟨.hbm, 34, rfl⟩
abbrev main_v11 : Ref sig .tc := ⟨.hbm, 35, rfl⟩
abbrev main_v12 : Ref sig .tc := ⟨.hbm, 36, rfl⟩

abbrev nD : Nat := 1
abbrev τ : Topo := Topo.v7x

variable {F : FTy → Type} [FloatOps F]
-- ==== Attn.lean ====
abbrev S4112x8x64 : Shape := ⟨3, ![4112, 8, 64]⟩
abbrev S4112x8x32 : Shape := ⟨3, ![4112, 8, 32]⟩
abbrev S4112x32 : Shape := ⟨2, ![4112, 32]⟩
abbrev S_ : Shape := ⟨0, ![]⟩
abbrev S4112x8x128 : Shape := ⟨3, ![4112, 8, 128]⟩
abbrev S4112x1024 : Shape := ⟨2, ![4112, 1024]⟩
abbrev S4224x1024 : Shape := ⟨2, ![4224, 1024]⟩
abbrev S4112x1x32 : Shape := ⟨3, ![4112, 1, 32]⟩
abbrev S4112x512 : Shape := ⟨2, ![4112, 512]⟩
abbrev S4224x512 : Shape := ⟨2, ![4224, 512]⟩
abbrev S384x256 : Shape := ⟨2, ![384, 256]⟩
abbrev S4224x256 : Shape := ⟨2, ![4224, 256]⟩
abbrev S4224x128 : Shape := ⟨2, ![4224, 128]⟩
abbrev S384x128 : Shape := ⟨2, ![384, 128]⟩
abbrev S384x1 : Shape := ⟨2, ![384, 1]⟩
abbrev S768x128 : Shape := ⟨2, ![768, 128]⟩
abbrev S384x768 : Shape := ⟨2, ![384, 768]⟩
abbrev S384 : Shape := ⟨1, ![384]⟩
abbrev S384x384 : Shape := ⟨2, ![384, 384]⟩
abbrev S4224x8x64 : Shape := ⟨3, ![4224, 8, 64]⟩
abbrev S4224x8 : Shape := ⟨2, ![4224, 8]⟩
abbrev S768x384 : Shape := ⟨2, ![768, 384]⟩
abbrev S768x1 : Shape := ⟨2, ![768, 1]⟩

abbrev nBuf : Space → Nat
  | .hbm => 73
  | .vmem => 30
  | .smem => 0
  | _ => 0

abbrev bufTy : (tb : Table) → Fin (tcTables nBuf tb) → BufTy
  | .hbm, ⟨0, _⟩ => ⟨S4112x8x64, .f32⟩
  | .hbm, ⟨1, _⟩ => ⟨S4112x8x32, .f32⟩
  | .hbm, ⟨2, _⟩ => ⟨S4112x8x64, .f32⟩
  | .hbm, ⟨3, _⟩ => ⟨S4112x32, .f32⟩
  | .hbm, ⟨4, _⟩ => ⟨S4112x8x64, .f32⟩
  | .hbm, ⟨5, _⟩ => ⟨S4112x8x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4112x8x64, .f32⟩
  | .hbm, ⟨11, _⟩ => ⟨S4112x8x64, .f32⟩
  | .hbm, ⟨12, _⟩ => ⟨S4112x8x32, .f32⟩
  | .hbm, ⟨13, _⟩ => ⟨S4112x8x32, .f32⟩
  | .hbm, ⟨14, _⟩ => ⟨S_, .f32⟩
  | .hbm, ⟨15, _⟩ => ⟨S4112x8x32, .f32⟩
  | .hbm, ⟨16, _⟩ => ⟨S4112x8x128, .f32⟩
  | .hbm, ⟨17, _⟩ => ⟨S4112x1024, .f32⟩
  | .hbm, ⟨18, _⟩ => ⟨S_, .i32⟩
  | .hbm, ⟨19, _⟩ => ⟨S_, .f32⟩
  | .hbm, ⟨20, _⟩ => ⟨S4224x1024, .f32⟩
  | .hbm, ⟨21, _⟩ => ⟨S4224x1024, .bf16⟩
  | .hbm, ⟨22, _⟩ => ⟨S4112x1x32, .f32⟩
  | .hbm, ⟨23, _⟩ => ⟨S4112x8x32, .f32⟩
  | .hbm, ⟨24, _⟩ => ⟨S_, .f32⟩
  | .hbm, ⟨25, _⟩ => ⟨S4112x8x32, .f32⟩
  | .hbm, ⟨26, _⟩ => ⟨S4112x8x128, .f32⟩
  | .hbm, ⟨27, _⟩ => ⟨S4112x1024, .f32⟩
  | .hbm, ⟨28, _⟩ => ⟨S_, .i32⟩
  | .hbm, ⟨29, _⟩ => ⟨S_, .f32⟩
  | .hbm, ⟨30, _⟩ => ⟨S4224x1024, .f32⟩
  | .hbm, ⟨31, _⟩ => ⟨S4224x1024, .bf16⟩
  | .hbm, ⟨32, _⟩ => ⟨S4112x512, .f32⟩
  | .hbm, ⟨33, _⟩ => ⟨S_, .i32⟩
  | .hbm, ⟨34, _⟩ => ⟨S_, .f32⟩
  | .hbm, ⟨35, _⟩ => ⟨S4224x512, .f32⟩
  | .hbm, ⟨36, _⟩ => ⟨S4224x512, .bf16⟩
  | .hbm, ⟨37, _⟩ => ⟨S_, .bf16⟩
  | .hbm, ⟨38, _⟩ => ⟨S4224x1024, .bf16⟩
  | .hbm, ⟨39, _⟩ => ⟨S4224x512, .f32⟩
  | .hbm, ⟨40, _⟩ => ⟨S4224x512, .f32⟩
  | .hbm, ⟨41, _⟩ => ⟨S4224x1024, .bf16⟩
  | .hbm, ⟨42, _⟩ => ⟨S4112x512, .f32⟩
  | .hbm, ⟨43, _⟩ => ⟨S_, .i32⟩
  | .hbm, ⟨44, _⟩ => ⟨S_, .f32⟩
  | .hbm, ⟨45, _⟩ => ⟨S4224x512, .f32⟩
  | .hbm, ⟨46, _⟩ => ⟨S4224x512, .f32⟩
  | .hbm, ⟨47, _⟩ => ⟨S4224x8x64, .f32⟩
  | .hbm, ⟨48, _⟩ => ⟨S_, .f32⟩
  | .hbm, ⟨49, _⟩ => ⟨S4224x8, .f32⟩
  | .hbm, ⟨50, _⟩ => ⟨S4224x8x64, .f32⟩
  | .hbm, ⟨51, _⟩ => ⟨S4224x512, .f32⟩
  | .hbm, ⟨52, _⟩ => ⟨S4224x1024, .f32⟩
  | .hbm, ⟨53, _⟩ => ⟨S4224x1024, .f32⟩
  | .hbm, ⟨54, _⟩ => ⟨S4224x512, .f32⟩
  | .hbm, ⟨55, _⟩ => ⟨S4112x1024, .f32⟩
  | .hbm, ⟨56, _⟩ => ⟨S4112x8x128, .f32⟩
  | .hbm, ⟨57, _⟩ => ⟨S4112x8x64, .f32⟩
  | .hbm, ⟨58, _⟩ => ⟨S4112x8x32, .f32⟩
  | .hbm, ⟨59, _⟩ => ⟨S4112x1024, .f32⟩
  | .hbm, ⟨60, _⟩ => ⟨S4112x8x128, .f32⟩
  | .hbm, ⟨61, _⟩ => ⟨S4112x8x64, .f32⟩
  | .hbm, ⟨62, _⟩ => ⟨S4112x8x32, .f32⟩
  | .hbm, ⟨63, _⟩ => ⟨S4112x512, .f32⟩
  | .hbm, ⟨64, _⟩ => ⟨S4112x8x64, .f32⟩
  | .hbm, ⟨65, _⟩ => ⟨S4112x8x64, .f32⟩
  | .hbm, ⟨66, _⟩ => ⟨S4112x8x64, .f32⟩
  | .hbm, ⟨67, _⟩ => ⟨S4112x8x32, .f32⟩
  | .hbm, ⟨68, _⟩ => ⟨S4112x8x32, .f32⟩
  | .hbm, ⟨69, _⟩ => ⟨S_, .f32⟩
  | .hbm, ⟨70, _⟩ => ⟨S4112x32, .f32⟩
  | .hbm, ⟨71, _⟩ => ⟨S4112x512, .f32⟩
  | .hbm, ⟨72, _⟩ => ⟨S4112x8x64, .f32⟩
  | .local _ .vmem, ⟨0, _⟩ => ⟨S384x256, .bf16⟩
  | .local _ .vmem, ⟨1, _⟩ => ⟨S384x256, .bf16⟩
  | .local _ .vmem, ⟨2, _⟩ => ⟨S4224x256, .bf16⟩
  | .local _ .vmem, ⟨3, _⟩ => ⟨S4224x256, .bf16⟩
  | .local _ .vmem, ⟨4, _⟩ => ⟨S4224x128, .bf16⟩
  | .local _ .vmem, ⟨5, _⟩ => ⟨S4224x128, .bf16⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x128, .bf16⟩
  | .local _ .vmem, ⟨11, _⟩ => ⟨S384x128, .bf16⟩
  | .local _ .vmem, ⟨12, _⟩ => ⟨S4224x256, .bf16⟩
  | .local _ .vmem, ⟨13, _⟩ => ⟨S4224x256, .bf16⟩
  | .local _ .vmem, ⟨14, _⟩ => ⟨S384x256, .bf16⟩
  | .local _ .vmem, ⟨15, _⟩ => ⟨S384x256, .bf16⟩
  | .local _ .vmem, ⟨16, _⟩ => ⟨S384x128, .bf16⟩
  | .local _ .vmem, ⟨17, _⟩ => ⟨S384x128, .bf16⟩
  | .local _ .vmem, ⟨18, _⟩ => ⟨S4224x128, .f32⟩
  | .local _ .vmem, ⟨19, _⟩ => ⟨S4224x128, .f32⟩
  | .local _ .vmem, ⟨20, _⟩ => ⟨S4224x128, .f32⟩
  | .local _ .vmem, ⟨21, _⟩ => ⟨S4224x128, .f32⟩
  | .local _ .vmem, ⟨22, _⟩ => ⟨S4224x128, .f32⟩
  | .local _ .vmem, ⟨23, _⟩ => ⟨S4224x128, .f32⟩
  | .local _ .vmem, ⟨24, _⟩ => ⟨S4224x256, .f32⟩
  | .local _ .vmem, ⟨25, _⟩ => ⟨S4224x256, .f32⟩
  | .local _ .vmem, ⟨26, _⟩ => ⟨S384x256, .f32⟩
  | .local _ .vmem, ⟨27, _⟩ => ⟨S384x256, .f32⟩
  | .local _ .vmem, ⟨28, _⟩ => ⟨S384x128, .f32⟩
  | .local _ .vmem, ⟨29, _⟩ => ⟨S384x128, .f32⟩
  | _, _ => ⟨S4112x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_call2_v0 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_v23 : Ref sig .tc := ⟨.hbm, 42, rfl⟩
abbrev main_c_6 : Ref sig .tc := ⟨.hbm, 43, rfl⟩
abbrev main_call3_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v30_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨2, ![4, 11], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v6 : BitVec 32 := Scalar.shrsi arg1 c1_i32
  let v7 : BitVec 32 := Scalar.subi v6 c0_i32
  let c1_i32_2 : BitVec 32 := 1#32
  let v9 : BitVec 32 := Scalar.divsi v7 c1_i32_2
  let v10 : BitVec 32 := Scalar.muli v9 c1_i32_2
  let v11 : BitVec 32 := Scalar.addi c0_i32 v10
  let c1_i32_3 : BitVec 32 := 1#32
  ⟨c0_i32, v11, c1_i32_3⟩
def k0_mult1 (i : grid0.Coords) (k0_t1 : Fin (k0_t1_loop i).trips) : BitVec 32 :=
  let c0_i32 : BitVec 32 := 0#32
  let c1_i32_3 : BitVec 32 := 1#32
  let arg9 : BitVec 32 := Scf.iv c0_i32 c1_i32_3 k0_t1
  let c768_i32 : BitVec 32 := 768#32
  let v105 : BitVec 32 := Scalar.muli arg9 c768_i32
  v105
def k0_off1 (i : grid0.Coords) (k0_t1 : Fin (k0_t1_loop i).trips) : Fin 2 → Nat :=
  let c0_i32 : BitVec 32 := 0#32
  let c1_i32_3 : BitVec 32 := 1#32
  let arg9 : BitVec 32 := Scf.iv c0_i32 c1_i32_3 k0_t1
  let c768_i32 : BitVec 32 := 768#32
  let v105 : BitVec 32 := Scalar.muli arg9 c768_i32
  let v106 : BitVec 32 := v105
  let v107 : Index := Scalar.indexCast v106
  let c0_31 : Index := 0#32
  ![v107.toNat, 0]
def k0_off2 (i : grid0.Coords) (k0_t1 : Fin (k0_t1_loop i).trips) : Fin 2 → Nat :=
  let c0_i32 : BitVec 32 := 0#32
  let c1_i32_3 : BitVec 32 := 1#32
  let arg9 : BitVec 32 := Scf.iv c0_i32 c1_i32_3 k0_t1
  let c768_i32 : BitVec 32 := 768#32
  let v105 : BitVec 32 := Scalar.muli arg9 c768_i32
  let v106 : BitVec 32 := v105
  let v112 : Index := Scalar.indexCast v106
  let c0_34 : Index := 0#32
  ![v112.toNat, 0]
def k0_off3 (i : grid0.Coords) (k0_t1 : Fin (k0_t1_loop i).trips) : Fin 2 → Nat :=
  let c0_i32 : BitVec 32 := 0#32
  let c1_i32_3 : BitVec 32 := 1#32
  let arg9 : BitVec 32 := Scf.iv c0_i32 c1_i32_3 k0_t1
  let c768_i32 : BitVec 32 := 768#32
  let v105 : BitVec 32 := Scalar.muli arg9 c768_i32
  let v106 : BitVec 32 := v105
  let v135 : Index := Scalar.indexCast v106
  let c128_41 : Index := 128#32
  ![v135.toNat, 128]
@[reducible] def k0_t2_loop (i : grid0.Coords) : Scf.Loop 32 :=
  let c0_i32 : BitVec 32 := 0#32
  let arg1 : BitVec 32 := BitVec.ofNat 32 (i 1).val
  let c1_i32 : BitVec 32 := 1#32
  let v6 : BitVec 32 := Scalar.shrsi arg1 c1_i32
  let v7 : BitVec 32 := Scalar.subi v6 c0_i32
  let c1_i32_2 : BitVec 32 := 1#32
  let v9 : BitVec 32 := Scalar.divsi v7 c1_i32_2
  let v10 : BitVec 32 := Scalar.muli v9 c1_i32_2
  let v11 : BitVec 32 := Scalar.addi c0_i32 v10
  let v8 : BitVec 32 := Scalar.addi c0_i32 v7
  let c1_i32_4 : BitVec 32 := 1#32
  ⟨v11, v8, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v6 : BitVec 32 := Scalar.shrsi arg1 c1_i32
  let v7 : BitVec 32 := Scalar.subi v6 c0_i32
  let c1_i32_2 : BitVec 32 := 1#32
  let v9 : BitVec 32 := Scalar.divsi v7 c1_i32_2
  let v10 : BitVec 32 := Scalar.muli v9 c1_i32_2
  let v11 : BitVec 32 := Scalar.addi c0_i32 v10
  let c1_i32_4 : BitVec 32 := 1#32
  let arg9 : BitVec 32 := Scf.iv v11 c1_i32_4 k0_t2
  let c768_i32 : BitVec 32 := 768#32
  let v105 : BitVec 32 := Scalar.muli arg9 c768_i32
  v105
def k0_off4 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v6 : BitVec 32 := Scalar.shrsi arg1 c1_i32
  let v7 : BitVec 32 := Scalar.subi v6 c0_i32
  let c1_i32_2 : BitVec 32 := 1#32
  let v9 : BitVec 32 := Scalar.divsi v7 c1_i32_2
  let v10 : BitVec 32 := Scalar.muli v9 c1_i32_2
  let v11 : BitVec 32 := Scalar.addi c0_i32 v10
  let c1_i32_4 : BitVec 32 := 1#32
  let arg9 : BitVec 32 := Scf.iv v11 c1_i32_4 k0_t2
  let c768_i32 : BitVec 32 := 768#32
  let v105 : BitVec 32 := Scalar.muli arg9 c768_i32
  let v106 : BitVec 32 := v105
  let v107 : Index := Scalar.indexCast v106
  let c0_31 : Index := 0#32
  ![v107.toNat, 0]
def k0_off5 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v6 : BitVec 32 := Scalar.shrsi arg1 c1_i32
  let v7 : BitVec 32 := Scalar.subi v6 c0_i32
  let c1_i32_2 : BitVec 32 := 1#32
  let v9 : BitVec 32 := Scalar.divsi v7 c1_i32_2
  let v10 : BitVec 32 := Scalar.muli v9 c1_i32_2
  let v11 : BitVec 32 := Scalar.addi c0_i32 v10
  let c1_i32_4 : BitVec 32 := 1#32
  let arg9 : BitVec 32 := Scf.iv v11 c1_i32_4 k0_t2
  let c768_i32 : BitVec 32 := 768#32
  let v105 : BitVec 32 := Scalar.muli arg9 c768_i32
  let v106 : BitVec 32 := v105
  let v112 : Index := Scalar.indexCast v106
  let c0_34 : Index := 0#32
  ![v112.toNat, 0]
def k0_off6 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v6 : BitVec 32 := Scalar.shrsi arg1 c1_i32
  let v7 : BitVec 32 := Scalar.subi v6 c0_i32
  let c1_i32_2 : BitVec 32 := 1#32
  let v9 : BitVec 32 := Scalar.divsi v7 c1_i32_2
  let v10 : BitVec 32 := Scalar.muli v9 c1_i32_2
  let v11 : BitVec 32 := Scalar.addi c0_i32 v10
  let c1_i32_4 : BitVec 32 := 1#32
  let arg9 : BitVec 32 := Scf.iv v11 c1_i32_4 k0_t2
  let c768_i32 : BitVec 32 := 768#32
  let v105 : BitVec 32 := Scalar.muli arg9 c768_i32
  let v106 : BitVec 32 := v105
  let v135 : Index := Scalar.indexCast v106
  let c128_41 : Index := 128#32
  ![v135.toNat, 128]
@[reducible] def k0_t3_loop (i : grid0.Coords) : Scf.Loop 32 :=
  let c2_i32 : BitVec 32 := 2#32
  let arg1 : BitVec 32 := BitVec.ofNat 32 (i 1).val
  let c1_i32 : BitVec 32 := 1#32
  let v6 : BitVec 32 := Scalar.shrsi arg1 c1_i32
  let v14 : BitVec 32 := Scalar.muli c2_i32 v6
  let v15 : BitVec 32 := Scalar.subi arg1 v14
  let c1_i32_5 : BitVec 32 := 1#32
  let v17 : BitVec 32 := Scalar.divsi v15 c1_i32_5
  let v18 : BitVec 32 := Scalar.muli v17 c1_i32_5
  let v19 : BitVec 32 := Scalar.addi v14 v18
  let c1_i32_6 : BitVec 32 := 1#32
  ⟨v14, v19, c1_i32_6⟩
def k0_mult3 (i : grid0.Coords) (k0_t3 : Fin (k0_t3_loop i).trips) : BitVec 32 :=
  let c2_i32 : BitVec 32 := 2#32
  let arg1 : BitVec 32 := BitVec.ofNat 32 (i 1).val
  let c1_i32 : BitVec 32 := 1#32
  let v6 : BitVec 32 := Scalar.shrsi arg1 c1_i32
  let v14 : BitVec 32 := Scalar.muli c2_i32 v6
  let c1_i32_6 : BitVec 32 := 1#32
  let arg9 : BitVec 32 := Scf.iv v14 c1_i32_6 k0_t3
  let c384_i32_31 : BitVec 32 := 384#32
  let v105 : BitVec 32 := Scalar.muli arg9 c384_i32_31
  v105
def k0_off7 (i : grid0.Coords) (k0_t3 : Fin (k0_t3_loop i).trips) : Fin 2 → Nat :=
  let c2_i32 : BitVec 32 := 2#32
  let arg1 : BitVec 32 := BitVec.ofNat 32 (i 1).val
  let c1_i32 : BitVec 32 := 1#32
  let v6 : BitVec 32 := Scalar.shrsi arg1 c1_i32
  let v14 : BitVec 32 := Scalar.muli c2_i32 v6
  let c1_i32_6 : BitVec 32 := 1#32
  let arg9 : BitVec 32 := Scf.iv v14 c1_i32_6 k0_t3
  let c384_i32_31 : BitVec 32 := 384#32
  let v105 : BitVec 32 := Scalar.muli arg9 c384_i32_31
  let v106 : BitVec 32 := v105
  let v107 : Index := Scalar.indexCast v106
  let c0_32 : Index := 0#32
  ![v107.toNat, 0]
def k0_off8 (i : grid0.Coords) (k0_t3 : Fin (k0_t3_loop i).trips) : Fin 2 → Nat :=
  let c2_i32 : BitVec 32 := 2#32
  let arg1 : BitVec 32 := BitVec.ofNat 32 (i 1).val
  let c1_i32 : BitVec 32 := 1#32
  let v6 : BitVec 32 := Scalar.shrsi arg1 c1_i32
  let v14 : BitVec 32 := Scalar.muli c2_i32 v6
  let c1_i32_6 : BitVec 32 := 1#32
  let arg9 : BitVec 32 := Scf.iv v14 c1_i32_6 k0_t3
  let c384_i32_31 : BitVec 32 := 384#32
  let v105 : BitVec 32 := Scalar.muli arg9 c384_i32_31
  let v106 : BitVec 32 := v105
  let v112 : Index := Scalar.indexCast v106
  let c0_35 : Index := 0#32
  ![v112.toNat, 0]
def k0_off9 (i : grid0.Coords) (k0_t3 : Fin (k0_t3_loop i).trips) : Fin 2 → Nat :=
  let c2_i32 : BitVec 32 := 2#32
  let arg1 : BitVec 32 := BitVec.ofNat 32 (i 1).val
  let c1_i32 : BitVec 32 := 1#32
  let v6 : BitVec 32 := Scalar.shrsi arg1 c1_i32
  let v14 : BitVec 32 := Scalar.muli c2_i32 v6
  let c1_i32_6 : BitVec 32 := 1#32
  let arg9 : BitVec 32 := Scf.iv v14 c1_i32_6 k0_t3
  let c384_i32_31 : BitVec 32 := 384#32
  let v105 : BitVec 32 := Scalar.muli arg9 c384_i32_31
  let v106 : BitVec 32 := v105
  let v135 : Index := Scalar.indexCast v106
  let c128_42 : Index := 128#32
  ![v135.toNat, 128]
@[reducible] def k0_t4_loop (i : grid0.Coords) : Scf.Loop 32 :=
  let c2_i32 : BitVec 32 := 2#32
  let arg1 : BitVec 32 := BitVec.ofNat 32 (i 1).val
  let c1_i32 : BitVec 32 := 1#32
  let v6 : BitVec 32 := Scalar.shrsi arg1 c1_i32
  let v14 : BitVec 32 := Scalar.muli c2_i32 v6
  let v15 : BitVec 32 := Scalar.subi arg1 v14
  let c1_i32_5 : BitVec 32 := 1#32
  let v17 : BitVec 32 := Scalar.divsi v15 c1_i32_5
  let v18 : BitVec 32 := Scalar.muli v17 c1_i32_5
  let v19 : BitVec 32 := Scalar.addi v14 v18
  let v16 : BitVec 32 := Scalar.addi v14 v15
  let c1_i32_7 : BitVec 32 := 1#32
  ⟨v19, v16, c1_i32_7⟩
def k0_mult4 (i : grid0.Coords) (k0_t4 : Fin (k0_t4_loop i).trips) : BitVec 32 :=
  let c2_i32 : BitVec 32 := 2#32
  let arg1 : BitVec 32 := BitVec.ofNat 32 (i 1).val
  let c1_i32 : BitVec 32 := 1#32
  let v6 : BitVec 32 := Scalar.shrsi arg1 c1_i32
  let v14 : BitVec 32 := Scalar.muli c2_i32 v6
  let v15 : BitVec 32 := Scalar.subi arg1 v14
  let c1_i32_5 : BitVec 32 := 1#32
  let v17 : BitVec 32 := Scalar.divsi v15 c1_i32_5
  let v18 : BitVec 32 := Scalar.muli v17 c1_i32_5
  let v19 : BitVec 32 := Scalar.addi v14 v18
  let c1_i32_7 : BitVec 32 := 1#32
  let arg9 : BitVec 32 := Scf.iv v19 c1_i32_7 k0_t4
  let c384_i32_31 : BitVec 32 := 384#32
  let v105 : BitVec 32 := Scalar.muli arg9 c384_i32_31
  v105
def k0_off10 (i : grid0.Coords) (k0_t4 : Fin (k0_t4_loop i).trips) : Fin 2 → Nat :=
  let c2_i32 : BitVec 32 := 2#32
  let arg1 : BitVec 32 := BitVec.ofNat 32 (i 1).val
  let c1_i32 : BitVec 32 := 1#32
  let v6 : BitVec 32 := Scalar.shrsi arg1 c1_i32
  let v14 : BitVec 32 := Scalar.muli c2_i32 v6
  let v15 : BitVec 32 := Scalar.subi arg1 v14
  let c1_i32_5 : BitVec 32 := 1#32
  let v17 : BitVec 32 := Scalar.divsi v15 c1_i32_5
  let v18 : BitVec 32 := Scalar.muli v17 c1_i32_5
  let v19 : BitVec 32 := Scalar.addi v14 v18
  let c1_i32_7 : BitVec 32 := 1#32
  let arg9 : BitVec 32 := Scf.iv v19 c1_i32_7 k0_t4
  let c384_i32_31 : BitVec 32 := 384#32
  let v105 : BitVec 32 := Scalar.muli arg9 c384_i32_31
  let v106 : BitVec 32 := v105
  let v107 : Index := Scalar.indexCast v106
  let c0_32 : Index := 0#32
  ![v107.toNat, 0]
def k0_off11 (i : grid0.Coords) (k0_t4 : Fin (k0_t4_loop i).trips) : Fin 2 → Nat :=
  let c2_i32 : BitVec 32 := 2#32
  let arg1 : BitVec 32 := BitVec.ofNat 32 (i 1).val
  let c1_i32 : BitVec 32 := 1#32
  let v6 : BitVec 32 := Scalar.shrsi arg1 c1_i32
  let v14 : BitVec 32 := Scalar.muli c2_i32 v6
  let v15 : BitVec 32 := Scalar.subi arg1 v14
  let c1_i32_5 : BitVec 32 := 1#32
  let v17 : BitVec 32 := Scalar.divsi v15 c1_i32_5
  let v18 : BitVec 32 := Scalar.muli v17 c1_i32_5
  let v19 : BitVec 32 := Scalar.addi v14 v18
  let c1_i32_7 : BitVec 32 := 1#32
  let arg9 : BitVec 32 := Scf.iv v19 c1_i32_7 k0_t4
  let c384_i32_31 : BitVec 32 := 384#32
  let v105 : BitVec 32 := Scalar.muli arg9 c384_i32_31
  let v106 : BitVec 32 := v105
  let v112 : Index := Scalar.indexCast v106
  let c0_35 : Index := 0#32
  ![v112.toNat, 0]
def k0_off12 (i : grid0.Coords) (k0_t4 : Fin (k0_t4_loop i).trips) : Fin 2 → Nat :=
  let c2_i32 : BitVec 32 := 2#32
  let arg1 : BitVec 32 := BitVec.ofNat 32 (i 1).val
  let c1_i32 : BitVec 32 := 1#32
  let v6 : BitVec 32 := Scalar.shrsi arg1 c1_i32
  let v14 : BitVec 32 := Scalar.muli c2_i32 v6
  let v15 : BitVec 32 := Scalar.subi arg1 v14
  let c1_i32_5 : BitVec 32 := 1#32
  let v17 : BitVec 32 := Scalar.divsi v15 c1_i32_5
  let v18 : BitVec 32 := Scalar.muli v17 c1_i32_5
  let v19 : BitVec 32 := Scalar.addi v14 v18
  let c1_i32_7 : BitVec 32 := 1#32
  let arg9 : BitVec 32 := Scf.iv v19 c1_i32_7 k0_t4
  let c384_i32_31 : BitVec 32 := 384#32
  let v105 : BitVec 32 := Scalar.muli arg9 c384_i32_31
  let v106 : BitVec 32 := v105
  let v135 : Index := Scalar.indexCast v106
  let c128_42 : Index := 128#32
  ![v135.toNat, 128]
def k0_mult5 (i : grid0.Coords) : BitVec 32 :=
  let arg1 : BitVec 32 := BitVec.ofNat 32 (i 1).val
  let c384_i32 : BitVec 32 := 384#32
  let v22 : BitVec 32 := Scalar.muli arg1 c384_i32
  v22
def k0_off13 (i : grid0.Coords) : Fin 2 → Nat :=
  let arg1 : BitVec 32 := BitVec.ofNat 32 (i 1).val
  let c384_i32 : BitVec 32 := 384#32
  let v22 : BitVec 32 := Scalar.muli arg1 c384_i32
  let v23 : BitVec 32 := v22
  let v24 : Index := Scalar.indexCast v23
  let c0 : Index := 0#32
  ![v24.toNat, 0]
def k0_off14 (i : grid0.Coords) : Fin 2 → Nat :=
  let arg1 : BitVec 32 := BitVec.ofNat 32 (i 1).val
  let c384_i32 : BitVec 32 := 384#32
  let v22 : BitVec 32 := Scalar.muli arg1 c384_i32
  let v23 : BitVec 32 := v22
  let v29 : Index := Scalar.indexCast v23
  let c0_10 : Index := 0#32
  ![v29.toNat, 0]
def k0_off15 (i : grid0.Coords) : Fin 2 → Nat :=
  let arg1 : BitVec 32 := BitVec.ofNat 32 (i 1).val
  let c384_i32 : BitVec 32 := 384#32
  let v22 : BitVec 32 := Scalar.muli arg1 c384_i32
  let v23 : BitVec 32 := v22
  let v57 : Index := Scalar.indexCast v23
  let c128_17 : Index := 128#32
  ![v57.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

abbrev stage0_0 : Fin 2 → Memref sig .tc .vmem S384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 11], ![false, false]⟩

def k1_cond2 (i : grid1.Coords) : BitVec 1 :=
  let arg1 : BitVec 32 := BitVec.ofNat 32 (i 1).val
  let c10_i32 : BitVec 32 := 10#32
  let v7 : BitVec 1 := Scalar.cmpi .slt arg1 c10_i32
  let v8 : BitVec 32 := Scalar.extui v7
  let c0_i32_5 : BitVec 32 := 0#32
  let v9 : BitVec 1 := Scalar.cmpi .ne v8 c0_i32_5
  v9

def k1_mult1 (i : grid1.Coords) : BitVec 32 :=
  let arg1 : BitVec 32 := BitVec.ofNat 32 (i 1).val
  let c0_i32_15 : BitVec 32 := 0#32
  let v21 : BitVec 32 := Scalar.addi arg1 c0_i32_15
  let c384_i32 : BitVec 32 := 384#32
  let v22 : BitVec 32 := Scalar.muli v21 c384_i32
  v22
def k1_off1 (i : grid1.Coords) : Fin 2 → Nat :=
  let arg1 : BitVec 32 := BitVec.ofNat 32 (i 1).val
  let c0_i32_15 : BitVec 32 := 0#32
  let v21 : BitVec 32 := Scalar.addi arg1 c0_i32_15
  let c384_i32 : BitVec 32 := 384#32
  let v22 : BitVec 32 := Scalar.muli v21 c384_i32
  let v23 : BitVec 32 := v22
  let v24 : Index := Scalar.indexCast v23
  let c0_16 : Index := 0#32
  ![v24.toNat, 0]
def k1_off2 (i : grid1.Coords) : Fin 2 → Nat :=
  let arg1 : BitVec 32 := BitVec.ofNat 32 (i 1).val
  let c0_i32_15 : BitVec 32 := 0#32
  let v21 : BitVec 32 := Scalar.addi arg1 c0_i32_15
  let c384_i32 : BitVec 32 := 384#32
  let v22 : BitVec 32 := Scalar.muli v21 c384_i32
  let v23 : BitVec 32 := v22
  let v32 : Index := Scalar.indexCast v23
  let c0_19 : Index := 0#32
  ![v32.toNat, 0]
def k1_off3 (i : grid1.Coords) : Fin 2 → Nat :=
  let arg1 : BitVec 32 := BitVec.ofNat 32 (i 1).val
  let c0_i32_15 : BitVec 32 := 0#32
  let v21 : BitVec 32 := Scalar.addi arg1 c0_i32_15
  let c384_i32 : BitVec 32 := 384#32
  let v22 : BitVec 32 := Scalar.muli v21 c384_i32
  let v23 : BitVec 32 := v22
  let v41 : Index := Scalar.indexCast v23
  let c0_24 : Index := 0#32
  ![v41.toNat, 0]
def k1_off4 (i : grid1.Coords) : Fin 2 → Nat :=
  let arg1 : BitVec 32 := BitVec.ofNat 32 (i 1).val
  let c0_i32_15 : BitVec 32 := 0#32
  let v21 : BitVec 32 := Scalar.addi arg1 c0_i32_15
  let c384_i32 : BitVec 32 := 384#32
  let v22 : BitVec 32 := Scalar.muli v21 c384_i32
  let v23 : BitVec 32 := v22
  let v74 : Index := Scalar.indexCast v23
  let c128 : Index := 128#32
  ![v74.toNat, 128]
def k1_off5 (i : grid1.Coords) : Fin 2 → Nat :=
  let arg1 : BitVec 32 := BitVec.ofNat 32 (i 1).val
  let c0_i32_15 : BitVec 32 := 0#32
  let v21 : BitVec 32 := Scalar.addi arg1 c0_i32_15
  let c384_i32 : BitVec 32 := 384#32
  let v22 : BitVec 32 := Scalar.muli v21 c384_i32
  let v23 : BitVec 32 := v22
  let v84 : Index := Scalar.indexCast v23
  let c64 : Index := 64#32
  ![v84.toNat, 64]
@[reducible] def k1_t1_loop (i : grid1.Coords) : Scf.Loop 32 :=
  let c0_i32_59 : BitVec 32 := 0#32
  let c9_i32 : BitVec 32 := 9#32
  let arg1 : BitVec 32 := BitVec.ofNat 32 (i 1).val
  let v122 : BitVec 32 := Scalar.subi c9_i32 arg1
  let c1_i32 : BitVec 32 := 1#32
  let v123 : BitVec 32 := Scalar.shrsi v122 c1_i32
  let v125 : BitVec 32 := Scalar.subi v123 c0_i32_59
  let c1_i32_60 : BitVec 32 := 1#32
  let v127 : BitVec 32 := Scalar.divsi v125 c1_i32_60
  let v128 : BitVec 32 := Scalar.muli v127 c1_i32_60
  let v129 : BitVec 32 := Scalar.addi c0_i32_59 v128
  let c1_i32_61 : BitVec 32 := 1#32
  ⟨c0_i32_59, v129, c1_i32_61⟩
def k1_mult2 (i : grid1.Coords) (k1_t1 : Fin (k1_t1_loop i).trips) : BitVec 32 :=
  let arg1 : BitVec 32 := BitVec.ofNat 32 (i 1).val
  let c2_i32 : BitVec 32 := 2#32
  let v124 : BitVec 32 := Scalar.addi arg1 c2_i32
  let c0_i32_59 : BitVec 32 := 0#32
  let c1_i32_61 : BitVec 32 := 1#32
  let arg11 : BitVec 32 := Scf.iv c0_i32_59 c1_i32_61 k1_t1
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  v140
def k1_off6 (i : grid1.Coords) (k1_t1 : Fin (k1_t1_loop i).trips) : Fin 2 → Nat :=
  let arg1 : BitVec 32 := BitVec.ofNat 32 (i 1).val
  let c2_i32 : BitVec 32 := 2#32
  let v124 : BitVec 32 := Scalar.addi arg1 c2_i32
  let c0_i32_59 : BitVec 32 := 0#32
  let c1_i32_61 : BitVec 32 := 1#32
  let arg11 : BitVec 32 := Scf.iv c0_i32_59 c1_i32_61 k1_t1
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  let v141 : BitVec 32 := v140
  let v142 : Index := Scalar.indexCast v141
  let c0_71 : Index := 0#32
  ![v142.toNat, 0]
def k1_off7 (i : grid1.Coords) (k1_t1 : Fin (k1_t1_loop i).trips) : Fin 2 → Nat :=
  let arg1 : BitVec 32 := BitVec.ofNat 32 (i 1).val
  let c2_i32 : BitVec 32 := 2#32
  let v124 : BitVec 32 := Scalar.addi arg1 c2_i32
  let c0_i32_59 : BitVec 32 := 0#32
  let c1_i32_61 : BitVec 32 := 1#32
  let arg11 : BitVec 32 := Scf.iv c0_i32_59 c1_i32_61 k1_t1
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  let v141 : BitVec 32 := v140
  let v150 : Index := Scalar.indexCast v141
  let c0_75 : Index := 0#32
  ![v150.toNat, 0]
def k1_off8 (i : grid1.Coords) (k1_t1 : Fin (k1_t1_loop i).trips) : Fin 2 → Nat :=
  let arg1 : BitVec 32 := BitVec.ofNat 32 (i 1).val
  let c2_i32 : BitVec 32 := 2#32
  let v124 : BitVec 32 := Scalar.addi arg1 c2_i32
  let c0_i32_59 : BitVec 32 := 0#32
  let c1_i32_61 : BitVec 32 := 1#32
  let arg11 : BitVec 32 := Scf.iv c0_i32_59 c1_i32_61 k1_t1
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  let v141 : BitVec 32 := v140
  let v159 : Index := Scalar.indexCast v141
  let c0_80 : Index := 0#32
  ![v159.toNat, 0]
def k1_off9 (i : grid1.Coords) (k1_t1 : Fin (k1_t1_loop i).trips) : Fin 2 → Nat :=
  let arg1 : BitVec 32 := BitVec.ofNat 32 (i 1).val
  let c2_i32 : BitVec 32 := 2#32
  let v124 : BitVec 32 := Scalar.addi arg1 c2_i32
  let c0_i32_59 : BitVec 32 := 0#32
  let c1_i32_61 : BitVec 32 := 1#32
  let arg11 : BitVec 32 := Scf.iv c0_i32_59 c1_i32_61 k1_t1
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  let v141 : BitVec 32 := v140
  let v187 : Index := Scalar.indexCast v141
  let c128_92 : Index := 128#32
  ![v187.toNat, 128]
def k1_off10 (i : grid1.Coords) (k1_t1 : Fin (k1_t1_loop i).trips) : Fin 2 → Nat :=
  let arg1 : BitVec 32 := BitVec.ofNat 32 (i 1).val
  let c2_i32 : BitVec 32 := 2#32
  let v124 : BitVec 32 := Scalar.addi arg1 c2_i32
  let c0_i32_59 : BitVec 32 := 0#32
  let c1_i32_61 : BitVec 32 := 1#32
  let arg11 : BitVec 32 := Scf.iv c0_i32_59 c1_i32_61 k1_t1
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  let v141 : BitVec 32 := v140
  let v197 : Index := Scalar.indexCast v141
  let c64_98 : Index := 64#32
  ![v197.toNat, 64]
@[reducible] def k1_t2_loop (i : grid1.Coords) : Scf.Loop 32 :=
  let c0_i32_59 : BitVec 32 := 0#32
  let c9_i32 : BitVec 32 := 9#32
  let arg1 : BitVec 32 := BitVec.ofNat 32 (i 1).val
  let v122 : BitVec 32 := Scalar.subi c9_i32 arg1
  let c1_i32 : BitVec 32 := 1#32
  let v123 : BitVec 32 := Scalar.shrsi v122 c1_i32
  let v125 : BitVec 32 := Scalar.subi v123 c0_i32_59
  let c1_i32_60 : BitVec 32 := 1#32
  let v127 : BitVec 32 := Scalar.divsi v125 c1_i32_60
  let v128 : BitVec 32 := Scalar.muli v127 c1_i32_60
  let v129 : BitVec 32 := Scalar.addi c0_i32_59 v128
  let v126 : BitVec 32 := Scalar.addi c0_i32_59 v125
  let c1_i32_62 : BitVec 32 := 1#32
  ⟨v129, v126, c1_i32_62⟩
def k1_mult3 (i : grid1.Coords) (k1_t2 : Fin (k1_t2_loop i).trips) : BitVec 32 :=
  let arg1 : BitVec 32 := BitVec.ofNat 32 (i 1).val
  let c2_i32 : BitVec 32 := 2#32
  let v124 : BitVec 32 := Scalar.addi arg1 c2_i32
  let c0_i32_59 : BitVec 32 := 0#32
  let c9_i32 : BitVec 32 := 9#32
  let v122 : BitVec 32 := Scalar.subi c9_i32 arg1
  let c1_i32 : BitVec 32 := 1#32
  let v123 : BitVec 32 := Scalar.shrsi v122 c1_i32
  let v125 : BitVec 32 := Scalar.subi v123 c0_i32_59
  let c1_i32_60 : BitVec 32 := 1#32
  let v127 : BitVec 32 := Scalar.divsi v125 c1_i32_60
  let v128 : BitVec 32 := Scalar.muli v127 c1_i32_60
  let v129 : BitVec 32 := Scalar.addi c0_i32_59 v128
  let c1_i32_62 : BitVec 32 := 1#32
  let arg11 : BitVec 32 := Scf.iv v129 c1_i32_62 k1_t2
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  v140
def k1_off11 (i : grid1.Coords) (k1_t2 : Fin (k1_t2_loop i).trips) : Fin 2 → Nat :=
  let arg1 : BitVec 32 := BitVec.ofNat 32 (i 1).val
  let c2_i32 : BitVec 32 := 2#32
  let v124 : BitVec 32 := Scalar.addi arg1 c2_i32
  let c0_i32_59 : BitVec 32 := 0#32
  let c9_i32 : BitVec 32 := 9#32
  let v122 : BitVec 32 := Scalar.subi c9_i32 arg1
  let c1_i32 : BitVec 32 := 1#32
  let v123 : BitVec 32 := Scalar.shrsi v122 c1_i32
  let v125 : BitVec 32 := Scalar.subi v123 c0_i32_59
  let c1_i32_60 : BitVec 32 := 1#32
  let v127 : BitVec 32 := Scalar.divsi v125 c1_i32_60
  let v128 : BitVec 32 := Scalar.muli v127 c1_i32_60
  let v129 : BitVec 32 := Scalar.addi c0_i32_59 v128
  let c1_i32_62 : BitVec 32 := 1#32
  let arg11 : BitVec 32 := Scf.iv v129 c1_i32_62 k1_t2
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  let v141 : BitVec 32 := v140
  let v142 : Index := Scalar.indexCast v141
  let c0_71 : Index := 0#32
  ![v142.toNat, 0]
def k1_off12 (i : grid1.Coords) (k1_t2 : Fin (k1_t2_loop i).trips) : Fin 2 → Nat :=
  let arg1 : BitVec 32 := BitVec.ofNat 32 (i 1).val
  let c2_i32 : BitVec 32 := 2#32
  let v124 : BitVec 32 := Scalar.addi arg1 c2_i32
  let c0_i32_59 : BitVec 32 := 0#32
  let c9_i32 : BitVec 32 := 9#32
  let v122 : BitVec 32 := Scalar.subi c9_i32 arg1
  let c1_i32 : BitVec 32 := 1#32
  let v123 : BitVec 32 := Scalar.shrsi v122 c1_i32
  let v125 : BitVec 32 := Scalar.subi v123 c0_i32_59
  let c1_i32_60 : BitVec 32 := 1#32
  let v127 : BitVec 32 := Scalar.divsi v125 c1_i32_60
  let v128 : BitVec 32 := Scalar.muli v127 c1_i32_60
  let v129 : BitVec 32 := Scalar.addi c0_i32_59 v128
  let c1_i32_62 : BitVec 32 := 1#32
  let arg11 : BitVec 32 := Scf.iv v129 c1_i32_62 k1_t2
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  let v141 : BitVec 32 := v140
  let v150 : Index := Scalar.indexCast v141
  let c0_75 : Index := 0#32
  ![v150.toNat, 0]
def k1_off13 (i : grid1.Coords) (k1_t2 : Fin (k1_t2_loop i).trips) : Fin 2 → Nat :=
  let arg1 : BitVec 32 := BitVec.ofNat 32 (i 1).val
  let c2_i32 : BitVec 32 := 2#32
  let v124 : BitVec 32 := Scalar.addi arg1 c2_i32
  let c0_i32_59 : BitVec 32 := 0#32
  let c9_i32 : BitVec 32 := 9#32
  let v122 : BitVec 32 := Scalar.subi c9_i32 arg1
  let c1_i32 : BitVec 32 := 1#32
  let v123 : BitVec 32 := Scalar.shrsi v122 c1_i32
  let v125 : BitVec 32 := Scalar.subi v123 c0_i32_59
  let c1_i32_60 : BitVec 32 := 1#32
  let v127 : BitVec 32 := Scalar.divsi v125 c1_i32_60
  let v128 : BitVec 32 := Scalar.muli v127 c1_i32_60
  let v129 : BitVec 32 := Scalar.addi c0_i32_59 v128
  let c1_i32_62 : BitVec 32 := 1#32
  let arg11 : BitVec 32 := Scf.iv v129 c1_i32_62 k1_t2
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  let v141 : BitVec 32 := v140
  let v159 : Index := Scalar.indexCast v141
  let c0_80 : Index := 0#32
  ![v159.toNat, 0]
def k1_off14 (i : grid1.Coords) (k1_t2 : Fin (k1_t2_loop i).trips) : Fin 2 → Nat :=
  let arg1 : BitVec 32 := BitVec.ofNat 32 (i 1).val
  let c2_i32 : BitVec 32 := 2#32
  let v124 : BitVec 32 := Scalar.addi arg1 c2_i32
  let c0_i32_59 : BitVec 32 := 0#32
  let c9_i32 : BitVec 32 := 9#32
  let v122 : BitVec 32 := Scalar.subi c9_i32 arg1
  let c1_i32 : BitVec 32 := 1#32
  let v123 : BitVec 32 := Scalar.shrsi v122 c1_i32
  let v125 : BitVec 32 := Scalar.subi v123 c0_i32_59
  let c1_i32_60 : BitVec 32 := 1#32
  let v127 : BitVec 32 := Scalar.divsi v125 c1_i32_60
  let v128 : BitVec 32 := Scalar.muli v127 c1_i32_60
  let v129 : BitVec 32 := Scalar.addi c0_i32_59 v128
  let c1_i32_62 : BitVec 32 := 1#32
  let arg11 : BitVec 32 := Scf.iv v129 c1_i32_62 k1_t2
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  let v141 : BitVec 32 := v140
  let v187 : Index := Scalar.indexCast v141
  let c128_92 : Index := 128#32
  ![v187.toNat, 128]
def k1_off15 (i : grid1.Coords) (k1_t2 : Fin (k1_t2_loop i).trips) : Fin 2 → Nat :=
  let arg1 : BitVec 32 := BitVec.ofNat 32 (i 1).val
  let c2_i32 : BitVec 32 := 2#32
  let v124 : BitVec 32 := Scalar.addi arg1 c2_i32
  let c0_i32_59 : BitVec 32 := 0#32
  let c9_i32 : BitVec 32 := 9#32
  let v122 : BitVec 32 := Scalar.subi c9_i32 arg1
  let c1_i32 : BitVec 32 := 1#32
  let v123 : BitVec 32 := Scalar.shrsi v122 c1_i32
  let v125 : BitVec 32 := Scalar.subi v123 c0_i32_59
  let c1_i32_60 : BitVec 32 := 1#32
  let v127 : BitVec 32 := Scalar.divsi v125 c1_i32_60
  let v128 : BitVec 32 := Scalar.muli v127 c1_i32_60
  let v129 : BitVec 32 := Scalar.addi c0_i32_59 v128
  let c1_i32_62 : BitVec 32 := 1#32
  let arg11 : BitVec 32 := Scf.iv v129 c1_i32_62 k1_t2
  let c2_i32_69 : BitVec 32 := 2#32
  let v138 : BitVec 32 := Scalar.muli arg11 c2_i32_69
  let v139 : BitVec 32 := Scalar.addi v124 v138
  let c384_i32_70 : BitVec 32 := 384#32
  let v140 : BitVec 32 := Scalar.muli v139 c384_i32_70
  let v141 : BitVec 32 := v140
  let v197 : Index := Scalar.indexCast v141
  let c64_98 : Index := 64#32
  ![v197.toNat, 64]
@[reducible] def k1_t3_loop (i : grid1.Coords) : Scf.Loop 32 :=
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c11_i32 : BitVec 32 := 11#32
  let v133 : BitVec 32 := Scalar.subi c11_i32 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_67 : BitVec 32 := 1#32
  ⟨v132, v137, c1_i32_67⟩
def k1_mult4 (i : grid1.Coords) (k1_t3 : Fin (k1_t3_loop i).trips) : BitVec 32 :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c1_i32_67 : BitVec 32 := 1#32
  let arg11 : BitVec 32 := Scf.iv v132 c1_i32_67 k1_t3
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  v140
def k1_off16 (i : grid1.Coords) (k1_t3 : Fin (k1_t3_loop i).trips) : Fin 2 → Nat :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c1_i32_67 : BitVec 32 := 1#32
  let arg11 : BitVec 32 := Scf.iv v132 c1_i32_67 k1_t3
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  let v141 : BitVec 32 := v140
  let v142 : Index := Scalar.indexCast v141
  let c0_72 : Index := 0#32
  ![v142.toNat, 0]
def k1_off17 (i : grid1.Coords) (k1_t3 : Fin (k1_t3_loop i).trips) : Fin 2 → Nat :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c1_i32_67 : BitVec 32 := 1#32
  let arg11 : BitVec 32 := Scf.iv v132 c1_i32_67 k1_t3
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  let v141 : BitVec 32 := v140
  let v150 : Index := Scalar.indexCast v141
  let c0_76 : Index := 0#32
  ![v150.toNat, 0]
def k1_off18 (i : grid1.Coords) (k1_t3 : Fin (k1_t3_loop i).trips) : Fin 2 → Nat :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c1_i32_67 : BitVec 32 := 1#32
  let arg11 : BitVec 32 := Scf.iv v132 c1_i32_67 k1_t3
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  let v141 : BitVec 32 := v140
  let v159 : Index := Scalar.indexCast v141
  let c0_81 : Index := 0#32
  ![v159.toNat, 0]
def k1_off19 (i : grid1.Coords) (k1_t3 : Fin (k1_t3_loop i).trips) : Fin 2 → Nat :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c1_i32_67 : BitVec 32 := 1#32
  let arg11 : BitVec 32 := Scf.iv v132 c1_i32_67 k1_t3
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  let v141 : BitVec 32 := v140
  let v187 : Index := Scalar.indexCast v141
  let c128_93 : Index := 128#32
  ![v187.toNat, 128]
def k1_off20 (i : grid1.Coords) (k1_t3 : Fin (k1_t3_loop i).trips) : Fin 2 → Nat :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c1_i32_67 : BitVec 32 := 1#32
  let arg11 : BitVec 32 := Scf.iv v132 c1_i32_67 k1_t3
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  let v141 : BitVec 32 := v140
  let v197 : Index := Scalar.indexCast v141
  let c64_99 : Index := 64#32
  ![v197.toNat, 64]
@[reducible] def k1_t4_loop (i : grid1.Coords) : Scf.Loop 32 :=
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c11_i32 : BitVec 32 := 11#32
  let v133 : BitVec 32 := Scalar.subi c11_i32 v132
  let c1_i32_66 : BitVec 32 := 1#32
  let v135 : BitVec 32 := Scalar.divsi v133 c1_i32_66
  let v136 : BitVec 32 := Scalar.muli v135 c1_i32_66
  let v137 : BitVec 32 := Scalar.addi v132 v136
  let v134 : BitVec 32 := Scalar.addi v132 v133
  let c1_i32_68 : BitVec 32 := 1#32
  ⟨v137, v134, c1_i32_68⟩
def k1_mult5 (i : grid1.Coords) (k1_t4 : Fin (k1_t4_loop i).trips) : BitVec 32 :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c11_i32 : BitVec 32 := 11#32
  let v133 : BitVec 32 := Scalar.subi c11_i32 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_68 : BitVec 32 := 1#32
  let arg11 : BitVec 32 := Scf.iv v137 c1_i32_68 k1_t4
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  v140
def k1_off21 (i : grid1.Coords) (k1_t4 : Fin (k1_t4_loop i).trips) : Fin 2 → Nat :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c11_i32 : BitVec 32 := 11#32
  let v133 : BitVec 32 := Scalar.subi c11_i32 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_68 : BitVec 32 := 1#32
  let arg11 : BitVec 32 := Scf.iv v137 c1_i32_68 k1_t4
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  let v141 : BitVec 32 := v140
  let v142 : Index := Scalar.indexCast v141
  let c0_72 : Index := 0#32
  ![v142.toNat, 0]
def k1_off22 (i : grid1.Coords) (k1_t4 : Fin (k1_t4_loop i).trips) : Fin 2 → Nat :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c11_i32 : BitVec 32 := 11#32
  let v133 : BitVec 32 := Scalar.subi c11_i32 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_68 : BitVec 32 := 1#32
  let arg11 : BitVec 32 := Scf.iv v137 c1_i32_68 k1_t4
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  let v141 : BitVec 32 := v140
  let v150 : Index := Scalar.indexCast v141
  let c0_76 : Index := 0#32
  ![v150.toNat, 0]
def k1_off23 (i : grid1.Coords) (k1_t4 : Fin (k1_t4_loop i).trips) : Fin 2 → Nat :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c11_i32 : BitVec 32 := 11#32
  let v133 : BitVec 32 := Scalar.subi c11_i32 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_68 : BitVec 32 := 1#32
  let arg11 : BitVec 32 := Scf.iv v137 c1_i32_68 k1_t4
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  let v141 : BitVec 32 := v140
  let v159 : Index := Scalar.indexCast v141
  let c0_81 : Index := 0#32
  ![v159.toNat, 0]
def k1_off24 (i : grid1.Coords) (k1_t4 : Fin (k1_t4_loop i).trips) : Fin 2 → Nat :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c11_i32 : BitVec 32 := 11#32
  let v133 : BitVec 32 := Scalar.subi c11_i32 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_68 : BitVec 32 := 1#32
  let arg11 : BitVec 32 := Scf.iv v137 c1_i32_68 k1_t4
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  let v141 : BitVec 32 := v140
  let v187 : Index := Scalar.indexCast v141
  let c128_93 : Index := 128#32
  ![v187.toNat, 128]
def k1_off25 (i : grid1.Coords) (k1_t4 : Fin (k1_t4_loop i).trips) : Fin 2 → Nat :=
  let c0_i32_70 : BitVec 32 := 0#32
  let arg1 : BitVec 32 := BitVec.ofNat 32 (i 1).val
  let c2_i32_63 : BitVec 32 := 2#32
  let v130 : BitVec 32 := Scalar.addi arg1 c2_i32_63
  let c2_i32_64 : BitVec 32 := 2#32
  let c9_i32 : BitVec 32 := 9#32
  let v122 : BitVec 32 := Scalar.subi c9_i32 arg1
  let c1_i32 : BitVec 32 := 1#32
  let v123 : BitVec 32 := Scalar.shrsi v122 c1_i32
  let v131 : BitVec 32 := Scalar.muli c2_i32_64 v123
  let v132 : BitVec 32 := Scalar.addi v130 v131
  let c11_i32 : BitVec 32 := 11#32
  let v133 : BitVec 32 := Scalar.subi c11_i32 v132
  let c1_i32_66 : BitVec 32 := 1#32
  let v135 : BitVec 32 := Scalar.divsi v133 c1_i32_66
  let v136 : BitVec 32 := Scalar.muli v135 c1_i32_66
  let v137 : BitVec 32 := Scalar.addi v132 v136
  let c1_i32_68 : BitVec 32 := 1#32
  let arg11 : BitVec 32 := Scf.iv v137 c1_i32_68 k1_t4
  let c1_i32_69 : BitVec 32 := 1#32
  let v138 : BitVec 32 := Scalar.muli arg11 c1_i32_69
  let v139 : BitVec 32 := Scalar.addi c0_i32_70 v138
  let c384_i32_71 : BitVec 32 := 384#32
  let v140 : BitVec 32 := Scalar.muli v139 c384_i32_71
  let v141 : BitVec 32 := v140
  let v197 : Index := Scalar.indexCast v141
  let c64_99 : Index := 64#32
  ![v197.toNat, 64]
def k1_cond3 (i : grid1.Coords) : BitVec 1 :=
  let arg1 : BitVec 32 := BitVec.ofNat 32 (i 1).val
  let c10_i32_6 : BitVec 32 := 10#32
  let v10 : BitVec 1 := Scalar.cmpi .eq arg1 c10_i32_6
  let v11 : BitVec 32 := Scalar.extui v10
  let c0_i32_7 : BitVec 32 := 0#32
  let v12 : BitVec 1 := Scalar.cmpi .ne v11 c0_i32_7
  v12

def k1_mult6 (i : grid1.Coords) : BitVec 32 :=
  let c0_i32_15 : BitVec 32 := 0#32
  let arg1 : BitVec 32 := BitVec.ofNat 32 (i 1).val
  let c1_i32 : BitVec 32 := 1#32
  let v21 : BitVec 32 := Scalar.muli arg1 c1_i32
  let v22 : BitVec 32 := Scalar.addi c0_i32_15 v21
  let c384_i32 : BitVec 32 := 384#32
  let v23 : BitVec 32 := Scalar.muli v22 c384_i32
  v23
def k1_off26 (i : grid1.Coords) : Fin 2 → Nat :=
  let c0_i32_15 : BitVec 32 := 0#32
  let arg1 : BitVec 32 := BitVec.ofNat 32 (i 1).val
  let c1_i32 : BitVec 32 := 1#32
  let v21 : BitVec 32 := Scalar.muli arg1 c1_i32
  let v22 : BitVec 32 := Scalar.addi c0_i32_15 v21
  let c384_i32 : BitVec 32 := 384#32
  let v23 : BitVec 32 := Scalar.muli v22 c384_i32
  let v24 : BitVec 32 := v23
  let v25 : Index := Scalar.indexCast v24
  let c0_16 : Index := 0#32
  ![v25.toNat, 0]
def k1_off27 (i : grid1.Coords) : Fin 2 → Nat :=
  let c0_i32_15 : BitVec 32 := 0#32
  let arg1 : BitVec 32 := BitVec.ofNat 32 (i 1).val
  let c1_i32 : BitVec 32 := 1#32
  let v21 : BitVec 32 := Scalar.muli arg1 c1_i32
  let v22 : BitVec 32 := Scalar.addi c0_i32_15 v21
  let c384_i32 : BitVec 32 := 384#32
  let v23 : BitVec 32 := Scalar.muli v22 c384_i32
  let v24 : BitVec 32 := v23
  let v33 : Index := Scalar.indexCast v24
  let c0_19 : Index := 0#32
  ![v33.toNat, 0]
def k1_off28 (i : grid1.Coords) : Fin 2 → Nat :=
  let c0_i32_15 : BitVec 32 := 0#32
  let arg1 : BitVec 32 := BitVec.ofNat 32 (i 1).val
  let c1_i32 : BitVec 32 := 1#32
  let v21 : BitVec 32 := Scalar.muli arg1 c1_i32
  let v22 : BitVec 32 := Scalar.addi c0_i32_15 v21
  let c384_i32 : BitVec 32 := 384#32
  let v23 : BitVec 32 := Scalar.muli v22 c384_i32
  let v24 : BitVec 32 := v23
  let v42 : Index := Scalar.indexCast v24
  let c0_24 : Index := 0#32
  ![v42.toNat, 0]
def k1_off29 (i : grid1.Coords) : Fin 2 → Nat :=
  let c0_i32_15 : BitVec 32 := 0#32
  let arg1 : BitVec 32 := BitVec.ofNat 32 (i 1).val
  let c1_i32 : BitVec 32 := 1#32
  let v21 : BitVec 32 := Scalar.muli arg1 c1_i32
  let v22 : BitVec 32 := Scalar.addi c0_i32_15 v21
  let c384_i32 : BitVec 32 := 384#32
  let v23 : BitVec 32 := Scalar.muli v22 c384_i32
  let v24 : BitVec 32 := v23
  let v75 : Index := Scalar.indexCast v24
  let c128 : Index := 128#32
  ![v75.toNat, 128]
def k1_off30 (i : grid1.Coords) : Fin 2 → Nat :=
  let c0_i32_15 : BitVec 32 := 0#32
  let arg1 : BitVec 32 := BitVec.ofNat 32 (i 1).val
  let c1_i32 : BitVec 32 := 1#32
  let v21 : BitVec 32 := Scalar.muli arg1 c1_i32
  let v22 : BitVec 32 := Scalar.addi c0_i32_15 v21
  let c384_i32 : BitVec 32 := 384#32
  let v23 : BitVec 32 := Scalar.muli v22 c384_i32
  let v24 : BitVec 32 := v23
  let v85 : Index := Scalar.indexCast v24
  let c64 : Index := 64#32
  ![v85.toNat, 64]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond4 (i : grid1.Coords) : BitVec 1 :=
  let arg1 : BitVec 32 := BitVec.ofNat 32 (i 1).val
  let c10_i32_13 : BitVec 32 := 10#32
  let v18 : BitVec 1 := Scalar.cmpi .eq arg1 c10_i32_13
  let v19 : BitVec 32 := Scalar.extui v18
  let c0_i32_14 : BitVec 32 := 0#32
  let v20 : BitVec 1 := Scalar.cmpi .ne v19 c0_i32_14
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S4224x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S384x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S384x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4224x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S4224x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S4224x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S4224x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S384x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S384x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== AttnIdeal.lean ====
variable {F : FTy → Type} [FloatOps F] [Named F]
def κ : String → Option EReal := fun
  | "ln_2" => some ((Real.log 2 : ℝ) : EReal)
  | "log2_e" => some (((Real.log 2)⁻¹ : ℝ) : EReal)
  | _ => none
-- ==== AttnRefIdeal.lean ====
abbrev S4112x8x64 : Shape := ⟨3, ![4112, 8, 64]⟩
abbrev S4112x8x32 : Shape := ⟨3, ![4112, 8, 32]⟩
abbrev S4112x32 : Shape := ⟨2, ![4112, 32]⟩
abbrev S8x4112x4112 : Shape := ⟨3, ![8, 4112, 4112]⟩
abbrev S4112x4112x8 : Shape := ⟨3, ![4112, 4112, 8]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S1x4112x4112 : Shape := ⟨3, ![1, 4112, 4112]⟩
abbrev S8x4112 : Shape := ⟨2, ![8, 4112]⟩
abbrev S8x4112x1 : Shape := ⟨3, ![8, 4112, 1]⟩
abbrev S8x64x4112 : Shape := ⟨3, ![8, 64, 4112]⟩
abbrev S8x4112x64 : Shape := ⟨3, ![8, 4112, 64]⟩

abbrev nBuf : Space → Nat
  | .hbm => 98
  | .vmem => 0
  | .smem => 0
  | _ => 0

abbrev bufTy : (tb : Table) → Fin (tcTables nBuf tb) → BufTy
  | .hbm, ⟨0, _⟩ => ⟨S4112x8x64, .f32⟩
  | .hbm, ⟨1, _⟩ => ⟨S4112x8x32, .f32⟩
  | .hbm, ⟨2, _⟩ => ⟨S4112x8x64, .f32⟩
  | .hbm, ⟨3, _⟩ => ⟨S4112x32, .f32⟩
  | .hbm, ⟨4, _⟩ => ⟨S4112x8x64, .f32⟩
  | .hbm, ⟨5, _⟩ => ⟨S4112x8x64, .f32⟩
  | .hbm, ⟨6, _⟩ => ⟨S8x4112x4112, .f32⟩
  | .hbm, ⟨7, _⟩ => ⟨S4112x4112x8, .f32⟩
  | .hbm, ⟨8, _⟩ => ⟨S8x4112x4112, .f32⟩
  | .hbm, ⟨9, _⟩ => ⟨S8x4112x4112, .f32⟩
  | .hbm, ⟨10, _⟩ => ⟨S_, .f32⟩
  | .hbm, ⟨11, _⟩ => ⟨S8x4112x4112, .f32⟩
  | .hbm, ⟨12, _⟩ => ⟨S8x4112x4112, .f32⟩
  | .hbm, ⟨13, _⟩ => ⟨S4112, .i32⟩
  | .hbm, ⟨14, _⟩ => ⟨S1x4112, .i32⟩
  | .hbm, ⟨15, _⟩ => ⟨S4112x1, .i32⟩
  | .hbm, ⟨16, _⟩ => ⟨S4112x4112, .i32⟩
  | .hbm, ⟨17, _⟩ => ⟨S4112x4112, .i32⟩
  | .hbm, ⟨18, _⟩ => ⟨S4112x4112, .i1⟩
  | .hbm, ⟨19, _⟩ => ⟨S1x4112x4112, .i1⟩
  | .hbm, ⟨20, _⟩ => ⟨S_, .f32⟩
  | .hbm, ⟨21, _⟩ => ⟨S_, .f32⟩
  | .hbm, ⟨22, _⟩ => ⟨S8x4112x4112, .i1⟩
  | .hbm, ⟨23, _⟩ => ⟨S8x4112x4112, .f32⟩
  | .hbm, ⟨24, _⟩ => ⟨S8x4112x4112, .f32⟩
  | .hbm, ⟨25, _⟩ => ⟨S_, .f32⟩
  | .hbm, ⟨26, _⟩ => ⟨S8x4112x4112, .f32⟩
  | .hbm, ⟨27, _⟩ => ⟨S_, .f32⟩
  | .hbm, ⟨28, _⟩ => ⟨S8x4112, .f32⟩
  | .hbm, ⟨29, _⟩ => ⟨S8x4112x1, .f32⟩
  | .hbm, ⟨30, _⟩ => ⟨S8x4112x4112, .f32⟩
  | .hbm, ⟨31, _⟩ => ⟨S8x4112x4112, .i1⟩
  | .hbm, ⟨32, _⟩ => ⟨S8x4112x4112, .f32⟩
  | .hbm, ⟨33, _⟩ => ⟨S_, .f32⟩
  | .hbm, ⟨34, _⟩ => ⟨S8x4112, .f32⟩
  | .hbm, ⟨35, _⟩ => ⟨S_, .f32⟩
  | .hbm, ⟨36, _⟩ => ⟨S8x4112, .f32⟩
  | .hbm, ⟨37, _⟩ => ⟨S8x4112, .f32⟩
  | .hbm, ⟨38, _⟩ => ⟨S_, .f32⟩
  | .hbm, ⟨39, _⟩ => ⟨S8x4112, .f32⟩
  | .hbm, ⟨40, _⟩ => ⟨S8x4112, .i1⟩
  | .hbm, ⟨41, _⟩ => ⟨S_, .f32⟩
  | .hbm, ⟨42, _⟩ => ⟨S8x4112, .f32⟩
  | .hbm, ⟨43, _⟩ => ⟨S8x4112, .i1⟩
  | .hbm, ⟨44, _⟩ => ⟨S_, .f32⟩
  | .hbm, ⟨45, _⟩ => ⟨S8x4112, .f32⟩
  | .hbm, ⟨46, _⟩ => ⟨S_, .f32⟩
  | .hbm, ⟨47, _⟩ => ⟨S8x4112, .f32⟩
  | .hbm, ⟨48, _⟩ => ⟨S_, .f32⟩
  | .hbm, ⟨49, _⟩ => ⟨S8x4112, .f32⟩
  | .hbm, ⟨50, _⟩ => ⟨S8x4112, .f32⟩
  | .hbm, ⟨51, _⟩ => ⟨S8x4112, .f32⟩
  | .hbm, ⟨52, _⟩ => ⟨S8x4112x1, .f32⟩
  | .hbm, ⟨53, _⟩ => ⟨S8x4112x4112, .f32⟩
  | .hbm, ⟨54, _⟩ => ⟨S8x4112x4112, .f32⟩
  | .hbm, ⟨55, _⟩ => ⟨S8x4112x4112, .f32⟩
  | .hbm, ⟨56, _⟩ => ⟨S_, .f32⟩
  | .hbm, ⟨57, _⟩ => ⟨S8x4112, .f32⟩
  | .hbm, ⟨58, _⟩ => ⟨S8x4112x1, .f32⟩
  | .hbm, ⟨59, _⟩ => ⟨S8x4112x4112, .f32⟩
  | .hbm, ⟨60, _⟩ => ⟨S8x4112x4112, .f32⟩
  | .hbm, ⟨61, _⟩ => ⟨S8x4112x1, .f32⟩
  | .hbm, ⟨62, _⟩ => ⟨S_, .f32⟩
  | .hbm, ⟨63, _⟩ => ⟨S8x4112x1, .f32⟩
  | .hbm, ⟨64, _⟩ => ⟨S8x4112x1, .f32⟩
  | .hbm, ⟨65, _⟩ => ⟨S8x64x4112, .f32⟩
  | .hbm, ⟨66, _⟩ => ⟨S4112x8x64, .f32⟩
  | .hbm, ⟨67, _⟩ => ⟨S8x64x4112, .f32⟩
  | .hbm, ⟨68, _⟩ => ⟨S8x4112x4112, .f32⟩
  | .hbm, ⟨69, _⟩ => ⟨S8x64x4112, .f32⟩
  | .hbm, ⟨70, _⟩ => ⟨S4112x8x64, .f32⟩
  | .hbm, ⟨71, _⟩ => ⟨S8x4112x4112, .f32⟩
  | .hbm, ⟨72, _⟩ => ⟨S8x4112x4112, .f32⟩
  | .hbm, ⟨73, _⟩ => ⟨S8x4112x4112, .f32⟩
  | .hbm, ⟨74, _⟩ => ⟨S_, .f32⟩
  | .hbm, ⟨75, _⟩ => ⟨S8x4112, .f32⟩
  | .hbm, ⟨76, _⟩ => ⟨S8x4112x1, .f32⟩
  | .hbm, ⟨77, _⟩ => ⟨S8x4112x1, .f32⟩
  | .hbm, ⟨78, _⟩ => ⟨S8x4112x4112, .f32⟩
  | .hbm, ⟨79, _⟩ => ⟨S8x4112x4112, .f32⟩
  | .hbm, ⟨80, _⟩ => ⟨S_, .f32⟩
  | .hbm, ⟨81, _⟩ => ⟨S8x4112, .f32⟩
  | .hbm, ⟨82, _⟩ => ⟨S8x4112x4112, .f32⟩
  | .hbm, ⟨83, _⟩ => ⟨S8x4112x4112, .f32⟩
  | .hbm, ⟨84, _⟩ => ⟨S8x4112x4112, .f32⟩
  | .hbm, ⟨85, _⟩ => ⟨S_, .f32⟩
  | .hbm, ⟨86, _⟩ => ⟨S8x4112x4112, .f32⟩
  | .hbm, ⟨87, _⟩ => ⟨S8x4112x4112, .f32⟩
  | .hbm, ⟨88, _⟩ => ⟨S_, .f32⟩
  | .hbm, ⟨89, _⟩ => ⟨S8x4112x4112, .f32⟩
  | .hbm, ⟨90, _⟩ => ⟨S8x4112x4112, .f32⟩
  | .hbm, ⟨91, _⟩ => ⟨S4112x4112x8, .f32⟩
  | .hbm, ⟨92, _⟩ => ⟨S4112x8x32, .f32⟩
  | .hbm, ⟨93, _⟩ => ⟨S4112x32, .f32⟩
  | .hbm, ⟨94, _⟩ => ⟨S8x4112x64, .f32⟩
  | .hbm, ⟨95, _⟩ => ⟨S4112x8x64, .f32⟩
  | .hbm, ⟨96, _⟩ => ⟨S8x4112x64, .f32⟩
  | .hbm, ⟨97, _⟩ => ⟨S4112x8x64, .f32⟩
  | _, _ => ⟨S4112x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Norm.lean ====
abbrev S4112x1024 : Shape := ⟨2, ![4112, 1024]⟩
abbrev S1024 : Shape := ⟨1, ![1024]⟩
abbrev S1024x2816 : Shape := ⟨2, ![1024, 2816]⟩
abbrev S4112x2816 : Shape := ⟨2, ![4112, 2816]⟩
abbrev S_ : Shape := ⟨0, ![]⟩
abbrev S4224x2816 : Shape := ⟨2, ![4224, 2816]⟩
abbrev S2816x1024 : Shape := ⟨2, ![2816, 1024]⟩
abbrev S8x1x352x1024 : Shape := ⟨4, ![8, 1, 352, 1024]⟩
abbrev S4224x1024 : Shape := ⟨2, ![4224, 1024]⟩
abbrev S1x1024 : Shape := ⟨2, ![1, 1024]⟩
abbrev S384x2816 : Shape := ⟨2, ![384, 2816]⟩
abbrev S384x1024 : Shape := ⟨2, ![384, 1024]⟩
abbrev S8x352x1024 : Shape := ⟨3, ![8, 352, 1024]⟩
abbrev S384 : Shape := ⟨1, ![384]⟩
abbrev S384x1 : Shape := ⟨2, ![384, 1]⟩

abbrev nBuf : Space → Nat
  | .hbm => 30
  | .vmem => 14
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4112x2816, .f32⟩
  | .hbm, ⟨5, _⟩ => ⟨S4112x2816, .f32⟩
  | .hbm, ⟨6, _⟩ => ⟨S4112x1024, .f32⟩
  | .hbm, ⟨7, _⟩ => ⟨S_, .i32⟩
  | .hbm, ⟨8, _⟩ => ⟨S_, .f32⟩
  | .hbm, ⟨9, _⟩ => ⟨S4224x2816, .f32⟩
  | .hbm, ⟨10, _⟩ => ⟨S4224x2816, .bf16⟩
  | .hbm, ⟨11, _⟩ => ⟨S2816x1024, .f32⟩
  | .hbm, ⟨12, _⟩ => ⟨S2816x1024, .bf16⟩
  | .hbm, ⟨13, _⟩ => ⟨S8x1x352x1024, .bf16⟩
  | .hbm, ⟨14, _⟩ => ⟨S_, .i32⟩
  | .hbm, ⟨15, _⟩ => ⟨S_, .f32⟩
  | .hbm, ⟨16, _⟩ => ⟨S4224x2816, .f32⟩
  | .hbm, ⟨17, _⟩ => ⟨S4224x2816, .bf16⟩
  | .hbm, ⟨18, _⟩ => ⟨S2816x1024, .f32⟩
  | .hbm, ⟨19, _⟩ => ⟨S2816x1024, .bf16⟩
  | .hbm, ⟨20, _⟩ => ⟨S8x1x352x1024, .bf16⟩
  | .hbm, ⟨21, _⟩ => ⟨S_, .i32⟩
  | .hbm, ⟨22, _⟩ => ⟨S_, .f32⟩
  | .hbm, ⟨23, _⟩ => ⟨S4224x1024, .f32⟩
  | .hbm, ⟨24, _⟩ => ⟨S1x1024, .f32⟩
  | .hbm, ⟨25, _⟩ => ⟨S_, .i32⟩
  | .hbm, ⟨26, _⟩ => ⟨S_, .f32⟩
  | .hbm, ⟨27, _⟩ => ⟨S4224x1024, .f32⟩
  | .hbm, ⟨28, _⟩ => ⟨S4224x1024, .f32⟩
  | .hbm, ⟨29, _⟩ => ⟨S1x1024, .f32⟩
  | .local _ .vmem, ⟨0, _⟩ => ⟨S384x2816, .bf16⟩
  | .local _ .vmem, ⟨1, _⟩ => ⟨S384x2816, .bf16⟩
  | .local _ .vmem, ⟨2, _⟩ => ⟨S384x2816, .bf16⟩
  | .local _ .vmem, ⟨3, _⟩ => ⟨S384x2816, .bf16⟩
  | .local _ .vmem, ⟨4, _⟩ => ⟨S8x1x352x1024, .bf16⟩
  | .local _ .vmem, ⟨5, _⟩ => ⟨S8x1x352x1024, .bf16⟩
  | .local _ .vmem, ⟨6, _⟩ => ⟨S384x1024, .f32⟩
  | .local _ .vmem, ⟨7, _⟩ => ⟨S384x1024, .f32⟩
  | .local _ .vmem, ⟨8, _⟩ => ⟨S1x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_call3_v0 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRefIdeal.lean ====
abbrev S4112x1024 : Shape := ⟨2, ![4112, 1024]⟩
abbrev S1024 : Shape := ⟨1, ![1024]⟩
abbrev S1024x2816 : Shape := ⟨2, ![1024, 2816]⟩
abbrev S4112x2816 : Shape := ⟨2, ![4112, 2816]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4224x1024 : Shape := ⟨2, ![4224, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4112x2816, .f32⟩
  | .hbm, ⟨5, _⟩ => ⟨S4112x2816, .f32⟩
  | .hbm, ⟨6, _⟩ => ⟨S4112x1024, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S1x1024, .f32⟩
  | .hbm, ⟨25, _⟩ => ⟨S4112x1024, .f32⟩
  | .hbm, ⟨26, _⟩ => ⟨S4112x1024, .f32⟩
  | .hbm, ⟨27, _⟩ => ⟨S4112x2816, .f32⟩
  | .hbm, ⟨28, _⟩ => ⟨S4112x2816, .f32⟩
  | .hbm, ⟨29, _⟩ => ⟨S4112x1024, .f32⟩
  | .hbm, ⟨30, _⟩ => ⟨S4112x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4112x1024, .f32⟩
  | .hbm, ⟨37, _⟩ => ⟨S4112x1024, .f32⟩
  | .hbm, ⟨38, _⟩ => ⟨S_, .f32⟩
  | .hbm, ⟨39, _⟩ => ⟨S1024, .f32⟩
  | .hbm, ⟨40, _⟩ => ⟨S4112x1024, .f32⟩
  | .hbm, ⟨41, _⟩ => ⟨S_, .f32⟩
  | .hbm, ⟨42, _⟩ => ⟨S4112, .f32⟩
  | .hbm, ⟨43, _⟩ => ⟨S4112x1, .f32⟩
  | .hbm, ⟨44, _⟩ => ⟨S4112x1024, .f32⟩
  | .hbm, ⟨45, _⟩ => ⟨S4112x1024, .f32⟩
  | .hbm, ⟨46, _⟩ => ⟨S4112x1024, .f32⟩
  | .hbm, ⟨47, _⟩ => ⟨S4112x1, .f32⟩
  | .hbm, ⟨48, _⟩ => ⟨S_, .f32⟩
  | .hbm, ⟨49, _⟩ => ⟨S4112x1, .f32⟩
  | .hbm, ⟨50, _⟩ => ⟨S4112x1, .f32⟩
  | .hbm, ⟨51, _⟩ => ⟨S_, .f32⟩
  | .hbm, ⟨52, _⟩ => ⟨S4112, .f32⟩
  | .hbm, ⟨53, _⟩ => ⟨S4112x1024, .f32⟩
  | .hbm, ⟨54, _⟩ => ⟨S4112x1024, .f32⟩
  | .hbm, ⟨55, _⟩ => ⟨S4112x1024, .f32⟩
  | .hbm, ⟨56, _⟩ => ⟨S4112x1024, .f32⟩
  | .hbm, ⟨57, _⟩ => ⟨S4112x1024, .f32⟩
  | .hbm, ⟨58, _⟩ => ⟨S_, .i32⟩
  | .hbm, ⟨59, _⟩ => ⟨S_, .f32⟩
  | .hbm, ⟨60, _⟩ => ⟨S4224x1024, .f32⟩
  | .hbm, ⟨61, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c : Ref sig .tc := ⟨.hbm, 58, rfl⟩
abbrev main_call0_v0 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Loss.lean ====
abbrev S4112x1024 : Shape := ⟨2, ![4112, 1024]⟩
abbrev S4096x1024 : Shape := ⟨2, ![4096, 1024]⟩
abbrev S_ : Shape := ⟨0, ![]⟩
abbrev S4224x1024 : Shape := ⟨2, ![4224, 1024]⟩
abbrev S1x1024 : Shape := ⟨2, ![1, 1024]⟩
abbrev S1056x1024 : Shape := ⟨2, ![1056, 1024]⟩
abbrev S1024 : Shape := ⟨1, ![1024]⟩

abbrev nBuf : Space → Nat
  | .hbm => 14
  | .vmem => 7
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S_, .i32⟩
  | .hbm, ⟨3, _⟩ => ⟨S_, .f32⟩
  | .hbm, ⟨4, _⟩ => ⟨S4224x1024, .f32⟩
  | .hbm, ⟨5, _⟩ => ⟨S_, .i32⟩
  | .hbm, ⟨6, _⟩ => ⟨S_, .f32⟩
  | .hbm, ⟨7, _⟩ => ⟨S4224x1024, .f32⟩
  | .hbm, ⟨8, _⟩ => ⟨S4224x1024, .f32⟩
  | .hbm, ⟨9, _⟩ => ⟨S1x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1056x1024, .f32⟩
  | .local _ .vmem, ⟨1, _⟩ => ⟨S1056x1024, .f32⟩
  | .local _ .vmem, ⟨2, _⟩ => ⟨S1056x1024, .f32⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | .local _ .vmem, ⟨6, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4112x1024 : Shape := ⟨2, ![4112, 1024]⟩
abbrev S4096x1024 : Shape := ⟨2, ![4096, 1024]⟩
abbrev S_ : Shape := ⟨0, ![]⟩
abbrev S4096 : Shape := ⟨1, ![4096]⟩
abbrev S4224x1024 : Shape := ⟨2, ![4224, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4112x1024, .f32⟩
  | .hbm, ⟨28, _⟩ => ⟨S_, .i32⟩
  | .hbm, ⟨29, _⟩ => ⟨S_, .f32⟩
  | .hbm, ⟨30, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Pool.lean ====
abbrev S4112x512 : Shape := ⟨2, ![4112, 512]⟩
abbrev S4x128x128 : Shape := ⟨3, ![4, 128, 128]⟩
abbrev S512 : Shape := ⟨1, ![512]⟩
abbrev S_ : Shape := ⟨0, ![]⟩
abbrev S4224x512 : Shape := ⟨2, ![4224, 512]⟩
abbrev S1x512 : Shape := ⟨2, ![1, 512]⟩
abbrev S1056x512 : Shape := ⟨2, ![1056, 512]⟩
abbrev S16x512 : Shape := ⟨2, ![16, 512]⟩
abbrev S1072x512 : Shape := ⟨2, ![1072, 512]⟩
abbrev S1056x128 : Shape := ⟨2, ![1056, 128]⟩
abbrev S16x128 : Shape := ⟨2, ![16, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 15
  | .vmem => 16
  | .smem => 0
  | _ => 0

abbrev bufTy : (tb : Table) → Fin (tcTables nBuf tb) → BufTy
  | .hbm, ⟨0, _⟩ => ⟨S4112x512, .f32⟩
  | .hbm, ⟨1, _⟩ => ⟨S4x128x128, .f32⟩
  | .hbm, ⟨2, _⟩ => ⟨S512, .f32⟩
  | .hbm, ⟨3, _⟩ => ⟨S4112x512, .f32⟩
  | .hbm, ⟨4, _⟩ => ⟨S_, .i32⟩
  | .hbm, ⟨5, _⟩ => ⟨S_, .f32⟩
  | .hbm, ⟨6, _⟩ => ⟨S4224x512, .f32⟩
  | .hbm, ⟨7, _⟩ => ⟨S_, .i32⟩
  | .hbm, ⟨8, _⟩ => ⟨S_, .f32⟩
  | .hbm, ⟨9, _⟩ => ⟨S4224x512, .f32⟩
  | .hbm, ⟨10, _⟩ => ⟨S4x128x128, .bf16⟩
  | .hbm, ⟨11, _⟩ => ⟨S1x512, .f32⟩
  | .hbm, ⟨12, _⟩ => ⟨S4224x512, .f32⟩
  | .hbm, ⟨13, _⟩ => ⟨S4x128x128, .f32⟩
  | .hbm, ⟨14, _⟩ => ⟨S1x512, .f32⟩
  | .local _ .vmem, ⟨0, _⟩ => ⟨S1056x512, .f32⟩
  | .local _ .vmem, ⟨1, _⟩ => ⟨S1056x512, .f32⟩
  | .local _ .vmem, ⟨2, _⟩ => ⟨S16x512, .f32⟩
  | .local _ .vmem, ⟨3, _⟩ => ⟨S16x512, .f32⟩
  | .local _ .vmem, ⟨4, _⟩ => ⟨S1056x512, .f32⟩
  | .local _ .vmem, ⟨5, _⟩ => ⟨S1056x512, .f32⟩
  | .local _ .vmem, ⟨6, _⟩ => ⟨S16x512, .f32⟩
  | .local _ .vmem, ⟨7, _⟩ => ⟨S16x512, .f32⟩
  | .local _ .vmem, ⟨8, _⟩ => ⟨S4x128x128, .bf16⟩
  | .local _ .vmem, ⟨9, _⟩ => ⟨S1x512, .f32⟩
  | .local _ .vmem, ⟨10, _⟩ => ⟨S1056x512, .f32⟩
  | .local _ .vmem, ⟨11, _⟩ => ⟨S1056x512, .f32⟩
  | .local _ .vmem, ⟨12, _⟩ => ⟨S4x128x128, .f32⟩
  | .local _ .vmem, ⟨13, _⟩ => ⟨S1x512, .f32⟩
  | .local _ .vmem, ⟨14, _⟩ => ⟨S1072x512, .f32⟩
  | .local _ .vmem, ⟨15, _⟩ => ⟨S1072x512, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c66_i32 : BitVec 32 := 66#32
  let v0 : BitVec 32 := Scalar.muli arg0 c66_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c66_i32 : BitVec 32 := 66#32
  let v1 : BitVec 32 := Scalar.muli v0 c66_i32
  let c263_i32 : BitVec 32 := 263#32
  let v2 : BitVec 32 := Scalar.minsi v1 c263_i32
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1056x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1056x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolRefIdeal.lean ====
abbrev S4112x512 : Shape := ⟨2, ![4112, 512]⟩
abbrev S4x128x128 : Shape := ⟨3, ![4, 128, 128]⟩
abbrev S512 : Shape := ⟨1, ![512]⟩
abbrev S1x4112x512 : Shape := ⟨3, ![1, 4112, 512]⟩
abbrev S_ : Shape := ⟨0, ![]⟩
abbrev S1x1x512 : Shape := ⟨3, ![1, 1, 512]⟩
abbrev S1x4113x512 : Shape := ⟨3, ![1, 4113, 512]⟩
abbrev S4112 : Shape := ⟨1, ![4112]⟩
abbrev S1x4113x128 : Shape := ⟨3, ![1, 4113, 128]⟩
abbrev S1x4112x128 : Shape := ⟨3, ![1, 4112, 128]⟩
abbrev S4112x1 : Shape := ⟨2, ![4112, 1]⟩
abbrev S1x4112x1 : Shape := ⟨3, ![1, 4112, 1]⟩
abbrev S1x4112x1x128 : Shape := ⟨4, ![1, 4112, 1, 128]⟩
abbrev S1x4112x4x128 : Shape := ⟨4, ![1, 4112, 4, 128]⟩
abbrev S4x128x1x4112 : Shape := ⟨4, ![4, 128, 1, 4112]⟩
abbrev S1x512 : Shape := ⟨2, ![1, 512]⟩
abbrev S4x1x4112x128 : Shape := ⟨4, ![4, 1, 4112, 128]⟩
abbrev S4224x512 : Shape := ⟨2, ![4224, 512]⟩

abbrev nBuf : Space → Nat
  | .hbm => 247
  | .vmem => 0
  | .smem => 0
  | _ => 0

abbrev hbmTy0_0 (i : Nat) : BufTy := match i % 128 with
  | 0 => ⟨S4112x512, .f32⟩
  | 1 => ⟨S4x128x128, .f32⟩
  | 2 => ⟨S512, .f32⟩
  | 3 => ⟨S4112x512, .f32⟩
  | 4 => ⟨S1x4112x512, .f32⟩
  | 5 => ⟨S_, .f32⟩
  | 6 => ⟨S1x1x512, .f32⟩
  | 7 => ⟨S_, .f32⟩
  | 8 => ⟨S_, .f32⟩
  | 9 => ⟨S1x4112x512, .f32⟩
  | 10 => ⟨S1x4113x512, .f32⟩
  | 11 => ⟨S_, .f32⟩
  | 12 => ⟨S1x1x512, .f32⟩
  | 13 => ⟨S4112, .i32⟩
  | 14 => ⟨S1x4113x128, .f32⟩
  | 15 => ⟨S_, .i32⟩
  | 16 => ⟨S4112, .i32⟩
  | 17 => ⟨S4112, .i32⟩
  | 18 => ⟨S_, .i32⟩
  | 19 => ⟨S4112, .i32⟩
  | 20 => ⟨S4112, .i32⟩
  | 21 => ⟨S_, .i32⟩
  | 22 => ⟨S4112, .i32⟩
  | 23 => ⟨S4112, .i32⟩
  | 24 => ⟨S_, .i32⟩
  | 25 => ⟨S4112, .i32⟩
  | 26 => ⟨S4112, .i32⟩
  | 27 => ⟨S4112, .i32⟩
  | 28 => ⟨S4112, .f32⟩
  | 29 => ⟨S1x4112x128, .f32⟩
  | 30 => ⟨S_, .i32⟩
  | 31 => ⟨S4112, .i32⟩
  | 32 => ⟨S4112, .i1⟩
  | 33 => ⟨S_, .i32⟩
  | 34 => ⟨S4112, .i32⟩
  | 35 => ⟨S4112, .i32⟩
  | 36 => ⟨S4112, .i32⟩
  | 37 => ⟨S4112x1, .i32⟩
  | 38 => ⟨S1x4112x128, .f32⟩
  | 39 => ⟨S1x4112x128, .f32⟩
  | 40 => ⟨S1x4112x1, .f32⟩
  | 41 => ⟨S1x4112x128, .f32⟩
  | 42 => ⟨S1x4112x128, .f32⟩
  | 43 => ⟨S1x4112x128, .f32⟩
  | 44 => ⟨S1x4112x128, .f32⟩
  | 45 => ⟨S1x4113x128, .f32⟩
  | 46 => ⟨S_, .i32⟩
  | 47 => ⟨S4112, .i32⟩
  | 48 => ⟨S4112, .i32⟩
  | 49 => ⟨S_, .i32⟩
  | 50 => ⟨S4112, .i32⟩
  | 51 => ⟨S4112, .i32⟩
  | 52 => ⟨S_, .i32⟩
  | 53 => ⟨S4112, .i32⟩
  | 54 => ⟨S4112, .i32⟩
  | 55 => ⟨S_, .i32⟩
  | 56 => ⟨S4112, .i32⟩
  | 57 => ⟨S4112, .i32⟩
  | 58 => ⟨S4112, .i32⟩
  | 59 => ⟨S4112, .f32⟩
  | 60 => ⟨S1x4112x128, .f32⟩
  | 61 => ⟨S_, .i32⟩
  | 62 => ⟨S4112, .i32⟩
  | 63 => ⟨S4112, .i1⟩
  | 64 => ⟨S_, .i32⟩
  | 65 => ⟨S4112, .i32⟩
  | 66 => ⟨S4112, .i32⟩
  | 67 => ⟨S4112, .i32⟩
  | 68 => ⟨S4112x1, .i32⟩
  | 69 => ⟨S1x4112x128, .f32⟩
  | 70 => ⟨S1x4112x128, .f32⟩
  | 71 => ⟨S1x4112x1, .f32⟩
  | 72 => ⟨S1x4112x128, .f32⟩
  | 73 => ⟨S1x4112x128, .f32⟩
  | 74 => ⟨S1x4112x128, .f32⟩
  | 75 => ⟨S1x4112x128, .f32⟩
  | 76 => ⟨S1x4113x128, .f32⟩
  | 77 => ⟨S_, .i32⟩
  | 78 => ⟨S4112, .i32⟩
  | 79 => ⟨S4112, .i32⟩
  | 80 => ⟨S_, .i32⟩
  | 81 => ⟨S4112, .i32⟩
  | 82 => ⟨S4112, .i32⟩
  | 83 => ⟨S_, .i32⟩
  | 84 => ⟨S4112, .i32⟩
  | 85 => ⟨S4112, .i32⟩
  | 86 => ⟨S_, .i32⟩
  | 87 => ⟨S4112, .i32⟩
  | 88 => ⟨S4112, .i32⟩
  | 89 => ⟨S4112, .i32⟩
  | 90 => ⟨S4112, .f32⟩
  | 91 => ⟨S1x4112x128, .f32⟩
  | 92 => ⟨S_, .i32⟩
  | 93 => ⟨S4112, .i32⟩
  | 94 => ⟨S4112, .i1⟩
  | 95 => ⟨S_, .i32⟩
  | 96 => ⟨S4112, .i32⟩
  | 97 => ⟨S4112, .i32⟩
  | 98 => ⟨S4112, .i32⟩
  | 99 => ⟨S4112x1, .i32⟩
  | 100 => ⟨S1x4112x128, .f32⟩
  | 101 => ⟨S1x4112x128, .f32⟩
  | 102 => ⟨S1x4112x1, .f32⟩
  | 103 => ⟨S1x4112x128, .f32⟩
  | 104 => ⟨S1x4112x128, .f32⟩
  | 105 => ⟨S1x4112x128, .f32⟩
  | 106 => ⟨S1x4112x128, .f32⟩
  | 107 => ⟨S1x4113x128, .f32⟩
  | 108 => ⟨S_, .i32⟩
  | 109 => ⟨S4112, .i32⟩
  | 110 => ⟨S4112, .i32⟩
  | 111 => ⟨S_, .i32⟩
  | 112 => ⟨S4112, .i32⟩
  | 113 => ⟨S4112, .i32⟩
  | 114 => ⟨S_, .i32⟩
  | 115 => ⟨S4112, .i32⟩
  | 116 => ⟨S4112, .i32⟩
  | 117 => ⟨S_, .i32⟩
  | 118 => ⟨S4112, .i32⟩
  | 119 => ⟨S4112, .i32⟩
  | 120 => ⟨S4112, .i32⟩
  | 121 => ⟨S4112, .f32⟩
  | 122 => ⟨S1x4112x128, .f32⟩
  | 123 => ⟨S_, .i32⟩
  | 124 => ⟨S4112, .i32⟩
  | 125 => ⟨S4112, .i1⟩
  | 126 => ⟨S_, .i32⟩
  | 127 => ⟨S4112, .i32⟩
  | _ => ⟨S4112x512, .f32⟩

abbrev hbmTy0_1 (i : Nat) : BufTy := match i % 128 with
  | 0 => ⟨S4112, .i32⟩
  | 1 => ⟨S4112, .i32⟩
  | 2 => ⟨S4112x1, .i32⟩
  | 3 => ⟨S1x4112x128, .f32⟩
  | 4 => ⟨S1x4112x128, .f32⟩
  | 5 => ⟨S1x4112x1, .f32⟩
  | 6 => ⟨S1x4112x128, .f32⟩
  | 7 => ⟨S1x4112x128, .f32⟩
  | 8 => ⟨S1x4112x128, .f32⟩
  | 9 => ⟨S1x4112x128, .f32⟩
  | 10 => ⟨S1x4112x1x128, .f32⟩
  | 11 => ⟨S1x4112x1x128, .f32⟩
  | 12 => ⟨S1x4112x1x128, .f32⟩
  | 13 => ⟨S1x4112x1x128, .f32⟩
  | 14 => ⟨S1x4112x4x128, .f32⟩
  | 15 => ⟨S4x128x1x4112, .f32⟩
  | 16 => ⟨S1x4112x4x128, .f32⟩
  | 17 => ⟨S1x4112x512, .f32⟩
  | 18 => ⟨S1x1x512, .f32⟩
  | 19 => ⟨S1x4112x512, .f32⟩
  | 20 => ⟨S1x4112x512, .f32⟩
  | 21 => ⟨S4112x512, .f32⟩
  | 22 => ⟨S1x4112x512, .f32⟩
  | 23 => ⟨S1x4112x512, .f32⟩
  | 24 => ⟨S_, .f32⟩
  | 25 => ⟨S1x512, .f32⟩
  | 26 => ⟨S1x1x512, .f32⟩
  | 27 => ⟨S1x4112x512, .f32⟩
  | 28 => ⟨S1x4112x512, .f32⟩
  | 29 => ⟨S_, .f32⟩
  | 30 => ⟨S512, .f32⟩
  | 31 => ⟨S1x4112x4x128, .f32⟩
  | 32 => ⟨S4x128x1x4112, .f32⟩
  | 33 => ⟨S4x1x4112x128, .f32⟩
  | 34 => ⟨S1x4112x4x128, .f32⟩
  | 35 => ⟨S4x128x128, .f32⟩
  | 36 => ⟨S4x128x128, .f32⟩
  | 37 => ⟨S1x4112x1x128, .f32⟩
  | 38 => ⟨S1x4112x128, .f32⟩
  | 39 => ⟨S1x4112x1x128, .f32⟩
  | 40 => ⟨S1x4112x128, .f32⟩
  | 41 => ⟨S1x4112x1x128, .f32⟩
  | 42 => ⟨S1x4112x128, .f32⟩
  | 43 => ⟨S1x4112x1x128, .f32⟩
  | 44 => ⟨S1x4112x128, .f32⟩
  | 45 => ⟨S1x4112x128, .f32⟩
  | 46 => ⟨S_, .f32⟩
  | 47 => ⟨S1x4112x512, .f32⟩
  | 48 => ⟨S1x4112x128, .f32⟩
  | 49 => ⟨S1x4112x128, .f32⟩
  | 50 => ⟨S1x4112x128, .f32⟩
  | 51 => ⟨S_, .f32⟩
  | 52 => ⟨S1x4113x128, .f32⟩
  | 53 => ⟨S1x4113x128, .f32⟩
  | 54 => ⟨S_, .f32⟩
  | 55 => ⟨S1x4113x128, .f32⟩
  | 56 => ⟨S1x4113x128, .f32⟩
  | 57 => ⟨S_, .f32⟩
  | 58 => ⟨S1x4113x512, .f32⟩
  | 59 => ⟨S1x4112x128, .f32⟩
  | 60 => ⟨S_, .f32⟩
  | 61 => ⟨S1x4112x512, .f32⟩
  | 62 => ⟨S1x4112x512, .f32⟩
  | 63 => ⟨S1x4112x128, .f32⟩
  | 64 => ⟨S1x4112x128, .f32⟩
  | 65 => ⟨S1x4112x128, .f32⟩
  | 66 => ⟨S_, .f32⟩
  | 67 => ⟨S1x4113x128, .f32⟩
  | 68 => ⟨S1x4113x128, .f32⟩
  | 69 => ⟨S_, .f32⟩
  | 70 => ⟨S1x4113x128, .f32⟩
  | 71 => ⟨S1x4113x128, .f32⟩
  | 72 => ⟨S_, .f32⟩
  | 73 => ⟨S1x4113x512, .f32⟩
  | 74 => ⟨S1x4113x512, .f32⟩
  | 75 => ⟨S1x4112x128, .f32⟩
  | 76 => ⟨S_, .f32⟩
  | 77 => ⟨S1x4112x512, .f32⟩
  | 78 => ⟨S1x4112x512, .f32⟩
  | 79 => ⟨S1x4112x128, .f32⟩
  | 80 => ⟨S1x4112x128, .f32⟩
  | 81 => ⟨S1x4112x128, .f32⟩
  | 82 => ⟨S_, .f32⟩
  | 83 => ⟨S1x4113x128, .f32⟩
  | 84 => ⟨S1x4113x128, .f32⟩
  | 85 => ⟨S_, .f32⟩
  | 86 => ⟨S1x4113x128, .f32⟩
  | 87 => ⟨S1x4113x128, .f32⟩
  | 88 => ⟨S_, .f32⟩
  | 89 => ⟨S1x4113x512, .f32⟩
  | 90 => ⟨S1x4113x512, .f32⟩
  | 91 => ⟨S1x4112x128, .f32⟩
  | 92 => ⟨S_, .f32⟩
  | 93 => ⟨S1x4112x512, .f32⟩
  | 94 => ⟨S1x4112x512, .f32⟩
  | 95 => ⟨S1x4112x128, .f32⟩
  | 96 => ⟨S1x4112x128, .f32⟩
  | 97 => ⟨S1x4112x128, .f32⟩
  | 98 => ⟨S_, .f32⟩
  | 99 => ⟨S1x4113x128, .f32⟩
  | 100 => ⟨S1x4113x128, .f32⟩
  | 101 => ⟨S_, .f32⟩
  | 102 => ⟨S1x4113x128, .f32⟩
  | 103 => ⟨S1x4113x128, .f32⟩
  | 104 => ⟨S_, .f32⟩
  | 105 => ⟨S1x4113x512, .f32⟩
  | 106 => ⟨S1x4113x512, .f32⟩
  | 107 => ⟨S1x1x512, .f32⟩
  | 108 => ⟨S1x4112x512, .f32⟩
  | 109 => ⟨S_, .f32⟩
  | 110 => ⟨S_, .f32⟩
  | 111 => ⟨S1x4112x512, .f32⟩
  | 112 => ⟨S1x4112x512, .f32⟩
  | 113 => ⟨S_, .f32⟩
  | 114 => ⟨S4112x512, .f32⟩
  | 115 => ⟨S_, .i32⟩
  | 116 => ⟨S_, .f32⟩
  | 117 => ⟨S4224x512, .f32⟩
  | 118 => ⟨S1x512, .f32⟩
  | _ => ⟨S4112x512, .f32⟩

abbrev hbmTy (i : Nat) : BufTy := match i / 128 with
  | 0 => hbmTy0_0 i
  | 1 => hbmTy0_1 i
  | _ => ⟨S4112x512, .f32⟩

abbrev bufTy : (tb : Table) → Fin (tcTables nBuf tb) → BufTy
  | .hbm, ⟨i, _⟩ => hbmTy i
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_c_14 : Ref sig .tc := ⟨.hbm, 83, rfl⟩
abbrev main_v61 : Ref sig .tc := ⟨.hbm, 84, rfl⟩
abbrev main_v62 : Ref sig .tc := ⟨.hbm, 85, rfl⟩
abbrev main_c_15 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_c_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_18 : Ref sig .tc := ⟨.hbm, 108, rfl⟩
abbrev main_v82 : Ref sig .tc := ⟨.hbm, 109, rfl⟩
abbrev main_v83 : Ref sig .tc := ⟨.hbm, 110, rfl⟩
abbrev main_c_19 : Ref sig .tc := ⟨.hbm, 111, rfl⟩
abbrev main_v84 : Ref sig .tc := ⟨.hbm, 112, rfl⟩
abbrev main_v85 : Ref sig .tc := ⟨.hbm, 113, rfl⟩
abbrev main_c_20 : Ref sig .tc := ⟨.hbm, 114, rfl⟩
abbrev main_v86 : Ref sig .tc := ⟨.hbm, 115, rfl⟩
abbrev main_v87 : Ref sig .tc := ⟨.hbm, 116, rfl⟩
abbrev main_c_21 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_c_22 : Ref sig .tc := ⟨.hbm, 123, rfl⟩
abbrev main_v93 : Ref sig .tc := ⟨.hbm, 124, rfl⟩
abbrev main_v94 : Ref sig .tc := ⟨.hbm, 125, rfl⟩
abbrev main_c_23 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_24 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_25 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_26 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_27 : Ref sig .tc := ⟨.hbm, 179, rfl⟩
abbrev main_v144 : Ref sig .tc := ⟨.hbm, 180, rfl⟩
abbrev main_v145 : Ref sig .tc := ⟨.hbm, 181, rfl⟩
abbrev main_cst_28 : Ref sig .tc := ⟨.hbm, 182, rfl⟩
abbrev main_v146 : Ref sig .tc := ⟨.hbm, 183, rfl⟩
abbrev main_v147 : Ref sig .tc := ⟨.hbm, 184, rfl⟩
abbrev main_cst_29 : Ref sig .tc := ⟨.hbm, 185, rfl⟩
abbrev main_v148 : Ref sig .tc := ⟨.hbm, 186, rfl⟩
abbrev main_v149 : Ref sig .tc := ⟨.hbm, 187, rfl⟩
abbrev main_cst_30 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_31 : Ref sig .tc := ⟨.hbm, 194, rfl⟩
abbrev main_v155 : Ref sig .tc := ⟨.hbm, 195, rfl⟩
abbrev main_v156 : Ref sig .tc := ⟨.hbm, 196, rfl⟩
abbrev main_cst_32 : Ref sig .tc := ⟨.hbm, 197, rfl⟩
abbrev main_v157 : Ref sig .tc := ⟨.hbm, 198, rfl⟩
abbrev main_v158 : Ref sig .tc := ⟨.hbm, 199, rfl⟩
abbrev main_cst_33 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_34 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_35 : Ref sig .tc := ⟨.hbm, 210, rfl⟩
abbrev main_v167 : Ref sig .tc := ⟨.hbm, 211, rfl⟩
abbrev main_v168 : Ref sig .tc := ⟨.hbm, 212, rfl⟩
abbrev main_cst_36 : Ref sig .tc := ⟨.hbm, 213, rfl⟩
abbrev main_v169 : Ref sig .tc := ⟨.hbm, 214, rfl⟩
abbrev main_v170 : Ref sig .tc := ⟨.hbm, 215, rfl⟩
abbrev main_cst_37 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_38 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_39 : Ref sig .tc := ⟨.hbm, 226, rfl⟩
abbrev main_v179 : Ref sig .tc := ⟨.hbm, 227, rfl⟩
abbrev main_v180 : Ref sig .tc := ⟨.hbm, 228, rfl⟩
abbrev main_cst_40 : Ref sig .tc := ⟨.hbm, 229, rfl⟩
abbrev main_v181 : Ref sig .tc := ⟨.hbm, 230, rfl⟩
abbrev main_v182 : Ref sig .tc := ⟨.hbm, 231, rfl⟩
abbrev main_cst_41 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_call1_cst : Ref sig .tc := ⟨.hbm, 237, rfl⟩
abbrev main_call1_v0 : Ref sig .tc := ⟨.hbm, 238, rfl⟩
abbrev main_v187 : Ref sig .tc := ⟨.hbm, 239, rfl⟩
abbrev main_v188 : Ref sig .tc := ⟨.hbm, 240, rfl⟩
abbrev main_cst_42 : Ref sig .tc := ⟨.hbm, 241, rfl⟩
abbrev main_v189 : Ref sig .tc := ⟨.hbm, 242, rfl⟩
abbrev main_c_43 : Ref sig .tc := ⟨.hbm, 243, rfl⟩
abbrev main_call2_v0 : Ref sig .tc := ⟨.hbm, 244, rfl⟩
abbrev main_v190 : Ref sig .tc := ⟨.hbm, 245, rfl⟩
abbrev main_v191 : Ref sig .tc := ⟨.hbm, 246, rfl⟩

abbrev nD : Nat := 1
abbrev τ : Topo := Topo.v7x

variable {F : FTy → Type} [FloatOps F]
-- ==== Proof.GateRun.lean ====
/- The gate's two calls, run as a whole: the launch of the segments once more, read at every buffer.

   The generated frame keeps of the final memory only the argument arrays. The value claim wants the result buffers as
   well, so the launch is repeated here with the stronger reading: every buffer of the program ends at the contents
   `W8`, the last boundary of the chain of host stretches and calls. -/
module

public import proofs.«01_k».proof.Proof.Gen.GateIdeal.Frame

@[expose] public section

set_option maxRecDepth 16384

noncomputable section

namespace Cert.GateIdeal.Whole

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer at the chain's last contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.GateIdeal.Whole

end
-- ==== Proof.GateBlocks.lean ====
/- The gate's two calls, array by array: what each call leaves in its result arrays, as a function of the arrays it
   finds. Both calls tile rows by 1056 and the 2816 columns by 1408; a point computes its own tile, so the whole array
   is the same formula at every entry. -/
module

public import proofs.«01_k».proof.Proof.Gen.GateIdeal.Frame
public import Idealize.ShloMosaic.Lib.Pipeline.ValueKit
public import Idealize.ShloMosaic.Lib.Pointwise
public import Idealize.ShloMosaic.Lib.Claim

@[expose] public section

set_option maxRecDepth 16384

noncomputable section

namespace Cert.GateIdeal.Blocks

open Cert.GateIdeal Cert.GateIdeal.Gen
open Idealize.ShloMosaic Idealize.ShloMosaic.TcCoe Idealize.SL.Sem Idealize.ShloMosaic.Pipeline

/-- Rows of `a` against the rows of the eight stacked pieces of `w`. -/
def rows (a : FVec Ideal S4224x1024 .f32) (w : FVec Ideal S8x1x352x1024 .bf16) : FVec Ideal S4224x2816 .f32 := fun y =>
  ∑ k : Fin 1024, a (ix2 (y 0) k) * w (ix4 (⟨(y 1).val / 352, by have := (y 1).isLt; simp at this; omega⟩ : Fin 8) 0 (⟨(y 1).val % 352, Nat.mod_lt _ (by decide)⟩ : Fin 352) k)

/-- The sigmoid of the call's body. -/
def sgm (g : EReal) : EReal := Ideal.ofBits .f32 0x3F000000#32 * Ideal.tanh (Ideal.ofBits .f32 0x3F000000#32 * g) + Ideal.ofBits .f32 0x3F000000#32

variable (V : (c : Dev nD) → (b : Ref sig .tc) → Buf (Elt Ideal) ((c : Thread nD τ).loc b)) (c : Dev nD)

theorem idx0 : ∀ t : Fin cfg0.N, win0_0.index t = ![t.val % 4, 0] ∧ win0_1.index t = ![t.val / 4, 0, 0, 0]
    ∧ win0_2.index t = ![t.val / 4, 0, 0, 0] ∧ win0_3.index t = ![t.val % 4, t.val / 4]
    ∧ win0_4.index t = ![t.val % 4, t.val / 4] ∧ t.val / 4 < 2 :=
  (by decide +kernel : ∀ t : Fin grid0.N, _)

theorem idx1 : ∀ t : Fin cfg1.N, win1_0.index t = ![t.val % 4, 0] ∧ win1_1.index t = ![t.val / 4, 0, 0, 0]
    ∧ win1_2.index t = ![t.val % 4, t.val / 4] ∧ win1_3.index t = ![t.val % 4, t.val / 4]
    ∧ win1_4.index t = ![t.val % 4, t.val / 4] ∧ win1_5.index t = ![t.val % 4, t.val / 4] ∧ t.val / 4 < 2 :=
  (by decide +kernel : ∀ t : Fin grid1.N, _)

/-- The forward call's gate. -/
theorem gate_arr : (dat0 V c).arrAt 3 cfg0.N = rows (V c main_v1) (V c main_v4) := by
  refine (dat0 V c).arrAt_eq_of_covers 3 _ (by decide +kernel) fun t _ y => ?_
  blk_simp
  rw [after0_3]
  frame_out
  pointwise [k0_pay4, k0_pay2, k0_pay1, rows]
  blk_point [iblk0, idx0 t]

/-- The forward call's up projection. -/
theorem up_arr : (dat0 V c).arrAt 4 cfg0.N = rows (V c main_v1) (V c main_v7) := by
  refine (dat0 V c).arrAt_eq_of_covers 4 _ (by decide +kernel) fun t _ y => ?_
  blk_simp
  rw [after0_4]
  frame_out
  pointwise [k0_pay5, k0_pay3, k0_pay1, rows]
  blk_point [iblk0, idx0 t]

/-- The backward call's first result. -/
def dgate (a : FVec Ideal S4224x1024 .f32) (w : FVec Ideal S8x1x352x1024 .bf16) (g u : FVec Ideal S4224x2816 .bf16) :
    FVec Ideal S4224x2816 .f32 := fun y =>
  rows a w y * u y * (sgm (g y) * (1 + g y * (1 - sgm (g y))))

/-- The backward call's second result. -/
def dup (a : FVec Ideal S4224x1024 .f32) (w : FVec Ideal S8x1x352x1024 .bf16) (g : FVec Ideal S4224x2816 .bf16) :
    FVec Ideal S4224x2816 .f32 := fun y => rows a w y * (g y * sgm (g y))

theorem dgate_arr : (dat1 V c).arrAt 4 cfg1.N = dgate (V c main_v9) (V c main_v11) (V c main_v8_0) (V c main_v8_1) := by
  refine (dat1 V c).arrAt_eq_of_covers 4 _ (by decide +kernel) fun t _ y => ?_
  blk_simp
  rw [after1_4]
  frame_out
  pointwise [k1_pay5, k1_pay4, k1_pay3, k1_pay2, k1_pay1, rows, dgate, sgm]
  blk_point [iblk1, idx1 t]

theorem dup_arr : (dat1 V c).arrAt 5 cfg1.N = dup (V c main_v9) (V c main_v11) (V c main_v8_0) := by
  refine (dat1 V c).arrAt_eq_of_covers 5 _ (by decide +kernel) fun t _ y => ?_
  blk_simp
  rw [after1_5]
  frame_out
  pointwise [k1_pay5, k1_pay4, k1_pay3, k1_pay2, k1_pay1, rows, dup, sgm]
  blk_point [iblk1, idx1 t]

end Cert.GateIdeal.Blocks

end
-- ==== Proof.GateEntry.lean ====
/- What the gate's two calls find in their operands, in terms of the program's arguments. -/
module

public import proofs.«01_k».proof.Proof.GateBlocks

@[expose] public section

set_option maxRecDepth 16384

noncomputable section

namespace Cert.GateIdeal.Entry

open Cert.GateIdeal Cert.GateIdeal.Gen Cert.GateIdeal.Blocks
open Idealize.ShloMosaic Idealize.ShloMosaic.TcCoe Idealize.SL.Sem Idealize.ShloMosaic.Pipeline Idealize.ShloMosaic.StableHlo

variable (m : (ℓ : Loc nD τ sig) → Buf (Elt Ideal) ℓ) (ρ : Dev nD → PrngReg) (c : Dev nD)

/-- The program's first argument with its rows padded, the activations' first columns. -/
abbrev padded (X : FVec Ideal S4112x1024 .f32) : FVec Ideal S4224x1024 .f32 :=
  pad S4224x1024 ![0, 0] ![112, 0] ![0, 0] X (sitofp .f32 (constantI S_ 32 0#32)) pads_S4112x1024_S4224x1024_01120_000 h_S_

/-- A projection's weight, transposed and cut into eight pieces. -/
abbrev pieces (W : FVec Ideal S1024x2816 .f32) : FVec Ideal S8x1x352x1024 .bf16 :=
  shapeCast S8x1x352x1024 (truncf .bf16 (transpose S2816x1024 [1, 0] W transposes_S1024x2816_S2816x1024_1_0) bitsLt_bf16_f32) shapeCasts_S2816x1024_S8x1x352x1024

/-- The down projection's weight, cut into eight pieces. -/
abbrev piecesDown (W : FVec Ideal S2816x1024 .f32) : FVec Ideal S8x1x352x1024 .bf16 :=
  shapeCast S8x1x352x1024 (truncf .bf16 W bitsLt_bf16_f32) shapeCasts_S2816x1024_S8x1x352x1024

theorem v1 : W3 m ρ c main_v1 = truncf (F := Ideal) .bf16 (padded (m ((c : Thread nD τ).loc main_arg0))) bitsLt_bf16_f32 := by
  simp only [W3, W2, W1, hostOps0, hostOps0_1, hostOps0_2, TRef.binary, TRef.nullary, TRef.unary, TRef.toBuf, TRef.ofBuf, cast_eq]
  after_results_simp

theorem v4 : W3 m ρ c main_v4 = pieces (m ((c : Thread nD τ).loc main_arg1)) := by
  simp only [W3, W2, W1, hostOps0, hostOps0_1, hostOps0_2, TRef.binary, TRef.nullary, TRef.unary, TRef.toBuf, TRef.ofBuf, cast_eq]
  after_results_simp
  rfl

theorem v7 : W3 m ρ c main_v7 = pieces (m ((c : Thread nD τ).loc main_arg2)) := by
  simp only [W3, W2, W1, hostOps0, hostOps0_1, hostOps0_2, TRef.binary, TRef.nullary, TRef.unary, TRef.toBuf, TRef.ofBuf, cast_eq]
  after_results_simp
  rfl

/-- The integer zero, cast: the value the rows are padded with. -/
theorem zero_word : (FloatOps.sitofp (F := Ideal) FTy.f32 0#32 : EReal) = 0 := by
  show (((0#32 : BitVec 32).toInt : ℝ) : EReal) = 0
  simp

/-- A product's rows over the padded activations: zero below the 4112 real rows. -/
theorem rows_at (X : FVec Ideal S4112x1024 .f32) (W : FVec Ideal S1024x2816 .f32) (r : Fin 4224) (f : Fin 2816) :
    rows (truncf (F := Ideal) .bf16 (padded X) bitsLt_bf16_f32) (pieces W) (ix2 r f)
      = ∑ k : Fin 1024, (if h : r.val < 4112 then X (ix2 ⟨r.val, h⟩ k) else 0) * W (ix2 k f) := by
  pointwise [rows]
  rw [zero_word]

theorem down_at (X : FVec Ideal S4112x1024 .f32) (W : FVec Ideal S2816x1024 .f32) (r : Fin 4224) (f : Fin 2816) :
    rows (padded X) (piecesDown W) (ix2 r f)
      = ∑ k : Fin 1024, (if h : r.val < 4112 then X (ix2 ⟨r.val, h⟩ k) else 0) * W (ix2 f k) := by
  pointwise [rows]
  rw [zero_word]

theorem v9 : W7 m ρ c main_v9 = padded (m ((c : Thread nD τ).loc main_arg4)) := by
  simp only [W7, W6, W5, hostOps1, hostOps1_1, hostOps1_2, TRef.binary, TRef.nullary, TRef.unary, TRef.toBuf, TRef.ofBuf, cast_eq]
  after_results_simp
  rw [W4_args m ρ c main_arg4 (by decide)]

theorem v11 : W7 m ρ c main_v11 = piecesDown (m ((c : Thread nD τ).loc main_arg3)) := by
  simp only [W7, W6, W5, hostOps1, hostOps1_1, hostOps1_2, TRef.binary, TRef.nullary, TRef.unary, TRef.toBuf, TRef.ofBuf, cast_eq]
  after_results_simp
  rw [W4_args m ρ c main_arg3 (by decide)]
  rfl

theorem v8_0 : W7 m ρ c main_v8_0 = rows (truncf (F := Ideal) .bf16 (padded (m ((c : Thread nD τ).loc main_arg0))) bitsLt_bf16_f32)
    (pieces (m ((c : Thread nD τ).loc main_arg1))) := by
  rw [W7_of m ρ c _ (by decide), W6_of m ρ c _ (by decide), W5_of m ρ c _ (by decide)]
  refine (W4_arr m ρ c 3).trans ((gate_arr (V3 m ρ) c).trans ?_)
  rw [V3, v1, V3, v4]

theorem v8_1 : W7 m ρ c main_v8_1 = rows (truncf (F := Ideal) .bf16 (padded (m ((c : Thread nD τ).loc main_arg0))) bitsLt_bf16_f32)
    (pieces (m ((c : Thread nD τ).loc main_arg2))) := by
  rw [W7_of m ρ c _ (by decide), W6_of m ρ c _ (by decide), W5_of m ρ c _ (by decide)]
  refine (W4_arr m ρ c 4).trans ((up_arr (V3 m ρ) c).trans ?_)
  rw [V3, v1, V3, v7]

end Cert.GateIdeal.Entry

end
-- ==== Proof.Finite.lean ====
/- Finite values among the extended reals: what a finite argument array gives at each entry, and how finiteness passes
   through sums and products. -/
module

public import Idealize.ShloMosaic.Lib.Pointwise
public import Idealize.ShloMosaic.Lib.ReduceAll

@[expose] public section

noncomputable section

namespace Cert.Finite

open Idealize.ShloMosaic

/-- A value that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsReal.ite {p : Prop} [Decidable p] {x y : EReal} (hx : IsReal x) (hy : IsReal y) : IsReal (if p then x else y) := by
  split <;> assumption

/-- A magnitude below infinity is a real number's. -/
theorem isReal_of_abs_lt {x : EReal} (h : max x (-x) < ⊤) : IsReal x := by
  induction x with
  | bot => simp at h
  | top => simp at h
  | coe r => exact ⟨r, rfl⟩

/-- The float word of infinity is `⊤`. -/
theorem ofBits_inf : Ideal.ofBits .f32 0x7F800000#32 = ⊤ := by
  simp [Ideal.ofBits, Ideal.ieee]

/-- A test "every magnitude is below infinity" that comes out true, read at one entry. -/
theorem isReal_of_all {s t u z : Shape} {axes : List (Fin s.rank)} {dims : Fin z.rank → Fin s.rank} [Subsingleton t.Idx] (a : FVec Ideal s .f32)
    (hb : z.BroadcastsInDim s dims) (init : IVec u 1) (h : s.ReducesTo axes t) (hu : 0 < u.numel) (j : t.Idx)
    (e : Host.reduce IntOp.andi (cmpf .olt (Host.absf a) (broadcastInDim s dims hb (constant z .f32 0x7F800000#32))) init h hu j = 1#1)
    (i : s.Idx) : IsReal (a i) := by
  have hi := Host.reduce_andi_all _ init h hu j e i
  refine isReal_of_abs_lt ?_
  change BitVec.ofBool (decide (max (a i) (-(a i)) < Ideal.ofBits .f32 0x7F800000#32)) = 1#1 at hi
  rw [ofBits_inf] at hi
  by_contra hn
  rw [decide_eq_false hn] at hi
  exact absurd hi (by decide)

end Cert.Finite

end
-- ==== Proof.GateMath.lean ====
/- The gate's derivative over the extended reals: the call's form against the derivative of `g · σ(g)`. -/
module

public import proofs.«01_k».proof.Proof.Finite

@[expose] public section

noncomputable section

namespace Cert.GateMath

open Idealize.ShloMosaic Cert.Finite

theorem half : Ideal.ofBits .f32 0x3F000000#32 = ((1 / 2 : ℝ) : EReal) := by
  simp [Ideal.ofBits, Ideal.ieee]
  norm_num [← EReal.coe_mul]

/-- The logistic function as the reference spells it. -/
def logi (g : EReal) : EReal := Ideal.div 1 (1 + Ideal.exp (-g))

theorem logi_coe (r : ℝ) : logi r = (((1 + Real.exp (-r))⁻¹ : ℝ) : EReal) := Ideal.logistic_coe r
theorem logi_top : logi ⊤ = 1 := Ideal.logistic_top
theorem logi_bot : logi ⊥ = 0 := Ideal.logistic_bot

/-- The half-angle form of the logistic function, everywhere. -/
theorem half_tanh (g : EReal) :
    Ideal.ofBits .f32 0x3F000000#32 * Ideal.tanh (Ideal.ofBits .f32 0x3F000000#32 * g) + Ideal.ofBits .f32 0x3F000000#32 = logi g := by
  rw [half]
  induction g with
  | bot =>
    rw [EReal.coe_mul_bot_of_pos (by norm_num), logi_bot, Ideal.tanh_bot]
    norm_num [← EReal.coe_neg, ← EReal.coe_one, ← EReal.coe_mul, ← EReal.coe_add]
  | top =>
    rw [EReal.coe_mul_top_of_pos (by norm_num), logi_top, Ideal.tanh_top]
    norm_num [← EReal.coe_add]
  | coe r =>
    rw [← EReal.coe_mul, Ideal.tanh_coe, ← EReal.coe_mul, ← EReal.coe_add, logi_coe]
    congr 1
    rw [Real.tanh_eq_sinh_div_cosh, Real.sinh_eq, Real.cosh_eq]
    have h1 : Real.exp (1 / 2 * r) ≠ 0 := (Real.exp_pos _).ne'
    have h2 : Real.exp (-r) = (Real.exp (1 / 2 * r))⁻¹ * (Real.exp (1 / 2 * r))⁻¹ := by
      rw [← Real.exp_neg, ← Real.exp_add]; congr 1; ring
    have h3 := Real.exp_pos (1 / 2 * r)
    rw [h2, Real.exp_neg]
    generalize Real.exp (1 / 2 * r) = e at h1 h3
    have : e * e + 1 ≠ 0 := by positivity
    field_simp
    ring

/-- The two forms of the derivative in the gate, at a finite cotangent `d` and a finite factor `u`. -/
theorem derivative (g : EReal) {d u : EReal} (hd : IsReal d) (hu : IsReal u) :
    d * u * (logi g * (1 + g * (1 - logi g))) = d * u * logi g + g * (d * u) * (logi g * (1 - logi g)) := by
  obtain ⟨a, ha⟩ := hd.mul hu
  rw [ha]
  induction g with
  | bot => simp [logi_bot]
  | top =>
    rw [logi_top, show (1 : EReal) - 1 = 0 from by rw [← EReal.coe_one, ← EReal.coe_sub]; simp]
    simp
  | coe r =>
    rw [logi_coe]
    simp only [← EReal.coe_one, ← EReal.coe_sub, ← EReal.coe_mul, ← EReal.coe_add]
    congr 1
    ring

end Cert.GateMath

end
-- ==== Proof.GateEquation.lean ====
/- The gate's two calls against the derivative of the reference's lines: the same arrays where the activations, the up
   and down projections and the cotangent are finite. -/
module

public import proofs.«01_k».proof.Proof.GateEntry
public import proofs.«01_k».proof.Proof.GateMath
public import proofs.«01_k».proof.Proof.Gen.GateRefIdeal.Read
public import proofs.«01_k».proof.Proof.Gen.Pre_gate_finite

@[expose] public section

set_option maxRecDepth 16384

noncomputable section

namespace Cert.GateEquation

open Cert.GateIdeal Cert.GateIdeal.Gen Cert.GateIdeal.Blocks Cert.GateIdeal.Entry Cert.Finite Cert.GateMath
open Idealize.ShloMosaic Idealize.ShloMosaic.TcCoe Idealize.SL.Sem
open Cert.GateRefIdeal.Read

/-- The precondition, entry by entry. -/
theorem finite_of_pre {X0 : FVec Ideal S4112x1024 .f32} {X1 X2 : FVec Ideal S1024x2816 .f32} {X3 : FVec Ideal S2816x1024 .f32}
    {X4 : FVec Ideal S4112x1024 .f32} (h : Cert.Pre_gate_finite.fn (F := Ideal) X0 X1 X2 X3 X4 = fun _ => 1#1) :
    (∀ i, IsReal (X0 i)) ∧ (∀ i, IsReal (X2 i)) ∧ (∀ i, IsReal (X3 i)) ∧ ∀ i, IsReal (X4 i) := by
  have h0 := congrFun h (fun a => a.elim0)
  unfold Cert.Pre_gate_finite.fn Cert.Pre_gate_finite.fn_part1 at h0
  simp only [andi, IntOp.andi_eq_one] at h0
  obtain ⟨⟨⟨a, b⟩, c⟩, d⟩ := h0
  haveI : Subsingleton Cert.Pre_gate_finite.S_.Idx := ⟨fun i j => funext fun a => a.elim0⟩
  exact ⟨isReal_of_all _ _ _ _ _ _ a, isReal_of_all _ _ _ _ _ _ b, isReal_of_all _ _ _ _ _ _ c, isReal_of_all _ _ _ _ _ _ d⟩

variable (X0 : FVec Ideal S4112x1024 .f32) (X1 X2 : FVec Ideal S1024x2816 .f32) (X3 : FVec Ideal S2816x1024 .f32)
  (X4 : FVec Ideal S4112x1024 .f32)

theorem dup_eq (j : S4224x2816.Idx) :
    dup (padded X4) (piecesDown X3) (rows (truncf (F := Ideal) .bf16 (padded X0) bitsLt_bf16_f32) (pieces X1)) j
      = val_main_v12 (F := Ideal) X0 X1 X3 X4 j := by
  idx_vars j
  unfold dup sgm
  rw [half_tanh, rows_at, down_at]
  pointwise [val_main_v12, val_main_v11, val_main_v6, val_main_v5, val_main_v2_0, val_main_v2_2, val_main_v0, val_main_call0_v0, val_main_call0_v1, val_main_call0_v2, val_main_call0_v3, val_main_call0_v4, val_main_call0_cst, val_main_call0_cst_0, val_main_call3_v0, val_main_c_0, logi]
  rw [zero_word]
  by_cases h : j0.val < 4112
  · simp only [dif_pos h]
    exact mul_comm _ _
  · simp only [dif_neg h, zero_mul, Finset.sum_const_zero, mul_zero, add_zero]

theorem dgate_eq (h0 : ∀ i, IsReal (X0 i)) (h2 : ∀ i, IsReal (X2 i)) (h3 : ∀ i, IsReal (X3 i)) (h4 : ∀ i, IsReal (X4 i))
    (j : S4224x2816.Idx) :
    dgate (padded X4) (piecesDown X3) (rows (truncf (F := Ideal) .bf16 (padded X0) bitsLt_bf16_f32) (pieces X1))
        (rows (truncf (F := Ideal) .bf16 (padded X0) bitsLt_bf16_f32) (pieces X2)) j
      = val_main_v10 (F := Ideal) X0 X1 X2 X3 X4 j := by
  idx_vars j
  unfold dgate sgm
  rw [half_tanh, rows_at, down_at, rows_at,
    derivative _ (IsReal.sum _ _ fun k _ => .mul (by split; exacts [h4 _, .zero]) (h3 _))
      (IsReal.sum _ _ fun k _ => .mul (by split; exacts [h0 _, .zero]) (h2 _))]
  pointwise [val_main_v10, val_main_v9, val_main_v8, val_main_v7, val_main_v5, val_main_v1, val_main_v2_1, val_main_v2_2, val_main_v0, val_main_call0_v0, val_main_call0_v1, val_main_call0_v2, val_main_call0_v3, val_main_call0_v4, val_main_call0_v6, val_main_call0_v7, val_main_call0_cst, val_main_call0_cst_0, val_main_call0_cst_1, val_main_call1_v0, val_main_call1_v1, val_main_call1_v2, val_main_call2_v0, val_main_c, logi]
  rw [zero_word]
  by_cases h : j0.val < 4112
  · simp only [dif_pos h]
  · simp only [dif_neg h, zero_mul, Finset.sum_const_zero, mul_zero, add_zero]

end Cert.GateEquation

end
-- ==== Proof.GateClaim.lean ====
/- The gate's claim against its reference, from the run of both calls and the arrays' equation. -/
module

public import proofs.«01_k».proof.Defs
public import proofs.«01_k».proof.Proof.GateRun
public import proofs.«01_k».proof.Proof.GateEquation
public import proofs.«01_k».proof.Proof.Gen.GateRefIdeal.Run
public import proofs.«01_k».proof.Proof.Gen.GateIdeal
public import proofs.«01_k».proof.Proof.Gen.GateRefIdeal

@[expose] public section

set_option maxRecDepth 16384

noncomputable section

namespace Cert.GateClaim

open Cert.GateIdeal Cert.GateIdeal.Gen Cert.GateIdeal.Blocks Cert.GateIdeal.Entry Cert.GateEquation
open Idealize.ShloMosaic Idealize.ShloMosaic.TcCoe Idealize.SL.Sem

/-- The calls end with the reference's two arrays. -/
theorem run (m : (ℓ : Loc nD τ sig) → Buf (Elt Ideal) ℓ) (ρ : Dev nD → PrngReg)
    (hpre : Cert.Pre_GateIdeal_gate_finite m) :
    θ_run defs (onTc (τ := τ) (main (F := Ideal))) ⟨m, fun _ => 0, ρ⟩ (fun r => ∀ c : Dev nD,
      r.2.mem ((c.tc : Thread nD τ).loc main_v12_0) = Cert.GateRefIdeal.Read.val_main_v10 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v12_1) = Cert.GateRefIdeal.Read.val_main_v12 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨h0, h2, h3, h4⟩ := finite_of_pre (hpre c)
    refine ⟨(h c _ (mem_uc main_v12_0 (by decide))).trans ((W8_arr m ρ c 4).trans ((dgate_arr (V7 m ρ) c).trans ?_)),
      (h c _ (mem_uc main_v12_1 (by decide))).trans ((W8_arr m ρ c 5).trans ((dup_arr (V7 m ρ) c).trans ?_)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c)⟩
    · rw [V7, v9, V7, v11, V7, v8_0, V7, v8_1]
      exact funext fun j => dgate_eq _ _ _ _ _ h0 h2 h3 h4 j
    · rw [V7, v9, V7, v11, V7, v8_0]
      exact funext fun j => dup_eq _ _ _ _ j) (Cert.GateIdeal.Whole.run m ρ)

theorem algebraic : Cert.algebraic_GateIdeal_GateRefIdeal_pre_gate_finite :=
  fun m ρ m' ρ' hpre hag => ⟨_, _, run m ρ hpre, (θ_run _ _ _).mono (fun _ h c => by
    obtain ⟨a0, a1, a2, a3, a4⟩ := hag c
    obtain ⟨r0, r1, h'⟩ := h c
    refine ⟨r0.trans ?_, r1.trans ?_, h'⟩
    · rw [a0, a1, a2, a3, a4]; rfl
    · rw [a0, a1, a3, a4]; rfl) (Cert.GateRefIdeal.Value.run m' ρ')⟩

/-- The reference ends without fault, its arguments as they were. -/
theorem frame_ref : Cert.quiescent_GateRefIdeal := fun m ρ _ =>
  (θ_run Cert.GateRefIdeal.defs _ _).mono (fun r h => ⟨fun c => (h c).2.2, sem_eq_zero_of_no_sems (by decide) r.2⟩)
    (Cert.GateRefIdeal.Value.run (F := Ideal) m ρ)

end Cert.GateClaim

end
-- ==== Proof.FwdRun.lean ====
/- The body of the forward attention at one grid point: what it leaves in its three output buffers, as the list of its
   stores, found by the run. The four counted loops go through their generated invariants. -/
module

public import proofs.«01_k».proof.Proof.Gen.AttnIdeal.Loops
public import proofs.«01_k».proof.Proof.Gen.AttnIdeal.Launch
public import Idealize.ShloMosaic.Lib.Pipeline.FrameBody
public import Idealize.ShloMosaic.Lib.Ring

@[expose] public section

set_option maxRecDepth 8192
set_option maxHeartbeats 4000000

noncomputable section

namespace Cert.AttnFwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body at a grid point, on buffers with the contents `x2`, `x3`, `x4`: the lists of its stores into the
    three output buffers, and that the body leaves them. -/
@[irreducible] def run (c : Dev nD) (i : grid0.Coords)
    (arg2 : Memref sig .tc .vmem S384x256 .bf16) (harg2 : arg2.IsWhole) (arg3 : Memref sig .tc .vmem S4224x256 .bf16) (harg3 : arg3.IsWhole)
    (arg4 : Memref sig .tc .vmem S4224x128 .bf16) (harg4 : arg4.IsWhole) (arg5 : Memref sig .tc .hbm S4224x1024 .bf16) (harg5 : arg5.IsWhole)
    (arg6 : Memref sig .tc .vmem S384x128 .f32) (harg6 : arg6.IsWhole) (arg7 : Memref sig .tc .vmem S384x128 .f32) (harg7 : arg7.IsWhole)
    (arg8 : Memref sig .tc .vmem S384x128 .bf16) (harg8 : arg8.IsWhole)
    (x2 : Vec F S384x256 .bf16) (x3 : Vec F S4224x256 .bf16) (x4 : Vec F S4224x128 .bf16) :
    Σ' (L6 : List (View.Piece (Elt F) S384x128 .f32)) (L7 : List (View.Piece (Elt F) S384x128 .f32)),
      { L8 : List (View.Piece (Elt F) S384x128 .bf16) //
        ∀ (f6 : BufTy.Contents (Elt F) arg6.view.ty) (f7 : BufTy.Contents (Elt F) arg7.view.ty) (f8 : BufTy.Contents (Elt F) arg8.view.ty)
          (E : Set ℕ) (K : PUnit → sProp 𝕄),
          iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4)
              ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
              ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4)
                  ∗ (∃ g, arg6.view.loc (c : Thread nD τ) ↦[arg6.view.set]{fullShare} arg6.view.writes (Elt F) g L6) ∗ (∃ g, arg7.view.loc (c : Thread nD τ) ↦[arg7.view.set]{fullShare} arg7.view.writes (Elt F) g L7)
                  ∗ (∃ g, arg8.view.loc (c : Thread nD τ) ↦[arg8.view.set]{fullShare} arg8.view.writes (Elt F) g L8)) -∗ K ⟨⟩))
            ⊢ wp frame (wpE (defs₀ (F := F)) Variants.none (c : Thread nD τ) none) E (cc0_attn_fwd (F := F) i arg2 harg2 arg3 harg3 arg4 harg4 arg5 harg5 arg6 harg6 arg7 harg7 arg8 harg8) K } := by
  refine ⟨?_, ?_, ?_, fun f6 f7 f8 E K => ?run⟩
  case run =>
    simp only [cc0_attn_fwd_eq_skeleton]; unfold cc0_attn_fwd_skel
    simp only [k0_part5_eq_skeleton, k0_part6_eq_skeleton]
    iintro ⟨H2, H3, H4, H6, H7, H8, Hk⟩
    sl_exec
    sl_step
    iapply Hk
    isplitl [H2]; · iexact H2
    isplitl [H3]; · iexact H3
    isplitl [H4]; · iexact H4
    isplitl [H6]; · iexists _; iexact H6
    isplitl [H7]; · iexists _; iexact H7
    iexists _; iexact H8

/-! Each output buffer is stored whole, once. -/

section
variable (c : Dev nD) (i : grid0.Coords)
    (arg2 : Memref sig .tc .vmem S384x256 .bf16) (harg2 : arg2.IsWhole) (arg3 : Memref sig .tc .vmem S4224x256 .bf16) (harg3 : arg3.IsWhole)
    (arg4 : Memref sig .tc .vmem S4224x128 .bf16) (harg4 : arg4.IsWhole) (arg5 : Memref sig .tc .hbm S4224x1024 .bf16) (harg5 : arg5.IsWhole)
    (arg6 : Memref sig .tc .vmem S384x128 .f32) (harg6 : arg6.IsWhole) (arg7 : Memref sig .tc .vmem S384x128 .f32) (harg7 : arg7.IsWhole)
    (arg8 : Memref sig .tc .vmem S384x128 .bf16) (harg8 : arg8.IsWhole)
    (x2 : Vec F S384x256 .bf16) (x3 : Vec F S4224x256 .bf16) (x4 : Vec F S4224x128 .bf16)

theorem cover6 (y : S384x128.Idx) : ∃ pc ∈ (run c i arg2 harg2 arg3 harg3 arg4 harg4 arg5 harg5 arg6 harg6 arg7 harg7 arg8 harg8 x2 x3 x4).1, y ∈ pc.1.set := by
  unfold run; exact View.cover_of_tiledBy _ S384x128.size (by sl_kernel_rfl) y
theorem cover7 (y : S384x128.Idx) : ∃ pc ∈ (run c i arg2 harg2 arg3 harg3 arg4 harg4 arg5 harg5 arg6 harg6 arg7 harg7 arg8 harg8 x2 x3 x4).2.1, y ∈ pc.1.set := by
  unfold run; exact View.cover_of_tiledBy _ S384x128.size (by sl_kernel_rfl) y
theorem cover8 (y : S384x128.Idx) : ∃ pc ∈ (run c i arg2 harg2 arg3 harg3 arg4 harg4 arg5 harg5 arg6 harg6 arg7 harg7 arg8 harg8 x2 x3 x4).2.2.1, y ∈ pc.1.set := by
  unfold run; exact View.cover_of_tiledBy _ S384x128.size (by sl_kernel_rfl) y

/-- What the body leaves in each output buffer. -/
def out6 : Vec F S384x128 .f32 := View.canon (run c i arg2 harg2 arg3 harg3 arg4 harg4 arg5 harg5 arg6 harg6 arg7 harg7 arg8 harg8 x2 x3 x4).1
def out7 : Vec F S384x128 .f32 := View.canon (run c i arg2 harg2 arg3 harg3 arg4 harg4 arg5 harg5 arg6 harg6 arg7 harg7 arg8 harg8 x2 x3 x4).2.1
def out8 : Vec F S384x128 .bf16 := View.canon (run c i arg2 harg2 arg3 harg3 arg4 harg4 arg5 harg5 arg6 harg6 arg7 harg7 arg8 harg8 x2 x3 x4).2.2.1

end

end Cert.AttnFwd

end
-- ==== Proof.FwdFrame.lean ====
/- The forward attention's call as a pipeline: what each window's buffer holds before and after the body at every grid
   point, and that the body keeps to it. -/
module

public import proofs.«01_k».proof.Proof.FwdRun
public import proofs.«01_k».proof.Proof.Gen.AttnIdeal.Points

@[expose] public section

set_option maxRecDepth 16384
set_option maxHeartbeats 4000000

noncomputable section

namespace Cert.AttnFwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blkIn (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0 (t : Fin cfg0.N) : Memref sig .tc .vmem S384x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4224x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4224x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S384x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S384x128 .bf16 := win0_5.stage (cfg0.slots t 5)
abbrev hs5 (t : Fin cfg0.N) : (ms5 t).IsWhole := hstage0_5 ((cfg0.slots t 5).cast nbuf0_5)

/-- What the body leaves in output window 3, 4 and 5 at point `t`. -/
def res3 (c : Dev nD) (t : Fin cfg0.N) : Vec F S384x128 .f32 :=
  out6 c (grid0.coords t) (ms0 t) (hs0 t) (ms1 t) (hs1 t) (ms2 t) (hs2 t) (Memref.whole main_v21) (Memref.isWhole_whole _) (ms3 t) (hs3 t) (ms4 t) (hs4 t) (ms5 t) (hs5 t) (blkIn V c 0 t) (blkIn V c 1 t) (blkIn V c 2 t)
def res4 (c : Dev nD) (t : Fin cfg0.N) : Vec F S384x128 .f32 :=
  out7 c (grid0.coords t) (ms0 t) (hs0 t) (ms1 t) (hs1 t) (ms2 t) (hs2 t) (Memref.whole main_v21) (Memref.isWhole_whole _) (ms3 t) (hs3 t) (ms4 t) (hs4 t) (ms5 t) (hs5 t) (blkIn V c 0 t) (blkIn V c 1 t) (blkIn V c 2 t)
def res5 (c : Dev nD) (t : Fin cfg0.N) : Vec F S384x128 .bf16 :=
  out8 c (grid0.coords t) (ms0 t) (hs0 t) (ms1 t) (hs1 t) (ms2 t) (hs2 t) (Memref.whole main_v21) (Memref.isWhole_whole _) (ms3 t) (hs3 t) (ms4 t) (hs4 t) (ms5 t) (hs5 t) (blkIn V c 0 t) (blkIn V c 1 t) (blkIn V c 2 t)

/-- The proof data of the call's pipeline: the arrays as found; after the body each input's buffer at its block, each
    output's at what the body leaves. -/
def dat (c : Dev nD) : Dat τ (Elt F) Unit ℕ (UR sig nD τ) ℕ cfg0 c where
  A w := V c (Pipeline.arrRef spec0 w)
  after w t := match w with
    | ⟨0, _⟩ => blkIn V c 0 t
    | ⟨1, _⟩ => blkIn V c 1 t
    | ⟨2, _⟩ => blkIn V c 2 t
    | ⟨3, _⟩ => res3 V c t
    | ⟨4, _⟩ => res4 V c t
    | ⟨5, _⟩ => res5 V c t
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = blkIn V c 0 t := by dsimp only [dat]
theorem after_1 (c : Dev nD) (t : Fin cfg0.N) : (dat V c).after 1 t = blkIn V c 1 t := by dsimp only [dat]
theorem after_2 (c : Dev nD) (t : Fin cfg0.N) : (dat V c).after 2 t = blkIn V c 2 t := by dsimp only [dat]
theorem after_3 (c : Dev nD) (t : Fin cfg0.N) : (dat V c).after 3 t = res3 V c t := by dsimp only [dat]
theorem after_4 (c : Dev nD) (t : Fin cfg0.N) : (dat V c).after 4 t = res4 V c t := by dsimp only [dat]
theorem after_5 (c : Dev nD) (t : Fin cfg0.N) : (dat V c).after 5 t = res5 V c t := by dsimp only [dat]

/-! Each input's buffer holds its block at every point, fetched there or kept from the point before. -/

theorem before_0 (c : Dev nD) (t : Fin cfg0.N) (d) : (dat V c).before 0 t d = blkIn V c 0 t :=
  ((dat V c).before_in_eq_fetched 0 rfl (fun _ => rfl) (fun _ _ _ => rfl)
    (fun t => by rw [after_0]; unfold Dat.blockOf blkIn; rw [A_eq]; try rfl) t d).trans
    (by unfold Dat.fetched Dat.blockOf blkIn; rw [A_eq]; try rfl)
theorem before_1 (c : Dev nD) (t : Fin cfg0.N) (d) : (dat V c).before 1 t d = blkIn V c 1 t :=
  ((dat V c).before_in_eq_fetched 1 rfl (fun _ => rfl) (fun _ _ _ => rfl)
    (fun t => by rw [after_1]; unfold Dat.blockOf blkIn; rw [A_eq]; try rfl) t d).trans
    (by unfold Dat.fetched Dat.blockOf blkIn; rw [A_eq]; try rfl)
theorem before_2 (c : Dev nD) (t : Fin cfg0.N) (d) : (dat V c).before 2 t d = blkIn V c 2 t :=
  ((dat V c).before_in_eq_fetched 2 rfl (fun _ => rfl) (fun _ _ _ => rfl)
    (fun t => by rw [after_2]; unfold Dat.blockOf blkIn; rw [A_eq]; try rfl) t d).trans
    (by unfold Dat.fetched Dat.blockOf blkIn; rw [A_eq]; try rfl)

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  unfold owns
  iintro ⟨HΦ, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  obtain rfl := (hs0 t).eq_unread e0
  obtain rfl := (hs1 t).eq_unread e1
  obtain rfl := (hs2 t).eq_unread e2
  iapply ((run c (grid0.coords t) (ms0 t) (hs0 t) (ms1 t) (hs1 t) (ms2 t) (hs2 t) (Memref.whole main_v21) (Memref.isWhole_whole _) (ms3 t) (hs3 t) (ms4 t) (hs4 t) (ms5 t) (hs5 t) (blkIn V c 0 t) (blkIn V c 1 t) (blkIn V c 2 t)).2.2.2 f3 f4 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, ⟨%g3, H3⟩, ⟨%g4, H4⟩, ⟨%g5, H5⟩⟩
  isplitl [HΦ]; · iexact HΦ
  isplitl [Ho]; · iexact Ho
  isplitl [H0]
  · iexists _; isplitr
    swap; · iexact H0
    ipureintro; exact (hs0 t).read_unread _
  isplitl [H1]
  · iexists _; isplitr
    swap; · iexact H1
    ipureintro; exact (hs1 t).read_unread _
  isplitl [H2]
  · iexists _; isplitr
    swap; · iexact H2
    ipureintro; exact (hs2 t).read_unread _
  isplitl [H3]
  · iexists _; isplitr
    swap; · iexact H3
    ipureintro; exact View.read_writes_eq_canon _ _ _ (cover6 c _ (ms0 t) (hs0 t) (ms1 t) (hs1 t) (ms2 t) (hs2 t) (Memref.whole main_v21) (Memref.isWhole_whole _) (ms3 t) (hs3 t) (ms4 t) (hs4 t) (ms5 t) (hs5 t) (blkIn V c 0 t) (blkIn V c 1 t) (blkIn V c 2 t))
  isplitl [H4]
  · iexists _; isplitr
    swap; · iexact H4
    ipureintro; exact View.read_writes_eq_canon _ _ _ (cover7 c _ (ms0 t) (hs0 t) (ms1 t) (hs1 t) (ms2 t) (hs2 t) (Memref.whole main_v21) (Memref.isWhole_whole _) (ms3 t) (hs3 t) (ms4 t) (hs4 t) (ms5 t) (hs5 t) (blkIn V c 0 t) (blkIn V c 1 t) (blkIn V c 2 t))
  iexists _; isplitr
  swap; · iexact H5
  ipureintro; exact View.read_writes_eq_canon _ _ _ (cover8 c _ (ms0 t) (hs0 t) (ms1 t) (hs1 t) (ms2 t) (hs2 t) (Memref.whole main_v21) (Memref.isWhole_whole _) (ms3 t) (hs3 t) (ms4 t) (hs4 t) (ms5 t) (hs5 t) (blkIn V c 0 t) (blkIn V c 1 t) (blkIn V c 2 t))

theorem defs₀_row (t : Fin cfg0.N) : defs₀ (F := F) .tc cfg0.body (cfg0.bodyArgs t (cfg0.slots t)) = bodyAt0 t := by
  unfold defs₀; rw [Defs.onTc_tc]

/-- The body obligation of the call's pipeline, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.AttnFwd

end
-- ==== Proof.BwdOffsets.lean ====
/- The rows the backward attention's steps address, in closed form: the step of a grid point `(p, j)` that
   starts at row block `t` reads and writes the rows from `384 t` on. -/
module

public import proofs.«01_k».proof.Proof.Gen.AttnIdeal.Loops

@[expose] public section

set_option maxRecDepth 16384

noncomputable section

namespace Cert.AttnBwd

open Cert.AttnIdeal Cert.AttnIdeal.Gen Idealize.ShloMosaic

/-- The second of each pair of loops has no trip. -/
theorem trips2 : ∀ i : grid1.Coords, (k1_t2_loop i).trips = 0 := by decide +kernel
theorem trips4 : ∀ i : grid1.Coords, (k1_t4_loop i).trips = 0 := by decide +kernel
theorem trips1 : ∀ i : grid1.Coords, (k1_t1_loop i).trips = (9 - (i 1).val) / 2 := by decide +kernel
theorem trips3 : ∀ i : grid1.Coords, k1_cond2 i = 1#1 → (k1_t3_loop i).trips = (9 - (i 1).val) % 2 := by decide +kernel

/-! The masked step of two row blocks. -/

theorem off1_eq : ∀ i : grid1.Coords, k1_off1 i = ![384 * (i 1).val, 0] := by decide +kernel
instance (i : grid1.Coords) : ClosedOff (k1_off1 i) := ⟨_, off1_eq i⟩
theorem off2_eq : ∀ i : grid1.Coords, k1_off2 i = ![384 * (i 1).val, 0] := by decide +kernel
instance (i : grid1.Coords) : ClosedOff (k1_off2 i) := ⟨_, off2_eq i⟩
theorem off3_eq : ∀ i : grid1.Coords, k1_off3 i = ![384 * (i 1).val, 0] := by decide +kernel
instance (i : grid1.Coords) : ClosedOff (k1_off3 i) := ⟨_, off3_eq i⟩
theorem off4_eq : ∀ i : grid1.Coords, k1_off4 i = ![384 * (i 1).val, 128] := by decide +kernel
instance (i : grid1.Coords) : ClosedOff (k1_off4 i) := ⟨_, off4_eq i⟩
theorem off5_eq : ∀ i : grid1.Coords, k1_off5 i = ![384 * (i 1).val, 64] := by decide +kernel
instance (i : grid1.Coords) : ClosedOff (k1_off5 i) := ⟨_, off5_eq i⟩

/-! The loop over two row blocks a trip. -/

theorem off6_eq : ∀ (i : grid1.Coords) (k : Fin (k1_t1_loop i).trips), k1_off6 i k = ![384 * ((i 1).val + 2) + 768 * k.val, 0] := by decide +kernel
instance (i : grid1.Coords) (k : Fin (k1_t1_loop i).trips) : ClosedOff (k1_off6 i k) := ⟨_, off6_eq i k⟩
theorem off7_eq : ∀ (i : grid1.Coords) (k : Fin (k1_t1_loop i).trips), k1_off7 i k = ![384 * ((i 1).val + 2) + 768 * k.val, 0] := by decide +kernel
instance (i : grid1.Coords) (k : Fin (k1_t1_loop i).trips) : ClosedOff (k1_off7 i k) := ⟨_, off7_eq i k⟩
theorem off8_eq : ∀ (i : grid1.Coords) (k : Fin (k1_t1_loop i).trips), k1_off8 i k = ![384 * ((i 1).val + 2) + 768 * k.val, 0] := by decide +kernel
instance (i : grid1.Coords) (k : Fin (k1_t1_loop i).trips) : ClosedOff (k1_off8 i k) := ⟨_, off8_eq i k⟩
theorem off9_eq : ∀ (i : grid1.Coords) (k : Fin (k1_t1_loop i).trips), k1_off9 i k = ![384 * ((i 1).val + 2) + 768 * k.val, 128] := by decide +kernel
instance (i : grid1.Coords) (k : Fin (k1_t1_loop i).trips) : ClosedOff (k1_off9 i k) := ⟨_, off9_eq i k⟩
theorem off10_eq : ∀ (i : grid1.Coords) (k : Fin (k1_t1_loop i).trips), k1_off10 i k = ![384 * ((i 1).val + 2) + 768 * k.val, 64] := by decide +kernel
instance (i : grid1.Coords) (k : Fin (k1_t1_loop i).trips) : ClosedOff (k1_off10 i k) := ⟨_, off10_eq i k⟩

/-! The row block left over, the last one. -/

theorem off16_eq : ∀ (i : grid1.Coords) (k : Fin (k1_t3_loop i).trips), k1_off16 i k = ![3840, 0] := by decide +kernel
instance (i : grid1.Coords) (k : Fin (k1_t3_loop i).trips) : ClosedOff (k1_off16 i k) := ⟨_, off16_eq i k⟩
theorem off17_eq : ∀ (i : grid1.Coords) (k : Fin (k1_t3_loop i).trips), k1_off17 i k = ![3840, 0] := by decide +kernel
instance (i : grid1.Coords) (k : Fin (k1_t3_loop i).trips) : ClosedOff (k1_off17 i k) := ⟨_, off17_eq i k⟩
theorem off18_eq : ∀ (i : grid1.Coords) (k : Fin (k1_t3_loop i).trips), k1_off18 i k = ![3840, 0] := by decide +kernel
instance (i : grid1.Coords) (k : Fin (k1_t3_loop i).trips) : ClosedOff (k1_off18 i k) := ⟨_, off18_eq i k⟩
theorem off19_eq : ∀ (i : grid1.Coords) (k : Fin (k1_t3_loop i).trips), k1_off19 i k = ![3840, 128] := by decide +kernel
instance (i : grid1.Coords) (k : Fin (k1_t3_loop i).trips) : ClosedOff (k1_off19 i k) := ⟨_, off19_eq i k⟩
theorem off20_eq : ∀ (i : grid1.Coords) (k : Fin (k1_t3_loop i).trips), k1_off20 i k = ![3840, 64] := by decide +kernel
instance (i : grid1.Coords) (k : Fin (k1_t3_loop i).trips) : ClosedOff (k1_off20 i k) := ⟨_, off20_eq i k⟩

/-! The masked step of the last row block. -/

theorem off26_eq : ∀ i : grid1.Coords, k1_off26 i = ![384 * (i 1).val, 0] := by decide +kernel
instance (i : grid1.Coords) : ClosedOff (k1_off26 i) := ⟨_, off26_eq i⟩
theorem off27_eq : ∀ i : grid1.Coords, k1_off27 i = ![384 * (i 1).val, 0] := by decide +kernel
instance (i : grid1.Coords) : ClosedOff (k1_off27 i) := ⟨_, off27_eq i⟩
theorem off28_eq : ∀ i : grid1.Coords, k1_off28 i = ![384 * (i 1).val, 0] := by decide +kernel
instance (i : grid1.Coords) : ClosedOff (k1_off28 i) := ⟨_, off28_eq i⟩
theorem off29_eq : ∀ i : grid1.Coords, k1_off29 i = ![384 * (i 1).val, 128] := by decide +kernel
instance (i : grid1.Coords) : ClosedOff (k1_off29 i) := ⟨_, off29_eq i⟩
theorem off30_eq : ∀ i : grid1.Coords, k1_off30 i = ![384 * (i 1).val, 64] := by decide +kernel
instance (i : grid1.Coords) : ClosedOff (k1_off30 i) := ⟨_, off30_eq i⟩

/-- The step at the diagonal has a key block after it; the last key block is number ten. -/
theorem cond2_le : ∀ i : grid1.Coords, k1_cond2 i = 1#1 → (i 1).val ≤ 9 := by decide +kernel
theorem cond3_eq : ∀ i : grid1.Coords, k1_cond3 i = 1#1 → (i 1).val = 10 := by decide +kernel

end Cert.AttnBwd

end
-- ==== Proof.BwdLoops.lean ====
/- The two loops of the backward attention that run: what one trip leaves in the three gradient buffers, and the
   invariant that before trip `k` they hold what the first `k` trips left. -/
module

public import proofs.«01_k».proof.Proof.BwdOffsets

@[expose] public section

set_option maxRecDepth 8192
set_option maxHeartbeats 4000000

noncomputable section

namespace Cert.AttnBwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (arg2 : Memref sig .tc .vmem S4224x256 .bf16) (harg2 : arg2.IsWhole) (arg3 : Memref sig .tc .vmem S384x256 .bf16) (harg3 : arg3.IsWhole)
  (arg4 : Memref sig .tc .vmem S384x128 .bf16) (harg4 : arg4.IsWhole) (arg5 : Memref sig .tc .vmem S4224x128 .f32) (harg5 : arg5.IsWhole)
  (arg6 : Memref sig .tc .vmem S4224x128 .f32) (harg6 : arg6.IsWhole) (arg7 : Memref sig .tc .vmem S4224x128 .f32) (harg7 : arg7.IsWhole)
  (arg8 : Memref sig .tc .vmem S4224x256 .f32) (harg8 : arg8.IsWhole) (arg9 : Memref sig .tc .vmem S384x256 .f32) (harg9 : arg9.IsWhole)
  (arg10 : Memref sig .tc .vmem S384x128 .f32) (harg10 : arg10.IsWhole)

/-- The six buffers a step reads. -/
abbrev Reads (c : Dev nD) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7))

/-- All nine buffers of a step. -/
abbrev Holds (c : Dev nD) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (X9 : BufTy.Contents (Elt F) arg9.view.ty)
    (X10 : BufTy.Contents (Elt F) arg10.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10))

/-- A function of the contents of the three gradient buffers. -/
abbrev Upd (α : Type) : Type :=
  BufTy.Contents (Elt F) arg8.view.ty → BufTy.Contents (Elt F) arg9.view.ty → BufTy.Contents (Elt F) arg10.view.ty → α

variable (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty)

/-- One trip over two row blocks: the gradient buffers it leaves, as functions of those it finds. -/
@[irreducible] def trip1 (c : Dev nD) (i : grid1.Coords) (h2 : k1_cond2 i = 1#1) (k : Fin (k1_t1_loop i).trips) :
    Σ' (L8 : Upd (F := F) arg8 arg9 arg10 (List (View.Piece (Elt F) S4224x256 .f32))) (L9 : Upd (F := F) arg8 arg9 arg10 (List (View.Piece (Elt F) S384x256 .f32))),
      { L10 : Upd (F := F) arg8 arg9 arg10 (List (View.Piece (Elt F) S384x128 .f32)) //
        ∀ (arg1 v23 : BitVec 32) (v73 : FVec F S384x128 .f32) (v76 : FVec F S768x128 .bf16) (v78 : FVec F S384x128 .bf16) (v82 : FVec F S768x128 .bf16) (v94 : FVec F S768x384 .f32) (v102 : FVec F S768x384 .bf16) (v124 : BitVec 32)
          (f8 : BufTy.Contents (Elt F) arg8.view.ty) (f9 : BufTy.Contents (Elt F) arg9.view.ty) (f10 : BufTy.Contents (Elt F) arg10.view.ty) (E : Set ℕ),
          Holds (F := F) arg2 arg3 arg4 arg5 arg6 arg7 arg8 arg9 arg10 c X2 X3 X4 X5 X6 X7 f8 f9 f10
            ⊢ wp frame (wpE (defs₀ (F := F)) Variants.none (c : Thread nD τ) none) E
                (k1_t1_body (F := F) i arg2 harg2 arg3 harg3 arg4 harg4 arg5 harg5 arg6 harg6 arg7 harg7 arg8 harg8 arg9 harg9 arg10 harg10 arg1 h2 v23 v73 v76 v78 v82 v94 v102 v124 k ())
                (fun _ => Holds (F := F) arg2 arg3 arg4 arg5 arg6 arg7 arg8 arg9 arg10 c X2 X3 X4 X5 X6 X7
                  (arg8.view.writes (Elt F) f8 (L8 f8 f9 f10)) (arg9.view.writes (Elt F) f9 (L9 f8 f9 f10)) (arg10.view.writes (Elt F) f10 (L10 f8 f9 f10))) } := by
  refine ⟨?_, ?_, ?_, fun arg1 v23 v73 v76 v78 v82 v94 v102 v124 f8 f9 f10 E => ?run⟩
  case run =>
    unfold k1_t1_body
    iintro ⟨H2, H3, H4, H5, H6, H7, H8, H9, H10⟩
    sl_exec
    sl_step
    sl_close

/-- One trip over the row block left over: the gradient buffers it leaves, as functions of those it finds. -/
@[irreducible] def trip3 (c : Dev nD) (i : grid1.Coords) (h2 : k1_cond2 i = 1#1) (k : Fin (k1_t3_loop i).trips) :
    Σ' (L8 : Upd (F := F) arg8 arg9 arg10 (List (View.Piece (Elt F) S4224x256 .f32))) (L9 : Upd (F := F) arg8 arg9 arg10 (List (View.Piece (Elt F) S384x256 .f32))),
      { L10 : Upd (F := F) arg8 arg9 arg10 (List (View.Piece (Elt F) S384x128 .f32)) //
        ∀ (v132 : BitVec 32)
          (f8 : BufTy.Contents (Elt F) arg8.view.ty) (f9 : BufTy.Contents (Elt F) arg9.view.ty) (f10 : BufTy.Contents (Elt F) arg10.view.ty) (E : Set ℕ),
          Holds (F := F) arg2 arg3 arg4 arg5 arg6 arg7 arg8 arg9 arg10 c X2 X3 X4 X5 X6 X7 f8 f9 f10
            ⊢ wp frame (wpE (defs₀ (F := F)) Variants.none (c : Thread nD τ) none) E
                (k1_t3_body (F := F) i arg2 harg2 arg3 harg3 arg4 harg4 arg5 harg5 arg6 harg6 arg7 harg7 arg8 harg8 arg9 harg9 arg10 harg10 h2 v132 k ())
                (fun _ => Holds (F := F) arg2 arg3 arg4 arg5 arg6 arg7 arg8 arg9 arg10 c X2 X3 X4 X5 X6 X7
                  (arg8.view.writes (Elt F) f8 (L8 f8 f9 f10)) (arg9.view.writes (Elt F) f9 (L9 f8 f9 f10)) (arg10.view.writes (Elt F) f10 (L10 f8 f9 f10))) } := by
  refine ⟨?_, ?_, ?_, fun v132 f8 f9 f10 E => ?run⟩
  case run =>
    unfold k1_t3_body
    iintro ⟨H2, H3, H4, H5, H6, H7, H8, H9, H10⟩
    sl_exec
    sl_step
    sl_close

/-- The loop over two row blocks: the writes of its first `n` trips into the three buffers, from the contents it finds. -/
def pb1 (c : Dev nD) (i : grid1.Coords) (h2 : k1_cond2 i = 1#1) (f8 : BufTy.Contents (Elt F) arg8.view.ty) (f9 : BufTy.Contents (Elt F) arg9.view.ty) (f10 : BufTy.Contents (Elt F) arg10.view.ty) : ℕ → List (View.Piece (Elt F) S4224x256 .f32) × List (View.Piece (Elt F) S384x256 .f32) × List (View.Piece (Elt F) S384x128 .f32)
  | 0 => ([], [], [])
  | n + 1 =>
    let b := pb1 c i h2 f8 f9 f10 n
    if h : n < (k1_t1_loop i).trips then
      let T := trip1 (F := F) arg2 harg2 arg3 harg3 arg4 harg4 arg5 harg5 arg6 harg6 arg7 harg7 arg8 harg8 arg9 harg9 arg10 harg10 X2 X3 X4 X5 X6 X7 c i h2 ⟨n, h⟩
      let g8 := arg8.view.writes (Elt F) f8 b.1
      let g9 := arg9.view.writes (Elt F) f9 b.2.1
      let g10 := arg10.view.writes (Elt F) f10 b.2.2
      (T.1 g8 g9 g10 ++ b.1, T.2.1 g8 g9 g10 ++ b.2.1, T.2.2.1 g8 g9 g10 ++ b.2.2)
    else b

/-- What the buffers hold before trip `n`. -/
@[reducible] def at1_8 (c : Dev nD) (i : grid1.Coords) (h2 : k1_cond2 i = 1#1) (f8 : BufTy.Contents (Elt F) arg8.view.ty) (f9 : BufTy.Contents (Elt F) arg9.view.ty) (f10 : BufTy.Contents (Elt F) arg10.view.ty) (n : ℕ) : BufTy.Contents (Elt F) arg8.view.ty :=
  arg8.view.writes (Elt F) f8 (pb1 (F := F) arg2 harg2 arg3 harg3 arg4 harg4 arg5 harg5 arg6 harg6 arg7 harg7 arg8 harg8 arg9 harg9 arg10 harg10 X2 X3 X4 X5 X6 X7 c i h2 f8 f9 f10 n).1
@[reducible] def at1_9 (c : Dev nD) (i : grid1.Coords) (h2 : k1_cond2 i = 1#1) (f8 : BufTy.Contents (Elt F) arg8.view.ty) (f9 : BufTy.Contents (Elt F) arg9.view.ty) (f10 : BufTy.Contents (Elt F) arg10.view.ty) (n : ℕ) : BufTy.Contents (Elt F) arg9.view.ty :=
  arg9.view.writes (Elt F) f9 (pb1 (F := F) arg2 harg2 arg3 harg3 arg4 harg4 arg5 harg5 arg6 harg6 arg7 harg7 arg8 harg8 arg9 harg9 arg10 harg10 X2 X3 X4 X5 X6 X7 c i h2 f8 f9 f10 n).2.1
@[reducible] def at1_10 (c : Dev nD) (i : grid1.Coords) (h2 : k1_cond2 i = 1#1) (f8 : BufTy.Contents (Elt F) arg8.view.ty) (f9 : BufTy.Contents (Elt F) arg9.view.ty) (f10 : BufTy.Contents (Elt F) arg10.view.ty) (n : ℕ) : BufTy.Contents (Elt F) arg10.view.ty :=
  arg10.view.writes (Elt F) f10 (pb1 (F := F) arg2 harg2 arg3 harg3 arg4 harg4 arg5 harg5 arg6 harg6 arg7 harg7 arg8 harg8 arg9 harg9 arg10 harg10 X2 X3 X4 X5 X6 X7 c i h2 f8 f9 f10 n).2.2

theorem pb1_succ (c : Dev nD) (i : grid1.Coords) (h2 : k1_cond2 i = 1#1) (f8 : BufTy.Contents (Elt F) arg8.view.ty) (f9 : BufTy.Contents (Elt F) arg9.view.ty) (f10 : BufTy.Contents (Elt F) arg10.view.ty) (k : Fin (k1_t1_loop i).trips) :
    pb1 (F := F) arg2 harg2 arg3 harg3 arg4 harg4 arg5 harg5 arg6 harg6 arg7 harg7 arg8 harg8 arg9 harg9 arg10 harg10 X2 X3 X4 X5 X6 X7 c i h2 f8 f9 f10 (k.val + 1)
      = ((trip1 (F := F) arg2 harg2 arg3 harg3 arg4 harg4 arg5 harg5 arg6 harg6 arg7 harg7 arg8 harg8 arg9 harg9 arg10 harg10 X2 X3 X4 X5 X6 X7 c i h2 k).1 (at1_8 (F := F) arg2 harg2 arg3 harg3 arg4 harg4 arg5 harg5 arg6 harg6 arg7 harg7 arg8 harg8 arg9 harg9 arg10 harg10 X2 X3 X4 X5 X6 X7 c i h2 f8 f9 f10 k.val) (at1_9 (F := F) arg2 harg2 arg3 harg3 arg4 harg4 arg5 harg5 arg6 harg6 arg7 harg7 arg8 harg8 arg9 harg9 arg10 harg10 X2 X3 X4 X5 X6 X7 c i h2 f8 f9 f10 k.val) (at1_10 (F := F) arg2 harg2 arg3 harg3 arg4 harg4 arg5 harg5 arg6 harg6 arg7 harg7 arg8 harg8 arg9 harg9 arg10 harg10 X2 X3 X4 X5 X6 X7 c i h2 f8 f9 f10 k.val) ++ (pb1 (F := F) arg2 harg2 arg3 harg3 arg4 harg4 arg5 harg5 arg6 harg6 arg7 harg7 arg8 harg8 arg9 harg9 arg10 harg10 X2 X3 X4 X5 X6 X7 c i h2 f8 f9 f10 k.val).1,
         (trip1 (F := F) arg2 harg2 arg3 harg3 arg4 harg4 arg5 harg5 arg6 harg6 arg7 harg7 arg8 harg8 arg9 harg9 arg10 harg10 X2 X3 X4 X5 X6 X7 c i h2 k).2.1 (at1_8 (F := F) arg2 harg2 arg3 harg3 arg4 harg4 arg5 harg5 arg6 harg6 arg7 harg7 arg8 harg8 arg9 harg9 arg10 harg10 X2 X3 X4 X5 X6 X7 c i h2 f8 f9 f10 k.val) (at1_9 (F := F) arg2 harg2 arg3 harg3 arg4 harg4 arg5 harg5 arg6 harg6 arg7 harg7 arg8 harg8 arg9 harg9 arg10 harg10 X2 X3 X4 X5 X6 X7 c i h2 f8 f9 f10 k.val) (at1_10 (F := F) arg2 harg2 arg3 harg3 arg4 harg4 arg5 harg5 arg6 harg6 arg7 harg7 arg8 harg8 arg9 harg9 arg10 harg10 X2 X3 X4 X5 X6 X7 c i h2 f8 f9 f10 k.val) ++ (pb1 (F := F) arg2 harg2 arg3 harg3 arg4 harg4 arg5 harg5 arg6 harg6 arg7 harg7 arg8 harg8 arg9 harg9 arg10 harg10 X2 X3 X4 X5 X6 X7 c i h2 f8 f9 f10 k.val).2.1,
         (trip1 (F := F) arg2 harg2 arg3 harg3 arg4 harg4 arg5 harg5 arg6 harg6 arg7 harg7 arg8 harg8 arg9 harg9 arg10 harg10 X2 X3 X4 X5 X6 X7 c i h2 k).2.2.1 (at1_8 (F := F) arg2 harg2 arg3 harg3 arg4 harg4 arg5 harg5 arg6 harg6 arg7 harg7 arg8 harg8 arg9 harg9 arg10 harg10 X2 X3 X4 X5 X6 X7 c i h2 f8 f9 f10 k.val) (at1_9 (F := F) arg2 harg2 arg3 harg3 arg4 harg4 arg5 harg5 arg6 harg6 arg7 harg7 arg8 harg8 arg9 harg9 arg10 harg10 X2 X3 X4 X5 X6 X7 c i h2 f8 f9 f10 k.val) (at1_10 (F := F) arg2 harg2 arg3 harg3 arg4 harg4 arg5 harg5 arg6 harg6 arg7 harg7 arg8 harg8 arg9 harg9 arg10 harg10 X2 X3 X4 X5 X6 X7 c i h2 f8 f9 f10 k.val) ++ (pb1 (F := F) arg2 harg2 arg3 harg3 arg4 harg4 arg5 harg5 arg6 harg6 arg7 harg7 arg8 harg8 arg9 harg9 arg10 harg10 X2 X3 X4 X5 X6 X7 c i h2 f8 f9 f10 k.val).2.2) := by
  rw [pb1.eq_2]; exact dif_pos k.isLt

theorem at1_8_succ (c : Dev nD) (i : grid1.Coords) (h2 : k1_cond2 i = 1#1) (f8 : BufTy.Contents (Elt F) arg8.view.ty) (f9 : BufTy.Contents (Elt F) arg9.view.ty) (f10 : BufTy.Contents (Elt F) arg10.view.ty) (k : Fin (k1_t1_loop i).trips) :
    at1_8 (F := F) arg2 harg2 arg3 harg3 arg4 harg4 arg5 harg5 arg6 harg6 arg7 harg7 arg8 harg8 arg9 harg9 arg10 harg10 X2 X3 X4 X5 X6 X7 c i h2 f8 f9 f10 (k.val + 1)
      = arg8.view.writes (Elt F) (at1_8 (F := F) arg2 harg2 arg3 harg3 arg4 harg4 arg5 harg5 arg6 harg6 arg7 harg7 arg8 harg8 arg9 harg9 arg10 harg10 X2 X3 X4 X5 X6 X7 c i h2 f8 f9 f10 k.val) ((trip1 (F := F) arg2 harg2 arg3 harg3 arg4 harg4 arg5 harg5 arg6 harg6 arg7 harg7 arg8 harg8 arg9 harg9 arg10 harg10 X2 X3 X4 X5 X6 X7 c i h2 k).1 (at1_8 (F := F) arg2 harg2 arg3 harg3 arg4 harg4 arg5 harg5 arg6 harg6 arg7 harg7 arg8 harg8 arg9 harg9 arg10 harg10 X2 X3 X4 X5 X6 X7 c i h2 f8 f9 f10 k.val) (at1_9 (F := F) arg2 harg2 arg3 harg3 arg4 harg4 arg5 harg5 arg6 harg6 arg7 harg7 arg8 harg8 arg9 harg9 arg10 harg10 X2 X3 X4 X5 X6 X7 c i h2 f8 f9 f10 k.val) (at1_10 (F := F) arg2 harg2 arg3 harg3 arg4 harg4 arg5 harg5 arg6 harg6 arg7 harg7 arg8 harg8 arg9 harg9 arg10 harg10 X2 X3 X4 X5 X6 X7 c i h2 f8 f9 f10 k.val)) := by
  unfold at1_8; rw [pb1_succ]; exact View.writes_append _ _ _ _

theorem at1_9_succ (c : Dev nD) (i : grid1.Coords) (h2 : k1_cond2 i = 1#1) (f8 : BufTy.Contents (Elt F) arg8.view.ty) (f9 : BufTy.Contents (Elt F) arg9.view.ty) (f10 : BufTy.Contents (Elt F) arg10.view.ty) (k : Fin (k1_t1_loop i).trips) :
    at1_9 (F := F) arg2 harg2 arg3 harg3 arg4 harg4 arg5 harg5 arg6 harg6 arg7 harg7 arg8 harg8 arg9 harg9 arg10 harg10 X2 X3 X4 X5 X6 X7 c i h2 f8 f9 f10 (k.val + 1)
      = arg9.view.writes (Elt F) (at1_9 (F := F) arg2 harg2 arg3 harg3 arg4 harg4 arg5 harg5 arg6 harg6 arg7 harg7 arg8 harg8 arg9 harg9 arg10 harg10 X2 X3 X4 X5 X6 X7 c i h2 f8 f9 f10 k.val) ((trip1 (F := F) arg2 harg2 arg3 harg3 arg4 harg4 arg5 harg5 arg6 harg6 arg7 harg7 arg8 harg8 arg9 harg9 arg10 harg10 X2 X3 X4 X5 X6 X7 c i h2 k).2.1 (at1_8 (F := F) arg2 harg2 arg3 harg3 arg4 harg4 arg5 harg5 arg6 harg6 arg7 harg7 arg8 harg8 arg9 harg9 arg10 harg10 X2 X3 X4 X5 X6 X7 c i h2 f8 f9 f10 k.val) (at1_9 (F := F) arg2 harg2 arg3 harg3 arg4 harg4 arg5 harg5 arg6 harg6 arg7 harg7 arg8 harg8 arg9 harg9 arg10 harg10 X2 X3 X4 X5 X6 X7 c i h2 f8 f9 f10 k.val) (at1_10 (F := F) arg2 harg2 arg3 harg3 arg4 harg4 arg5 harg5 arg6 harg6 arg7 harg7 arg8 harg8 arg9 harg9 arg10 harg10 X2 X3 X4 X5 X6 X7 c i h2 f8 f9 f10 k.val)) := by
  unfold at1_9; rw [pb1_succ]; exact View.writes_append _ _ _ _

theorem at1_10_succ (c : Dev nD) (i : grid1.Coords) (h2 : k1_cond2 i = 1#1) (f8 : BufTy.Contents (Elt F) arg8.view.ty) (f9 : BufTy.Contents (Elt F) arg9.view.ty) (f10 : BufTy.Contents (Elt F) arg10.view.ty) (k : Fin (k1_t1_loop i).trips) :
    at1_10 (F := F) arg2 harg2 arg3 harg3 arg4 harg4 arg5 harg5 arg6 harg6 arg7 harg7 arg8 harg8 arg9 harg9 arg10 harg10 X2 X3 X4 X5 X6 X7 c i h2 f8 f9 f10 (k.val + 1)
      = arg10.view.writes (Elt F) (at1_10 (F := F) arg2 harg2 arg3 harg3 arg4 harg4 arg5 harg5 arg6 harg6 arg7 harg7 arg8 harg8 arg9 harg9 arg10 harg10 X2 X3 X4 X5 X6 X7 c i h2 f8 f9 f10 k.val) ((trip1 (F := F) arg2 harg2 arg3 harg3 arg4 harg4 arg5 harg5 arg6 harg6 arg7 harg7 arg8 harg8 arg9 harg9 arg10 harg10 X2 X3 X4 X5 X6 X7 c i h2 k).2.2.1 (at1_8 (F := F) arg2 harg2 arg3 harg3 arg4 harg4 arg5 harg5 arg6 harg6 arg7 harg7 arg8 harg8 arg9 harg9 arg10 harg10 X2 X3 X4 X5 X6 X7 c i h2 f8 f9 f10 k.val) (at1_9 (F := F) arg2 harg2 arg3 harg3 arg4 harg4 arg5 harg5 arg6 harg6 arg7 harg7 arg8 harg8 arg9 harg9 arg10 harg10 X2 X3 X4 X5 X6 X7 c i h2 f8 f9 f10 k.val) (at1_10 (F := F) arg2 harg2 arg3 harg3 arg4 harg4 arg5 harg5 arg6 harg6 arg7 harg7 arg8 harg8 arg9 harg9 arg10 harg10 X2 X3 X4 X5 X6 X7 c i h2 f8 f9 f10 k.val)) := by
  unfold at1_10; rw [pb1_succ]; exact View.writes_append _ _ _ _

/-- What they hold after the last trip. -/
@[irreducible] def end1_8 (c : Dev nD) (i : grid1.Coords) (h2 : k1_cond2 i = 1#1) (f8 : BufTy.Contents (Elt F) arg8.view.ty) (f9 : BufTy.Contents (Elt F) arg9.view.ty) (f10 : BufTy.Contents (Elt F) arg10.view.ty) : BufTy.Contents (Elt F) arg8.view.ty := at1_8 (F := F) arg2 harg2 arg3 harg3 arg4 harg4 arg5 harg5 arg6 harg6 arg7 harg7 arg8 harg8 arg9 harg9 arg10 harg10 X2 X3 X4 X5 X6 X7 c i h2 f8 f9 f10 (k1_t1_loop i).trips
@[irreducible] def end1_9 (c : Dev nD) (i : grid1.Coords) (h2 : k1_cond2 i = 1#1) (f8 : BufTy.Contents (Elt F) arg8.view.ty) (f9 : BufTy.Contents (Elt F) arg9.view.ty) (f10 : BufTy.Contents (Elt F) arg10.view.ty) : BufTy.Contents (Elt F) arg9.view.ty := at1_9 (F := F) arg2 harg2 arg3 harg3 arg4 harg4 arg5 harg5 arg6 harg6 arg7 harg7 arg8 harg8 arg9 harg9 arg10 harg10 X2 X3 X4 X5 X6 X7 c i h2 f8 f9 f10 (k1_t1_loop i).trips
@[irreducible] def end1_10 (c : Dev nD) (i : grid1.Coords) (h2 : k1_cond2 i = 1#1) (f8 : BufTy.Contents (Elt F) arg8.view.ty) (f9 : BufTy.Contents (Elt F) arg9.view.ty) (f10 : BufTy.Contents (Elt F) arg10.view.ty) : BufTy.Contents (Elt F) arg10.view.ty := at1_10 (F := F) arg2 harg2 arg3 harg3 arg4 harg4 arg5 harg5 arg6 harg6 arg7 harg7 arg8 harg8 arg9 harg9 arg10 harg10 X2 X3 X4 X5 X6 X7 c i h2 f8 f9 f10 (k1_t1_loop i).trips

/-- The row block left over: the writes of its first `n` trips into the three buffers, from the contents it finds. -/
def pb3 (c : Dev nD) (i : grid1.Coords) (h2 : k1_cond2 i = 1#1) (f8 : BufTy.Contents (Elt F) arg8.view.ty) (f9 : BufTy.Contents (Elt F) arg9.view.ty) (f10 : BufTy.Contents (Elt F) arg10.view.ty) : ℕ → List (View.Piece (Elt F) S4224x256 .f32) × List (View.Piece (Elt F) S384x256 .f32) × List (View.Piece (Elt F) S384x128 .f32)
  | 0 => ([], [], [])
  | n + 1 =>
    let b := pb3 c i h2 f8 f9 f10 n
    if h : n < (k1_t3_loop i).trips then
      let T := trip3 (F := F) arg2 harg2 arg3 harg3 arg4 harg4 arg5 harg5 arg6 harg6 arg7 harg7 arg8 harg8 arg9 harg9 arg10 harg10 X2 X3 X4 X5 X6 X7 c i h2 ⟨n, h⟩
      let g8 := arg8.view.writes (Elt F) f8 b.1
      let g9 := arg9.view.writes (Elt F) f9 b.2.1
      let g10 := arg10.view.writes (Elt F) f10 b.2.2
      (T.1 g8 g9 g10 ++ b.1, T.2.1 g8 g9 g10 ++ b.2.1, T.2.2.1 g8 g9 g10 ++ b.2.2)
    else b

/-- What the buffers hold before trip `n`. -/
@[reducible] def at3_8 (c : Dev nD) (i : grid1.Coords) (h2 : k1_cond2 i = 1#1) (f8 : BufTy.Contents (Elt F) arg8.view.ty) (f9 : BufTy.Contents (Elt F) arg9.view.ty) (f10 : BufTy.Contents (Elt F) arg10.view.ty) (n : ℕ) : BufTy.Contents (Elt F) arg8.view.ty :=
  arg8.view.writes (Elt F) f8 (pb3 (F := F) arg2 harg2 arg3 harg3 arg4 harg4 arg5 harg5 arg6 harg6 arg7 harg7 arg8 harg8 arg9 harg9 arg10 harg10 X2 X3 X4 X5 X6 X7 c i h2 f8 f9 f10 n).1
@[reducible] def at3_9 (c : Dev nD) (i : grid1.Coords) (h2 : k1_cond2 i = 1#1) (f8 : BufTy.Contents (Elt F) arg8.view.ty) (f9 : BufTy.Contents (Elt F) arg9.view.ty) (f10 : BufTy.Contents (Elt F) arg10.view.ty) (n : ℕ) : BufTy.Contents (Elt F) arg9.view.ty :=
  arg9.view.writes (Elt F) f9 (pb3 (F := F) arg2 harg2 arg3 harg3 arg4 harg4 arg5 harg5 arg6 harg6 arg7 harg7 arg8 harg8 arg9 harg9 arg10 harg10 X2 X3 X4 X5 X6 X7 c i h2 f8 f9 f10 n).2.1
@[reducible] def at3_10 (c : Dev nD) (i : grid1.Coords) (h2 : k1_cond2 i = 1#1) (f8 : BufTy.Contents (Elt F) arg8.view.ty) (f9 : BufTy.Contents (Elt F) arg9.view.ty) (f10 : BufTy.Contents (Elt F) arg10.view.ty) (n : ℕ) : BufTy.Contents (Elt F) arg10.view.ty :=
  arg10.view.writes (Elt F) f10 (pb3 (F := F) arg2 harg2 arg3 harg3 arg4 harg4 arg5 harg5 arg6 harg6 arg7 harg7 arg8 harg8 arg9 harg9 arg10 harg10 X2 X3 X4 X5 X6 X7 c i h2 f8 f9 f10 n).2.2

theorem pb3_succ (c : Dev nD) (i : grid1.Coords) (h2 : k1_cond2 i = 1#1) (f8 : BufTy.Contents (Elt F) arg8.view.ty) (f9 : BufTy.Contents (Elt F) arg9.view.ty) (f10 : BufTy.Contents (Elt F) arg10.view.ty) (k : Fin (k1_t3_loop i).trips) :
    pb3 (F := F) arg2 harg2 arg3 harg3 arg4 harg4 arg5 harg5 arg6 harg6 arg7 harg7 arg8 harg8 arg9 harg9 arg10 harg10 X2 X3 X4 X5 X6 X7 c i h2 f8 f9 f10 (k.val + 1)
      = ((trip3 (F := F) arg2 harg2 arg3 harg3 arg4 harg4 arg5 harg5 arg6 harg6 arg7 harg7 arg8 harg8 arg9 harg9 arg10 harg10 X2 X3 X4 X5 X6 X7 c i h2 k).1 (at3_8 (F := F) arg2 harg2 arg3 harg3 arg4 harg4 arg5 harg5 arg6 harg6 arg7 harg7 arg8 harg8 arg9 harg9 arg10 harg10 X2 X3 X4 X5 X6 X7 c i h2 f8 f9 f10 k.val) (at3_9 (F := F) arg2 harg2 arg3 harg3 arg4 harg4 arg5 harg5 arg6 harg6 arg7 harg7 arg8 harg8 arg9 harg9 arg10 harg10 X2 X3 X4 X5 X6 X7 c i h2 f8 f9 f10 k.val) (at3_10 (F := F) arg2 harg2 arg3 harg3 arg4 harg4 arg5 harg5 arg6 harg6 arg7 harg7 arg8 harg8 arg9 harg9 arg10 harg10 X2 X3 X4 X5 X6 X7 c i h2 f8 f9 f10 k.val) ++ (pb3 (F := F) arg2 harg2 arg3 harg3 arg4 harg4 arg5 harg5 arg6 harg6 arg7 harg7 arg8 harg8 arg9 harg9 arg10 harg10 X2 X3 X4 X5 X6 X7 c i h2 f8 f9 f10 k.val).1,
         (trip3 (F := F) arg2 harg2 arg3 harg3 arg4 harg4 arg5 harg5 arg6 harg6 arg7 harg7 arg8 harg8 arg9 harg9 arg10 harg10 X2 X3 X4 X5 X6 X7 c i h2 k).2.1 (at3_8 (F := F) arg2 harg2 arg3 harg3 arg4 harg4 arg5 harg5 arg6 harg6 arg7 harg7 arg8 harg8 arg9 harg9 arg10 harg10 X2 X3 X4 X5 X6 X7 c i h2 f8 f9 f10 k.val) (at3_9 (F := F) arg2 harg2 arg3 harg3 arg4 harg4 arg5 harg5 arg6 harg6 arg7 harg7 arg8 harg8 arg9 harg9 arg10 harg10 X2 X3 X4 X5 X6 X7 c i h2 f8 f9 f10 k.val) (at3_10 (F := F) arg2 harg2 arg3 harg3 arg4 harg4 arg5 harg5 arg6 harg6 arg7 harg7 arg8 harg8 arg9 harg9 arg10 harg10 X2 X3 X4 X5 X6 X7 c i h2 f8 f9 f10 k.val) ++ (pb3 (F := F) arg2 harg2 arg3 harg3 arg4 harg4 arg5 harg5 arg6 harg6 arg7 harg7 arg8 harg8 arg9 harg9 arg10 harg10 X2 X3 X4 X5 X6 X7 c i h2 f8 f9 f10 k.val).2.1,
         (trip3 (F := F) arg2 harg2 arg3 harg3 arg4 harg4 arg5 harg5 arg6 harg6 arg7 harg7 arg8 harg8 arg9 harg9 arg10 harg10 X2 X3 X4 X5 X6 X7 c i h2 k).2.2.1 (at3_8 (F := F) arg2 harg2 arg3 harg3 arg4 harg4 arg5 harg5 arg6 harg6 arg7 harg7 arg8 harg8 arg9 harg9 arg10 harg10 X2 X3 X4 X5 X6 X7 c i h2 f8 f9 f10 k.val) (at3_9 (F := F) arg2 harg2 arg3 harg3 arg4 harg4 arg5 harg5 arg6 harg6 arg7 harg7 arg8 harg8 arg9 harg9 arg10 harg10 X2 X3 X4 X5 X6 X7 c i h2 f8 f9 f10 k.val) (at3_10 (F := F) arg2 harg2 arg3 harg3 arg4 harg4 arg5 harg5 arg6 harg6 arg7 harg7 arg8 harg8 arg9 harg9 arg10 harg10 X2 X3 X4 X5 X6 X7 c i h2 f8 f9 f10 k.val) ++ (pb3 (F := F) arg2 harg2 arg3 harg3 arg4 harg4 arg5 harg5 arg6 harg6 arg7 harg7 arg8 harg8 arg9 harg9 arg10 harg10 X2 X3 X4 X5 X6 X7 c i h2 f8 f9 f10 k.val).2.2) := by
  rw [pb3.eq_2]; exact dif_pos k.isLt

theorem at3_8_succ (c : Dev nD) (i : grid1.Coords) (h2 : k1_cond2 i = 1#1) (f8 : BufTy.Contents (Elt F) arg8.view.ty) (f9 : BufTy.Contents (Elt F) arg9.view.ty) (f10 : BufTy.Contents (Elt F) arg10.view.ty) (k : Fin (k1_t3_loop i).trips) :
    at3_8 (F := F) arg2 harg2 arg3 harg3 arg4 harg4 arg5 harg5 arg6 harg6 arg7 harg7 arg8 harg8 arg9 harg9 arg10 harg10 X2 X3 X4 X5 X6 X7 c i h2 f8 f9 f10 (k.val + 1)
      = arg8.view.writes (Elt F) (at3_8 (F := F) arg2 harg2 arg3 harg3 arg4 harg4 arg5 harg5 arg6 harg6 arg7 harg7 arg8 harg8 arg9 harg9 arg10 harg10 X2 X3 X4 X5 X6 X7 c i h2 f8 f9 f10 k.val) ((trip3 (F := F) arg2 harg2 arg3 harg3 arg4 harg4 arg5 harg5 arg6 harg6 arg7 harg7 arg8 harg8 arg9 harg9 arg10 harg10 X2 X3 X4 X5 X6 X7 c i h2 k).1 (at3_8 (F := F) arg2 harg2 arg3 harg3 arg4 harg4 arg5 harg5 arg6 harg6 arg7 harg7 arg8 harg8 arg9 harg9 arg10 harg10 X2 X3 X4 X5 X6 X7 c i h2 f8 f9 f10 k.val) (at3_9 (F := F) arg2 harg2 arg3 harg3 arg4 harg4 arg5 harg5 arg6 harg6 arg7 harg7 arg8 harg8 arg9 harg9 arg10 harg10 X2 X3 X4 X5 X6 X7 c i h2 f8 f9 f10 k.val) (at3_10 (F := F) arg2 harg2 arg3 harg3 arg4 harg4 arg5 harg5 arg6 harg6 arg7 harg7 arg8 harg8 arg9 harg9 arg10 harg10 X2 X3 X4 X5 X6 X7 c i h2 f8 f9 f10 k.val)) := by
  unfold at3_8; rw [pb3_succ]; exact View.writes_append _ _ _ _

theorem at3_9_succ (c : Dev nD) (i : grid1.Coords) (h2 : k1_cond2 i = 1#1) (f8 : BufTy.Contents (Elt F) arg8.view.ty) (f9 : BufTy.Contents (Elt F) arg9.view.ty) (f10 : BufTy.Contents (Elt F) arg10.view.ty) (k : Fin (k1_t3_loop i).trips) :
    at3_9 (F := F) arg2 harg2 arg3 harg3 arg4 harg4 arg5 harg5 arg6 harg6 arg7 harg7 arg8 harg8 arg9 harg9 arg10 harg10 X2 X3 X4 X5 X6 X7 c i h2 f8 f9 f10 (k.val + 1)
      = arg9.view.writes (Elt F) (at3_9 (F := F) arg2 harg2 arg3 harg3 arg4 harg4 arg5 harg5 arg6 harg6 arg7 harg7 arg8 harg8 arg9 harg9 arg10 harg10 X2 X3 X4 X5 X6 X7 c i h2 f8 f9 f10 k.val) ((trip3 (F := F) arg2 harg2 arg3 harg3 arg4 harg4 arg5 harg5 arg6 harg6 arg7 harg7 arg8 harg8 arg9 harg9 arg10 harg10 X2 X3 X4 X5 X6 X7 c i h2 k).2.1 (at3_8 (F := F) arg2 harg2 arg3 harg3 arg4 harg4 arg5 harg5 arg6 harg6 arg7 harg7 arg8 harg8 arg9 harg9 arg10 harg10 X2 X3 X4 X5 X6 X7 c i h2 f8 f9 f10 k.val) (at3_9 (F := F) arg2 harg2 arg3 harg3 arg4 harg4 arg5 harg5 arg6 harg6 arg7 harg7 arg8 harg8 arg9 harg9 arg10 harg10 X2 X3 X4 X5 X6 X7 c i h2 f8 f9 f10 k.val) (at3_10 (F := F) arg2 harg2 arg3 harg3 arg4 harg4 arg5 harg5 arg6 harg6 arg7 harg7 arg8 harg8 arg9 harg9 arg10 harg10 X2 X3 X4 X5 X6 X7 c i h2 f8 f9 f10 k.val)) := by
  unfold at3_9; rw [pb3_succ]; exact View.writes_append _ _ _ _

theorem at3_10_succ (c : Dev nD) (i : grid1.Coords) (h2 : k1_cond2 i = 1#1) (f8 : BufTy.Contents (Elt F) arg8.view.ty) (f9 : BufTy.Contents (Elt F) arg9.view.ty) (f10 : BufTy.Contents (Elt F) arg10.view.ty) (k : Fin (k1_t3_loop i).trips) :
    at3_10 (F := F) arg2 harg2 arg3 harg3 arg4 harg4 arg5 harg5 arg6 harg6 arg7 harg7 arg8 harg8 arg9 harg9 arg10 harg10 X2 X3 X4 X5 X6 X7 c i h2 f8 f9 f10 (k.val + 1)
      = arg10.view.writes (Elt F) (at3_10 (F := F) arg2 harg2 arg3 harg3 arg4 harg4 arg5 harg5 arg6 harg6 arg7 harg7 arg8 harg8 arg9 harg9 arg10 harg10 X2 X3 X4 X5 X6 X7 c i h2 f8 f9 f10 k.val) ((trip3 (F := F) arg2 harg2 arg3 harg3 arg4 harg4 arg5 harg5 arg6 harg6 arg7 harg7 arg8 harg8 arg9 harg9 arg10 harg10 X2 X3 X4 X5 X6 X7 c i h2 k).2.2.1 (at3_8 (F := F) arg2 harg2 arg3 harg3 arg4 harg4 arg5 harg5 arg6 harg6 arg7 harg7 arg8 harg8 arg9 harg9 arg10 harg10 X2 X3 X4 X5 X6 X7 c i h2 f8 f9 f10 k.val) (at3_9 (F := F) arg2 harg2 arg3 harg3 arg4 harg4 arg5 harg5 arg6 harg6 arg7 harg7 arg8 harg8 arg9 harg9 arg10 harg10 X2 X3 X4 X5 X6 X7 c i h2 f8 f9 f10 k.val) (at3_10 (F := F) arg2 harg2 arg3 harg3 arg4 harg4 arg5 harg5 arg6 harg6 arg7 harg7 arg8 harg8 arg9 harg9 arg10 harg10 X2 X3 X4 X5 X6 X7 c i h2 f8 f9 f10 k.val)) := by
  unfold at3_10; rw [pb3_succ]; exact View.writes_append _ _ _ _

/-- What they hold after the last trip. -/
@[irreducible] def end3_8 (c : Dev nD) (i : grid1.Coords) (h2 : k1_cond2 i = 1#1) (f8 : BufTy.Contents (Elt F) arg8.view.ty) (f9 : BufTy.Contents (Elt F) arg9.view.ty) (f10 : BufTy.Contents (Elt F) arg10.view.ty) : BufTy.Contents (Elt F) arg8.view.ty := at3_8 (F := F) arg2 harg2 arg3 harg3 arg4 harg4 arg5 harg5 arg6 harg6 arg7 harg7 arg8 harg8 arg9 harg9 arg10 harg10 X2 X3 X4 X5 X6 X7 c i h2 f8 f9 f10 (k1_t3_loop i).trips
@[irreducible] def end3_9 (c : Dev nD) (i : grid1.Coords) (h2 : k1_cond2 i = 1#1) (f8 : BufTy.Contents (Elt F) arg8.view.ty) (f9 : BufTy.Contents (Elt F) arg9.view.ty) (f10 : BufTy.Contents (Elt F) arg10.view.ty) : BufTy.Contents (Elt F) arg9.view.ty := at3_9 (F := F) arg2 harg2 arg3 harg3 arg4 harg4 arg5 harg5 arg6 harg6 arg7 harg7 arg8 harg8 arg9 harg9 arg10 harg10 X2 X3 X4 X5 X6 X7 c i h2 f8 f9 f10 (k1_t3_loop i).trips
@[irreducible] def end3_10 (c : Dev nD) (i : grid1.Coords) (h2 : k1_cond2 i = 1#1) (f8 : BufTy.Contents (Elt F) arg8.view.ty) (f9 : BufTy.Contents (Elt F) arg9.view.ty) (f10 : BufTy.Contents (Elt F) arg10.view.ty) : BufTy.Contents (Elt F) arg10.view.ty := at3_10 (F := F) arg2 harg2 arg3 harg3 arg4 harg4 arg5 harg5 arg6 harg6 arg7 harg7 arg8 harg8 arg9 harg9 arg10 harg10 X2 X3 X4 X5 X6 X7 c i h2 f8 f9 f10 (k1_t3_loop i).trips

set_option warn.classDefReducibility false in
@[sl_loop] def loopInv1 (c : Dev nD) (E : Set ℕ) (i : grid1.Coords) (f8 : BufTy.Contents (Elt F) arg8.view.ty) (f9 : BufTy.Contents (Elt F) arg9.view.ty) (f10 : BufTy.Contents (Elt F) arg10.view.ty) (arg1 : BitVec 32) (k1_h2 : k1_cond2 i = 1#1) (v23 : BitVec 32) (v73 : FVec F S384x128 .f32) (v76 : FVec F S768x128 .bf16) (v78 : FVec F S384x128 .bf16) (v82 : FVec F S768x128 .bf16) (v94 : FVec F S768x384 .f32) (v102 : FVec F S768x384 .bf16) (v124 : BitVec 32) :
    LoopInvTy_k1_t1 (F := F) Unit ℕ (UR sig nD τ) ℕ Variants.none c none E i arg2 harg2 arg3 harg3 arg4 harg4 arg5 harg5 arg6 harg6 arg7 harg7 arg8 harg8 arg9 harg9 arg10 harg10 arg1 k1_h2 v23 v73 v76 v78 v82 v94 v102 v124 where
  inv k _ := Holds (F := F) arg2 arg3 arg4 arg5 arg6 arg7 arg8 arg9 arg10 c X2 X3 X4 X5 X6 X7 (at1_8 (F := F) arg2 harg2 arg3 harg3 arg4 harg4 arg5 harg5 arg6 harg6 arg7 harg7 arg8 harg8 arg9 harg9 arg10 harg10 X2 X3 X4 X5 X6 X7 c i k1_h2 f8 f9 f10 k)
    (at1_9 (F := F) arg2 harg2 arg3 harg3 arg4 harg4 arg5 harg5 arg6 harg6 arg7 harg7 arg8 harg8 arg9 harg9 arg10 harg10 X2 X3 X4 X5 X6 X7 c i k1_h2 f8 f9 f10 k)
    (at1_10 (F := F) arg2 harg2 arg3 harg3 arg4 harg4 arg5 harg5 arg6 harg6 arg7 harg7 arg8 harg8 arg9 harg9 arg10 harg10 X2 X3 X4 X5 X6 X7 c i k1_h2 f8 f9 f10 k)
  step k _ := by
    rw [at1_8_succ, at1_9_succ, at1_10_succ]
    exact (trip1 (F := F) arg2 harg2 arg3 harg3 arg4 harg4 arg5 harg5 arg6 harg6 arg7 harg7 arg8 harg8 arg9 harg9 arg10 harg10 X2 X3 X4 X5 X6 X7 c i k1_h2 k).2.2.2 arg1 v23 v73 v76 v78 v82 v94 v102 v124 _ _ _ E

set_option warn.classDefReducibility false in
@[sl_loop] def loopInv3 (c : Dev nD) (E : Set ℕ) (i : grid1.Coords) (f8 : BufTy.Contents (Elt F) arg8.view.ty) (f9 : BufTy.Contents (Elt F) arg9.view.ty) (f10 : BufTy.Contents (Elt F) arg10.view.ty) (k1_h2 : k1_cond2 i = 1#1) (v132 : BitVec 32) :
    LoopInvTy_k1_t3 (F := F) Unit ℕ (UR sig nD τ) ℕ Variants.none c none E i arg2 harg2 arg3 harg3 arg4 harg4 arg5 harg5 arg6 harg6 arg7 harg7 arg8 harg8 arg9 harg9 arg10 harg10 k1_h2 v132 where
  inv k _ := Holds (F := F) arg2 arg3 arg4 arg5 arg6 arg7 arg8 arg9 arg10 c X2 X3 X4 X5 X6 X7 (at3_8 (F := F) arg2 harg2 arg3 harg3 arg4 harg4 arg5 harg5 arg6 harg6 arg7 harg7 arg8 harg8 arg9 harg9 arg10 harg10 X2 X3 X4 X5 X6 X7 c i k1_h2 f8 f9 f10 k)
    (at3_9 (F := F) arg2 harg2 arg3 harg3 arg4 harg4 arg5 harg5 arg6 harg6 arg7 harg7 arg8 harg8 arg9 harg9 arg10 harg10 X2 X3 X4 X5 X6 X7 c i k1_h2 f8 f9 f10 k)
    (at3_10 (F := F) arg2 harg2 arg3 harg3 arg4 harg4 arg5 harg5 arg6 harg6 arg7 harg7 arg8 harg8 arg9 harg9 arg10 harg10 X2 X3 X4 X5 X6 X7 c i k1_h2 f8 f9 f10 k)
  step k _ := by
    rw [at3_8_succ, at3_9_succ, at3_10_succ]
    exact (trip3 (F := F) arg2 harg2 arg3 harg3 arg4 harg4 arg5 harg5 arg6 harg6 arg7 harg7 arg8 harg8 arg9 harg9 arg10 harg10 X2 X3 X4 X5 X6 X7 c i k1_h2 k).2.2.2 v132 _ _ _ E

set_option warn.classDefReducibility false in
/-- The loop that has no trip. -/
@[sl_loop] def loopInv2 (c : Dev nD) (E : Set ℕ) (i : grid1.Coords) (arg1 : BitVec 32) (k1_h2 : k1_cond2 i = 1#1) (v23 : BitVec 32) (v73 : FVec F S384x128 .f32) (v76 : FVec F S768x128 .bf16) (v78 : FVec F S384x128 .bf16) (v82 : FVec F S768x128 .bf16) (v94 : FVec F S768x384 .f32) (v102 : FVec F S768x384 .bf16) (v124 : BitVec 32) (v129 : BitVec 32) :
    LoopInvTy_k1_t2 (F := F) Unit ℕ (UR sig nD τ) ℕ Variants.none c none E i arg2 harg2 arg3 harg3 arg4 harg4 arg5 harg5 arg6 harg6 arg7 harg7 arg8 harg8 arg9 harg9 arg10 harg10 arg1 k1_h2 v23 v73 v76 v78 v82 v94 v102 v124 v129 where
  inv _ _ := iprop(⌜True⌝)
  step k _ := absurd (Nat.lt_of_lt_of_eq k.isLt (trips2 i)) (Nat.not_lt_zero _)

set_option warn.classDefReducibility false in
/-- The loop that has no trip. -/
@[sl_loop] def loopInv4 (c : Dev nD) (E : Set ℕ) (i : grid1.Coords) (k1_h2 : k1_cond2 i = 1#1) (v137 : BitVec 32) :
    LoopInvTy_k1_t4 (F := F) Unit ℕ (UR sig nD τ) ℕ Variants.none c none E i arg2 harg2 arg3 harg3 arg4 harg4 arg5 harg5 arg6 harg6 arg7 harg7 arg8 harg8 arg9 harg9 arg10 harg10 k1_h2 v137 where
  inv _ _ := iprop(⌜True⌝)
  step k _ := absurd (Nat.lt_of_lt_of_eq k.isLt (trips4 i)) (Nat.not_lt_zero _)

instance loopExit1 (c : Dev nD) (E : Set ℕ) (i : grid1.Coords) (f8 : BufTy.Contents (Elt F) arg8.view.ty) (f9 : BufTy.Contents (Elt F) arg9.view.ty) (f10 : BufTy.Contents (Elt F) arg10.view.ty) (arg1 : BitVec 32) (k1_h2 : k1_cond2 i = 1#1) (v23 : BitVec 32) (v73 : FVec F S384x128 .f32) (v76 : FVec F S768x128 .bf16) (v78 : FVec F S384x128 .bf16) (v82 : FVec F S768x128 .bf16) (v94 : FVec F S768x384 .f32) (v102 : FVec F S768x384 .bf16) (v124 : BitVec 32) :
    LoopExit (loopInv1 (F := F) arg2 harg2 arg3 harg3 arg4 harg4 arg5 harg5 arg6 harg6 arg7 harg7 arg8 harg8 arg9 harg9 arg10 harg10 X2 X3 X4 X5 X6 X7 c E i f8 f9 f10 arg1 k1_h2 v23 v73 v76 v78 v82 v94 v102 v124) where
  post _ := Holds (F := F) arg2 arg3 arg4 arg5 arg6 arg7 arg8 arg9 arg10 c X2 X3 X4 X5 X6 X7 (end1_8 (F := F) arg2 harg2 arg3 harg3 arg4 harg4 arg5 harg5 arg6 harg6 arg7 harg7 arg8 harg8 arg9 harg9 arg10 harg10 X2 X3 X4 X5 X6 X7 c i k1_h2 f8 f9 f10) (end1_9 (F := F) arg2 harg2 arg3 harg3 arg4 harg4 arg5 harg5 arg6 harg6 arg7 harg7 arg8 harg8 arg9 harg9 arg10 harg10 X2 X3 X4 X5 X6 X7 c i k1_h2 f8 f9 f10) (end1_10 (F := F) arg2 harg2 arg3 harg3 arg4 harg4 arg5 harg5 arg6 harg6 arg7 harg7 arg8 harg8 arg9 harg9 arg10 harg10 X2 X3 X4 X5 X6 X7 c i k1_h2 f8 f9 f10)
  exit _ := by unfold end1_8 end1_9 end1_10; exact .rfl

instance loopExit3 (c : Dev nD) (E : Set ℕ) (i : grid1.Coords) (f8 : BufTy.Contents (Elt F) arg8.view.ty) (f9 : BufTy.Contents (Elt F) arg9.view.ty) (f10 : BufTy.Contents (Elt F) arg10.view.ty) (k1_h2 : k1_cond2 i = 1#1) (v132 : BitVec 32) :
    LoopExit (loopInv3 (F := F) arg2 harg2 arg3 harg3 arg4 harg4 arg5 harg5 arg6 harg6 arg7 harg7 arg8 harg8 arg9 harg9 arg10 harg10 X2 X3 X4 X5 X6 X7 c E i f8 f9 f10 k1_h2 v132) where
  post _ := Holds (F := F) arg2 arg3 arg4 arg5 arg6 arg7 arg8 arg9 arg10 c X2 X3 X4 X5 X6 X7 (end3_8 (F := F) arg2 harg2 arg3 harg3 arg4 harg4 arg5 harg5 arg6 harg6 arg7 harg7 arg8 harg8 arg9 harg9 arg10 harg10 X2 X3 X4 X5 X6 X7 c i k1_h2 f8 f9 f10) (end3_9 (F := F) arg2 harg2 arg3 harg3 arg4 harg4 arg5 harg5 arg6 harg6 arg7 harg7 arg8 harg8 arg9 harg9 arg10 harg10 X2 X3 X4 X5 X6 X7 c i k1_h2 f8 f9 f10) (end3_10 (F := F) arg2 harg2 arg3 harg3 arg4 harg4 arg5 harg5 arg6 harg6 arg7 harg7 arg8 harg8 arg9 harg9 arg10 harg10 X2 X3 X4 X5 X6 X7 c i k1_h2 f8 f9 f10)
  exit _ := by unfold end3_8 end3_9 end3_10; exact .rfl
end

end Cert.AttnBwd

end
-- ==== Proof.BwdRun.lean ====
/- The body of the backward attention at one grid point `(p, j)`, in its three cases: the first key block `j = 0`
   (the query gradient is zeroed), a block between, and the last one `j = 10` (one masked step of one row block,
   then the query gradient is scaled). -/
module

public import proofs.«01_k».proof.Proof.BwdLoops

@[expose] public section

set_option maxRecDepth 8192
set_option maxHeartbeats 4000000

noncomputable section

namespace Cert.AttnBwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (arg2 : Memref sig .tc .vmem S4224x256 .bf16) (harg2 : arg2.IsWhole) (arg3 : Memref sig .tc .vmem S384x256 .bf16) (harg3 : arg3.IsWhole)
  (arg4 : Memref sig .tc .vmem S384x128 .bf16) (harg4 : arg4.IsWhole) (arg5 : Memref sig .tc .vmem S4224x128 .f32) (harg5 : arg5.IsWhole)
  (arg6 : Memref sig .tc .vmem S4224x128 .f32) (harg6 : arg6.IsWhole) (arg7 : Memref sig .tc .vmem S4224x128 .f32) (harg7 : arg7.IsWhole)
  (arg8 : Memref sig .tc .vmem S4224x256 .f32) (harg8 : arg8.IsWhole) (arg9 : Memref sig .tc .vmem S384x256 .f32) (harg9 : arg9.IsWhole)
  (arg10 : Memref sig .tc .vmem S384x128 .f32) (harg10 : arg10.IsWhole)

variable (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty)

/-- The first key block: the writes it leaves in the three gradient buffers. -/
@[irreducible] def runA (c : Dev nD) (i : grid1.Coords) (h1 : k1_cond1 i = 1#1) (h2 : k1_cond2 i = 1#1) (h3 : ¬ k1_cond3 i = 1#1) (h4 : ¬ k1_cond4 i = 1#1) :
    Σ' (L8 : BufTy.Contents (Elt F) arg8.view.ty) (L9 : BufTy.Contents (Elt F) arg9.view.ty),
      { L10 : BufTy.Contents (Elt F) arg10.view.ty //
        ∀ (f8 : BufTy.Contents (Elt F) arg8.view.ty) (f9 : BufTy.Contents (Elt F) arg9.view.ty) (f10 : BufTy.Contents (Elt F) arg10.view.ty) (E : Set ℕ) (K : PUnit → sProp 𝕄),
          iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
              ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
              ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
                  ∗ (arg8.view.loc (c : Thread nD τ) ↦[arg8.view.set]{fullShare} L8) ∗ (arg9.view.loc (c : Thread nD τ) ↦[arg9.view.set]{fullShare} L9) ∗ (arg10.view.loc (c : Thread nD τ) ↦[arg10.view.set]{fullShare} L10)) -∗ K ⟨⟩))
            ⊢ wp frame (wpE (defs₀ (F := F)) Variants.none (c : Thread nD τ) none) E (cc1_attn_bwd (F := F) i arg2 harg2 arg3 harg3 arg4 harg4 arg5 harg5 arg6 harg6 arg7 harg7 arg8 harg8 arg9 harg9 arg10 harg10) K } := by
  refine ⟨?_, ?_, ?_, fun f8 f9 f10 E K => ?run⟩
  case run =>
    simp only [cc1_attn_bwd_eq_skeleton]; unfold cc1_attn_bwd_skel
    simp only [k1_part9_eq_skeleton, k1_part10_eq_skeleton, k1_part11_eq_skeleton]
    iintro ⟨H2, H3, H4, H5, H6, H7, H8, H9, H10, Hk⟩
    sl_exec (disch := first | sl_exact h1 | sl_exact h2 | sl_exact h3 | sl_exact h4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- A key block between: the writes it leaves in the three gradient buffers. -/
@[irreducible] def runB (c : Dev nD) (i : grid1.Coords) (h1 : ¬ k1_cond1 i = 1#1) (h2 : k1_cond2 i = 1#1) (h3 : ¬ k1_cond3 i = 1#1) (h4 : ¬ k1_cond4 i = 1#1) :
    Σ' (L8 : BufTy.Contents (Elt F) arg8.view.ty → BufTy.Contents (Elt F) arg8.view.ty) (L9 : BufTy.Contents (Elt F) arg8.view.ty → BufTy.Contents (Elt F) arg9.view.ty),
      { L10 : BufTy.Contents (Elt F) arg8.view.ty → BufTy.Contents (Elt F) arg10.view.ty //
        ∀ (f8 : BufTy.Contents (Elt F) arg8.view.ty) (f9 : BufTy.Contents (Elt F) arg9.view.ty) (f10 : BufTy.Contents (Elt F) arg10.view.ty) (E : Set ℕ) (K : PUnit → sProp 𝕄),
          iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
              ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
              ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
                  ∗ (arg8.view.loc (c : Thread nD τ) ↦[arg8.view.set]{fullShare} L8 f8) ∗ (arg9.view.loc (c : Thread nD τ) ↦[arg9.view.set]{fullShare} L9 f8) ∗ (arg10.view.loc (c : Thread nD τ) ↦[arg10.view.set]{fullShare} L10 f8)) -∗ K ⟨⟩))
            ⊢ wp frame (wpE (defs₀ (F := F)) Variants.none (c : Thread nD τ) none) E (cc1_attn_bwd (F := F) i arg2 harg2 arg3 harg3 arg4 harg4 arg5 harg5 arg6 harg6 arg7 harg7 arg8 harg8 arg9 harg9 arg10 harg10) K } := by
  refine ⟨?_, ?_, ?_, fun f8 f9 f10 E K => ?run⟩
  case run =>
    simp only [cc1_attn_bwd_eq_skeleton]; unfold cc1_attn_bwd_skel
    simp only [k1_part9_eq_skeleton, k1_part10_eq_skeleton, k1_part11_eq_skeleton]
    iintro ⟨H2, H3, H4, H5, H6, H7, H8, H9, H10, Hk⟩
    sl_exec (disch := first | sl_exact h1 | sl_exact h2 | sl_exact h3 | sl_exact h4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The last key block: the writes it leaves in the three gradient buffers. -/
@[irreducible] def runC (c : Dev nD) (i : grid1.Coords) (h1 : ¬ k1_cond1 i = 1#1) (h2 : ¬ k1_cond2 i = 1#1) (h3 : k1_cond3 i = 1#1) (h4 : k1_cond4 i = 1#1) :
    Σ' (L8 : BufTy.Contents (Elt F) arg8.view.ty → List (View.Piece (Elt F) S4224x256 .f32)) (L9 : BufTy.Contents (Elt F) arg8.view.ty → List (View.Piece (Elt F) S384x256 .f32)),
      { L10 : BufTy.Contents (Elt F) arg8.view.ty → List (View.Piece (Elt F) S384x128 .f32) //
        ∀ (f8 : BufTy.Contents (Elt F) arg8.view.ty) (f9 : BufTy.Contents (Elt F) arg9.view.ty) (f10 : BufTy.Contents (Elt F) arg10.view.ty) (E : Set ℕ) (K : PUnit → sProp 𝕄),
          iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
              ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
              ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
                  ∗ (∃ g8, arg8.view.loc (c : Thread nD τ) ↦[arg8.view.set]{fullShare} arg8.view.writes (Elt F) g8 (L8 f8)) ∗ (∃ g9, arg9.view.loc (c : Thread nD τ) ↦[arg9.view.set]{fullShare} arg9.view.writes (Elt F) g9 (L9 f8)) ∗ (∃ g10, arg10.view.loc (c : Thread nD τ) ↦[arg10.view.set]{fullShare} arg10.view.writes (Elt F) g10 (L10 f8))) -∗ K ⟨⟩))
            ⊢ wp frame (wpE (defs₀ (F := F)) Variants.none (c : Thread nD τ) none) E (cc1_attn_bwd (F := F) i arg2 harg2 arg3 harg3 arg4 harg4 arg5 harg5 arg6 harg6 arg7 harg7 arg8 harg8 arg9 harg9 arg10 harg10) K } := by
  refine ⟨?_, ?_, ?_, fun f8 f9 f10 E K => ?run⟩
  case run =>
    simp only [cc1_attn_bwd_eq_skeleton]; unfold cc1_attn_bwd_skel
    simp only [k1_part12_eq_skeleton, k1_part13_eq_skeleton]
    iintro ⟨H2, H3, H4, H5, H6, H7, H8, H9, H10, Hk⟩
    sl_exec (disch := first | sl_exact h1 | sl_exact h2 | sl_exact h3 | sl_exact h4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iexists _; iexact H10
end

end Cert.AttnBwd

end
-- ==== Proof.BwdOuts.lean ====
/- The backward attention's call as a pipeline. The query gradient's buffer stays over the eleven key blocks of a head
   pair: what it holds after a point is a recursion on the point, zeroed by the first block, carried by the others,
   scaled by the last. The key and value gradients are stored anew at every point. -/
module

public import proofs.«01_k».proof.Proof.BwdRun
public import proofs.«01_k».proof.Proof.Gen.AttnIdeal.Points
public import proofs.«01_k».proof.Proof.Gen.AttnIdeal.Launch
public import Idealize.ShloMosaic.Lib.Pipeline.FrameBody
public import Idealize.ShloMosaic.Lib.Ring

@[expose] public section

set_option maxRecDepth 16384
set_option maxHeartbeats 4000000

noncomputable section

namespace Cert.AttnBwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- No point leaves the query gradient's buffer alone: the first key block clears it, the others add to it. -/
theorem idle6 : ∀ i : cfg1.grid.Coords, cfg1.idle 6 i = false := by
  decide +kernel

/-- Window `w`'s block at point `t`, read off its array as the call finds it. -/
def blkIn (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The four branch conditions, from the point: its key block is `t % 11`. -/

theorem cond1_iff : ∀ t : Fin cfg1.N, k1_cond1 (grid1.coords t) = 1#1 ↔ t.val % 11 = 0 :=
  (by decide +kernel : ∀ t : Fin grid1.N, k1_cond1 (grid1.coords t) = 1#1 ↔ t.val % 11 = 0)
theorem cond2_iff : ∀ t : Fin cfg1.N, k1_cond2 (grid1.coords t) = 1#1 ↔ t.val % 11 ≠ 10 :=
  (by decide +kernel : ∀ t : Fin grid1.N, k1_cond2 (grid1.coords t) = 1#1 ↔ t.val % 11 ≠ 10)
theorem cond3_iff : ∀ t : Fin cfg1.N, k1_cond3 (grid1.coords t) = 1#1 ↔ t.val % 11 = 10 :=
  (by decide +kernel : ∀ t : Fin grid1.N, k1_cond3 (grid1.coords t) = 1#1 ↔ t.val % 11 = 10)
theorem cond4_iff : ∀ t : Fin cfg1.N, k1_cond4 (grid1.coords t) = 1#1 ↔ t.val % 11 = 10 :=
  (by decide +kernel : ∀ t : Fin grid1.N, k1_cond4 (grid1.coords t) = 1#1 ↔ t.val % 11 = 10)

abbrev ms0 (t : Fin cfg1.N) : Memref sig .tc .vmem S4224x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S384x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S384x128 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S4224x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S4224x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S4224x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S4224x256 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S384x256 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S384x128 .f32 := win1_8.stage (cfg1.slots t 8)
abbrev hs8 (t : Fin cfg1.N) : (ms8 t).IsWhole := hstage1_8 ((cfg1.slots t 8).cast nbuf1_8)

/-- The body's run at a point of the first kind, on the blocks found there. -/
abbrev atA (c : Dev nD) (t : Fin cfg1.N) (h : t.val % 11 = 0) :=
  runA (F := F) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hs0 t).unread (blkIn V c 0 t)) ((hs1 t).unread (blkIn V c 1 t)) ((hs2 t).unread (blkIn V c 2 t)) ((hs3 t).unread (blkIn V c 3 t)) ((hs4 t).unread (blkIn V c 4 t)) ((hs5 t).unread (blkIn V c 5 t)) c (grid1.coords t) ((cond1_iff t).mpr h) ((cond2_iff t).mpr (by omega)) (fun e => by have := (cond3_iff t).mp e; omega) (fun e => by have := (cond4_iff t).mp e; omega)

/-- The body's run at a point of the middle kind, on the blocks found there. -/
abbrev atB (c : Dev nD) (t : Fin cfg1.N) (h0 : ¬ t.val % 11 = 0) (h1 : t.val % 11 ≠ 10) :=
  runB (F := F) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hs0 t).unread (blkIn V c 0 t)) ((hs1 t).unread (blkIn V c 1 t)) ((hs2 t).unread (blkIn V c 2 t)) ((hs3 t).unread (blkIn V c 3 t)) ((hs4 t).unread (blkIn V c 4 t)) ((hs5 t).unread (blkIn V c 5 t)) c (grid1.coords t) (fun e => h0 ((cond1_iff t).mp e)) ((cond2_iff t).mpr h1) (fun e => h1 ((cond3_iff t).mp e)) (fun e => h1 ((cond4_iff t).mp e))

/-- The body's run at a point of the last kind, on the blocks found there. -/
abbrev atC (c : Dev nD) (t : Fin cfg1.N) (h : t.val % 11 = 10) :=
  runC (F := F) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hs0 t).unread (blkIn V c 0 t)) ((hs1 t).unread (blkIn V c 1 t)) ((hs2 t).unread (blkIn V c 2 t)) ((hs3 t).unread (blkIn V c 3 t)) ((hs4 t).unread (blkIn V c 4 t)) ((hs5 t).unread (blkIn V c 5 t)) c (grid1.coords t) (fun e => by have := (cond1_iff t).mp e; omega) (fun e => (cond2_iff t).mp e h) ((cond3_iff t).mpr h) ((cond4_iff t).mpr h)

/-- What the three gradient buffers hold after a point of each kind. -/
def outA (c : Dev nD) (t : Fin cfg1.N) (h : t.val % 11 = 0) : Vec F S4224x256 .f32 × Vec F S384x256 .f32 × Vec F S384x128 .f32 :=
  ((ms6 t).view.read (Elt F) (atA V c t h).1, (ms7 t).view.read (Elt F) (atA V c t h).2.1, (ms8 t).view.read (Elt F) (atA V c t h).2.2.1)
def outB (c : Dev nD) (t : Fin cfg1.N) (h0 : ¬ t.val % 11 = 0) (h1 : t.val % 11 ≠ 10) (dq : Vec F S4224x256 .f32) : Vec F S4224x256 .f32 × Vec F S384x256 .f32 × Vec F S384x128 .f32 :=
  ((ms6 t).view.read (Elt F) ((atB V c t h0 h1).1 ((hs6 t).unread dq)), (ms7 t).view.read (Elt F) ((atB V c t h0 h1).2.1 ((hs6 t).unread dq)), (ms8 t).view.read (Elt F) ((atB V c t h0 h1).2.2.1 ((hs6 t).unread dq)))
def outC (c : Dev nD) (t : Fin cfg1.N) (h : t.val % 11 = 10) (dq : Vec F S4224x256 .f32) : Vec F S4224x256 .f32 × Vec F S384x256 .f32 × Vec F S384x128 .f32 :=
  (View.canon ((atC V c t h).1 ((hs6 t).unread dq)), View.canon ((atC V c t h).2.1 ((hs6 t).unread dq)), View.canon ((atC V c t h).2.2.1 ((hs6 t).unread dq)))

/-- The last kind's stores cover each buffer. -/
theorem coverC6 (c : Dev nD) (t : Fin cfg1.N) (h : t.val % 11 = 10) (f) (y : S4224x256.Idx) : ∃ pc ∈ (atC V c t h).1 f, y ∈ pc.1.set := by
  unfold atC runC; exact View.cover_of_wholeMem _ (by sl_whole_mem) y
theorem coverC7 (c : Dev nD) (t : Fin cfg1.N) (h : t.val % 11 = 10) (f) (y : S384x256.Idx) : ∃ pc ∈ (atC V c t h).2.1 f, y ∈ pc.1.set := by
  unfold atC runC; exact View.cover_of_wholeMem _ (by sl_whole_mem) y
theorem coverC8 (c : Dev nD) (t : Fin cfg1.N) (h : t.val % 11 = 10) (f) (y : S384x128.Idx) : ∃ pc ∈ (atC V c t h).2.2.1 f, y ∈ pc.1.set := by
  unfold atC runC; exact View.cover_of_wholeMem _ (by sl_whole_mem) y

/-- What the three gradient buffers hold after the point of position `n`. -/
def outs (c : Dev nD) : (n : ℕ) → n < cfg1.N → Vec F S4224x256 .f32 × Vec F S384x256 .f32 × Vec F S384x128 .f32
  | 0, hn => outA V c ⟨0, hn⟩ (Nat.zero_mod _)
  | n + 1, hn =>
    if h : (n + 1) % 11 = 0 then outA V c ⟨n + 1, hn⟩ h
    else if h1 : (n + 1) % 11 = 10 then outC V c ⟨n + 1, hn⟩ h1 (outs c n (Nat.lt_of_succ_lt hn)).1
    else outB V c ⟨n + 1, hn⟩ h h1 (outs c n (Nat.lt_of_succ_lt hn)).1

theorem outs_A (c : Dev nD) (t : Fin cfg1.N) (h : t.val % 11 = 0) : outs V c t.val t.isLt = outA V c t h := by
  obtain ⟨n, hn⟩ := t
  cases n with
  | zero => rfl
  | succ n => exact (dif_pos h).trans rfl

theorem outs_B (c : Dev nD) (t : Fin cfg1.N) (h0 : ¬ t.val % 11 = 0) (h1 : t.val % 11 ≠ 10) :
    outs V c t.val t.isLt = outB V c t h0 h1 (outs V c (t.val - 1) (Nat.lt_of_le_of_lt (Nat.sub_le _ _) t.isLt)).1 := by
  obtain ⟨n, hn⟩ := t
  cases n with
  | zero => exact absurd (Nat.zero_mod _) h0
  | succ n => exact (dif_neg h0).trans ((dif_neg h1).trans rfl)

theorem outs_C (c : Dev nD) (t : Fin cfg1.N) (h : t.val % 11 = 10) :
    outs V c t.val t.isLt = outC V c t h (outs V c (t.val - 1) (Nat.lt_of_le_of_lt (Nat.sub_le _ _) t.isLt)).1 := by
  obtain ⟨n, hn⟩ := t
  cases n with
  | zero => exact absurd h (by show ¬ (0 : ℕ) % 11 = 10; decide)
  | succ n => exact (dif_neg (by show ¬ (n + 1) % 11 = 0; have : (n + 1) % 11 = 10 := h; omega)).trans ((dif_pos h).trans rfl)

/-- The proof data of the call's pipeline. -/
def dat (c : Dev nD) : Dat τ (Elt F) Unit ℕ (UR sig nD τ) ℕ cfg1 c where
  A w := V c (Pipeline.arrRef spec1 w)
  after w t := match w with
    | ⟨0, _⟩ => blkIn V c 0 t
    | ⟨1, _⟩ => blkIn V c 1 t
    | ⟨2, _⟩ => blkIn V c 2 t
    | ⟨3, _⟩ => blkIn V c 3 t
    | ⟨4, _⟩ => blkIn V c 4 t
    | ⟨5, _⟩ => blkIn V c 5 t
    | ⟨6, _⟩ => (outs V c t.val t.isLt).1
    | ⟨7, _⟩ => (outs V c t.val t.isLt).2.1
    | ⟨8, _⟩ => (outs V c t.val t.isLt).2.2
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = blkIn V c 0 t := by dsimp only [dat]
theorem after_1 (c : Dev nD) (t : Fin cfg1.N) : (dat V c).after 1 t = blkIn V c 1 t := by dsimp only [dat]
theorem after_2 (c : Dev nD) (t : Fin cfg1.N) : (dat V c).after 2 t = blkIn V c 2 t := by dsimp only [dat]
theorem after_3 (c : Dev nD) (t : Fin cfg1.N) : (dat V c).after 3 t = blkIn V c 3 t := by dsimp only [dat]
theorem after_4 (c : Dev nD) (t : Fin cfg1.N) : (dat V c).after 4 t = blkIn V c 4 t := by dsimp only [dat]
theorem after_5 (c : Dev nD) (t : Fin cfg1.N) : (dat V c).after 5 t = blkIn V c 5 t := by dsimp only [dat]
theorem after_6 (c : Dev nD) (t : Fin cfg1.N) : (dat V c).after 6 t = (outs V c t.val t.isLt).1 := by dsimp only [dat]
theorem after_7 (c : Dev nD) (t : Fin cfg1.N) : (dat V c).after 7 t = (outs V c t.val t.isLt).2.1 := by dsimp only [dat]
theorem after_8 (c : Dev nD) (t : Fin cfg1.N) : (dat V c).after 8 t = (outs V c t.val t.isLt).2.2 := by dsimp only [dat]

/-! Each input's buffer holds its block at every point, fetched there or kept from the point before. -/

theorem before_0 (c : Dev nD) (t : Fin cfg1.N) (d) : (dat V c).before 0 t d = blkIn V c 0 t :=
  ((dat V c).before_in_eq_fetched 0 rfl (fun _ => rfl) (fun _ _ _ => rfl)
    (fun t => by rw [after_0]; unfold Dat.blockOf blkIn; rw [A_eq]; try rfl) t d).trans
    (by unfold Dat.fetched Dat.blockOf blkIn; rw [A_eq]; try rfl)
theorem before_1 (c : Dev nD) (t : Fin cfg1.N) (d) : (dat V c).before 1 t d = blkIn V c 1 t :=
  ((dat V c).before_in_eq_fetched 1 rfl (fun _ => rfl) (fun _ _ _ => rfl)
    (fun t => by rw [after_1]; unfold Dat.blockOf blkIn; rw [A_eq]; try rfl) t d).trans
    (by unfold Dat.fetched Dat.blockOf blkIn; rw [A_eq]; try rfl)
theorem before_2 (c : Dev nD) (t : Fin cfg1.N) (d) : (dat V c).before 2 t d = blkIn V c 2 t :=
  ((dat V c).before_in_eq_fetched 2 rfl (fun _ => rfl) (fun _ _ _ => rfl)
    (fun t => by rw [after_2]; unfold Dat.blockOf blkIn; rw [A_eq]; try rfl) t d).trans
    (by unfold Dat.fetched Dat.blockOf blkIn; rw [A_eq]; try rfl)
theorem before_3 (c : Dev nD) (t : Fin cfg1.N) (d) : (dat V c).before 3 t d = blkIn V c 3 t :=
  ((dat V c).before_in_eq_fetched 3 rfl (fun _ => rfl) (fun _ _ _ => rfl)
    (fun t => by rw [after_3]; unfold Dat.blockOf blkIn; rw [A_eq]; try rfl) t d).trans
    (by unfold Dat.fetched Dat.blockOf blkIn; rw [A_eq]; try rfl)
theorem before_4 (c : Dev nD) (t : Fin cfg1.N) (d) : (dat V c).before 4 t d = blkIn V c 4 t :=
  ((dat V c).before_in_eq_fetched 4 rfl (fun _ => rfl) (fun _ _ _ => rfl)
    (fun t => by rw [after_4]; unfold Dat.blockOf blkIn; rw [A_eq]; try rfl) t d).trans
    (by unfold Dat.fetched Dat.blockOf blkIn; rw [A_eq]; try rfl)
theorem before_5 (c : Dev nD) (t : Fin cfg1.N) (d) : (dat V c).before 5 t d = blkIn V c 5 t :=
  ((dat V c).before_in_eq_fetched 5 rfl (fun _ => rfl) (fun _ _ _ => rfl)
    (fun t => by rw [after_5]; unfold Dat.blockOf blkIn; rw [A_eq]; try rfl) t d).trans
    (by unfold Dat.fetched Dat.blockOf blkIn; rw [A_eq]; try rfl)

/-- Past the first key block the query gradient's buffer holds what the point before left. -/
theorem before_6 (c : Dev nD) (t : Fin cfg1.N) (h0 : ¬ t.val % 11 = 0) (d) :
    (dat V c).before 6 t d = (outs V c (t.val - 1) (Nat.lt_of_le_of_lt (Nat.sub_le _ _) t.isLt)).1 := by
  have hN : t.val < 44 := lt_of_lt_of_eq t.isLt (show cfg1.N = 44 from N_1)
  rw [Dat.before_out_kept _ 6 rfl t (by omega) (Bool.eq_false_iff.mpr fun h => by have := (flush1_6 _).mp h; dsimp only at this; omega)
    idle6 (fun _ _ => rfl)]
  dsimp only [dat]

end Cert.AttnBwd

end
-- ==== Proof.BwdBody.lean ====
/- The backward attention's body at every grid point keeps its contract: it finds the blocks and what the point before
   left of the query gradient, and leaves the contents named for it. -/
module

public import proofs.«01_k».proof.Proof.BwdOuts

@[expose] public section

set_option maxRecDepth 16384
set_option maxHeartbeats 4000000

noncomputable section

namespace Cert.AttnBwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6, after_7, after_8]
  by_cases h0 : t.val % 11 = 0
  · rw [outs_A V c t h0]
    unfold outA; dsimp only
    unfold owns
    iintro ⟨HΦ, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
    obtain rfl := (hs0 t).eq_unread e0
    obtain rfl := (hs1 t).eq_unread e1
    obtain rfl := (hs2 t).eq_unread e2
    obtain rfl := (hs3 t).eq_unread e3
    obtain rfl := (hs4 t).eq_unread e4
    obtain rfl := (hs5 t).eq_unread e5
    iapply ((atA V c t h0).2.2.2 f6 f7 f8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]
    · iexists _; isplitr
      swap; · iexact H0
      ipureintro; exact (hs0 t).read_unread _
    isplitl [H1]
    · iexists _; isplitr
      swap; · iexact H1
      ipureintro; exact (hs1 t).read_unread _
    isplitl [H2]
    · iexists _; isplitr
      swap; · iexact H2
      ipureintro; exact (hs2 t).read_unread _
    isplitl [H3]
    · iexists _; isplitr
      swap; · iexact H3
      ipureintro; exact (hs3 t).read_unread _
    isplitl [H4]
    · iexists _; isplitr
      swap; · iexact H4
      ipureintro; exact (hs4 t).read_unread _
    isplitl [H5]
    · iexists _; isplitr
      swap; · iexact H5
      ipureintro; exact (hs5 t).read_unread _
    isplitl [H6]
    · iexists _; isplitr
      swap; · iexact H6
      ipureintro; exact rfl
    isplitl [H7]
    · iexists _; isplitr
      swap; · iexact H7
      ipureintro; exact rfl
    iexists _; isplitr
    swap; · iexact H8
    ipureintro; exact rfl
  · by_cases h : t.val % 11 = 10
    · rw [outs_C V c t h]
      simp only [before_6 V c t h0]
      unfold outC; dsimp only
      unfold owns
      iintro ⟨HΦ, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
      obtain rfl := (hs0 t).eq_unread e0
      obtain rfl := (hs1 t).eq_unread e1
      obtain rfl := (hs2 t).eq_unread e2
      obtain rfl := (hs3 t).eq_unread e3
      obtain rfl := (hs4 t).eq_unread e4
      obtain rfl := (hs5 t).eq_unread e5
      obtain rfl := (hs6 t).eq_unread e6
      iapply ((atC V c t h).2.2.2 _ f7 f8 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, ⟨%g6, H6⟩, ⟨%g7, H7⟩, ⟨%g8, H8⟩⟩
      isplitl [HΦ]; · iexact HΦ
      isplitl [Ho]; · iexact Ho
      isplitl [H0]
      · iexists _; isplitr
        swap; · iexact H0
        ipureintro; exact (hs0 t).read_unread _
      isplitl [H1]
      · iexists _; isplitr
        swap; · iexact H1
        ipureintro; exact (hs1 t).read_unread _
      isplitl [H2]
      · iexists _; isplitr
        swap; · iexact H2
        ipureintro; exact (hs2 t).read_unread _
      isplitl [H3]
      · iexists _; isplitr
        swap; · iexact H3
        ipureintro; exact (hs3 t).read_unread _
      isplitl [H4]
      · iexists _; isplitr
        swap; · iexact H4
        ipureintro; exact (hs4 t).read_unread _
      isplitl [H5]
      · iexists _; isplitr
        swap; · iexact H5
        ipureintro; exact (hs5 t).read_unread _
      isplitl [H6]
      · iexists _; isplitr
        swap; · iexact H6
        ipureintro; exact View.read_writes_eq_canon _ _ _ (coverC6 V c t h _)
      isplitl [H7]
      · iexists _; isplitr
        swap; · iexact H7
        ipureintro; exact View.read_writes_eq_canon _ _ _ (coverC7 V c t h _)
      iexists _; isplitr
      swap; · iexact H8
      ipureintro; exact View.read_writes_eq_canon _ _ _ (coverC8 V c t h _)
    · have h1 : t.val % 11 ≠ 10 := h
      · rw [outs_B V c t h0 h1]
        simp only [before_6 V c t h0]
        unfold outB; dsimp only
        unfold owns
        iintro ⟨HΦ, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
        obtain rfl := (hs0 t).eq_unread e0
        obtain rfl := (hs1 t).eq_unread e1
        obtain rfl := (hs2 t).eq_unread e2
        obtain rfl := (hs3 t).eq_unread e3
        obtain rfl := (hs4 t).eq_unread e4
        obtain rfl := (hs5 t).eq_unread e5
        obtain rfl := (hs6 t).eq_unread e6
        iapply ((atB V c t h0 h1).2.2.2 _ f7 f8 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iintro ⟨H0, H1, H2, H3, H4, H5, H6, H7, H8⟩
        isplitl [HΦ]; · iexact HΦ
        isplitl [Ho]; · iexact Ho
        isplitl [H0]
        · iexists _; isplitr
          swap; · iexact H0
          ipureintro; exact (hs0 t).read_unread _
        isplitl [H1]
        · iexists _; isplitr
          swap; · iexact H1
          ipureintro; exact (hs1 t).read_unread _
        isplitl [H2]
        · iexists _; isplitr
          swap; · iexact H2
          ipureintro; exact (hs2 t).read_unread _
        isplitl [H3]
        · iexists _; isplitr
          swap; · iexact H3
          ipureintro; exact (hs3 t).read_unread _
        isplitl [H4]
        · iexists _; isplitr
          swap; · iexact H4
          ipureintro; exact (hs4 t).read_unread _
        isplitl [H5]
        · iexists _; isplitr
          swap; · iexact H5
          ipureintro; exact (hs5 t).read_unread _
        isplitl [H6]
        · iexists _; isplitr
          swap; · iexact H6
          ipureintro; exact rfl
        isplitl [H7]
        · iexists _; isplitr
          swap; · iexact H7
          ipureintro; exact rfl
        iexists _; isplitr
        swap; · iexact H8
        ipureintro; exact rfl

theorem defs₀_row (t : Fin cfg1.N) : defs₀ (F := F) .tc cfg1.body (cfg1.bodyArgs t (cfg1.slots t)) = bodyAt1 t := by
  unfold defs₀; rw [Defs.onTc_tc]

/-- The body obligation of the call's pipeline, at every point. -/
theorem body_obligation (c : Dev nD) : BodyObligation (dat (F := F) V c) (defs₀ (F := F)) Variants.none () Set.univ := fun t => by
  rw [bigSep_W1, bigSep_W1, defs₀_row, show cfg1.idle 6 (cfg1.grid.coords t) = false from idle6 _]
  exact triple_restated (sound_body V c t) rfl .rfl fun _ => .rfl

end Cert.AttnBwd

end
-- ==== Proof.AttnRun.lean ====
/- The attention's two calls run as a whole, between the host lines around them: what every buffer holds at each
   boundary, and that every execution ends with the contents of the last one. -/
module

public import proofs.«01_k».proof.Proof.FwdFrame
public import proofs.«01_k».proof.Proof.BwdBody
public import proofs.«01_k».proof.Proof.Gen.AttnIdeal.Regions
public import Idealize.ShloMosaic.Lib.Pipeline.RegionsLoop
public import Idealize.ShloMosaic.Lib.Pipeline.FrameSuffix

@[expose] public section

set_option maxRecDepth 16384

noncomputable section

namespace Cert.AttnWhole

open Cert.AttnIdeal
open Cert.AttnIdeal.Gen hiding V0 V1 V2 V3 V4 V5 V6 V7 V8 V9 V10 V11 V12 V13 segs adm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents at each boundary -/

/-- The buffers at launch, and after each stretch of host lines up to the forward call. -/
abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
abbrev W6 : Dev nD → Valuation τ sig (Elt F) := fun c => StableHlo.after hostOps0_5 (W5 m ρ c)
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
abbrev W7 : Dev nD → Valuation τ sig (Elt F) := fun c => StableHlo.after hostOps0_6 (W6 m ρ c)
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
/-- The same read at the call's references: what the forward call is entered with. -/
abbrev Entry0 : (c : Dev nD) → (b : Ref sig .tc) → Buf (Elt F) ((c : Thread nD τ).loc b) := fun c b => W7 m ρ c b
/-- After the call: its arrays at what its pipeline leaves, every other buffer as before. -/
def W8 (c : Dev nD) : Valuation τ sig (Elt F) :=
  Pipeline.withArrays spec0 c (W7 m ρ c) fun w => (AttnFwd.dat (Entry0 m ρ) c).arrAt w cfg0.N
theorem W8_arr (c : Dev nD) (w : Fin cfg0.W) :
    W8 m ρ c (Proc.devRef .tc (Pipeline.arrRef spec0 w)) = (AttnFwd.dat (Entry0 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
theorem W8_of (c : Dev nD) (r : Ref sig .tc) (h : ∀ w : Fin cfg0.W, Pipeline.arrRef spec0 w = r → (cfg0.win w).isOut = false) :
    W8 m ρ c (Proc.devRef .tc r) = W7 m ρ c (Proc.devRef .tc r) := by
  by_cases hw : ∃ w : Fin cfg0.W, Pipeline.arrRef spec0 w = r
  · obtain ⟨w, rfl⟩ := hw
    exact (W8_arr m ρ c w).trans (((AttnFwd.dat (Entry0 m ρ) c).arrAt_in w (h w rfl) _).trans (AttnFwd.A_eq (Entry0 m ρ) c w))
  · exact W8_of_ne m ρ c r fun w e => hw ⟨w, e⟩
abbrev Exit0 : (c : Dev nD) → (b : Ref sig .tc) → Buf (Elt F) ((c : Thread nD τ).loc b) := fun c b => W8 m ρ c b
theorem hF0 (c : Dev nD) (w : Fin cfg0.W) : (AttnFwd.dat (Entry0 m ρ) c).arrAt w cfg0.N = Exit0 m ρ c (Pipeline.arrRef spec0 w) :=
  (W8_arr m ρ c w).symm
theorem hrest0 (c : Dev nD) : ∀ b, b ∉ Finset.univ.image (Pipeline.arrRef spec0) → Exit0 m ρ c b = Entry0 m ρ c b :=
  fun b hb => W8_of_ne m ρ c b fun w e => hb (Finset.mem_image.mpr ⟨w, Finset.mem_univ _, e⟩)
abbrev W9 : Dev nD → Valuation τ sig (Elt F) := fun c => StableHlo.after hostOps1 (W8 m ρ c)
theorem W9_of (c : Dev nD) (r : Ref sig .tc) (h : r ∉ hostOps1_W) : W9 m ρ c (Proc.devRef .tc r) = W8 m ρ c (Proc.devRef .tc r) :=
  StableHlo.after_of_writes_sub hostOps1 _ hostOps1_writes h
abbrev W10 : Dev nD → Valuation τ sig (Elt F) := fun c => StableHlo.after hostOps1_1 (W9 m ρ c)
theorem W10_of (c : Dev nD) (r : Ref sig .tc) (h : r ∉ hostOps1_1_W) : W10 m ρ c (Proc.devRef .tc r) = W9 m ρ c (Proc.devRef .tc r) :=
  StableHlo.after_of_writes_sub hostOps1_1 _ hostOps1_1_writes h
abbrev W11 : Dev nD → Valuation τ sig (Elt F) := fun c => StableHlo.after hostOps1_2 (W10 m ρ c)
theorem W11_of (c : Dev nD) (r : Ref sig .tc) (h : r ∉ hostOps1_2_W) : W11 m ρ c (Proc.devRef .tc r) = W10 m ρ c (Proc.devRef .tc r) :=
  StableHlo.after_of_writes_sub hostOps1_2 _ hostOps1_2_writes h
/-- The same read at the call's references: what the backward call is entered with. -/
abbrev Entry1 : (c : Dev nD) → (b : Ref sig .tc) → Buf (Elt F) ((c : Thread nD τ).loc b) := fun c b => W11 m ρ c b
/-- After the call: its arrays at what its pipeline leaves, every other buffer as before. -/
def W12 (c : Dev nD) : Valuation τ sig (Elt F) :=
  Pipeline.withArrays spec1 c (W11 m ρ c) fun w => (AttnBwd.dat (Entry1 m ρ) c).arrAt w cfg1.N
theorem W12_arr (c : Dev nD) (w : Fin cfg1.W) :
    W12 m ρ c (Proc.devRef .tc (Pipeline.arrRef spec1 w)) = (AttnBwd.dat (Entry1 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((AttnBwd.dat (Entry1 m ρ) c).arrAt_in w (h w rfl) _).trans (AttnBwd.A_eq (Entry1 m ρ) c w))
  · exact W12_of_ne m ρ c r fun w e => hw ⟨w, e⟩
abbrev Exit1 : (c : Dev nD) → (b : Ref sig .tc) → Buf (Elt F) ((c : Thread nD τ).loc b) := fun c b => W12 m ρ c b
theorem hF1 (c : Dev nD) (w : Fin cfg1.W) : (AttnBwd.dat (Entry1 m ρ) c).arrAt w cfg1.N = Exit1 m ρ c (Pipeline.arrRef spec1 w) :=
  (W12_arr m ρ c w).symm
theorem hrest1 (c : Dev nD) : ∀ b, b ∉ Finset.univ.image (Pipeline.arrRef spec1) → Exit1 m ρ c b = Entry1 m ρ c b :=
  fun b hb => W12_of_ne m ρ c b fun w e => hb (Finset.mem_image.mpr ⟨w, Finset.mem_univ _, e⟩)
abbrev W13 : Dev nD → Valuation τ sig (Elt F) := fun c => StableHlo.after hostOps2 (W12 m ρ c)
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h

/-! ## No stretch and no call writes an argument -/

abbrev argRefs : List (Ref sig .tc) := [main_arg0, main_arg1, main_arg2, main_arg3, main_arg4, main_arg5]

theorem args_kept (c : Dev nD) : ∀ a ∈ argRefs, W13 m ρ c (Proc.devRef .tc a) = m ((c : Thread nD τ).loc a) := fun a ha =>
  (W13_of m ρ c a ((ListAll.forall_mem_of_all_decide (by decide +kernel) : ∀ a ∈ argRefs, a ∉ hostOps2_W) a ha)).trans <|
  (W12_of m ρ c a ((ListAll.forall_mem_of_all_decide (by decide +kernel) : ∀ a ∈ argRefs, ∀ w : Fin cfg1.W, Pipeline.arrRef spec1 w = a → (cfg1.win w).isOut = false) a ha)).trans <|
  (W11_of m ρ c a ((ListAll.forall_mem_of_all_decide (by decide +kernel) : ∀ a ∈ argRefs, a ∉ hostOps1_2_W) a ha)).trans <|
  (W10_of m ρ c a ((ListAll.forall_mem_of_all_decide (by decide +kernel) : ∀ a ∈ argRefs, a ∉ hostOps1_1_W) a ha)).trans <|
  (W9_of m ρ c a ((ListAll.forall_mem_of_all_decide (by decide +kernel) : ∀ a ∈ argRefs, a ∉ hostOps1_W) a ha)).trans <|
  (W8_of m ρ c a ((ListAll.forall_mem_of_all_decide (by decide +kernel) : ∀ a ∈ argRefs, ∀ w : Fin cfg0.W, Pipeline.arrRef spec0 w = a → (cfg0.win w).isOut = false) a ha)).trans <|
  (W7_of m ρ c a ((ListAll.forall_mem_of_all_decide (by decide +kernel) : ∀ a ∈ argRefs, a ∉ hostOps0_6_W) a ha)).trans <|
  (W6_of m ρ c a ((ListAll.forall_mem_of_all_decide (by decide +kernel) : ∀ a ∈ argRefs, a ∉ hostOps0_5_W) a ha)).trans <|
  (W5_of m ρ c a ((ListAll.forall_mem_of_all_decide (by decide +kernel) : ∀ a ∈ argRefs, a ∉ hostOps0_4_W) a ha)).trans <|
  (W4_of m ρ c a ((ListAll.forall_mem_of_all_decide (by decide +kernel) : ∀ a ∈ argRefs, a ∉ hostOps0_3_W) a ha)).trans <|
  (W3_of m ρ c a ((ListAll.forall_mem_of_all_decide (by decide +kernel) : ∀ a ∈ argRefs, a ∉ hostOps0_2_W) a ha)).trans <|
  (W2_of m ρ c a ((ListAll.forall_mem_of_all_decide (by decide +kernel) : ∀ a ∈ argRefs, a ∉ hostOps0_1_W) a ha)).trans <|
  (W1_of m ρ c a ((ListAll.forall_mem_of_all_decide (by decide +kernel) : ∀ a ∈ argRefs, a ∉ hostOps0_W) a ha)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => AttnFwd.dat (Entry0 m ρ) c
  | ⟨1, _⟩ => fun c => AttnBwd.dat (Entry1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- The forward call as a segment: entered with its arrays among all buffers, left with them at what its pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (AttnFwd.body_obligation (Entry0 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (Entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Entry0 m ρ c) (AttnFwd.A_eq (Entry0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Entry0 m ρ c) (Exit0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call as a segment, likewise. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (AttnBwd.body_obligation (Entry1 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (Entry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Entry1 m ρ c) (AttnBwd.A_eq (Entry1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Entry1 m ρ c) (Exit1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and its executions -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .region (reg1 m ρ),
    .host (hseg hostOps2 hostOps2_sub hostOps2_fresh (W12 m ρ)) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every execution terminates without a fault, with each buffer at the last boundary's contents and every counter at
    zero. -/
theorem run : θ_run defs (onTc (τ := τ) (main (F := F))) ⟨m, fun _ => 0, ρ⟩
    (fun r => (∀ c : Dev nD, ∀ b ∈ Pipeline.ucRefs τ sig, r.2.mem (((c : Thread nD τ)).1, b) = W13 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c) ⊢ iprop(Tₙ m ρ c ∗ ∃ W, owes (c : Thread nD τ) 0 W)
      unfold Tₙ R
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- The argument arrays end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    have e : ∀ a ∈ argRefs, ¬ (Proc.devRef .tc a : DevRef τ sig).isScoped → r.2.mem ((c.tc : Thread nD τ).loc a) = m ((c.tc : Thread nD τ).loc a) :=
      fun a ha hu => (h.1 c _ (mem_uc a hu)).trans (args_kept m ρ c a ha)
    ⟨e _ (by decide) (by decide), e _ (by decide) (by decide), e _ (by decide) (by decide), e _ (by decide) (by decide),
      e _ (by decide) (by decide), e _ (by decide) (by decide)⟩, h.2⟩) (run m ρ)

end Cert.AttnWhole

end
-- ==== Proof.Online.lean ====
/- The softmax taken block by block: a running maximum, a running normaliser and a running weighted sum, rescaled when
   the maximum moves. After any number of keys the three hold, up to the running maximum, the plain sums. -/
module

public import Idealize.ShloMosaic.PureOps.Ideal

@[expose] public section

noncomputable section

namespace Cert.Online

open Idealize.ShloMosaic

/-- The largest of a block's scores, with −∞ for a start. -/
def blockMax {w : ℕ} (s : Fin w → EReal) : EReal := Finset.fold max (Ideal.ofBits .f32 0xFF800000#32) s Finset.univ

theorem negInf : Ideal.ofBits .f32 0xFF800000#32 = ⊥ := by simp [Ideal.ofBits, Ideal.ieee]

/-- The state after `n` keys with scores `S` and values `v`: maximum `m`, normaliser `l`, weighted sum `a`. -/
def State (S v : ℕ → ℝ) (n : ℕ) (m l a : EReal) : Prop :=
  (n = 0 ∧ m = ⊥ ∧ l = 0 ∧ a = 0) ∨
    ∃ μ : ℝ, m = (μ : EReal) ∧ l = ((∑ k ∈ Finset.range n, (2 : ℝ) ^ (S k - μ) : ℝ) : EReal)
      ∧ a = ((∑ k ∈ Finset.range n, (2 : ℝ) ^ (S k - μ) * v k : ℝ) : EReal)

theorem State.start (S v : ℕ → ℝ) : State S v 0 ⊥ 0 0 := .inl ⟨rfl, rfl, rfl, rfl⟩

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum over a block of which only the first `n` entries count. -/
theorem sum_first {w n : ℕ} (h : n ≤ w) (f : Fin w → EReal) (g : ℕ → ℝ) (hf : ∀ e, f e = if e.val < n then (g e.val : EReal) else 0) :
    ∑ e, f e = ((∑ e ∈ Finset.range n, g e : ℝ) : EReal) := by
  rw [coe_sum, Finset.sum_congr rfl fun e _ => hf e, Fin.sum_univ_eq_sum_range (fun e => if e < n then (g e : EReal) else 0) w,
    ← Finset.sum_filter]
  refine Finset.sum_congr ?_ fun _ _ => rfl
  ext e; simp; omega

theorem exp2_real (x : ℝ) : Ideal.exp2 (x : EReal) = (((2 : ℝ) ^ x : ℝ) : EReal) := rfl

variable {S v : ℕ → ℝ} {n : ℕ} {m l a : EReal}

theorem State.of_eq (h : State S v n m l a) {m' l' a' : EReal} (hm : m' = m) (hl : l' = l) (ha : a' = a) : State S v n m' l' a' := by
  subst hm hl ha; exact h

theorem State.max_real (h : State S v n m l a) {w k : ℕ} (hk : 0 < k) (hw : k ≤ w) (s : Fin w → EReal)
    (hs : ∀ e, s e = if e.val < k then (S (n + e.val) : EReal) else ⊥) : ∃ μ : ℝ, max m (blockMax s) = (μ : EReal) := by
  have hb : ∃ μ : ℝ, blockMax s = (μ : EReal) := by
    have ht : blockMax s < ⊤ := by
      unfold blockMax
      rw [Finset.fold_max_lt]
      refine ⟨by rw [negInf]; exact bot_lt_top, fun e _ => ?_⟩
      rw [hs]; split
      · exact EReal.coe_lt_top _
      · exact bot_lt_top
    have hl : ⊥ < blockMax s := by
      unfold blockMax
      rw [Finset.lt_fold_max]
      exact .inr ⟨⟨0, by omega⟩, Finset.mem_univ _, by rw [hs, if_pos hk]; exact EReal.bot_lt_coe _⟩
    exact ⟨_, (EReal.coe_toReal ht.ne hl.ne').symm⟩
  obtain ⟨μ, hμ⟩ := hb
  rcases h with ⟨_, rfl, _, _⟩ | ⟨ν, rfl, _, _⟩
  · exact ⟨μ, by rw [hμ]; exact max_eq_right bot_le⟩
  · exact ⟨max ν μ, by rw [hμ]; exact (EReal.coe_strictMono.monotone.map_max).symm⟩

/-- One block of keys: its first `k` keys count. -/
theorem State.step (h : State S v n m l a) {w k : ℕ} (hk : 0 < k) (hw : k ≤ w) (s u : Fin w → EReal)
    (hs : ∀ e, s e = if e.val < k then (S (n + e.val) : EReal) else ⊥) (hu : ∀ e, e.val < k → u e = (v (n + e.val) : EReal)) :
    State S v (n + k) (max m (blockMax s)) (Ideal.exp2 (m - max m (blockMax s)) * l + ∑ e, Ideal.exp2 (s e - max m (blockMax s)))
      (Ideal.exp2 (m - max m (blockMax s)) * a + ∑ e, Ideal.exp2 (s e - max m (blockMax s)) * u e) := by
  obtain ⟨μ, hμ⟩ := h.max_real hk hw s hs
  rw [hμ]
  have hp : ∀ e, Ideal.exp2 (s e - (μ : EReal)) = if e.val < k then (((2 : ℝ) ^ (S (n + e.val) - μ) : ℝ) : EReal) else 0 := fun e => by
    rw [hs]; split
    · rw [← EReal.coe_sub, exp2_real]
    · rw [sub_eq_add_neg, EReal.bot_add, Ideal.exp2_bot]
  rw [sum_first hw _ (fun e => (2 : ℝ) ^ (S (n + e) - μ)) hp,
    sum_first hw (fun e => Ideal.exp2 (s e - (μ : EReal)) * u e) (fun e => (2 : ℝ) ^ (S (n + e) - μ) * v (n + e)) fun e => by
      rw [hp]; split
      · next he => rw [hu e he, ← EReal.coe_mul]
      · rw [zero_mul]]
  refine .inr ⟨μ, rfl, ?_, ?_⟩
  all_goals
    rcases h with ⟨rfl, rfl, rfl, rfl⟩ | ⟨ν, rfl, rfl, rfl⟩
    · rw [mul_zero, zero_add]; simp only [Nat.zero_add]
    · rw [← EReal.coe_sub, exp2_real, ← EReal.coe_mul, ← EReal.coe_add, Finset.sum_range_add]
      refine congrArg (fun r : ℝ => (r : EReal)) (congrArg₂ (· + ·) ?_ rfl)
      rw [Finset.mul_sum]
      refine Finset.sum_congr rfl fun i _ => ?_
      first
        | rw [← mul_assoc, ← Real.rpow_add (by norm_num)]; ring_nf
        | rw [← Real.rpow_add (by norm_num)]; ring_nf

theorem pow_pos' (x : ℝ) : (0 : ℝ) < (2 : ℝ) ^ x := Real.rpow_pos_of_pos (by norm_num) x

theorem State.pos (hn : 0 < n) (S : ℕ → ℝ) (μ : ℝ) : 0 < ∑ k ∈ Finset.range n, (2 : ℝ) ^ (S k - μ) :=
  Finset.sum_pos (fun _ _ => pow_pos' _) ⟨0, Finset.mem_range.mpr hn⟩

theorem shift (S v : ℕ → ℝ) (n : ℕ) (μ : ℝ) :
    (∑ k ∈ Finset.range n, (2 : ℝ) ^ S k * v k) = (2 : ℝ) ^ μ * ∑ k ∈ Finset.range n, (2 : ℝ) ^ (S k - μ) * v k := by
  rw [Finset.mul_sum]
  refine Finset.sum_congr rfl fun k _ => ?_
  rw [← mul_assoc, ← Real.rpow_add (by norm_num)]; ring_nf
theorem shift_one (S : ℕ → ℝ) (n : ℕ) (μ : ℝ) :
    (∑ k ∈ Finset.range n, (2 : ℝ) ^ S k) = (2 : ℝ) ^ μ * ∑ k ∈ Finset.range n, (2 : ℝ) ^ (S k - μ) := by
  have := shift S (fun _ => 1) n μ
  simpa using this

/-- The weighted sum over the normaliser is the softmax average. -/
theorem State.average (h : State S v n m l a) (hn : 0 < n) :
    Ideal.div a l = (((∑ k ∈ Finset.range n, (2 : ℝ) ^ S k * v k) / ∑ k ∈ Finset.range n, (2 : ℝ) ^ S k : ℝ) : EReal) := by
  rcases h with ⟨rfl, _⟩ | ⟨μ, rfl, rfl, rfl⟩
  · omega
  · rw [Ideal.div_coe (State.pos hn S μ).ne', ← EReal.coe_mul, shift S v n μ, shift_one S n μ,
      mul_div_mul_left _ _ (pow_pos' μ).ne', mul_one_div]

/-- The saved logarithm is the normaliser's, to base two. -/
theorem State.logsum (h : State S v n m l a) (hn : 0 < n) :
    m + Ideal.log l * (((Real.log 2)⁻¹ : ℝ) : EReal) = ((Real.log (∑ k ∈ Finset.range n, (2 : ℝ) ^ S k) * (Real.log 2)⁻¹ : ℝ) : EReal) := by
  rcases h with ⟨rfl, _⟩ | ⟨μ, rfl, rfl, rfl⟩
  · omega
  · have hp := State.pos hn S μ
    rw [Ideal.log_coe, if_neg (by linarith), ← EReal.coe_mul, ← EReal.coe_add, shift_one S n μ]
    rw [Real.log_mul (pow_pos' μ).ne' hp.ne', Real.log_rpow (by norm_num), add_mul, mul_assoc,
      mul_inv_cancel₀ (Real.log_pos (by norm_num)).ne', mul_one]

/-- A probability read back from the saved logarithm. -/
theorem saved (x Z : ℝ) (hZ : 0 < Z) : (2 : ℝ) ^ (x - Real.log Z * (Real.log 2)⁻¹) = (2 : ℝ) ^ x / Z := by
  rw [Real.rpow_sub (by norm_num)]
  congr 1
  rw [Real.rpow_def_of_pos (by norm_num), mul_comm (Real.log Z), ← mul_assoc, mul_inv_cancel₀ (Real.log_pos (by norm_num)).ne',
    one_mul, Real.exp_log hZ]

/-- Powers of two with the logarithm of two divided out. -/
theorem pow_log (x : ℝ) : (2 : ℝ) ^ (x * (Real.log 2)⁻¹) = Real.exp x := by
  rw [Real.rpow_def_of_pos (by norm_num), mul_comm x, ← mul_assoc, mul_inv_cancel₀ (Real.log_pos (by norm_num)).ne', one_mul]

end Cert.Online

end
-- ==== Proof.AttnMath.lean ====
/- Causal attention over the reals: a row's scores, its softmax, the output and the gradients, for heads whose queries and
   keys have a plain and a rotary part. Then the same quantities as the kernel forms them: lanes packed and padded, powers of
   two for exponentials, the row's logarithm saved. -/
module

public import proofs.«01_k».proof.Proof.Online

@[expose] public section

noncomputable section

namespace Cert.AttnMath

open Finset

/-- The attention's arguments: queries, keys (the rotary key shared by the heads), values, and the cotangent, by row, head
    and lane; the score's factor. -/
structure Args where
  qn : ℕ → ℕ → ℕ → ℝ
  qr : ℕ → ℕ → ℕ → ℝ
  kn : ℕ → ℕ → ℕ → ℝ
  kr : ℕ → ℕ → ℝ
  v : ℕ → ℕ → ℕ → ℝ
  dy : ℕ → ℕ → ℕ → ℝ
  c : ℝ

variable (A : Args)

def Args.s (h r k : ℕ) : ℝ := (∑ d ∈ range 64, A.qn r h d * A.kn k h d + ∑ d ∈ range 32, A.qr r h d * A.kr k d) * A.c
def Args.Z (h r : ℕ) : ℝ := ∑ k ∈ range (r + 1), Real.exp (A.s h r k)
def Args.P (h r k : ℕ) : ℝ := if k ≤ r then Real.exp (A.s h r k) / A.Z h r else 0
def Args.o (r h d : ℕ) : ℝ := ∑ k ∈ range 4112, A.P h r k * A.v k h d
def Args.dP (h r k : ℕ) : ℝ := ∑ d ∈ range 64, A.dy r h d * A.v k h d
def Args.dl (h r : ℕ) : ℝ := ∑ d ∈ range 64, A.dy r h d * A.o r h d
def Args.ds (h r k : ℕ) : ℝ := A.P h r k * (A.dP h r k - A.dl h r)
def Args.dqn (r h d : ℕ) : ℝ := (∑ k ∈ range 4112, A.ds h r k * A.kn k h d) * A.c
def Args.dqr (r h d : ℕ) : ℝ := (∑ k ∈ range 4112, A.ds h r k * A.kr k d) * A.c
def Args.dkn (k h d : ℕ) : ℝ := (∑ r ∈ range 4112, A.ds h r k * A.qn r h d) * A.c
def Args.dkrHead (k h d : ℕ) : ℝ := (∑ r ∈ range 4112, A.ds h r k * A.qr r h d) * A.c
def Args.dkr (k d : ℕ) : ℝ := ∑ h ∈ range 8, A.dkrHead k h d
def Args.dv (k h d : ℕ) : ℝ := ∑ r ∈ range 4112, A.P h r k * A.dy r h d

theorem Args.Z_pos (h r : ℕ) : 0 < A.Z h r := sum_pos (fun _ _ => Real.exp_pos _) ⟨0, by simp⟩

/-- The output's product with the cotangent is the mean of the cotangent's products with the values. -/
theorem Args.dl_eq (h r : ℕ) : A.dl h r = ∑ k ∈ range 4112, A.P h r k * A.dP h r k := by
  unfold Args.dl Args.o Args.dP
  simp only [mul_sum]
  rw [sum_comm]
  exact sum_congr rfl fun k _ => sum_congr rfl fun d _ => by ring

/-! ## Packed -/

/-- A head's plain and rotary lanes side by side in 128, the rest zero; rows past the last zero. -/
def packed (a b : ℕ → ℕ → ℕ → ℝ) (R L : ℕ) : ℝ :=
  if R < 4112 then if L % 128 < 64 then a R (L / 128) (L % 128) else if L % 128 - 64 < 32 then b R (L / 128) (L % 128 - 64) else 0 else 0
/-- A head's 64 lanes; rows past the last zero. -/
def flat (a : ℕ → ℕ → ℕ → ℝ) (R L : ℕ) : ℝ := if R < 4112 then a R (L / 64) (L % 64) else 0

def Args.Q : ℕ → ℕ → ℝ := packed (fun r h d => A.qn r h d * (A.c * (Real.log 2)⁻¹)) (fun r h d => A.qr r h d * (A.c * (Real.log 2)⁻¹))
def Args.K : ℕ → ℕ → ℝ := packed A.kn (fun k _ d => A.kr k d)
def Args.V : ℕ → ℕ → ℝ := flat A.v
def Args.D : ℕ → ℕ → ℝ := flat A.dy

theorem packed_first (a b : ℕ → ℕ → ℕ → ℝ) {R L : ℕ} (hR : R < 4112) (hL : L % 128 < 64) : packed a b R L = a R (L / 128) (L % 128) := by
  unfold packed; rw [if_pos hR, if_pos hL]
theorem packed_second (a b : ℕ → ℕ → ℕ → ℝ) {R L : ℕ} (hR : R < 4112) (hL : ¬ L % 128 < 64) (hM : L % 128 - 64 < 32) :
    packed a b R L = b R (L / 128) (L % 128 - 64) := by
  unfold packed; rw [if_pos hR, if_neg hL, if_pos hM]
theorem packed_third (a b : ℕ → ℕ → ℕ → ℝ) {R L : ℕ} (hL : ¬ L % 128 < 64) (hM : ¬ L % 128 - 64 < 32) : packed a b R L = 0 := by
  unfold packed; rw [if_neg hL, if_neg hM, ite_self]
theorem packed_plain (a b : ℕ → ℕ → ℕ → ℝ) {R h d : ℕ} (hR : R < 4112) (hd : d < 64) : packed a b R (128 * h + d) = a R h d := by
  unfold packed
  rw [if_pos hR, if_pos (by omega), show (128 * h + d) / 128 = h by omega, show (128 * h + d) % 128 = d by omega]
theorem packed_rope (a b : ℕ → ℕ → ℕ → ℝ) {R h d : ℕ} (hR : R < 4112) (hd : d < 32) : packed a b R (128 * h + (64 + d)) = b R h d := by
  unfold packed
  rw [if_pos hR, if_neg (by omega), if_pos (by omega), show (128 * h + (64 + d)) / 128 = h by omega, show (128 * h + (64 + d)) % 128 - 64 = d by omega]
theorem packed_rest (a b : ℕ → ℕ → ℕ → ℝ) {R h d : ℕ} (hd : d < 32) : packed a b R (128 * h + (96 + d)) = 0 := by
  unfold packed
  rw [if_neg (show ¬ (128 * h + (96 + d)) % 128 < 64 by omega), if_neg (show ¬ (128 * h + (96 + d)) % 128 - 64 < 32 by omega), ite_self]
theorem packed_below (a b : ℕ → ℕ → ℕ → ℝ) {R : ℕ} (L : ℕ) (hR : ¬ R < 4112) : packed a b R L = 0 := if_neg hR
theorem flat_at (a : ℕ → ℕ → ℕ → ℝ) {R h d : ℕ} (hR : R < 4112) (hd : d < 64) : flat a R (64 * h + d) = a R h d := by
  unfold flat
  rw [if_pos hR, show (64 * h + d) / 64 = h by omega, show (64 * h + d) % 64 = d by omega]
theorem flat_below (a : ℕ → ℕ → ℕ → ℝ) {R : ℕ} (L : ℕ) (hR : ¬ R < 4112) : flat a R L = 0 := if_neg hR

theorem Args.Q_first {R L : ℕ} (hR : R < 4112) (hL : L % 128 < 64) : A.Q R L = A.qn R (L / 128) (L % 128) * (A.c * (Real.log 2)⁻¹) := packed_first _ _ hR hL
theorem Args.Q_second {R L : ℕ} (hR : R < 4112) (hL : ¬ L % 128 < 64) (hM : L % 128 - 64 < 32) : A.Q R L = A.qr R (L / 128) (L % 128 - 64) * (A.c * (Real.log 2)⁻¹) := packed_second _ _ hR hL hM
theorem Args.Q_third {R L : ℕ} (hL : ¬ L % 128 < 64) (hM : ¬ L % 128 - 64 < 32) : A.Q R L = 0 := packed_third _ _ hL hM
theorem Args.Q_below {R : ℕ} (L : ℕ) (hR : ¬ R < 4112) : A.Q R L = 0 := packed_below _ _ _ hR
theorem Args.K_first {R L : ℕ} (hR : R < 4112) (hL : L % 128 < 64) : A.K R L = A.kn R (L / 128) (L % 128) := packed_first _ _ hR hL
theorem Args.K_second {R L : ℕ} (hR : R < 4112) (hL : ¬ L % 128 < 64) (hM : L % 128 - 64 < 32) : A.K R L = A.kr R (L % 128 - 64) := packed_second _ _ hR hL hM
theorem Args.K_third {R L : ℕ} (hL : ¬ L % 128 < 64) (hM : ¬ L % 128 - 64 < 32) : A.K R L = 0 := packed_third _ _ hL hM
theorem Args.K_below {R : ℕ} (L : ℕ) (hR : ¬ R < 4112) : A.K R L = 0 := packed_below _ _ _ hR

/-- The kernel's score, to base two. -/
def Args.S (h r k : ℕ) : ℝ := ∑ l ∈ range 128, A.Q r (128 * h + l) * A.K k (128 * h + l)

theorem Args.S_eq (h : ℕ) {r k : ℕ} (hr : r < 4112) (hk : k < 4112) : A.S h r k = A.s h r k * (Real.log 2)⁻¹ := by
  unfold Args.S Args.s
  rw [show (128 : ℕ) = 64 + (32 + 32) from rfl, sum_range_add, sum_range_add]
  have h0 : ∑ d ∈ range 64, A.Q r ((64 + (32 + 32)) * h + d) * A.K k ((64 + (32 + 32)) * h + d)
      = (∑ d ∈ range 64, A.qn r h d * A.kn k h d) * (A.c * (Real.log 2)⁻¹) := by
    rw [sum_mul]
    exact sum_congr rfl fun d hd => by
      have hd := mem_range.mp hd
      unfold Args.Q Args.K
      rw [packed_plain _ _ hr hd, packed_plain _ _ hk hd]; ring
  have h1 : ∑ d ∈ range 32, A.Q r ((64 + (32 + 32)) * h + (64 + d)) * A.K k ((64 + (32 + 32)) * h + (64 + d))
      = (∑ d ∈ range 32, A.qr r h d * A.kr k d) * (A.c * (Real.log 2)⁻¹) := by
    rw [sum_mul]
    exact sum_congr rfl fun d hd => by
      have hd := mem_range.mp hd
      unfold Args.Q Args.K
      rw [packed_rope _ _ hr hd, packed_rope _ _ hk hd]; ring
  have h2 : ∑ d ∈ range 32, A.Q r ((64 + (32 + 32)) * h + (64 + (32 + d))) * A.K k ((64 + (32 + 32)) * h + (64 + (32 + d))) = 0 :=
    sum_eq_zero fun d hd => by
      have hd := mem_range.mp hd
      unfold Args.Q
      rw [show (64 + (32 + 32)) * h + (64 + (32 + d)) = 128 * h + (96 + d) by omega, packed_rest _ _ hd, zero_mul]
  rw [h0, h1, h2]; ring

def Args.N (h r : ℕ) : ℝ := ∑ k ∈ range (r + 1), (2 : ℝ) ^ A.S h r k
theorem Args.N_pos (h r : ℕ) : 0 < A.N h r := sum_pos (fun _ _ => Real.rpow_pos_of_pos (by norm_num) _) ⟨0, by simp⟩

theorem Args.pow_S (h : ℕ) {r k : ℕ} (hr : r < 4112) (hk : k < 4112) : (2 : ℝ) ^ A.S h r k = Real.exp (A.s h r k) := by
  rw [A.S_eq h hr hk, Online.pow_log]
theorem Args.N_eq (h : ℕ) {r : ℕ} (hr : r < 4112) : A.N h r = A.Z h r :=
  sum_congr rfl fun k hk => A.pow_S h hr (by have := mem_range.mp hk; omega)

/-- The kernel's probability, output, cotangent products and score gradient. -/
def Args.P2 (h r k : ℕ) : ℝ := if k ≤ r then (2 : ℝ) ^ A.S h r k / A.N h r else 0
def Args.o2 (r L : ℕ) : ℝ := (∑ k ∈ range (r + 1), (2 : ℝ) ^ A.S (L / 64) r k * A.V k L) / A.N (L / 64) r
def Args.dl2 (r h : ℕ) : ℝ := ∑ d ∈ range 64, A.D r (64 * h + d) * A.o2 r (64 * h + d)
def Args.dP2 (h r k : ℕ) : ℝ := ∑ d ∈ range 64, A.D r (64 * h + d) * A.V k (64 * h + d)
def Args.ds2 (h r k : ℕ) : ℝ := A.P2 h r k * (A.dP2 h r k - A.dl2 r h)

theorem Args.P2_eq (h : ℕ) {r k : ℕ} (hr : r < 4112) : A.P2 h r k = A.P h r k := by
  unfold Args.P2 Args.P
  split
  · rw [A.pow_S h hr (by omega), A.N_eq h hr]
  · rfl
theorem Args.o2_eq {h r d : ℕ} (hr : r < 4112) (hd : d < 64) : A.o2 r (64 * h + d) = A.o r h d := by
  unfold Args.o2 Args.o
  rw [show (64 * h + d) / 64 = h by omega, A.N_eq h hr, show (4112 : ℕ) = (r + 1) + (4112 - (r + 1)) by omega, sum_range_add (fun k => A.P h r k * A.v k h d) (r + 1) (4112 - (r + 1)),
    sum_eq_zero (s := range (4112 - (r + 1))) (fun k _ => by unfold Args.P; rw [if_neg (by omega), zero_mul]), add_zero, sum_div]
  exact sum_congr rfl fun k hk => by
    have hk := mem_range.mp hk
    unfold Args.P Args.V
    rw [if_pos (by omega), A.pow_S h hr (by omega), flat_at _ (by omega) hd]; ring
theorem Args.dl2_eq {h r : ℕ} (hr : r < 4112) : A.dl2 r h = A.dl h r :=
  sum_congr rfl fun d hd => by
    have hd := mem_range.mp hd
    unfold Args.D
    rw [flat_at _ hr hd, A.o2_eq hr hd]
theorem Args.dP2_eq {h r k : ℕ} (hr : r < 4112) (hk : k < 4112) : A.dP2 h r k = A.dP h r k :=
  sum_congr rfl fun d hd => by
    have hd := mem_range.mp hd
    unfold Args.D Args.V
    rw [flat_at _ hr hd, flat_at _ hk hd]
theorem Args.ds2_eq {h r k : ℕ} (hr : r < 4112) (hk : k < 4112) : A.ds2 h r k = A.ds h r k := by
  unfold Args.ds2 Args.ds
  rw [A.P2_eq h hr, A.dP2_eq hr hk, A.dl2_eq hr]
/-- A padded row has no gradient, and a row sees no padded key. -/
theorem Args.ds2_row {h r k : ℕ} (hr : ¬ r < 4112) : A.ds2 h r k = 0 := by
  have h1 : A.dP2 h r k = 0 := sum_eq_zero fun d _ => by unfold Args.D; rw [flat_below _ _ hr, zero_mul]
  have h2 : A.dl2 r h = 0 := sum_eq_zero fun d _ => by unfold Args.D; rw [flat_below _ _ hr, zero_mul]
  unfold Args.ds2
  rw [h1, h2, sub_zero, mul_zero]

/-- The kernel's three arrays, over the padded rows. -/
def Args.dq2 (r L : ℕ) : ℝ := (∑ k ∈ range 4224, A.ds2 (L / 128) r k * A.K k L) * Real.log 2
def Args.dk2 (k L : ℕ) : ℝ := (∑ r ∈ range 4224, A.ds2 (L / 128) r k * A.Q r L) * Real.log 2
def Args.dv2 (k L : ℕ) : ℝ := ∑ r ∈ range 4224, A.P2 (L / 64) r k * A.D r L

theorem range_4224 (f : ℕ → ℝ) (h : ∀ i, ¬ i < 4112 → f i = 0) : ∑ i ∈ range 4224, f i = ∑ i ∈ range 4112, f i := by
  rw [show (4224 : ℕ) = 4112 + 112 from rfl, sum_range_add, sum_eq_zero (s := range 112) (fun i _ => h _ (by omega)), add_zero]

theorem log_two_ne : Real.log 2 ≠ 0 := (Real.log_pos (by norm_num)).ne'

theorem Args.dqn_eq {r h d : ℕ} (hr : r < 4112) (hd : d < 64) : A.dq2 r (128 * h + d) * (A.c * (Real.log 2)⁻¹) = A.dqn r h d := by
  unfold Args.dq2 Args.dqn
  rw [range_4224 _ (fun k hk => by unfold Args.K; rw [packed_below _ _ _ hk, mul_zero]), show (128 * h + d) / 128 = h by omega,
    sum_congr rfl (fun k hk => by unfold Args.K; rw [packed_plain _ _ (mem_range.mp hk) hd, A.ds2_eq hr (mem_range.mp hk)])]
  field_simp [log_two_ne]
theorem Args.dqr_eq {r h d : ℕ} (hr : r < 4112) (hd : d < 32) : A.dq2 r (128 * h + (64 + d)) * (A.c * (Real.log 2)⁻¹) = A.dqr r h d := by
  unfold Args.dq2 Args.dqr
  rw [range_4224 _ (fun k hk => by unfold Args.K; rw [packed_below _ _ _ hk, mul_zero]), show (128 * h + (64 + d)) / 128 = h by omega,
    sum_congr rfl (fun k hk => by unfold Args.K; rw [packed_rope _ _ (mem_range.mp hk) hd, A.ds2_eq hr (mem_range.mp hk)])]
  field_simp [log_two_ne]
theorem Args.dkn_eq {k h d : ℕ} (hk : k < 4112) (hd : d < 64) : A.dk2 k (128 * h + d) = A.dkn k h d := by
  unfold Args.dk2 Args.dkn
  rw [range_4224 _ (fun r hr => by rw [A.ds2_row hr, zero_mul]), show (128 * h + d) / 128 = h by omega,
    sum_congr rfl (fun r hr => by unfold Args.Q; rw [packed_plain _ _ (mem_range.mp hr) hd, A.ds2_eq (mem_range.mp hr) hk, ← mul_assoc]), ← sum_mul]
  field_simp [log_two_ne]
theorem Args.dkr_eq {k h d : ℕ} (hk : k < 4112) (hd : d < 32) : A.dk2 k (128 * h + (64 + d)) = A.dkrHead k h d := by
  unfold Args.dk2 Args.dkrHead
  rw [range_4224 _ (fun r hr => by rw [A.ds2_row hr, zero_mul]), show (128 * h + (64 + d)) / 128 = h by omega,
    sum_congr rfl (fun r hr => by unfold Args.Q; rw [packed_rope _ _ (mem_range.mp hr) hd, A.ds2_eq (mem_range.mp hr) hk, ← mul_assoc]), ← sum_mul]
  field_simp [log_two_ne]
theorem Args.dv_eq {k h d : ℕ} (hd : d < 64) : A.dv2 k (64 * h + d) = A.dv k h d := by
  unfold Args.dv2 Args.dv
  rw [range_4224 _ (fun r hr => by unfold Args.D; rw [flat_below _ _ hr, mul_zero]), show (64 * h + d) / 64 = h by omega]
  exact sum_congr rfl fun r hr => by unfold Args.D; rw [flat_at _ (mem_range.mp hr) hd, A.P2_eq h (mem_range.mp hr)]

end Cert.AttnMath

end
-- ==== Proof.AttnTerms.lean ====
/- The numbers the attention's two calls work with, over rows and columns counted by natural numbers: an entry of an
   array outside its bounds reads zero, so sums over blocks and over the whole need no bookkeeping of bounds. -/
module

public import proofs.«01_k».proof.AttnIdeal
public import Idealize.ShloMosaic.Lib.Pipeline.ValueKit
public import Idealize.ShloMosaic.Lib.Pointwise
public import Idealize.ShloMosaic.Lib.WritesUnit
public import Idealize.ShloMosaic.Lib.WordCmp
public import Idealize.ShloMosaic.Lib.Claim

@[expose] public section

noncomputable section

namespace Cert.AttnTerms

open Idealize.ShloMosaic

/-- The entry of a matrix at a row and a column, zero outside it. -/
def at2 {a b : ℕ} (x : (⟨2, ![a, b]⟩ : Shape).Idx → EReal) (r c : ℕ) : EReal :=
  if h : r < a ∧ c < b then x (ix2 ⟨r, h.1⟩ ⟨c, h.2⟩) else 0

theorem at2_ix2 {a b : ℕ} (x : (⟨2, ![a, b]⟩ : Shape).Idx → EReal) (r : Fin a) (c : Fin b) : x (ix2 r c) = at2 x r.val c.val := by
  unfold at2; rw [dif_pos ⟨r.isLt, c.isLt⟩]

theorem at2_idx {a b : ℕ} (x : (⟨2, ![a, b]⟩ : Shape).Idx → EReal) (i : (⟨2, ![a, b]⟩ : Shape).Idx) :
    x i = at2 x (i 0).val (i 1).val := by
  rw [← at2_ix2 x (i 0) (i 1)]
  congr 1
  funext u
  exact (Fin.forall_fin_two (p := fun u => i u = ix2 (i 0) (i 1) u)).mpr ⟨rfl, rfl⟩ u

/-- A load of a rectangle reads the entry at the rectangle's corner plus the index. -/
theorem readAt_f32 {sig : RefSig} {κ : Kind} {sp : Space} {a b : ℕ} (v : View sig κ sp ⟨2, ![a, b]⟩ .f32)
    (f : v.ty.Contents (Elt Ideal)) (off size : Fin 2 → ℕ) (inb) (x) :
    v.readAt (Elt Ideal) (Rect.unit (s := ⟨2, ![a, b]⟩) off size inb).toLoadRect f x
      = at2 (v.read (Elt Ideal) f) (off 0 + (x 0).val) (off 1 + (x 1).val) := by
  rw [View.readAt_apply]
  refine (at2_idx (v.read (Elt Ideal) f) _).trans ?_
  congr 1
  · exact Rect.idx_unit_val (s := ⟨2, ![a, b]⟩) off size inb x 0
  · exact Rect.idx_unit_val (s := ⟨2, ![a, b]⟩) off size inb x 1
theorem readAt_bf16 {sig : RefSig} {κ : Kind} {sp : Space} {a b : ℕ} (v : View sig κ sp ⟨2, ![a, b]⟩ .bf16)
    (f : v.ty.Contents (Elt Ideal)) (off size : Fin 2 → ℕ) (inb) (x) :
    v.readAt (Elt Ideal) (Rect.unit (s := ⟨2, ![a, b]⟩) off size inb).toLoadRect f x
      = at2 (v.read (Elt Ideal) f) (off 0 + (x 0).val) (off 1 + (x 1).val) := by
  rw [View.readAt_apply]
  refine (at2_idx (v.read (Elt Ideal) f) _).trans ?_
  congr 1
  · exact Rect.idx_unit_val (s := ⟨2, ![a, b]⟩) off size inb x 0
  · exact Rect.idx_unit_val (s := ⟨2, ![a, b]⟩) off size inb x 1

/-- An index of a rectangle, by its row and column. -/
theorem unitLocal_pair {a b m n o p : ℕ} (y : (⟨2, ![a, b]⟩ : Shape).Idx)
    (hm : ∀ u : Fin (⟨2, ![a, b]⟩ : Shape).rank, ![o, p] u ≤ (y u).val ∧ (y u).val < ![o, p] u + ![m, n] u) :
    ∃ (r : Fin m) (l : Fin n), Rect.unitLocal (s := ⟨2, ![a, b]⟩) (off := ![o, p]) (size := ![m, n]) y hm = ix2 r l
      ∧ o + r.val = (y 0).val ∧ p + l.val = (y 1).val := by
  have h0 : o ≤ (y 0).val ∧ (y 0).val < o + m := hm 0
  have h1 : p ≤ (y 1).val ∧ (y 1).val < p + n := hm 1
  refine ⟨⟨(y 0).val - o, by omega⟩, ⟨(y 1).val - p, by omega⟩, funext fun u => ?_, by simp; omega, by simp; omega⟩
  exact (Fin.forall_fin_two (p := fun u : Fin 2 => Rect.unitLocal (s := ⟨2, ![a, b]⟩) (off := ![o, p]) (size := ![m, n]) y hm u = ix2 _ _ u)).mpr ⟨Fin.ext rfl, Fin.ext rfl⟩ u

/-- The newest of a list of stores is what its rectangle reads; elsewhere the older ones are. -/
theorem at2_write {sig : RefSig} {κ : Kind} {sp : Space} {a b : ℕ} (v : View sig κ sp ⟨2, ![a, b]⟩ .f32)
    (f : v.ty.Contents (Elt Ideal)) {off : Fin 2 → ℕ} {m n o p : ℕ} (ho : off = ![o, p])
    (inb : ∀ u, off u + (![m, n] : Fin 2 → ℕ) u ≤ (⟨2, ![a, b]⟩ : Shape).size u)
    (w : (Rect.unit (s := ⟨2, ![a, b]⟩) off ![m, n] inb).shape.Idx → EReal) (r c : ℕ) :
    at2 (v.read (Elt Ideal) ((v.slice (Rect.unit (s := ⟨2, ![a, b]⟩) off ![m, n] inb)).write (Elt Ideal) f w Finset.univ)) r c
      = if (o ≤ r ∧ r < o + m) ∧ p ≤ c ∧ c < p + n then at2 (a := m) (b := n) w (r - o) (c - p) else at2 (v.read (Elt Ideal) f) r c := by
  subst ho
  have i0 : o + m ≤ a := inb 0
  have i1 : p + n ≤ b := inb 1
  by_cases h : r < a ∧ c < b
  · have e : ∀ x : (⟨2, ![a, b]⟩ : Shape).Idx → EReal, at2 x r c = x (ix2 ⟨r, h.1⟩ ⟨c, h.2⟩) := fun x => by unfold at2; rw [dif_pos h]
    rw [e, e]
    refine (View.read_writes_cons_unit v f inb w [] (ix2 ⟨r, h.1⟩ ⟨c, h.2⟩) rfl).trans ?_
    by_cases hm : (o ≤ r ∧ r < o + m) ∧ p ≤ c ∧ c < p + n
    · rw [dif_pos (Fin.forall_fin_two.mpr hm), if_pos hm]
      obtain ⟨r', l', e', hr, hl⟩ := unitLocal_pair (m := m) (n := n) (o := o) (p := p) (ix2 ⟨r, h.1⟩ ⟨c, h.2⟩) (Fin.forall_fin_two.mpr hm)
      refine (congrArg w e').trans ?_
      have hr : o + r'.val = r := hr
      have hl : p + l'.val = c := hl
      rw [show r - o = r'.val by omega, show c - p = l'.val by omega]
      exact at2_ix2 w r' l'
    · rw [dif_neg fun h' => hm (Fin.forall_fin_two.mp h'), if_neg hm]
      rfl
  · rw [if_neg (by omega)]
    unfold at2
    rw [dif_neg h, dif_neg h]

/-- The lanes of the left head, and of the right. -/
theorem sel_left (x : Fin 128) (a b : EReal) :
    Scalar.select (IntOp.cmpi .slt (BitVec.ofNat 32 x.val) 64#32) a b = if x.val / 64 = 0 then a else b := by
  have : IntOp.cmpi .slt (BitVec.ofNat 32 x.val) 64#32 = if x.val / 64 = 0 then 1#1 else 0#1 := by
    revert x; decide
  rw [this]; split <;> rfl
theorem sel_right (x : Fin 128) (a b : EReal) :
    Scalar.select (IntOp.xori (IntOp.cmpi .slt (BitVec.ofNat 32 x.val) 64#32) 1#1) a b = if x.val / 64 = 1 then a else b := by
  have : IntOp.xori (IntOp.cmpi .slt (BitVec.ofNat 32 x.val) 64#32) 1#1 = if x.val / 64 = 1 then 1#1 else 0#1 := by
    revert x; decide
  rw [this]; split <;> rfl

/-- The causal mask within a step, as a comparison of the row and the column. -/
theorem sel_le {m n : ℕ} (hm : m < 2 ^ 31) (hn : n < 2 ^ 31) (x : Fin m) (r : Fin n) (a b : EReal) :
    Scalar.select (IntOp.cmpi .sle (BitVec.ofNat 32 x.val) (BitVec.ofNat 32 r.val)) a b = if x.val ≤ r.val then a else b := by
  rw [WordCmp.cmpi_sle_ofNat (by have := x.isLt; omega) (by have := r.isLt; omega)]
  by_cases h : x.val ≤ r.val
  · rw [if_pos h]; simp [h, Scalar.select]
  · rw [if_neg h]; simp [h, Scalar.select]

theorem at2_zero {a b : ℕ} (x : (⟨2, ![a, b]⟩ : Shape).Idx → EReal) (h : ∀ y, x y = 0) (r c : ℕ) : at2 x r c = 0 := by
  unfold at2; split <;> simp [h]

/-- The step at the diagonal, the two row blocks a trip and the block left over together are all rows from there. -/
theorem rows_join (f : ℕ → ℕ → EReal) (hadd : ∀ {lo mid hi : ℕ}, lo ≤ mid → mid ≤ hi → f lo mid + f mid hi = f lo hi)
    (h0 : ∀ lo, f lo lo = 0) {j t1 t3 : ℕ} (hj : j ≤ 9) (h1 : t1 = (9 - j) / 2) (h3 : t3 = (9 - j) % 2) :
    f (384 * j) (384 * j + 768) + f (384 * (j + 2)) (384 * (j + 2) + 768 * t1) + f 3840 (3840 + 384 * t3) = f (384 * j) 4224 := by
  rw [show 384 * j + 768 = 384 * (j + 2) by omega, hadd (by omega) (by omega)]
  rcases Nat.mod_two_eq_zero_or_one (9 - j) with h | h
  · rw [h3, h, Nat.mul_zero, Nat.add_zero, h0, add_zero, show 384 * (j + 2) + 768 * t1 = 4224 by omega]
  · rw [h3, h, show 384 * (j + 2) + 768 * t1 = 3840 by omega]
    exact hadd (by omega) (by omega)

theorem zero_f32 : (FloatOps.ofBits (F := Ideal) .f32 0x00000000#32 : EReal) = 0 := by
  show Ideal.ofBits .f32 0x00000000#32 = 0
  simp [Ideal.ofBits, Ideal.ieee]

/-- The constant the key and query gradients are multiplied by. -/
def lnTwo : EReal := ((Real.log 2 : ℝ) : EReal)

/-! The quantities of a key block `k`, `v` against the rows of `q`, `dy`, of head `h` of a pair. -/

variable (q k v dy lse dl : ℕ → ℕ → EReal)

/-- The score of row `r` against key `c`. -/
def score (h r c : ℕ) : EReal := ∑ l : Fin 128, q r (128 * h + l.val) * k c (128 * h + l.val)
/-- Its probability, from the row's saved logarithm. -/
def prob (h r c : ℕ) : EReal := Ideal.exp2 (score q k h r c - lse r (64 * h))
/-- The cotangent of the probability. -/
def dprob (h r c : ℕ) : EReal := ∑ l : Fin 128, if l.val / 64 = h then dy r l.val * v c l.val else 0
/-- The cotangent of the score. -/
def dscore (h r c : ℕ) : EReal := prob q k lse h r c * (dprob v dy h r c - dl r (64 * h))

/-- The same under the causal mask, where the keys start at row `b`. -/
def mprob (b h r c : ℕ) : EReal := if b + c ≤ r then prob q k lse h r c else 0
def mds (b h r c : ℕ) : EReal := mprob q k lse b h r c * (dprob v dy h r c - dl r (64 * h))

/-- What the rows from `lo` to `hi` add to the three gradients. -/
def dqAdd (b lo hi r l : ℕ) : EReal :=
  if lo ≤ r ∧ r < hi then ∑ e : Fin 384, mds q k v dy lse dl b (l / 128) r e.val * k e.val l else 0
def dkAdd (b lo hi c l : ℕ) : EReal := ∑ r ∈ Finset.Ico lo hi, mds q k v dy lse dl b (l / 128) r c * q r l
def dvAdd (b lo hi c l : ℕ) : EReal := ∑ r ∈ Finset.Ico lo hi, mprob q k lse b (l / 64) r c * dy r l

theorem dqAdd_add {lo mid hi : ℕ} (h : lo ≤ mid) (h' : mid ≤ hi) (b r l : ℕ) :
    dqAdd q k v dy lse dl b lo mid r l + dqAdd q k v dy lse dl b mid hi r l = dqAdd q k v dy lse dl b lo hi r l := by
  unfold dqAdd
  by_cases h1 : lo ≤ r <;> by_cases h2 : r < mid <;> by_cases h3 : r < hi <;> by_cases h4 : mid ≤ r <;> simp [h1, h2, h3, h4] <;> omega
theorem dkAdd_add {lo mid hi : ℕ} (h : lo ≤ mid) (h' : mid ≤ hi) (b c l : ℕ) :
    dkAdd q k v dy lse dl b lo mid c l + dkAdd q k v dy lse dl b mid hi c l = dkAdd q k v dy lse dl b lo hi c l :=
  Finset.sum_Ico_consecutive _ h h'
theorem dvAdd_add {lo mid hi : ℕ} (h : lo ≤ mid) (h' : mid ≤ hi) (b c l : ℕ) :
    dvAdd q k dy lse b lo mid c l + dvAdd q k dy lse b mid hi c l = dvAdd q k dy lse b lo hi c l :=
  Finset.sum_Ico_consecutive _ h h'
theorem dqAdd_self (b lo r l : ℕ) : dqAdd q k v dy lse dl b lo lo r l = 0 := by
  unfold dqAdd; rw [if_neg (by omega)]
theorem dkAdd_self (b lo c l : ℕ) : dkAdd q k v dy lse dl b lo lo c l = 0 := by simp [dkAdd]
theorem dvAdd_self (b lo c l : ℕ) : dvAdd q k dy lse b lo lo c l = 0 := by simp [dvAdd]
theorem sum_Ico_fin (f : ℕ → EReal) (lo n : ℕ) : ∑ r ∈ Finset.Ico lo (lo + n), f r = ∑ r : Fin n, f (lo + r.val) := by
  rw [Finset.sum_Ico_eq_sum_range, Nat.add_sub_cancel_left, Finset.sum_range]

/-- Below the diagonal the mask is true everywhere. -/
theorem dqAdd_in {b lo hi r : ℕ} (h : lo ≤ r ∧ r < hi) (hb : b + 384 ≤ lo) (l : ℕ) :
    dqAdd q k v dy lse dl b lo hi r l = ∑ e : Fin 384, dscore q k v dy lse dl (l / 128) r e.val * k e.val l := by
  unfold dqAdd
  rw [if_pos h]
  exact Finset.sum_congr rfl fun e _ => by unfold mds mprob dscore; rw [if_pos (by have := e.isLt; omega)]
theorem dkAdd_in {b lo hi c : ℕ} (n : ℕ) (hn : lo + n = hi) (hb : b + 384 ≤ lo) (hc : c < 384) (l : ℕ) :
    dkAdd q k v dy lse dl b lo hi c l = ∑ r : Fin n, dscore q k v dy lse dl (l / 128) (lo + r.val) c * q (lo + r.val) l := by
  subst hn
  unfold dkAdd
  rw [sum_Ico_fin]
  exact Finset.sum_congr rfl fun e _ => by unfold mds mprob dscore; rw [if_pos (by omega)]
theorem dvAdd_in {b lo hi c : ℕ} (n : ℕ) (hn : lo + n = hi) (hb : b + 384 ≤ lo) (hc : c < 384) (l : ℕ) :
    dvAdd q k dy lse b lo hi c l = ∑ r : Fin n, prob q k lse (l / 64) (lo + r.val) c * dy (lo + r.val) l := by
  subst hn
  unfold dvAdd
  rw [sum_Ico_fin]
  exact Finset.sum_congr rfl fun e _ => by unfold mprob; rw [if_pos (by omega)]

/-- At the diagonal, with the mask as the kernel writes it. -/
theorem dqAdd_mask {b hi r : ℕ} (h : b + r < hi) (l : ℕ) :
    dqAdd q k v dy lse dl b b hi (b + r) l = ∑ e : Fin 384, if e.val ≤ r then dscore q k v dy lse dl (l / 128) (b + r) e.val * k e.val l else 0 := by
  unfold dqAdd
  rw [if_pos (by omega)]
  refine Finset.sum_congr rfl fun e _ => ?_
  unfold mds mprob dscore
  by_cases he : e.val ≤ r
  · rw [if_pos (by omega), if_pos he]
  · rw [if_neg (by omega), if_neg he, zero_mul, zero_mul]
theorem dkAdd_mask {b hi c : ℕ} (n : ℕ) (hn : b + n = hi) (l : ℕ) :
    dkAdd q k v dy lse dl b b hi c l = ∑ r : Fin n, if c ≤ r.val then dscore q k v dy lse dl (l / 128) (b + r.val) c * q (b + r.val) l else 0 := by
  subst hn
  unfold dkAdd
  rw [sum_Ico_fin]
  refine Finset.sum_congr rfl fun e _ => ?_
  unfold mds mprob dscore
  by_cases he : c ≤ e.val
  · rw [if_pos (by omega), if_pos he]
  · rw [if_neg (by omega), if_neg he, zero_mul, zero_mul]
theorem dvAdd_mask {b hi c : ℕ} (n : ℕ) (hn : b + n = hi) (l : ℕ) :
    dvAdd q k dy lse b b hi c l = ∑ r : Fin n, if c ≤ r.val then prob q k lse (l / 64) (b + r.val) c * dy (b + r.val) l else 0 := by
  subst hn
  unfold dvAdd
  rw [sum_Ico_fin]
  refine Finset.sum_congr rfl fun e _ => ?_
  unfold mprob
  by_cases he : c ≤ e.val
  · rw [if_pos (by omega), if_pos he]
  · rw [if_neg (by omega), if_neg he, zero_mul]

end Cert.AttnTerms

end
-- ==== Proof.FwdSteps.lean ====
/- One trip of each of the forward attention's loops, row by row: the carried maximum, normaliser and
   weighted sum go from the state after the keys so far to the state after the keys of the block. -/
module

public import proofs.«01_k».proof.Proof.FwdRun
public import proofs.«01_k».proof.Proof.AttnTerms
public import proofs.«01_k».proof.Proof.Online
public import Idealize.ShloMosaic.Lib.Pipeline.ValueKit
public import Idealize.ShloMosaic.Lib.Pointwise

@[expose] public section

set_option maxRecDepth 16384

noncomputable section

namespace Cert.AttnFwd

open Cert.AttnTerms Cert.Online Cert.AttnIdeal Cert.AttnIdeal.Gen
open Idealize.ShloMosaic Idealize.ShloMosaic.TcCoe Idealize.SL.Sem Idealize.ShloMosaic.Pipeline

/-- The trips of the four loops at a grid point: two loops are the lowering's remainders and make none. -/
theorem trips : ∀ i : grid0.Coords, (k0_t1_loop i).trips = (i 1).val / 2 ∧ (k0_t2_loop i).trips = 0
    ∧ (k0_t3_loop i).trips = (i 1).val % 2 ∧ (k0_t4_loop i).trips = 0 ∧ (i 1).val < 11 := by decide +kernel
theorem offs1 : ∀ (i : grid0.Coords) (k : Fin (k0_t1_loop i).trips),
    k0_off1 i k = ![768 * k.val, 0] ∧ k0_off2 i k = ![768 * k.val, 0] ∧ k0_off3 i k = ![768 * k.val, 128] := by decide +kernel
theorem offs3 : ∀ (i : grid0.Coords) (k : Fin (k0_t3_loop i).trips),
    k0_off7 i k = ![768 * ((i 1).val / 2), 0] ∧ k0_off8 i k = ![768 * ((i 1).val / 2), 0] ∧ k0_off9 i k = ![768 * ((i 1).val / 2), 128] := by decide +kernel
theorem offs5 : ∀ (i : grid0.Coords),
    k0_off13 i = ![384 * (i 1).val, 0] ∧ k0_off14 i = ![384 * (i 1).val, 0] ∧ k0_off15 i = ![384 * (i 1).val, 128] := by decide +kernel

/-- The six values a loop carries: for each of the two heads the maxima, the normalisers and the weighted sums. -/
abbrev Acc := FVec Ideal S384x1 .f32 × FVec Ideal S384x1 .f32 × FVec Ideal S384x128 .f32 × FVec Ideal S384x1 .f32 × FVec Ideal S384x1 .f32 × FVec Ideal S384x128 .f32

variable (c : Dev nD) (i : grid0.Coords)
    (arg2 : Memref sig .tc .vmem S384x256 .bf16) (harg2 : arg2.IsWhole) (arg3 : Memref sig .tc .vmem S4224x256 .bf16) (harg3 : arg3.IsWhole)
    (arg4 : Memref sig .tc .vmem S4224x128 .bf16) (harg4 : arg4.IsWhole) (arg5 : Memref sig .tc .hbm S4224x1024 .bf16) (harg5 : arg5.IsWhole)
    (arg6 : Memref sig .tc .vmem S384x128 .f32) (harg6 : arg6.IsWhole) (arg7 : Memref sig .tc .vmem S384x128 .f32) (harg7 : arg7.IsWhole)
    (arg8 : Memref sig .tc .vmem S384x128 .bf16) (harg8 : arg8.IsWhole)
    (x2 : Vec Ideal S384x256 .bf16) (x3 : Vec Ideal S4224x256 .bf16) (x4 : Vec Ideal S4224x128 .bf16)

theorem trip1_left (k : Fin (k0_t1_loop i).trips) (acc : Acc) (r : Fin 384) (l : Fin 128) (S v : ℕ → ℝ)
    (hS : ∀ j < 4224, score (at2 x2) (at2 x3) 0 r.val j = (S j : EReal)) (hv : ∀ j < 4224, at2 x4 j l.val = (v j : EReal))
    (h : State S v (768 * k.val) (acc.1 (ix2 r 0)) (acc.2.1 (ix2 r 0)) (acc.2.2.1 (ix2 r l))) :
    State S v (768 * k.val + 768) ((tripR_k0_t1 (F := Ideal) Variants.none c none i arg2 harg2 arg3 harg3 arg4 harg4 arg5 harg5 arg6 harg6 arg7 harg7 arg8 harg8 (harg2.unread x2) (harg3.unread x3) (harg4.unread x4) k acc).1 (ix2 r 0)) ((tripR_k0_t1 (F := Ideal) Variants.none c none i arg2 harg2 arg3 harg3 arg4 harg4 arg5 harg5 arg6 harg6 arg7 harg7 arg8 harg8 (harg2.unread x2) (harg3.unread x3) (harg4.unread x4) k acc).2.1 (ix2 r 0))
      ((tripR_k0_t1 (F := Ideal) Variants.none c none i arg2 harg2 arg3 harg3 arg4 harg4 arg5 harg5 arg6 harg6 arg7 harg7 arg8 harg8 (harg2.unread x2) (harg3.unread x3) (harg4.unread x4) k acc).2.2.1 (ix2 r l)) := by
  obtain ⟨t1, _, t3, _, t0⟩ := trips i
  have hk := k.isLt
  have hs := h.step (w := 768) (k := 768) (by omega) le_rfl (fun e => score (at2 x2) (at2 x3) 0 r.val (768 * k.val + e.val)) (fun e => at2 x4 (768 * k.val + e.val) l.val)
    (fun e => (hS _ (by have := e.isLt; omega)).trans (by rw [if_pos e.isLt])) (fun e he => hv _ (by omega))
  refine hs.of_eq ?_ ?_ ?_
  · unfold tripR_k0_t1 trip_k0_t1
    dsimp only
    pointwise [trip_k0_t1.sl.cst_35, trip_k0_t1.sl.cst_36, trip_k0_t1.sl.cst_37, trip_k0_t1.sl.cst_38, trip_k0_t1.sl.v105, trip_k0_t1.sl.v107, trip_k0_t1.sl.v109, trip_k0_t1.sl.v111, trip_k0_t1.sl.v114, trip_k0_t1.sl.v115, trip_k0_t1.sl.v116, trip_k0_t1.sl.v117, trip_k0_t1.sl.v118, trip_k0_t1.sl.v119, trip_k0_t1.sl.v120, trip_k0_t1.sl.v121, trip_k0_t1.sl.v122, trip_k0_t1.sl.v123, trip_k0_t1.sl.v124, trip_k0_t1.sl.v125, trip_k0_t1.sl.v126, trip_k0_t1.sl.v127, trip_k0_t1.sl.v128, trip_k0_t1.sl.v129, trip_k0_t1.sl.v130, trip_k0_t1.sl.v131, trip_k0_t1.sl.v132, trip_k0_t1.sl.v134, trip_k0_t1.sl.v137, trip_k0_t1.sl.v138, trip_k0_t1.sl.v139, trip_k0_t1.sl.v140, trip_k0_t1.sl.v141, trip_k0_t1.sl.v142, trip_k0_t1.sl.v143, trip_k0_t1.sl.v144, trip_k0_t1.sl.v145, trip_k0_t1.sl.v146, trip_k0_t1.sl.v147, trip_k0_t1.sl.v148, k0_pay4, k0_pay5, k0_pay6, k0_pay7, k0_pay8, k0_pay9, k0_pay10, k0_pay11, k0_pay12, k0_pay13, k0_pay14, k0_pay15, k0_pay16, k0_pay60, k0_pay61]
    simp only [readAt_bf16, (offs1 i k).1, (offs1 i k).2.1, (offs1 i k).2.2, harg2.read_unread, harg3.read_unread, harg4.read_unread, ix2_0, ix2_1,
      Matrix.cons_val_zero, Matrix.cons_val_one, Nat.zero_add, blockMax, score, Nat.mul_zero, Nat.mul_one]
    try rfl
  · unfold tripR_k0_t1 trip_k0_t1
    dsimp only
    pointwise [trip_k0_t1.sl.cst_35, trip_k0_t1.sl.cst_36, trip_k0_t1.sl.cst_37, trip_k0_t1.sl.cst_38, trip_k0_t1.sl.v105, trip_k0_t1.sl.v107, trip_k0_t1.sl.v109, trip_k0_t1.sl.v111, trip_k0_t1.sl.v114, trip_k0_t1.sl.v115, trip_k0_t1.sl.v116, trip_k0_t1.sl.v117, trip_k0_t1.sl.v118, trip_k0_t1.sl.v119, trip_k0_t1.sl.v120, trip_k0_t1.sl.v121, trip_k0_t1.sl.v122, trip_k0_t1.sl.v123, trip_k0_t1.sl.v124, trip_k0_t1.sl.v125, trip_k0_t1.sl.v126, trip_k0_t1.sl.v127, trip_k0_t1.sl.v128, trip_k0_t1.sl.v129, trip_k0_t1.sl.v130, trip_k0_t1.sl.v131, trip_k0_t1.sl.v132, trip_k0_t1.sl.v134, trip_k0_t1.sl.v137, trip_k0_t1.sl.v138, trip_k0_t1.sl.v139, trip_k0_t1.sl.v140, trip_k0_t1.sl.v141, trip_k0_t1.sl.v142, trip_k0_t1.sl.v143, trip_k0_t1.sl.v144, trip_k0_t1.sl.v145, trip_k0_t1.sl.v146, trip_k0_t1.sl.v147, trip_k0_t1.sl.v148, k0_pay4, k0_pay5, k0_pay6, k0_pay7, k0_pay8, k0_pay9, k0_pay10, k0_pay11, k0_pay12, k0_pay13, k0_pay14, k0_pay15, k0_pay16, k0_pay60, k0_pay61]
    simp only [readAt_bf16, (offs1 i k).1, (offs1 i k).2.1, (offs1 i k).2.2, harg2.read_unread, harg3.read_unread, harg4.read_unread, ix2_0, ix2_1,
      Matrix.cons_val_zero, Matrix.cons_val_one, Nat.zero_add, blockMax, score, Nat.mul_zero, Nat.mul_one]
    try rfl
  · unfold tripR_k0_t1 trip_k0_t1
    dsimp only
    pointwise [trip_k0_t1.sl.cst_35, trip_k0_t1.sl.cst_36, trip_k0_t1.sl.cst_37, trip_k0_t1.sl.cst_38, trip_k0_t1.sl.v105, trip_k0_t1.sl.v107, trip_k0_t1.sl.v109, trip_k0_t1.sl.v111, trip_k0_t1.sl.v114, trip_k0_t1.sl.v115, trip_k0_t1.sl.v116, trip_k0_t1.sl.v117, trip_k0_t1.sl.v118, trip_k0_t1.sl.v119, trip_k0_t1.sl.v120, trip_k0_t1.sl.v121, trip_k0_t1.sl.v122, trip_k0_t1.sl.v123, trip_k0_t1.sl.v124, trip_k0_t1.sl.v125, trip_k0_t1.sl.v126, trip_k0_t1.sl.v127, trip_k0_t1.sl.v128, trip_k0_t1.sl.v129, trip_k0_t1.sl.v130, trip_k0_t1.sl.v131, trip_k0_t1.sl.v132, trip_k0_t1.sl.v134, trip_k0_t1.sl.v137, trip_k0_t1.sl.v138, trip_k0_t1.sl.v139, trip_k0_t1.sl.v140, trip_k0_t1.sl.v141, trip_k0_t1.sl.v142, trip_k0_t1.sl.v143, trip_k0_t1.sl.v144, trip_k0_t1.sl.v145, trip_k0_t1.sl.v146, trip_k0_t1.sl.v147, trip_k0_t1.sl.v148, k0_pay4, k0_pay5, k0_pay6, k0_pay7, k0_pay8, k0_pay9, k0_pay10, k0_pay11, k0_pay12, k0_pay13, k0_pay14, k0_pay15, k0_pay16, k0_pay60, k0_pay61]
    simp only [readAt_bf16, (offs1 i k).1, (offs1 i k).2.1, (offs1 i k).2.2, harg2.read_unread, harg3.read_unread, harg4.read_unread, ix2_0, ix2_1,
      Matrix.cons_val_zero, Matrix.cons_val_one, Nat.zero_add, blockMax, score, Nat.mul_zero, Nat.mul_one]
    try rfl

theorem trip1_right (k : Fin (k0_t1_loop i).trips) (acc : Acc) (r : Fin 384) (l : Fin 128) (S v : ℕ → ℝ)
    (hS : ∀ j < 4224, score (at2 x2) (at2 x3) 1 r.val j = (S j : EReal)) (hv : ∀ j < 4224, at2 x4 j l.val = (v j : EReal))
    (h : State S v (768 * k.val) (acc.2.2.2.1 (ix2 r 0)) (acc.2.2.2.2.1 (ix2 r 0)) (acc.2.2.2.2.2 (ix2 r l))) :
    State S v (768 * k.val + 768) ((tripR_k0_t1 (F := Ideal) Variants.none c none i arg2 harg2 arg3 harg3 arg4 harg4 arg5 harg5 arg6 harg6 arg7 harg7 arg8 harg8 (harg2.unread x2) (harg3.unread x3) (harg4.unread x4) k acc).2.2.2.1 (ix2 r 0)) ((tripR_k0_t1 (F := Ideal) Variants.none c none i arg2 harg2 arg3 harg3 arg4 harg4 arg5 harg5 arg6 harg6 arg7 harg7 arg8 harg8 (harg2.unread x2) (harg3.unread x3) (harg4.unread x4) k acc).2.2.2.2.1 (ix2 r 0))
      ((tripR_k0_t1 (F := Ideal) Variants.none c none i arg2 harg2 arg3 harg3 arg4 harg4 arg5 harg5 arg6 harg6 arg7 harg7 arg8 harg8 (harg2.unread x2) (harg3.unread x3) (harg4.unread x4) k acc).2.2.2.2.2 (ix2 r l)) := by
  obtain ⟨t1, _, t3, _, t0⟩ := trips i
  have hk := k.isLt
  have hs := h.step (w := 768) (k := 768) (by omega) le_rfl (fun e => score (at2 x2) (at2 x3) 1 r.val (768 * k.val + e.val)) (fun e => at2 x4 (768 * k.val + e.val) l.val)
    (fun e => (hS _ (by have := e.isLt; omega)).trans (by rw [if_pos e.isLt])) (fun e he => hv _ (by omega))
  refine hs.of_eq ?_ ?_ ?_
  · unfold tripR_k0_t1 trip_k0_t1
    dsimp only
    pointwise [trip_k0_t1.sl.cst_35, trip_k0_t1.sl.cst_36, trip_k0_t1.sl.cst_37, trip_k0_t1.sl.cst_38, trip_k0_t1.sl.v105, trip_k0_t1.sl.v107, trip_k0_t1.sl.v109, trip_k0_t1.sl.v111, trip_k0_t1.sl.v114, trip_k0_t1.sl.v115, trip_k0_t1.sl.v116, trip_k0_t1.sl.v117, trip_k0_t1.sl.v118, trip_k0_t1.sl.v119, trip_k0_t1.sl.v120, trip_k0_t1.sl.v121, trip_k0_t1.sl.v122, trip_k0_t1.sl.v123, trip_k0_t1.sl.v124, trip_k0_t1.sl.v125, trip_k0_t1.sl.v126, trip_k0_t1.sl.v127, trip_k0_t1.sl.v128, trip_k0_t1.sl.v129, trip_k0_t1.sl.v130, trip_k0_t1.sl.v131, trip_k0_t1.sl.v132, trip_k0_t1.sl.v134, trip_k0_t1.sl.v137, trip_k0_t1.sl.v138, trip_k0_t1.sl.v139, trip_k0_t1.sl.v140, trip_k0_t1.sl.v141, trip_k0_t1.sl.v142, trip_k0_t1.sl.v143, trip_k0_t1.sl.v144, trip_k0_t1.sl.v145, trip_k0_t1.sl.v146, trip_k0_t1.sl.v147, trip_k0_t1.sl.v148, k0_pay4, k0_pay5, k0_pay6, k0_pay7, k0_pay8, k0_pay9, k0_pay10, k0_pay11, k0_pay12, k0_pay13, k0_pay14, k0_pay15, k0_pay16, k0_pay60, k0_pay61]
    simp only [readAt_bf16, (offs1 i k).1, (offs1 i k).2.1, (offs1 i k).2.2, harg2.read_unread, harg3.read_unread, harg4.read_unread, ix2_0, ix2_1,
      Matrix.cons_val_zero, Matrix.cons_val_one, Nat.zero_add, blockMax, score, Nat.mul_zero, Nat.mul_one]
    try rfl
  · unfold tripR_k0_t1 trip_k0_t1
    dsimp only
    pointwise [trip_k0_t1.sl.cst_35, trip_k0_t1.sl.cst_36, trip_k0_t1.sl.cst_37, trip_k0_t1.sl.cst_38, trip_k0_t1.sl.v105, trip_k0_t1.sl.v107, trip_k0_t1.sl.v109, trip_k0_t1.sl.v111, trip_k0_t1.sl.v114, trip_k0_t1.sl.v115, trip_k0_t1.sl.v116, trip_k0_t1.sl.v117, trip_k0_t1.sl.v118, trip_k0_t1.sl.v119, trip_k0_t1.sl.v120, trip_k0_t1.sl.v121, trip_k0_t1.sl.v122, trip_k0_t1.sl.v123, trip_k0_t1.sl.v124, trip_k0_t1.sl.v125, trip_k0_t1.sl.v126, trip_k0_t1.sl.v127, trip_k0_t1.sl.v128, trip_k0_t1.sl.v129, trip_k0_t1.sl.v130, trip_k0_t1.sl.v131, trip_k0_t1.sl.v132, trip_k0_t1.sl.v134, trip_k0_t1.sl.v137, trip_k0_t1.sl.v138, trip_k0_t1.sl.v139, trip_k0_t1.sl.v140, trip_k0_t1.sl.v141, trip_k0_t1.sl.v142, trip_k0_t1.sl.v143, trip_k0_t1.sl.v144, trip_k0_t1.sl.v145, trip_k0_t1.sl.v146, trip_k0_t1.sl.v147, trip_k0_t1.sl.v148, k0_pay4, k0_pay5, k0_pay6, k0_pay7, k0_pay8, k0_pay9, k0_pay10, k0_pay11, k0_pay12, k0_pay13, k0_pay14, k0_pay15, k0_pay16, k0_pay60, k0_pay61]
    simp only [readAt_bf16, (offs1 i k).1, (offs1 i k).2.1, (offs1 i k).2.2, harg2.read_unread, harg3.read_unread, harg4.read_unread, ix2_0, ix2_1,
      Matrix.cons_val_zero, Matrix.cons_val_one, Nat.zero_add, blockMax, score, Nat.mul_zero, Nat.mul_one]
    try rfl
  · unfold tripR_k0_t1 trip_k0_t1
    dsimp only
    pointwise [trip_k0_t1.sl.cst_35, trip_k0_t1.sl.cst_36, trip_k0_t1.sl.cst_37, trip_k0_t1.sl.cst_38, trip_k0_t1.sl.v105, trip_k0_t1.sl.v107, trip_k0_t1.sl.v109, trip_k0_t1.sl.v111, trip_k0_t1.sl.v114, trip_k0_t1.sl.v115, trip_k0_t1.sl.v116, trip_k0_t1.sl.v117, trip_k0_t1.sl.v118, trip_k0_t1.sl.v119, trip_k0_t1.sl.v120, trip_k0_t1.sl.v121, trip_k0_t1.sl.v122, trip_k0_t1.sl.v123, trip_k0_t1.sl.v124, trip_k0_t1.sl.v125, trip_k0_t1.sl.v126, trip_k0_t1.sl.v127, trip_k0_t1.sl.v128, trip_k0_t1.sl.v129, trip_k0_t1.sl.v130, trip_k0_t1.sl.v131, trip_k0_t1.sl.v132, trip_k0_t1.sl.v134, trip_k0_t1.sl.v137, trip_k0_t1.sl.v138, trip_k0_t1.sl.v139, trip_k0_t1.sl.v140, trip_k0_t1.sl.v141, trip_k0_t1.sl.v142, trip_k0_t1.sl.v143, trip_k0_t1.sl.v144, trip_k0_t1.sl.v145, trip_k0_t1.sl.v146, trip_k0_t1.sl.v147, trip_k0_t1.sl.v148, k0_pay4, k0_pay5, k0_pay6, k0_pay7, k0_pay8, k0_pay9, k0_pay10, k0_pay11, k0_pay12, k0_pay13, k0_pay14, k0_pay15, k0_pay16, k0_pay60, k0_pay61]
    simp only [readAt_bf16, (offs1 i k).1, (offs1 i k).2.1, (offs1 i k).2.2, harg2.read_unread, harg3.read_unread, harg4.read_unread, ix2_0, ix2_1,
      Matrix.cons_val_zero, Matrix.cons_val_one, Nat.zero_add, blockMax, score, Nat.mul_zero, Nat.mul_one]
    try rfl

theorem trip3_left (z : BitVec 32) (k : Fin (k0_t3_loop i).trips) (acc : Acc) (r : Fin 384) (l : Fin 128) (S v : ℕ → ℝ)
    (hS : ∀ j < 4224, score (at2 x2) (at2 x3) 0 r.val j = (S j : EReal)) (hv : ∀ j < 4224, at2 x4 j l.val = (v j : EReal))
    (h : State S v (768 * ((i 1).val / 2)) (acc.1 (ix2 r 0)) (acc.2.1 (ix2 r 0)) (acc.2.2.1 (ix2 r l))) :
    State S v (768 * ((i 1).val / 2) + 384) ((tripR_k0_t3 (F := Ideal) Variants.none c none i arg2 harg2 arg3 harg3 arg4 harg4 arg5 harg5 arg6 harg6 arg7 harg7 arg8 harg8 z (harg2.unread x2) (harg3.unread x3) (harg4.unread x4) k acc).1 (ix2 r 0)) ((tripR_k0_t3 (F := Ideal) Variants.none c none i arg2 harg2 arg3 harg3 arg4 harg4 arg5 harg5 arg6 harg6 arg7 harg7 arg8 harg8 z (harg2.unread x2) (harg3.unread x3) (harg4.unread x4) k acc).2.1 (ix2 r 0))
      ((tripR_k0_t3 (F := Ideal) Variants.none c none i arg2 harg2 arg3 harg3 arg4 harg4 arg5 harg5 arg6 harg6 arg7 harg7 arg8 harg8 z (harg2.unread x2) (harg3.unread x3) (harg4.unread x4) k acc).2.2.1 (ix2 r l)) := by
  obtain ⟨t1, _, t3, _, t0⟩ := trips i
  have hk := k.isLt
  have hs := h.step (w := 384) (k := 384) (by omega) le_rfl (fun e => score (at2 x2) (at2 x3) 0 r.val (768 * ((i 1).val / 2) + e.val)) (fun e => at2 x4 (768 * ((i 1).val / 2) + e.val) l.val)
    (fun e => (hS _ (by have := e.isLt; omega)).trans (by rw [if_pos e.isLt])) (fun e he => hv _ (by omega))
  refine hs.of_eq ?_ ?_ ?_
  · unfold tripR_k0_t3 trip_k0_t3
    dsimp only
    pointwise [trip_k0_t3.sl.cst_36, trip_k0_t3.sl.cst_37, trip_k0_t3.sl.cst_38, trip_k0_t3.sl.cst_39, trip_k0_t3.sl.v105, trip_k0_t3.sl.v107, trip_k0_t3.sl.v109, trip_k0_t3.sl.v111, trip_k0_t3.sl.v114, trip_k0_t3.sl.v115, trip_k0_t3.sl.v116, trip_k0_t3.sl.v117, trip_k0_t3.sl.v118, trip_k0_t3.sl.v119, trip_k0_t3.sl.v120, trip_k0_t3.sl.v121, trip_k0_t3.sl.v122, trip_k0_t3.sl.v123, trip_k0_t3.sl.v124, trip_k0_t3.sl.v125, trip_k0_t3.sl.v126, trip_k0_t3.sl.v127, trip_k0_t3.sl.v128, trip_k0_t3.sl.v129, trip_k0_t3.sl.v130, trip_k0_t3.sl.v131, trip_k0_t3.sl.v132, trip_k0_t3.sl.v134, trip_k0_t3.sl.v137, trip_k0_t3.sl.v138, trip_k0_t3.sl.v139, trip_k0_t3.sl.v140, trip_k0_t3.sl.v141, trip_k0_t3.sl.v142, trip_k0_t3.sl.v143, trip_k0_t3.sl.v144, trip_k0_t3.sl.v145, trip_k0_t3.sl.v146, trip_k0_t3.sl.v147, trip_k0_t3.sl.v148, k0_pay30, k0_pay31, k0_pay32, k0_pay33, k0_pay34, k0_pay35, k0_pay36, k0_pay37, k0_pay38, k0_pay39, k0_pay40, k0_pay41, k0_pay42, k0_pay64, k0_pay65]
    simp only [readAt_bf16, (offs3 i k).1, (offs3 i k).2.1, (offs3 i k).2.2, harg2.read_unread, harg3.read_unread, harg4.read_unread, ix2_0, ix2_1,
      Matrix.cons_val_zero, Matrix.cons_val_one, Nat.zero_add, blockMax, score, Nat.mul_zero, Nat.mul_one]
    try rfl
  · unfold tripR_k0_t3 trip_k0_t3
    dsimp only
    pointwise [trip_k0_t3.sl.cst_36, trip_k0_t3.sl.cst_37, trip_k0_t3.sl.cst_38, trip_k0_t3.sl.cst_39, trip_k0_t3.sl.v105, trip_k0_t3.sl.v107, trip_k0_t3.sl.v109, trip_k0_t3.sl.v111, trip_k0_t3.sl.v114, trip_k0_t3.sl.v115, trip_k0_t3.sl.v116, trip_k0_t3.sl.v117, trip_k0_t3.sl.v118, trip_k0_t3.sl.v119, trip_k0_t3.sl.v120, trip_k0_t3.sl.v121, trip_k0_t3.sl.v122, trip_k0_t3.sl.v123, trip_k0_t3.sl.v124, trip_k0_t3.sl.v125, trip_k0_t3.sl.v126, trip_k0_t3.sl.v127, trip_k0_t3.sl.v128, trip_k0_t3.sl.v129, trip_k0_t3.sl.v130, trip_k0_t3.sl.v131, trip_k0_t3.sl.v132, trip_k0_t3.sl.v134, trip_k0_t3.sl.v137, trip_k0_t3.sl.v138, trip_k0_t3.sl.v139, trip_k0_t3.sl.v140, trip_k0_t3.sl.v141, trip_k0_t3.sl.v142, trip_k0_t3.sl.v143, trip_k0_t3.sl.v144, trip_k0_t3.sl.v145, trip_k0_t3.sl.v146, trip_k0_t3.sl.v147, trip_k0_t3.sl.v148, k0_pay30, k0_pay31, k0_pay32, k0_pay33, k0_pay34, k0_pay35, k0_pay36, k0_pay37, k0_pay38, k0_pay39, k0_pay40, k0_pay41, k0_pay42, k0_pay64, k0_pay65]
    simp only [readAt_bf16, (offs3 i k).1, (offs3 i k).2.1, (offs3 i k).2.2, harg2.read_unread, harg3.read_unread, harg4.read_unread, ix2_0, ix2_1,
      Matrix.cons_val_zero, Matrix.cons_val_one, Nat.zero_add, blockMax, score, Nat.mul_zero, Nat.mul_one]
    try rfl
  · unfold tripR_k0_t3 trip_k0_t3
    dsimp only
    pointwise [trip_k0_t3.sl.cst_36, trip_k0_t3.sl.cst_37, trip_k0_t3.sl.cst_38, trip_k0_t3.sl.cst_39, trip_k0_t3.sl.v105, trip_k0_t3.sl.v107, trip_k0_t3.sl.v109, trip_k0_t3.sl.v111, trip_k0_t3.sl.v114, trip_k0_t3.sl.v115, trip_k0_t3.sl.v116, trip_k0_t3.sl.v117, trip_k0_t3.sl.v118, trip_k0_t3.sl.v119, trip_k0_t3.sl.v120, trip_k0_t3.sl.v121, trip_k0_t3.sl.v122, trip_k0_t3.sl.v123, trip_k0_t3.sl.v124, trip_k0_t3.sl.v125, trip_k0_t3.sl.v126, trip_k0_t3.sl.v127, trip_k0_t3.sl.v128, trip_k0_t3.sl.v129, trip_k0_t3.sl.v130, trip_k0_t3.sl.v131, trip_k0_t3.sl.v132, trip_k0_t3.sl.v134, trip_k0_t3.sl.v137, trip_k0_t3.sl.v138, trip_k0_t3.sl.v139, trip_k0_t3.sl.v140, trip_k0_t3.sl.v141, trip_k0_t3.sl.v142, trip_k0_t3.sl.v143, trip_k0_t3.sl.v144, trip_k0_t3.sl.v145, trip_k0_t3.sl.v146, trip_k0_t3.sl.v147, trip_k0_t3.sl.v148, k0_pay30, k0_pay31, k0_pay32, k0_pay33, k0_pay34, k0_pay35, k0_pay36, k0_pay37, k0_pay38, k0_pay39, k0_pay40, k0_pay41, k0_pay42, k0_pay64, k0_pay65]
    simp only [readAt_bf16, (offs3 i k).1, (offs3 i k).2.1, (offs3 i k).2.2, harg2.read_unread, harg3.read_unread, harg4.read_unread, ix2_0, ix2_1,
      Matrix.cons_val_zero, Matrix.cons_val_one, Nat.zero_add, blockMax, score, Nat.mul_zero, Nat.mul_one]
    try rfl

theorem trip3_right (z : BitVec 32) (k : Fin (k0_t3_loop i).trips) (acc : Acc) (r : Fin 384) (l : Fin 128) (S v : ℕ → ℝ)
    (hS : ∀ j < 4224, score (at2 x2) (at2 x3) 1 r.val j = (S j : EReal)) (hv : ∀ j < 4224, at2 x4 j l.val = (v j : EReal))
    (h : State S v (768 * ((i 1).val / 2)) (acc.2.2.2.1 (ix2 r 0)) (acc.2.2.2.2.1 (ix2 r 0)) (acc.2.2.2.2.2 (ix2 r l))) :
    State S v (768 * ((i 1).val / 2) + 384) ((tripR_k0_t3 (F := Ideal) Variants.none c none i arg2 harg2 arg3 harg3 arg4 harg4 arg5 harg5 arg6 harg6 arg7 harg7 arg8 harg8 z (harg2.unread x2) (harg3.unread x3) (harg4.unread x4) k acc).2.2.2.1 (ix2 r 0)) ((tripR_k0_t3 (F := Ideal) Variants.none c none i arg2 harg2 arg3 harg3 arg4 harg4 arg5 harg5 arg6 harg6 arg7 harg7 arg8 harg8 z (harg2.unread x2) (harg3.unread x3) (harg4.unread x4) k acc).2.2.2.2.1 (ix2 r 0))
      ((tripR_k0_t3 (F := Ideal) Variants.none c none i arg2 harg2 arg3 harg3 arg4 harg4 arg5 harg5 arg6 harg6 arg7 harg7 arg8 harg8 z (harg2.unread x2) (harg3.unread x3) (harg4.unread x4) k acc).2.2.2.2.2 (ix2 r l)) := by
  obtain ⟨t1, _, t3, _, t0⟩ := trips i
  have hk := k.isLt
  have hs := h.step (w := 384) (k := 384) (by omega) le_rfl (fun e => score (at2 x2) (at2 x3) 1 r.val (768 * ((i 1).val / 2) + e.val)) (fun e => at2 x4 (768 * ((i 1).val / 2) + e.val) l.val)
    (fun e => (hS _ (by have := e.isLt; omega)).trans (by rw [if_pos e.isLt])) (fun e he => hv _ (by omega))
  refine hs.of_eq ?_ ?_ ?_
  · unfold tripR_k0_t3 trip_k0_t3
    dsimp only
    pointwise [trip_k0_t3.sl.cst_36, trip_k0_t3.sl.cst_37, trip_k0_t3.sl.cst_38, trip_k0_t3.sl.cst_39, trip_k0_t3.sl.v105, trip_k0_t3.sl.v107, trip_k0_t3.sl.v109, trip_k0_t3.sl.v111, trip_k0_t3.sl.v114, trip_k0_t3.sl.v115, trip_k0_t3.sl.v116, trip_k0_t3.sl.v117, trip_k0_t3.sl.v118, trip_k0_t3.sl.v119, trip_k0_t3.sl.v120, trip_k0_t3.sl.v121, trip_k0_t3.sl.v122, trip_k0_t3.sl.v123, trip_k0_t3.sl.v124, trip_k0_t3.sl.v125, trip_k0_t3.sl.v126, trip_k0_t3.sl.v127, trip_k0_t3.sl.v128, trip_k0_t3.sl.v129, trip_k0_t3.sl.v130, trip_k0_t3.sl.v131, trip_k0_t3.sl.v132, trip_k0_t3.sl.v134, trip_k0_t3.sl.v137, trip_k0_t3.sl.v138, trip_k0_t3.sl.v139, trip_k0_t3.sl.v140, trip_k0_t3.sl.v141, trip_k0_t3.sl.v142, trip_k0_t3.sl.v143, trip_k0_t3.sl.v144, trip_k0_t3.sl.v145, trip_k0_t3.sl.v146, trip_k0_t3.sl.v147, trip_k0_t3.sl.v148, k0_pay30, k0_pay31, k0_pay32, k0_pay33, k0_pay34, k0_pay35, k0_pay36, k0_pay37, k0_pay38, k0_pay39, k0_pay40, k0_pay41, k0_pay42, k0_pay64, k0_pay65]
    simp only [readAt_bf16, (offs3 i k).1, (offs3 i k).2.1, (offs3 i k).2.2, harg2.read_unread, harg3.read_unread, harg4.read_unread, ix2_0, ix2_1,
      Matrix.cons_val_zero, Matrix.cons_val_one, Nat.zero_add, blockMax, score, Nat.mul_zero, Nat.mul_one]
    try rfl
  · unfold tripR_k0_t3 trip_k0_t3
    dsimp only
    pointwise [trip_k0_t3.sl.cst_36, trip_k0_t3.sl.cst_37, trip_k0_t3.sl.cst_38, trip_k0_t3.sl.cst_39, trip_k0_t3.sl.v105, trip_k0_t3.sl.v107, trip_k0_t3.sl.v109, trip_k0_t3.sl.v111, trip_k0_t3.sl.v114, trip_k0_t3.sl.v115, trip_k0_t3.sl.v116, trip_k0_t3.sl.v117, trip_k0_t3.sl.v118, trip_k0_t3.sl.v119, trip_k0_t3.sl.v120, trip_k0_t3.sl.v121, trip_k0_t3.sl.v122, trip_k0_t3.sl.v123, trip_k0_t3.sl.v124, trip_k0_t3.sl.v125, trip_k0_t3.sl.v126, trip_k0_t3.sl.v127, trip_k0_t3.sl.v128, trip_k0_t3.sl.v129, trip_k0_t3.sl.v130, trip_k0_t3.sl.v131, trip_k0_t3.sl.v132, trip_k0_t3.sl.v134, trip_k0_t3.sl.v137, trip_k0_t3.sl.v138, trip_k0_t3.sl.v139, trip_k0_t3.sl.v140, trip_k0_t3.sl.v141, trip_k0_t3.sl.v142, trip_k0_t3.sl.v143, trip_k0_t3.sl.v144, trip_k0_t3.sl.v145, trip_k0_t3.sl.v146, trip_k0_t3.sl.v147, trip_k0_t3.sl.v148, k0_pay30, k0_pay31, k0_pay32, k0_pay33, k0_pay34, k0_pay35, k0_pay36, k0_pay37, k0_pay38, k0_pay39, k0_pay40, k0_pay41, k0_pay42, k0_pay64, k0_pay65]
    simp only [readAt_bf16, (offs3 i k).1, (offs3 i k).2.1, (offs3 i k).2.2, harg2.read_unread, harg3.read_unread, harg4.read_unread, ix2_0, ix2_1,
      Matrix.cons_val_zero, Matrix.cons_val_one, Nat.zero_add, blockMax, score, Nat.mul_zero, Nat.mul_one]
    try rfl
  · unfold tripR_k0_t3 trip_k0_t3
    dsimp only
    pointwise [trip_k0_t3.sl.cst_36, trip_k0_t3.sl.cst_37, trip_k0_t3.sl.cst_38, trip_k0_t3.sl.cst_39, trip_k0_t3.sl.v105, trip_k0_t3.sl.v107, trip_k0_t3.sl.v109, trip_k0_t3.sl.v111, trip_k0_t3.sl.v114, trip_k0_t3.sl.v115, trip_k0_t3.sl.v116, trip_k0_t3.sl.v117, trip_k0_t3.sl.v118, trip_k0_t3.sl.v119, trip_k0_t3.sl.v120, trip_k0_t3.sl.v121, trip_k0_t3.sl.v122, trip_k0_t3.sl.v123, trip_k0_t3.sl.v124, trip_k0_t3.sl.v125, trip_k0_t3.sl.v126, trip_k0_t3.sl.v127, trip_k0_t3.sl.v128, trip_k0_t3.sl.v129, trip_k0_t3.sl.v130, trip_k0_t3.sl.v131, trip_k0_t3.sl.v132, trip_k0_t3.sl.v134, trip_k0_t3.sl.v137, trip_k0_t3.sl.v138, trip_k0_t3.sl.v139, trip_k0_t3.sl.v140, trip_k0_t3.sl.v141, trip_k0_t3.sl.v142, trip_k0_t3.sl.v143, trip_k0_t3.sl.v144, trip_k0_t3.sl.v145, trip_k0_t3.sl.v146, trip_k0_t3.sl.v147, trip_k0_t3.sl.v148, k0_pay30, k0_pay31, k0_pay32, k0_pay33, k0_pay34, k0_pay35, k0_pay36, k0_pay37, k0_pay38, k0_pay39, k0_pay40, k0_pay41, k0_pay42, k0_pay64, k0_pay65]
    simp only [readAt_bf16, (offs3 i k).1, (offs3 i k).2.1, (offs3 i k).2.2, harg2.read_unread, harg3.read_unread, harg4.read_unread, ix2_0, ix2_1,
      Matrix.cons_val_zero, Matrix.cons_val_one, Nat.zero_add, blockMax, score, Nat.mul_zero, Nat.mul_one]
    try rfl

end Cert.AttnFwd

end
-- ==== Proof.FwdValues.lean ====
/- The forward attention at a grid point: its loops, its last step, and what it leaves in the output and in the saved
   logarithm, as the softmax over the keys up to the row. -/
module

public import proofs.«01_k».proof.Proof.FwdSteps
public import Idealize.ShloMosaic.Lib.WritesUnit
public import Idealize.ShloMosaic.Lib.Claim

@[expose] public section

set_option maxRecDepth 16384

noncomputable section

namespace Cert.AttnFwd

open Cert.AttnTerms Cert.Online Cert.AttnIdeal Cert.AttnIdeal.Gen
open Idealize.ShloMosaic Idealize.ShloMosaic.TcCoe Idealize.SL.Sem Idealize.ShloMosaic.Pipeline

variable (c : Dev nD) (i : grid0.Coords)
    (arg2 : Memref sig .tc .vmem S384x256 .bf16) (harg2 : arg2.IsWhole) (arg3 : Memref sig .tc .vmem S4224x256 .bf16) (harg3 : arg3.IsWhole)
    (arg4 : Memref sig .tc .vmem S4224x128 .bf16) (harg4 : arg4.IsWhole) (arg5 : Memref sig .tc .hbm S4224x1024 .bf16) (harg5 : arg5.IsWhole)
    (arg6 : Memref sig .tc .vmem S384x128 .f32) (harg6 : arg6.IsWhole) (arg7 : Memref sig .tc .vmem S384x128 .f32) (harg7 : arg7.IsWhole)
    (arg8 : Memref sig .tc .vmem S384x128 .bf16) (harg8 : arg8.IsWhole)
    (x2 : Vec Ideal S384x256 .bf16) (x3 : Vec Ideal S4224x256 .bf16) (x4 : Vec Ideal S4224x128 .bf16)

/-- Both heads' states after `n` keys, at row `r` and lane `l`. -/
def Both (S₀ S₁ v : ℕ → ℝ) (r : Fin 384) (l : Fin 128) (n : ℕ) (acc : Acc) : Prop :=
  State S₀ v n (acc.1 (ix2 r 0)) (acc.2.1 (ix2 r 0)) (acc.2.2.1 (ix2 r l))
    ∧ State S₁ v n (acc.2.2.2.1 (ix2 r 0)) (acc.2.2.2.2.1 (ix2 r 0)) (acc.2.2.2.2.2 (ix2 r l))

section

variable (S₀ S₁ v : ℕ → ℝ) (r : Fin 384) (l : Fin 128)
  (hS₀ : ∀ j < 4224, score (at2 x2) (at2 x3) 0 r.val j = (S₀ j : EReal)) (hS₁ : ∀ j < 4224, score (at2 x2) (at2 x3) 1 r.val j = (S₁ j : EReal))
  (hv : ∀ j < 4224, at2 x4 j l.val = (v j : EReal))
include hS₀ hS₁ hv

theorem loop1 (init : Acc) (h : Both S₀ S₁ v r l 0 init) : ∀ n ≤ (k0_t1_loop i).trips,
    Both S₀ S₁ v r l (768 * n) (st_k0_t1 (F := Ideal) Variants.none c none i arg2 harg2 arg3 harg3 arg4 harg4 arg5 harg5 arg6 harg6 arg7 harg7 arg8 harg8 (harg2.unread x2) (harg3.unread x3) (harg4.unread x4) init n) := by
  intro n
  induction n with
  | zero => intro _; exact h
  | succ n ih =>
    intro hn
    have ih := ih (by omega)
    rw [show n + 1 = (⟨n, hn⟩ : Fin (k0_t1_loop i).trips).val + 1 from rfl, st_k0_t1_succ]
    exact ⟨trip1_left _ _ _ _ _ _ _ _ _ _ _ _ _ _ _ _ _ _ _ ⟨n, hn⟩ _ r l S₀ v hS₀ hv ih.1, trip1_right _ _ _ _ _ _ _ _ _ _ _ _ _ _ _ _ _ _ _ ⟨n, hn⟩ _ r l S₁ v hS₁ hv ih.2⟩

theorem loop3 (z : BitVec 32) (init : Acc) (h : Both S₀ S₁ v r l (768 * ((i 1).val / 2)) init) :
    Both S₀ S₁ v r l (384 * (i 1).val) (st_k0_t3 (F := Ideal) Variants.none c none i arg2 harg2 arg3 harg3 arg4 harg4 arg5 harg5 arg6 harg6 arg7 harg7 arg8 harg8 z (harg2.unread x2) (harg3.unread x3) (harg4.unread x4) init (k0_t3_loop i).trips) := by
  obtain ⟨_, _, t3, _, t0⟩ := trips i
  rcases Nat.mod_two_eq_zero_or_one (i 1).val with h0 | h0
  · rw [show (k0_t3_loop i).trips = 0 by omega, show 384 * (i 1).val = 768 * ((i 1).val / 2) by omega]
    exact h
  · have hk : 0 < (k0_t3_loop i).trips := by omega
    rw [show (k0_t3_loop i).trips = (⟨0, hk⟩ : Fin (k0_t3_loop i).trips).val + 1 by show _ = 0 + 1; omega, st_k0_t3_succ,
      show 384 * (i 1).val = 768 * ((i 1).val / 2) + 384 by omega]
    exact ⟨trip3_left _ _ _ _ _ _ _ _ _ _ _ _ _ _ _ _ _ _ _ z ⟨0, hk⟩ _ r l S₀ v hS₀ hv h.1, trip3_right _ _ _ _ _ _ _ _ _ _ _ _ _ _ _ _ _ _ _ z ⟨0, hk⟩ _ r l S₁ v hS₁ hv h.2⟩

/-- The carried values before the last step. -/
theorem carry : Both S₀ S₁ v r l (384 * (i 1).val)
    (run.sl.r c i arg2 harg2 arg3 harg3 arg4 harg4 arg5 harg5 arg6 harg6 arg7 harg7 arg8 harg8 x2 x3 x4, run.sl.r_1 c i arg2 harg2 arg3 harg3 arg4 harg4 arg5 harg5 arg6 harg6 arg7 harg7 arg8 harg8 x2 x3 x4, run.sl.r_2 c i arg2 harg2 arg3 harg3 arg4 harg4 arg5 harg5 arg6 harg6 arg7 harg7 arg8 harg8 x2 x3 x4, run.sl.r_3 c i arg2 harg2 arg3 harg3 arg4 harg4 arg5 harg5 arg6 harg6 arg7 harg7 arg8 harg8 x2 x3 x4, run.sl.r_4 c i arg2 harg2 arg3 harg3 arg4 harg4 arg5 harg5 arg6 harg6 arg7 harg7 arg8 harg8 x2 x3 x4, run.sl.r_5 c i arg2 harg2 arg3 harg3 arg4 harg4 arg5 harg5 arg6 harg6 arg7 harg7 arg8 harg8 x2 x3 x4) := by
  obtain ⟨t1, t2, _, t4, _⟩ := trips i
  have h1 := loop1 c i arg2 harg2 arg3 harg3 arg4 harg4 arg5 harg5 arg6 harg6 arg7 harg7 arg8 harg8 x2 x3 x4 S₀ S₁ v r l hS₀ hS₁ hv (k0_pay57, k0_pay58, k0_pay59, k0_pay57, k0_pay58, k0_pay59)
    ⟨State.of_eq (State.start _ _) negInf zero_f32 zero_f32, State.of_eq (State.start _ _) negInf zero_f32 zero_f32⟩ _ le_rfl
  rw [show 768 * (k0_t1_loop i).trips = 768 * ((i 1).val / 2) by rw [t1]] at h1
  unfold run.sl.r run.sl.r_1 run.sl.r_2 run.sl.r_3 run.sl.r_4 run.sl.r_5
  simp only [Prod.mk.eta]
  rw [show Scf.trips (k0_t4_loop i).lb (k0_t4_loop i).ub (k0_t4_loop i).st = 0 from t4,
    show Scf.trips (k0_t2_loop i).lb (k0_t2_loop i).ub (k0_t2_loop i).st = 0 from t2]
  exact loop3 c i arg2 harg2 arg3 harg3 arg4 harg4 arg5 harg5 arg6 harg6 arg7 harg7 arg8 harg8 x2 x3 x4 S₀ S₁ v r l hS₀ hS₁ hv _ _ h1

end

/-- The left head of a block: the last step under the mask, its average and its log-sum. -/
theorem last_left (r : Fin 384) (l : Fin 128) (S v : ℕ → ℝ)
    (hS : ∀ j < 4224, score (at2 x2) (at2 x3) 0 r.val j = (S j : EReal)) (hv : ∀ j < 4224, at2 x4 j l.val = (v j : EReal))
    (h : State S v (384 * (i 1).val) (run.sl.r c i arg2 harg2 arg3 harg3 arg4 harg4 arg5 harg5 arg6 harg6 arg7 harg7 arg8 harg8 x2 x3 x4 (ix2 r 0)) (run.sl.r_1 c i arg2 harg2 arg3 harg3 arg4 harg4 arg5 harg5 arg6 harg6 arg7 harg7 arg8 harg8 x2 x3 x4 (ix2 r 0)) (run.sl.r_2 c i arg2 harg2 arg3 harg3 arg4 harg4 arg5 harg5 arg6 harg6 arg7 harg7 arg8 harg8 x2 x3 x4 (ix2 r l))) :
    run.sl.r_12 c i arg2 harg2 arg3 harg3 arg4 harg4 arg5 harg5 arg6 harg6 arg7 harg7 arg8 harg8 x2 x3 x4 (ix2 r l) = (((∑ k ∈ Finset.range (384 * (i 1).val + (r.val + 1)), (2 : ℝ) ^ S k * v k) / ∑ k ∈ Finset.range (384 * (i 1).val + (r.val + 1)), (2 : ℝ) ^ S k : ℝ) : EReal)
    ∧ (run.sl.r_8 c i arg2 harg2 arg3 harg3 arg4 harg4 arg5 harg5 arg6 harg6 arg7 harg7 arg8 harg8 x2 x3 x4) (ix2 r 0) + Ideal.log ((run.sl.r_9 c i arg2 harg2 arg3 harg3 arg4 harg4 arg5 harg5 arg6 harg6 arg7 harg7 arg8 harg8 x2 x3 x4) (ix2 r 0)) * (((Real.log 2)⁻¹ : ℝ) : EReal)
      = ((Real.log (∑ k ∈ Finset.range (384 * (i 1).val + (r.val + 1)), (2 : ℝ) ^ S k) * (Real.log 2)⁻¹ : ℝ) : EReal) := by
  obtain ⟨_, _, _, _, t0⟩ := trips i
  have hr := r.isLt
  have hs := h.step (w := 384) (k := r.val + 1) (by omega) (by omega)
    (fun e => if e.val ≤ r.val then score (at2 x2) (at2 x3) 0 r.val (384 * (i 1).val + e.val) else (Ideal.ofBits .f32 0xFF800000#32 : EReal))
    (fun e => at2 x4 (384 * (i 1).val + e.val) l.val)
    (fun e => by
      have := e.isLt
      by_cases he : e.val ≤ r.val
      · rw [if_pos he, if_pos (by omega), hS _ (by omega)]
      · rw [if_neg he, if_neg (by omega), negInf])
    (fun e _ => hv _ (by have := e.isLt; omega))
  refine ⟨Eq.trans ?_ (hs.average (by omega)), Eq.trans ?_ (hs.logsum (by omega))⟩
  · pointwise [run.sl.r_6, run.sl.r_7, run.sl.r_8, run.sl.r_9, run.sl.r_12, k0_pay68, k0_pay69, k0_pay70, k0_pay71, k0_pay72, k0_pay73, k0_pay79]
    simp only [readAt_bf16, (offs5 i).1, (offs5 i).2.1, (offs5 i).2.2, harg2.read_unread, harg3.read_unread, harg4.read_unread, ix2_0, ix2_1,
      Matrix.cons_val_zero, Matrix.cons_val_one, Nat.zero_add, blockMax, score, Nat.mul_zero, Nat.mul_one, sel_le (show 384 < 2 ^ 31 by norm_num) (show 384 < 2 ^ 31 by norm_num)]
    try rfl
  · refine congrArg₂ (· + ·) ?_ (congrArg₂ (· * ·) (congrArg Ideal.log ?_) rfl)
    · pointwise [run.sl.r_6, run.sl.r_7, run.sl.r_8, run.sl.r_9, run.sl.r_12, k0_pay68, k0_pay69, k0_pay70, k0_pay71, k0_pay72, k0_pay73, k0_pay79]
      simp only [readAt_bf16, (offs5 i).1, (offs5 i).2.1, (offs5 i).2.2, harg2.read_unread, harg3.read_unread, harg4.read_unread, ix2_0, ix2_1,
        Matrix.cons_val_zero, Matrix.cons_val_one, Nat.zero_add, blockMax, score, Nat.mul_zero, Nat.mul_one, sel_le (show 384 < 2 ^ 31 by norm_num) (show 384 < 2 ^ 31 by norm_num)]
      try rfl
    · pointwise [run.sl.r_6, run.sl.r_7, run.sl.r_8, run.sl.r_9, run.sl.r_12, k0_pay68, k0_pay69, k0_pay70, k0_pay71, k0_pay72, k0_pay73, k0_pay79]
      simp only [readAt_bf16, (offs5 i).1, (offs5 i).2.1, (offs5 i).2.2, harg2.read_unread, harg3.read_unread, harg4.read_unread, ix2_0, ix2_1,
        Matrix.cons_val_zero, Matrix.cons_val_one, Nat.zero_add, blockMax, score, Nat.mul_zero, Nat.mul_one, sel_le (show 384 < 2 ^ 31 by norm_num) (show 384 < 2 ^ 31 by norm_num)]
      try rfl

/-- The right head of a block: the last step under the mask, its average and its log-sum. -/
theorem last_right (r : Fin 384) (l : Fin 128) (S v : ℕ → ℝ)
    (hS : ∀ j < 4224, score (at2 x2) (at2 x3) 1 r.val j = (S j : EReal)) (hv : ∀ j < 4224, at2 x4 j l.val = (v j : EReal))
    (h : State S v (384 * (i 1).val) (run.sl.r_3 c i arg2 harg2 arg3 harg3 arg4 harg4 arg5 harg5 arg6 harg6 arg7 harg7 arg8 harg8 x2 x3 x4 (ix2 r 0)) (run.sl.r_4 c i arg2 harg2 arg3 harg3 arg4 harg4 arg5 harg5 arg6 harg6 arg7 harg7 arg8 harg8 x2 x3 x4 (ix2 r 0)) (run.sl.r_5 c i arg2 harg2 arg3 harg3 arg4 harg4 arg5 harg5 arg6 harg6 arg7 harg7 arg8 harg8 x2 x3 x4 (ix2 r l))) :
    run.sl.r_13 c i arg2 harg2 arg3 harg3 arg4 harg4 arg5 harg5 arg6 harg6 arg7 harg7 arg8 harg8 x2 x3 x4 (ix2 r l) = (((∑ k ∈ Finset.range (384 * (i 1).val + (r.val + 1)), (2 : ℝ) ^ S k * v k) / ∑ k ∈ Finset.range (384 * (i 1).val + (r.val + 1)), (2 : ℝ) ^ S k : ℝ) : EReal)
    ∧ (run.sl.r_10 c i arg2 harg2 arg3 harg3 arg4 harg4 arg5 harg5 arg6 harg6 arg7 harg7 arg8 harg8 x2 x3 x4) (ix2 r 0) + Ideal.log ((run.sl.r_11 c i arg2 harg2 arg3 harg3 arg4 harg4 arg5 harg5 arg6 harg6 arg7 harg7 arg8 harg8 x2 x3 x4) (ix2 r 0)) * (((Real.log 2)⁻¹ : ℝ) : EReal)
      = ((Real.log (∑ k ∈ Finset.range (384 * (i 1).val + (r.val + 1)), (2 : ℝ) ^ S k) * (Real.log 2)⁻¹ : ℝ) : EReal) := by
  obtain ⟨_, _, _, _, t0⟩ := trips i
  have hr := r.isLt
  have hs := h.step (w := 384) (k := r.val + 1) (by omega) (by omega)
    (fun e => if e.val ≤ r.val then score (at2 x2) (at2 x3) 1 r.val (384 * (i 1).val + e.val) else (Ideal.ofBits .f32 0xFF800000#32 : EReal))
    (fun e => at2 x4 (384 * (i 1).val + e.val) l.val)
    (fun e => by
      have := e.isLt
      by_cases he : e.val ≤ r.val
      · rw [if_pos he, if_pos (by omega), hS _ (by omega)]
      · rw [if_neg he, if_neg (by omega), negInf])
    (fun e _ => hv _ (by have := e.isLt; omega))
  refine ⟨Eq.trans ?_ (hs.average (by omega)), Eq.trans ?_ (hs.logsum (by omega))⟩
  · pointwise [run.sl.r_6, run.sl.r_10, run.sl.r_11, run.sl.r_13, k0_pay68, k0_pay74, k0_pay75, k0_pay76, k0_pay77, k0_pay78, k0_pay80]
    simp only [readAt_bf16, (offs5 i).1, (offs5 i).2.1, (offs5 i).2.2, harg2.read_unread, harg3.read_unread, harg4.read_unread, ix2_0, ix2_1,
      Matrix.cons_val_zero, Matrix.cons_val_one, Nat.zero_add, blockMax, score, Nat.mul_zero, Nat.mul_one, sel_le (show 384 < 2 ^ 31 by norm_num) (show 384 < 2 ^ 31 by norm_num)]
    try rfl
  · refine congrArg₂ (· + ·) ?_ (congrArg₂ (· * ·) (congrArg Ideal.log ?_) rfl)
    · pointwise [run.sl.r_6, run.sl.r_10, run.sl.r_11, run.sl.r_13, k0_pay68, k0_pay74, k0_pay75, k0_pay76, k0_pay77, k0_pay78, k0_pay80]
      simp only [readAt_bf16, (offs5 i).1, (offs5 i).2.1, (offs5 i).2.2, harg2.read_unread, harg3.read_unread, harg4.read_unread, ix2_0, ix2_1,
        Matrix.cons_val_zero, Matrix.cons_val_one, Nat.zero_add, blockMax, score, Nat.mul_zero, Nat.mul_one, sel_le (show 384 < 2 ^ 31 by norm_num) (show 384 < 2 ^ 31 by norm_num)]
      try rfl
    · pointwise [run.sl.r_6, run.sl.r_10, run.sl.r_11, run.sl.r_13, k0_pay68, k0_pay74, k0_pay75, k0_pay76, k0_pay77, k0_pay78, k0_pay80]
      simp only [readAt_bf16, (offs5 i).1, (offs5 i).2.1, (offs5 i).2.2, harg2.read_unread, harg3.read_unread, harg4.read_unread, ix2_0, ix2_1,
        Matrix.cons_val_zero, Matrix.cons_val_one, Nat.zero_add, blockMax, score, Nat.mul_zero, Nat.mul_one, sel_le (show 384 < 2 ^ 31 by norm_num) (show 384 < 2 ^ 31 by norm_num)]
      try rfl

theorem out6_val (r : Fin 384) (l : Fin 128) (S : ℕ → ℕ → ℝ) (v : ℕ → ℝ)
    (hS : ∀ h < 2, ∀ j < 4224, score (at2 x2) (at2 x3) h r.val j = (S h j : EReal)) (hv : ∀ j < 4224, at2 x4 j l.val = (v j : EReal)) :
    out6 c i arg2 harg2 arg3 harg3 arg4 harg4 arg5 harg5 arg6 harg6 arg7 harg7 arg8 harg8 x2 x3 x4 (ix2 r l) = (((∑ k ∈ Finset.range (384 * (i 1).val + (r.val + 1)), (2 : ℝ) ^ S (l.val / 64) k * v k) / ∑ k ∈ Finset.range (384 * (i 1).val + (r.val + 1)), (2 : ℝ) ^ S (l.val / 64) k : ℝ) : EReal) := by
  have hb := carry c i arg2 harg2 arg3 harg3 arg4 harg4 arg5 harg5 arg6 harg6 arg7 harg7 arg8 harg8 x2 x3 x4 (S 0) (S 1) v r l (hS 0 (by omega)) (hS 1 (by omega)) hv
  have h0 := last_left c i arg2 harg2 arg3 harg3 arg4 harg4 arg5 harg5 arg6 harg6 arg7 harg7 arg8 harg8 x2 x3 x4 r l (S 0) v (hS 0 (by omega)) hv hb.1
  have h1 := last_right c i arg2 harg2 arg3 harg3 arg4 harg4 arg5 harg5 arg6 harg6 arg7 harg7 arg8 harg8 x2 x3 x4 r l (S 1) v (hS 1 (by omega)) hv hb.2
  unfold out6
  rw [← View.read_writes_junk_eq_canon arg6.view, at2_idx (arg6.view.read (Elt Ideal) _)]
  unfold run
  dsimp only
  simp only [View.writes_cons, View.writes_nil]
  rw [at2_write _ _ rfl, if_pos ⟨⟨Nat.zero_le _, by have := r.isLt; simp only [ix2_0]; omega⟩, Nat.zero_le _, by have := l.isLt; simp only [ix2_1]; omega⟩]
  show at2 _ r.val l.val = _
  rw [← at2_ix2]
  have hl := l.isLt
  rcases Nat.lt_or_ge l.val 64 with h | h
  · have hd : l.val / 64 = 0 := by omega
    pointwise [k0_pay56, k0_pay1]
    rw [sel_left, if_pos hd, hd]
    exact h0.1
  · have hd : l.val / 64 = 1 := by omega
    pointwise [k0_pay56, k0_pay1]
    rw [sel_left, if_neg (by omega), hd]
    exact h1.1

theorem out7_val (r : Fin 384) (l : Fin 128) (S : ℕ → ℕ → ℝ) (v : ℕ → ℝ)
    (hS : ∀ h < 2, ∀ j < 4224, score (at2 x2) (at2 x3) h r.val j = (S h j : EReal)) (hv : ∀ j < 4224, at2 x4 j l.val = (v j : EReal)) :
    out7 c i arg2 harg2 arg3 harg3 arg4 harg4 arg5 harg5 arg6 harg6 arg7 harg7 arg8 harg8 x2 x3 x4 (ix2 r l) = ((Real.log (∑ k ∈ Finset.range (384 * (i 1).val + (r.val + 1)), (2 : ℝ) ^ S (l.val / 64) k) * (Real.log 2)⁻¹ : ℝ) : EReal) := by
  have hb := carry c i arg2 harg2 arg3 harg3 arg4 harg4 arg5 harg5 arg6 harg6 arg7 harg7 arg8 harg8 x2 x3 x4 (S 0) (S 1) v r l (hS 0 (by omega)) (hS 1 (by omega)) hv
  have h0 := last_left c i arg2 harg2 arg3 harg3 arg4 harg4 arg5 harg5 arg6 harg6 arg7 harg7 arg8 harg8 x2 x3 x4 r l (S 0) v (hS 0 (by omega)) hv hb.1
  have h1 := last_right c i arg2 harg2 arg3 harg3 arg4 harg4 arg5 harg5 arg6 harg6 arg7 harg7 arg8 harg8 x2 x3 x4 r l (S 1) v (hS 1 (by omega)) hv hb.2
  unfold out7
  rw [← View.read_writes_junk_eq_canon arg7.view, at2_idx (arg7.view.read (Elt Ideal) _)]
  unfold run
  dsimp only
  simp only [View.writes_cons, View.writes_nil]
  rw [at2_write _ _ rfl, if_pos ⟨⟨Nat.zero_le _, by have := r.isLt; simp only [ix2_0]; omega⟩, Nat.zero_le _, by have := l.isLt; simp only [ix2_1]; omega⟩]
  show at2 _ r.val l.val = _
  rw [← at2_ix2]
  have hl := l.isLt
  rcases Nat.lt_or_ge l.val 64 with h | h
  · have hd : l.val / 64 = 0 := by omega
    pointwise [k0_pay56, k0_pay3]
    rw [sel_left, if_pos hd, hd]
    exact h0.2
  · have hd : l.val / 64 = 1 := by omega
    pointwise [k0_pay56, k0_pay3]
    rw [sel_left, if_neg (by omega), hd]
    exact h1.2

end Cert.AttnFwd

end
-- ==== Proof.BwdCut.lean ====
/- From one head pair and one key block of the backward attention to the whole arrays: what a block adds, as sums over
   the rows and keys of the whole arrays. -/
module

public import proofs.«01_k».proof.Proof.AttnTerms

@[expose] public section

set_option maxRecDepth 16384

noncomputable section

namespace Cert.AttnTerms

open Idealize.ShloMosaic

/-- The blocks of head pair `p` and of the keys from `b`, in terms of the whole arrays. -/
structure Cut (q k v dy lse dl Q K V DY LS DL : ℕ → ℕ → EReal) (p b : ℕ) : Prop where
  q_at : ∀ r l, r < 4224 → l < 256 → q r l = Q r (256 * p + l)
  k_at : ∀ c l, c < 384 → l < 256 → k c l = K (b + c) (256 * p + l)
  v_at : ∀ c l, c < 384 → l < 128 → v c l = V (b + c) (128 * p + l)
  dy_at : ∀ r l, r < 4224 → l < 128 → dy r l = DY r (128 * p + l)
  lse_at : ∀ r l, r < 4224 → l < 128 → lse r l = LS r (128 * p + l)
  dl_at : ∀ r l, r < 4224 → l < 128 → dl r l = DL r (128 * p + l)

/-- The cotangent of head `h`'s probability, over the head's own 64 lanes. -/
def headDprob (V DY : ℕ → ℕ → EReal) (h r c : ℕ) : EReal := ∑ d ∈ Finset.range 64, DY r (64 * h + d) * V c (64 * h + d)
/-- The cotangent of head `h`'s score, under the causal mask. -/
def headDs (Q K V DY LS DL : ℕ → ℕ → EReal) (h r c : ℕ) : EReal :=
  mprob Q K LS 0 h r c * (headDprob V DY h r c - DL r (64 * h))

/-- A sum over the lanes of one half of a pair. -/
theorem sum_half (f : ℕ → EReal) {h : ℕ} (hh : h < 2) :
    (∑ l : Fin 128, if l.val / 64 = h then f l.val else 0) = ∑ d ∈ Finset.range 64, f (64 * h + d) := by
  rw [Fin.sum_univ_eq_sum_range (fun l => if l / 64 = h then f l else 0) 128, show 128 = 64 + 64 from rfl, Finset.sum_range_add]
  obtain rfl | rfl : h = 0 ∨ h = 1 := by omega
  · rw [Finset.sum_congr rfl (g := fun d => f (64 * 0 + d)) fun d hd => by
        have := Finset.mem_range.mp hd; rw [if_pos (by omega), Nat.mul_zero, Nat.zero_add],
      Finset.sum_congr (s₁ := Finset.range 64) (f := fun d => if (64 + d) / 64 = 0 then f (64 + d) else 0) rfl (g := fun _ => 0) fun d hd => if_neg (by omega)]
    rw [Finset.sum_const_zero, add_zero]
  · rw [Finset.sum_congr rfl (g := fun _ => (0 : EReal)) fun d hd => by
        have := Finset.mem_range.mp hd; rw [if_neg (by omega)],
      Finset.sum_const_zero, zero_add]
    exact Finset.sum_congr rfl fun d hd => by have := Finset.mem_range.mp hd; rw [if_pos (by omega)]

variable {q k v dy lse dl Q K V DY LS DL : ℕ → ℕ → EReal} {p b : ℕ} (cut : Cut q k v dy lse dl Q K V DY LS DL p b)
include cut

theorem Cut.mprob {h r c : ℕ} (hh : h < 2) (hr : r < 4224) (hc : c < 384) :
    mprob q k lse b h r c = AttnTerms.mprob Q K LS 0 (2 * p + h) r (b + c) := by
  unfold AttnTerms.mprob prob score
  rw [Nat.zero_add, cut.lse_at r (64 * h) hr (by omega), show 128 * p + 64 * h = 64 * (2 * p + h) by omega]
  refine if_congr Iff.rfl (congrArg Ideal.exp2 (congrArg (fun s : EReal => s - LS r (64 * (2 * p + h))) (Finset.sum_congr rfl fun l _ => ?_))) rfl
  have := l.isLt
  rw [cut.q_at r _ hr (by omega), cut.k_at c _ hc (by omega), show 256 * p + (128 * h + l.val) = 128 * (2 * p + h) + l.val by omega]

theorem Cut.dprob {h r c : ℕ} (hh : h < 2) (hr : r < 4224) (hc : c < 384) :
    dprob v dy h r c = headDprob V DY (2 * p + h) r (b + c) := by
  unfold AttnTerms.dprob headDprob
  rw [sum_half (fun l => dy r l * v c l) hh]
  refine Finset.sum_congr rfl fun d hd => ?_
  have := Finset.mem_range.mp hd
  rw [cut.dy_at r _ hr (by omega), cut.v_at c _ hc (by omega), show 128 * p + (64 * h + d) = 64 * (2 * p + h) + d by omega]

theorem Cut.mds {h r c : ℕ} (hh : h < 2) (hr : r < 4224) (hc : c < 384) :
    mds q k v dy lse dl b h r c = headDs Q K V DY LS DL (2 * p + h) r (b + c) := by
  unfold AttnTerms.mds headDs
  rw [cut.mprob hh hr hc, cut.dprob hh hr hc, cut.dl_at r (64 * h) hr (by omega), show 128 * p + 64 * h = 64 * (2 * p + h) by omega]

theorem Cut.dq {r l : ℕ} (hr : r < 4224) (hl : l < 256) :
    dqAdd q k v dy lse dl b b 4224 r l = ∑ e ∈ Finset.range 384, headDs Q K V DY LS DL (2 * p + l / 128) r (b + e) * K (b + e) (256 * p + l) := by
  have key : ∀ e ∈ Finset.range 384, AttnTerms.mds q k v dy lse dl b (l / 128) r e * k e l
      = headDs Q K V DY LS DL (2 * p + l / 128) r (b + e) * K (b + e) (256 * p + l) := fun e he => by
    have := Finset.mem_range.mp he
    rw [cut.mds (by omega) hr this, cut.k_at e l this hl]
  unfold dqAdd
  by_cases h : b ≤ r
  · rw [if_pos ⟨h, hr⟩, Fin.sum_univ_eq_sum_range (fun e => AttnTerms.mds q k v dy lse dl b (l / 128) r e * k e l) 384]
    exact Finset.sum_congr rfl key
  · rw [if_neg (by omega)]
    symm
    refine Finset.sum_eq_zero fun e he => ?_
    unfold headDs AttnTerms.mprob
    rw [if_neg (by omega), zero_mul, zero_mul]

theorem Cut.dk {c l : ℕ} (hc : c < 384) (hl : l < 256) (hb : b ≤ 4224) :
    dkAdd q k v dy lse dl b b 4224 c l = ∑ r ∈ Finset.range 4224, headDs Q K V DY LS DL (2 * p + l / 128) r (b + c) * Q r (256 * p + l) := by
  unfold dkAdd
  rw [Finset.range_eq_Ico, ← Finset.sum_Ico_consecutive _ (Nat.zero_le b) hb,
    Finset.sum_eq_zero (s := Finset.Ico 0 b) fun r hr => by
      have := Finset.mem_Ico.mp hr
      unfold headDs AttnTerms.mprob
      rw [if_neg (by omega), zero_mul, zero_mul], zero_add]
  refine Finset.sum_congr rfl fun r hr => ?_
  have := Finset.mem_Ico.mp hr
  rw [cut.mds (by omega) this.2 hc, cut.q_at r l this.2 hl]

theorem Cut.dv {c l : ℕ} (hc : c < 384) (hl : l < 128) (hb : b ≤ 4224) :
    dvAdd q k dy lse b b 4224 c l = ∑ r ∈ Finset.range 4224, AttnTerms.mprob Q K LS 0 (2 * p + l / 64) r (b + c) * DY r (128 * p + l) := by
  unfold dvAdd
  rw [Finset.range_eq_Ico, ← Finset.sum_Ico_consecutive _ (Nat.zero_le b) hb,
    Finset.sum_eq_zero (s := Finset.Ico 0 b) fun r hr => by
      have := Finset.mem_Ico.mp hr
      unfold AttnTerms.mprob
      rw [if_neg (by omega), zero_mul], zero_add]
  refine Finset.sum_congr rfl fun r hr => ?_
  have := Finset.mem_Ico.mp hr
  rw [cut.mprob (by omega) this.2 hc, cut.dy_at r l this.2 hl]

end Cert.AttnTerms

end
-- ==== Proof.BwdSteps.lean ====
/- What one unmasked step of the backward attention adds to the three gradient buffers, entry by entry. -/
module
public import proofs.«01_k».proof.Proof.BwdLoops
public import Idealize.ShloMosaic.Lib.Pipeline.ValueKit
public import Idealize.ShloMosaic.Lib.Pointwise
public import Idealize.ShloMosaic.Lib.Claim
public import Idealize.ShloMosaic.Lib.WritesUnit
public import Idealize.ShloMosaic.Lib.Pipeline.FrameBody
public import Idealize.ShloMosaic.Lib.WholeRead
public import proofs.«01_k».proof.Proof.AttnTerms
@[expose] public section
set_option maxRecDepth 16384
noncomputable section
namespace Cert.AttnBwd
open Cert.AttnTerms Cert.AttnIdeal Cert.AttnIdeal.Gen
open Idealize.ShloMosaic Idealize.ShloMosaic.TcCoe Idealize.SL.Sem Idealize.ShloMosaic.Pipeline
section
variable (arg2 : Memref sig .tc .vmem S4224x256 .bf16) (harg2 : arg2.IsWhole) (arg3 : Memref sig .tc .vmem S384x256 .bf16) (harg3 : arg3.IsWhole)
  (arg4 : Memref sig .tc .vmem S384x128 .bf16) (harg4 : arg4.IsWhole) (arg5 : Memref sig .tc .vmem S4224x128 .f32) (harg5 : arg5.IsWhole)
  (arg6 : Memref sig .tc .vmem S4224x128 .f32) (harg6 : arg6.IsWhole) (arg7 : Memref sig .tc .vmem S4224x128 .f32) (harg7 : arg7.IsWhole)
  (arg8 : Memref sig .tc .vmem S4224x256 .f32) (harg8 : arg8.IsWhole) (arg9 : Memref sig .tc .vmem S384x256 .f32) (harg9 : arg9.IsWhole)
  (arg10 : Memref sig .tc .vmem S384x128 .f32) (harg10 : arg10.IsWhole)
variable (x2 : Vec Ideal S4224x256 .bf16) (x3 : Vec Ideal S384x256 .bf16) (x4 : Vec Ideal S384x128 .bf16)
  (x5 : Vec Ideal S4224x128 .f32) (x6 : Vec Ideal S4224x128 .f32) (x7 : Vec Ideal S4224x128 .f32)
variable (c : Dev nD) (i : grid1.Coords) (h2 : k1_cond2 i = 1#1)
  (f8 : BufTy.Contents (Elt Ideal) arg8.view.ty) (f9 : BufTy.Contents (Elt Ideal) arg9.view.ty) (f10 : BufTy.Contents (Elt Ideal) arg10.view.ty)

/-! ## Two row blocks, no mask -/

theorem trip1_dq (k : Fin (k1_t1_loop i).trips) (y : S4224x256.Idx) :
    arg8.view.read (Elt Ideal) (arg8.view.writes (Elt Ideal) f8 ((trip1 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 k).1 f8 f9 f10)) y
      = arg8.view.read (Elt Ideal) f8 y + dqAdd (at2 x2) (at2 x3) (at2 x4) (at2 x5) (at2 x6) (at2 x7) (384 * (i 1).val) (384 * ((i 1).val + 2) + 768 * k.val) (384 * ((i 1).val + 2) + 768 * k.val + 768) (y 0).val (y 1).val := by
  unfold trip1
  dsimp only
  have hb : 384 * (i 1).val + 384 ≤ 384 * ((i 1).val + 2) + 768 * k.val := by omega
  rw [View.read_writes_cons_unit _ _ _ _ _ _ (off9_eq i k)]
  split
  next hm =>
    obtain ⟨r, l, e, hr, hl⟩ := unitLocal_pair y hm
    rw [e]
    pointwise [trip1.sl.cst_78, trip1.sl.cst_79, trip1.sl.cst_84, trip1.sl.cst_88, trip1.sl.cst_95, trip1.sl.v138, trip1.sl.v139, trip1.sl.v140, trip1.sl.v142, trip1.sl.v144, trip1.sl.v145, trip1.sl.v146, trip1.sl.v149, trip1.sl.v152, trip1.sl.v154, trip1.sl.v155, trip1.sl.v156, trip1.sl.v157, trip1.sl.v158, trip1.sl.v161, trip1.sl.v162, trip1.sl.v163, trip1.sl.v164, trip1.sl.v165, trip1.sl.v168, trip1.sl.v169, trip1.sl.v170, trip1.sl.v171, trip1.sl.v172, trip1.sl.v175, trip1.sl.v176, trip1.sl.v177, trip1.sl.v181, trip1.sl.v182, trip1.sl.v183, trip1.sl.v185, trip1.sl.v186, trip1.sl.v189, trip1.sl.v191, trip1.sl.v192, trip1.sl.v194, trip1.sl.v195, trip1.sl.v196, trip1.sl.v199, trip1.sl.v200, trip1.sl.v201, trip1.sl.v202, trip1.sl.v203, trip1.sl.v206, trip1.sl.v207, trip1.sl.v208, trip1.sl.v209, trip1.sl.v210, trip1.sl.v212, trip1.sl.v213, trip1.sl.v214, trip1.sl.v215, trip1.sl.v218, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay102, k1_pay103]
    simp only [readAt_f32, readAt_bf16, off6_eq, off7_eq, off8_eq, off9_eq, off10_eq, harg2.read_unread, harg3.read_unread, harg4.read_unread, harg5.read_unread,
      harg6.read_unread, harg7.read_unread, ix2_0, ix2_1, sel_left, sel_right, Matrix.cons_val_zero, Matrix.cons_val_one, Nat.zero_add]
    simp only [Nat.zero_add] at hr hl
    rw [dqAdd_in _ _ _ _ _ _ (by have := r.isLt; omega) hb, show (y 1).val / 128 = 1 by have := l.isLt; omega, at2_idx (arg8.view.read (Elt Ideal) f8)]
    simp only [hr, hl, dscore, prob, dprob, score, Nat.mul_one, Nat.mul_zero, Nat.zero_add, Fin.val_zero, Nat.add_zero]
    rfl
  next hn1 =>
  rw [View.read_writes_cons_unit _ _ _ _ _ _ (off7_eq i k)]
  split
  next hm =>
    obtain ⟨r, l, e, hr, hl⟩ := unitLocal_pair y hm
    rw [e]
    pointwise [trip1.sl.cst_78, trip1.sl.cst_79, trip1.sl.cst_84, trip1.sl.cst_88, trip1.sl.cst_95, trip1.sl.v138, trip1.sl.v139, trip1.sl.v140, trip1.sl.v142, trip1.sl.v144, trip1.sl.v145, trip1.sl.v146, trip1.sl.v149, trip1.sl.v152, trip1.sl.v154, trip1.sl.v155, trip1.sl.v156, trip1.sl.v157, trip1.sl.v158, trip1.sl.v161, trip1.sl.v162, trip1.sl.v163, trip1.sl.v164, trip1.sl.v165, trip1.sl.v168, trip1.sl.v169, trip1.sl.v170, trip1.sl.v171, trip1.sl.v172, trip1.sl.v175, trip1.sl.v176, trip1.sl.v177, trip1.sl.v181, trip1.sl.v182, trip1.sl.v183, trip1.sl.v185, trip1.sl.v186, trip1.sl.v189, trip1.sl.v191, trip1.sl.v192, trip1.sl.v194, trip1.sl.v195, trip1.sl.v196, trip1.sl.v199, trip1.sl.v200, trip1.sl.v201, trip1.sl.v202, trip1.sl.v203, trip1.sl.v206, trip1.sl.v207, trip1.sl.v208, trip1.sl.v209, trip1.sl.v210, trip1.sl.v212, trip1.sl.v213, trip1.sl.v214, trip1.sl.v215, trip1.sl.v218, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay102, k1_pay103]
    simp only [readAt_f32, readAt_bf16, off6_eq, off7_eq, off8_eq, off9_eq, off10_eq, harg2.read_unread, harg3.read_unread, harg4.read_unread, harg5.read_unread,
      harg6.read_unread, harg7.read_unread, ix2_0, ix2_1, sel_left, sel_right, Matrix.cons_val_zero, Matrix.cons_val_one, Nat.zero_add]
    simp only [Nat.zero_add] at hr hl
    rw [dqAdd_in _ _ _ _ _ _ (by have := r.isLt; omega) hb, show (y 1).val / 128 = 0 by have := l.isLt; omega, at2_idx (arg8.view.read (Elt Ideal) f8)]
    simp only [hr, hl, dscore, prob, dprob, score, Nat.mul_one, Nat.mul_zero, Nat.zero_add, Fin.val_zero, Nat.add_zero]
    rfl
  next hn2 =>
  unfold dqAdd
  rw [if_neg fun hy => ?_, add_zero]
  · rfl
  have hy1 : (y 1).val < 256 := (y 1).isLt
  rcases Nat.lt_or_ge (y 1).val 128 with h | h
  · exact hn2 (Fin.forall_fin_two.mpr ⟨hy, Nat.zero_le _, h⟩)
  · exact hn1 (Fin.forall_fin_two.mpr ⟨hy, h, hy1⟩)

theorem trip1_dk (k : Fin (k1_t1_loop i).trips) (y : S384x256.Idx) :
    arg9.view.read (Elt Ideal) (arg9.view.writes (Elt Ideal) f9 ((trip1 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 k).2.1 f8 f9 f10)) y
      = arg9.view.read (Elt Ideal) f9 y + dkAdd (at2 x2) (at2 x3) (at2 x4) (at2 x5) (at2 x6) (at2 x7) (384 * (i 1).val) (384 * ((i 1).val + 2) + 768 * k.val) (384 * ((i 1).val + 2) + 768 * k.val + 768) (y 0).val (y 1).val := by
  unfold trip1
  dsimp only
  have hb : 384 * (i 1).val + 384 ≤ 384 * ((i 1).val + 2) + 768 * k.val := by omega
  rw [View.read_writes_cons_unit _ _ _ _ _ _ rfl]
  split
  next hm =>
    obtain ⟨r, l, e, hr, hl⟩ := unitLocal_pair y hm
    rw [e]
    pointwise [trip1.sl.cst_78, trip1.sl.cst_79, trip1.sl.cst_84, trip1.sl.cst_88, trip1.sl.cst_95, trip1.sl.v138, trip1.sl.v139, trip1.sl.v140, trip1.sl.v142, trip1.sl.v144, trip1.sl.v145, trip1.sl.v146, trip1.sl.v149, trip1.sl.v152, trip1.sl.v154, trip1.sl.v155, trip1.sl.v156, trip1.sl.v157, trip1.sl.v158, trip1.sl.v161, trip1.sl.v162, trip1.sl.v163, trip1.sl.v164, trip1.sl.v165, trip1.sl.v168, trip1.sl.v169, trip1.sl.v170, trip1.sl.v171, trip1.sl.v172, trip1.sl.v175, trip1.sl.v176, trip1.sl.v177, trip1.sl.v181, trip1.sl.v182, trip1.sl.v183, trip1.sl.v185, trip1.sl.v186, trip1.sl.v189, trip1.sl.v191, trip1.sl.v192, trip1.sl.v194, trip1.sl.v195, trip1.sl.v196, trip1.sl.v199, trip1.sl.v200, trip1.sl.v201, trip1.sl.v202, trip1.sl.v203, trip1.sl.v206, trip1.sl.v207, trip1.sl.v208, trip1.sl.v209, trip1.sl.v210, trip1.sl.v212, trip1.sl.v213, trip1.sl.v214, trip1.sl.v215, trip1.sl.v218, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay102, k1_pay103]
    simp only [readAt_f32, readAt_bf16, off6_eq, off7_eq, off8_eq, off9_eq, off10_eq, harg2.read_unread, harg3.read_unread, harg4.read_unread, harg5.read_unread,
      harg6.read_unread, harg7.read_unread, ix2_0, ix2_1, sel_left, sel_right, Matrix.cons_val_zero, Matrix.cons_val_one, Nat.zero_add]
    simp only [Nat.zero_add] at hr hl
    rw [dkAdd_in _ _ _ _ _ _ 768 rfl hb (y 0).isLt, show (y 1).val / 128 = 1 by have := l.isLt; omega, at2_idx (arg9.view.read (Elt Ideal) f9)]
    simp only [hr, hl, dscore, prob, dprob, score, Nat.mul_one, Nat.mul_zero, Nat.zero_add, Fin.val_zero, Nat.add_zero]
    rfl
  next hn1 =>
  rw [View.read_writes_cons_unit _ _ _ _ _ _ rfl]
  split
  next hm =>
    obtain ⟨r, l, e, hr, hl⟩ := unitLocal_pair y hm
    rw [e]
    pointwise [trip1.sl.cst_78, trip1.sl.cst_79, trip1.sl.cst_84, trip1.sl.cst_88, trip1.sl.cst_95, trip1.sl.v138, trip1.sl.v139, trip1.sl.v140, trip1.sl.v142, trip1.sl.v144, trip1.sl.v145, trip1.sl.v146, trip1.sl.v149, trip1.sl.v152, trip1.sl.v154, trip1.sl.v155, trip1.sl.v156, trip1.sl.v157, trip1.sl.v158, trip1.sl.v161, trip1.sl.v162, trip1.sl.v163, trip1.sl.v164, trip1.sl.v165, trip1.sl.v168, trip1.sl.v169, trip1.sl.v170, trip1.sl.v171, trip1.sl.v172, trip1.sl.v175, trip1.sl.v176, trip1.sl.v177, trip1.sl.v181, trip1.sl.v182, trip1.sl.v183, trip1.sl.v185, trip1.sl.v186, trip1.sl.v189, trip1.sl.v191, trip1.sl.v192, trip1.sl.v194, trip1.sl.v195, trip1.sl.v196, trip1.sl.v199, trip1.sl.v200, trip1.sl.v201, trip1.sl.v202, trip1.sl.v203, trip1.sl.v206, trip1.sl.v207, trip1.sl.v208, trip1.sl.v209, trip1.sl.v210, trip1.sl.v212, trip1.sl.v213, trip1.sl.v214, trip1.sl.v215, trip1.sl.v218, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay102, k1_pay103]
    simp only [readAt_f32, readAt_bf16, off6_eq, off7_eq, off8_eq, off9_eq, off10_eq, harg2.read_unread, harg3.read_unread, harg4.read_unread, harg5.read_unread,
      harg6.read_unread, harg7.read_unread, ix2_0, ix2_1, sel_left, sel_right, Matrix.cons_val_zero, Matrix.cons_val_one, Nat.zero_add]
    simp only [Nat.zero_add] at hr hl
    rw [dkAdd_in _ _ _ _ _ _ 768 rfl hb (y 0).isLt, show (y 1).val / 128 = 0 by have := l.isLt; omega, at2_idx (arg9.view.read (Elt Ideal) f9)]
    simp only [hr, hl, dscore, prob, dprob, score, Nat.mul_one, Nat.mul_zero, Nat.zero_add, Fin.val_zero, Nat.add_zero]
    rfl
  next hn2 =>
  have hy0 : (y 0).val < 384 := (y 0).isLt
  have hy1 : (y 1).val < 256 := (y 1).isLt
  rcases Nat.lt_or_ge (y 1).val 128 with h | h
  · exact (hn2 (Fin.forall_fin_two.mpr ⟨⟨Nat.zero_le _, hy0⟩, Nat.zero_le _, h⟩)).elim
  · exact (hn1 (Fin.forall_fin_two.mpr ⟨⟨Nat.zero_le _, hy0⟩, h, hy1⟩)).elim

theorem trip1_dv (k : Fin (k1_t1_loop i).trips) (y : S384x128.Idx) :
    arg10.view.read (Elt Ideal) (arg10.view.writes (Elt Ideal) f10 ((trip1 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 k).2.2.1 f8 f9 f10)) y
      = arg10.view.read (Elt Ideal) f10 y + dvAdd (at2 x2) (at2 x3) (at2 x5) (at2 x6) (384 * (i 1).val) (384 * ((i 1).val + 2) + 768 * k.val) (384 * ((i 1).val + 2) + 768 * k.val + 768) (y 0).val (y 1).val := by
  unfold trip1
  dsimp only
  have hb : 384 * (i 1).val + 384 ≤ 384 * ((i 1).val + 2) + 768 * k.val := by omega
  rw [View.read_writes_cons_unit _ _ _ _ _ _ rfl]
  split
  next hm =>
    obtain ⟨r, l, e, hr, hl⟩ := unitLocal_pair y hm
    rw [e]
    pointwise [trip1.sl.cst_78, trip1.sl.cst_79, trip1.sl.cst_84, trip1.sl.cst_88, trip1.sl.cst_95, trip1.sl.v138, trip1.sl.v139, trip1.sl.v140, trip1.sl.v142, trip1.sl.v144, trip1.sl.v145, trip1.sl.v146, trip1.sl.v149, trip1.sl.v152, trip1.sl.v154, trip1.sl.v155, trip1.sl.v156, trip1.sl.v157, trip1.sl.v158, trip1.sl.v161, trip1.sl.v162, trip1.sl.v163, trip1.sl.v164, trip1.sl.v165, trip1.sl.v168, trip1.sl.v169, trip1.sl.v170, trip1.sl.v171, trip1.sl.v172, trip1.sl.v175, trip1.sl.v176, trip1.sl.v177, trip1.sl.v181, trip1.sl.v182, trip1.sl.v183, trip1.sl.v185, trip1.sl.v186, trip1.sl.v189, trip1.sl.v191, trip1.sl.v192, trip1.sl.v194, trip1.sl.v195, trip1.sl.v196, trip1.sl.v199, trip1.sl.v200, trip1.sl.v201, trip1.sl.v202, trip1.sl.v203, trip1.sl.v206, trip1.sl.v207, trip1.sl.v208, trip1.sl.v209, trip1.sl.v210, trip1.sl.v212, trip1.sl.v213, trip1.sl.v214, trip1.sl.v215, trip1.sl.v218, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay102, k1_pay103]
    simp only [readAt_f32, readAt_bf16, off6_eq, off7_eq, off8_eq, off9_eq, off10_eq, harg2.read_unread, harg3.read_unread, harg4.read_unread, harg5.read_unread,
      harg6.read_unread, harg7.read_unread, ix2_0, ix2_1, sel_left, sel_right, Matrix.cons_val_zero, Matrix.cons_val_one, Nat.zero_add]
    simp only [Nat.zero_add] at hr hl
    rw [dvAdd_in _ _ _ _ 768 rfl hb (y 0).isLt, at2_idx (arg10.view.read (Elt Ideal) f10)]
    have hh : l.val / 64 = 0 ∨ l.val / 64 = 1 := by have := l.isLt; omega
    rcases hh with hh | hh <;>
      simp only [hh, ← hr, ← hl, if_pos, reduceIte, Nat.one_ne_zero, Nat.zero_ne_one, Finset.sum_const_zero, add_zero, zero_add, prob, score, Nat.mul_one, Nat.mul_zero, Nat.zero_add, Fin.val_zero, Nat.add_zero] <;> rfl
  next hn =>
  exact (hn (Fin.forall_fin_two.mpr ⟨⟨Nat.zero_le _, (y 0).isLt⟩, Nat.zero_le _, (y 1).isLt⟩)).elim

/-! ## The row block left over -/

theorem trip3_dq (k : Fin (k1_t3_loop i).trips) (y : S4224x256.Idx) :
    arg8.view.read (Elt Ideal) (arg8.view.writes (Elt Ideal) f8 ((trip3 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 k).1 f8 f9 f10)) y
      = arg8.view.read (Elt Ideal) f8 y + dqAdd (at2 x2) (at2 x3) (at2 x4) (at2 x5) (at2 x6) (at2 x7) (384 * (i 1).val) (3840) (3840 + 384) (y 0).val (y 1).val := by
  unfold trip3
  dsimp only
  have hb : 384 * (i 1).val + 384 ≤ 3840 := by have := trips3 i h2; have := k.isLt; omega
  rw [View.read_writes_cons_unit _ _ _ _ _ _ (off19_eq i k)]
  split
  next hm =>
    obtain ⟨r, l, e, hr, hl⟩ := unitLocal_pair y hm
    rw [e]
    pointwise [trip3.sl.cst_79, trip3.sl.cst_80, trip3.sl.cst_85, trip3.sl.cst_96, trip3.sl.v138, trip3.sl.v139, trip3.sl.v140, trip3.sl.v142, trip3.sl.v144, trip3.sl.v145, trip3.sl.v146, trip3.sl.v149, trip3.sl.v152, trip3.sl.v154, trip3.sl.v155, trip3.sl.v156, trip3.sl.v157, trip3.sl.v158, trip3.sl.v161, trip3.sl.v162, trip3.sl.v163, trip3.sl.v164, trip3.sl.v165, trip3.sl.v168, trip3.sl.v169, trip3.sl.v170, trip3.sl.v171, trip3.sl.v172, trip3.sl.v175, trip3.sl.v176, trip3.sl.v177, trip3.sl.v181, trip3.sl.v182, trip3.sl.v183, trip3.sl.v185, trip3.sl.v186, trip3.sl.v189, trip3.sl.v191, trip3.sl.v192, trip3.sl.v194, trip3.sl.v195, trip3.sl.v196, trip3.sl.v199, trip3.sl.v200, trip3.sl.v201, trip3.sl.v202, trip3.sl.v203, trip3.sl.v206, trip3.sl.v207, trip3.sl.v208, trip3.sl.v209, trip3.sl.v210, trip3.sl.v212, trip3.sl.v213, trip3.sl.v214, trip3.sl.v215, trip3.sl.v218, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay4, k1_pay5]
    simp only [readAt_f32, readAt_bf16, off16_eq, off17_eq, off18_eq, off19_eq, off20_eq, harg2.read_unread, harg3.read_unread, harg4.read_unread, harg5.read_unread,
      harg6.read_unread, harg7.read_unread, ix2_0, ix2_1, sel_left, sel_right, Matrix.cons_val_zero, Matrix.cons_val_one, Nat.zero_add]
    simp only [Nat.zero_add] at hr hl
    rw [dqAdd_in _ _ _ _ _ _ (by have := r.isLt; omega) hb, show (y 1).val / 128 = 1 by have := l.isLt; omega, at2_idx (arg8.view.read (Elt Ideal) f8)]
    simp only [hr, hl, dscore, prob, dprob, score, Nat.mul_one, Nat.mul_zero, Nat.zero_add, Fin.val_zero, Nat.add_zero]
    rfl
  next hn1 =>
  rw [View.read_writes_cons_unit _ _ _ _ _ _ (off17_eq i k)]
  split
  next hm =>
    obtain ⟨r, l, e, hr, hl⟩ := unitLocal_pair y hm
    rw [e]
    pointwise [trip3.sl.cst_79, trip3.sl.cst_80, trip3.sl.cst_85, trip3.sl.cst_96, trip3.sl.v138, trip3.sl.v139, trip3.sl.v140, trip3.sl.v142, trip3.sl.v144, trip3.sl.v145, trip3.sl.v146, trip3.sl.v149, trip3.sl.v152, trip3.sl.v154, trip3.sl.v155, trip3.sl.v156, trip3.sl.v157, trip3.sl.v158, trip3.sl.v161, trip3.sl.v162, trip3.sl.v163, trip3.sl.v164, trip3.sl.v165, trip3.sl.v168, trip3.sl.v169, trip3.sl.v170, trip3.sl.v171, trip3.sl.v172, trip3.sl.v175, trip3.sl.v176, trip3.sl.v177, trip3.sl.v181, trip3.sl.v182, trip3.sl.v183, trip3.sl.v185, trip3.sl.v186, trip3.sl.v189, trip3.sl.v191, trip3.sl.v192, trip3.sl.v194, trip3.sl.v195, trip3.sl.v196, trip3.sl.v199, trip3.sl.v200, trip3.sl.v201, trip3.sl.v202, trip3.sl.v203, trip3.sl.v206, trip3.sl.v207, trip3.sl.v208, trip3.sl.v209, trip3.sl.v210, trip3.sl.v212, trip3.sl.v213, trip3.sl.v214, trip3.sl.v215, trip3.sl.v218, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay4, k1_pay5]
    simp only [readAt_f32, readAt_bf16, off16_eq, off17_eq, off18_eq, off19_eq, off20_eq, harg2.read_unread, harg3.read_unread, harg4.read_unread, harg5.read_unread,
      harg6.read_unread, harg7.read_unread, ix2_0, ix2_1, sel_left, sel_right, Matrix.cons_val_zero, Matrix.cons_val_one, Nat.zero_add]
    simp only [Nat.zero_add] at hr hl
    rw [dqAdd_in _ _ _ _ _ _ (by have := r.isLt; omega) hb, show (y 1).val / 128 = 0 by have := l.isLt; omega, at2_idx (arg8.view.read (Elt Ideal) f8)]
    simp only [hr, hl, dscore, prob, dprob, score, Nat.mul_one, Nat.mul_zero, Nat.zero_add, Fin.val_zero, Nat.add_zero]
    rfl
  next hn2 =>
  unfold dqAdd
  rw [if_neg fun hy => ?_, add_zero]
  · rfl
  have hy1 : (y 1).val < 256 := (y 1).isLt
  rcases Nat.lt_or_ge (y 1).val 128 with h | h
  · exact hn2 (Fin.forall_fin_two.mpr ⟨hy, Nat.zero_le _, h⟩)
  · exact hn1 (Fin.forall_fin_two.mpr ⟨hy, h, hy1⟩)

theorem trip3_dk (k : Fin (k1_t3_loop i).trips) (y : S384x256.Idx) :
    arg9.view.read (Elt Ideal) (arg9.view.writes (Elt Ideal) f9 ((trip3 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 k).2.1 f8 f9 f10)) y
      = arg9.view.read (Elt Ideal) f9 y + dkAdd (at2 x2) (at2 x3) (at2 x4) (at2 x5) (at2 x6) (at2 x7) (384 * (i 1).val) (3840) (3840 + 384) (y 0).val (y 1).val := by
  unfold trip3
  dsimp only
  have hb : 384 * (i 1).val + 384 ≤ 3840 := by have := trips3 i h2; have := k.isLt; omega
  rw [View.read_writes_cons_unit _ _ _ _ _ _ rfl]
  split
  next hm =>
    obtain ⟨r, l, e, hr, hl⟩ := unitLocal_pair y hm
    rw [e]
    pointwise [trip3.sl.cst_79, trip3.sl.cst_80, trip3.sl.cst_85, trip3.sl.cst_96, trip3.sl.v138, trip3.sl.v139, trip3.sl.v140, trip3.sl.v142, trip3.sl.v144, trip3.sl.v145, trip3.sl.v146, trip3.sl.v149, trip3.sl.v152, trip3.sl.v154, trip3.sl.v155, trip3.sl.v156, trip3.sl.v157, trip3.sl.v158, trip3.sl.v161, trip3.sl.v162, trip3.sl.v163, trip3.sl.v164, trip3.sl.v165, trip3.sl.v168, trip3.sl.v169, trip3.sl.v170, trip3.sl.v171, trip3.sl.v172, trip3.sl.v175, trip3.sl.v176, trip3.sl.v177, trip3.sl.v181, trip3.sl.v182, trip3.sl.v183, trip3.sl.v185, trip3.sl.v186, trip3.sl.v189, trip3.sl.v191, trip3.sl.v192, trip3.sl.v194, trip3.sl.v195, trip3.sl.v196, trip3.sl.v199, trip3.sl.v200, trip3.sl.v201, trip3.sl.v202, trip3.sl.v203, trip3.sl.v206, trip3.sl.v207, trip3.sl.v208, trip3.sl.v209, trip3.sl.v210, trip3.sl.v212, trip3.sl.v213, trip3.sl.v214, trip3.sl.v215, trip3.sl.v218, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay4, k1_pay5]
    simp only [readAt_f32, readAt_bf16, off16_eq, off17_eq, off18_eq, off19_eq, off20_eq, harg2.read_unread, harg3.read_unread, harg4.read_unread, harg5.read_unread,
      harg6.read_unread, harg7.read_unread, ix2_0, ix2_1, sel_left, sel_right, Matrix.cons_val_zero, Matrix.cons_val_one, Nat.zero_add]
    simp only [Nat.zero_add] at hr hl
    rw [dkAdd_in _ _ _ _ _ _ 384 rfl hb (y 0).isLt, show (y 1).val / 128 = 1 by have := l.isLt; omega, at2_idx (arg9.view.read (Elt Ideal) f9)]
    simp only [hr, hl, dscore, prob, dprob, score, Nat.mul_one, Nat.mul_zero, Nat.zero_add, Fin.val_zero, Nat.add_zero]
    rfl
  next hn1 =>
  rw [View.read_writes_cons_unit _ _ _ _ _ _ rfl]
  split
  next hm =>
    obtain ⟨r, l, e, hr, hl⟩ := unitLocal_pair y hm
    rw [e]
    pointwise [trip3.sl.cst_79, trip3.sl.cst_80, trip3.sl.cst_85, trip3.sl.cst_96, trip3.sl.v138, trip3.sl.v139, trip3.sl.v140, trip3.sl.v142, trip3.sl.v144, trip3.sl.v145, trip3.sl.v146, trip3.sl.v149, trip3.sl.v152, trip3.sl.v154, trip3.sl.v155, trip3.sl.v156, trip3.sl.v157, trip3.sl.v158, trip3.sl.v161, trip3.sl.v162, trip3.sl.v163, trip3.sl.v164, trip3.sl.v165, trip3.sl.v168, trip3.sl.v169, trip3.sl.v170, trip3.sl.v171, trip3.sl.v172, trip3.sl.v175, trip3.sl.v176, trip3.sl.v177, trip3.sl.v181, trip3.sl.v182, trip3.sl.v183, trip3.sl.v185, trip3.sl.v186, trip3.sl.v189, trip3.sl.v191, trip3.sl.v192, trip3.sl.v194, trip3.sl.v195, trip3.sl.v196, trip3.sl.v199, trip3.sl.v200, trip3.sl.v201, trip3.sl.v202, trip3.sl.v203, trip3.sl.v206, trip3.sl.v207, trip3.sl.v208, trip3.sl.v209, trip3.sl.v210, trip3.sl.v212, trip3.sl.v213, trip3.sl.v214, trip3.sl.v215, trip3.sl.v218, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay4, k1_pay5]
    simp only [readAt_f32, readAt_bf16, off16_eq, off17_eq, off18_eq, off19_eq, off20_eq, harg2.read_unread, harg3.read_unread, harg4.read_unread, harg5.read_unread,
      harg6.read_unread, harg7.read_unread, ix2_0, ix2_1, sel_left, sel_right, Matrix.cons_val_zero, Matrix.cons_val_one, Nat.zero_add]
    simp only [Nat.zero_add] at hr hl
    rw [dkAdd_in _ _ _ _ _ _ 384 rfl hb (y 0).isLt, show (y 1).val / 128 = 0 by have := l.isLt; omega, at2_idx (arg9.view.read (Elt Ideal) f9)]
    simp only [hr, hl, dscore, prob, dprob, score, Nat.mul_one, Nat.mul_zero, Nat.zero_add, Fin.val_zero, Nat.add_zero]
    rfl
  next hn2 =>
  have hy0 : (y 0).val < 384 := (y 0).isLt
  have hy1 : (y 1).val < 256 := (y 1).isLt
  rcases Nat.lt_or_ge (y 1).val 128 with h | h
  · exact (hn2 (Fin.forall_fin_two.mpr ⟨⟨Nat.zero_le _, hy0⟩, Nat.zero_le _, h⟩)).elim
  · exact (hn1 (Fin.forall_fin_two.mpr ⟨⟨Nat.zero_le _, hy0⟩, h, hy1⟩)).elim

theorem trip3_dv (k : Fin (k1_t3_loop i).trips) (y : S384x128.Idx) :
    arg10.view.read (Elt Ideal) (arg10.view.writes (Elt Ideal) f10 ((trip3 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 k).2.2.1 f8 f9 f10)) y
      = arg10.view.read (Elt Ideal) f10 y + dvAdd (at2 x2) (at2 x3) (at2 x5) (at2 x6) (384 * (i 1).val) (3840) (3840 + 384) (y 0).val (y 1).val := by
  unfold trip3
  dsimp only
  have hb : 384 * (i 1).val + 384 ≤ 3840 := by have := trips3 i h2; have := k.isLt; omega
  rw [View.read_writes_cons_unit _ _ _ _ _ _ rfl]
  split
  next hm =>
    obtain ⟨r, l, e, hr, hl⟩ := unitLocal_pair y hm
    rw [e]
    pointwise [trip3.sl.cst_79, trip3.sl.cst_80, trip3.sl.cst_85, trip3.sl.cst_96, trip3.sl.v138, trip3.sl.v139, trip3.sl.v140, trip3.sl.v142, trip3.sl.v144, trip3.sl.v145, trip3.sl.v146, trip3.sl.v149, trip3.sl.v152, trip3.sl.v154, trip3.sl.v155, trip3.sl.v156, trip3.sl.v157, trip3.sl.v158, trip3.sl.v161, trip3.sl.v162, trip3.sl.v163, trip3.sl.v164, trip3.sl.v165, trip3.sl.v168, trip3.sl.v169, trip3.sl.v170, trip3.sl.v171, trip3.sl.v172, trip3.sl.v175, trip3.sl.v176, trip3.sl.v177, trip3.sl.v181, trip3.sl.v182, trip3.sl.v183, trip3.sl.v185, trip3.sl.v186, trip3.sl.v189, trip3.sl.v191, trip3.sl.v192, trip3.sl.v194, trip3.sl.v195, trip3.sl.v196, trip3.sl.v199, trip3.sl.v200, trip3.sl.v201, trip3.sl.v202, trip3.sl.v203, trip3.sl.v206, trip3.sl.v207, trip3.sl.v208, trip3.sl.v209, trip3.sl.v210, trip3.sl.v212, trip3.sl.v213, trip3.sl.v214, trip3.sl.v215, trip3.sl.v218, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay4, k1_pay5]
    simp only [readAt_f32, readAt_bf16, off16_eq, off17_eq, off18_eq, off19_eq, off20_eq, harg2.read_unread, harg3.read_unread, harg4.read_unread, harg5.read_unread,
      harg6.read_unread, harg7.read_unread, ix2_0, ix2_1, sel_left, sel_right, Matrix.cons_val_zero, Matrix.cons_val_one, Nat.zero_add]
    simp only [Nat.zero_add] at hr hl
    rw [dvAdd_in _ _ _ _ 384 rfl hb (y 0).isLt, at2_idx (arg10.view.read (Elt Ideal) f10)]
    have hh : l.val / 64 = 0 ∨ l.val / 64 = 1 := by have := l.isLt; omega
    rcases hh with hh | hh <;>
      simp only [hh, ← hr, ← hl, if_pos, reduceIte, Nat.one_ne_zero, Nat.zero_ne_one, Finset.sum_const_zero, add_zero, zero_add, prob, score, Nat.mul_one, Nat.mul_zero, Nat.zero_add, Fin.val_zero, Nat.add_zero] <;> rfl
  next hn =>
  exact (hn (Fin.forall_fin_two.mpr ⟨⟨Nat.zero_le _, (y 0).isLt⟩, Nat.zero_le _, (y 1).isLt⟩)).elim

end

end Cert.AttnBwd

end
-- ==== Proof.BwdSums.lean ====
/- What the two loops of the backward attention leave in the three gradient buffers. -/
module
public import proofs.«01_k».proof.Proof.BwdSteps
public import Idealize.ShloMosaic.Lib.Pipeline.ValueKit
public import Idealize.ShloMosaic.Lib.Pointwise
public import Idealize.ShloMosaic.Lib.Claim
public import Idealize.ShloMosaic.Lib.WritesUnit
public import Idealize.ShloMosaic.Lib.Pipeline.FrameBody
public import Idealize.ShloMosaic.Lib.WholeRead
public import proofs.«01_k».proof.Proof.AttnTerms
@[expose] public section
set_option maxRecDepth 16384
noncomputable section
namespace Cert.AttnBwd
open Cert.AttnTerms Cert.AttnIdeal Cert.AttnIdeal.Gen
open Idealize.ShloMosaic Idealize.ShloMosaic.TcCoe Idealize.SL.Sem Idealize.ShloMosaic.Pipeline
section
variable (arg2 : Memref sig .tc .vmem S4224x256 .bf16) (harg2 : arg2.IsWhole) (arg3 : Memref sig .tc .vmem S384x256 .bf16) (harg3 : arg3.IsWhole)
  (arg4 : Memref sig .tc .vmem S384x128 .bf16) (harg4 : arg4.IsWhole) (arg5 : Memref sig .tc .vmem S4224x128 .f32) (harg5 : arg5.IsWhole)
  (arg6 : Memref sig .tc .vmem S4224x128 .f32) (harg6 : arg6.IsWhole) (arg7 : Memref sig .tc .vmem S4224x128 .f32) (harg7 : arg7.IsWhole)
  (arg8 : Memref sig .tc .vmem S4224x256 .f32) (harg8 : arg8.IsWhole) (arg9 : Memref sig .tc .vmem S384x256 .f32) (harg9 : arg9.IsWhole)
  (arg10 : Memref sig .tc .vmem S384x128 .f32) (harg10 : arg10.IsWhole)
variable (x2 : Vec Ideal S4224x256 .bf16) (x3 : Vec Ideal S384x256 .bf16) (x4 : Vec Ideal S384x128 .bf16)
  (x5 : Vec Ideal S4224x128 .f32) (x6 : Vec Ideal S4224x128 .f32) (x7 : Vec Ideal S4224x128 .f32)
variable (c : Dev nD) (i : grid1.Coords) (h2 : k1_cond2 i = 1#1)
  (f8 : BufTy.Contents (Elt Ideal) arg8.view.ty) (f9 : BufTy.Contents (Elt Ideal) arg9.view.ty) (f10 : BufTy.Contents (Elt Ideal) arg10.view.ty)

theorem loop1_dq (y : S4224x256.Idx) : ∀ n, n ≤ (k1_t1_loop i).trips →
    arg8.view.read (Elt Ideal) (at1_8 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 n) y
      = arg8.view.read (Elt Ideal) f8 y + dqAdd (at2 x2) (at2 x3) (at2 x4) (at2 x5) (at2 x6) (at2 x7) (384 * (i 1).val) (384 * ((i 1).val + 2)) (384 * ((i 1).val + 2) + 768 * n) (y 0).val (y 1).val
  | 0, _ => by rw [Nat.mul_zero, Nat.add_zero (384 * ((i 1).val + 2)), dqAdd_self, add_zero]; rfl
  | n + 1, hn => by
    have ih := loop1_dq y n (by omega)
    have e := at1_8_succ (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 ⟨n, hn⟩
    refine (congrFun (congrArg (arg8.view.read (Elt Ideal)) e) y).trans ?_
    refine (trip1_dq arg2 harg2 arg3 harg3 arg4 harg4 arg5 harg5 arg6 harg6 arg7 harg7 arg8 harg8 arg9 harg9 arg10 harg10 x2 x3 x4 x5 x6 x7 c i h2 _ _ _ ⟨n, hn⟩ y).trans ?_

    rw [ih, add_assoc]
    refine congrArg _ ?_
    exact dqAdd_add _ _ _ _ _ _ (by first | omega | (dsimp only; omega)) (by first | omega | (dsimp only; omega)) _ _ _
theorem end1_dq (y : S4224x256.Idx) :
    arg8.view.read (Elt Ideal) (end1_8 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10) y
      = arg8.view.read (Elt Ideal) f8 y + dqAdd (at2 x2) (at2 x3) (at2 x4) (at2 x5) (at2 x6) (at2 x7) (384 * (i 1).val) (384 * ((i 1).val + 2)) (384 * ((i 1).val + 2) + 768 * (k1_t1_loop i).trips) (y 0).val (y 1).val := by
  unfold end1_8
  exact loop1_dq arg2 harg2 arg3 harg3 arg4 harg4 arg5 harg5 arg6 harg6 arg7 harg7 arg8 harg8 arg9 harg9 arg10 harg10 x2 x3 x4 x5 x6 x7 c i h2 f8 f9 f10 y _ le_rfl

theorem loop1_dk (y : S384x256.Idx) : ∀ n, n ≤ (k1_t1_loop i).trips →
    arg9.view.read (Elt Ideal) (at1_9 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 n) y
      = arg9.view.read (Elt Ideal) f9 y + dkAdd (at2 x2) (at2 x3) (at2 x4) (at2 x5) (at2 x6) (at2 x7) (384 * (i 1).val) (384 * ((i 1).val + 2)) (384 * ((i 1).val + 2) + 768 * n) (y 0).val (y 1).val
  | 0, _ => by rw [Nat.mul_zero, Nat.add_zero (384 * ((i 1).val + 2)), dkAdd_self, add_zero]; rfl
  | n + 1, hn => by
    have ih := loop1_dk y n (by omega)
    have e := at1_9_succ (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 ⟨n, hn⟩
    refine (congrFun (congrArg (arg9.view.read (Elt Ideal)) e) y).trans ?_
    refine (trip1_dk arg2 harg2 arg3 harg3 arg4 harg4 arg5 harg5 arg6 harg6 arg7 harg7 arg8 harg8 arg9 harg9 arg10 harg10 x2 x3 x4 x5 x6 x7 c i h2 _ _ _ ⟨n, hn⟩ y).trans ?_

    rw [ih, add_assoc]
    refine congrArg _ ?_
    exact dkAdd_add _ _ _ _ _ _ (by first | omega | (dsimp only; omega)) (by first | omega | (dsimp only; omega)) _ _ _
theorem end1_dk (y : S384x256.Idx) :
    arg9.view.read (Elt Ideal) (end1_9 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10) y
      = arg9.view.read (Elt Ideal) f9 y + dkAdd (at2 x2) (at2 x3) (at2 x4) (at2 x5) (at2 x6) (at2 x7) (384 * (i 1).val) (384 * ((i 1).val + 2)) (384 * ((i 1).val + 2) + 768 * (k1_t1_loop i).trips) (y 0).val (y 1).val := by
  unfold end1_9
  exact loop1_dk arg2 harg2 arg3 harg3 arg4 harg4 arg5 harg5 arg6 harg6 arg7 harg7 arg8 harg8 arg9 harg9 arg10 harg10 x2 x3 x4 x5 x6 x7 c i h2 f8 f9 f10 y _ le_rfl

theorem loop1_dv (y : S384x128.Idx) : ∀ n, n ≤ (k1_t1_loop i).trips →
    arg10.view.read (Elt Ideal) (at1_10 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 n) y
      = arg10.view.read (Elt Ideal) f10 y + dvAdd (at2 x2) (at2 x3) (at2 x5) (at2 x6) (384 * (i 1).val) (384 * ((i 1).val + 2)) (384 * ((i 1).val + 2) + 768 * n) (y 0).val (y 1).val
  | 0, _ => by rw [Nat.mul_zero, Nat.add_zero (384 * ((i 1).val + 2)), dvAdd_self, add_zero]; rfl
  | n + 1, hn => by
    have ih := loop1_dv y n (by omega)
    have e := at1_10_succ (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 ⟨n, hn⟩
    refine (congrFun (congrArg (arg10.view.read (Elt Ideal)) e) y).trans ?_
    refine (trip1_dv arg2 harg2 arg3 harg3 arg4 harg4 arg5 harg5 arg6 harg6 arg7 harg7 arg8 harg8 arg9 harg9 arg10 harg10 x2 x3 x4 x5 x6 x7 c i h2 _ _ _ ⟨n, hn⟩ y).trans ?_

    rw [ih, add_assoc]
    refine congrArg _ ?_
    exact dvAdd_add _ _ _ _ (by first | omega | (dsimp only; omega)) (by first | omega | (dsimp only; omega)) _ _ _
theorem end1_dv (y : S384x128.Idx) :
    arg10.view.read (Elt Ideal) (end1_10 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10) y
      = arg10.view.read (Elt Ideal) f10 y + dvAdd (at2 x2) (at2 x3) (at2 x5) (at2 x6) (384 * (i 1).val) (384 * ((i 1).val + 2)) (384 * ((i 1).val + 2) + 768 * (k1_t1_loop i).trips) (y 0).val (y 1).val := by
  unfold end1_10
  exact loop1_dv arg2 harg2 arg3 harg3 arg4 harg4 arg5 harg5 arg6 harg6 arg7 harg7 arg8 harg8 arg9 harg9 arg10 harg10 x2 x3 x4 x5 x6 x7 c i h2 f8 f9 f10 y _ le_rfl

theorem loop3_dq (y : S4224x256.Idx) : ∀ n, n ≤ (k1_t3_loop i).trips →
    arg8.view.read (Elt Ideal) (at3_8 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 n) y
      = arg8.view.read (Elt Ideal) f8 y + dqAdd (at2 x2) (at2 x3) (at2 x4) (at2 x5) (at2 x6) (at2 x7) (384 * (i 1).val) (3840) (3840 + 384 * n) (y 0).val (y 1).val
  | 0, _ => by rw [Nat.mul_zero, Nat.add_zero (3840), dqAdd_self, add_zero]; rfl
  | n + 1, hn => by
    have ih := loop3_dq y n (by omega)
    have e := at3_8_succ (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 ⟨n, hn⟩
    refine (congrFun (congrArg (arg8.view.read (Elt Ideal)) e) y).trans ?_
    refine (trip3_dq arg2 harg2 arg3 harg3 arg4 harg4 arg5 harg5 arg6 harg6 arg7 harg7 arg8 harg8 arg9 harg9 arg10 harg10 x2 x3 x4 x5 x6 x7 c i h2 _ _ _ ⟨n, hn⟩ y).trans ?_
    have h3 := trips3 i h2
    obtain rfl : n = 0 := by omega
    rw [ih, add_assoc]
    refine congrArg _ ?_
    exact dqAdd_add _ _ _ _ _ _ (by first | omega | (dsimp only; omega)) (by first | omega | (dsimp only; omega)) _ _ _
theorem end3_dq (y : S4224x256.Idx) :
    arg8.view.read (Elt Ideal) (end3_8 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10) y
      = arg8.view.read (Elt Ideal) f8 y + dqAdd (at2 x2) (at2 x3) (at2 x4) (at2 x5) (at2 x6) (at2 x7) (384 * (i 1).val) (3840) (3840 + 384 * (k1_t3_loop i).trips) (y 0).val (y 1).val := by
  unfold end3_8
  exact loop3_dq arg2 harg2 arg3 harg3 arg4 harg4 arg5 harg5 arg6 harg6 arg7 harg7 arg8 harg8 arg9 harg9 arg10 harg10 x2 x3 x4 x5 x6 x7 c i h2 f8 f9 f10 y _ le_rfl

theorem loop3_dk (y : S384x256.Idx) : ∀ n, n ≤ (k1_t3_loop i).trips →
    arg9.view.read (Elt Ideal) (at3_9 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 n) y
      = arg9.view.read (Elt Ideal) f9 y + dkAdd (at2 x2) (at2 x3) (at2 x4) (at2 x5) (at2 x6) (at2 x7) (384 * (i 1).val) (3840) (3840 + 384 * n) (y 0).val (y 1).val
  | 0, _ => by rw [Nat.mul_zero, Nat.add_zero (3840), dkAdd_self, add_zero]; rfl
  | n + 1, hn => by
    have ih := loop3_dk y n (by omega)
    have e := at3_9_succ (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 ⟨n, hn⟩
    refine (congrFun (congrArg (arg9.view.read (Elt Ideal)) e) y).trans ?_
    refine (trip3_dk arg2 harg2 arg3 harg3 arg4 harg4 arg5 harg5 arg6 harg6 arg7 harg7 arg8 harg8 arg9 harg9 arg10 harg10 x2 x3 x4 x5 x6 x7 c i h2 _ _ _ ⟨n, hn⟩ y).trans ?_
    have h3 := trips3 i h2
    obtain rfl : n = 0 := by omega
    rw [ih, add_assoc]
    refine congrArg _ ?_
    exact dkAdd_add _ _ _ _ _ _ (by first | omega | (dsimp only; omega)) (by first | omega | (dsimp only; omega)) _ _ _
theorem end3_dk (y : S384x256.Idx) :
    arg9.view.read (Elt Ideal) (end3_9 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10) y
      = arg9.view.read (Elt Ideal) f9 y + dkAdd (at2 x2) (at2 x3) (at2 x4) (at2 x5) (at2 x6) (at2 x7) (384 * (i 1).val) (3840) (3840 + 384 * (k1_t3_loop i).trips) (y 0).val (y 1).val := by
  unfold end3_9
  exact loop3_dk arg2 harg2 arg3 harg3 arg4 harg4 arg5 harg5 arg6 harg6 arg7 harg7 arg8 harg8 arg9 harg9 arg10 harg10 x2 x3 x4 x5 x6 x7 c i h2 f8 f9 f10 y _ le_rfl

theorem loop3_dv (y : S384x128.Idx) : ∀ n, n ≤ (k1_t3_loop i).trips →
    arg10.view.read (Elt Ideal) (at3_10 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 n) y
      = arg10.view.read (Elt Ideal) f10 y + dvAdd (at2 x2) (at2 x3) (at2 x5) (at2 x6) (384 * (i 1).val) (3840) (3840 + 384 * n) (y 0).val (y 1).val
  | 0, _ => by rw [Nat.mul_zero, Nat.add_zero (3840), dvAdd_self, add_zero]; rfl
  | n + 1, hn => by
    have ih := loop3_dv y n (by omega)
    have e := at3_10_succ (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10 ⟨n, hn⟩
    refine (congrFun (congrArg (arg10.view.read (Elt Ideal)) e) y).trans ?_
    refine (trip3_dv arg2 harg2 arg3 harg3 arg4 harg4 arg5 harg5 arg6 harg6 arg7 harg7 arg8 harg8 arg9 harg9 arg10 harg10 x2 x3 x4 x5 x6 x7 c i h2 _ _ _ ⟨n, hn⟩ y).trans ?_
    have h3 := trips3 i h2
    obtain rfl : n = 0 := by omega
    rw [ih, add_assoc]
    refine congrArg _ ?_
    exact dvAdd_add _ _ _ _ (by first | omega | (dsimp only; omega)) (by first | omega | (dsimp only; omega)) _ _ _
theorem end3_dv (y : S384x128.Idx) :
    arg10.view.read (Elt Ideal) (end3_10 (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h2 f8 f9 f10) y
      = arg10.view.read (Elt Ideal) f10 y + dvAdd (at2 x2) (at2 x3) (at2 x5) (at2 x6) (384 * (i 1).val) (3840) (3840 + 384 * (k1_t3_loop i).trips) (y 0).val (y 1).val := by
  unfold end3_10
  exact loop3_dv arg2 harg2 arg3 harg3 arg4 harg4 arg5 harg5 arg6 harg6 arg7 harg7 arg8 harg8 arg9 harg9 arg10 harg10 x2 x3 x4 x5 x6 x7 c i h2 f8 f9 f10 y _ le_rfl

end

end Cert.AttnBwd

end
-- ==== Proof.BwdFirst.lean ====
/- What the grid step of the first key block (j = 0) leaves in the three gradient buffers. -/
module
public import proofs.«01_k».proof.Proof.BwdSums
public import proofs.«01_k».proof.Proof.BwdRun
public import Idealize.ShloMosaic.Lib.Pipeline.ValueKit
public import Idealize.ShloMosaic.Lib.Pointwise
public import Idealize.ShloMosaic.Lib.Claim
public import Idealize.ShloMosaic.Lib.WritesUnit
public import Idealize.ShloMosaic.Lib.Pipeline.FrameBody
public import Idealize.ShloMosaic.Lib.WholeRead
public import proofs.«01_k».proof.Proof.AttnTerms
@[expose] public section
set_option maxRecDepth 16384
noncomputable section
namespace Cert.AttnBwd
open Cert.AttnTerms Cert.AttnIdeal Cert.AttnIdeal.Gen
open Idealize.ShloMosaic Idealize.ShloMosaic.TcCoe Idealize.SL.Sem Idealize.ShloMosaic.Pipeline
section
variable (arg2 : Memref sig .tc .vmem S4224x256 .bf16) (harg2 : arg2.IsWhole) (arg3 : Memref sig .tc .vmem S384x256 .bf16) (harg3 : arg3.IsWhole)
  (arg4 : Memref sig .tc .vmem S384x128 .bf16) (harg4 : arg4.IsWhole) (arg5 : Memref sig .tc .vmem S4224x128 .f32) (harg5 : arg5.IsWhole)
  (arg6 : Memref sig .tc .vmem S4224x128 .f32) (harg6 : arg6.IsWhole) (arg7 : Memref sig .tc .vmem S4224x128 .f32) (harg7 : arg7.IsWhole)
  (arg8 : Memref sig .tc .vmem S4224x256 .f32) (harg8 : arg8.IsWhole) (arg9 : Memref sig .tc .vmem S384x256 .f32) (harg9 : arg9.IsWhole)
  (arg10 : Memref sig .tc .vmem S384x128 .f32) (harg10 : arg10.IsWhole)
variable (x2 : Vec Ideal S4224x256 .bf16) (x3 : Vec Ideal S384x256 .bf16) (x4 : Vec Ideal S384x128 .bf16)
  (x5 : Vec Ideal S4224x128 .f32) (x6 : Vec Ideal S4224x128 .f32) (x7 : Vec Ideal S4224x128 .f32)
variable (c : Dev nD) (i : grid1.Coords) (h2 : k1_cond2 i = 1#1)
  (f8 : BufTy.Contents (Elt Ideal) arg8.view.ty) (f9 : BufTy.Contents (Elt Ideal) arg9.view.ty) (f10 : BufTy.Contents (Elt Ideal) arg10.view.ty)

theorem runA_dq (h1 : k1_cond1 i = 1#1) (h3 : ¬ k1_cond3 i = 1#1) (h4 : ¬ k1_cond4 i = 1#1) (y : S4224x256.Idx) :
    arg8.view.read (Elt Ideal) ((runA (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h1 h2 h3 h4).1) y = dqAdd (at2 x2) (at2 x3) (at2 x4) (at2 x5) (at2 x6) (at2 x7) (384 * (i 1).val) (384 * (i 1).val) 4224 (y 0).val (y 1).val := by
  unfold runA
  dsimp only
  have y0 : (y 0).val < 4224 := (y 0).isLt
  have y1 : (y 1).val < 256 := (y 1).isLt
  have hj := cond2_le i h2
  rw [← rows_join (fun lo hi => dqAdd (at2 x2) (at2 x3) (at2 x4) (at2 x5) (at2 x6) (at2 x7) (384 * (i 1).val) lo hi (y 0).val (y 1).val) (fun h h' => dqAdd_add _ _ _ _ _ _  h h' _ _ _)
    (fun lo => dqAdd_self _ _ _ _ _ _  _ _ _ _) (by have := cond2_le i h2; omega) (trips1 i) (trips3 i h2)]
  rw [end3_dq, end1_dq]
  refine congrArg₂ (· + ·) (congrArg₂ (· + ·) ?_ rfl) rfl
  rw [at2_idx (arg8.view.read (Elt Ideal) _), at2_write _ _ (off4_eq i)]
  unfold runA.sl.H8_2
  simp only [View.writes_cons]
  rw [at2_write _ _ (off2_eq i)]
  split
  next hm =>
    obtain ⟨r, hr⟩ : ∃ r : Fin 768, 384 * (i 1).val + r.val = (y 0).val := ⟨⟨(y 0).val - (384 * (i 1).val), by omega⟩, by simp only []; omega⟩
    obtain ⟨l, hl⟩ : ∃ l : Fin 128, 128 + l.val = (y 1).val := ⟨⟨(y 1).val - 128, by omega⟩, by simp only []; omega⟩
    rw [show (y 0).val - (384 * (i 1).val) = r.val by omega, show (y 1).val - 128 = l.val by omega, ← at2_ix2]
    pointwise [runA.sl.H10_1, runA.sl.H8_1, runA.sl.H8_2, runA.sl.H9_1, runA.sl.H9_2, runA.sl.r, runA.sl.r_1, runA.sl.r_10, runA.sl.r_11, runA.sl.r_12, runA.sl.r_13, runA.sl.r_2, runA.sl.r_3, runA.sl.r_4, runA.sl.r_5, runA.sl.r_6, runA.sl.r_7, runA.sl.r_8, runA.sl.r_9, runA.sl.v110, runA.sl.v118, runA.sl.v122, runA.sl.v123, runA.sl.v124, runA.sl.v125, runA.sl.v127, runA.sl.v128, runA.sl.v129, runA.sl.v130, runA.sl.v131, runA.sl.v132, runA.sl.v133, runA.sl.v67, k1_pay1, k1_pay2, k1_pay3, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101]
    simp only [View.readCov, readAt_f32, readAt_bf16, off1_eq, off2_eq, off3_eq, off4_eq, off5_eq, harg2.read_unread, harg3.read_unread, harg4.read_unread, harg5.read_unread,
      harg6.read_unread, harg7.read_unread, ix2_0, ix2_1, sel_left, sel_right, sel_le (m := 384) (n := 768) (by decide) (by decide), Matrix.cons_val_zero, Matrix.cons_val_one, Nat.zero_add]
    rw [at2_write _ _ (off2_eq i), if_neg (by omega)]
    simp only [View.writes_cons, View.writes_nil]
    rw [at2_write _ _ rfl, if_pos (by omega), at2_zero (broadcast _ _) (fun _ => rfl), zero_add]
    rw [← hr, dqAdd_mask _ _ _ _ _ _ (by have := r.isLt; omega), show (y 1).val / 128 = 1 by omega, ← hl]
    simp only [dscore, prob, dprob, score, Nat.mul_one, Nat.mul_zero, Nat.zero_add, Fin.val_zero, Nat.add_zero]
    rfl
  next hm =>
  simp only [View.writes_cons, View.writes_nil]
  split
  next hm2 =>
    obtain ⟨r, hr⟩ : ∃ r : Fin 768, 384 * (i 1).val + r.val = (y 0).val := ⟨⟨(y 0).val - (384 * (i 1).val), by omega⟩, by simp only []; omega⟩
    obtain ⟨l, hl⟩ : ∃ l : Fin 128, 0 + l.val = (y 1).val := ⟨⟨(y 1).val - 0, by omega⟩, by simp only []; omega⟩
    rw [show (y 0).val - (384 * (i 1).val) = r.val by omega, show (y 1).val - 0 = l.val by omega, ← at2_ix2]
    pointwise [runA.sl.H10_1, runA.sl.H8_1, runA.sl.H8_2, runA.sl.H9_1, runA.sl.H9_2, runA.sl.r, runA.sl.r_1, runA.sl.r_10, runA.sl.r_11, runA.sl.r_12, runA.sl.r_13, runA.sl.r_2, runA.sl.r_3, runA.sl.r_4, runA.sl.r_5, runA.sl.r_6, runA.sl.r_7, runA.sl.r_8, runA.sl.r_9, runA.sl.v110, runA.sl.v118, runA.sl.v122, runA.sl.v123, runA.sl.v124, runA.sl.v125, runA.sl.v127, runA.sl.v128, runA.sl.v129, runA.sl.v130, runA.sl.v131, runA.sl.v132, runA.sl.v133, runA.sl.v67, k1_pay1, k1_pay2, k1_pay3, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101]
    simp only [View.readCov, readAt_f32, readAt_bf16, off1_eq, off2_eq, off3_eq, off4_eq, off5_eq, harg2.read_unread, harg3.read_unread, harg4.read_unread, harg5.read_unread,
      harg6.read_unread, harg7.read_unread, ix2_0, ix2_1, sel_left, sel_right, sel_le (m := 384) (n := 768) (by decide) (by decide), Matrix.cons_val_zero, Matrix.cons_val_one, Nat.zero_add]
    simp only [View.writes_cons, View.writes_nil]
    rw [at2_write _ _ rfl, if_pos (by omega), at2_zero (broadcast _ _) (fun _ => rfl), zero_add]
    rw [← hr, dqAdd_mask _ _ _ _ _ _ (by have := r.isLt; omega), show (y 1).val / 128 = 0 by omega, ← hl]
    simp only [dscore, prob, dprob, score, Nat.mul_one, Nat.mul_zero, Nat.zero_add, Fin.val_zero, Nat.add_zero]
    rfl
  next hm2 =>
    unfold runA.sl.H8_1
    simp only [View.writes_cons, View.writes_nil, k1_pay1]
    rw [at2_write _ _ rfl, if_pos (by omega), at2_zero (broadcast _ _) (fun _ => zero_f32)]
    unfold dqAdd
    rw [if_neg (by omega)]

theorem runA_dk (h1 : k1_cond1 i = 1#1) (h3 : ¬ k1_cond3 i = 1#1) (h4 : ¬ k1_cond4 i = 1#1) (y : S384x256.Idx) :
    arg9.view.read (Elt Ideal) ((runA (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h1 h2 h3 h4).2.1) y = dkAdd (at2 x2) (at2 x3) (at2 x4) (at2 x5) (at2 x6) (at2 x7) (384 * (i 1).val) (384 * (i 1).val) 4224 (y 0).val (y 1).val * lnTwo := by
  unfold runA
  dsimp only
  have y0 : (y 0).val < 384 := (y 0).isLt
  have y1 : (y 1).val < 256 := (y 1).isLt
  have hj := cond2_le i h2
  rw [← rows_join (fun lo hi => dkAdd (at2 x2) (at2 x3) (at2 x4) (at2 x5) (at2 x6) (at2 x7) (384 * (i 1).val) lo hi (y 0).val (y 1).val) (fun h h' => dkAdd_add _ _ _ _ _ _  h h' _ _ _)
    (fun lo => dkAdd_self _ _ _ _ _ _  _ _ _ _) (by have := cond2_le i h2; omega) (trips1 i) (trips3 i h2)]
  rw [at2_idx (arg9.view.read (Elt Ideal) _)]
  simp only [View.writes_cons, View.writes_nil]
  rw [at2_write _ _ rfl, if_pos (by omega)]
  obtain ⟨r, hr⟩ : ∃ r : Fin 384, 0 + r.val = (y 0).val := ⟨⟨(y 0).val - (0), by omega⟩, by simp only []; omega⟩
  obtain ⟨l, hl⟩ : ∃ l : Fin 256, 0 + l.val = (y 1).val := ⟨⟨(y 1).val - 0, by omega⟩, by simp only []; omega⟩
  rw [show (y 0).val - (0) = r.val by omega, show (y 1).val - 0 = l.val by omega, ← at2_ix2]
  pointwise [k1_pay11, runA.sl.v13]
  simp only [View.readCov, readAt_f32, ix2_0, ix2_1, Matrix.cons_val_zero, Matrix.cons_val_one, hr, hl]
  refine congrArg (· * lnTwo) ?_
  rw [← at2_idx (arg9.view.read (Elt Ideal) _), end3_dk, end1_dk]
  refine congrArg₂ (· + ·) (congrArg₂ (· + ·) ?_ rfl) rfl
  rw [at2_idx (arg9.view.read (Elt Ideal) _), at2_write _ _ rfl]
  unfold runA.sl.H9_2
  simp only [View.writes_cons]
  rw [at2_write _ _ rfl]
  clear hr hl r l
  split
  next hm =>
    obtain ⟨r, hr⟩ : ∃ r : Fin 384, 0 + r.val = (y 0).val := ⟨⟨(y 0).val - (0), by omega⟩, by simp only []; omega⟩
    obtain ⟨l, hl⟩ : ∃ l : Fin 128, 128 + l.val = (y 1).val := ⟨⟨(y 1).val - 128, by omega⟩, by simp only []; omega⟩
    rw [show (y 0).val - (0) = r.val by omega, show (y 1).val - 128 = l.val by omega, ← at2_ix2]
    pointwise [runA.sl.H10_1, runA.sl.H8_1, runA.sl.H8_2, runA.sl.H9_1, runA.sl.H9_2, runA.sl.r, runA.sl.r_1, runA.sl.r_10, runA.sl.r_11, runA.sl.r_12, runA.sl.r_13, runA.sl.r_2, runA.sl.r_3, runA.sl.r_4, runA.sl.r_5, runA.sl.r_6, runA.sl.r_7, runA.sl.r_8, runA.sl.r_9, runA.sl.v110, runA.sl.v118, runA.sl.v122, runA.sl.v123, runA.sl.v124, runA.sl.v125, runA.sl.v127, runA.sl.v128, runA.sl.v129, runA.sl.v130, runA.sl.v131, runA.sl.v132, runA.sl.v133, runA.sl.v67, k1_pay1, k1_pay2, k1_pay3, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101]
    simp only [View.readCov, readAt_f32, readAt_bf16, off1_eq, off2_eq, off3_eq, off4_eq, off5_eq, harg2.read_unread, harg3.read_unread, harg4.read_unread, harg5.read_unread,
      harg6.read_unread, harg7.read_unread, ix2_0, ix2_1, sel_left, sel_right, sel_le (m := 384) (n := 768) (by decide) (by decide), Matrix.cons_val_zero, Matrix.cons_val_one, Nat.zero_add]
    simp only [View.writes_cons, View.writes_nil]
    rw [at2_write _ _ rfl, if_neg (by omega), at2_write _ _ rfl, if_pos (by omega), at2_zero (broadcast _ _) (fun _ => rfl), zero_add]
    rw [dkAdd_mask _ _ _ _ _ _ 768 rfl, show (y 1).val / 128 = 1 by omega, ← hl, ← hr]
    simp only [dscore, prob, dprob, score, Nat.mul_one, Nat.mul_zero, Nat.zero_add, Fin.val_zero, Nat.add_zero]
    rfl
  next hm =>
  split
  next hm2 =>
    obtain ⟨r, hr⟩ : ∃ r : Fin 384, 0 + r.val = (y 0).val := ⟨⟨(y 0).val - (0), by omega⟩, by simp only []; omega⟩
    obtain ⟨l, hl⟩ : ∃ l : Fin 128, 0 + l.val = (y 1).val := ⟨⟨(y 1).val - 0, by omega⟩, by simp only []; omega⟩
    rw [show (y 0).val - (0) = r.val by omega, show (y 1).val - 0 = l.val by omega, ← at2_ix2]
    pointwise [runA.sl.H10_1, runA.sl.H8_1, runA.sl.H8_2, runA.sl.H9_1, runA.sl.H9_2, runA.sl.r, runA.sl.r_1, runA.sl.r_10, runA.sl.r_11, runA.sl.r_12, runA.sl.r_13, runA.sl.r_2, runA.sl.r_3, runA.sl.r_4, runA.sl.r_5, runA.sl.r_6, runA.sl.r_7, runA.sl.r_8, runA.sl.r_9, runA.sl.v110, runA.sl.v118, runA.sl.v122, runA.sl.v123, runA.sl.v124, runA.sl.v125, runA.sl.v127, runA.sl.v128, runA.sl.v129, runA.sl.v130, runA.sl.v131, runA.sl.v132, runA.sl.v133, runA.sl.v67, k1_pay1, k1_pay2, k1_pay3, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101]
    simp only [View.readCov, readAt_f32, readAt_bf16, off1_eq, off2_eq, off3_eq, off4_eq, off5_eq, harg2.read_unread, harg3.read_unread, harg4.read_unread, harg5.read_unread,
      harg6.read_unread, harg7.read_unread, ix2_0, ix2_1, sel_left, sel_right, sel_le (m := 384) (n := 768) (by decide) (by decide), Matrix.cons_val_zero, Matrix.cons_val_one, Nat.zero_add]
    simp only [View.writes_cons, View.writes_nil]
    rw [at2_write _ _ rfl, if_pos (by omega), at2_zero (broadcast _ _) (fun _ => rfl), zero_add]
    rw [dkAdd_mask _ _ _ _ _ _ 768 rfl, show (y 1).val / 128 = 0 by omega, ← hl, ← hr]
    simp only [dscore, prob, dprob, score, Nat.mul_one, Nat.mul_zero, Nat.zero_add, Fin.val_zero, Nat.add_zero]
    rfl
  next hm2 => omega

theorem runA_dv (h1 : k1_cond1 i = 1#1) (h3 : ¬ k1_cond3 i = 1#1) (h4 : ¬ k1_cond4 i = 1#1) (y : S384x128.Idx) :
    arg10.view.read (Elt Ideal) ((runA (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h1 h2 h3 h4).2.2.1) y = dvAdd (at2 x2) (at2 x3) (at2 x5) (at2 x6) (384 * (i 1).val) (384 * (i 1).val) 4224 (y 0).val (y 1).val := by
  unfold runA
  dsimp only
  have y0 : (y 0).val < 384 := (y 0).isLt
  have y1 : (y 1).val < 128 := (y 1).isLt
  have hj := cond2_le i h2
  rw [← rows_join (fun lo hi => dvAdd (at2 x2) (at2 x3) (at2 x5) (at2 x6) (384 * (i 1).val) lo hi (y 0).val (y 1).val) (fun h h' => dvAdd_add _ _ _ _  h h' _ _ _)
    (fun lo => dvAdd_self _ _ _ _  _ _ _ _) (by have := cond2_le i h2; omega) (trips1 i) (trips3 i h2)]
  rw [end3_dv, end1_dv]
  refine congrArg₂ (· + ·) (congrArg₂ (· + ·) ?_ rfl) rfl
  rw [at2_idx (arg10.view.read (Elt Ideal) _), at2_write _ _ rfl, if_pos (by omega)]
  obtain ⟨r, hr⟩ : ∃ r : Fin 384, 0 + r.val = (y 0).val := ⟨⟨(y 0).val - (0), by omega⟩, by simp only []; omega⟩
  obtain ⟨l, hl⟩ : ∃ l : Fin 128, 0 + l.val = (y 1).val := ⟨⟨(y 1).val - 0, by omega⟩, by simp only []; omega⟩
  rw [show (y 0).val - (0) = r.val by omega, show (y 1).val - 0 = l.val by omega, ← at2_ix2]
  pointwise [runA.sl.H10_1, runA.sl.H8_1, runA.sl.H8_2, runA.sl.H9_1, runA.sl.H9_2, runA.sl.r, runA.sl.r_1, runA.sl.r_10, runA.sl.r_11, runA.sl.r_12, runA.sl.r_13, runA.sl.r_2, runA.sl.r_3, runA.sl.r_4, runA.sl.r_5, runA.sl.r_6, runA.sl.r_7, runA.sl.r_8, runA.sl.r_9, runA.sl.v110, runA.sl.v118, runA.sl.v122, runA.sl.v123, runA.sl.v124, runA.sl.v125, runA.sl.v127, runA.sl.v128, runA.sl.v129, runA.sl.v130, runA.sl.v131, runA.sl.v132, runA.sl.v133, runA.sl.v67, k1_pay1, k1_pay2, k1_pay3, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101]
  simp only [View.readCov, readAt_f32, readAt_bf16, off1_eq, off2_eq, off3_eq, off4_eq, off5_eq, harg2.read_unread, harg3.read_unread, harg4.read_unread, harg5.read_unread,
    harg6.read_unread, harg7.read_unread, ix2_0, ix2_1, sel_left, sel_right, sel_le (m := 384) (n := 768) (by decide) (by decide), Matrix.cons_val_zero, Matrix.cons_val_one, Nat.zero_add]
  simp only [View.writes_cons, View.writes_nil]
  rw [at2_write _ _ rfl, if_pos (by omega), at2_zero (broadcast _ _) (fun _ => rfl), zero_add, dvAdd_mask _ _ _ _ 768 rfl]
  have hh : l.val / 64 = 0 ∨ l.val / 64 = 1 := by omega
  rcases hh with hh | hh <;>
    simp only [hh, ← hr, ← hl, if_pos, reduceIte, ite_self, Nat.one_ne_zero, Nat.zero_ne_one, Finset.sum_const_zero, add_zero, zero_add, prob, score, Nat.mul_one, Nat.mul_zero, Nat.zero_add, Fin.val_zero, Nat.add_zero] <;> rfl

end

end Cert.AttnBwd

end
-- ==== Proof.BwdMiddle.lean ====
/- What a grid step of a later key block (0 < j < 10) leaves in the three gradient buffers. -/
module
public import proofs.«01_k».proof.Proof.BwdSums
public import proofs.«01_k».proof.Proof.BwdRun
public import Idealize.ShloMosaic.Lib.Pipeline.ValueKit
public import Idealize.ShloMosaic.Lib.Pointwise
public import Idealize.ShloMosaic.Lib.Claim
public import Idealize.ShloMosaic.Lib.WritesUnit
public import Idealize.ShloMosaic.Lib.Pipeline.FrameBody
public import Idealize.ShloMosaic.Lib.WholeRead
public import proofs.«01_k».proof.Proof.AttnTerms
@[expose] public section
set_option maxRecDepth 16384
noncomputable section
namespace Cert.AttnBwd
open Cert.AttnTerms Cert.AttnIdeal Cert.AttnIdeal.Gen
open Idealize.ShloMosaic Idealize.ShloMosaic.TcCoe Idealize.SL.Sem Idealize.ShloMosaic.Pipeline
section
variable (arg2 : Memref sig .tc .vmem S4224x256 .bf16) (harg2 : arg2.IsWhole) (arg3 : Memref sig .tc .vmem S384x256 .bf16) (harg3 : arg3.IsWhole)
  (arg4 : Memref sig .tc .vmem S384x128 .bf16) (harg4 : arg4.IsWhole) (arg5 : Memref sig .tc .vmem S4224x128 .f32) (harg5 : arg5.IsWhole)
  (arg6 : Memref sig .tc .vmem S4224x128 .f32) (harg6 : arg6.IsWhole) (arg7 : Memref sig .tc .vmem S4224x128 .f32) (harg7 : arg7.IsWhole)
  (arg8 : Memref sig .tc .vmem S4224x256 .f32) (harg8 : arg8.IsWhole) (arg9 : Memref sig .tc .vmem S384x256 .f32) (harg9 : arg9.IsWhole)
  (arg10 : Memref sig .tc .vmem S384x128 .f32) (harg10 : arg10.IsWhole)
variable (x2 : Vec Ideal S4224x256 .bf16) (x3 : Vec Ideal S384x256 .bf16) (x4 : Vec Ideal S384x128 .bf16)
  (x5 : Vec Ideal S4224x128 .f32) (x6 : Vec Ideal S4224x128 .f32) (x7 : Vec Ideal S4224x128 .f32)
variable (c : Dev nD) (i : grid1.Coords) (h2 : k1_cond2 i = 1#1)
  (f8 : BufTy.Contents (Elt Ideal) arg8.view.ty) (f9 : BufTy.Contents (Elt Ideal) arg9.view.ty) (f10 : BufTy.Contents (Elt Ideal) arg10.view.ty)

theorem runB_dq (h1 : ¬ k1_cond1 i = 1#1) (h3 : ¬ k1_cond3 i = 1#1) (h4 : ¬ k1_cond4 i = 1#1) (y : S4224x256.Idx) :
    arg8.view.read (Elt Ideal) ((runB (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h1 h2 h3 h4).1 f8) y = arg8.view.read (Elt Ideal) f8 y + dqAdd (at2 x2) (at2 x3) (at2 x4) (at2 x5) (at2 x6) (at2 x7) (384 * (i 1).val) (384 * (i 1).val) 4224 (y 0).val (y 1).val := by
  unfold runB
  dsimp only
  have y0 : (y 0).val < 4224 := (y 0).isLt
  have y1 : (y 1).val < 256 := (y 1).isLt
  have hj := cond2_le i h2
  rw [← rows_join (fun lo hi => dqAdd (at2 x2) (at2 x3) (at2 x4) (at2 x5) (at2 x6) (at2 x7) (384 * (i 1).val) lo hi (y 0).val (y 1).val) (fun h h' => dqAdd_add _ _ _ _ _ _  h h' _ _ _)
    (fun lo => dqAdd_self _ _ _ _ _ _  _ _ _ _) (by have := cond2_le i h2; omega) (trips1 i) (trips3 i h2)]
  rw [end3_dq, end1_dq]
  simp only [← add_assoc]
  refine congrArg₂ (· + ·) (congrArg₂ (· + ·) ?_ rfl) rfl
  rw [at2_idx (arg8.view.read (Elt Ideal) _), at2_write _ _ (off4_eq i)]
  simp only [View.writes_cons]
  rw [at2_write _ _ (off2_eq i)]
  split
  next hm =>
    obtain ⟨r, hr⟩ : ∃ r : Fin 768, 384 * (i 1).val + r.val = (y 0).val := ⟨⟨(y 0).val - (384 * (i 1).val), by omega⟩, by simp only []; omega⟩
    obtain ⟨l, hl⟩ : ∃ l : Fin 128, 128 + l.val = (y 1).val := ⟨⟨(y 1).val - 128, by omega⟩, by simp only []; omega⟩
    rw [show (y 0).val - (384 * (i 1).val) = r.val by omega, show (y 1).val - 128 = l.val by omega, ← at2_ix2]
    pointwise [runB.sl.H10_1, runB.sl.H9_1, runB.sl.H9_2, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v104, runB.sl.v110, runB.sl.v118, runB.sl.v122, runB.sl.v123, runB.sl.v124, runB.sl.v125, runB.sl.v127, runB.sl.v128, runB.sl.v129, runB.sl.v130, runB.sl.v131, runB.sl.v132, runB.sl.v133, runB.sl.v67, k1_pay2, k1_pay3, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101]
    simp only [View.readCov, readAt_f32, readAt_bf16, off1_eq, off2_eq, off3_eq, off4_eq, off5_eq, harg2.read_unread, harg3.read_unread, harg4.read_unread, harg5.read_unread,
      harg6.read_unread, harg7.read_unread, ix2_0, ix2_1, sel_left, sel_right, sel_le (m := 384) (n := 768) (by decide) (by decide), Matrix.cons_val_zero, Matrix.cons_val_one, Nat.zero_add]
    rw [at2_idx (arg8.view.read (Elt Ideal) f8)]
    rw [← hr, dqAdd_mask _ _ _ _ _ _ (by have := r.isLt; omega), show (y 1).val / 128 = 1 by omega, ← hl]
    simp only [dscore, prob, dprob, score, Nat.mul_one, Nat.mul_zero, Nat.zero_add, Fin.val_zero, Nat.add_zero]
    rfl
  next hm =>
  simp only [View.writes_cons, View.writes_nil]
  split
  next hm2 =>
    obtain ⟨r, hr⟩ : ∃ r : Fin 768, 384 * (i 1).val + r.val = (y 0).val := ⟨⟨(y 0).val - (384 * (i 1).val), by omega⟩, by simp only []; omega⟩
    obtain ⟨l, hl⟩ : ∃ l : Fin 128, 0 + l.val = (y 1).val := ⟨⟨(y 1).val - 0, by omega⟩, by simp only []; omega⟩
    rw [show (y 0).val - (384 * (i 1).val) = r.val by omega, show (y 1).val - 0 = l.val by omega, ← at2_ix2]
    pointwise [runB.sl.H10_1, runB.sl.H9_1, runB.sl.H9_2, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v104, runB.sl.v110, runB.sl.v118, runB.sl.v122, runB.sl.v123, runB.sl.v124, runB.sl.v125, runB.sl.v127, runB.sl.v128, runB.sl.v129, runB.sl.v130, runB.sl.v131, runB.sl.v132, runB.sl.v133, runB.sl.v67, k1_pay2, k1_pay3, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101]
    simp only [View.readCov, readAt_f32, readAt_bf16, off1_eq, off2_eq, off3_eq, off4_eq, off5_eq, harg2.read_unread, harg3.read_unread, harg4.read_unread, harg5.read_unread,
      harg6.read_unread, harg7.read_unread, ix2_0, ix2_1, sel_left, sel_right, sel_le (m := 384) (n := 768) (by decide) (by decide), Matrix.cons_val_zero, Matrix.cons_val_one, Nat.zero_add]
    rw [at2_idx (arg8.view.read (Elt Ideal) f8)]
    rw [← hr, dqAdd_mask _ _ _ _ _ _ (by have := r.isLt; omega), show (y 1).val / 128 = 0 by omega, ← hl]
    simp only [dscore, prob, dprob, score, Nat.mul_one, Nat.mul_zero, Nat.zero_add, Fin.val_zero, Nat.add_zero]
    rfl
  next hm2 =>
    rw [at2_idx (arg8.view.read (Elt Ideal) f8)]
    unfold dqAdd
    rw [if_neg (by omega), add_zero]

theorem runB_dk (h1 : ¬ k1_cond1 i = 1#1) (h3 : ¬ k1_cond3 i = 1#1) (h4 : ¬ k1_cond4 i = 1#1) (y : S384x256.Idx) :
    arg9.view.read (Elt Ideal) ((runB (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h1 h2 h3 h4).2.1 f8) y = dkAdd (at2 x2) (at2 x3) (at2 x4) (at2 x5) (at2 x6) (at2 x7) (384 * (i 1).val) (384 * (i 1).val) 4224 (y 0).val (y 1).val * lnTwo := by
  unfold runB
  dsimp only
  have y0 : (y 0).val < 384 := (y 0).isLt
  have y1 : (y 1).val < 256 := (y 1).isLt
  have hj := cond2_le i h2
  rw [← rows_join (fun lo hi => dkAdd (at2 x2) (at2 x3) (at2 x4) (at2 x5) (at2 x6) (at2 x7) (384 * (i 1).val) lo hi (y 0).val (y 1).val) (fun h h' => dkAdd_add _ _ _ _ _ _  h h' _ _ _)
    (fun lo => dkAdd_self _ _ _ _ _ _  _ _ _ _) (by have := cond2_le i h2; omega) (trips1 i) (trips3 i h2)]
  rw [at2_idx (arg9.view.read (Elt Ideal) _)]
  simp only [View.writes_cons, View.writes_nil]
  rw [at2_write _ _ rfl, if_pos (by omega)]
  obtain ⟨r, hr⟩ : ∃ r : Fin 384, 0 + r.val = (y 0).val := ⟨⟨(y 0).val - (0), by omega⟩, by simp only []; omega⟩
  obtain ⟨l, hl⟩ : ∃ l : Fin 256, 0 + l.val = (y 1).val := ⟨⟨(y 1).val - 0, by omega⟩, by simp only []; omega⟩
  rw [show (y 0).val - (0) = r.val by omega, show (y 1).val - 0 = l.val by omega, ← at2_ix2]
  pointwise [k1_pay11, runB.sl.v13]
  simp only [View.readCov, readAt_f32, ix2_0, ix2_1, Matrix.cons_val_zero, Matrix.cons_val_one, hr, hl]
  refine congrArg (· * lnTwo) ?_
  rw [← at2_idx (arg9.view.read (Elt Ideal) _), end3_dk, end1_dk]
  refine congrArg₂ (· + ·) (congrArg₂ (· + ·) ?_ rfl) rfl
  rw [at2_idx (arg9.view.read (Elt Ideal) _), at2_write _ _ rfl]
  unfold runB.sl.H9_2
  simp only [View.writes_cons]
  rw [at2_write _ _ rfl]
  clear hr hl r l
  split
  next hm =>
    obtain ⟨r, hr⟩ : ∃ r : Fin 384, 0 + r.val = (y 0).val := ⟨⟨(y 0).val - (0), by omega⟩, by simp only []; omega⟩
    obtain ⟨l, hl⟩ : ∃ l : Fin 128, 128 + l.val = (y 1).val := ⟨⟨(y 1).val - 128, by omega⟩, by simp only []; omega⟩
    rw [show (y 0).val - (0) = r.val by omega, show (y 1).val - 128 = l.val by omega, ← at2_ix2]
    pointwise [runB.sl.H10_1, runB.sl.H9_1, runB.sl.H9_2, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v104, runB.sl.v110, runB.sl.v118, runB.sl.v122, runB.sl.v123, runB.sl.v124, runB.sl.v125, runB.sl.v127, runB.sl.v128, runB.sl.v129, runB.sl.v130, runB.sl.v131, runB.sl.v132, runB.sl.v133, runB.sl.v67, k1_pay2, k1_pay3, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101]
    simp only [View.readCov, readAt_f32, readAt_bf16, off1_eq, off2_eq, off3_eq, off4_eq, off5_eq, harg2.read_unread, harg3.read_unread, harg4.read_unread, harg5.read_unread,
      harg6.read_unread, harg7.read_unread, ix2_0, ix2_1, sel_left, sel_right, sel_le (m := 384) (n := 768) (by decide) (by decide), Matrix.cons_val_zero, Matrix.cons_val_one, Nat.zero_add]
    simp only [View.writes_cons, View.writes_nil]
    rw [at2_write _ _ rfl, if_neg (by omega), at2_write _ _ rfl, if_pos (by omega), at2_zero (broadcast _ _) (fun _ => rfl), zero_add]
    rw [dkAdd_mask _ _ _ _ _ _ 768 rfl, show (y 1).val / 128 = 1 by omega, ← hl, ← hr]
    simp only [dscore, prob, dprob, score, Nat.mul_one, Nat.mul_zero, Nat.zero_add, Fin.val_zero, Nat.add_zero]
    rfl
  next hm =>
  split
  next hm2 =>
    obtain ⟨r, hr⟩ : ∃ r : Fin 384, 0 + r.val = (y 0).val := ⟨⟨(y 0).val - (0), by omega⟩, by simp only []; omega⟩
    obtain ⟨l, hl⟩ : ∃ l : Fin 128, 0 + l.val = (y 1).val := ⟨⟨(y 1).val - 0, by omega⟩, by simp only []; omega⟩
    rw [show (y 0).val - (0) = r.val by omega, show (y 1).val - 0 = l.val by omega, ← at2_ix2]
    pointwise [runB.sl.H10_1, runB.sl.H9_1, runB.sl.H9_2, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v104, runB.sl.v110, runB.sl.v118, runB.sl.v122, runB.sl.v123, runB.sl.v124, runB.sl.v125, runB.sl.v127, runB.sl.v128, runB.sl.v129, runB.sl.v130, runB.sl.v131, runB.sl.v132, runB.sl.v133, runB.sl.v67, k1_pay2, k1_pay3, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101]
    simp only [View.readCov, readAt_f32, readAt_bf16, off1_eq, off2_eq, off3_eq, off4_eq, off5_eq, harg2.read_unread, harg3.read_unread, harg4.read_unread, harg5.read_unread,
      harg6.read_unread, harg7.read_unread, ix2_0, ix2_1, sel_left, sel_right, sel_le (m := 384) (n := 768) (by decide) (by decide), Matrix.cons_val_zero, Matrix.cons_val_one, Nat.zero_add]
    simp only [View.writes_cons, View.writes_nil]
    rw [at2_write _ _ rfl, if_pos (by omega), at2_zero (broadcast _ _) (fun _ => rfl), zero_add]
    rw [dkAdd_mask _ _ _ _ _ _ 768 rfl, show (y 1).val / 128 = 0 by omega, ← hl, ← hr]
    simp only [dscore, prob, dprob, score, Nat.mul_one, Nat.mul_zero, Nat.zero_add, Fin.val_zero, Nat.add_zero]
    rfl
  next hm2 => omega

theorem runB_dv (h1 : ¬ k1_cond1 i = 1#1) (h3 : ¬ k1_cond3 i = 1#1) (h4 : ¬ k1_cond4 i = 1#1) (y : S384x128.Idx) :
    arg10.view.read (Elt Ideal) ((runB (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h1 h2 h3 h4).2.2.1 f8) y = dvAdd (at2 x2) (at2 x3) (at2 x5) (at2 x6) (384 * (i 1).val) (384 * (i 1).val) 4224 (y 0).val (y 1).val := by
  unfold runB
  dsimp only
  have y0 : (y 0).val < 384 := (y 0).isLt
  have y1 : (y 1).val < 128 := (y 1).isLt
  have hj := cond2_le i h2
  rw [← rows_join (fun lo hi => dvAdd (at2 x2) (at2 x3) (at2 x5) (at2 x6) (384 * (i 1).val) lo hi (y 0).val (y 1).val) (fun h h' => dvAdd_add _ _ _ _  h h' _ _ _)
    (fun lo => dvAdd_self _ _ _ _  _ _ _ _) (by have := cond2_le i h2; omega) (trips1 i) (trips3 i h2)]
  rw [end3_dv, end1_dv]
  refine congrArg₂ (· + ·) (congrArg₂ (· + ·) ?_ rfl) rfl
  rw [at2_idx (arg10.view.read (Elt Ideal) _), at2_write _ _ rfl, if_pos (by omega)]
  obtain ⟨r, hr⟩ : ∃ r : Fin 384, 0 + r.val = (y 0).val := ⟨⟨(y 0).val - (0), by omega⟩, by simp only []; omega⟩
  obtain ⟨l, hl⟩ : ∃ l : Fin 128, 0 + l.val = (y 1).val := ⟨⟨(y 1).val - 0, by omega⟩, by simp only []; omega⟩
  rw [show (y 0).val - (0) = r.val by omega, show (y 1).val - 0 = l.val by omega, ← at2_ix2]
  pointwise [runB.sl.H10_1, runB.sl.H9_1, runB.sl.H9_2, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v104, runB.sl.v110, runB.sl.v118, runB.sl.v122, runB.sl.v123, runB.sl.v124, runB.sl.v125, runB.sl.v127, runB.sl.v128, runB.sl.v129, runB.sl.v130, runB.sl.v131, runB.sl.v132, runB.sl.v133, runB.sl.v67, k1_pay2, k1_pay3, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101]
  simp only [View.readCov, readAt_f32, readAt_bf16, off1_eq, off2_eq, off3_eq, off4_eq, off5_eq, harg2.read_unread, harg3.read_unread, harg4.read_unread, harg5.read_unread,
    harg6.read_unread, harg7.read_unread, ix2_0, ix2_1, sel_left, sel_right, sel_le (m := 384) (n := 768) (by decide) (by decide), Matrix.cons_val_zero, Matrix.cons_val_one, Nat.zero_add]
  simp only [View.writes_cons, View.writes_nil]
  rw [at2_write _ _ rfl, if_pos (by omega), at2_zero (broadcast _ _) (fun _ => rfl), zero_add, dvAdd_mask _ _ _ _ 768 rfl]
  have hh : l.val / 64 = 0 ∨ l.val / 64 = 1 := by omega
  rcases hh with hh | hh <;>
    simp only [hh, ← hr, ← hl, if_pos, reduceIte, ite_self, Nat.one_ne_zero, Nat.zero_ne_one, Finset.sum_const_zero, add_zero, zero_add, prob, score, Nat.mul_one, Nat.mul_zero, Nat.zero_add, Fin.val_zero, Nat.add_zero] <;> rfl

end

end Cert.AttnBwd

end
-- ==== Proof.BwdLast.lean ====
/- What the grid step of the last key block (j = 10) leaves in the three gradient buffers. -/
module
public import proofs.«01_k».proof.Proof.BwdSums
public import proofs.«01_k».proof.Proof.BwdRun
public import Idealize.ShloMosaic.Lib.Pipeline.ValueKit
public import Idealize.ShloMosaic.Lib.Pointwise
public import Idealize.ShloMosaic.Lib.Claim
public import Idealize.ShloMosaic.Lib.WritesUnit
public import Idealize.ShloMosaic.Lib.Pipeline.FrameBody
public import Idealize.ShloMosaic.Lib.WholeRead
public import proofs.«01_k».proof.Proof.AttnTerms
@[expose] public section
set_option maxRecDepth 16384
noncomputable section
namespace Cert.AttnBwd
open Cert.AttnTerms Cert.AttnIdeal Cert.AttnIdeal.Gen
open Idealize.ShloMosaic Idealize.ShloMosaic.TcCoe Idealize.SL.Sem Idealize.ShloMosaic.Pipeline
section
variable (arg2 : Memref sig .tc .vmem S4224x256 .bf16) (harg2 : arg2.IsWhole) (arg3 : Memref sig .tc .vmem S384x256 .bf16) (harg3 : arg3.IsWhole)
  (arg4 : Memref sig .tc .vmem S384x128 .bf16) (harg4 : arg4.IsWhole) (arg5 : Memref sig .tc .vmem S4224x128 .f32) (harg5 : arg5.IsWhole)
  (arg6 : Memref sig .tc .vmem S4224x128 .f32) (harg6 : arg6.IsWhole) (arg7 : Memref sig .tc .vmem S4224x128 .f32) (harg7 : arg7.IsWhole)
  (arg8 : Memref sig .tc .vmem S4224x256 .f32) (harg8 : arg8.IsWhole) (arg9 : Memref sig .tc .vmem S384x256 .f32) (harg9 : arg9.IsWhole)
  (arg10 : Memref sig .tc .vmem S384x128 .f32) (harg10 : arg10.IsWhole)
variable (x2 : Vec Ideal S4224x256 .bf16) (x3 : Vec Ideal S384x256 .bf16) (x4 : Vec Ideal S384x128 .bf16)
  (x5 : Vec Ideal S4224x128 .f32) (x6 : Vec Ideal S4224x128 .f32) (x7 : Vec Ideal S4224x128 .f32)
variable (c : Dev nD) (i : grid1.Coords) (h2 : k1_cond2 i = 1#1)
  (f8 : BufTy.Contents (Elt Ideal) arg8.view.ty) (f9 : BufTy.Contents (Elt Ideal) arg9.view.ty) (f10 : BufTy.Contents (Elt Ideal) arg10.view.ty)

theorem runC_dq (h1 : ¬ k1_cond1 i = 1#1) (h2 : ¬ k1_cond2 i = 1#1) (h3 : k1_cond3 i = 1#1) (h4 : k1_cond4 i = 1#1) (g8 : BufTy.Contents (Elt Ideal) arg8.view.ty) (y : S4224x256.Idx) :
    arg8.view.read (Elt Ideal) (arg8.view.writes (Elt Ideal) g8 ((runC (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h1 h2 h3 h4).1 f8)) y
      = (arg8.view.read (Elt Ideal) f8 y + dqAdd (at2 x2) (at2 x3) (at2 x4) (at2 x5) (at2 x6) (at2 x7) (384 * (i 1).val) (384 * (i 1).val) 4224 (y 0).val (y 1).val) * lnTwo := by
  unfold runC
  dsimp only
  have y0 : (y 0).val < 4224 := (y 0).isLt
  have y1 : (y 1).val < 256 := (y 1).isLt
  have hj := cond3_eq i h3
  have hb : 384 * (i 1).val + 384 = 4224 := by omega
  rw [at2_idx (arg8.view.read (Elt Ideal) _)]
  simp only [View.writes_cons]
  rw [at2_write _ _ rfl, if_pos (by omega)]
  obtain ⟨r, hr⟩ : ∃ r : Fin 4224, 0 + r.val = (y 0).val := ⟨⟨(y 0).val - (0), by omega⟩, by simp only []; omega⟩
  obtain ⟨l, hl⟩ : ∃ l : Fin 256, 0 + l.val = (y 1).val := ⟨⟨(y 1).val - 0, by omega⟩, by simp only []; omega⟩
  rw [show (y 0).val - (0) = r.val by omega, show (y 1).val - 0 = l.val by omega, ← at2_ix2]
  pointwise [k1_pay12]
  simp only [View.readCov, readAt_f32, ix2_0, ix2_1, Matrix.cons_val_zero, Matrix.cons_val_one, hr, hl]
  refine congrArg (· * lnTwo) ?_
  unfold runC.sl.H8_2
  simp only [View.writes_cons]
  rw [at2_write _ _ (off29_eq i), at2_write _ _ (off27_eq i)]
  clear hr hl r l
  split
  next hm =>
    obtain ⟨r, hr⟩ : ∃ r : Fin 384, 384 * (i 1).val + r.val = (y 0).val := ⟨⟨(y 0).val - (384 * (i 1).val), by omega⟩, by simp only []; omega⟩
    obtain ⟨l, hl⟩ : ∃ l : Fin 128, 128 + l.val = (y 1).val := ⟨⟨(y 1).val - 128, by omega⟩, by simp only []; omega⟩
    rw [show (y 0).val - (384 * (i 1).val) = r.val by omega, show (y 1).val - 128 = l.val by omega, ← at2_ix2]
    pointwise [runC.sl.H10_1, runC.sl.H8_2, runC.sl.H9_1, runC.sl.H9_2, runC.sl.H9_3, runC.sl.r, runC.sl.r_1, runC.sl.r_10, runC.sl.r_11, runC.sl.r_12, runC.sl.r_13, runC.sl.r_2, runC.sl.r_3, runC.sl.r_4, runC.sl.r_5, runC.sl.r_6, runC.sl.r_7, runC.sl.r_8, runC.sl.r_9, runC.sl.v105, runC.sl.v111, runC.sl.v119, runC.sl.v13, runC.sl.v21, runC.sl.v22, runC.sl.v23, runC.sl.v68, k1_pay2, k1_pay3, k1_pay8, k1_pay9, k1_pay10, k1_pay106, k1_pay107, k1_pay108, k1_pay109, k1_pay110, k1_pay111, k1_pay112, k1_pay113, k1_pay114, k1_pay115, k1_pay116, k1_pay117, k1_pay118, k1_pay119, k1_pay120, k1_pay121, k1_pay122]
    simp only [View.readCov, readAt_f32, readAt_bf16, off26_eq, off27_eq, off28_eq, off29_eq, off30_eq, harg2.read_unread, harg3.read_unread, harg4.read_unread, harg5.read_unread,
      harg6.read_unread, harg7.read_unread, ix2_0, ix2_1, sel_left, sel_right, sel_le (m := 384) (n := 384) (by decide) (by decide), Matrix.cons_val_zero, Matrix.cons_val_one, Nat.zero_add]
    rw [at2_idx (arg8.view.read (Elt Ideal) f8), ← hr, dqAdd_mask _ _ _ _ _ _ (by have := r.isLt; omega), show (y 1).val / 128 = 1 by omega, ← hl]
    simp only [dscore, prob, dprob, score, Nat.mul_one, Nat.mul_zero, Nat.zero_add, Fin.val_zero, Nat.add_zero]
    rfl
  next hm =>
  simp only [View.writes_nil]
  split
  next hm2 =>
    obtain ⟨r, hr⟩ : ∃ r : Fin 384, 384 * (i 1).val + r.val = (y 0).val := ⟨⟨(y 0).val - (384 * (i 1).val), by omega⟩, by simp only []; omega⟩
    obtain ⟨l, hl⟩ : ∃ l : Fin 128, 0 + l.val = (y 1).val := ⟨⟨(y 1).val - 0, by omega⟩, by simp only []; omega⟩
    rw [show (y 0).val - (384 * (i 1).val) = r.val by omega, show (y 1).val - 0 = l.val by omega, ← at2_ix2]
    pointwise [runC.sl.H10_1, runC.sl.H8_2, runC.sl.H9_1, runC.sl.H9_2, runC.sl.H9_3, runC.sl.r, runC.sl.r_1, runC.sl.r_10, runC.sl.r_11, runC.sl.r_12, runC.sl.r_13, runC.sl.r_2, runC.sl.r_3, runC.sl.r_4, runC.sl.r_5, runC.sl.r_6, runC.sl.r_7, runC.sl.r_8, runC.sl.r_9, runC.sl.v105, runC.sl.v111, runC.sl.v119, runC.sl.v13, runC.sl.v21, runC.sl.v22, runC.sl.v23, runC.sl.v68, k1_pay2, k1_pay3, k1_pay8, k1_pay9, k1_pay10, k1_pay106, k1_pay107, k1_pay108, k1_pay109, k1_pay110, k1_pay111, k1_pay112, k1_pay113, k1_pay114, k1_pay115, k1_pay116, k1_pay117, k1_pay118, k1_pay119, k1_pay120, k1_pay121, k1_pay122]
    simp only [View.readCov, readAt_f32, readAt_bf16, off26_eq, off27_eq, off28_eq, off29_eq, off30_eq, harg2.read_unread, harg3.read_unread, harg4.read_unread, harg5.read_unread,
      harg6.read_unread, harg7.read_unread, ix2_0, ix2_1, sel_left, sel_right, sel_le (m := 384) (n := 384) (by decide) (by decide), Matrix.cons_val_zero, Matrix.cons_val_one, Nat.zero_add]
    rw [at2_idx (arg8.view.read (Elt Ideal) f8), ← hr, dqAdd_mask _ _ _ _ _ _ (by have := r.isLt; omega), show (y 1).val / 128 = 0 by omega, ← hl]
    simp only [dscore, prob, dprob, score, Nat.mul_one, Nat.mul_zero, Nat.zero_add, Fin.val_zero, Nat.add_zero]
    rfl
  next hm2 =>
    rw [at2_idx (arg8.view.read (Elt Ideal) f8)]
    unfold dqAdd
    rw [if_neg (by omega), add_zero]

theorem runC_dk (h1 : ¬ k1_cond1 i = 1#1) (h2 : ¬ k1_cond2 i = 1#1) (h3 : k1_cond3 i = 1#1) (h4 : k1_cond4 i = 1#1) (g9 : BufTy.Contents (Elt Ideal) arg9.view.ty) (y : S384x256.Idx) :
    arg9.view.read (Elt Ideal) (arg9.view.writes (Elt Ideal) g9 ((runC (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h1 h2 h3 h4).2.1 f8)) y
      = dkAdd (at2 x2) (at2 x3) (at2 x4) (at2 x5) (at2 x6) (at2 x7) (384 * (i 1).val) (384 * (i 1).val) 4224 (y 0).val (y 1).val * lnTwo := by
  unfold runC
  dsimp only
  have y0 : (y 0).val < 384 := (y 0).isLt
  have y1 : (y 1).val < 256 := (y 1).isLt
  have hj := cond3_eq i h3
  have hb : 384 * (i 1).val + 384 = 4224 := by omega
  rw [at2_idx (arg9.view.read (Elt Ideal) _)]
  simp only [View.writes_cons]
  rw [at2_write _ _ rfl, if_pos (by omega)]
  obtain ⟨r, hr⟩ : ∃ r : Fin 384, 0 + r.val = (y 0).val := ⟨⟨(y 0).val - (0), by omega⟩, by simp only []; omega⟩
  obtain ⟨l, hl⟩ : ∃ l : Fin 256, 0 + l.val = (y 1).val := ⟨⟨(y 1).val - 0, by omega⟩, by simp only []; omega⟩
  rw [show (y 0).val - (0) = r.val by omega, show (y 1).val - 0 = l.val by omega, ← at2_ix2]
  pointwise [k1_pay11, runC.sl.v13]
  simp only [View.readCov, readAt_f32, ix2_0, ix2_1, Matrix.cons_val_zero, Matrix.cons_val_one, hr, hl]
  refine congrArg (· * lnTwo) ?_
  unfold runC.sl.H9_3 runC.sl.H9_2
  simp only [View.writes_cons]
  rw [at2_write _ _ rfl, at2_write _ _ rfl]
  clear hr hl r l
  split
  next hm =>
    obtain ⟨r, hr⟩ : ∃ r : Fin 384, 0 + r.val = (y 0).val := ⟨⟨(y 0).val - (0), by omega⟩, by simp only []; omega⟩
    obtain ⟨l, hl⟩ : ∃ l : Fin 128, 128 + l.val = (y 1).val := ⟨⟨(y 1).val - 128, by omega⟩, by simp only []; omega⟩
    rw [show (y 0).val - (0) = r.val by omega, show (y 1).val - 128 = l.val by omega, ← at2_ix2]
    pointwise [runC.sl.H10_1, runC.sl.H8_2, runC.sl.H9_1, runC.sl.H9_2, runC.sl.H9_3, runC.sl.r, runC.sl.r_1, runC.sl.r_10, runC.sl.r_11, runC.sl.r_12, runC.sl.r_13, runC.sl.r_2, runC.sl.r_3, runC.sl.r_4, runC.sl.r_5, runC.sl.r_6, runC.sl.r_7, runC.sl.r_8, runC.sl.r_9, runC.sl.v105, runC.sl.v111, runC.sl.v119, runC.sl.v13, runC.sl.v21, runC.sl.v22, runC.sl.v23, runC.sl.v68, k1_pay2, k1_pay3, k1_pay8, k1_pay9, k1_pay10, k1_pay106, k1_pay107, k1_pay108, k1_pay109, k1_pay110, k1_pay111, k1_pay112, k1_pay113, k1_pay114, k1_pay115, k1_pay116, k1_pay117, k1_pay118, k1_pay119, k1_pay120, k1_pay121, k1_pay122]
    simp only [View.readCov, readAt_f32, readAt_bf16, off26_eq, off27_eq, off28_eq, off29_eq, off30_eq, harg2.read_unread, harg3.read_unread, harg4.read_unread, harg5.read_unread,
      harg6.read_unread, harg7.read_unread, ix2_0, ix2_1, sel_left, sel_right, sel_le (m := 384) (n := 384) (by decide) (by decide), Matrix.cons_val_zero, Matrix.cons_val_one, Nat.zero_add]
    simp only [View.writes_cons, View.writes_nil]
    rw [at2_write _ _ rfl, if_neg (by omega), at2_write _ _ rfl, if_pos (by omega), at2_zero (broadcast _ _) (fun _ => rfl), zero_add, dkAdd_mask _ _ _ _ _ _ 384 hb, show (y 1).val / 128 = 1 by omega, ← hl, ← hr]
    simp only [dscore, prob, dprob, score, Nat.mul_one, Nat.mul_zero, Nat.zero_add, Fin.val_zero, Nat.add_zero]
    rfl
  next hm =>
  split
  next hm2 =>
    obtain ⟨r, hr⟩ : ∃ r : Fin 384, 0 + r.val = (y 0).val := ⟨⟨(y 0).val - (0), by omega⟩, by simp only []; omega⟩
    obtain ⟨l, hl⟩ : ∃ l : Fin 128, 0 + l.val = (y 1).val := ⟨⟨(y 1).val - 0, by omega⟩, by simp only []; omega⟩
    rw [show (y 0).val - (0) = r.val by omega, show (y 1).val - 0 = l.val by omega, ← at2_ix2]
    pointwise [runC.sl.H10_1, runC.sl.H8_2, runC.sl.H9_1, runC.sl.H9_2, runC.sl.H9_3, runC.sl.r, runC.sl.r_1, runC.sl.r_10, runC.sl.r_11, runC.sl.r_12, runC.sl.r_13, runC.sl.r_2, runC.sl.r_3, runC.sl.r_4, runC.sl.r_5, runC.sl.r_6, runC.sl.r_7, runC.sl.r_8, runC.sl.r_9, runC.sl.v105, runC.sl.v111, runC.sl.v119, runC.sl.v13, runC.sl.v21, runC.sl.v22, runC.sl.v23, runC.sl.v68, k1_pay2, k1_pay3, k1_pay8, k1_pay9, k1_pay10, k1_pay106, k1_pay107, k1_pay108, k1_pay109, k1_pay110, k1_pay111, k1_pay112, k1_pay113, k1_pay114, k1_pay115, k1_pay116, k1_pay117, k1_pay118, k1_pay119, k1_pay120, k1_pay121, k1_pay122]
    simp only [View.readCov, readAt_f32, readAt_bf16, off26_eq, off27_eq, off28_eq, off29_eq, off30_eq, harg2.read_unread, harg3.read_unread, harg4.read_unread, harg5.read_unread,
      harg6.read_unread, harg7.read_unread, ix2_0, ix2_1, sel_left, sel_right, sel_le (m := 384) (n := 384) (by decide) (by decide), Matrix.cons_val_zero, Matrix.cons_val_one, Nat.zero_add]
    simp only [View.writes_cons, View.writes_nil]
    rw [at2_write _ _ rfl, if_pos (by omega), at2_zero (broadcast _ _) (fun _ => rfl), zero_add, dkAdd_mask _ _ _ _ _ _ 384 hb, show (y 1).val / 128 = 0 by omega, ← hl, ← hr]
    simp only [dscore, prob, dprob, score, Nat.mul_one, Nat.mul_zero, Nat.zero_add, Fin.val_zero, Nat.add_zero]
    rfl
  next hm2 => omega

theorem runC_dv (h1 : ¬ k1_cond1 i = 1#1) (h2 : ¬ k1_cond2 i = 1#1) (h3 : k1_cond3 i = 1#1) (h4 : k1_cond4 i = 1#1) (g10 : BufTy.Contents (Elt Ideal) arg10.view.ty) (y : S384x128.Idx) :
    arg10.view.read (Elt Ideal) (arg10.view.writes (Elt Ideal) g10 ((runC (F := Ideal) arg2 harg2 arg3 harg3 arg4 harg4 arg5 harg5 arg6 harg6 arg7 harg7 arg8 harg8 arg9 harg9 arg10 harg10 (harg2.unread x2) (harg3.unread x3) (harg4.unread x4) (harg5.unread x5) (harg6.unread x6) (harg7.unread x7) c i h1 h2 h3 h4).2.2.1 f8)) y
      = dvAdd (at2 x2) (at2 x3) (at2 x5) (at2 x6) (384 * (i 1).val) (384 * (i 1).val) 4224 (y 0).val (y 1).val := by
  unfold runC
  dsimp only
  have y0 : (y 0).val < 384 := (y 0).isLt
  have y1 : (y 1).val < 128 := (y 1).isLt
  have hj := cond3_eq i h3
  have hb : 384 * (i 1).val + 384 = 4224 := by omega
  rw [at2_idx (arg10.view.read (Elt Ideal) _)]
  simp only [View.writes_cons]
  rw [at2_write _ _ rfl, if_pos (by omega)]
  obtain ⟨r, hr⟩ : ∃ r : Fin 384, 0 + r.val = (y 0).val := ⟨⟨(y 0).val - (0), by omega⟩, by simp only []; omega⟩
  obtain ⟨l, hl⟩ : ∃ l : Fin 128, 0 + l.val = (y 1).val := ⟨⟨(y 1).val - 0, by omega⟩, by simp only []; omega⟩
  rw [show (y 0).val - (0) = r.val by omega, show (y 1).val - 0 = l.val by omega, ← at2_ix2]
  pointwise [runC.sl.H10_1, runC.sl.H8_2, runC.sl.H9_1, runC.sl.H9_2, runC.sl.H9_3, runC.sl.r, runC.sl.r_1, runC.sl.r_10, runC.sl.r_11, runC.sl.r_12, runC.sl.r_13, runC.sl.r_2, runC.sl.r_3, runC.sl.r_4, runC.sl.r_5, runC.sl.r_6, runC.sl.r_7, runC.sl.r_8, runC.sl.r_9, runC.sl.v105, runC.sl.v111, runC.sl.v119, runC.sl.v13, runC.sl.v21, runC.sl.v22, runC.sl.v23, runC.sl.v68, k1_pay2, k1_pay3, k1_pay8, k1_pay9, k1_pay10, k1_pay106, k1_pay107, k1_pay108, k1_pay109, k1_pay110, k1_pay111, k1_pay112, k1_pay113, k1_pay114, k1_pay115, k1_pay116, k1_pay117, k1_pay118, k1_pay119, k1_pay120, k1_pay121, k1_pay122]
  simp only [View.readCov, readAt_f32, readAt_bf16, off26_eq, off27_eq, off28_eq, off29_eq, off30_eq, harg2.read_unread, harg3.read_unread, harg4.read_unread, harg5.read_unread,
    harg6.read_unread, harg7.read_unread, ix2_0, ix2_1, sel_left, sel_right, sel_le (m := 384) (n := 384) (by decide) (by decide), Matrix.cons_val_zero, Matrix.cons_val_one, Nat.zero_add]
  simp only [View.writes_cons, View.writes_nil]
  rw [at2_write _ _ rfl, if_pos (by omega), at2_zero (broadcast _ _) (fun _ => rfl), zero_add, dvAdd_mask _ _ _ _ 384 hb]
  have hh : l.val / 64 = 0 ∨ l.val / 64 = 1 := by omega
  rcases hh with hh | hh <;>
    simp only [hh, ← hr, ← hl, if_pos, reduceIte, ite_self, Nat.one_ne_zero, Nat.zero_ne_one, Finset.sum_const_zero, add_zero, zero_add, prob, score, Nat.mul_one, Nat.mul_zero, Nat.zero_add, Fin.val_zero, Nat.add_zero] <;> rfl

end

end Cert.AttnBwd

end
-- ==== Proof.BwdArrays.lean ====
/- What the backward attention's call leaves in its three gradient arrays, entry by entry, as a function of the arrays it
   finds. -/
module

public import proofs.«01_k».proof.Proof.BwdCut
public import proofs.«01_k».proof.Proof.BwdFirst
public import proofs.«01_k».proof.Proof.BwdMiddle
public import proofs.«01_k».proof.Proof.BwdLast
public import proofs.«01_k».proof.Proof.BwdOuts
public import Idealize.ShloMosaic.Lib.Pipeline.ValueKit
public import Idealize.ShloMosaic.Lib.Pointwise
public import Idealize.ShloMosaic.Lib.Claim

@[expose] public section

set_option maxRecDepth 16384

noncomputable section

namespace Cert.AttnBwd

open Cert.AttnTerms Cert.AttnIdeal Cert.AttnIdeal.Gen
open Idealize.ShloMosaic Idealize.ShloMosaic.TcCoe Idealize.SL.Sem Idealize.ShloMosaic.Pipeline

variable (V : (c : Dev nD) → (b : Ref sig .tc) → Buf (Elt Ideal) ((c : Thread nD τ).loc b)) (c : Dev nD)

theorem idx1 : ∀ t : Fin cfg1.N, win1_0.index t = ![0, t.val / 11] ∧ win1_1.index t = ![t.val % 11, t.val / 11]
    ∧ win1_2.index t = ![t.val % 11, t.val / 11] ∧ win1_3.index t = ![0, t.val / 11] ∧ win1_4.index t = ![0, t.val / 11]
    ∧ win1_5.index t = ![0, t.val / 11] ∧ win1_6.index t = ![0, t.val / 11] ∧ win1_7.index t = ![t.val % 11, t.val / 11]
    ∧ win1_8.index t = ![t.val % 11, t.val / 11] ∧ t.val / 11 < 4 ∧ ((grid1.coords t) 1).val = t.val % 11 :=
  (by decide +kernel : ∀ t : Fin grid1.N, _)

theorem at2_blk {a b : ℕ} (x : (⟨2, ![a, b]⟩ : Shape).Idx → EReal) {m n : ℕ} (X : (⟨2, ![m, n]⟩ : Shape).Idx → EReal) (o p : ℕ)
    (h : ∀ y, ∃ z, x y = X z ∧ (z 0).val = o + (y 0).val ∧ (z 1).val = p + (y 1).val) (r l : ℕ) (hr : r < a) (hl : l < b) :
    at2 x r l = at2 X (o + r) (p + l) := by
  obtain ⟨z, hz, h0, h1⟩ := h (ix2 ⟨r, hr⟩ ⟨l, hl⟩)
  refine ((at2_ix2 x ⟨r, hr⟩ ⟨l, hl⟩).symm.trans hz).trans ?_
  rw [at2_idx X z, h0, h1]; rfl

/-- The blocks a point finds are cut from the arrays. -/
theorem cut (t : Fin cfg1.N) :
    Cut (at2 (blkIn V c 0 t)) (at2 (blkIn V c 1 t)) (at2 (blkIn V c 2 t)) (at2 (blkIn V c 3 t)) (at2 (blkIn V c 4 t)) (at2 (blkIn V c 5 t))
      (at2 (V c main_v10)) (at2 (V c main_v17)) (at2 (V c main_v20)) (at2 (V c main_v24)) (at2 (V c main_v22_1)) (at2 (V c main_v29))
      (t.val / 11) (384 * (t.val % 11)) where
  q_at r l hr hl := by
    refine (at2_blk _ (V c main_v10) 0 (256 * (t.val / 11)) (fun y => ⟨_, rfl, ?_, ?_⟩) r l hr hl).trans (by rw [Nat.zero_add]) <;>
      blk_simp [idx1 t] <;> omega
  k_at r l hr hl := by
    refine at2_blk _ (V c main_v17) _ (256 * (t.val / 11)) (fun y => ⟨_, rfl, ?_, ?_⟩) r l hr hl <;> blk_simp [idx1 t] <;> omega
  v_at r l hr hl := by
    refine at2_blk _ (V c main_v20) _ (128 * (t.val / 11)) (fun y => ⟨_, rfl, ?_, ?_⟩) r l hr hl <;> blk_simp [idx1 t] <;> omega
  dy_at r l hr hl := by
    refine (at2_blk _ (V c main_v24) 0 (128 * (t.val / 11)) (fun y => ⟨_, rfl, ?_, ?_⟩) r l hr hl).trans (by rw [Nat.zero_add]) <;>
      blk_simp [idx1 t] <;> omega
  lse_at r l hr hl := by
    refine (at2_blk _ (V c main_v22_1) 0 (128 * (t.val / 11)) (fun y => ⟨_, rfl, ?_, ?_⟩) r l hr hl).trans (by rw [Nat.zero_add]) <;>
      blk_simp [idx1 t] <;> omega
  dl_at r l hr hl := by
    refine (at2_blk _ (V c main_v29) 0 (128 * (t.val / 11)) (fun y => ⟨_, rfl, ?_, ?_⟩) r l hr hl).trans (by rw [Nat.zero_add]) <;>
      blk_simp [idx1 t] <;> omega

/-- What key `k` adds to the query gradient at row `r`, lane `L`; what row `r` adds to the key and value gradients. -/
def dqTerm (r L k : ℕ) : EReal :=
  headDs (at2 (V c main_v10)) (at2 (V c main_v17)) (at2 (V c main_v20)) (at2 (V c main_v24)) (at2 (V c main_v22_1)) (at2 (V c main_v29)) (L / 128) r k
    * at2 (V c main_v17) k L
def dkTerm (k L r : ℕ) : EReal :=
  headDs (at2 (V c main_v10)) (at2 (V c main_v17)) (at2 (V c main_v20)) (at2 (V c main_v24)) (at2 (V c main_v22_1)) (at2 (V c main_v29)) (L / 128) r k
    * at2 (V c main_v10) r L
def dvTerm (k L r : ℕ) : EReal :=
  mprob (at2 (V c main_v10)) (at2 (V c main_v17)) (at2 (V c main_v22_1)) 0 (L / 64) r k * at2 (V c main_v24) r L

theorem dqAdd_at (t : Fin cfg1.N) (r l : ℕ) (hr : r < 4224) (hl : l < 256) :
    dqAdd (at2 (blkIn V c 0 t)) (at2 (blkIn V c 1 t)) (at2 (blkIn V c 2 t)) (at2 (blkIn V c 3 t)) (at2 (blkIn V c 4 t)) (at2 (blkIn V c 5 t))
      (384 * ((grid1.coords t) 1).val) (384 * ((grid1.coords t) 1).val) 4224 r l
      = ∑ e ∈ Finset.range 384, dqTerm V c r (256 * (t.val / 11) + l) (384 * (t.val % 11) + e) := by
  rw [(idx1 t).2.2.2.2.2.2.2.2.2.2, (cut V c t).dq hr hl]
  refine Finset.sum_congr rfl fun e _ => ?_
  unfold dqTerm
  rw [show (256 * (t.val / 11) + l) / 128 = 2 * (t.val / 11) + l / 128 by omega]
theorem dkAdd_at (t : Fin cfg1.N) (r l : ℕ) (hr : r < 384) (hl : l < 256) :
    dkAdd (at2 (blkIn V c 0 t)) (at2 (blkIn V c 1 t)) (at2 (blkIn V c 2 t)) (at2 (blkIn V c 3 t)) (at2 (blkIn V c 4 t)) (at2 (blkIn V c 5 t))
      (384 * ((grid1.coords t) 1).val) (384 * ((grid1.coords t) 1).val) 4224 r l
      = ∑ e ∈ Finset.range 4224, dkTerm V c (384 * (t.val % 11) + r) (256 * (t.val / 11) + l) e := by
  rw [(idx1 t).2.2.2.2.2.2.2.2.2.2, (cut V c t).dk hr hl (by omega)]
  refine Finset.sum_congr rfl fun e _ => ?_
  unfold dkTerm
  rw [show (256 * (t.val / 11) + l) / 128 = 2 * (t.val / 11) + l / 128 by omega]
theorem dvAdd_at (t : Fin cfg1.N) (r l : ℕ) (hr : r < 384) (hl : l < 128) :
    dvAdd (at2 (blkIn V c 0 t)) (at2 (blkIn V c 1 t)) (at2 (blkIn V c 3 t)) (at2 (blkIn V c 4 t))
      (384 * ((grid1.coords t) 1).val) (384 * ((grid1.coords t) 1).val) 4224 r l
      = ∑ e ∈ Finset.range 4224, dvTerm V c (384 * (t.val % 11) + r) (128 * (t.val / 11) + l) e := by
  rw [(idx1 t).2.2.2.2.2.2.2.2.2.2, (cut V c t).dv hr hl (by omega)]
  refine Finset.sum_congr rfl fun e _ => ?_
  unfold dvTerm
  rw [show (128 * (t.val / 11) + l) / 64 = 2 * (t.val / 11) + l / 64 by omega]

theorem first_dq (t : Fin cfg1.N) (h0 : t.val % 11 = 0) (y : S4224x256.Idx) :
    (outs V c t.val t.isLt).1 y = ∑ k ∈ Finset.range (384 * (t.val % 11 + 1)), dqTerm V c (y 0).val (256 * (t.val / 11) + (y 1).val) k := by
  rw [outs_A V c t h0]
  refine (runA_dq (c := c) (y := y) ..).trans ?_
  rw [dqAdd_at V c t _ _ (y 0).isLt (y 1).isLt]
  simp only [h0, Nat.mul_zero, Nat.zero_add, Nat.mul_one]

theorem outs_dq : ∀ (n : ℕ) (hn : n < cfg1.N), n % 11 ≠ 10 → ∀ y : S4224x256.Idx,
    (outs V c n hn).1 y = ∑ k ∈ Finset.range (384 * (n % 11 + 1)), dqTerm V c (y 0).val (256 * (n / 11) + (y 1).val) k := by
  intro n
  induction n with
  | zero =>
    intro hn _ y
    exact first_dq V c ⟨0, hn⟩ (Nat.zero_mod _) y
  | succ n ih =>
    intro hn h10 y
    by_cases h0 : (n + 1) % 11 = 0
    · exact first_dq V c ⟨n + 1, hn⟩ h0 y
    · rw [outs_B V c ⟨n + 1, hn⟩ h0 h10]
      refine (runB_dq (c := c) (y := y) ..).trans ?_
      rw [dqAdd_at V c ⟨n + 1, hn⟩ _ _ (y 0).isLt (y 1).isLt, (hs6 _).read_unread]
      simp only [Nat.add_sub_cancel]
      rw [ih _ (by omega) y, show (n + 1) / 11 = n / 11 by omega, show (n + 1) % 11 = n % 11 + 1 by omega,
        show 384 * (n % 11 + 1 + 1) = 384 * (n % 11 + 1) + 384 by omega, Finset.sum_range_add]

theorem last_dq (t : Fin cfg1.N) (h : t.val % 11 = 10) (y : S4224x256.Idx) :
    (outs V c t.val t.isLt).1 y = (∑ k ∈ Finset.range 4224, dqTerm V c (y 0).val (256 * (t.val / 11) + (y 1).val) k) * lnTwo := by
  rw [outs_C V c t h]
  show View.canon ((atC V c t h).1 _) y = _
  rw [← View.read_writes_eq_canon (ms6 t).view (ms6 t).view.junk _ (coverC6 V c t h _)]
  refine (runC_dq (c := c) (y := y) ..).trans ?_
  rw [dqAdd_at V c t _ _ (y 0).isLt (y 1).isLt, (hs6 _).read_unread, outs_dq V c _ _ (by omega) y, h,
    show (t.val - 1) / 11 = t.val / 11 by omega, show (t.val - 1) % 11 + 1 = 10 by omega, ← Finset.sum_range_add]

theorem outs_dk (t : Fin cfg1.N) (y : S384x256.Idx) :
    (outs V c t.val t.isLt).2.1 y = (∑ r ∈ Finset.range 4224, dkTerm V c (384 * (t.val % 11) + (y 0).val) (256 * (t.val / 11) + (y 1).val) r) * lnTwo := by
  rw [← dkAdd_at V c t _ _ (y 0).isLt (y 1).isLt]
  by_cases h0 : t.val % 11 = 0
  · rw [outs_A V c t h0]
    exact runA_dk (c := c) (y := y) ..
  · by_cases h : t.val % 11 = 10
    · rw [outs_C V c t h]
      show View.canon ((atC V c t h).2.1 _) y = _
      rw [← View.read_writes_eq_canon (ms7 t).view (ms7 t).view.junk _ (coverC7 V c t h _)]
      exact runC_dk (c := c) (y := y) ..
    · rw [outs_B V c t h0 h]
      exact runB_dk (c := c) (y := y) ..

theorem outs_dv (t : Fin cfg1.N) (y : S384x128.Idx) :
    (outs V c t.val t.isLt).2.2 y = ∑ r ∈ Finset.range 4224, dvTerm V c (384 * (t.val % 11) + (y 0).val) (128 * (t.val / 11) + (y 1).val) r := by
  rw [← dvAdd_at V c t _ _ (y 0).isLt (y 1).isLt]
  by_cases h0 : t.val % 11 = 0
  · rw [outs_A V c t h0]
    exact runA_dv (c := c) (y := y) ..
  · by_cases h : t.val % 11 = 10
    · rw [outs_C V c t h]
      show View.canon ((atC V c t h).2.2.1 _) y = _
      rw [← View.read_writes_eq_canon (ms8 t).view (ms8 t).view.junk _ (coverC8 V c t h _)]
      exact runC_dv (c := c) (y := y) ..
    · rw [outs_B V c t h0 h]
      exact runB_dv (c := c) (y := y) ..

def dqArr : FVec Ideal S4224x1024 .f32 := fun y => (∑ k ∈ Finset.range 4224, dqTerm V c (y 0).val (y 1).val k) * lnTwo
def dkArr : FVec Ideal S4224x1024 .f32 := fun y => (∑ r ∈ Finset.range 4224, dkTerm V c (y 0).val (y 1).val r) * lnTwo
def dvArr : FVec Ideal S4224x512 .f32 := fun y => ∑ r ∈ Finset.range 4224, dvTerm V c (y 0).val (y 1).val r

theorem dq_arr : (dat V c).arrAt 6 cfg1.N = dqArr V c := by
  refine (dat V c).arrAt_eq_of_covers 6 _ (by decide +kernel) fun t ht y => ?_
  have h10 := (flush1_6 t).mp ht
  blk_simp
  rw [after_6, last_dq V c t h10]
  unfold dqArr
  blk_simp [idx1 t]
  rw [Nat.mul_comm (t.val / 11) 256]

theorem dk_arr : (dat V c).arrAt 7 cfg1.N = dkArr V c := by
  refine (dat V c).arrAt_eq_of_covers 7 _ (by decide +kernel) fun t ht y => ?_
  blk_simp
  rw [after_7, outs_dk V c t]
  unfold dkArr
  blk_simp [idx1 t]
  rw [Nat.mul_comm (t.val / 11) 256, Nat.mul_comm (t.val % 11) 384]

theorem dv_arr : (dat V c).arrAt 8 cfg1.N = dvArr V c := by
  refine (dat V c).arrAt_eq_of_covers 8 _ (by decide +kernel) fun t ht y => ?_
  blk_simp
  rw [after_8, outs_dv V c t]
  unfold dvArr
  blk_simp [idx1 t]
  rw [Nat.mul_comm (t.val / 11) 128, Nat.mul_comm (t.val % 11) 384]

end Cert.AttnBwd

end
-- ==== Proof.FwdArrays.lean ====
/- What the forward attention's call leaves in its output and its saved logarithms, entry by entry, where the arrays it
   finds hold real numbers. -/
module

public import proofs.«01_k».proof.Proof.FwdValues
public import proofs.«01_k».proof.Proof.FwdFrame
public import proofs.«01_k».proof.Proof.BwdArrays

@[expose] public section

set_option maxRecDepth 16384

noncomputable section

namespace Cert.AttnFwd

open Cert.AttnTerms Cert.AttnIdeal Cert.AttnIdeal.Gen Cert.Online
open Idealize.ShloMosaic Idealize.ShloMosaic.TcCoe Idealize.SL.Sem Idealize.ShloMosaic.Pipeline

variable (V : (c : Dev nD) → (b : Ref sig .tc) → Buf (Elt Ideal) ((c : Thread nD τ).loc b)) (c : Dev nD)

theorem idx0 : ∀ t : Fin cfg0.N, win0_0.index t = ![t.val % 11, t.val / 11] ∧ win0_1.index t = ![0, t.val / 11]
    ∧ win0_2.index t = ![0, t.val / 11] ∧ win0_3.index t = ![t.val % 11, t.val / 11] ∧ win0_4.index t = ![t.val % 11, t.val / 11]
    ∧ t.val / 11 < 4 ∧ ((grid0.coords t) 1).val = t.val % 11 :=
  (by decide +kernel : ∀ t : Fin grid0.N, _)

theorem q_at (t : Fin cfg0.N) (r l : ℕ) (hr : r < 384) (hl : l < 256) :
    at2 (blkIn V c 0 t) r l = at2 (V c main_v10) (384 * (t.val % 11) + r) (256 * (t.val / 11) + l) := by
  refine AttnBwd.at2_blk _ (V c main_v10) _ (256 * (t.val / 11)) (fun y => ⟨_, rfl, ?_, ?_⟩) r l hr hl <;> blk_simp [idx0 t] <;> omega
theorem k_at (t : Fin cfg0.N) (r l : ℕ) (hr : r < 4224) (hl : l < 256) :
    at2 (blkIn V c 1 t) r l = at2 (V c main_v17) r (256 * (t.val / 11) + l) := by
  refine (AttnBwd.at2_blk _ (V c main_v17) 0 (256 * (t.val / 11)) (fun y => ⟨_, rfl, ?_, ?_⟩) r l hr hl).trans (by rw [Nat.zero_add]) <;>
    blk_simp [idx0 t] <;> omega
theorem v_at (t : Fin cfg0.N) (r l : ℕ) (hr : r < 4224) (hl : l < 128) :
    at2 (blkIn V c 2 t) r l = at2 (V c main_v20) r (128 * (t.val / 11) + l) := by
  refine (AttnBwd.at2_blk _ (V c main_v20) 0 (128 * (t.val / 11)) (fun y => ⟨_, rfl, ?_, ?_⟩) r l hr hl).trans (by rw [Nat.zero_add]) <;>
    blk_simp [idx0 t] <;> omega

theorem score_at (t : Fin cfg0.N) (h r j : ℕ) (hh : h < 2) (hr : r < 384) (hj : j < 4224) :
    score (at2 (blkIn V c 0 t)) (at2 (blkIn V c 1 t)) h r j
      = score (at2 (V c main_v10)) (at2 (V c main_v17)) (2 * (t.val / 11) + h) (384 * (t.val % 11) + r) j := by
  unfold score
  refine Finset.sum_congr rfl fun l _ => ?_
  have hl := l.isLt
  rw [q_at V c t _ _ hr (by omega), k_at V c t _ _ hj (by omega),
    show 256 * (t.val / 11) + (128 * h + l.val) = 128 * (2 * (t.val / 11) + h) + l.val by omega]

/-- A row's normaliser, to base two; the attention's output; the saved logarithm. -/
def norm2 (S : ℕ → ℕ → ℕ → ℝ) (h r : ℕ) : ℝ := ∑ k ∈ Finset.range (r + 1), (2 : ℝ) ^ S h r k
def oVal (S : ℕ → ℕ → ℕ → ℝ) (v : ℕ → ℕ → ℝ) (r L : ℕ) : ℝ :=
  (∑ k ∈ Finset.range (r + 1), (2 : ℝ) ^ S (L / 64) r k * v k L) / norm2 S (L / 64) r
def lseVal (S : ℕ → ℕ → ℕ → ℝ) (r L : ℕ) : ℝ := Real.log (norm2 S (L / 64) r) * (Real.log 2)⁻¹

variable (S : ℕ → ℕ → ℕ → ℝ) (v : ℕ → ℕ → ℝ)
  (hS : ∀ h < 8, ∀ r < 4224, ∀ j < 4224, score (at2 (V c main_v10)) (at2 (V c main_v17)) h r j = (S h r j : EReal))
  (hv : ∀ j < 4224, ∀ L < 512, at2 (V c main_v20) j L = (v j L : EReal))
include hS hv

theorem o_arr : (dat V c).arrAt 3 cfg0.N = fun y : S4224x512.Idx => ((oVal S v (y 0).val (y 1).val : ℝ) : EReal) := by
  refine (dat V c).arrAt_eq_of_covers 3 _ (by decide +kernel) fun t ht y => ?_
  obtain ⟨_, _, _, _, _, h4, h1⟩ := idx0 t
  blk_simp
  rw [after_3]
  idx_vars y
  unfold res3
  have hy := y0.isLt
  have hz := y1.isLt
  rw [out6_val (S := fun h j => S (2 * (t.val / 11) + h) (384 * (t.val % 11) + y0.val) j) (v := fun j => v j (128 * (t.val / 11) + y1.val))
    (hS := fun h hh j hj => (score_at V c t h _ j hh y0.isLt hj).trans (hS _ (by omega) _ (by omega) _ hj))
    (hv := fun j hj => (v_at V c t _ _ hj y1.isLt).trans (hv _ hj _ (by omega)))]
  blk_simp [idx0 t]
  unfold oVal norm2
  simp only [h1, show t.val % 11 * 384 + y0.val = 384 * (t.val % 11) + y0.val by omega, show t.val / 11 * 128 + y1.val = 128 * (t.val / 11) + y1.val by omega,
    show (128 * (t.val / 11) + y1.val) / 64 = 2 * (t.val / 11) + y1.val / 64 by omega, Nat.add_assoc]

theorem lse_arr : (dat V c).arrAt 4 cfg0.N = fun y : S4224x512.Idx => ((lseVal S (y 0).val (y 1).val : ℝ) : EReal) := by
  refine (dat V c).arrAt_eq_of_covers 4 _ (by decide +kernel) fun t ht y => ?_
  obtain ⟨_, _, _, _, _, h4, h1⟩ := idx0 t
  blk_simp
  rw [after_4]
  idx_vars y
  unfold res4
  have hy := y0.isLt
  have hz := y1.isLt
  rw [out7_val (S := fun h j => S (2 * (t.val / 11) + h) (384 * (t.val % 11) + y0.val) j) (v := fun j => v j (128 * (t.val / 11) + y1.val))
    (hS := fun h hh j hj => (score_at V c t h _ j hh y0.isLt hj).trans (hS _ (by omega) _ (by omega) _ hj))
    (hv := fun j hj => (v_at V c t _ _ hj y1.isLt).trans (hv _ hj _ (by omega)))]
  blk_simp [idx0 t]
  unfold lseVal norm2
  simp only [h1, show t.val % 11 * 384 + y0.val = 384 * (t.val % 11) + y0.val by omega, show t.val / 11 * 128 + y1.val = 128 * (t.val / 11) + y1.val by omega,
    show (128 * (t.val / 11) + y1.val) / 64 = 2 * (t.val / 11) + y1.val / 64 by omega, Nat.add_assoc]

end Cert.AttnFwd

end
-- ==== Proof.AttnEntry.lean ====
/- What the attention's two calls find in their operands where the program's arguments are finite: real numbers, packed by
   heads and padded. -/
module

public import proofs.«01_k».proof.Proof.AttnRun
public import proofs.«01_k».proof.Proof.AttnMath
public import proofs.«01_k».proof.Proof.FwdArrays
public import proofs.«01_k».proof.Proof.Finite

@[expose] public section

set_option maxRecDepth 16384
set_option maxHeartbeats 400000

noncomputable section

namespace Cert.AttnEntry

open Cert.AttnIdeal Cert.AttnIdeal.Gen Cert.AttnTerms Cert.AttnWhole Cert.AttnMath Cert.Finite
open Idealize.ShloMosaic Idealize.ShloMosaic.TcCoe Idealize.SL.Sem Idealize.ShloMosaic.Pipeline Idealize.ShloMosaic.StableHlo

/-- An array read as a real function of its coordinates, zero outside. -/
def re3 {a b d : ℕ} (x : (⟨3, ![a, b, d]⟩ : Shape).Idx → EReal) (r h l : ℕ) : ℝ :=
  if e : r < a ∧ h < b ∧ l < d then (x (ix3 ⟨r, e.1⟩ ⟨h, e.2.1⟩ ⟨l, e.2.2⟩)).toReal else 0
def re2 {a b : ℕ} (x : (⟨2, ![a, b]⟩ : Shape).Idx → EReal) (r h : ℕ) : ℝ :=
  if e : r < a ∧ h < b then (x (ix2 ⟨r, e.1⟩ ⟨h, e.2⟩)).toReal else 0

theorem re3_eq {a b d : ℕ} {x : (⟨3, ![a, b, d]⟩ : Shape).Idx → EReal} (hx : ∀ i, IsReal (x i)) (r : Fin a) (h : Fin b) (l : Fin d) :
    x (ix3 r h l) = (re3 x r.val h.val l.val : EReal) := by
  obtain ⟨y, hy⟩ := hx (ix3 r h l)
  unfold re3
  rw [dif_pos ⟨r.isLt, h.isLt, l.isLt⟩]
  show x (ix3 r h l) = ((x (ix3 r h l)).toReal : EReal)
  rw [hy, EReal.toReal_coe]
theorem re2_eq {a b : ℕ} {x : (⟨2, ![a, b]⟩ : Shape).Idx → EReal} (hx : ∀ i, IsReal (x i)) (r : Fin a) (h : Fin b) :
    x (ix2 r h) = (re2 x r.val h.val : EReal) := by
  obtain ⟨y, hy⟩ := hx (ix2 r h)
  unfold re2
  rw [dif_pos ⟨r.isLt, h.isLt⟩]
  show x (ix2 r h) = ((x (ix2 r h)).toReal : EReal)
  rw [hy, EReal.toReal_coe]

/-- A choice among three lanes' kinds within the rows, matched with the same choice of real numbers. -/
theorem pick3 {p q r : Prop} [Decidable p] [Decidable q] [Decidable r] {x : p → q → EReal} {y : p → ¬ q → r → EReal} {z : p → ¬ q → ¬ r → EReal}
    {w : ¬ p → EReal} {X Y : ℝ} (hx : ∀ a b, x a b = (X : EReal)) (hy : ∀ a b c, y a b c = (Y : EReal)) (hz : ∀ a b c, z a b c = 0) (hw : ∀ a, w a = 0) :
    (if a : p then if b : q then x a b else if c : r then y a b c else z a b c else w a)
      = ((if p then if q then X else if r then Y else 0 else 0 : ℝ) : EReal) := by
  split
  · split
    · exact hx _ _
    · split
      · exact hy _ _ _
      · exact hz _ _ _
  · exact hw _
theorem pick1 {p : Prop} [Decidable p] {x : p → EReal} {w : ¬ p → EReal} {X : ℝ} (hx : ∀ a, x a = (X : EReal)) (hw : ∀ a, w a = 0) :
    (if a : p then x a else w a) = ((if p then X else 0 : ℝ) : EReal) := by
  split
  · exact hx _
  · exact hw _

/-- The score's factor, as the float word has it. -/
def factor : ℝ := (Ideal.ofBits .f32 0x3DD105EC#32 : EReal).toReal
theorem factor_eq : (Ideal.ofBits .f32 0x3DD105EC#32 : EReal) = (factor : EReal) := by
  have e : ∃ y : ℝ, (Ideal.ofBits .f32 0x3DD105EC#32 : EReal) = (y : EReal) := ⟨13698540 * (2 ^ 27)⁻¹, by
    simp [Ideal.ofBits, Ideal.ieee]⟩
  obtain ⟨y, hy⟩ := e
  unfold factor
  rw [hy, EReal.toReal_coe]
theorem two_word : (Ideal.ofBits .f32 0x40000000#32 : EReal) = ((2 : ℝ) : EReal) := by
  simp [Ideal.ofBits, Ideal.ieee]
  rw [← EReal.coe_mul]
  norm_num
/-- The factor over the logarithm of two. -/
theorem scale_eq : Ideal.div (Ideal.ofBits .f32 0x3DD105EC#32) (Ideal.log (Ideal.ofBits .f32 0x40000000#32))
    = ((factor * (Real.log 2)⁻¹ : ℝ) : EReal) := by
  rw [two_word, factor_eq, Ideal.log_coe, if_neg (by norm_num), Ideal.div_coe log_two_ne, ← EReal.coe_mul, one_div]

/-- The integer zero, cast: the value the rows are padded with. -/
theorem zero_word : (FloatOps.sitofp (F := Ideal) FTy.f32 0#32 : EReal) = 0 := by
  show (((0#32 : BitVec 32).toInt : ℝ) : EReal) = 0
  simp

/-- The arguments as real numbers. -/
def args (X0 : FVec Ideal S4112x8x64 .f32) (X1 : FVec Ideal S4112x8x32 .f32) (X2 : FVec Ideal S4112x8x64 .f32) (X3 : FVec Ideal S4112x32 .f32)
    (X4 X5 : FVec Ideal S4112x8x64 .f32) : Args :=
  ⟨re3 X0, re3 X1, re3 X2, re2 X3, re3 X4, re3 X5, factor⟩

variable (m : (ℓ : Loc nD τ sig) → Buf (Elt Ideal) ℓ) (ρ : Dev nD → PrngReg) (c : Dev nD)

abbrev A : Args := args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- Every argument finite. -/
structure Fin6 : Prop where
  h0 : ∀ i, IsReal (m ((c : Thread nD τ).loc main_arg0) i)
  h1 : ∀ i, IsReal (m ((c : Thread nD τ).loc main_arg1) i)
  h2 : ∀ i, IsReal (m ((c : Thread nD τ).loc main_arg2) i)
  h3 : ∀ i, IsReal (m ((c : Thread nD τ).loc main_arg3) i)
  h4 : ∀ i, IsReal (m ((c : Thread nD τ).loc main_arg4) i)
  h5 : ∀ i, IsReal (m ((c : Thread nD τ).loc main_arg5) i)

variable (h : Fin6 m c)
include h

theorem q_at (R : Fin 4224) (L : Fin 1024) : W7 m ρ c main_v10 (ix2 R L) = ((A m c).Q R.val L.val : EReal) := by
  rw [W7_of m ρ c _ (by decide), W6_of m ρ c _ (by decide), W5_of m ρ c _ (by decide), W4_of m ρ c _ (by decide)]
  simp only [W3, W2, W1, hostOps0, hostOps0_1, hostOps0_2, TRef.binary, TRef.nullary, TRef.unary, TRef.toBuf, TRef.ofBuf, cast_eq]
  after_results_simp
  pointwise
  after_results_simp
  pointwise
  unfold Args.Q packed
  exact pick3 (fun _ _ => (congrArg₂ (· * ·) (re3_eq h.h0 _ _ _) scale_eq).trans (EReal.coe_mul _ _).symm)
    (fun _ _ _ => (congrArg₂ (· * ·) (re3_eq h.h1 _ _ _) scale_eq).trans (EReal.coe_mul _ _).symm) (fun _ _ _ => rfl) (fun _ => zero_word)
theorem k_at (R : Fin 4224) (L : Fin 1024) : W7 m ρ c main_v17 (ix2 R L) = ((A m c).K R.val L.val : EReal) := by
  rw [W7_of m ρ c _ (by decide), W6_of m ρ c _ (by decide)]
  simp only [W5, W4, W3, hostOps0_2, hostOps0_3, hostOps0_4, TRef.binary, TRef.nullary, TRef.unary, TRef.toBuf, TRef.ofBuf, cast_eq]
  after_results_simp
  pointwise
  after_results_simp
  pointwise
  unfold Args.K packed
  exact pick3 (fun _ _ => re3_eq h.h2 _ _ _) (fun _ _ _ => re2_eq h.h3 _ _) (fun _ _ _ => rfl) (fun _ => zero_word)
theorem v_at (R : Fin 4224) (L : Fin 512) : W7 m ρ c main_v20 (ix2 R L) = ((A m c).V R.val L.val : EReal) := by
  simp only [W7, W6, W5, hostOps0_4, hostOps0_5, hostOps0_6, TRef.binary, TRef.nullary, TRef.unary, TRef.toBuf, TRef.ofBuf, cast_eq]
  after_results_simp
  pointwise
  unfold Args.V flat
  exact pick1 (fun _ => re3_eq h.h4 _ _ _) (fun _ => zero_word)

end Cert.AttnEntry

end
-- ==== Proof.AttnBetween.lean ====
/- What the forward attention's call leaves, and what the backward call then finds, as real numbers. -/
module

public import proofs.«01_k».proof.Proof.AttnEntry

@[expose] public section

set_option maxRecDepth 16384
set_option maxHeartbeats 400000

noncomputable section

namespace Cert.AttnEntry

open Cert.AttnIdeal Cert.AttnIdeal.Gen Cert.AttnTerms Cert.AttnWhole Cert.AttnMath Cert.Finite
open Idealize.ShloMosaic Idealize.ShloMosaic.TcCoe Idealize.SL.Sem Idealize.ShloMosaic.Pipeline Idealize.ShloMosaic.StableHlo

variable (m : (ℓ : Loc nD τ sig) → Buf (Elt Ideal) ℓ) (ρ : Dev nD → PrngReg) (c : Dev nD)

theorem at2_real {a b : ℕ} {x : (⟨2, ![a, b]⟩ : Shape).Idx → EReal} {f : ℕ → ℕ → ℝ} (e : ∀ (r : Fin a) (l : Fin b), x (ix2 r l) = (f r.val l.val : EReal))
    {r l : ℕ} (hr : r < a) (hl : l < b) : at2 x r l = (f r l : EReal) :=
  (at2_ix2 x ⟨r, hr⟩ ⟨l, hl⟩).symm.trans (e _ _)

theorem prod_real {x y : EReal} {a b e : ℝ} (hx : x = (a : EReal)) (hy : y = (b : EReal)) (h : a * b = e) : x * y = (e : EReal) := by
  rw [hx, hy, ← EReal.coe_mul, h]
theorem sum_real {n : ℕ} {f : Fin n → EReal} {g : ℕ → ℝ} {e : ℝ} (hf : ∀ i, f i = (g i.val : EReal)) (h : ∑ i ∈ Finset.range n, g i = e) :
    ∑ i, f i = (e : EReal) := by
  rw [← h, Online.coe_sum, ← Fin.sum_univ_eq_sum_range (fun i => (g i : EReal)) n]
  exact Finset.sum_congr rfl fun i _ => hf i

/-- The host's sum of a head's products of the output with the cotangent, at any memory before it. -/
theorem delta_of (V : Valuation τ sig (Elt Ideal)) (f g : ℕ → ℕ → ℝ) (hf : ∀ (R : Fin 4224) (L : Fin 512), V main_v24 (ix2 R L) = (f R.val L.val : EReal))
    (hg : ∀ (R : Fin 4224) (L : Fin 512), V main_v22_0 (ix2 R L) = (g R.val L.val : EReal)) (R : Fin 4224) (L : Fin 512) :
    StableHlo.after hostOps1_2 V main_v29 (ix2 R L)
      = ((∑ d ∈ Finset.range 64, f R.val (64 * (L.val / 64) + d) * g R.val (64 * (L.val / 64) + d) : ℝ) : EReal) := by
  simp only [hostOps1_2, TRef.binary, TRef.nullary, TRef.unary, TRef.toBuf, TRef.ofBuf, cast_eq]
  after_results_simp
  pointwise
  refine sum_real (g := fun d => f R.val (L.val / 64 * 64 + d) * g R.val (L.val / 64 * 64 + d)) (fun d => prod_real (hf _ _) (hg _ _) rfl) ?_
  rw [Nat.mul_comm (L.val / 64) 64]

/-- Scores of packed real rows are real. -/
theorem score_real {Q K : ℕ → ℕ → EReal} (A : Args) {r k : ℕ} (hq : ∀ l < 1024, Q r l = (A.Q r l : EReal)) (hk : ∀ l < 1024, K k l = (A.K k l : EReal))
    {h : ℕ} (hh : h < 8) : score Q K h r k = (A.S h r k : EReal) := by
  unfold score Args.S
  rw [← Fin.sum_univ_eq_sum_range (fun l => A.Q r (128 * h + l) * A.K k (128 * h + l)) 128, Online.coe_sum]
  exact Finset.sum_congr rfl fun l _ => by
    have := l.isLt
    rw [hq _ (by omega), hk _ (by omega), EReal.coe_mul]

variable (h : Fin6 m c)
include h

theorem score_at (H : ℕ) (hH : H < 8) (r : ℕ) (hr : r < 4224) (k : ℕ) (hk : k < 4224) :
    score (at2 (Entry0 m ρ c main_v10)) (at2 (Entry0 m ρ c main_v17)) H r k = ((A m c).S H r k : EReal) :=
  score_real (A m c) (fun l hl => at2_real (q_at m ρ c h) hr hl) (fun l hl => at2_real (k_at m ρ c h) hk hl) hH

theorem o_at (R : Fin 4224) (L : Fin 512) : W8 m ρ c main_v22_0 (ix2 R L) = ((A m c).o2 R.val L.val : EReal) :=
  (congrFun ((W8_arr m ρ c 3).trans (AttnFwd.o_arr (Entry0 m ρ) c (A m c).S (A m c).V (score_at m ρ c h)
    (fun j hj L hL => at2_real (v_at m ρ c h) hj hL))) (ix2 R L)).trans rfl
theorem lse_at (R : Fin 4224) (L : Fin 512) : W8 m ρ c main_v22_1 (ix2 R L) = ((Real.log ((A m c).N (L.val / 64) R.val) * (Real.log 2)⁻¹ : ℝ) : EReal) :=
  (congrFun ((W8_arr m ρ c 4).trans (AttnFwd.lse_arr (Entry0 m ρ) c (A m c).S (A m c).V (score_at m ρ c h)
    (fun j hj L hL => at2_real (v_at m ρ c h) hj hL))) (ix2 R L)).trans rfl

theorem arg5_at (i : S4112x8x64.Idx) : W8 m ρ c main_arg5 i = m ((c : Thread nD τ).loc main_arg5) i := by
  rw [W8_of m ρ c _ (by decide), W7_of m ρ c _ (by decide), W6_of m ρ c _ (by decide), W5_of m ρ c _ (by decide), W4_of m ρ c _ (by decide), W3_of m ρ c _ (by decide), W2_of m ρ c _ (by decide), W1_of m ρ c _ (by decide)]

theorem dy_at (R : Fin 4224) (L : Fin 512) : W10 m ρ c main_v24 (ix2 R L) = ((A m c).D R.val L.val : EReal) := by
  simp only [W10, W9, hostOps1, hostOps1_1, TRef.binary, TRef.nullary, TRef.unary, TRef.toBuf, TRef.ofBuf, cast_eq]
  after_results_simp
  pointwise
  unfold Args.D flat
  exact pick1 (fun _ => (arg5_at m ρ c h _).trans (re3_eq h.h5 _ _ _)) (fun _ => zero_word)

theorem dl_at (R : Fin 4224) (L : Fin 512) : W11 m ρ c main_v29 (ix2 R L) = ((A m c).dl2 R.val (L.val / 64) : EReal) :=
  delta_of (W10 m ρ c) (A m c).D (A m c).o2 (dy_at m ρ c h)
    (fun R L => by rw [W10_of m ρ c main_v22_0 (by decide), W9_of m ρ c main_v22_0 (by decide)]; exact o_at m ρ c h R L) R L

/-! ## The backward call's operands -/

theorem q_at1 (R : Fin 4224) (L : Fin 1024) : Entry1 m ρ c main_v10 (ix2 R L) = ((A m c).Q R.val L.val : EReal) := by
  rw [Entry1, W11_of m ρ c _ (by decide), W10_of m ρ c _ (by decide), W9_of m ρ c _ (by decide), W8_of m ρ c _ (by decide), q_at m ρ c h]
theorem k_at1 (R : Fin 4224) (L : Fin 1024) : Entry1 m ρ c main_v17 (ix2 R L) = ((A m c).K R.val L.val : EReal) := by
  rw [Entry1, W11_of m ρ c _ (by decide), W10_of m ρ c _ (by decide), W9_of m ρ c _ (by decide), W8_of m ρ c _ (by decide), k_at m ρ c h]
theorem v_at1 (R : Fin 4224) (L : Fin 512) : Entry1 m ρ c main_v20 (ix2 R L) = ((A m c).V R.val L.val : EReal) := by
  rw [Entry1, W11_of m ρ c _ (by decide), W10_of m ρ c _ (by decide), W9_of m ρ c _ (by decide), W8_of m ρ c _ (by decide), v_at m ρ c h]
theorem dy_at1 (R : Fin 4224) (L : Fin 512) : Entry1 m ρ c main_v24 (ix2 R L) = ((A m c).D R.val L.val : EReal) := by
  rw [Entry1, W11_of m ρ c _ (by decide), dy_at m ρ c h]
theorem lse_at1 (R : Fin 4224) (L : Fin 512) :
    Entry1 m ρ c main_v22_1 (ix2 R L) = ((Real.log ((A m c).N (L.val / 64) R.val) * (Real.log 2)⁻¹ : ℝ) : EReal) := by
  rw [Entry1, W11_of m ρ c _ (by decide), W10_of m ρ c _ (by decide), W9_of m ρ c _ (by decide), lse_at m ρ c h]

/-! ## What the backward call forms of them -/

theorem mprob_at {H : ℕ} (hH : H < 8) {r k : ℕ} (hr : r < 4224) (hk : k < 4224) :
    mprob (at2 (Entry1 m ρ c main_v10)) (at2 (Entry1 m ρ c main_v17)) (at2 (Entry1 m ρ c main_v22_1)) 0 H r k = ((A m c).P2 H r k : EReal) := by
  unfold mprob prob Args.P2
  rw [Nat.zero_add, score_real (A m c) (fun l hl => at2_real (q_at1 m ρ c h) hr hl) (fun l hl => at2_real (k_at1 m ρ c h) hk hl) hH,
    at2_real (f := fun r l => Real.log ((A m c).N (l / 64) r) * (Real.log 2)⁻¹) (lse_at1 m ρ c h) hr (show 64 * H < 512 by omega),
    show 64 * H / 64 = H by omega]
  split
  · rw [← EReal.coe_sub, Online.exp2_real, Online.saved _ _ ((A m c).N_pos H r)]
  · rfl

theorem ds_at {H : ℕ} (hH : H < 8) {r k : ℕ} (hr : r < 4224) (hk : k < 4224) :
    headDs (at2 (Entry1 m ρ c main_v10)) (at2 (Entry1 m ρ c main_v17)) (at2 (Entry1 m ρ c main_v20)) (at2 (Entry1 m ρ c main_v24))
      (at2 (Entry1 m ρ c main_v22_1)) (at2 (Entry1 m ρ c main_v29)) H r k = ((A m c).ds2 H r k : EReal) := by
  have e : headDprob (at2 (Entry1 m ρ c main_v20)) (at2 (Entry1 m ρ c main_v24)) H r k = ((A m c).dP2 H r k : EReal) := by
    unfold headDprob Args.dP2
    rw [Online.coe_sum]
    exact Finset.sum_congr rfl fun d hd => by
      have := Finset.mem_range.mp hd
      rw [at2_real (dy_at1 m ρ c h) hr (by omega), at2_real (v_at1 m ρ c h) hk (by omega), EReal.coe_mul]
  unfold headDs Args.ds2
  rw [mprob_at m ρ c h hH hr hk, e, at2_real (f := fun r l => (A m c).dl2 r (l / 64)) (dl_at m ρ c h) hr (show 64 * H < 512 by omega),
    show 64 * H / 64 = H by omega, EReal.coe_mul, EReal.coe_sub]

theorem dq_at (R : Fin 4224) (L : Fin 1024) : W12 m ρ c main_v30_0 (ix2 R L) = ((A m c).dq2 R.val L.val : EReal) := by
  refine (congrFun ((W12_arr m ρ c 6).trans (AttnBwd.dq_arr (Entry1 m ρ) c)) (ix2 R L)).trans ?_
  unfold AttnBwd.dqArr Args.dq2 lnTwo
  rw [EReal.coe_mul, Online.coe_sum]
  refine congrArg (· * _) (Finset.sum_congr rfl fun k hk => ?_)
  have hk := Finset.mem_range.mp hk
  have hL := L.isLt
  exact (congrArg₂ (· * ·) (ds_at m ρ c h (show L.val / 128 < 8 by omega) R.isLt hk) (at2_real (k_at1 m ρ c h) hk L.isLt)).trans (EReal.coe_mul _ _).symm
theorem dk_at (R : Fin 4224) (L : Fin 1024) : W12 m ρ c main_v30_1 (ix2 R L) = ((A m c).dk2 R.val L.val : EReal) := by
  refine (congrFun ((W12_arr m ρ c 7).trans (AttnBwd.dk_arr (Entry1 m ρ) c)) (ix2 R L)).trans ?_
  unfold AttnBwd.dkArr Args.dk2 lnTwo
  rw [EReal.coe_mul, Online.coe_sum]
  refine congrArg (· * _) (Finset.sum_congr rfl fun k hk => ?_)
  have hk := Finset.mem_range.mp hk
  have hL := L.isLt
  exact (congrArg₂ (· * ·) (ds_at m ρ c h (show L.val / 128 < 8 by omega) hk R.isLt) (at2_real (q_at1 m ρ c h) hk L.isLt)).trans (EReal.coe_mul _ _).symm
theorem dv_at (R : Fin 4224) (L : Fin 512) : W12 m ρ c main_v30_2 (ix2 R L) = ((A m c).dv2 R.val L.val : EReal) := by
  refine (congrFun ((W12_arr m ρ c 8).trans (AttnBwd.dv_arr (Entry1 m ρ) c)) (ix2 R L)).trans ?_
  show (∑ k ∈ Finset.range 4224, AttnBwd.dvTerm (Entry1 m ρ) c R.val L.val k : EReal) = _
  unfold Args.dv2
  rw [Online.coe_sum]
  refine Finset.sum_congr rfl fun k hk => ?_
  have hk := Finset.mem_range.mp hk
  have hL := L.isLt
  exact (congrArg₂ (· * ·) (mprob_at m ρ c h (show L.val / 64 < 8 by omega) hk R.isLt) (at2_real (dy_at1 m ρ c h) hk L.isLt)).trans (EReal.coe_mul _ _).symm

/-! ## The program's results -/

/-- The query gradient's multiplier. -/
theorem scale_at : W12 m ρ c main_v1 = fun _ => ((factor * (Real.log 2)⁻¹ : ℝ) : EReal) := by
  rw [W12_of m ρ c _ (by decide), W11_of m ρ c _ (by decide), W10_of m ρ c _ (by decide), W9_of m ρ c _ (by decide), W8_of m ρ c _ (by decide), W7_of m ρ c _ (by decide), W6_of m ρ c _ (by decide), W5_of m ρ c _ (by decide), W4_of m ρ c _ (by decide), W3_of m ρ c _ (by decide), W2_of m ρ c _ (by decide)]
  simp only [W1, hostOps0]
  after_results_simp
  exact funext fun _ => scale_eq

theorem out_o (r : Fin 4112) (H : Fin 8) (d : Fin 64) : W13 m ρ c main_v40 (ix3 r H d) = ((A m c).o r.val H.val d.val : EReal) := by
  obtain ⟨V, hV⟩ : ∃ V, V = W12 m ρ c := ⟨_, rfl⟩
  show StableHlo.after hostOps2 (W12 m ρ c) main_v40 (ix3 r H d) = _
  rw [← hV]
  simp only [hostOps2]
  after_results_simp
  pointwise
  rw [hV, W12_of m ρ c _ (by decide), W11_of m ρ c _ (by decide), W10_of m ρ c _ (by decide), W9_of m ρ c _ (by decide)]
  refine (o_at m ρ c h _ _).trans (congrArg Real.toEReal ?_)
  show (A m c).o2 r.val (H.val * 64 + d.val) = _
  rw [Nat.mul_comm H.val 64, Args.o2_eq _ r.isLt d.isLt]

theorem out_dqn (r : Fin 4112) (H : Fin 8) (d : Fin 64) : W13 m ρ c main_v42 (ix3 r H d) = ((A m c).dqn r.val H.val d.val : EReal) := by
  obtain ⟨V, hV⟩ : ∃ V, V = W12 m ρ c := ⟨_, rfl⟩
  show StableHlo.after hostOps2 (W12 m ρ c) main_v42 (ix3 r H d) = _
  rw [← hV]
  simp only [hostOps2]
  after_results_simp
  pointwise
  rw [hV, scale_at m ρ c h]
  refine prod_real (dq_at m ρ c h _ _) rfl ?_
  show (A m c).dq2 r.val (H.val * 128 + d.val) * _ = _
  rw [Nat.mul_comm H.val 128, ← Args.dqn_eq _ r.isLt d.isLt]
  rfl

theorem out_dqr (r : Fin 4112) (H : Fin 8) (d : Fin 32) : W13 m ρ c main_v44 (ix3 r H d) = ((A m c).dqr r.val H.val d.val : EReal) := by
  obtain ⟨V, hV⟩ : ∃ V, V = W12 m ρ c := ⟨_, rfl⟩
  show StableHlo.after hostOps2 (W12 m ρ c) main_v44 (ix3 r H d) = _
  rw [← hV]
  simp only [hostOps2]
  after_results_simp
  pointwise
  rw [hV, scale_at m ρ c h]
  refine prod_real (dq_at m ρ c h _ _) rfl ?_
  show (A m c).dq2 r.val (H.val * 128 + (64 + d.val)) * _ = _
  rw [Nat.mul_comm H.val 128, ← Args.dqr_eq _ r.isLt d.isLt]
  rfl

theorem out_dkn (r : Fin 4112) (H : Fin 8) (d : Fin 64) : W13 m ρ c main_v37 (ix3 r H d) = ((A m c).dkn r.val H.val d.val : EReal) := by
  obtain ⟨V, hV⟩ : ∃ V, V = W12 m ρ c := ⟨_, rfl⟩
  show StableHlo.after hostOps2 (W12 m ρ c) main_v37 (ix3 r H d) = _
  rw [← hV]
  simp only [hostOps2]
  after_results_simp
  pointwise
  rw [hV]
  refine (dk_at m ρ c h _ _).trans (congrArg Real.toEReal ?_)
  show (A m c).dk2 r.val (H.val * 128 + d.val) = _
  rw [Nat.mul_comm H.val 128, ← Args.dkn_eq _ r.isLt d.isLt]

theorem out_dkr (r : Fin 4112) (d : Fin 32) : W13 m ρ c main_v45 (ix2 r d) = ((A m c).dkr r.val d.val : EReal) := by
  obtain ⟨V, hV⟩ : ∃ V, V = W12 m ρ c := ⟨_, rfl⟩
  show StableHlo.after hostOps2 (W12 m ρ c) main_v45 (ix2 r d) = _
  rw [← hV]
  simp only [hostOps2]
  after_results_simp
  pointwise
  rw [hV]
  refine sum_real (g := fun H => (A m c).dk2 r.val (H * 128 + (64 + d.val))) (fun H => dk_at m ρ c h _ _) ?_
  unfold Args.dkr
  exact Finset.sum_congr rfl fun H _ => by rw [Nat.mul_comm H 128, Args.dkr_eq _ r.isLt d.isLt]

theorem out_dv (r : Fin 4112) (H : Fin 8) (d : Fin 64) : W13 m ρ c main_v47 (ix3 r H d) = ((A m c).dv r.val H.val d.val : EReal) := by
  obtain ⟨V, hV⟩ : ∃ V, V = W12 m ρ c := ⟨_, rfl⟩
  show StableHlo.after hostOps2 (W12 m ρ c) main_v47 (ix3 r H d) = _
  rw [← hV]
  simp only [hostOps2]
  after_results_simp
  pointwise
  rw [hV]
  refine (dv_at m ρ c h _ _).trans (congrArg Real.toEReal ?_)
  show (A m c).dv2 r.val (H.val * 64 + d.val) = _
  rw [Nat.mul_comm H.val 64, Args.dv_eq _ d.isLt]

end Cert.AttnEntry

end
-- ==== Proof.AttnReference.lean ====
/- The reference's attention, read over the real numbers: scores, the mask, the row's largest score, the softmax, the output,
   and the derivative as the reference's operations form it. -/
module

public import proofs.«01_k».proof.Proof.AttnBetween
public import proofs.«01_k».proof.Proof.Gen.AttnRefIdeal.Read
public import Idealize.ShloMosaic.Lib.TwoAxisContraction

@[expose] public section

set_option maxRecDepth 16384
set_option maxHeartbeats 400000

noncomputable section

namespace Cert.AttnReference

open Cert.AttnRefIdeal Cert.AttnRefIdeal.Read Cert.AttnMath Cert.Finite Cert.AttnEntry
open Idealize.ShloMosaic Idealize.ShloMosaic.TcCoe Idealize.SL.Sem

theorem div_real {x y : EReal} {a b e : ℝ} (hx : x = (a : EReal)) (hy : y = (b : EReal)) (hb : b ≠ 0) (h : a / b = e) : Ideal.div x y = (e : EReal) := by
  rw [hx, hy, Ideal.div_coe hb, ← EReal.coe_mul, mul_one_div, h]

theorem zeroWord : Ideal.ofBits .f32 0x00000000#32 = ((0 : ℝ) : EReal) := by simp [Ideal.ofBits, Ideal.ieee]
theorem oneWord : Ideal.ofBits .f32 0x3F800000#32 = ((1 : ℝ) : EReal) := by
  simp [Ideal.ofBits, Ideal.ieee]; rw [← EReal.coe_mul]; norm_num

/-- The largest of finitely many values, each a real number or −∞ and one at least real. -/
theorem max_real {n : ℕ} (f : Fin n → EReal) (hf : ∀ i, f i ≠ ⊤) (h : ∃ i, IsReal (f i)) : IsReal (Finset.fold max ⊥ f Finset.univ) := by
  have h1 : Finset.fold max ⊥ f Finset.univ < ⊤ := (Finset.fold_max_lt _).mpr ⟨bot_lt_top, fun i _ => lt_top_iff_ne_top.mpr (hf i)⟩
  have h0 : ⊥ < Finset.fold max ⊥ f Finset.univ := by
    obtain ⟨i, r, hr⟩ := h
    exact (Finset.lt_fold_max _).mpr (.inr ⟨i, Finset.mem_univ i, hr ▸ EReal.bot_lt_coe r⟩)
  exact ⟨_, (EReal.coe_toReal h1.ne h0.ne').symm⟩

/-- The arguments as real functions of their coordinates. -/
structure Reads (A : Args) (x0 : (⟨S4112x8x64, .f32⟩ : BufTy).Contents (Elt Ideal)) (x1 : (⟨S4112x8x32, .f32⟩ : BufTy).Contents (Elt Ideal))
    (x2 : (⟨S4112x8x64, .f32⟩ : BufTy).Contents (Elt Ideal)) (x3 : (⟨S4112x32, .f32⟩ : BufTy).Contents (Elt Ideal))
    (x4 x5 : (⟨S4112x8x64, .f32⟩ : BufTy).Contents (Elt Ideal)) : Prop where
  qn : ∀ i, x0 i = (A.qn (i 0).val (i 1).val (i 2).val : EReal)
  qr : ∀ i, x1 i = (A.qr (i 0).val (i 1).val (i 2).val : EReal)
  kn : ∀ i, x2 i = (A.kn (i 0).val (i 1).val (i 2).val : EReal)
  kr : ∀ i, x3 i = (A.kr (i 0).val (i 1).val : EReal)
  v : ∀ i, x4 i = (A.v (i 0).val (i 1).val (i 2).val : EReal)
  dy : ∀ i, x5 i = (A.dy (i 0).val (i 1).val (i 2).val : EReal)
  c : Ideal.ofBits .f32 0x3DD105EC#32 = (A.c : EReal)

/-! ## The softmax with the row's largest score taken off -/

section

variable (A : Args) (μ : ℕ → ℕ → ℝ)

def weight (h r k : ℕ) : ℝ := if k ≤ r then Real.exp (A.s h r k - μ h r) else 0
def total (h r : ℕ) : ℝ := ∑ k ∈ Finset.range 4112, weight A μ h r k

theorem total_eq (h : ℕ) {r : ℕ} (hr : r < 4112) : total A μ h r = A.Z h r * Real.exp (-μ h r) := by
  unfold total weight Args.Z
  rw [← Finset.sum_filter, Finset.sum_mul, show (Finset.range 4112).filter (fun k => k ≤ r) = Finset.range (r + 1) by ext; simp; omega]
  exact Finset.sum_congr rfl fun k _ => by rw [sub_eq_add_neg, Real.exp_add]
theorem total_pos (h : ℕ) {r : ℕ} (hr : r < 4112) : 0 < total A μ h r := by
  rw [total_eq A μ h hr]; exact mul_pos (A.Z_pos h r) (Real.exp_pos _)
theorem share_eq (h : ℕ) {r : ℕ} (hr : r < 4112) (k : ℕ) : weight A μ h r k / total A μ h r = A.P h r k := by
  rw [total_eq A μ h hr]
  unfold weight Args.P
  split
  · rw [sub_eq_add_neg, Real.exp_add, mul_div_mul_right _ _ (Real.exp_pos _).ne']
  · exact zero_div _

/-- The derivative through the quotient of a weight by the row's total. -/
theorem quotient_eq (h : ℕ) {r : ℕ} (hr : r < 4112) (k : ℕ) :
    (A.dP h r k / total A μ h r + -∑ j ∈ Finset.range 4112, A.dP h r j * (1 / (total A μ h r * total A μ h r)) * weight A μ h r j) * weight A μ h r k = A.ds h r k := by
  have hZ := (total_pos A μ h hr).ne'
  have e : ∑ j ∈ Finset.range 4112, A.dP h r j * (1 / (total A μ h r * total A μ h r)) * weight A μ h r j = A.dl h r / total A μ h r := by
    rw [Args.dl_eq, Finset.sum_div]
    exact Finset.sum_congr rfl fun j _ => by rw [← share_eq A μ h hr j]; field_simp
  rw [e]
  unfold Args.ds
  rw [← share_eq A μ h hr k]
  field_simp
  ring

end

variable {A : Args} {x0 : (⟨S4112x8x64, .f32⟩ : BufTy).Contents (Elt Ideal)} {x1 : (⟨S4112x8x32, .f32⟩ : BufTy).Contents (Elt Ideal)}
  {x2 : (⟨S4112x8x64, .f32⟩ : BufTy).Contents (Elt Ideal)} {x3 : (⟨S4112x32, .f32⟩ : BufTy).Contents (Elt Ideal)}
  {x4 x5 : (⟨S4112x8x64, .f32⟩ : BufTy).Contents (Elt Ideal)} (h : Reads A x0 x1 x2 x3 x4 x5)
include h

theorem scores (i : S8x4112x4112.Idx) : val_main_v5 (F := Ideal) x0 x1 x2 x3 i = (A.s (i 0).val (i 1).val (i 2).val : EReal) := by
  rw [val_main_v5_apply, val_main_v3_apply, val_main_v0_apply, val_main_v2_apply, val_main_v1_apply, val_main_v4_apply, val_main_cst_apply]
  refine prod_real (a := ∑ d ∈ Finset.range 64, A.qn (i 1).val (i 0).val d * A.kn (i 2).val (i 0).val d + ∑ d ∈ Finset.range 32, A.qr (i 1).val (i 0).val d * A.kr (i 2).val d)
    ?_ h.c rfl
  rw [EReal.coe_add]
  refine congrArg₂ (fun a b : EReal => a + b) ?_ ?_
  · exact sum_real (g := fun d => A.qn (i 1).val (i 0).val d * A.kn (i 2).val (i 0).val d) (fun d => prod_real (h.qn _) (h.kn _) rfl) rfl
  · exact sum_real (g := fun d => A.qr (i 1).val (i 0).val d * A.kr (i 2).val d) (fun d => prod_real (h.kr _) (h.qr _) (mul_comm _ _)) rfl

omit h in
theorem masked (i : S8x4112x4112.Idx) (a b : EReal) :
    Scalar.select (val_main_v13_1 (F := Ideal) i) a b = if (i 2).val ≤ (i 1).val then a else b := by
  rw [val_main_v13_1_apply, val_main_v12_apply, val_main_v11_apply, val_main_v9_apply, val_main_v10_apply, val_main_v7_apply, val_main_v8_apply,
    val_main_v6_apply, val_main_v6_apply]
  exact AttnTerms.sel_le (m := 4112) (n := 4112) (by decide) (by decide) (i 2) (i 1) a b

theorem masked_score (i : S8x4112x4112.Idx) :
    val_main_v13_0 (F := Ideal) x0 x1 x2 x3 i = if (i 2).val ≤ (i 1).val then (A.s (i 0).val (i 1).val (i 2).val : EReal) else ⊥ := by
  rw [val_main_v13_0_apply, masked, scores h, val_main_call0_v2_apply, val_main_call0_v0_apply, val_main_cst_0_apply]
  exact congrArg (fun b : EReal => if (i 2).val ≤ (i 1).val then _ else b) Online.negInf

theorem row_max (j : S8x4112.Idx) : IsReal (val_main_v21 (F := Ideal) x0 x1 x2 x3 j) := by
  rw [val_main_v21_apply, val_main_v20_apply, val_main_cst_3_apply]
  have e : val_main_v14 (F := Ideal) x0 x1 x2 x3 j = Finset.fold max ⊥ (fun k : Fin 4112 => val_main_v13_0 (F := Ideal) x0 x1 x2 x3 (ix3 (j 0) (j 1) k)) Finset.univ := by
    idx_vars j
    unfold val_main_v14
    generalize val_main_v13_0 (F := Ideal) x0 x1 x2 x3 = y
    pointwise [val_main_cst_1]
    rw [Online.negInf]
  rw [e]
  show IsReal (max (Ideal.ofBits .f32 0xFF800000#32) _)
  rw [Online.negInf, bot_sup_eq]
  refine max_real _ (fun k => ?_) ⟨0, ?_⟩
  · rw [masked_score h]
    split
    · exact EReal.coe_ne_top _
    · exact bot_ne_top
  · exact ⟨_, (masked_score h _).trans (if_pos (Nat.zero_le _))⟩

variable {μ : ℕ → ℕ → ℝ} (hμ : ∀ j : S8x4112.Idx, val_main_v21 (F := Ideal) x0 x1 x2 x3 j = (μ (j 0).val (j 1).val : EReal))
include hμ

theorem weights (i : S8x4112x4112.Idx) : val_main_v34 (F := Ideal) x0 x1 x2 x3 i = (weight A μ (i 0).val (i 1).val (i 2).val : EReal) := by
  rw [val_main_v34_apply, val_main_v33_apply, masked_score h, val_main_v32_apply, val_main_v31_apply, hμ]
  unfold weight
  split
  · rfl
  · rfl

theorem totals (j : S8x4112.Idx) : val_main_v35 (F := Ideal) x0 x1 x2 x3 j = (total A μ (j 0).val (j 1).val : EReal) := by
  rw [val_main_v35_apply, val_main_cst_9_apply]
  show Ideal.ofBits .f32 0x00000000#32 + _ = _
  rw [zeroWord, EReal.coe_zero, zero_add]
  exact sum_real (g := fun k => weight A μ (j 0).val (j 1).val k) (fun k => weights h hμ _) rfl

theorem shares (i : S8x4112x4112.Idx) : val_main_v38 (F := Ideal) x0 x1 x2 x3 i = (A.P (i 0).val (i 1).val (i 2).val : EReal) := by
  rw [val_main_v38_apply, val_main_v37_apply, val_main_v36_apply]
  exact div_real (weights h hμ i) (totals h hμ _) (total_pos A μ _ (i 1).isLt).ne' (share_eq A μ _ (i 1).isLt _)

theorem out_o (i : S4112x8x64.Idx) : val_main_v43 (F := Ideal) x0 x1 x2 x3 x4 i = (A.o (i 0).val (i 1).val (i 2).val : EReal) := by
  rw [val_main_v43_apply, val_main_v42_apply]
  exact sum_real (g := fun k => A.P (i 1).val (i 0).val k * A.v k (i 1).val (i 2).val) (fun k => prod_real (h.v _) (shares h hμ _) (mul_comm _ _)) rfl

omit hμ in
theorem dprob (i : S8x4112x4112.Idx) : val_main_v45 (F := Ideal) x4 x5 i = (A.dP (i 0).val (i 1).val (i 2).val : EReal) := by
  rw [val_main_v45_apply]
  exact sum_real (g := fun d => A.dy (i 1).val (i 0).val d * A.v (i 2).val (i 0).val d) (fun d => prod_real ((val_main_v44_apply _ _).trans (h.dy _)) (h.v _) rfl) rfl

theorem out_dv (i : S4112x8x64.Idx) : val_main_v47 (F := Ideal) x0 x1 x2 x3 x5 i = (A.dv (i 0).val (i 1).val (i 2).val : EReal) := by
  rw [val_main_v47_apply, val_main_v46_apply]
  exact sum_real (g := fun r => A.P (i 1).val r (i 0).val * A.dy r (i 1).val (i 2).val)
    (fun r => prod_real ((val_main_v44_apply _ _).trans (h.dy _)) (shares h hμ _) (mul_comm _ _)) rfl

theorem square (j : S8x4112x1.Idx) : val_main_v41 (F := Ideal) x0 x1 x2 x3 j
    = ((1 / (total A μ (j 0).val (j 1).val * total A μ (j 0).val (j 1).val) : ℝ) : EReal) := by
  rw [val_main_v41_apply, val_main_v40_apply, val_main_cst_10_apply, val_main_v39_apply, val_main_v36_apply]
  refine div_real (b := total A μ (j 0).val (j 1).val * total A μ (j 0).val (j 1).val) oneWord (prod_real (totals h hμ _) (totals h hμ _) rfl) ?_ rfl
  exact (mul_pos (total_pos A μ _ (j 1).isLt) (total_pos A μ _ (j 1).isLt)).ne'

omit h hμ in
theorem flat_idx (j : S8x4112x1.Idx) : ((idx_main_v52 j) 0).val = (j 0).val ∧ ((idx_main_v52 j) 1).val = (j 1).val := by
  have h0 : (j 0).val < 8 := (j 0).isLt
  have h1 : (j 1).val < 4112 := (j 1).isLt
  have h2 : (j 2).val < 1 := (j 2).isLt
  constructor
  · show (((j 0).val * 4112 + (j 1).val) * 1 + (j 2).val) / 4112 = _; omega
  · show (((j 0).val * 4112 + (j 1).val) * 1 + (j 2).val) % 4112 = _; omega

theorem sums (j : S8x4112.Idx) : val_main_v51 (F := Ideal) x0 x1 x2 x3 x4 x5 j
    = ((∑ k ∈ Finset.range 4112, A.dP (j 0).val (j 1).val k * (1 / (total A μ (j 0).val (j 1).val * total A μ (j 0).val (j 1).val)) * weight A μ (j 0).val (j 1).val k : ℝ) : EReal) := by
  rw [val_main_v51_apply, val_main_cst_11_apply]
  show Ideal.ofBits .f32 0x00000000#32 + _ = _
  rw [zeroWord, EReal.coe_zero, zero_add]
  refine sum_real (fun k => ?_) rfl
  rw [val_main_v50_apply, val_main_v49_apply, val_main_v48_apply]
  exact prod_real (prod_real (dprob h _) (square h hμ _) rfl) (weights h hμ _) rfl

theorem dscore (i : S8x4112x4112.Idx) : val_main_v62 (F := Ideal) x0 x1 x2 x3 x4 x5 i = ((A.ds (i 0).val (i 1).val (i 2).val * A.c : ℝ) : EReal) := by
  rw [val_main_v62_apply, val_main_v61_apply, val_main_cst_13_apply]
  refine prod_real ?_ h.c rfl
  rw [val_main_v60_apply, masked, val_main_call1_v0_apply, val_main_call1_cst_apply]
  have hr := (i 1).isLt
  have e : val_main_v59 (F := Ideal) x0 x1 x2 x3 x4 x5 i = (A.ds (i 0).val (i 1).val (i 2).val : EReal) := by
    rw [val_main_v59_apply, val_main_v58_apply, val_main_v57_apply, val_main_v55_apply, val_main_v54_apply, val_main_v36_apply]
    refine prod_real ?_ (weights h hμ i) (quotient_eq A μ _ hr _)
    rw [EReal.coe_add]
    refine congrArg₂ (fun a b : EReal => a + b) (div_real (dprob h _) (totals h hμ _) (total_pos A μ _ hr).ne' rfl) ?_
    rw [val_main_v56_apply, val_main_cst_12_apply]
    show Ideal.ofBits .f32 0x00000000#32 + _ = _
    rw [zeroWord, EReal.coe_zero, zero_add, Fin.sum_univ_one, val_main_v53_apply, val_main_v52_apply, sums h hμ, EReal.coe_neg,
      (flat_idx _).1, (flat_idx _).2]
    rfl
  split
  · exact e
  · rename_i hk
    unfold Args.ds Args.P
    rw [if_neg hk, zero_mul]
    exact zeroWord

theorem out_dqn (i : S4112x8x64.Idx) : val_main_v69 (F := Ideal) x0 x1 x2 x3 x4 x5 i = (A.dqn (i 0).val (i 1).val (i 2).val : EReal) := by
  rw [val_main_v69_apply, val_main_v68_apply]
  refine sum_real (g := fun k => A.ds (i 1).val (i 0).val k * A.c * A.kn k (i 1).val (i 2).val) (fun k => prod_real (dscore h hμ _) (h.kn _) rfl) ?_
  unfold Args.dqn
  rw [Finset.sum_mul]
  exact Finset.sum_congr rfl fun k _ => by ring

theorem out_dqr (i : S4112x8x32.Idx) : val_main_v64 (F := Ideal) x0 x1 x2 x3 x4 x5 i = (A.dqr (i 0).val (i 1).val (i 2).val : EReal) := by
  rw [val_main_v64_apply]
  refine sum_real (g := fun k => A.ds (i 1).val (i 0).val k * A.c * A.kr k (i 2).val) (fun k => prod_real ((val_main_v63_apply _ _ _ _ _ _ _).trans (dscore h hμ _)) (h.kr _) rfl) ?_
  unfold Args.dqr
  rw [Finset.sum_mul]
  exact Finset.sum_congr rfl fun k _ => by ring

theorem out_dkn (i : S4112x8x64.Idx) : val_main_v67 (F := Ideal) x0 x1 x2 x3 x4 x5 i = (A.dkn (i 0).val (i 1).val (i 2).val : EReal) := by
  rw [val_main_v67_apply, val_main_v66_apply]
  refine sum_real (g := fun r => A.ds (i 1).val r (i 0).val * A.c * A.qn r (i 1).val (i 2).val) (fun k => prod_real (dscore h hμ _) (h.qn _) rfl) ?_
  unfold Args.dkn
  rw [Finset.sum_mul]
  exact Finset.sum_congr rfl fun k _ => by ring

theorem out_dkr (i : S4112x32.Idx) : val_main_v65 (F := Ideal) x0 x1 x2 x3 x4 x5 i = (A.dkr (i 0).val (i 1).val : EReal) := by
  idx_vars i
  have e : val_main_v65 (F := Ideal) x0 x1 x2 x3 x4 x5 (ix2 i0 i1)
      = ∑ a : Fin 4112, ∑ b : Fin 8, (val_main_v63 (F := Ideal) x0 x1 x2 x3 x4 x5 (ix3 i0 a b) : EReal) * x1 (ix3 a b i1) := by
    unfold val_main_v65
    generalize val_main_v63 (F := Ideal) x0 x1 x2 x3 x4 x5 = y
    pointwise
  rw [e]
  refine sum_real (g := fun r => ∑ b ∈ Finset.range 8, A.ds b r i0.val * A.c * A.qr r b i1.val)
    (fun r => sum_real (g := fun b => A.ds b r.val i0.val * A.c * A.qr r.val b i1.val)
      (fun b => prod_real ((val_main_v63_apply _ _ _ _ _ _ _).trans (dscore h hμ _)) (h.qr _) rfl) rfl) ?_
  rw [Finset.sum_comm]
  unfold Args.dkr Args.dkrHead
  exact Finset.sum_congr rfl fun b _ => by
    rw [Finset.sum_mul]
    exact Finset.sum_congr rfl fun r _ => by ring

end Cert.AttnReference

end
-- ==== Proof.AttnClaim.lean ====
/- The attention's claims: from finite arguments the two calls end with the reference's six arrays; both programs leave their
   arguments as they were; the named constants are the reals their words stand for. -/
module

public import proofs.«01_k».proof.Defs
public import proofs.«01_k».proof.Proof.AttnReference
public import proofs.«01_k».proof.Proof.Gen.AttnRefIdeal.Run
public import proofs.«01_k».proof.Proof.Gen.Attn
public import proofs.«01_k».proof.Proof.Gen.AttnIdeal
public import proofs.«01_k».proof.Proof.Gen.AttnRefIdeal
public import proofs.«01_k».proof.Proof.Gen.Pre_attn_finite

@[expose] public section

set_option maxRecDepth 16384
set_option maxHeartbeats 400000

noncomputable section

namespace Cert.AttnClaim

open Cert.AttnIdeal Cert.AttnIdeal.Gen Cert.AttnWhole Cert.AttnMath Cert.Finite Cert.AttnEntry
open Idealize.ShloMosaic Idealize.ShloMosaic.TcCoe Idealize.SL.Sem

/-- The precondition, entry by entry. -/
theorem finite_of_pre (m : (ℓ : Loc nD τ sig) → Buf (Elt Ideal) ℓ) (hpre : Cert.Pre_AttnIdeal_attn_finite m) (c : Dev nD) : Fin6 m c := by
  have h0 := congrFun (hpre c) (fun a => a.elim0)
  unfold Cert.Pre_attn_finite.fn Cert.Pre_attn_finite.fn_part1 at h0
  simp only [andi, IntOp.andi_eq_one] at h0
  obtain ⟨⟨⟨⟨⟨a0, a1⟩, a2⟩, a3⟩, a4⟩, a5⟩ := h0
  haveI : Subsingleton Cert.Pre_attn_finite.S_.Idx := ⟨fun i j => funext fun a => a.elim0⟩
  exact ⟨isReal_of_all _ _ _ _ _ _ a0, isReal_of_all _ _ _ _ _ _ a1, isReal_of_all _ _ _ _ _ _ a2, isReal_of_all _ _ _ _ _ _ a3,
    isReal_of_all _ _ _ _ _ _ a4, isReal_of_all _ _ _ _ _ _ a5⟩

theorem eta3 {a b d : ℕ} (i : (⟨3, ![a, b, d]⟩ : Shape).Idx) : ix3 (i 0) (i 1) (i 2) = i :=
  funext fun k => match k with | ⟨0, _⟩ => rfl | ⟨1, _⟩ => rfl | ⟨2, _⟩ => rfl
theorem eta2 {a b : ℕ} (i : (⟨2, ![a, b]⟩ : Shape).Idx) : ix2 (i 0) (i 1) = i :=
  funext fun k => match k with | ⟨0, _⟩ => rfl | ⟨1, _⟩ => rfl
theorem real3 {a b d : ℕ} {x : (⟨3, ![a, b, d]⟩ : Shape).Idx → EReal} (hx : ∀ i, IsReal (x i)) (i : (⟨3, ![a, b, d]⟩ : Shape).Idx) :
    x i = (re3 x (i 0).val (i 1).val (i 2).val : EReal) := by
  have e := re3_eq hx (i 0) (i 1) (i 2)
  exact (congrArg x (eta3 i).symm).trans e
theorem real2 {a b : ℕ} {x : (⟨2, ![a, b]⟩ : Shape).Idx → EReal} (hx : ∀ i, IsReal (x i)) (i : (⟨2, ![a, b]⟩ : Shape).Idx) :
    x i = (re2 x (i 0).val (i 1).val : EReal) := by
  have e := re2_eq hx (i 0) (i 1)
  exact (congrArg x (eta2 i).symm).trans e

variable (m : (ℓ : Loc nD τ sig) → Buf (Elt Ideal) ℓ) (ρ : Dev nD → PrngReg) (c : Dev nD)

theorem reads (h : Fin6 m c) : Cert.AttnReference.Reads (A m c) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) :=
  ⟨real3 h.h0, real3 h.h1, real3 h.h2, real2 h.h3, real3 h.h4, real3 h.h5, factor_eq⟩

theorem same3 {a b d : ℕ} {x y : (⟨3, ![a, b, d]⟩ : Shape).Idx → EReal} {f : ℕ → ℕ → ℕ → ℝ}
    (hx : ∀ (r : Fin a) (s : Fin b) (t : Fin d), x (ix3 r s t) = (f r.val s.val t.val : EReal)) (hy : ∀ i, y i = (f (i 0).val (i 1).val (i 2).val : EReal)) : x = y :=
  funext fun i => by
    have e := hx (i 0) (i 1) (i 2)
    exact (congrArg x (eta3 i).symm).trans (e.trans (hy i).symm)
theorem same2 {a b : ℕ} {x y : (⟨2, ![a, b]⟩ : Shape).Idx → EReal} {f : ℕ → ℕ → ℝ}
    (hx : ∀ (r : Fin a) (s : Fin b), x (ix2 r s) = (f r.val s.val : EReal)) (hy : ∀ i, y i = (f (i 0).val (i 1).val : EReal)) : x = y :=
  funext fun i => by
    have e := hx (i 0) (i 1)
    exact (congrArg x (eta2 i).symm).trans (e.trans (hy i).symm)

/-- The six arrays, the reference's. -/
theorem outs (h : Fin6 m c) :
    W13 m ρ c main_v40 = Cert.AttnRefIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ W13 m ρ c main_v42 = Cert.AttnRefIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ W13 m ρ c main_v44 = Cert.AttnRefIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ W13 m ρ c main_v37 = Cert.AttnRefIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ W13 m ρ c main_v45 = Cert.AttnRefIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ W13 m ρ c main_v47 = Cert.AttnRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  have hr := reads m c h
  have hμ := real2 (fun j => Cert.AttnReference.row_max hr j)
  exact ⟨same3 (out_o m ρ c h) (Cert.AttnReference.out_o hr hμ), same3 (out_dqn m ρ c h) (Cert.AttnReference.out_dqn hr hμ),
    same3 (out_dqr m ρ c h) (Cert.AttnReference.out_dqr hr hμ), same3 (out_dkn m ρ c h) (Cert.AttnReference.out_dkn hr hμ),
    same2 (out_dkr m ρ c h) (Cert.AttnReference.out_dkr hr hμ), same3 (out_dv m ρ c h) (Cert.AttnReference.out_dv hr hμ)⟩

theorem algebraic : Cert.algebraic_AttnIdeal_AttnRefIdeal_pre_attn_finite :=
  fun m ρ m' ρ' hpre hag => ⟨fun c => W13 m ρ c main_v40, fun c => W13 m ρ c main_v42, fun c => W13 m ρ c main_v44, fun c => W13 m ρ c main_v37,
    fun c => W13 m ρ c main_v45, fun c => W13 m ρ c main_v47,
    (θ_run defs _ _).mono (fun r h c =>
      have e : ∀ a ∈ argRefs, ¬ (Proc.devRef .tc a : DevRef τ sig).isScoped → r.2.mem ((c.tc : Thread nD τ).loc a) = m ((c.tc : Thread nD τ).loc a) :=
        fun a ha hu => (h.1 c _ (mem_uc a hu)).trans (args_kept m ρ c a ha)
      ⟨h.1 c _ (mem_uc main_v40 (by decide)), h.1 c _ (mem_uc main_v42 (by decide)), h.1 c _ (mem_uc main_v44 (by decide)), h.1 c _ (mem_uc main_v37 (by decide)),
        h.1 c _ (mem_uc main_v45 (by decide)), h.1 c _ (mem_uc main_v47 (by decide)),
        e _ (by decide) (by decide), e _ (by decide) (by decide), e _ (by decide) (by decide), e _ (by decide) (by decide),
        e _ (by decide) (by decide), e _ (by decide) (by decide)⟩) (run m ρ),
    (θ_run _ _ _).mono (fun _ h c => by
      obtain ⟨a0, a1, a2, a3, a4, a5⟩ := hag c
      obtain ⟨r0, r1, r2, r3, r4, r5, h'⟩ := h c
      obtain ⟨o0, o1, o2, o3, o4, o5⟩ := outs m ρ c (finite_of_pre m hpre c)
      refine ⟨r0.trans (Eq.trans ?_ o0.symm), r1.trans (Eq.trans ?_ o1.symm), r2.trans (Eq.trans ?_ o2.symm), r3.trans (Eq.trans ?_ o3.symm),
        r4.trans (Eq.trans ?_ o4.symm), r5.trans (Eq.trans ?_ o5.symm), h'⟩
      · rw [← a0, ← a1, ← a2, ← a3, ← a4]; rfl
      · rw [← a0, ← a1, ← a2, ← a3, ← a4, ← a5]; rfl
      · rw [← a0, ← a1, ← a2, ← a3, ← a4, ← a5]; rfl
      · rw [← a0, ← a1, ← a2, ← a3, ← a4, ← a5]; rfl
      · rw [← a0, ← a1, ← a2, ← a3, ← a4, ← a5]; rfl
      · rw [← a0, ← a1, ← a2, ← a3, ← a5]; rfl) (Cert.AttnRefIdeal.Value.run m' ρ')⟩

/-- The reference ends without fault, its arguments as they were. -/
theorem frame_ref : Cert.quiescent_AttnRefIdeal := fun m ρ _ =>
  (θ_run Cert.AttnRefIdeal.defs _ _).mono (fun r h => ⟨fun c => (h c).2.2.2.2.2.2, sem_eq_zero_of_no_sems (by decide) r.2⟩)
    (Cert.AttnRefIdeal.Value.run (F := Ideal) m ρ)

theorem preserves : Cert.preserves_Attn_AttnIdeal :=
  ⟨IdealRules.named_const.statement Cert.AttnIdeal.κ "log2_e" .f32 0x3FB8AA3B#32 (((Real.log 2)⁻¹ : ℝ) : EReal) rfl,
    IdealRules.named_const.statement Cert.AttnIdeal.κ "ln_2" .f32 0x3F317218#32 ((Real.log 2 : ℝ) : EReal) rfl⟩

end Cert.AttnClaim

end
-- ==== Proof.AttnFrame.lean ====
/- The attention as printed over the words of floats: the run of the program over the extended reals, taken where a named
   constant stands for its word. -/
module

public import proofs.«01_k».proof.Defs
public import proofs.«01_k».proof.Proof.AttnRun
public import proofs.«01_k».proof.Proof.Gen.Attn

@[expose] public section

set_option maxRecDepth 16384

noncomputable section

namespace Cert.AttnFrame

open Idealize.ShloMosaic Idealize.ShloMosaic.TcCoe Idealize.SL.Sem

/-- Over words, a named constant is its word. -/
local instance words : Named Bits where
  named _ _ {φ} bits := FloatOps.ofBits φ bits

section

open Cert.AttnIdeal

/-- The frame of the program whose constants are named, over words. -/
def Named.Frame : Prop := ∀ (m : (ℓ : Loc nD τ sig) → Buf (Elt Bits) ℓ) (ρ : Dev nD → PrngReg), True →
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

end

/-- Over words the two programs are one. -/
theorem same : Cert.quiescent_Attn = Named.Frame := by sl_kernel_rfl

theorem frame : Cert.quiescent_Attn := same.mpr fun m ρ _ => Cert.AttnWhole.frame (F := Bits) m ρ

end Cert.AttnFrame

end
-- ==== Proof.NormBlocks.lean ====
/- The channel mixer's norm backward: what the call leaves in its two result arrays, as a function of the arrays it
   finds. A point computes its own 384 rows of the gradient, and adds its rows to the scale's. -/
module

public import proofs.«01_k».proof.Proof.Gen.NormIdeal.Frame
public import Idealize.ShloMosaic.Lib.Pipeline.ValueKit
public import Idealize.ShloMosaic.Lib.Pointwise
public import Idealize.ShloMosaic.Lib.Claim

@[expose] public section

set_option maxRecDepth 16384

noncomputable section

namespace Cert.NormIdeal.Blocks

open Cert.NormIdeal Cert.NormIdeal.Gen
open Idealize.ShloMosaic Idealize.ShloMosaic.TcCoe Idealize.SL.Sem Idealize.ShloMosaic.Pipeline

theorem idx : ∀ t : Fin cfg0.N, win0_0.index t = ![t.val, 0] ∧ win0_1.index t = ![t.val, 0] ∧ win0_2.index t = ![0, 0, 0, 0] ∧ win0_3.index t = ![0, 0, 0, 0]
    ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- A row of a cotangent against the eight stacked pieces of a weight. -/
def against (a : Fin 2816 → EReal) (w : FVec Ideal S8x1x352x1024 .bf16) (k : Fin 1024) : EReal :=
  ∑ p : Fin 2816, a p * w (ix4 (⟨p.val / 352, by omega⟩ : Fin 8) 0 (⟨p.val % 352, Nat.mod_lt _ (by decide)⟩ : Fin 352) k)

/-- The inverse root of a row's mean square. -/
def inv (x : Fin 1024 → EReal) : EReal :=
  Ideal.rsqrt (Ideal.div (∑ k, x k * x k) (Ideal.ofBits .f32 0x44800000#32) + Ideal.ofBits .f32 0x358637BD#32)

/-- A row's gradient: from the cotangent of the normed row, the row, the scale and the residual's cotangent. -/
def rowGrad (d x g e : Fin 1024 → EReal) (k : Fin 1024) : EReal :=
  inv x * (d k * g k - x k * inv x * Ideal.div (∑ l, d l * g l * (x l * inv x)) (Ideal.ofBits .f32 0x44800000#32)) + e k

/-- A block's cotangent of the normed rows. -/
theorem da_at (v0 : Vec Ideal S384x2816 .bf16) (v2 : Vec Ideal S8x1x352x1024 .bf16) (v6 : Vec Ideal S384x2816 .bf16) (v8 : Vec Ideal S8x1x352x1024 .bf16) (r : Fin 384) (k : Fin 1024) :
    k0_pay2 (F := Ideal) v0 v2 v6 v8 (ix2 r k) = against (fun p => v0 (ix2 r p)) v2 k + against (fun p => v6 (ix2 r p)) v8 k := by
  pointwise [k0_pay2, against]

theorem inv_at (x : Vec Ideal S384x1024 .f32) (r : Fin 384) : k0_pay4 (F := Ideal) x (ix2 r 0) = inv fun k => x (ix2 r k) := by
  pointwise [k0_pay4, k0_pay3, inv]

theorem unit_at (x : Vec Ideal S384x1024 .f32) (r : Fin 384) (k : Fin 1024) :
    k0_pay5 (F := Ideal) x (ix2 r k) = x (ix2 r k) * inv fun k => x (ix2 r k) := by
  rw [← inv_at]
  unfold k0_pay5
  generalize k0_pay4 x = z
  pointwise [k0_pay3]

theorem zero_at (j : S1x1024.Idx) : k0_pay6 (F := Ideal) j = 0 := by pointwise [k0_pay6]

/-- A block's step of the scale's gradient. -/
theorem sum_at (v0 : Vec Ideal S384x2816 .bf16) (v2 : Vec Ideal S8x1x352x1024 .bf16) (v6 : Vec Ideal S384x2816 .bf16) (v8 : Vec Ideal S8x1x352x1024 .bf16) (x : Vec Ideal S384x1024 .f32) (acc : Vec Ideal S1x1024 .f32) (j : S1x1024.Idx) :
    k0_pay7 (F := Ideal) v0 v2 v6 v8 x acc j = acc j + ∑ r : Fin 384, (against (fun p => v0 (ix2 r p)) v2 (j 1) + against (fun p => v6 (ix2 r p)) v8 (j 1))
      * (x (ix2 r (j 1)) * inv fun k => x (ix2 r k)) := by
  have e : ∀ r : Fin 384, (against (fun p => v0 (ix2 r p)) v2 (j 1) + against (fun p => v6 (ix2 r p)) v8 (j 1)) * (x (ix2 r (j 1)) * inv fun k => x (ix2 r k))
      = k0_pay2 (F := Ideal) v0 v2 v6 v8 (ix2 r (j 1)) * k0_pay5 (F := Ideal) x (ix2 r (j 1)) := fun r =>
    (congrArg₂ (· * ·) (da_at v0 v2 v6 v8 r (j 1)) (unit_at x r (j 1))).symm
  refine Eq.trans ?_ (congrArg (acc j + ·) (Finset.sum_congr rfl fun r _ => (e r).symm))
  unfold k0_pay7
  generalize k0_pay5 x = z
  generalize k0_pay2 v0 v2 v6 v8 = w
  idx_vars j
  pointwise

/-- A block's gradient of its rows. -/
theorem grad_at (v0 : Vec Ideal S384x2816 .bf16) (v2 : Vec Ideal S8x1x352x1024 .bf16) (v6 : Vec Ideal S384x2816 .bf16) (v8 : Vec Ideal S8x1x352x1024 .bf16) (x : Vec Ideal S384x1024 .f32) (g : Vec Ideal S1x1024 .f32) (e : Vec Ideal S384x1024 .f32) (r : Fin 384) (k : Fin 1024) :
    k0_pay1 (F := Ideal) (k0_pay2 v0 v2 v6 v8) (k0_pay4 x) (k0_pay5 x) g e (ix2 r k)
      = rowGrad (fun l => against (fun p => v0 (ix2 r p)) v2 l + against (fun p => v6 (ix2 r p)) v8 l) (fun l => x (ix2 r l)) (fun l => g (ix2 0 l)) (fun l => e (ix2 r l)) k := by
  unfold rowGrad
  simp only [← da_at]
  rw [← inv_at]
  unfold k0_pay5
  generalize k0_pay2 v0 v2 v6 v8 = w
  generalize k0_pay4 x = q
  pointwise [k0_pay1, k0_pay3]

variable (m : (ℓ : Loc nD τ sig) → Buf (Elt Ideal) ℓ) (c : Dev nD)

theorem gate_weight (t : Fin cfg0.N) : iblk m c 2 t = V m c main_v4 := funext fun y => by blk_point [iblk, idx t]
theorem up_weight (t : Fin cfg0.N) : iblk m c 3 t = V m c main_v9 := funext fun y => by blk_point [iblk, idx t]
theorem scale (t : Fin cfg0.N) : iblk m c 5 t = V m c main_v11 := funext fun y => by blk_point [iblk, idx t]

variable (t : Fin cfg0.N) (r : Fin 384) (R : Fin 4224) (hR : R.val = t.val * 384 + r.val)
include hR

theorem gate_row (p : Fin 2816) : iblk m c 0 t (ix2 r p) = V m c main_v1 (ix2 R p) := by
  obtain ⟨R, hR'⟩ := R; obtain rfl : R = t.val * 384 + r.val := hR; blk_point [iblk, idx t]
theorem up_row (p : Fin 2816) : iblk m c 1 t (ix2 r p) = V m c main_v6 (ix2 R p) := by
  obtain ⟨R, hR'⟩ := R; obtain rfl : R = t.val * 384 + r.val := hR; blk_point [iblk, idx t]
theorem state_row (k : Fin 1024) : iblk m c 4 t (ix2 r k) = V m c main_v10 (ix2 R k) := by
  obtain ⟨R, hR'⟩ := R; obtain rfl : R = t.val * 384 + r.val := hR; blk_point [iblk, idx t]
theorem rest_row (k : Fin 1024) : iblk m c 6 t (ix2 r k) = V m c main_v12 (ix2 R k) := by
  obtain ⟨R, hR'⟩ := R; obtain rfl : R = t.val * 384 + r.val := hR; blk_point [iblk, idx t]

/-- The cotangent of the normed row, from the arrays the call finds. -/
def da (R : Fin 4224) (k : Fin 1024) : EReal :=
  against (fun p => V m c main_v1 (ix2 R p)) (V m c main_v4) k + against (fun p => V m c main_v6 (ix2 R p)) (V m c main_v9) k

theorem da_blk (k : Fin 1024) : against (fun p => iblk m c 0 t (ix2 r p)) (iblk m c 2 t) k + against (fun p => iblk m c 1 t (ix2 r p)) (iblk m c 3 t) k = da m c R k := by
  rw [gate_weight, up_weight, funext (gate_row m c t r R hR), funext (up_row m c t r R hR)]
  rfl

omit hR in
/-- The gradient of the rows. -/
theorem dx_arr : (dats m 0 c).arrAt 7 cfg0.N = fun y : S4224x1024.Idx =>
    rowGrad (da m c (y 0)) (fun l => V m c main_v10 (ix2 (y 0) l)) (fun l => V m c main_v11 (ix2 0 l)) (fun l => V m c main_v12 (ix2 (y 0) l)) (y 1) := by
  refine (dats m 0 c).arrAt_eq_of_covers 7 _ (by decide +kernel) fun t _ y => ?_
  blk_simp
  rw [after0_7]
  have e : ∀ (v0 v6 : Vec Ideal S384x2816 .bf16) (v2 v8 : Vec Ideal S8x1x352x1024 .bf16) (x : Vec Ideal S384x1024 .f32) (g : Vec Ideal S1x1024 .f32) (e : Vec Ideal S384x1024 .f32),
      v0 = iblk m c 0 t → v6 = iblk m c 1 t → v2 = iblk m c 2 t → v8 = iblk m c 3 t → x = iblk m c 4 t → g = iblk m c 5 t → e = iblk m c 6 t →
      ∀ (R : Fin 4224) (K : Fin 1024), R.val = t.val * 384 + (y 0).val → K.val = (y 1).val →
      k0_pay1 (F := Ideal) (k0_pay2 v0 v2 v6 v8) (k0_pay4 x) (k0_pay5 x) g e y
        = rowGrad (da m c R) (fun l => V m c main_v10 (ix2 R l)) (fun l => V m c main_v11 (ix2 0 l)) (fun l => V m c main_v12 (ix2 R l)) K := by
    rintro _ _ _ _ _ _ _ rfl rfl rfl rfl rfl rfl rfl R K hR hK
    obtain rfl : K = y 1 := Fin.ext hK
    refine (congrArg _ (ix2_eta y).symm).trans ((grad_at _ _ _ _ _ _ _ (y 0) (y 1)).trans ?_)
    rw [funext (da_blk m c t (y 0) R hR), scale, funext (state_row m c t (y 0) R hR), funext (rest_row m c t (y 0) R hR)]
  by_cases h : t.val % 11 = 0
  · rw [outsAt0_A m c t h]; frame_out
    exact e _ _ _ _ _ _ _ rfl rfl rfl rfl rfl rfl rfl _ _ (by blk_simp [idx t]) (by blk_simp [idx t])
  · rw [outsAt0_B m c t h]; frame_out
    exact e _ _ _ _ _ _ _ rfl rfl rfl rfl rfl rfl rfl _ _ (by blk_simp [idx t]) (by blk_simp [idx t])

/-- The scale's gradient at a feature: the normed rows against their cotangents. -/
def scaleGrad (d x : Fin 4224 → Fin 1024 → EReal) (k : Fin 1024) : EReal := ∑ R : Fin 4224, d R k * (x R k * inv (x R))

omit hR in
/-- The gradient of the scale. -/
theorem dg_arr : (dats m 0 c).arrAt 8 cfg0.N = fun y : S1x1024.Idx => scaleGrad (da m c) (fun R l => V m c main_v10 (ix2 R l)) (y 1) := by
  refine (dats m 0 c).arrAt_eq_of_after_last 8 t0_10 (by decide +kernel) _ fun j => ?_
  blk_simp
  rw [after0_8, Pipeline.eq_sum_fin_of_reset_step_apply_last (fun n h => (outsAt0 m c n h).2) 11 (fun _ => 0) _
    (fun t h j => by rw [outsAt0_A m c t h]; frame_out; rw [sum_at, zero_at])
    (fun t h j => by rw [outsAt0_B m c t h]; frame_out; rw [sum_at])
    (le_of_eq N_0) t0_10 rfl j, zero_add]
  refine Fin.sum_mul_add_congr fun t r h => ?_
  refine congrArg₂ (· * ·) (da_blk m c t r ⟨t.val * 384 + r.val, h⟩ rfl (j 1)) ?_
  refine congrArg₂ (· * ·) (state_row m c t r ⟨t.val * 384 + r.val, h⟩ rfl (j 1)) ?_
  rw [funext (state_row m c t r ⟨t.val * 384 + r.val, h⟩ rfl)]

end Cert.NormIdeal.Blocks

end
-- ==== Proof.NormMath.lean ====
/- The norm's gradient of a row, as the call writes it out and as the derivative gives it: the same number wherever the
   row, the scale and the cotangent are finite. -/
module

public import proofs.«01_k».proof.Proof.NormBlocks
public import proofs.«01_k».proof.Proof.Finite

@[expose] public section

noncomputable section

namespace Cert.NormMath

open Cert.NormIdeal.Blocks Cert.Finite Idealize.ShloMosaic

/-- A row's mean square, and the small constant. -/
def square (x : Fin 1024 → EReal) : EReal :=
  Ideal.div (∑ k, x k * x k) (Ideal.ofBits .f32 0x44800000#32) + Ideal.ofBits .f32 0x358637BD#32

/-- What the derivative sends back through the mean square, once per factor of the square. -/
def through (d x g : Fin 1024 → EReal) : EReal :=
  Ideal.div ((∑ l, x l * (d l * g l)) * (Ideal.ofBits .f32 0xBF000000#32 * Ideal.div (inv x) (square x))) (Ideal.ofBits .f32 0x44800000#32)

/-- A row's gradient as the derivative gives it. -/
def derived (d x g e : Fin 1024 → EReal) (k : Fin 1024) : EReal :=
  e k + d k * g k * inv x + x k * through d x g + through d x g * x k

theorem width_word : Ideal.ofBits .f32 0x44800000#32 = ((1024 : ℝ) : EReal) := by
  simp [Ideal.ofBits, Ideal.ieee]; rw [← EReal.coe_mul]; norm_num
theorem half_word : Ideal.ofBits .f32 0xBF000000#32 = ((-(1 / 2) : ℝ) : EReal) := by
  simp [Ideal.ofBits, Ideal.ieee]; rw [← EReal.coe_mul]; norm_num

/-- The norm's small constant is a positive real number. -/
theorem small_word : ∃ ε : ℝ, 0 < ε ∧ Ideal.ofBits .f32 0x358637BD#32 = (ε : EReal) := by
  refine ⟨8796093 * (1 / 8796093022208), by norm_num, ?_⟩
  simp [Ideal.ofBits, Ideal.ieee]; norm_num

theorem coe_sum {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A finite row's mean square is a positive real number, and its inverse root the real one. -/
theorem square_real (X : Fin 1024 → ℝ) : ∃ r M : ℝ, M ≠ 0 ∧ r * r = 1 / M ∧ square (fun k => (X k : EReal)) = (M : EReal) ∧ inv (fun k => (X k : EReal)) = (r : EReal) := by
  obtain ⟨ε, hε, e⟩ := small_word
  have hM : 0 < (∑ k, X k * X k) * (1 / 1024) + ε := by
    have : 0 ≤ ∑ k, X k * X k := Finset.sum_nonneg fun k _ => mul_self_nonneg _
    positivity
  have hs : square (fun k => (X k : EReal)) = (((∑ k, X k * X k) * (1 / 1024) + ε : ℝ) : EReal) := by
    unfold square
    simp only [← EReal.coe_mul]
    rw [coe_sum, width_word, Ideal.div_coe (by norm_num), e, ← EReal.coe_mul, ← EReal.coe_add]
  refine ⟨(Real.sqrt ((∑ k, X k * X k) * (1 / 1024) + ε))⁻¹, _, hM.ne', ?_, hs, ?_⟩
  · rw [← mul_inv, Real.mul_self_sqrt hM.le, inv_eq_one_div]
  · show Ideal.rsqrt (square fun k => (X k : EReal)) = _
    rw [hs, Ideal.rsqrt_coe, if_neg (not_lt.mpr hM.le), if_neg hM.ne']

/-- The two ways to write the row's gradient agree. -/
theorem row_eq (d x g e : Fin 1024 → EReal) (hd : ∀ k, IsReal (d k)) (hx : ∀ k, IsReal (x k)) (hg : ∀ k, IsReal (g k)) (k : Fin 1024) :
    rowGrad d x g e k = derived d x g e k := by
  choose D hD using hd
  choose X hX using hx
  choose G hG using hg
  obtain rfl : d = fun k => (D k : EReal) := funext hD
  obtain rfl : x = fun k => (X k : EReal) := funext hX
  obtain rfl : g = fun k => (G k : EReal) := funext hG
  obtain ⟨r, M, hM, hr, es, ei⟩ := square_real X
  have hS : ∑ l, D l * G l * (X l * r) = (∑ l, X l * (D l * G l)) * r := by
    rw [Finset.sum_mul]
    exact Finset.sum_congr rfl fun l _ => by ring
  unfold rowGrad derived through
  rw [es, ei, width_word, half_word]
  simp only [← EReal.coe_mul, coe_sum, Ideal.div_coe hM, Ideal.div_coe (show (1024 : ℝ) ≠ 0 by norm_num), ← EReal.coe_sub]
  rw [hS, ← hr, add_assoc, add_assoc, ← EReal.coe_add, add_comm (e k) _, ← EReal.coe_add]
  congr 2
  ring

end Cert.NormMath

end
-- ==== Proof.NormEquation.lean ====
/- The channel mixer's norm backward against the derivative of the reference's lines: the same two arrays where the
   states, the scale, the weights and the products' cotangents are finite. -/
module

public import proofs.«01_k».proof.Proof.NormBlocks
public import proofs.«01_k».proof.Proof.NormMath
public import proofs.«01_k».proof.Proof.Gen.Pre_norm_finite
public import proofs.«01_k».proof.Proof.Gen.NormRefIdeal.Read

@[expose] public section

set_option maxRecDepth 16384

noncomputable section

namespace Cert.NormEquation

open Cert.NormIdeal Cert.NormIdeal.Gen Cert.NormIdeal.Blocks Cert.NormMath Cert.Finite
open Idealize.ShloMosaic Idealize.ShloMosaic.TcCoe Idealize.SL.Sem Idealize.ShloMosaic.StableHlo
open Cert.NormRefIdeal.Read

/-- Rows of the sequence, followed by rows of zeros. -/
abbrev rows (X : FVec Ideal S4112x1024 .f32) : FVec Ideal S4224x1024 .f32 :=
  pad S4224x1024 ![0, 0] ![112, 0] ![0, 0] X (sitofp .f32 (constantI S_ 32 0#32)) pads_S4112x1024_S4224x1024_01120_000 h_S_

/-- A product's cotangent, cast, its rows followed by rows of zeros. -/
abbrev wide (A : FVec Ideal S4112x2816 .f32) : FVec Ideal S4224x2816 .bf16 :=
  truncf .bf16 (pad S4224x2816 ![0, 0] ![112, 0] ![0, 0] A (sitofp .f32 (constantI S_ 32 0#32)) pads_S4112x2816_S4224x2816_01120_000 h_S_) bitsLt_bf16_f32

/-- A weight in the eight pieces in which it is gathered. -/
abbrev pieces (W : FVec Ideal S1024x2816 .f32) : FVec Ideal S8x1x352x1024 .bf16 :=
  shapeCast S8x1x352x1024 (truncf (F := Ideal) .bf16 (transpose S2816x1024 [1, 0] W transposes_S1024x2816_S2816x1024_1_0) bitsLt_bf16_f32) shapeCasts_S2816x1024_S8x1x352x1024

variable (m : (ℓ : Loc nD τ sig) → Buf (Elt Ideal) ℓ) (c : Dev nD)

theorem v1 : V m c main_v1 = wide (m ((c : Thread nD τ).loc main_arg4)) := by
  simp only [V, hostOps0, hostOps0_1, hostOps0_2, hostOps0_3, hostOps0_4, hostOps0_5, hostOps0_6, hostOps0_7, List.flatten_cons, List.flatten_nil, List.append_nil, List.cons_append, List.nil_append, TRef.binary, TRef.nullary, TRef.unary, TRef.toBuf, TRef.ofBuf, cast_eq]
  after_results_simp
theorem v6 : V m c main_v6 = wide (m ((c : Thread nD τ).loc main_arg5)) := by
  simp only [V, hostOps0, hostOps0_1, hostOps0_2, hostOps0_3, hostOps0_4, hostOps0_5, hostOps0_6, hostOps0_7, List.flatten_cons, List.flatten_nil, List.append_nil, List.cons_append, List.nil_append, TRef.binary, TRef.nullary, TRef.unary, TRef.toBuf, TRef.ofBuf, cast_eq]
  after_results_simp
theorem v4 : V m c main_v4 = pieces (m ((c : Thread nD τ).loc main_arg2)) := by
  simp only [V, hostOps0, hostOps0_1, hostOps0_2, hostOps0_3, hostOps0_4, hostOps0_5, hostOps0_6, hostOps0_7, List.flatten_cons, List.flatten_nil, List.append_nil, List.cons_append, List.nil_append, TRef.binary, TRef.nullary, TRef.unary, TRef.toBuf, TRef.ofBuf, cast_eq]
  after_results_simp
  rfl
theorem v9 : V m c main_v9 = pieces (m ((c : Thread nD τ).loc main_arg3)) := by
  simp only [V, hostOps0, hostOps0_1, hostOps0_2, hostOps0_3, hostOps0_4, hostOps0_5, hostOps0_6, hostOps0_7, List.flatten_cons, List.flatten_nil, List.append_nil, List.cons_append, List.nil_append, TRef.binary, TRef.nullary, TRef.unary, TRef.toBuf, TRef.ofBuf, cast_eq]
  after_results_simp
  rfl
theorem v10 : V m c main_v10 = rows (m ((c : Thread nD τ).loc main_arg0)) := by
  simp only [V, hostOps0, hostOps0_1, hostOps0_2, hostOps0_3, hostOps0_4, hostOps0_5, hostOps0_6, hostOps0_7, List.flatten_cons, List.flatten_nil, List.append_nil, List.cons_append, List.nil_append, TRef.binary, TRef.nullary, TRef.unary, TRef.toBuf, TRef.ofBuf, cast_eq]
  after_results_simp
theorem v11 : V m c main_v11 = shapeCast S1x1024 (m ((c : Thread nD τ).loc main_arg1)) shapeCasts_S1024_S1x1024 := by
  simp only [V, hostOps0, hostOps0_1, hostOps0_2, hostOps0_3, hostOps0_4, hostOps0_5, hostOps0_6, hostOps0_7, List.flatten_cons, List.flatten_nil, List.append_nil, List.cons_append, List.nil_append, TRef.binary, TRef.nullary, TRef.unary, TRef.toBuf, TRef.ofBuf, cast_eq]
  after_results_simp
  rfl
theorem v12 : V m c main_v12 = rows (m ((c : Thread nD τ).loc main_arg6)) := by
  simp only [V, hostOps0, hostOps0_1, hostOps0_2, hostOps0_3, hostOps0_4, hostOps0_5, hostOps0_6, hostOps0_7, List.flatten_cons, List.flatten_nil, List.append_nil, List.cons_append, List.nil_append, TRef.binary, TRef.nullary, TRef.unary, TRef.toBuf, TRef.ofBuf, cast_eq]
  after_results_simp

theorem zero_word : (FloatOps.sitofp (F := Ideal) FTy.f32 0#32 : EReal) = 0 := by
  show (((0#32 : BitVec 32).toInt : ℝ) : EReal) = 0
  simp

variable (H : FVec Ideal S4112x1024 .f32) (g : FVec Ideal S1024 .f32) (W U : FVec Ideal S1024x2816 .f32) (A B : FVec Ideal S4112x2816 .f32) (E : FVec Ideal S4112x1024 .f32)

theorem rows_at (R : Fin 4224) (k : Fin 1024) : rows H (ix2 R k) = if h : R.val < 4112 then H (ix2 ⟨R.val, h⟩ k) else 0 := by
  pointwise
  simp only [zero_word]

theorem wide_at (R : Fin 4224) (k : Fin 2816) : wide A (ix2 R k) = if h : R.val < 4112 then A (ix2 ⟨R.val, h⟩ k) else 0 := by
  pointwise
  simp only [zero_word]

theorem piece_at (p : Fin 2816) (k : Fin 1024) : pieces W (ix4 (⟨p.val / 352, by omega⟩ : Fin 8) 0 (⟨p.val % 352, Nat.mod_lt _ (by decide)⟩ : Fin 352) k) = W (ix2 k p) := by
  pointwise

/-- The cotangent of the normed rows. -/
def cot (R : Fin 4112) (k : Fin 1024) : EReal := ∑ p, B (ix2 R p) * U (ix2 k p) + ∑ p, A (ix2 R p) * W (ix2 k p)

theorem against_at (R : Fin 4224) (k : Fin 1024) : against (fun p => wide A (ix2 R p)) (pieces W) k
    = if h : R.val < 4112 then ∑ p, A (ix2 ⟨R.val, h⟩ p) * W (ix2 k p) else 0 := by
  unfold against
  simp only [piece_at, wide_at]
  by_cases h : R.val < 4112
  · simp only [dif_pos h]
  · simp only [dif_neg h, zero_mul, Finset.sum_const_zero]

/-- The call's cotangent of the normed rows: the reference's, and zero in the rows of the padding. -/
theorem cot_at (R : Fin 4224) (k : Fin 1024) : against (fun p => wide A (ix2 R p)) (pieces W) k + against (fun p => wide B (ix2 R p)) (pieces U) k
    = if h : R.val < 4112 then cot W U A B ⟨R.val, h⟩ k else 0 := by
  rw [against_at, against_at]
  by_cases h : R.val < 4112
  · simp only [dif_pos h]; exact add_comm _ _
  · simp only [dif_neg h, add_zero]

theorem da_eq : da m c = fun R k => if h : R.val < 4112 then cot (m ((c : Thread nD τ).loc main_arg2)) (m ((c : Thread nD τ).loc main_arg3)) (m ((c : Thread nD τ).loc main_arg4)) (m ((c : Thread nD τ).loc main_arg5)) ⟨R.val, h⟩ k else 0 := by
  funext R k
  rw [← cot_at]
  unfold da
  rw [v1, v4, v6, v9]

theorem cot_real (hW : ∀ i, IsReal (W i)) (hU : ∀ i, IsReal (U i)) (hA : ∀ i, IsReal (A i)) (hB : ∀ i, IsReal (B i)) (R : Fin 4112) (k : Fin 1024) :
    IsReal (cot W U A B R k) :=
  (IsReal.sum _ _ fun p _ => (hB _).mul (hU _)).add (IsReal.sum _ _ fun p _ => (hA _).mul (hW _))

/-- The reference's gradient of a row, before the padding. -/
theorem row_at (R : Fin 4112) (k : Fin 1024) : val_main_v41 (F := Ideal) H g W U A B E (ix2 R k)
    = derived (cot W U A B R) (fun l => H (ix2 R l)) (fun l => g (ix1 l)) (fun l => E (ix2 R l)) k := by
  pointwise [val_main_v41, val_main_v40, val_main_v39, val_main_v38, val_main_v37, val_main_v36, val_main_v35, val_main_v34, val_main_v33, val_main_v32, val_main_v31, val_main_v30, val_main_v29, val_main_v28, val_main_v27, val_main_v25, val_main_v24, val_main_v20, val_main_v19, val_main_v18, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  rw [Fin.sum_univ_one]
  rfl

/-- The call's gradient of the rows is the reference's. -/
theorem grad_eq (hH : ∀ i, IsReal (H i)) (hg : ∀ i, IsReal (g i)) (hW : ∀ i, IsReal (W i)) (hU : ∀ i, IsReal (U i)) (hA : ∀ i, IsReal (A i)) (hB : ∀ i, IsReal (B i))
    (R : Fin 4224) (k : Fin 1024) :
    rowGrad (fun k => if h : R.val < 4112 then cot W U A B ⟨R.val, h⟩ k else 0) (fun l => rows H (ix2 R l)) (fun l => shapeCast S1x1024 g shapeCasts_S1024_S1x1024 (ix2 0 l)) (fun l => rows E (ix2 R l)) k
      = val_main_v42 (F := Ideal) H g W U A B E (ix2 R k) := by
  have e : (fun l => shapeCast S1x1024 g shapeCasts_S1024_S1x1024 (ix2 0 l)) = fun l => g (ix1 l) := funext fun l => by pointwise
  rw [e]
  have e' : val_main_v42 (F := Ideal) H g W U A B E (ix2 R k) = if h : R.val < 4112 then val_main_v41 (F := Ideal) H g W U A B E (ix2 ⟨R.val, h⟩ k) else 0 := by
    unfold val_main_v42
    generalize val_main_v41 (F := Ideal) H g W U A B E = z
    pointwise [val_main_c, val_main_call0_v0]
    simp only [zero_word]
  rw [e']
  simp only [rows_at]
  by_cases h : R.val < 4112
  · simp only [dif_pos h]
    rw [row_at]
    exact row_eq _ _ _ _ (fun k => cot_real W U A B hW hU hA hB _ k) (fun k => hH _) (fun k => hg _) k
  · simp only [dif_neg h]
    unfold rowGrad
    simp only [zero_mul, sub_zero, mul_zero, add_zero]

/-- The call's gradient of the scale is the reference's. -/
theorem scale_eq (k : Fin 1024) :
    scaleGrad (fun R k => if h : R.val < 4112 then cot W U A B ⟨R.val, h⟩ k else 0) (fun R l => rows H (ix2 R l)) k
      = val_main_v43 (F := Ideal) H W U A B (ix2 0 k) := by
  have e : val_main_v43 (F := Ideal) H W U A B (ix2 0 k) = ∑ R : Fin 4112, H (ix2 R k) * inv (fun l => H (ix2 R l)) * cot W U A B R k := by
    pointwise [val_main_v43, val_main_v26, val_main_v23, val_main_v22, val_main_v21, val_main_v12, val_main_v11, val_main_v20, val_main_v19, val_main_v18, val_main_v7, val_main_v6, val_main_v5, val_main_v4, val_main_v3, val_main_v2, val_main_v1, val_main_v0, val_main_cst, val_main_cst_0, val_main_cst_1, val_main_cst_3, val_main_cst_4]
    rw [Fin.sum_univ_one]
    rfl
  rw [e]
  unfold scaleGrad
  simp only [rows_at]
  have s := Fin.sum_univ_add (a := 4112) (b := 112) fun R : Fin 4224 => (if h : R.val < 4112 then cot W U A B ⟨R.val, h⟩ k else 0) *
    ((if h : R.val < 4112 then H (ix2 ⟨R.val, h⟩ k) else 0) * inv (fun l => if h : R.val < 4112 then H (ix2 ⟨R.val, h⟩ l) else 0))
  refine s.trans ?_
  have z : ∀ i : Fin 112, ¬ (Fin.natAdd 4112 i).val < 4112 := fun i => by rw [Fin.val_natAdd]; omega
  have o : ∀ i : Fin 4112, (Fin.castAdd 112 i).val < 4112 := fun i => i.isLt
  simp only [dif_neg (z _), dif_pos (o _), zero_mul, Finset.sum_const_zero, add_zero]
  exact Finset.sum_congr rfl fun R _ => mul_comm _ _

/-- The precondition, entry by entry. -/
theorem finite_of_pre {H : FVec Ideal S4112x1024 .f32} {g : FVec Ideal S1024 .f32} {W U : FVec Ideal S1024x2816 .f32} {A B : FVec Ideal S4112x2816 .f32} {E : FVec Ideal S4112x1024 .f32}
    (h : Cert.Pre_norm_finite.fn (F := Ideal) H g W U A B E = fun _ => 1#1) :
    (∀ i, IsReal (H i)) ∧ (∀ i, IsReal (g i)) ∧ (∀ i, IsReal (W i)) ∧ (∀ i, IsReal (U i)) ∧ (∀ i, IsReal (A i)) ∧ ∀ i, IsReal (B i) := by
  have h0 := congrFun h (fun a => a.elim0)
  unfold Cert.Pre_norm_finite.fn Cert.Pre_norm_finite.fn_part1 at h0
  simp only [andi, IntOp.andi_eq_one] at h0
  obtain ⟨⟨⟨⟨⟨a0, a1⟩, a2⟩, a3⟩, a4⟩, a5⟩ := h0
  haveI : Subsingleton Cert.Pre_norm_finite.S_.Idx := ⟨fun i j => funext fun a => a.elim0⟩
  exact ⟨isReal_of_all _ _ _ _ _ _ a0, isReal_of_all _ _ _ _ _ _ a1, isReal_of_all _ _ _ _ _ _ a2, isReal_of_all _ _ _ _ _ _ a3,
    isReal_of_all _ _ _ _ _ _ a4, isReal_of_all _ _ _ _ _ _ a5⟩

end Cert.NormEquation

end
-- ==== Proof.NormClaim.lean ====
/- The norm call's claim against its reference, from the call's two arrays and their equations. -/
module

public import proofs.«01_k».proof.Defs
public import proofs.«01_k».proof.Proof.NormEquation
public import proofs.«01_k».proof.Proof.Gen.NormIdeal.Value
public import proofs.«01_k».proof.Proof.Gen.NormRefIdeal.Run
public import proofs.«01_k».proof.Proof.Gen.NormIdeal
public import proofs.«01_k».proof.Proof.Gen.NormRefIdeal

@[expose] public section

set_option maxRecDepth 16384

noncomputable section

namespace Cert.NormClaim

open Cert.NormIdeal Cert.NormIdeal.Gen Cert.NormIdeal.Blocks Cert.NormEquation
open Idealize.ShloMosaic Idealize.ShloMosaic.TcCoe Idealize.SL.Sem

/-- The call ends with the reference's two arrays. -/
theorem run (m : (ℓ : Loc nD τ sig) → Buf (Elt Ideal) ℓ) (ρ : Dev nD → PrngReg)
    (hpre : Cert.Pre_NormIdeal_norm_finite m) :
    θ_run defs (onTc (τ := τ) (main (F := Ideal))) ⟨m, fun _ => 0, ρ⟩ (fun r => ∀ c : Dev nD,
      r.2.mem ((c.tc : Thread nD τ).loc main_v13_0) = Cert.NormRefIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v13_1) = Cert.NormRefIdeal.Read.val_main_v43 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨hH, hg, hW, hU, hA, hB⟩ := finite_of_pre (hpre c)
    obtain ⟨r0, r1, h'⟩ := h c
    refine ⟨r0.trans ((dx_arr m c).trans ?_), r1.trans ((dg_arr m c).trans ?_), h'⟩
    · rw [da_eq, v10, v11, v12]
      exact funext fun y => (grad_eq _ _ _ _ _ _ _ hH hg hW hU hA hB (y 0) (y 1)).trans (congrArg _ (funext fun a => by fin_cases a <;> rfl))
    · rw [da_eq, v10]
      refine funext fun y => (scale_eq _ _ _ _ _ (y 1)).trans (congrArg _ ?_)
      exact funext fun a => by
        fin_cases a
        · exact Subsingleton.elim (α := Fin 1) _ _
        · rfl) (Cert.NormIdeal.Value.run_blocks m ρ)

theorem algebraic : Cert.algebraic_NormIdeal_NormRefIdeal_pre_norm_finite :=
  fun m ρ m' ρ' hpre hag => ⟨_, _, run m ρ hpre, (θ_run _ _ _).mono (fun _ h c => by
    obtain ⟨a0, a1, a2, a3, a4, a5, a6⟩ := hag c
    obtain ⟨r0, r1, h'⟩ := h c
    refine ⟨r0.trans ?_, r1.trans ?_, h'⟩
    · rw [Cert.NormRefIdeal.Read.val_main_v42_eq, a0, a1, a2, a3, a4, a5, a6]
    · rw [a0, a2, a3, a4, a5]; rfl) (Cert.NormRefIdeal.Value.run m' ρ')⟩

/-- The reference ends without fault, its arguments as they were. -/
theorem frame_ref : Cert.quiescent_NormRefIdeal := fun m ρ _ =>
  (θ_run Cert.NormRefIdeal.defs _ _).mono (fun r h => ⟨fun c => (h c).2.2, sem_eq_zero_of_no_sems (by decide) r.2⟩)
    (Cert.NormRefIdeal.Value.run (F := Ideal) m ρ)

end Cert.NormClaim

end
-- ==== Proof.LossBlocks.lean ====
/- The loss call's result arrays: the gradient, entry by entry, and the sums of the squared errors over the rows. -/
module

public import proofs.«01_k».proof.Proof.Gen.LossIdeal.Frame
public import Idealize.ShloMosaic.Lib.Pipeline.ValueKit
public import Idealize.ShloMosaic.Lib.Pointwise
public import Idealize.ShloMosaic.Lib.Claim

@[expose] public section

set_option maxRecDepth 16384

noncomputable section

namespace Cert.LossIdeal.Blocks

open Cert.LossIdeal Cert.LossIdeal.Gen
open Idealize.ShloMosaic Idealize.ShloMosaic.TcCoe Idealize.SL.Sem Idealize.ShloMosaic.Pipeline

/-- The error at a row and a feature: zero outside the rows of the sequence proper. -/
def diff (h t : FVec Ideal S4224x1024 .f32) (r : Fin 4224) (k : Fin 1024) : EReal :=
  if 16 ≤ r.val ∧ r.val < 4112 then h (ix2 r k) - t (ix2 r k) else 0

theorem idx : ∀ t : Fin cfg0.N, win0_0.index t = ![t.val, 0] ∧ win0_1.index t = ![t.val, 0]
    ∧ win0_2.index t = ![t.val, 0] ∧ win0_3.index t = ![0, 0] ∧ ((grid0.coords t) 0).val = t.val :=
  (by decide +kernel : ∀ t : Fin grid0.N, _)

/-- The call's mask is the comparison of the row with the two ends. -/
theorem mask {a b : ℕ} (h : a * 1056 + b < 2 ^ 31) (x y : EReal) :
    Scalar.select (IntOp.andi
        (IntOp.cmpi .sge (IntOp.addi (Scalar.muli (BitVec.ofNat 32 a) 1056#32) (BitVec.ofNat 32 b)) 16#32)
        (IntOp.cmpi .slt (IntOp.addi (Scalar.muli (BitVec.ofNat 32 a) 1056#32) (BitVec.ofNat 32 b)) 4112#32)) x y
      = if 16 ≤ a * 1056 + b ∧ a * 1056 + b < 4112 then x else y := by
  have e : IntOp.addi (Scalar.muli (BitVec.ofNat 32 a) 1056#32) (BitVec.ofNat 32 b) = BitVec.ofNat 32 (a * 1056 + b) := by
    rw [BitVec.ofNat_add, BitVec.ofNat_mul]; rfl
  rw [e, WordCmp.cmpi_sge_ofNat (by omega) (by norm_num), WordCmp.cmpi_slt_ofNat (by omega) (by norm_num)]
  by_cases h1 : 16 ≤ a * 1056 + b <;> by_cases h2 : a * 1056 + b < 4112 <;> simp [h1, h2, IntOp.andi, Scalar.select]

/-- A tile's error at a row and a feature. -/
def err (i : grid0.Coords) (x y : Vec Ideal S1056x1024 .f32) (r : Fin 1056) (k : Fin 1024) : EReal :=
  if 16 ≤ (i 0).val * 1056 + r.val ∧ (i 0).val * 1056 + r.val < 4112 then x (ix2 r k) - y (ix2 r k) else 0

theorem pay_at (i : grid0.Coords) (x y : Vec Ideal S1056x1024 .f32) (j : S1056x1024.Idx) :
    k0_pay2 (F := Ideal) i x y j = err i x y (j 0) (j 1) := by
  have hi : (i 0).val < 4 := (i 0).isLt
  have hj : (j 0).val < 1056 := (j 0).isLt
  rw [show j = ix2 (j 0) (j 1) from (ix2_eta j).symm]
  pointwise [k0_pay2]
  refine (mask (a := (i 0).val) (b := (j 0).val) (by omega) _ _).trans ?_
  unfold err
  rw [ix2_eta j]

theorem grad_at (i : grid0.Coords) (x y : Vec Ideal S1056x1024 .f32) (j : S1056x1024.Idx) :
    k0_pay3 (F := Ideal) i x y j = err i x y (j 0) (j 1) * Ideal.ofBits .f32 0x3A800000#32 := by
  rw [← pay_at]
  generalize hz : k0_pay2 (F := Ideal) i x y = z
  pointwise [k0_pay3]
  rw [hz]

theorem zero_at (j : S1x1024.Idx) : k0_pay1 (F := Ideal) j = 0 := by pointwise [k0_pay1]

theorem sum_at (i : grid0.Coords) (x y : Vec Ideal S1056x1024 .f32) (acc : Vec Ideal S1x1024 .f32) (j : S1x1024.Idx) :
    k0_pay4 (F := Ideal) i x y acc j = acc j + ∑ r : Fin 1056, err i x y r (j 1) * err i x y r (j 1) := by
  have e : ∀ r : Fin 1056, err i x y r (j 1) = k0_pay2 (F := Ideal) i x y (ix2 r (j 1)) := fun r => (pay_at i x y (ix2 r (j 1))).symm
  simp only [e]
  unfold k0_pay4
  generalize k0_pay2 (F := Ideal) i x y = z
  pointwise
  done

variable (m : (ℓ : Loc nD τ sig) → Buf (Elt Ideal) ℓ) (c : Dev nD)

theorem err_blk (t : Fin cfg0.N) (r : Fin 1056) (k : Fin 1024) (R : Fin 4224) (K : Fin 1024)
    (hR : R.val = t.val * 1056 + r.val) (hK : K.val = k.val) :
    err (grid0.coords t) (iblk m c 0 t) (iblk m c 1 t) r k = diff (V m c main_v1) (V m c main_v0) R K := by
  obtain rfl : K = k := Fin.ext hK
  obtain ⟨R, hR'⟩ := R
  obtain rfl : R = t.val * 1056 + r.val := hR
  unfold err diff
  rw [(idx t).2.2.2.2]
  refine if_congr Iff.rfl ?_ rfl
  blk_point [iblk, idx t]

/-- The gradient of the loss at the hidden states. -/
theorem dh_arr : (dats m 0 c).arrAt 2 cfg0.N
    = fun y : S4224x1024.Idx => diff (V m c main_v1) (V m c main_v0) (y 0) (y 1) * Ideal.ofBits .f32 0x3A800000#32 := by
  refine (dats m 0 c).arrAt_eq_of_covers 2 _ (by decide +kernel) fun t _ y => ?_
  blk_simp
  rw [after0_2]
  have e : ∀ i x z, i = grid0.coords t → x = iblk m c 0 t → z = iblk m c 1 t →
      k0_pay3 (F := Ideal) i x z y = diff (V m c main_v1) (V m c main_v0) ((win0_2.blk t).view.emb y 0)
        ((win0_2.blk t).view.emb y 1) * Ideal.ofBits .f32 0x3A800000#32 := by
    rintro _ _ _ rfl rfl rfl
    rw [grad_at]
    exact congrArg (· * Ideal.ofBits .f32 0x3A800000#32) (err_blk m c t (y 0) (y 1) _ _ (by blk_simp [idx t]) (by blk_simp [idx t]))
  by_cases h : t.val % 4 = 0
  · rw [outsAt0_A m c t h]; frame_out; exact e _ _ _ rfl rfl rfl
  · rw [outsAt0_B m c t h]; frame_out; exact e _ _ _ rfl rfl rfl

/-- The sums over the rows of the squared errors. -/
theorem sq_arr : (dats m 0 c).arrAt 3 cfg0.N
    = fun y : S1x1024.Idx => ∑ r : Fin 4224, diff (V m c main_v1) (V m c main_v0) r (y 1) * diff (V m c main_v1) (V m c main_v0) r (y 1) := by
  refine (dats m 0 c).arrAt_eq_of_after_last 3 t0_3 (by decide +kernel) _ fun j => ?_
  blk_simp
  rw [after0_3, Pipeline.eq_sum_fin_of_reset_step_apply_last (fun n h => (outsAt0 m c n h).2) 4 (fun _ => 0) _
    (fun t h j => by rw [outsAt0_A m c t h]; frame_out; rw [sum_at, zero_at])
    (fun t h j => by rw [outsAt0_B m c t h]; frame_out; rw [sum_at])
    (le_of_eq N_0) t0_3 rfl j, zero_add]
  refine Fin.sum_mul_add_congr fun t r h => ?_
  rw [err_blk m c t r (j 1) ⟨t.val * 1056 + r.val, h⟩ (j 1) rfl rfl]

end Cert.LossIdeal.Blocks

end
-- ==== Proof.LossEquation.lean ====
/- The loss and its gradient against the derivative of the reference's lines: the same numbers, for any arguments. -/
module

public import proofs.«01_k».proof.Proof.LossBlocks
public import proofs.«01_k».proof.Proof.Gen.LossRefIdeal.Read

@[expose] public section

set_option maxRecDepth 16384

noncomputable section

namespace Cert.LossEquation

open Cert.LossIdeal Cert.LossIdeal.Gen Cert.LossIdeal.Blocks
open Idealize.ShloMosaic Idealize.ShloMosaic.TcCoe Idealize.SL.Sem Idealize.ShloMosaic.StableHlo
open Cert.LossRefIdeal.Read

/-- The hidden states, followed by rows of zeros. -/
abbrev states (H : FVec Ideal S4112x1024 .f32) : FVec Ideal S4224x1024 .f32 :=
  pad S4224x1024 ![0, 0] ![112, 0] ![0, 0] H (sitofp .f32 (constantI S_ 32 0#32)) pads_S4112x1024_S4224x1024_01120_000 h_S_

/-- The targets, between rows of zeros for the meta tokens and for the tiles. -/
abbrev targets (T : FVec Ideal S4096x1024 .f32) : FVec Ideal S4224x1024 .f32 :=
  pad S4224x1024 ![16, 0] ![112, 0] ![0, 0] T (sitofp .f32 (constantI S_ 32 0#32)) pads_S4096x1024_S4224x1024_161120_000 h_S_

variable (m : (ℓ : Loc nD τ sig) → Buf (Elt Ideal) ℓ) (c : Dev nD)

theorem v1 : V m c main_v1 = states (m ((c : Thread nD τ).loc main_arg0)) := by
  simp only [V, V0, hostOps0, hostOps0_1, hostOps0_2, hostOps0_3, List.flatten_cons, List.flatten_nil, List.append_nil, List.cons_append, List.nil_append, TRef.binary, TRef.nullary, TRef.unary, TRef.toBuf, TRef.ofBuf, cast_eq]
  after_results_simp

theorem v0 : V m c main_v0 = targets (m ((c : Thread nD τ).loc main_arg1)) := by
  simp only [V, V0, hostOps0, hostOps0_1, hostOps0_2, hostOps0_3, List.flatten_cons, List.flatten_nil, List.append_nil, List.cons_append, List.nil_append, TRef.binary, TRef.nullary, TRef.unary, TRef.toBuf, TRef.ofBuf, cast_eq]
  after_results_simp

theorem zero_word : (FloatOps.sitofp (F := Ideal) FTy.f32 0#32 : EReal) = 0 := by
  show (((0#32 : BitVec 32).toInt : ℝ) : EReal) = 0
  simp

theorem half_word : Ideal.ofBits .f32 0x3F000000#32 = ((1 / 2 : ℝ) : EReal) := by
  simp [Ideal.ofBits, Ideal.ieee]; rw [← EReal.coe_mul]; norm_num
theorem two_word : Ideal.ofBits .f32 0x40000000#32 = ((2 : ℝ) : EReal) := by
  simp [Ideal.ofBits, Ideal.ieee]; rw [← EReal.coe_mul]; norm_num
theorem width_word : Ideal.ofBits .f32 0x44800000#32 = ((1024 : ℝ) : EReal) := by
  simp [Ideal.ofBits, Ideal.ieee]; rw [← EReal.coe_mul]; norm_num
theorem part_word : Ideal.ofBits .f32 0x3A800000#32 = ((1 / 1024 : ℝ) : EReal) := by
  simp [Ideal.ofBits, Ideal.ieee]; rw [← EReal.coe_mul]; norm_num
theorem share_word : Ideal.ofBits .f32 0x3A000000#32 = ((1 / 2048 : ℝ) : EReal) := by
  simp [Ideal.ofBits, Ideal.ieee]; rw [← EReal.coe_mul]; norm_num

/-- A factor that is a real number and not negative goes into a sum of any extended reals. -/
theorem mul_sum {ι : Type*} (s : Finset ι) (f : ι → EReal) {a : ℝ} (ha : 0 ≤ a) : (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- A sum over the padded rows of what is zero outside the sequence proper. -/
theorem sum_rows (f : Fin 4224 → EReal) (h : ∀ r : Fin 4224, ¬ (16 ≤ r.val ∧ r.val < 4112) → f r = 0) :
    ∑ r, f r = ∑ s : Fin 4096, f ⟨16 + s.val, by omega⟩ := by
  have e : ∑ r : Fin (16 + 4096 + 112), f r = _ := Fin.sum_univ_add (a := 16 + 4096) (b := 112) f
  refine e.trans ?_
  rw [Fin.sum_univ_add (a := 16) (b := 4096) fun i => f (Fin.castAdd 112 i),
    Finset.sum_eq_zero (s := Finset.univ) (f := fun i : Fin 112 => f (Fin.natAdd (16 + 4096) i)) (fun i _ => h _ (by
      show ¬ (16 ≤ 16 + 4096 + i.val ∧ 16 + 4096 + i.val < 4112); omega)),
    Finset.sum_eq_zero (s := Finset.univ) (f := fun i : Fin 16 => f (Fin.castAdd 112 (Fin.castAdd 4096 i))) (fun i _ => h _ (by
      show ¬ (16 ≤ i.val ∧ i.val < 4112); omega)), zero_add, add_zero]
  rfl

variable (H : FVec Ideal S4112x1024 .f32) (T : FVec Ideal S4096x1024 .f32)

/-- The error read at the arguments. -/
theorem diff_at (r : Fin 4224) (k : Fin 1024) : diff (states H) (targets T) r k
    = if h : 16 ≤ r.val ∧ r.val < 4112 then H (ix2 ⟨r.val, h.2⟩ k) - T (ix2 ⟨r.val - 16, by omega⟩ k) else 0 := by
  unfold diff
  by_cases h : 16 ≤ r.val ∧ r.val < 4112
  · rw [if_pos h, dif_pos h]
    pointwise
    rw [dif_pos h.2, dif_pos ⟨h.1, by omega⟩]
  · rw [if_neg h, dif_neg h]

/-- The scale of a difference in the gradient: a half over the width, times two. -/
theorem scale_eq (d : EReal) : d * Ideal.ofBits .f32 0x3A800000#32
    = Ideal.div (Ideal.ofBits .f32 0x3F000000#32) (Ideal.ofBits .f32 0x44800000#32) * (Ideal.ofBits .f32 0x40000000#32 * d) := by
  rw [part_word, half_word, width_word, two_word, Ideal.div_coe (by norm_num), ← EReal.coe_mul, ← mul_assoc, ← EReal.coe_mul, mul_comm]
  norm_num

/-- Twice scaled, nothing is nothing. -/
theorem zero_scaled (a b : EReal) : a * (b * 0) = 0 := by rw [mul_zero, mul_zero]

/-- The gradient: the call's entry is the reference's. -/
theorem grad_eq (j : S4224x1024.Idx) :
    diff (states H) (targets T) (j 0) (j 1) * Ideal.ofBits .f32 0x3A800000#32 = val_main_v17 (F := Ideal) H T j := by
  idx_vars j
  rw [scale_eq, diff_at]
  pointwise [val_main_v17, val_main_v16, val_main_v15, val_main_v14, val_main_v13, val_main_v12, val_main_v11, val_main_v10, val_main_v4, val_main_v3, val_main_v1, val_main_v0, val_main_cst, val_main_cst_4, val_main_cst_5, val_main_cst_6, val_main_cst_7, val_main_c, val_main_call0_v0]
  by_cases h : 16 ≤ j0.val ∧ j0.val < 4112
  · have e : ∀ q (hq : q < 4112), q = j0.val → (⟨q, hq⟩ : Fin 4112) = ⟨j0.val, h.2⟩ := fun q hq hv => by subst hv; rfl
    rw [dif_pos h, dif_pos h.2, dif_pos ⟨h.1, by omega⟩, e _ _ (Nat.add_sub_cancel' h.1)]
  · rw [dif_neg h]
    refine (zero_scaled _ _).trans ?_
    by_cases h' : j0.val < 4112
    · rw [dif_pos h', dif_neg (by omega)]
    · rw [dif_neg h', zero_word]

/-- One position's mean square error, as the reference takes it. -/
theorem mean_at (s : Fin 4096) : val_main_v7 (F := Ideal) H T (ix1 s)
    = (∑ k : Fin 1024, diff (states H) (targets T) ⟨16 + s.val, by omega⟩ k * diff (states H) (targets T) ⟨16 + s.val, by omega⟩ k) * ((1 / 1024 : ℝ) : EReal) := by
  rw [val_main_v7_apply, val_main_v6_apply, val_main_v5_apply]
  show Ideal.div (Ideal.ofBits .f32 0x00000000#32 + _) (Ideal.ofBits .f32 0x44800000#32) = _
  rw [width_word, Ideal.div_coe (by norm_num), show Ideal.ofBits .f32 0x00000000#32 = 0 by simp [Ideal.ofBits, Ideal.ieee], zero_add]
  refine congrArg (· * _) (Finset.sum_congr rfl fun k _ => ?_)
  have e : ∀ q (hq : q < 4096), q = s.val → (⟨q, hq⟩ : Fin 4096) = s := fun q hq hv => Fin.ext hv
  rw [diff_at, dif_pos ⟨by show 16 ≤ 16 + s.val; omega, by show 16 + s.val < 4112; omega⟩, e _ _ (by show 16 + s.val - 16 = s.val; omega),
    show idx_main_v5 (ix1 s) k = ix2 s k from funext fun a => by fin_cases a <;> rfl]
  pointwise [val_main_v2, val_main_v1, val_main_v0]

/-- The loss: the share of the sum of the squares is half the sum of the means. -/
theorem loss_eq (Q : FVec Ideal S1x1024 .f32)
    (hQ : Q = fun y => ∑ r : Fin 4224, diff (states H) (targets T) r (y 1) * diff (states H) (targets T) r (y 1)) (j : S_.Idx) :
    mulf (constant (F := Ideal) S_ .f32 0x3A000000#32) (Host.reduceAdd Q (constant (F := Ideal) S_ .f32 0x00000000#32) reducesTo_S1x1024_S_d0_1 h_S_) j
      = val_main_v9 (F := Ideal) H T j := by
  rw [val_main_v9_apply, val_main_v8_apply]
  simp only [Host.reduceAdd, Ideal.hostReduceAdd_def]
  have e := Ideal.hostReduceAdd_total reducesTo_S1x1024_S_d0_1 (fun b => b.elim0) Q (constant (F := Ideal) S_ .f32 0x00000000#32 (Shape.Idx.first h_S_)) j
  refine (congrArg (FloatOps.mulf (F := Ideal) (φ := .f32) (Ideal.ofBits .f32 0x3A000000#32)) e).trans ?_
  show Ideal.ofBits .f32 0x3A000000#32 * (Ideal.ofBits .f32 0x00000000#32 + _) = Ideal.ofBits .f32 0x3F000000#32 * (Ideal.ofBits .f32 0x00000000#32 + _)
  rw [sum_idx2, sum_idx1, Fin.sum_univ_one, show Ideal.ofBits .f32 0x00000000#32 = 0 by simp [Ideal.ofBits, Ideal.ieee], zero_add, zero_add, hQ,
    share_word, half_word]
  show _ * ∑ k : Fin 1024, ∑ r : Fin 4224, diff (states H) (targets T) r k * diff (states H) (targets T) r k = _
  rw [Finset.sum_comm, sum_rows _ fun r h => Finset.sum_eq_zero fun k _ => by rw [diff_at, dif_neg h, mul_zero],
    mul_sum _ _ (by norm_num), mul_sum _ _ (by norm_num)]
  refine Finset.sum_congr rfl fun s _ => ?_
  refine Eq.trans ?_ (congrArg (fun z : EReal => ((1 / 2 : ℝ) : EReal) * z) (mean_at H T s)).symm
  rw [mul_comm _ ((1 / 1024 : ℝ) : EReal), ← mul_assoc, ← EReal.coe_mul]
  norm_num

end Cert.LossEquation

end
-- ==== Proof.LossClaim.lean ====
/- The loss call's claim against its reference: the loss and its gradient, for any arguments. -/
module

public import proofs.«01_k».proof.Defs
public import proofs.«01_k».proof.Proof.LossEquation
public import proofs.«01_k».proof.Proof.Gen.LossRefIdeal.Run
public import proofs.«01_k».proof.Proof.Gen.LossIdeal
public import proofs.«01_k».proof.Proof.Gen.LossRefIdeal

@[expose] public section

set_option maxRecDepth 16384

noncomputable section

namespace Cert.LossClaim

open Cert.LossIdeal Cert.LossIdeal.Gen Cert.LossIdeal.Blocks Cert.LossEquation
open Idealize.ShloMosaic Idealize.ShloMosaic.TcCoe Idealize.SL.Sem

/-- What the lines after the call leave in the loss: the share of the sum of the call's second array. -/
theorem tail (m : (ℓ : Loc nD τ sig) → Buf (Elt Ideal) ℓ) (c : Dev nD) :
    Pipeline.afterTail₀ cfgs (dats m) 0 (V0 m) [hostOps1] c main_v4
      = mulf (constant (F := Ideal) S_ .f32 0x3A000000#32) (Host.reduceAdd ((dats m 0 c).arrAt 3 cfg0.N) (constant (F := Ideal) S_ .f32 0x00000000#32) reducesTo_S1x1024_S_d0_1 h_S_) := by
  unfold Pipeline.afterTail₀
  have e := Pipeline.withArrays_arr (cfgs 0).spec (by decide) c (V0 m c) (fun w => (dats m 0 c).arrAt w (cfgs 0).N) 3
  generalize Pipeline.withArrays (cfgs 0).spec c (V0 m c) (fun w => (dats m 0 c).arrAt w (cfgs 0).N) = W at e ⊢
  simp only [hostOps1, List.flatten_cons, List.flatten_nil, List.append_nil]
  after_results_simp
  exact congrArg (fun Q => mulf (constant (F := Ideal) S_ .f32 0x3A000000#32) (Host.reduceAdd Q (constant (F := Ideal) S_ .f32 0x00000000#32) reducesTo_S1x1024_S_d0_1 h_S_)) e

/-- The call and the lines after it end with the reference's two results. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = Cert.LossRefIdeal.Read.val_main_v9 (F := Ideal) (m ((c.tc : Thread nD τ).loc main_arg0)) (m ((c.tc : Thread nD τ).loc main_arg1))
      ∧ r.2.mem ((c.tc : Thread nD τ).loc main_v2_0) = Cert.LossRefIdeal.Read.val_main_v17 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => by
    obtain ⟨h, hu⟩ := hr
    refine ⟨((h c).2 main_v4 (Pipeline.mem_restRefs_of main_v4 (by decide) (by decide))).trans ((tail m c).trans ?_),
      ((h c).1 2).trans ((dh_arr m c).trans ?_), (hu c).1, (hu c).2⟩
    · refine funext fun j => loss_eq _ _ _ ?_ j
      rw [sq_arr, v1, v0]
    · rw [v1, v0]
      exact funext fun j => grad_eq _ _ j) (θ_run_and (run_main m ρ) (unchanged m ρ))

theorem algebraic : Cert.algebraic_LossIdeal_LossRefIdeal :=
  fun m ρ m' ρ' _ hag => ⟨_, _, run m ρ, (θ_run _ _ _).mono (fun _ h c => by
    obtain ⟨a0, a1⟩ := hag c
    obtain ⟨r0, r1, h'⟩ := h c
    refine ⟨r0.trans ?_, r1.trans ?_, h'⟩
    · rw [a0, a1]; rfl
    · rw [a0, a1]; rfl) (Cert.LossRefIdeal.Value.run m' ρ')⟩

/-- The reference ends without fault, its arguments as they were. -/
theorem frame_ref : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

end Cert.LossClaim

end
-- ==== Proof.PoolWords.lean ====
/- The reference of the pool: where a window starts and how many rows it meets, as 32-bit words. -/
module

public import Idealize.ShloMosaic.Lib.Pointwise

@[expose] public section

namespace Cert.PoolRefIdeal.Ops

open Idealize.ShloMosaic

/-- The first row that a window of `w` rows ending at row `n` meets. -/
def firstWord (n w : ℕ) : BitVec 32 := IntOp.maxsi (IntOp.subi (IntOp.addi (BitVec.ofNat 32 n) 1#32) (BitVec.ofNat 32 w)) 0#32

/-- That row as an index: a negative one would count from the end. -/
def startWord (n w : ℕ) : BitVec 32 :=
  Scalar.select (IntOp.cmpi .slt (firstWord n w) 0#32) (IntOp.addi (firstWord n w) 4113#32) (firstWord n w)

/-- How many rows the window meets. -/
def countWord (n w : ℕ) : BitVec 32 := IntOp.subi (IntOp.addi (BitVec.ofNat 32 n) 1#32) (firstWord n w)

theorem start_word : ∀ n : Fin 4112, ∀ w ∈ [2, 4, 8, 16], (startWord n.val w).toInt = ((n.val + 1 - w : ℕ) : ℤ) := by decide +kernel

theorem count_word : ∀ n : Fin 4112, ∀ w ∈ [2, 4, 8, 16], (countWord n.val w).toInt = ((min (n.val + 1) w : ℕ) : ℤ) := by decide +kernel

end Cert.PoolRefIdeal.Ops
-- ==== Proof.PoolTerms.lean ====
/- The pool's backward call, element by element: what one group of channels at one grid point adds to the gradient of its
   product and to the gradient of its scale, and the residuals they are made of. -/
module

public import proofs.«01_k».proof.Proof.Gen.PoolIdeal.Frame
public import Idealize.ShloMosaic.Lib.Pipeline.ValueKit
public import Idealize.ShloMosaic.Lib.Pointwise

@[expose] public section

set_option maxRecDepth 16384

noncomputable section

namespace Cert.PoolIdeal.Blocks

open Cert.PoolIdeal Cert.PoolIdeal.Gen
open Idealize.ShloMosaic Idealize.ShloMosaic.TcCoe Idealize.SL.Sem Idealize.ShloMosaic.Pipeline

abbrev Tile := Vec Ideal S1056x128 .f32

/-- How many rows a window of `w` rows meets, from the row's number as the call counts it. -/
def count {s : Shape} (n : IVec s 32) (w : BitVec 32) (y : s.Idx) : EReal :=
  FloatOps.sitofp (F := Ideal) .f32 (IntOp.minsi (IntOp.addi (n y) 1#32) w)

/-! ### The residuals of the four groups -/

theorem residual0 (i : grid0.Coords) (u0 u1 : Tile) (y : S1056x128.Idx) :
    k0_pay8 (F := Ideal) i u0 u1 y = Ideal.div (u0 y + u1 y) (count (k0_pay6 i) 2#32 y) - u0 y := by
  pointwise [k0_pay8, count]

theorem residual1 (n : IVec S1056x128 32) (u0 u1 u2 u3 : Tile) (y : S1056x128.Idx) :
    k0_pay23 (F := Ideal) n u0 (k0_pay21 u0 u1 u2 u3) k0_pay22 y = Ideal.div (u0 y + u1 y + u2 y + u3 y) (count n 4#32 y) - u0 y := by
  pointwise [k0_pay23, k0_pay22, k0_pay21, count]

theorem residual2 (n : IVec S1056x128 32) (u0 u1 u2 u3 u4 u5 u6 u7 : Tile) (y : S1056x128.Idx) :
    k0_pay34 (F := Ideal) n u0 u1 u2 u3 u4 u5 u6 u7 y
      = Ideal.div (u0 y + u1 y + u2 y + u3 y + u4 y + u5 y + u6 y + u7 y) (count n 8#32 y) - u0 y := by
  pointwise [k0_pay34, count]

theorem residual3 (n : IVec S1056x128 32) (u0 u1 u2 u3 u4 u5 u6 u7 u8 u9 ua ub uc ud ue uf : Tile) (y : S1056x128.Idx) :
    k0_pay51 (F := Ideal) n u0 (k0_pay50 u0 u1 u2 u3) u4 u5 u6 u7 u8 u9 ua ub uc ud ue uf y
      = Ideal.div (u0 y + u1 y + u2 y + u3 y + u4 y + u5 y + u6 y + u7 y + u8 y + u9 y + ua y + ub y + uc y + ud y + ue y + uf y)
        (count n 16#32 y) - u0 y := by
  pointwise [k0_pay51, k0_pay50, count]

/-! ### What a group adds to the scale's gradient -/

/-- A channel's sum over a tile's rows of the cotangent times the product of the residuals with the weight. -/
def scaleStep (p : Tile) (w : Vec Ideal S1x128x128 .bf16) (dy : Tile) (b : Fin 128) : EReal :=
  ∑ r : Fin 1056, dy (ix2 r b) * ∑ a : Fin 128, p (ix2 r a) * w (ix3 0 a b)

theorem scale0 (p dy : Tile) (w : Vec Ideal S1x128x128 .bf16) (acc : Vec Ideal S1x128 .f32) (y : S1x128.Idx) :
    k0_pay13 (F := Ideal) p w dy acc y = acc y + scaleStep p w dy (y 1) := by
  idx_vars y
  pointwise [k0_pay13, k0_pay9, k0_pay10, k0_pay12, scaleStep]

theorem scale1 (n : IVec S1056x128 32) (u0 s dy : Tile) (z : IVec S1056x128 32) (w : Vec Ideal S1x128x128 .bf16) (acc : Vec Ideal S1x128 .f32) (y : S1x128.Idx) :
    k0_pay27 (F := Ideal) n u0 s z w dy acc y = acc y + scaleStep (k0_pay23 (F := Ideal) n u0 s z) w dy (y 1) := by
  unfold k0_pay27
  generalize k0_pay23 n u0 s z = p
  idx_vars y
  pointwise [k0_pay24, k0_pay26, scaleStep]

theorem scale2 (n : IVec S1056x128 32) (u0 u1 u2 u3 u4 u5 u6 u7 dy : Tile) (w : Vec Ideal S1x128x128 .bf16) (acc : Vec Ideal S1x128 .f32) (y : S1x128.Idx) :
    k0_pay40 (F := Ideal) (k0_pay38 acc) (k0_pay39 n u0 u1 u2 u3 u4 u5 u6 u7 w dy) y
      = acc y + scaleStep (k0_pay34 (F := Ideal) n u0 u1 u2 u3 u4 u5 u6 u7) w dy (y 1) := by
  unfold k0_pay39
  generalize k0_pay34 n u0 u1 u2 u3 u4 u5 u6 u7 = p
  idx_vars y
  pointwise [k0_pay40, k0_pay38, k0_pay35, k0_pay37, scaleStep]

theorem scale3 (p : Tile) (dy : Tile) (w : Vec Ideal S1x128x128 .bf16) (acc : Vec Ideal S1x128 .f32) (y : S1x128.Idx) :
    k0_pay55 (F := Ideal) p w dy acc y = acc y + scaleStep p w dy (y 1) := by
  idx_vars y
  pointwise [k0_pay55, k0_pay52, k0_pay54, scaleStep]

/-! ### What a group adds to the gradient of its product -/

/-- A pair of channels' sum over a tile's rows of the residual times the scaled cotangent. -/
def weightStep (p : Tile) (s : Vec Ideal S1x128 .f32) (dy : Tile) (a b : Fin 128) : EReal :=
  ∑ r : Fin 1056, p (ix2 r a) * (dy (ix2 r b) * s (ix2 0 b))

theorem weight0 (p dy : Tile) (s : Vec Ideal S1x128 .f32) (acc : Vec Ideal S1x128x128 .f32) (y : S1x128x128.Idx) :
    k0_pay15 (F := Ideal) p s dy acc y = acc y + weightStep p s dy (y 1) (y 2) := by
  idx_vars y
  obtain rfl : y0 = 0 := Subsingleton.elim _ _
  pointwise [k0_pay15, k0_pay14, k0_pay9, k0_pay11, k0_pay12, weightStep]

theorem weight1 (n : IVec S1056x128 32) (u0 v dy : Tile) (z : IVec S1056x128 32) (s : Vec Ideal S1x128 .f32) (acc : Vec Ideal S1x128x128 .f32) (y : S1x128x128.Idx) :
    k0_pay29 (F := Ideal) n u0 v z s dy acc y = acc y + weightStep (k0_pay23 (F := Ideal) n u0 v z) s dy (y 1) (y 2) := by
  unfold k0_pay29
  generalize k0_pay23 n u0 v z = p
  idx_vars y
  obtain rfl : y0 = 0 := Subsingleton.elim _ _
  pointwise [k0_pay28, k0_pay25, k0_pay26, weightStep]

theorem weight2 (p dy : Tile) (s : Vec Ideal S1x128 .f32) (acc : Vec Ideal S1x128x128 .f32) (y : S1x128x128.Idx) :
    k0_pay42 (F := Ideal) p (k0_pay36 s) (k0_pay37 dy) acc y = acc y + weightStep p s dy (y 1) (y 2) := by
  idx_vars y
  obtain rfl : y0 = 0 := Subsingleton.elim _ _
  pointwise [k0_pay42, k0_pay41, k0_pay36, k0_pay37, weightStep]

theorem weight3 (p dy : Tile) (s : Vec Ideal S1x128 .f32) (acc : Vec Ideal S1x128x128 .f32) (y : S1x128x128.Idx) :
    k0_pay57 (F := Ideal) p s dy acc y = acc y + weightStep p s dy (y 1) (y 2) := by
  idx_vars y
  obtain rfl : y0 = 0 := Subsingleton.elim _ _
  pointwise [k0_pay57, k0_pay56, k0_pay53, k0_pay54, weightStep]

end Cert.PoolIdeal.Blocks

end
-- ==== Proof.PoolBlocks.lean ====
module

public import proofs.«01_k».proof.Proof.Gen.PoolIdeal.Frame
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.PoolTerms

@[expose] public section

set_option maxRecDepth 16384

noncomputable section

namespace Cert.PoolIdeal.Blocks

open Cert.PoolIdeal Cert.PoolIdeal.Gen
open Idealize.ShloMosaic Idealize.ShloMosaic.TcCoe Idealize.SL.Sem Idealize.ShloMosaic.Pipeline

theorem idx : ∀ t : Fin cfg0.N, win0_0.index t = ![t.val, 0] ∧ win0_1.index t = ![t.val * 66 - 1, 0] ∧ win0_2.index t = ![t.val, 0]
    ∧ win0_3.index t = ![min (t.val * 66 + 66) 263, 0] ∧ win0_4.index t = ![0, 0, 0] ∧ win0_5.index t = ![0, 0]
    ∧ win0_6.index t = ![t.val, 0] ∧ win0_7.index t = ![0, 0, 0] ∧ win0_8.index t = ![0, 0] :=
  (by decide +kernel : ∀ t : Fin grid0.N, _)

theorem coord : ∀ t : Fin cfg0.N, ((grid0.coords t) 0).val = t.val := (by decide +kernel : ∀ t : Fin grid0.N, _)

/-- How many rows a window of `w` rows that ends at row `n` meets. -/
def met (n w : ℕ) : EReal := ((((min (n + 1) w : ℕ) : ℤ) : ℝ) : EReal)

theorem word : ∀ (t : Fin 4) (r : Fin 1056), ∀ w ∈ [2, 4, 8, 16],
    (IntOp.minsi (IntOp.addi (IntOp.addi (IntOp.muli (BitVec.ofNat 32 t.val) 1056#32) (BitVec.ofNat 32 r.val)) 1#32) (BitVec.ofNat 32 w)).toInt
      = ((min (t.val * 1056 + r.val + 1) w : ℕ) : ℤ) := by decide +kernel

theorem count_at (t : Fin cfg0.N) (w : ℕ) (hw : w ∈ [2, 4, 8, 16]) (y : S1056x128.Idx) :
    count (k0_pay6 (grid0.coords t)) (BitVec.ofNat 32 w) y = met (t.val * 1056 + (y 0).val) w := by
  have e : k0_pay6 (grid0.coords t) y = IntOp.addi (IntOp.muli (BitVec.ofNat 32 t.val) 1056#32) (BitVec.ofNat 32 (y 0).val) := by
    rw [← coord t]; pointwise [k0_pay6]; rfl
  unfold count met
  rw [e, ← word ⟨t.val, t.isLt⟩ (y 0) w hw]
  rfl

/-- An array's row sixteen before row `n`, and zero outside. -/
def row (x : S4224x512.Idx → EReal) (n : ℕ) (C : Fin 512) : EReal :=
  if h : 16 ≤ n ∧ n < 4240 then x (ix2 (⟨n - 16, by omega⟩ : Fin 4224) C) else 0

variable (m : (ℓ : Loc nD τ sig) → Buf (Elt Ideal) ℓ) (c : Dev nD)

theorem load_eq {S : Shape} {e : EltTy} {sp : Space} {κ : Kind} (v : View sig κ sp S e) (L : List (View.Piece (Elt Ideal) S e)) (r : Rect S) :
    v.readCov L r.toLoadRect = View.ld (View.canon L) r := View.readCov_eq_canon' v L r.toLoadRect

theorem here (t : Fin cfg0.N) (r : Fin 1056) (C : Fin 512) : k0_pay5 (iblk m c 0 t) (ix2 r C) = row (V m c main_v0) (t.val * 1056 + (16 + r.val)) C := by
  have h : 16 ≤ t.val * 1056 + (16 + r.val) ∧ t.val * 1056 + (16 + r.val) < 4240 := by
    have : t.val < 4 := t.isLt
    omega
  unfold row
  rw [dif_pos h]
  have e : k0_pay5 (iblk m c 0 t) (ix2 r C) = iblk m c 0 t (ix2 r C) := by pointwise [k0_pay5]
  have q : (⟨t.val * 1056 + (16 + r.val) - 16, by omega⟩ : Fin 4224) = ⟨t.val * 1056 + r.val, by omega⟩ := Fin.ext (by dsimp only; omega)
  rw [e, q]
  blk_point [iblk, idx t]

theorem before (t : Fin cfg0.N) (r : Fin 16) (C : Fin 512) : k0_pay4 (grid0.coords t) (iblk m c 1 t) (ix2 r C) = row (V m c main_v0) (t.val * 1056 + (0 + r.val)) C := by
  have ht : t.val < 4 := t.isLt
  have e : ∀ x : Vec Ideal S16x512 .f32, k0_pay4 (F := Ideal) (grid0.coords t) x (ix2 r C) = if 0 < t.val then x (ix2 r C) else (0 : EReal) := fun x => by
    rw [← coord t]
    have hs : ∀ s : Fin 4, (Scalar.cmpi .sgt (BitVec.ofNat 32 s.val) 0#32 : BitVec 1) = if 0 < s.val then 1#1 else 0#1 := by decide
    pointwise [k0_pay4]
    have hc : ((grid0.coords t) 0).val < 4 := (coord t).symm ▸ ht
    rw [hs ⟨((grid0.coords t) 0).val, hc⟩]
    by_cases h : 0 < ((grid0.coords t) 0).val
    · rw [if_pos h, if_pos h]; rfl
    · rw [if_neg h, if_neg h]; rfl
  rw [e]
  unfold row
  by_cases h : 0 < t.val
  · rw [if_pos h, dif_pos (by omega)]
    have q : (⟨t.val * 1056 + (0 + r.val) - 16, by omega⟩ : Fin 4224) = ⟨(t.val * 66 - 1) * 16 + r.val, by omega⟩ := Fin.ext (by dsimp only; omega)
    rw [q]
    blk_point [iblk, idx t]
  · rw [if_neg h, dif_neg (by omega)]

/-- The scratch a point fills first: its own rows after the sixteen before them. -/
theorem scratch (t : Fin cfg0.N) (ρ : Fin 1072) (C : Fin 512) :
    View.canon [(⟨Rect.unit ![16, 0] ![1056, 512] inb_S1072x512_S1056x512_16_0, k0_pay5 (iblk m c 0 t)⟩ : View.Piece (Elt Ideal) S1072x512 .f32),
      ⟨Rect.unit ![0, 0] ![16, 512] inb_S1072x512_S16x512_0_0, k0_pay4 (grid0.coords t) (iblk m c 1 t)⟩] (ix2 ρ C)
      = row (V m c main_v0) (t.val * 1056 + ρ.val) C := by
  refine View.canon_append_of_piecesOf (Val := Elt Ideal) (e := .f32) (s := S1072x512) (fun y => row (V m c main_v0) (t.val * 1056 + (y 0).val) (y 1)) []
    [(⟨Rect.unit ![16, 0] ![1056, 512] inb_S1072x512_S1056x512_16_0, k0_pay5 (iblk m c 0 t)⟩ : View.Piece (Elt Ideal) S1072x512 .f32),
      ⟨Rect.unit ![0, 0] ![16, 512] inb_S1072x512_S16x512_0_0, k0_pay4 (grid0.coords t) (iblk m c 1 t)⟩] ⟨fun x => ?_, fun x => ?_, trivial⟩ (ix2 ρ C) ?_
  · refine (congrArg _ (ix2_eta x).symm).trans ((here m c t (x 0) (x 1)).trans ?_)
    refine congrArg₂ (row _) ?_ (Fin.ext ?_)
    · simp
    · simp
  · refine (congrArg _ (ix2_eta x).symm).trans ((before m c t (x 0) (x 1)).trans ?_)
    refine congrArg₂ (row _) ?_ (Fin.ext ?_)
    · simp
    · simp
  · by_cases h : 16 ≤ ρ.val
    · refine ⟨_, List.mem_cons_self, ?_⟩
      rw [Rect.mem_set_unit]; intro a
      have := ρ.isLt; have := C.isLt
      fin_cases a <;> simp <;> omega
    · refine ⟨_, List.mem_cons_of_mem _ List.mem_cons_self, ?_⟩
      rw [Rect.mem_set_unit]; intro a
      have := C.isLt
      fin_cases a <;> simp <;> omega

/-- Channel `a` of group `g`. -/
def col (g : Fin 4) (a : Fin 128) : Fin 512 := ⟨128 * g.val + a.val, by omega⟩

/-- The residual of row `n`: the mean of the rows a window ending there meets, less the row. -/
def resid (f : ℕ → Fin 512 → EReal) (w n : ℕ) (C : Fin 512) : EReal :=
  Ideal.div (∑ k ∈ Finset.range w, f (n + 16 - k) C) (met n w) - f (n + 16) C

section Residuals

variable (f : ℕ → Fin 512 → EReal) (t : Fin cfg0.N) (U : S1072x512.Idx → Elt Ideal .f32) (hU : ∀ ρ C, U (ix2 ρ C) = f (t.val * 1056 + ρ.val) C)
include hU

theorem ld_tile (o p : ℕ) (inb) (hp : p + 128 ≤ 512) (ho : o + 1056 ≤ 1072) (y : S1056x128.Idx) :
    View.ld U (Rect.unit ![o, p] ![1056, 128] inb) y = f (t.val * 1056 + (y 0).val + o) ⟨p + (y 1).val, by have := (y 1).isLt; dsimp at this; omega⟩ := by
  have h0 : (y 0).val < 1056 := (y 0).isLt
  have h1 : (y 1).val < 128 := (y 1).isLt
  refine (View.ld_unit_apply_of U _ _ inb y (ix2 (⟨o + (y 0).val, by omega⟩ : Fin 1072) (⟨p + (y 1).val, by omega⟩ : Fin 512)) (by intro a; fin_cases a <;> rfl)).trans ((hU _ _).trans ?_)
  exact congrArg₂ f (by dsimp only; omega) rfl

theorem resid0 (y : S1056x128.Idx) (i) (hi : i = grid0.coords t) :
    k0_pay8 (F := Ideal) i (View.ld U (Rect.unit ![16, 0] ![1056, 128] inb_S1072x512_S1056x128_16_0)) (View.ld U (Rect.unit ![15, 0] ![1056, 128] inb_S1072x512_S1056x128_15_0)) y
      = resid f 2 (t.val * 1056 + (y 0).val) (col 0 (y 1)) := by
  subst hi
  have h1 : (y 1).val < 128 := (y 1).isLt
  rw [residual0, count_at t 2 (by decide), show col 0 (y 1) = (⟨(y 1).val, by omega⟩ : Fin 512) from Fin.ext (Nat.zero_add _)]
  simp (disch := decide) only [ld_tile f t U hU, resid, Finset.sum_range_succ, Finset.sum_range_zero, zero_add]
  rfl

theorem resid1 (y : S1056x128.Idx) (n) (hn : n = k0_pay6 (grid0.coords t)) :
    k0_pay23 (F := Ideal) n (View.ld U (Rect.unit ![16, 128] ![1056, 128] inb_S1072x512_S1056x128_16_128))
      (k0_pay21 (View.ld U (Rect.unit ![16, 128] ![1056, 128] inb_S1072x512_S1056x128_16_128)) (View.ld U (Rect.unit ![15, 128] ![1056, 128] inb_S1072x512_S1056x128_15_128))
        (View.ld U (Rect.unit ![14, 128] ![1056, 128] inb_S1072x512_S1056x128_14_128)) (View.ld U (Rect.unit ![13, 128] ![1056, 128] inb_S1072x512_S1056x128_13_128))) k0_pay22 y
      = resid f 4 (t.val * 1056 + (y 0).val) (col 1 (y 1)) := by
  subst hn
  rw [residual1, count_at t 4 (by decide)]
  simp (disch := decide) only [ld_tile f t U hU, resid, Finset.sum_range_succ, Finset.sum_range_zero, zero_add]
  rfl

theorem resid2 (y : S1056x128.Idx) (n) (hn : n = k0_pay6 (grid0.coords t)) :
    k0_pay34 (F := Ideal) n (View.ld U (Rect.unit ![16, 256] ![1056, 128] inb_S1072x512_S1056x128_16_256)) (View.ld U (Rect.unit ![15, 256] ![1056, 128] inb_S1072x512_S1056x128_15_256))
        (View.ld U (Rect.unit ![14, 256] ![1056, 128] inb_S1072x512_S1056x128_14_256)) (View.ld U (Rect.unit ![13, 256] ![1056, 128] inb_S1072x512_S1056x128_13_256))
        (View.ld U (Rect.unit ![12, 256] ![1056, 128] inb_S1072x512_S1056x128_12_256)) (View.ld U (Rect.unit ![11, 256] ![1056, 128] inb_S1072x512_S1056x128_11_256))
        (View.ld U (Rect.unit ![10, 256] ![1056, 128] inb_S1072x512_S1056x128_10_256)) (View.ld U (Rect.unit ![9, 256] ![1056, 128] inb_S1072x512_S1056x128_9_256)) y
      = resid f 8 (t.val * 1056 + (y 0).val) (col 2 (y 1)) := by
  subst hn
  rw [residual2, count_at t 8 (by decide)]
  simp (disch := decide) only [ld_tile f t U hU, resid, Finset.sum_range_succ, Finset.sum_range_zero, zero_add]
  rfl

theorem resid3 (y : S1056x128.Idx) (n) (hn : n = k0_pay6 (grid0.coords t)) :
    k0_pay51 (F := Ideal) n (View.ld U (Rect.unit ![16, 384] ![1056, 128] inb_S1072x512_S1056x128_16_384))
        (k0_pay50 (View.ld U (Rect.unit ![16, 384] ![1056, 128] inb_S1072x512_S1056x128_16_384)) (View.ld U (Rect.unit ![15, 384] ![1056, 128] inb_S1072x512_S1056x128_15_384))
        (View.ld U (Rect.unit ![14, 384] ![1056, 128] inb_S1072x512_S1056x128_14_384)) (View.ld U (Rect.unit ![13, 384] ![1056, 128] inb_S1072x512_S1056x128_13_384)))
        (View.ld U (Rect.unit ![12, 384] ![1056, 128] inb_S1072x512_S1056x128_12_384)) (View.ld U (Rect.unit ![11, 384] ![1056, 128] inb_S1072x512_S1056x128_11_384))
        (View.ld U (Rect.unit ![10, 384] ![1056, 128] inb_S1072x512_S1056x128_10_384)) (View.ld U (Rect.unit ![9, 384] ![1056, 128] inb_S1072x512_S1056x128_9_384))
        (View.ld U (Rect.unit ![8, 384] ![1056, 128] inb_S1072x512_S1056x128_8_384)) (View.ld U (Rect.unit ![7, 384] ![1056, 128] inb_S1072x512_S1056x128_7_384))
        (View.ld U (Rect.unit ![6, 384] ![1056, 128] inb_S1072x512_S1056x128_6_384)) (View.ld U (Rect.unit ![5, 384] ![1056, 128] inb_S1072x512_S1056x128_5_384))
        (View.ld U (Rect.unit ![4, 384] ![1056, 128] inb_S1072x512_S1056x128_4_384)) (View.ld U (Rect.unit ![3, 384] ![1056, 128] inb_S1072x512_S1056x128_3_384))
        (View.ld U (Rect.unit ![2, 384] ![1056, 128] inb_S1072x512_S1056x128_2_384)) (View.ld U (Rect.unit ![1, 384] ![1056, 128] inb_S1072x512_S1056x128_1_384)) y
      = resid f 16 (t.val * 1056 + (y 0).val) (col 3 (y 1)) := by
  subst hn
  rw [residual3, count_at t 16 (by decide)]
  simp (disch := decide) only [ld_tile f t U hU, resid, Finset.sum_range_succ, Finset.sum_range_zero, zero_add]
  rfl

end Residuals

end Cert.PoolIdeal.Blocks

end
-- ==== Proof.PoolSums.lean ====
/- The pool's backward call: the gradients of its products and of its scale, which every grid point adds to. -/
module

public import proofs.«01_k».proof.Proof.Gen.PoolIdeal.Frame
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.PoolBlocks

@[expose] public section

set_option maxRecDepth 16384

noncomputable section

namespace Cert.PoolIdeal.Blocks

open Cert.PoolIdeal Cert.PoolIdeal.Gen
open Idealize.ShloMosaic Idealize.ShloMosaic.TcCoe Idealize.SL.Sem Idealize.ShloMosaic.Pipeline

/-- The group of a channel, and its number within the group. -/
def grp (C : Fin 512) : Fin 4 := ⟨C.val / 128, by omega⟩
def chn (C : Fin 512) : Fin 128 := ⟨C.val % 128, Nat.mod_lt _ (by decide)⟩
/-- A group's window. -/
def wid (g : Fin 4) : ℕ := 2 ^ (g.val + 1)

theorem grp_col (g : Fin 4) (a : Fin 128) : grp (col g a) = g := Fin.ext (by simp only [grp, col]; omega)
theorem chn_col (g : Fin 4) (a : Fin 128) : chn (col g a) = a := Fin.ext (by simp only [chn, col]; omega)
theorem col_eta (C : Fin 512) : col (grp C) (chn C) = C := Fin.ext (by simp only [grp, chn, col]; omega)

/-- What the rows from `T` on add to a channel's gradient of the scale. -/
def scaleAt (f : ℕ → Fin 512 → EReal) (d : Fin 1056 → Fin 512 → EReal) (w : S4x128x128.Idx → EReal) (T : ℕ) (g : Fin 4) (b : Fin 128) : EReal :=
  ∑ r : Fin 1056, d r (col g b) * ∑ a : Fin 128, resid f (wid g) (T + r.val) (col g a) * w (ix3 g a b)

/-- What they add to a pair of channels' gradient of the product. -/
def weightAt (f : ℕ → Fin 512 → EReal) (d : Fin 1056 → Fin 512 → EReal) (s : S1x512.Idx → EReal) (T : ℕ) (g : Fin 4) (a b : Fin 128) : EReal :=
  ∑ r : Fin 1056, resid f (wid g) (T + r.val) (col g a) * (d r (col g b) * s (ix2 0 (col g b)))

theorem scaleStep_eq (f : ℕ → Fin 512 → EReal) (x : S1056x512.Idx → Elt Ideal .f32) (w : S4x128x128.Idx → Elt Ideal .bf16) (T : ℕ) (g : Fin 4) (o q : ℕ) (inb) (inb')
    (ho : o = 128 * g.val) (hq : q = g.val) (p : Tile) (hp : ∀ y, p y = resid f (wid g) (T + (y 0).val) (col g (y 1))) (b : Fin 128) :
    scaleStep p (View.ld (Val := Elt Ideal) (e' := .bf16) w (Rect.unit ![q, 0, 0] ![1, 128, 128] inb')) (View.ld (Val := Elt Ideal) (e' := .f32) x (Rect.unit ![0, o] ![1056, 128] inb)) b
      = scaleAt f (fun r C => x (ix2 r C)) w T g b := by
  subst ho hq
  unfold scaleStep scaleAt
  refine Finset.sum_congr rfl fun r _ => congrArg₂ (· * ·) ?_ (Finset.sum_congr rfl fun a _ => congrArg₂ (· * ·) (hp _) ?_)
  · exact View.ld_unit_apply_of (Val := Elt Ideal) (e := .f32) x _ _ inb (ix2 r b) (ix2 r (col g b)) (by intro a; fin_cases a <;> simp [col])
  · exact View.ld_unit_apply_of (Val := Elt Ideal) (e := .bf16) w _ _ inb' (ix3 0 a b) (ix3 g a b) (by intro a; fin_cases a <;> simp)

theorem weightStep_eq (f : ℕ → Fin 512 → EReal) (x : S1056x512.Idx → Elt Ideal .f32) (s : S1x512.Idx → Elt Ideal .f32) (T : ℕ) (g : Fin 4) (o : ℕ) (inb) (inb')
    (ho : o = 128 * g.val) (p : Tile) (hp : ∀ y, p y = resid f (wid g) (T + (y 0).val) (col g (y 1))) (a b : Fin 128) :
    weightStep p (View.ld (Val := Elt Ideal) (e' := .f32) s (Rect.unit ![0, o] ![1, 128] inb')) (View.ld (Val := Elt Ideal) (e' := .f32) x (Rect.unit ![0, o] ![1056, 128] inb)) a b
      = weightAt f (fun r C => x (ix2 r C)) s T g a b := by
  subst ho
  unfold weightStep weightAt
  refine Finset.sum_congr rfl fun r _ => congrArg₂ (· * ·) (hp _) (congrArg₂ (· * ·) ?_ ?_)
  · exact View.ld_unit_apply_of (Val := Elt Ideal) (e := .f32) x _ _ inb (ix2 r b) (ix2 r (col g b)) (by intro a; fin_cases a <;> simp [col])
  · exact View.ld_unit_apply_of (Val := Elt Ideal) (e := .f32) s _ _ inb' (ix2 0 b) (ix2 0 (col g b)) (by intro a; fin_cases a <;> simp [col])

theorem emb_row (o : ℕ) (g : Fin 4) (inb) (h : o = 128 * g.val) (y : S1x128.Idx) : (Rect.unit (s := S1x512) ![0, o] ![1, 128] inb).emb y = (ix2 0 (col g (y 1)) : S1x512.Idx) := by
  subst h
  funext a
  have h0 : (y 0).val < 1 := (y 0).isLt
  fin_cases a
  · exact Subsingleton.elim (α := Fin 1) _ _
  · exact Fin.ext (by simp [col])

theorem emb_mat (o : ℕ) (g : Fin 4) (inb) (h : o = g.val) (y : S1x128x128.Idx) : (Rect.unit (s := S4x128x128) ![o, 0, 0] ![1, 128, 128] inb).emb y = (ix3 g (y 1) (y 2) : S4x128x128.Idx) := by
  subst h
  funext a
  have h0 : (y 0).val < 1 := (y 0).isLt
  fin_cases a
  · exact Fin.ext (by simp <;> omega)
  · exact Fin.ext (by simp)
  · exact Fin.ext (by simp)

section Pieces

variable (f : ℕ → Fin 512 → EReal) (t : Fin cfg0.N) (U : S1072x512.Idx → Elt Ideal .f32) (hU : ∀ ρ C, U (ix2 ρ C) = f (t.val * 1056 + ρ.val) C)
  (x : S1056x512.Idx → Elt Ideal .f32)
include hU

local notation "L" => View.ld (Val := Elt Ideal) (e' := EltTy.f32)

/-- The scale's gradient after a point's four stores: the array loaded before them, and the rows the point adds. -/
theorem scale_canon (w : S4x128x128.Idx → Elt Ideal .bf16) (acc : S1x512.Idx → Elt Ideal .f32) (tl : List (View.Piece (Elt Ideal) S1x512 .f32)) (j : S1x512.Idx) :
    View.canon ([(⟨(Rect.unit ![0, 384] ![1, 128] inb_S1x512_S1x128_0_384), k0_pay55 (F := Ideal) (k0_pay51 (F := Ideal) (k0_pay6 (grid0.coords t)) (L U (Rect.unit ![16, 384] ![1056, 128] inb_S1072x512_S1056x128_16_384)) (k0_pay50 (L U (Rect.unit ![16, 384] ![1056, 128] inb_S1072x512_S1056x128_16_384)) (L U (Rect.unit ![15, 384] ![1056, 128] inb_S1072x512_S1056x128_15_384)) (L U (Rect.unit ![14, 384] ![1056, 128] inb_S1072x512_S1056x128_14_384)) (L U (Rect.unit ![13, 384] ![1056, 128] inb_S1072x512_S1056x128_13_384))) (L U (Rect.unit ![12, 384] ![1056, 128] inb_S1072x512_S1056x128_12_384)) (L U (Rect.unit ![11, 384] ![1056, 128] inb_S1072x512_S1056x128_11_384)) (L U (Rect.unit ![10, 384] ![1056, 128] inb_S1072x512_S1056x128_10_384)) (L U (Rect.unit ![9, 384] ![1056, 128] inb_S1072x512_S1056x128_9_384)) (L U (Rect.unit ![8, 384] ![1056, 128] inb_S1072x512_S1056x128_8_384)) (L U (Rect.unit ![7, 384] ![1056, 128] inb_S1072x512_S1056x128_7_384)) (L U (Rect.unit ![6, 384] ![1056, 128] inb_S1072x512_S1056x128_6_384)) (L U (Rect.unit ![5, 384] ![1056, 128] inb_S1072x512_S1056x128_5_384)) (L U (Rect.unit ![4, 384] ![1056, 128] inb_S1072x512_S1056x128_4_384)) (L U (Rect.unit ![3, 384] ![1056, 128] inb_S1072x512_S1056x128_3_384)) (L U (Rect.unit ![2, 384] ![1056, 128] inb_S1072x512_S1056x128_2_384)) (L U (Rect.unit ![1, 384] ![1056, 128] inb_S1072x512_S1056x128_1_384))) (View.ld (Val := Elt Ideal) (e' := .bf16) w (Rect.unit ![3, 0, 0] ![1, 128, 128] inb_S4x128x128_S1x128x128_3_0_0)) (L x (Rect.unit ![0, 384] ![1056, 128] inb_S1056x512_S1056x128_0_384)) (L acc (Rect.unit ![0, 384] ![1, 128] inb_S1x512_S1x128_0_384))⟩ : View.Piece (Elt Ideal) S1x512 .f32),
        (⟨(Rect.unit ![0, 256] ![1, 128] inb_S1x512_S1x128_0_256), k0_pay40 (F := Ideal) (k0_pay38 (L acc (Rect.unit ![0, 256] ![1, 128] inb_S1x512_S1x128_0_256))) (k0_pay39 (k0_pay6 (grid0.coords t)) (L U (Rect.unit ![16, 256] ![1056, 128] inb_S1072x512_S1056x128_16_256)) (L U (Rect.unit ![15, 256] ![1056, 128] inb_S1072x512_S1056x128_15_256)) (L U (Rect.unit ![14, 256] ![1056, 128] inb_S1072x512_S1056x128_14_256)) (L U (Rect.unit ![13, 256] ![1056, 128] inb_S1072x512_S1056x128_13_256)) (L U (Rect.unit ![12, 256] ![1056, 128] inb_S1072x512_S1056x128_12_256)) (L U (Rect.unit ![11, 256] ![1056, 128] inb_S1072x512_S1056x128_11_256)) (L U (Rect.unit ![10, 256] ![1056, 128] inb_S1072x512_S1056x128_10_256)) (L U (Rect.unit ![9, 256] ![1056, 128] inb_S1072x512_S1056x128_9_256)) (View.ld (Val := Elt Ideal) (e' := .bf16) w (Rect.unit ![2, 0, 0] ![1, 128, 128] inb_S4x128x128_S1x128x128_2_0_0)) (L x (Rect.unit ![0, 256] ![1056, 128] inb_S1056x512_S1056x128_0_256)))⟩ : View.Piece (Elt Ideal) S1x512 .f32),
        (⟨(Rect.unit ![0, 128] ![1, 128] inb_S1x512_S1x128_0_128), k0_pay27 (F := Ideal) (k0_pay6 (grid0.coords t)) (L U (Rect.unit ![16, 128] ![1056, 128] inb_S1072x512_S1056x128_16_128)) (k0_pay21 (L U (Rect.unit ![16, 128] ![1056, 128] inb_S1072x512_S1056x128_16_128)) (L U (Rect.unit ![15, 128] ![1056, 128] inb_S1072x512_S1056x128_15_128)) (L U (Rect.unit ![14, 128] ![1056, 128] inb_S1072x512_S1056x128_14_128)) (L U (Rect.unit ![13, 128] ![1056, 128] inb_S1072x512_S1056x128_13_128))) k0_pay22 (View.ld (Val := Elt Ideal) (e' := .bf16) w (Rect.unit ![1, 0, 0] ![1, 128, 128] inb_S4x128x128_S1x128x128_1_0_0)) (L x (Rect.unit ![0, 128] ![1056, 128] inb_S1056x512_S1056x128_0_128)) (L acc (Rect.unit ![0, 128] ![1, 128] inb_S1x512_S1x128_0_128))⟩ : View.Piece (Elt Ideal) S1x512 .f32),
        (⟨(Rect.unit ![0, 0] ![1, 128] inb_S1x512_S1x128_0_0), k0_pay13 (F := Ideal) (k0_pay8 (F := Ideal) (grid0.coords t) (L U (Rect.unit ![16, 0] ![1056, 128] inb_S1072x512_S1056x128_16_0)) (L U (Rect.unit ![15, 0] ![1056, 128] inb_S1072x512_S1056x128_15_0))) (View.ld (Val := Elt Ideal) (e' := .bf16) w (Rect.unit ![0, 0, 0] ![1, 128, 128] inb_S4x128x128_S1x128x128_0_0_0)) (L x (Rect.unit ![0, 0] ![1056, 128] inb_S1056x512_S1056x128_0_0)) (L acc (Rect.unit ![0, 0] ![1, 128] inb_S1x512_S1x128_0_0))⟩ : View.Piece (Elt Ideal) S1x512 .f32)] ++ tl) j = acc j + scaleAt f (fun r C => x (ix2 r C)) w (t.val * 1056) (grp (j 1)) (chn (j 1)) := by
  refine View.canon_append_of_piecesOf (Val := Elt Ideal) (e := .f32) (s := S1x512)
    (fun j => acc j + scaleAt f (fun r C => x (ix2 r C)) w (t.val * 1056) (grp (j 1)) (chn (j 1))) tl _ ?_ j ?_
  rotate_left
  · have h0 : (j 0).val < 1 := (j 0).isLt
    have h1 : (j 1).val < 512 := (j 1).isLt
    by_cases h3 : 384 ≤ (j 1).val
    · exact ⟨_, List.mem_cons_self, by rw [Rect.mem_set_unit]; intro a; fin_cases a <;> simp <;> omega⟩
    by_cases h2 : 256 ≤ (j 1).val
    · exact ⟨_, List.mem_cons_of_mem _ List.mem_cons_self, by rw [Rect.mem_set_unit]; intro a; fin_cases a <;> simp <;> omega⟩
    by_cases h2 : 128 ≤ (j 1).val
    · exact ⟨_, List.mem_cons_of_mem _ (List.mem_cons_of_mem _ List.mem_cons_self), by rw [Rect.mem_set_unit]; intro a; fin_cases a <;> simp <;> omega⟩
    · exact ⟨_, List.mem_cons_of_mem _ (List.mem_cons_of_mem _ (List.mem_cons_of_mem _ List.mem_cons_self)), by rw [Rect.mem_set_unit]; intro a; fin_cases a <;> simp <;> omega⟩
  refine ⟨fun y => ?_, fun y => ?_, fun y => ?_, fun y => ?_, trivial⟩
  · refine (scale3 _ _ _ _ y).trans ?_
    have e : (Rect.unit ![0, 384] ![1, 128] inb_S1x512_S1x128_0_384).emb y = (ix2 0 (col 3 (y 1)) : S1x512.Idx) := emb_row 384 3 _ rfl y
    refine congrArg₂ (· + ·) rfl ((scaleStep_eq f x w (t.val * 1056) 3 _ _ _ _ rfl rfl _ (fun y => resid3 f t U hU y _ rfl) (y 1)).trans ?_)
    refine congrArg₂ (scaleAt f (fun r C => x (ix2 r C)) w (t.val * 1056)) ((grp_col 3 (y 1)).symm.trans (congrArg (fun i : S1x512.Idx => grp (i 1)) e.symm))
      ((chn_col 3 (y 1)).symm.trans (congrArg (fun i : S1x512.Idx => chn (i 1)) e.symm))
  · refine (scale2 _ _ _ _ _ _ _ _ _ _ _ _ y).trans ?_
    have e : (Rect.unit ![0, 256] ![1, 128] inb_S1x512_S1x128_0_256).emb y = (ix2 0 (col 2 (y 1)) : S1x512.Idx) := emb_row 256 2 _ rfl y
    refine congrArg₂ (· + ·) rfl ((scaleStep_eq f x w (t.val * 1056) 2 _ _ _ _ rfl rfl _ (fun y => resid2 f t U hU y _ rfl) (y 1)).trans ?_)
    refine congrArg₂ (scaleAt f (fun r C => x (ix2 r C)) w (t.val * 1056)) ((grp_col 2 (y 1)).symm.trans (congrArg (fun i : S1x512.Idx => grp (i 1)) e.symm))
      ((chn_col 2 (y 1)).symm.trans (congrArg (fun i : S1x512.Idx => chn (i 1)) e.symm))
  · refine (scale1 _ _ _ _ _ _ _ y).trans ?_
    have e : (Rect.unit ![0, 128] ![1, 128] inb_S1x512_S1x128_0_128).emb y = (ix2 0 (col 1 (y 1)) : S1x512.Idx) := emb_row 128 1 _ rfl y
    refine congrArg₂ (· + ·) rfl ((scaleStep_eq f x w (t.val * 1056) 1 _ _ _ _ rfl rfl _ (fun y => resid1 f t U hU y _ rfl) (y 1)).trans ?_)
    refine congrArg₂ (scaleAt f (fun r C => x (ix2 r C)) w (t.val * 1056)) ((grp_col 1 (y 1)).symm.trans (congrArg (fun i : S1x512.Idx => grp (i 1)) e.symm))
      ((chn_col 1 (y 1)).symm.trans (congrArg (fun i : S1x512.Idx => chn (i 1)) e.symm))
  · refine (scale0 _ _ _ _ y).trans ?_
    have e : (Rect.unit ![0, 0] ![1, 128] inb_S1x512_S1x128_0_0).emb y = (ix2 0 (col 0 (y 1)) : S1x512.Idx) := emb_row 0 0 _ rfl y
    refine congrArg₂ (· + ·) rfl ((scaleStep_eq f x w (t.val * 1056) 0 _ _ _ _ rfl rfl _ (fun y => resid0 f t U hU y _ rfl) (y 1)).trans ?_)
    refine congrArg₂ (scaleAt f (fun r C => x (ix2 r C)) w (t.val * 1056)) ((grp_col 0 (y 1)).symm.trans (congrArg (fun i : S1x512.Idx => grp (i 1)) e.symm))
      ((chn_col 0 (y 1)).symm.trans (congrArg (fun i : S1x512.Idx => chn (i 1)) e.symm))

/-- The product's gradient after a point's four stores. -/
theorem weight_canon (s : S1x512.Idx → Elt Ideal .f32) (acc : S4x128x128.Idx → Elt Ideal .f32) (tl : List (View.Piece (Elt Ideal) S4x128x128 .f32)) (j : S4x128x128.Idx) :
    View.canon ([(⟨(Rect.unit ![3, 0, 0] ![1, 128, 128] inb_S4x128x128_S1x128x128_3_0_0), k0_pay57 (F := Ideal) (k0_pay51 (F := Ideal) (k0_pay6 (grid0.coords t)) (L U (Rect.unit ![16, 384] ![1056, 128] inb_S1072x512_S1056x128_16_384)) (k0_pay50 (L U (Rect.unit ![16, 384] ![1056, 128] inb_S1072x512_S1056x128_16_384)) (L U (Rect.unit ![15, 384] ![1056, 128] inb_S1072x512_S1056x128_15_384)) (L U (Rect.unit ![14, 384] ![1056, 128] inb_S1072x512_S1056x128_14_384)) (L U (Rect.unit ![13, 384] ![1056, 128] inb_S1072x512_S1056x128_13_384))) (L U (Rect.unit ![12, 384] ![1056, 128] inb_S1072x512_S1056x128_12_384)) (L U (Rect.unit ![11, 384] ![1056, 128] inb_S1072x512_S1056x128_11_384)) (L U (Rect.unit ![10, 384] ![1056, 128] inb_S1072x512_S1056x128_10_384)) (L U (Rect.unit ![9, 384] ![1056, 128] inb_S1072x512_S1056x128_9_384)) (L U (Rect.unit ![8, 384] ![1056, 128] inb_S1072x512_S1056x128_8_384)) (L U (Rect.unit ![7, 384] ![1056, 128] inb_S1072x512_S1056x128_7_384)) (L U (Rect.unit ![6, 384] ![1056, 128] inb_S1072x512_S1056x128_6_384)) (L U (Rect.unit ![5, 384] ![1056, 128] inb_S1072x512_S1056x128_5_384)) (L U (Rect.unit ![4, 384] ![1056, 128] inb_S1072x512_S1056x128_4_384)) (L U (Rect.unit ![3, 384] ![1056, 128] inb_S1072x512_S1056x128_3_384)) (L U (Rect.unit ![2, 384] ![1056, 128] inb_S1072x512_S1056x128_2_384)) (L U (Rect.unit ![1, 384] ![1056, 128] inb_S1072x512_S1056x128_1_384))) (L s (Rect.unit ![0, 384] ![1, 128] inb_S1x512_S1x128_0_384)) (L x (Rect.unit ![0, 384] ![1056, 128] inb_S1056x512_S1056x128_0_384)) (L acc (Rect.unit ![3, 0, 0] ![1, 128, 128] inb_S4x128x128_S1x128x128_3_0_0))⟩ : View.Piece (Elt Ideal) S4x128x128 .f32),
        (⟨(Rect.unit ![2, 0, 0] ![1, 128, 128] inb_S4x128x128_S1x128x128_2_0_0), k0_pay42 (F := Ideal) (k0_pay34 (F := Ideal) (k0_pay6 (grid0.coords t)) (L U (Rect.unit ![16, 256] ![1056, 128] inb_S1072x512_S1056x128_16_256)) (L U (Rect.unit ![15, 256] ![1056, 128] inb_S1072x512_S1056x128_15_256)) (L U (Rect.unit ![14, 256] ![1056, 128] inb_S1072x512_S1056x128_14_256)) (L U (Rect.unit ![13, 256] ![1056, 128] inb_S1072x512_S1056x128_13_256)) (L U (Rect.unit ![12, 256] ![1056, 128] inb_S1072x512_S1056x128_12_256)) (L U (Rect.unit ![11, 256] ![1056, 128] inb_S1072x512_S1056x128_11_256)) (L U (Rect.unit ![10, 256] ![1056, 128] inb_S1072x512_S1056x128_10_256)) (L U (Rect.unit ![9, 256] ![1056, 128] inb_S1072x512_S1056x128_9_256))) (k0_pay36 (L s (Rect.unit ![0, 256] ![1, 128] inb_S1x512_S1x128_0_256))) (k0_pay37 (L x (Rect.unit ![0, 256] ![1056, 128] inb_S1056x512_S1056x128_0_256))) (L acc (Rect.unit ![2, 0, 0] ![1, 128, 128] inb_S4x128x128_S1x128x128_2_0_0))⟩ : View.Piece (Elt Ideal) S4x128x128 .f32),
        (⟨(Rect.unit ![1, 0, 0] ![1, 128, 128] inb_S4x128x128_S1x128x128_1_0_0), k0_pay29 (F := Ideal) (k0_pay6 (grid0.coords t)) (L U (Rect.unit ![16, 128] ![1056, 128] inb_S1072x512_S1056x128_16_128)) (k0_pay21 (L U (Rect.unit ![16, 128] ![1056, 128] inb_S1072x512_S1056x128_16_128)) (L U (Rect.unit ![15, 128] ![1056, 128] inb_S1072x512_S1056x128_15_128)) (L U (Rect.unit ![14, 128] ![1056, 128] inb_S1072x512_S1056x128_14_128)) (L U (Rect.unit ![13, 128] ![1056, 128] inb_S1072x512_S1056x128_13_128))) k0_pay22 (L s (Rect.unit ![0, 128] ![1, 128] inb_S1x512_S1x128_0_128)) (L x (Rect.unit ![0, 128] ![1056, 128] inb_S1056x512_S1056x128_0_128)) (L acc (Rect.unit ![1, 0, 0] ![1, 128, 128] inb_S4x128x128_S1x128x128_1_0_0))⟩ : View.Piece (Elt Ideal) S4x128x128 .f32),
        (⟨(Rect.unit ![0, 0, 0] ![1, 128, 128] inb_S4x128x128_S1x128x128_0_0_0), k0_pay15 (F := Ideal) (k0_pay8 (F := Ideal) (grid0.coords t) (L U (Rect.unit ![16, 0] ![1056, 128] inb_S1072x512_S1056x128_16_0)) (L U (Rect.unit ![15, 0] ![1056, 128] inb_S1072x512_S1056x128_15_0))) (L s (Rect.unit ![0, 0] ![1, 128] inb_S1x512_S1x128_0_0)) (L x (Rect.unit ![0, 0] ![1056, 128] inb_S1056x512_S1056x128_0_0)) (L acc (Rect.unit ![0, 0, 0] ![1, 128, 128] inb_S4x128x128_S1x128x128_0_0_0))⟩ : View.Piece (Elt Ideal) S4x128x128 .f32)] ++ tl) j = acc j + weightAt f (fun r C => x (ix2 r C)) s (t.val * 1056) (j 0) (j 1) (j 2) := by
  refine View.canon_append_of_piecesOf (Val := Elt Ideal) (e := .f32) (s := S4x128x128)
    (fun j => acc j + weightAt f (fun r C => x (ix2 r C)) s (t.val * 1056) (j 0) (j 1) (j 2)) tl _ ?_ j ?_
  rotate_left
  · have h0 : (j 0).val < 4 := (j 0).isLt
    have h1 : (j 1).val < 128 := (j 1).isLt
    have h2 : (j 2).val < 128 := (j 2).isLt
    by_cases h3 : 3 ≤ (j 0).val
    · exact ⟨_, List.mem_cons_self, by rw [Rect.mem_set_unit]; intro a; fin_cases a <;> simp <;> omega⟩
    by_cases h2 : 2 ≤ (j 0).val
    · exact ⟨_, List.mem_cons_of_mem _ List.mem_cons_self, by rw [Rect.mem_set_unit]; intro a; fin_cases a <;> simp <;> omega⟩
    by_cases h2 : 1 ≤ (j 0).val
    · exact ⟨_, List.mem_cons_of_mem _ (List.mem_cons_of_mem _ List.mem_cons_self), by rw [Rect.mem_set_unit]; intro a; fin_cases a <;> simp <;> omega⟩
    · exact ⟨_, List.mem_cons_of_mem _ (List.mem_cons_of_mem _ (List.mem_cons_of_mem _ List.mem_cons_self)), by rw [Rect.mem_set_unit]; intro a; fin_cases a <;> simp <;> omega⟩
  refine ⟨fun y => ?_, fun y => ?_, fun y => ?_, fun y => ?_, trivial⟩
  · refine (weight3 _ _ _ _ y).trans ?_
    have e : (Rect.unit ![3, 0, 0] ![1, 128, 128] inb_S4x128x128_S1x128x128_3_0_0).emb y = (ix3 3 (y 1) (y 2) : S4x128x128.Idx) := emb_mat 3 3 _ rfl y
    refine congrArg₂ (· + ·) rfl ((weightStep_eq f x s (t.val * 1056) 3 _ _ _ rfl _ (fun y => resid3 f t U hU y _ rfl) (y 1) (y 2)).trans ?_)
    exact (congrArg (fun i : S4x128x128.Idx => weightAt f (fun r C => x (ix2 r C)) s (t.val * 1056) (i 0) (i 1) (i 2)) e).symm
  · refine (weight2 _ _ _ _ y).trans ?_
    have e : (Rect.unit ![2, 0, 0] ![1, 128, 128] inb_S4x128x128_S1x128x128_2_0_0).emb y = (ix3 2 (y 1) (y 2) : S4x128x128.Idx) := emb_mat 2 2 _ rfl y
    refine congrArg₂ (· + ·) rfl ((weightStep_eq f x s (t.val * 1056) 2 _ _ _ rfl _ (fun y => resid2 f t U hU y _ rfl) (y 1) (y 2)).trans ?_)
    exact (congrArg (fun i : S4x128x128.Idx => weightAt f (fun r C => x (ix2 r C)) s (t.val * 1056) (i 0) (i 1) (i 2)) e).symm
  · refine (weight1 _ _ _ _ _ _ _ y).trans ?_
    have e : (Rect.unit ![1, 0, 0] ![1, 128, 128] inb_S4x128x128_S1x128x128_1_0_0).emb y = (ix3 1 (y 1) (y 2) : S4x128x128.Idx) := emb_mat 1 1 _ rfl y
    refine congrArg₂ (· + ·) rfl ((weightStep_eq f x s (t.val * 1056) 1 _ _ _ rfl _ (fun y => resid1 f t U hU y _ rfl) (y 1) (y 2)).trans ?_)
    exact (congrArg (fun i : S4x128x128.Idx => weightAt f (fun r C => x (ix2 r C)) s (t.val * 1056) (i 0) (i 1) (i 2)) e).symm
  · refine (weight0 _ _ _ _ y).trans ?_
    have e : (Rect.unit ![0, 0, 0] ![1, 128, 128] inb_S4x128x128_S1x128x128_0_0_0).emb y = (ix3 0 (y 1) (y 2) : S4x128x128.Idx) := emb_mat 0 0 _ rfl y
    refine congrArg₂ (· + ·) rfl ((weightStep_eq f x s (t.val * 1056) 0 _ _ _ rfl _ (fun y => resid0 f t U hU y _ rfl) (y 1) (y 2)).trans ?_)
    exact (congrArg (fun i : S4x128x128.Idx => weightAt f (fun r C => x (ix2 r C)) s (t.val * 1056) (i 0) (i 1) (i 2)) e).symm

end Pieces

end Cert.PoolIdeal.Blocks

end
-- ==== Proof.PoolOps.lean ====
/- The reference of the pool, operation by operation: its running sums, its gathers, its starts and counts. -/
module

public import proofs.«01_k».proof.Proof.Gen.PoolRefIdeal.Read
public import Idealize.ShloMosaic.Lib.Pointwise
public import Idealize.ShloMosaic.Lib.Claim
public import proofs.«01_k».proof.Proof.PoolWords
public import proofs.«01_k».proof.Proof.PoolSums

@[expose] public section

set_option maxRecDepth 16384

noncomputable section

namespace Cert.PoolRefIdeal.Ops

open Cert.PoolRefIdeal Cert.PoolRefIdeal.Gen Cert.PoolRefIdeal.Read
open Idealize.ShloMosaic Idealize.ShloMosaic.TcCoe Idealize.SL.Sem

theorem foldl_add {ι : Type} (l : List ι) (g : ι → EReal) (v : EReal) : l.foldl (fun r n => r + g n) v = v + (l.map g).sum := by
  induction l generalizing v with
  | nil => simp
  | cons a l ih => simp only [List.foldl_cons, List.map_cons, List.sum_cons, ih, add_assoc]

/-- A column of an array of one slab, and zero beyond its rows. -/
def colOf (x : S1x4112x512.Idx → EReal) (C : Fin 512) (n : ℕ) : EReal := if h : n < 4112 then x (ix3 0 (⟨n, h⟩ : Fin 4112) C) else 0

theorem window_sum (L H : ℕ) (x : FVec Ideal S1x4112x512 .f32) (init : FVec Ideal S_ .f32) (hi : ∀ j, init j = 0) (h) (hu) (n : Fin 4112) (C : Fin 512) :
    Host.reduceWindowAdd (F := Ideal) (t := S1x4112x512) ![1, 4112, 1] ![1, 1, 1] ![0, L, 0] ![0, H, 0] x init h hu (ix3 0 n C)
      = ∑ k : Fin 4112, if L ≤ n.val + k.val then colOf x C (n.val + k.val - L) else 0 := by
  unfold Host.reduceWindowAdd
  rw [Ideal.hostReduceWindowAdd_def]
  unfold Ideal.hostReduceWindowAdd Host.reduceWindow
  dsimp only
  rw [foldl_add, hi, zero_add, ← Fin.sum_univ_def]
  refine (Fintype.sum_bijective (fun k : Fin 4112 => Shape.rowMajor ⟨3, ![1, 4112, 1]⟩ (ix3 0 k 0))
    ((Equiv.bijective _).comp ⟨fun a b e => congrFun e 1, fun w => ⟨w 1, ?_⟩⟩) _ _ fun k => ?_).symm
  · funext a; fin_cases a
    · exact Subsingleton.elim (α := Fin 1) _ _
    · rfl
    · exact Subsingleton.elim (α := Fin 1) _ _
  · simp only [Equiv.symm_apply_apply]
    by_cases h1 : L ≤ n.val + k.val
    · by_cases h2 : n.val + k.val - L < 4112
      · rw [if_pos h1, dif_pos (by intro a; fin_cases a <;> simp <;> omega)]
        unfold colOf
        rw [dif_pos h2]
        congr 1
        funext a
        fin_cases a <;> exact Fin.ext (by simp)
      · rw [if_pos h1, dif_neg (fun hin => h2 (by simpa using (hin 1).2))]
        unfold colOf
        rw [dif_neg h2]
    · rw [if_neg h1, dif_neg (fun hin => h1 (by simpa using (hin 1).1))]

theorem gather_at (x : FVec Ideal S1x4113x128 .f32) (idx : IVec S4112x1 32) (n : Fin 4112) (a : Fin 128) (s : Fin 4113) (hs : (idx (ix2 n 0)).toInt = (s.val : ℤ)) :
    Host.gather gather_S1x4113x128_S4112x1_S1x4112x128_02_1_n_n_1_1_11128 x idx (ix3 0 n a) = x (ix3 0 s a) := by
  unfold Host.gather
  congr 1
  funext b
  refine Fin.ext ?_
  show GatherDims.start _ _ idx b + GatherDims.batchCoord _ _ b + GatherDims.offCoord _ _ b = _
  rw [GatherDims.batchCoord_eq_zero _ _ _ (fun h => by simp [gather_S1x4113x128_S4112x1_S1x4112x128_02_1_n_n_1_1_11128] at h)]
  have h012 : b = 0 ∨ b = 1 ∨ b = 2 := by fin_cases b <;> simp
  rcases h012 with rfl | rfl | rfl
  · have h1 : ((ix3 0 s a : S1x4113x128.Idx) 0).val = 0 := rfl
    unfold GatherDims.start
    rw [dif_neg (show (0 : Fin 3) ∉ gather_S1x4113x128_S4112x1_S1x4112x128_02_1_n_n_1_1_11128.startIndexMap from by simp [gather_S1x4113x128_S4112x1_S1x4112x128_02_1_n_n_1_1_11128])]
    unfold GatherDims.offCoord
    rw [dif_pos ((GatherDims.mem_sKept _ _).mpr ⟨by simp [gather_S1x4113x128_S4112x1_S1x4112x128_02_1_n_n_1_1_11128], by simp [gather_S1x4113x128_S4112x1_S1x4112x128_02_1_n_n_1_1_11128]⟩)]
    rfl
  · rw [GatherDims.offCoord_eq_zero _ _ _ (fun h => ((GatherDims.mem_sKept _ _).mp h).1 (List.mem_singleton.mpr rfl))]
    unfold GatherDims.start
    rw [dif_pos (show (1 : Fin 3) ∈ gather_S1x4113x128_S4112x1_S1x4112x128_02_1_n_n_1_1_11128.startIndexMap from List.mem_singleton.mpr rfl)]
    have hsi : gather_S1x4113x128_S4112x1_S1x4112x128_02_1_n_n_1_1_11128.siIdx (ix3 0 n a) ⟨List.idxOf (1 : Fin 3) gather_S1x4113x128_S4112x1_S1x4112x128_02_1_n_n_1_1_11128.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, hs]
    show min s.val (4113 - 1) + 0 + 0 = s.val
    omega
  · unfold GatherDims.start
    rw [dif_neg (show (2 : Fin 3) ∉ gather_S1x4113x128_S4112x1_S1x4112x128_02_1_n_n_1_1_11128.startIndexMap from by simp [gather_S1x4113x128_S4112x1_S1x4112x128_02_1_n_n_1_1_11128])]
    unfold GatherDims.offCoord
    rw [dif_pos ((GatherDims.mem_sKept _ _).mpr ⟨by simp [gather_S1x4113x128_S4112x1_S1x4112x128_02_1_n_n_1_1_11128], by simp [gather_S1x4113x128_S4112x1_S1x4112x128_02_1_n_n_1_1_11128]⟩)]
    show 0 + 0 + a.val = a.val
    omega

open Cert.PoolIdeal.Blocks (col grp chn wid met)

/-- A column of the input, and zero beyond its rows. -/
def inp (x : FVec Ideal S4112x512 .f32) (C : Fin 512) (n : ℕ) : EReal := if h : n < 4112 then x (ix2 (⟨n, h⟩ : Fin 4112) C) else 0

theorem colOf_v0 (x : FVec Ideal S4112x512 .f32) (C : Fin 512) (n : ℕ) : colOf (val_main_v0 (F := Ideal) x) C n = inp x C n := by
  unfold colOf inp
  by_cases h : n < 4112
  · rw [dif_pos h, dif_pos h]; pointwise [val_main_v0]
  · rw [dif_neg h, dif_neg h]

/-- The sum of a column's first rows. -/
def pre (x : FVec Ideal S4112x512 .f32) (C : Fin 512) (n : ℕ) : EReal := ∑ i ∈ Finset.range n, inp x C i

theorem running (x : FVec Ideal S4112x512 .f32) (n : Fin 4112) (C : Fin 512) : val_main_v2 (F := Ideal) x (ix3 0 n C) = pre x C (n.val + 1) := by
  unfold val_main_v2
  rw [window_sum 4111 0 _ _ (fun j => by pointwise [val_main_call0_v0, val_main_call0_cst]) _ _ n C]
  rw [Fin.sum_univ_eq_sum_range (fun k => if 4111 ≤ n.val + k then colOf (val_main_v0 (F := Ideal) x) C (n.val + k - 4111) else 0) 4112,
    congrArg Finset.range (show 4112 = (4111 - n.val) + (n.val + 1) from by omega), Finset.sum_range_add,
    Finset.sum_eq_zero (fun k hk => if_neg (by have := Finset.mem_range.mp hk; omega)), zero_add]
  refine Finset.sum_congr rfl fun k hk => ?_
  rw [if_pos (by omega), colOf_v0]
  exact congrArg (inp x C) (by omega)

theorem prefixes (x : FVec Ideal S4112x512 .f32) (s : Fin 4113) (C : Fin 512) : val_main_v3 (F := Ideal) x (ix3 0 s C) = pre x C s.val := by
  pointwise [val_main_v3, val_main_v1, val_main_cst]
  by_cases h : s.val < 1
  · rw [dif_pos h, show s.val = 0 by omega]; rfl
  · rw [dif_neg h, running]
    exact congrArg (pre x C) (show s.val - 1 + 1 = s.val by omega)

/-- The reference's residual: a difference of running sums over the rows met, less the row. -/
def refResid (x : FVec Ideal S4112x512 .f32) (w : ℕ) (n : Fin 4112) (C : Fin 512) : EReal :=
  Ideal.div (pre x C (n.val + 1) - pre x C (n.val + 1 - w)) (met n.val w) - x (ix2 n C)

theorem count_of (n : Fin 4112) (w : ℕ) (hw : w ∈ [2, 4, 8, 16]) : FloatOps.sitofp (F := Ideal) .f32 (countWord n.val w) = met n.val w := by
  unfold met; rw [← count_word n w hw]; rfl

/-! ### The residual of group 0 -/

theorem start0 (n : Fin 4112) : (val_main_v23 (F := Ideal) (ix2 n 0)).toInt = ((n.val + 1 - 2 : ℕ) : ℤ) := by
  refine Eq.trans (congrArg BitVec.toInt ?_) (start_word n 2 (by decide))
  pointwise [val_main_v23, val_main_v22, val_main_v21, val_main_v20, val_main_v19, val_main_v18, val_main_v12, val_main_v11, val_main_v10, val_main_v9, val_main_v8, val_main_v7, val_main_v5]
  rfl

theorem count0 (n : Fin 4112) : val_main_v16 (F := Ideal) (ix1 n) = met n.val 2 := by
  refine Eq.trans ?_ (count_of n 2 (by decide))
  pointwise [val_main_v16, val_main_v15, val_main_v14, val_main_v13, val_main_v12, val_main_v11, val_main_v10, val_main_v9, val_main_v8, val_main_v7, val_main_v5]
  rfl

theorem resid0 (x : FVec Ideal S4112x512 .f32) (n : Fin 4112) (a : Fin 128) : val_main_v30 (F := Ideal) x (ix3 0 n a) = refResid x 2 n (col 0 a) := by
  have e : val_main_v24 (F := Ideal) x (ix3 0 n a) = pre x (col 0 a) (n.val + 1 - 2) := by
    unfold val_main_v24
    rw [gather_at _ _ n a ⟨n.val + 1 - 2, by omega⟩ (start0 n), ← prefixes x ⟨n.val + 1 - 2, by omega⟩]
    pointwise [val_main_v6, col]
  have f : val_main_v17 (F := Ideal) x (ix3 0 n a) = pre x (col 0 a) (n.val + 1) := by
    refine Eq.trans ?_ (prefixes x ⟨1 + n.val, by omega⟩ (col 0 a) |>.trans (congrArg _ (Nat.add_comm _ _)))
    pointwise [val_main_v17, val_main_v6, col]
  have h : val_main_v29 (F := Ideal) x (ix3 0 n a) = x (ix2 n (col 0 a)) := by pointwise [val_main_v29, val_main_v0, col]
  unfold refResid
  rw [← e, ← f, ← h, ← count0]
  pointwise [val_main_v30, val_main_v28, val_main_v25, val_main_v27, val_main_v26]

/-! ### The residual of group 1 -/

theorem start1 (n : Fin 4112) : (val_main_v48 (F := Ideal) (ix2 n 0)).toInt = ((n.val + 1 - 4 : ℕ) : ℤ) := by
  refine Eq.trans (congrArg BitVec.toInt ?_) (start_word n 4 (by decide))
  pointwise [val_main_v48, val_main_v47, val_main_v46, val_main_v45, val_main_v44, val_main_v43, val_main_v37, val_main_v36, val_main_v35, val_main_v34, val_main_v33, val_main_v32, val_main_v5]
  rfl

theorem count1 (n : Fin 4112) : val_main_v41 (F := Ideal) (ix1 n) = met n.val 4 := by
  refine Eq.trans ?_ (count_of n 4 (by decide))
  pointwise [val_main_v41, val_main_v40, val_main_v39, val_main_v38, val_main_v37, val_main_v36, val_main_v35, val_main_v34, val_main_v33, val_main_v32, val_main_v5]
  rfl

theorem resid1 (x : FVec Ideal S4112x512 .f32) (n : Fin 4112) (a : Fin 128) : val_main_v55 (F := Ideal) x (ix3 0 n a) = refResid x 4 n (col 1 a) := by
  have e : val_main_v49 (F := Ideal) x (ix3 0 n a) = pre x (col 1 a) (n.val + 1 - 4) := by
    unfold val_main_v49
    rw [gather_at _ _ n a ⟨n.val + 1 - 4, by omega⟩ (start1 n), ← prefixes x ⟨n.val + 1 - 4, by omega⟩]
    pointwise [val_main_v31, col]
  have f : val_main_v42 (F := Ideal) x (ix3 0 n a) = pre x (col 1 a) (n.val + 1) := by
    refine Eq.trans ?_ (prefixes x ⟨1 + n.val, by omega⟩ (col 1 a) |>.trans (congrArg _ (Nat.add_comm _ _)))
    pointwise [val_main_v42, val_main_v31, col]
  have h : val_main_v54 (F := Ideal) x (ix3 0 n a) = x (ix2 n (col 1 a)) := by pointwise [val_main_v54, val_main_v0, col]
  unfold refResid
  rw [← e, ← f, ← h, ← count1]
  pointwise [val_main_v55, val_main_v53, val_main_v50, val_main_v52, val_main_v51]

/-! ### The residual of group 2 -/

theorem start2 (n : Fin 4112) : (val_main_v73 (F := Ideal) (ix2 n 0)).toInt = ((n.val + 1 - 8 : ℕ) : ℤ) := by
  refine Eq.trans (congrArg BitVec.toInt ?_) (start_word n 8 (by decide))
  pointwise [val_main_v73, val_main_v72, val_main_v71, val_main_v70, val_main_v69, val_main_v68, val_main_v62, val_main_v61, val_main_v60, val_main_v59, val_main_v58, val_main_v57, val_main_v5]
  rfl

theorem count2 (n : Fin 4112) : val_main_v66 (F := Ideal) (ix1 n) = met n.val 8 := by
  refine Eq.trans ?_ (count_of n 8 (by decide))
  pointwise [val_main_v66, val_main_v65, val_main_v64, val_main_v63, val_main_v62, val_main_v61, val_main_v60, val_main_v59, val_main_v58, val_main_v57, val_main_v5]
  rfl

theorem resid2 (x : FVec Ideal S4112x512 .f32) (n : Fin 4112) (a : Fin 128) : val_main_v80 (F := Ideal) x (ix3 0 n a) = refResid x 8 n (col 2 a) := by
  have e : val_main_v74 (F := Ideal) x (ix3 0 n a) = pre x (col 2 a) (n.val + 1 - 8) := by
    unfold val_main_v74
    rw [gather_at _ _ n a ⟨n.val + 1 - 8, by omega⟩ (start2 n), ← prefixes x ⟨n.val + 1 - 8, by omega⟩]
    pointwise [val_main_v56, col]
  have f : val_main_v67 (F := Ideal) x (ix3 0 n a) = pre x (col 2 a) (n.val + 1) := by
    refine Eq.trans ?_ (prefixes x ⟨1 + n.val, by omega⟩ (col 2 a) |>.trans (congrArg _ (Nat.add_comm _ _)))
    pointwise [val_main_v67, val_main_v56, col]
  have h : val_main_v79 (F := Ideal) x (ix3 0 n a) = x (ix2 n (col 2 a)) := by pointwise [val_main_v79, val_main_v0, col]
  unfold refResid
  rw [← e, ← f, ← h, ← count2]
  pointwise [val_main_v80, val_main_v78, val_main_v75, val_main_v77, val_main_v76]

/-! ### The residual of group 3 -/

theorem start3 (n : Fin 4112) : (val_main_v98 (F := Ideal) (ix2 n 0)).toInt = ((n.val + 1 - 16 : ℕ) : ℤ) := by
  refine Eq.trans (congrArg BitVec.toInt ?_) (start_word n 16 (by decide))
  pointwise [val_main_v98, val_main_v97, val_main_v96, val_main_v95, val_main_v94, val_main_v93, val_main_v87, val_main_v86, val_main_v85, val_main_v84, val_main_v83, val_main_v82, val_main_v5]
  rfl

theorem count3 (n : Fin 4112) : val_main_v91 (F := Ideal) (ix1 n) = met n.val 16 := by
  refine Eq.trans ?_ (count_of n 16 (by decide))
  pointwise [val_main_v91, val_main_v90, val_main_v89, val_main_v88, val_main_v87, val_main_v86, val_main_v85, val_main_v84, val_main_v83, val_main_v82, val_main_v5]
  rfl

theorem resid3 (x : FVec Ideal S4112x512 .f32) (n : Fin 4112) (a : Fin 128) : val_main_v105 (F := Ideal) x (ix3 0 n a) = refResid x 16 n (col 3 a) := by
  have e : val_main_v99 (F := Ideal) x (ix3 0 n a) = pre x (col 3 a) (n.val + 1 - 16) := by
    unfold val_main_v99
    rw [gather_at _ _ n a ⟨n.val + 1 - 16, by omega⟩ (start3 n), ← prefixes x ⟨n.val + 1 - 16, by omega⟩]
    pointwise [val_main_v81, col]
  have f : val_main_v92 (F := Ideal) x (ix3 0 n a) = pre x (col 3 a) (n.val + 1) := by
    refine Eq.trans ?_ (prefixes x ⟨1 + n.val, by omega⟩ (col 3 a) |>.trans (congrArg _ (Nat.add_comm _ _)))
    pointwise [val_main_v92, val_main_v81, col]
  have h : val_main_v104 (F := Ideal) x (ix3 0 n a) = x (ix2 n (col 3 a)) := by pointwise [val_main_v104, val_main_v0, col]
  unfold refResid
  rw [← e, ← f, ← h, ← count3]
  pointwise [val_main_v105, val_main_v103, val_main_v100, val_main_v102, val_main_v101]

/-- The residuals, stacked by group. -/
theorem stacked (x : FVec Ideal S4112x512 .f32) (n : Fin 4112) (g : Fin 4) (a : Fin 128) : val_main_v110 (F := Ideal) x (ix4 0 n g a) = refResid x (wid g) n (col g a) := by
  fin_cases g
  · refine Eq.trans ?_ (resid0 x n a); pointwise [val_main_v110, val_main_v106]
  · refine Eq.trans ?_ (resid1 x n a); pointwise [val_main_v110, val_main_v107]
  · refine Eq.trans ?_ (resid2 x n a); pointwise [val_main_v110, val_main_v108]
  · refine Eq.trans ?_ (resid3 x n a); pointwise [val_main_v110, val_main_v109]

theorem last_reduce (x : FVec Ideal S1x1x512 .f32) (C : Fin 512) : Ideal.hostReduceAdd reducesTo_S1x1x512_S512_d0_1 x 0 (ix1 C) = x (ix3 0 0 C) := by
  unfold Ideal.hostReduceAdd
  rw [zero_add]
  refine Finset.sum_eq_single_of_mem (ix3 0 0 C) (Finset.mem_filter.mpr ⟨Finset.mem_univ _, ?_⟩) fun i hi hne => absurd ?_ hne
  · funext a; fin_cases a; rfl
  · have h := (Finset.mem_filter.mp hi).2
    have h2 : (i 2).val = C.val := congrArg Fin.val (congrFun h 0)
    funext a
    fin_cases a
    · exact Subsingleton.elim (α := Fin 1) _ _
    · exact Subsingleton.elim (α := Fin 1) _ _
    · exact Fin.ext h2

/-- The gradient of the scale that the reference returns. -/
theorem scale_at (x d : FVec Ideal S4112x512 .f32) (w : FVec Ideal S4x128x128 .f32) (C : Fin 512) :
    val_main_v191 (F := Ideal) x w d (ix2 0 C) = ∑ n : Fin 4112, (∑ a : Fin 128, w (ix3 (grp C) a (chn C)) * refResid x (wid (grp C)) n (col (grp C) a)) * d (ix2 n C) := by
  have e : val_main_v191 (F := Ideal) x w d (ix2 0 C) = val_main_v120 (F := Ideal) x w d (ix2 0 C) := by
    have f : val_main_v124 (F := Ideal) x w d (ix1 C) = val_main_v121 (F := Ideal) x w d (ix3 0 0 C) := by
      refine Eq.trans ?_ (last_reduce (val_main_v121 (F := Ideal) x w d) C)
      unfold val_main_v124
      generalize val_main_v121 (F := Ideal) x w d = y
      pointwise [val_main_cst_25]
    refine Eq.trans ?_ (f.trans ?_)
    · pointwise [val_main_v191]
    · pointwise [val_main_v121]
  rw [e]
  simp only [← stacked]
  pointwise [val_main_v120, val_main_v119, val_main_v118, val_main_v113, val_main_v112, val_main_v111, val_main_cst_24, grp, chn]

/-- The gradient of the products that the reference returns. -/
theorem weight_at (x d : FVec Ideal S4112x512 .f32) (s : FVec Ideal S512 .f32) (g : Fin 4) (a b : Fin 128) :
    val_main_v130 (F := Ideal) x s d (ix3 g a b) = ∑ n : Fin 4112, d (ix2 n (col g b)) * s (ix1 (col g b)) * refResid x (wid g) n (col g a) := by
  have hc : col g b = (⟨g.val * 128 + b.val, by omega⟩ : Fin 512) := Fin.ext (congrArg (· + b.val) (Nat.mul_comm _ _))
  simp only [← stacked, hc]
  pointwise [val_main_v130, val_main_v129, val_main_v126, val_main_v125, val_main_v123, val_main_v122, val_main_v118, val_main_v114]
  exact Fintype.sum_unique _

end Cert.PoolRefIdeal.Ops

end
-- ==== Proof.PoolArrays.lean ====
/- The pool's backward call: the two arrays every grid point adds to, as sums over all rows. -/
module

public import proofs.«01_k».proof.Proof.Gen.PoolIdeal.Frame
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.PoolSums

@[expose] public section

set_option maxRecDepth 16384

noncomputable section

namespace Cert.PoolIdeal.Blocks

open Cert.PoolIdeal Cert.PoolIdeal.Gen
open Idealize.ShloMosaic Idealize.ShloMosaic.TcCoe Idealize.SL.Sem Idealize.ShloMosaic.Pipeline

variable (m : (ℓ : Loc nD τ sig) → Buf (Elt Ideal) ℓ) (c : Dev nD)

theorem scale_zero (j : S1x512.Idx) : k0_pay3 (F := Ideal) j = 0 := by pointwise [k0_pay3]
theorem weight_zero (j : S4x128x128.Idx) : k0_pay2 (F := Ideal) j = 0 := by pointwise [k0_pay2]

/-- The rows a point adds to the scale's gradient. -/
def scalePart (t : Fin cfg0.N) (j : S1x512.Idx) : EReal :=
  scaleAt (row (V m c main_v0)) (fun r C => iblk m c 2 t (ix2 r C)) (iblk m c 4 t) (t.val * 1056) (grp (j 1)) (chn (j 1))

/-- The rows a point adds to the product's gradient. -/
def weightPart (t : Fin cfg0.N) (j : S4x128x128.Idx) : EReal :=
  weightAt (row (V m c main_v0)) (fun r C => iblk m c 2 t (ix2 r C)) (iblk m c 5 t) (t.val * 1056) (j 0) (j 1) (j 2)

theorem scaleA (t : Fin cfg0.N) (h : t.val % 4 = 0) (j : S1x512.Idx) : (outsAt0 m c t.val t.isLt).2.2 j = 0 + scalePart m c t j := by
  rw [outsAt0_A m c t h]
  frame_out
  simp (disch := decide) only [↓View.readCov_skip, ↓View.readCov_fill]
  simp only [load_eq]
  refine (scale_canon (row (V m c main_v0)) t _ (scratch m c t) (iblk m c 2 t) (iblk m c 4 t) (k0_pay3 (F := Ideal)) [_] j).trans ?_
  rw [scale_zero]; rfl

theorem scaleB (t : Fin cfg0.N) (h : ¬ t.val % 4 = 0) (j : S1x512.Idx) :
    (outsAt0 m c t.val t.isLt).2.2 j = (outsAt0 m c (t.val - 1) (by omega)).2.2 j + scalePart m c t j := by
  rw [outsAt0_B m c t h]
  frame_out
  simp only [load_eq]
  exact scale_canon (row (V m c main_v0)) t _ (scratch m c t) (iblk m c 2 t) (iblk m c 4 t) _ [] j

theorem weightA (t : Fin cfg0.N) (h : t.val % 4 = 0) (j : S4x128x128.Idx) : (outsAt0 m c t.val t.isLt).2.1 j = 0 + weightPart m c t j := by
  rw [outsAt0_A m c t h]
  frame_out
  simp (disch := decide) only [↓View.readCov_skip, ↓View.readCov_fill]
  simp only [load_eq]
  refine (weight_canon (row (V m c main_v0)) t _ (scratch m c t) (iblk m c 2 t) (iblk m c 5 t) (k0_pay2 (F := Ideal)) [_] j).trans ?_
  rw [weight_zero]; rfl

theorem weightB (t : Fin cfg0.N) (h : ¬ t.val % 4 = 0) (j : S4x128x128.Idx) :
    (outsAt0 m c t.val t.isLt).2.1 j = (outsAt0 m c (t.val - 1) (by omega)).2.1 j + weightPart m c t j := by
  rw [outsAt0_B m c t h]
  frame_out
  simp only [load_eq]
  exact weight_canon (row (V m c main_v0)) t _ (scratch m c t) (iblk m c 2 t) (iblk m c 5 t) _ [] j

theorem cot_row (t : Fin cfg0.N) (r : Fin 1056) (C : Fin 512) (R : Fin 4224) (hR : R.val = t.val * 1056 + r.val) : iblk m c 2 t (ix2 r C) = V m c main_v1 (ix2 R C) := by
  obtain ⟨R, hR'⟩ := R; obtain rfl : R = t.val * 1056 + r.val := hR; blk_point [iblk, idx t]
theorem prod_all (t : Fin cfg0.N) : iblk m c 4 t = V m c main_v2 := funext fun y => by blk_point [iblk, idx t]
theorem scale_all (t : Fin cfg0.N) : iblk m c 5 t = V m c main_v3 := funext fun y => by blk_point [iblk, idx t]

/-- A channel's gradient of the scale, over all rows. -/
def scaleGrad (x d : S4224x512.Idx → EReal) (w : S4x128x128.Idx → EReal) (g : Fin 4) (b : Fin 128) : EReal :=
  ∑ R : Fin 4224, d (ix2 R (col g b)) * ∑ a : Fin 128, resid (row x) (wid g) R.val (col g a) * w (ix3 g a b)

/-- A pair of channels' gradient of the product, over all rows. -/
def weightGrad (x d : S4224x512.Idx → EReal) (s : S1x512.Idx → EReal) (g : Fin 4) (a b : Fin 128) : EReal :=
  ∑ R : Fin 4224, resid (row x) (wid g) R.val (col g a) * (d (ix2 R (col g b)) * s (ix2 0 (col g b)))

/-- The gradient of the scale. -/
theorem dscale_arr : (dats m 0 c).arrAt 8 cfg0.N = fun j : S1x512.Idx => scaleGrad (V m c main_v0) (V m c main_v1) (V m c main_v2) (grp (j 1)) (chn (j 1)) := by
  refine (dats m 0 c).arrAt_eq_of_after_last 8 t0_3 (by decide +kernel) _ fun j => ?_
  blk_simp
  rw [after0_8, Pipeline.eq_sum_fin_of_reset_step_apply_last (fun n h => (outsAt0 m c n h).2.2) 4 (fun _ => 0) _
    (scaleA m c) (scaleB m c) (le_of_eq N_0) t0_3 rfl j, zero_add]
  refine Fin.sum_mul_add_congr fun t r h => ?_
  refine congrArg₂ (· * ·) (cot_row m c t r _ ⟨t.val * 1056 + r.val, h⟩ rfl) ?_
  rw [prod_all]

/-- The gradient of the products. -/
theorem dweight_arr : (dats m 0 c).arrAt 7 cfg0.N = fun j : S4x128x128.Idx => weightGrad (V m c main_v0) (V m c main_v1) (V m c main_v3) (j 0) (j 1) (j 2) := by
  refine (dats m 0 c).arrAt_eq_of_after_last 7 t0_3 (by decide +kernel) _ fun j => ?_
  blk_simp
  rw [after0_7, Pipeline.eq_sum_fin_of_reset_step_apply_last (fun n h => (outsAt0 m c n h).2.1) 4 (fun _ => 0) _
    (weightA m c) (weightB m c) (le_of_eq N_0) t0_3 rfl j, zero_add]
  refine Fin.sum_mul_add_congr fun t r h => ?_
  refine congrArg₂ (· * ·) rfl (congrArg₂ (· * ·) (cot_row m c t r _ ⟨t.val * 1056 + r.val, h⟩ rfl) ?_)
  rw [scale_all]

end Cert.PoolIdeal.Blocks

end
-- ==== Proof.PoolRows.lean ====
/- The pool's backward call: the gradient of the rows, which every grid point stores once. -/
module

public import proofs.«01_k».proof.Proof.Gen.PoolIdeal.Frame
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.PoolArrays

@[expose] public section

set_option maxRecDepth 16384

noncomputable section

namespace Cert.PoolIdeal.Blocks

open Cert.PoolIdeal Cert.PoolIdeal.Gen
open Idealize.ShloMosaic Idealize.ShloMosaic.TcCoe Idealize.SL.Sem Idealize.ShloMosaic.Pipeline

/-! ### The payloads, element by element -/

/-- A row of the scaled cotangent against a channel of the group's product. -/
def backStep (dy : Fin 128 → EReal) (s : Vec Ideal S1x128 .f32) (w : Vec Ideal S1x128x128 .bf16) (a : Fin 128) : EReal :=
  ∑ b : Fin 128, dy b * s (ix2 0 b) * w (ix3 0 a b)

theorem back0 (w : Vec Ideal S1x128x128 .bf16) (s : Vec Ideal S1x128 .f32) (dy : Tile) (y : S1056x128.Idx) :
    k0_pay16 (F := Ideal) w s dy y = backStep (fun b => dy (ix2 (y 0) b)) s w (y 1) := by
  idx_vars y
  pointwise [k0_pay16, k0_pay14, k0_pay10, k0_pay9, k0_pay11, k0_pay12, backStep]

theorem back1 (w : Vec Ideal S1x128x128 .bf16) (s : Vec Ideal S1x128 .f32) (dy : Tile) (y : S1056x128.Idx) :
    k0_pay30 (F := Ideal) w s dy y = backStep (fun b => dy (ix2 (y 0) b)) s w (y 1) := by
  idx_vars y
  pointwise [k0_pay30, k0_pay28, k0_pay24, k0_pay25, k0_pay26, backStep]

theorem back2 (w : Vec Ideal S1x128x128 .bf16) (s : Vec Ideal S1x128 .f32) (dy : Tile) (y : S1056x128.Idx) :
    k0_pay43 (F := Ideal) (k0_pay35 w) (k0_pay36 s) (k0_pay37 dy) y = backStep (fun b => dy (ix2 (y 0) b)) s w (y 1) := by
  idx_vars y
  pointwise [k0_pay43, k0_pay41, k0_pay35, k0_pay36, k0_pay37, backStep]

theorem back3 (w : Vec Ideal S1x128x128 .bf16) (s : Vec Ideal S1x128 .f32) (dy : Tile) (y : S1056x128.Idx) :
    k0_pay58 (F := Ideal) w s dy y = backStep (fun b => dy (ix2 (y 0) b)) s w (y 1) := by
  idx_vars y
  pointwise [k0_pay58, k0_pay56, k0_pay52, k0_pay53, k0_pay54, backStep]

theorem quot0 (n : IVec S1056x128 32) (v : Tile) (y : S1056x128.Idx) : k0_pay18 (F := Ideal) n v y = Ideal.div (v y) (count n 2#32 y) := by
  pointwise [k0_pay18, count]
theorem quot1 (n : IVec S1056x128 32) (v : Tile) (y : S1056x128.Idx) : k0_pay31 (F := Ideal) n v y = Ideal.div (v y) (count n 4#32 y) := by
  pointwise [k0_pay31, count]
theorem quot2 (n : IVec S1056x128 32) (w : Vec Ideal S1x128x128 .bf16) (s : Vec Ideal S1x128 .f32) (dy : Tile) (y : S1056x128.Idx) :
    k0_pay45 (F := Ideal) n (k0_pay35 w) (k0_pay36 s) (k0_pay37 dy) y = Ideal.div (k0_pay43 (F := Ideal) (k0_pay35 w) (k0_pay36 s) (k0_pay37 dy) y) (count n 8#32 y) := by
  unfold k0_pay45
  generalize k0_pay43 (k0_pay35 w) (k0_pay36 s) (k0_pay37 dy) = v
  pointwise [count]
theorem quot3 (n : IVec S1056x128 32) (v : Tile) (y : S1056x128.Idx) : k0_pay60 (F := Ideal) n v y = Ideal.div (v y) (count n 16#32 y) := by
  pointwise [k0_pay60, count]

abbrev Halo := Vec Ideal S16x128 .f32

/-- The next tile's first rows, where there is a next tile. -/
def next (i : BitVec 32) (x : EReal) : EReal := Scalar.select (Scalar.cmpi .slt i 3#32) x (0 : EReal)

theorem next0 (n : IVec S16x128 32) (i : BitVec 32) (w : Vec Ideal S1x128x128 .bf16) (s : Vec Ideal S1x128 .f32) (dy : Halo) (y : S16x128.Idx) :
    k0_pay19 (F := Ideal) n (k0_pay10 w) (k0_pay17 i s dy) y = Ideal.div (backStep (fun b => next i (dy (ix2 (y 0) b))) s w (y 1)) (count n 2#32 y) := by
  unfold k0_pay17 backStep next
  generalize Scalar.cmpi .slt i 3#32 = q
  idx_vars y
  pointwise [k0_pay19, k0_pay10, k0_pay11, count]

theorem next1 (n : IVec S16x128 32) (i : BitVec 32) (w : Vec Ideal S1x128x128 .bf16) (s : Vec Ideal S1x128 .f32) (dy : Halo) (y : S16x128.Idx) :
    k0_pay32 (F := Ideal) n (k0_pay24 w) (k0_pay25 s) (Scalar.cmpi .slt i 3#32) dy y = Ideal.div (backStep (fun b => next i (dy (ix2 (y 0) b))) s w (y 1)) (count n 4#32 y) := by
  unfold backStep next
  generalize Scalar.cmpi .slt i 3#32 = q
  idx_vars y
  pointwise [k0_pay32, k0_pay24, k0_pay25, count]

theorem next2 (n : IVec S16x128 32) (i : BitVec 32) (w : Vec Ideal S1x128x128 .bf16) (s : Vec Ideal S1x128 .f32) (dy : Halo) (y : S16x128.Idx) :
    k0_pay48 (F := Ideal) (k0_pay44 i (k0_pay35 w) (k0_pay36 s) dy) (k0_pay46 n) k0_pay47 y = Ideal.div (backStep (fun b => next i (dy (ix2 (y 0) b))) s w (y 1)) (count n 8#32 y) := by
  unfold k0_pay44 backStep next
  generalize Scalar.cmpi .slt i 3#32 = q
  idx_vars y
  pointwise [k0_pay48, k0_pay46, k0_pay47, k0_pay35, k0_pay36, count]

theorem next3 (n : IVec S16x128 32) (i : BitVec 32) (w : Vec Ideal S1x128x128 .bf16) (s : Vec Ideal S1x128 .f32) (dy : Halo) (y : S16x128.Idx) :
    k0_pay61 (F := Ideal) n (k0_pay59 i w s dy) y = Ideal.div (backStep (fun b => next i (dy (ix2 (y 0) b))) s w (y 1)) (count n 16#32 y) := by
  unfold k0_pay59 backStep next
  generalize Scalar.cmpi .slt i 3#32 = q
  idx_vars y
  pointwise [k0_pay61, k0_pay52, k0_pay53, count]

theorem sum0 (v u0 u1 : Tile) (y : S1056x128.Idx) : k0_pay20 (F := Ideal) v u0 u1 y = u0 y + u1 y - v y := by pointwise [k0_pay20]
theorem sum1 (v u0 u1 u2 u3 : Tile) (y : S1056x128.Idx) : k0_pay33 (F := Ideal) v u0 u1 u2 u3 y = u0 y + u1 y + u2 y + u3 y - v y := by pointwise [k0_pay33]
theorem sum2 (v u0 u1 u2 u3 u4 u5 u6 u7 : Tile) (y : S1056x128.Idx) :
    k0_pay49 (F := Ideal) v u0 u1 u2 u3 u4 u5 u6 u7 y = u0 y + u1 y + u2 y + u3 y + u4 y + u5 y + u6 y + u7 y - v y := by pointwise [k0_pay49]
theorem sum3 (v u0 u1 u2 u3 u4 u5 u6 u7 u8 u9 ua ub uc ud ue uf : Tile) (y : S1056x128.Idx) :
    k0_pay1 (F := Ideal) v (k0_pay62 u0 u1 u2 u3 u4 u5 u6 u7) u8 u9 ua ub uc ud ue uf y
      = u0 y + u1 y + u2 y + u3 y + u4 y + u5 y + u6 y + u7 y + u8 y + u9 y + ua y + ub y + uc y + ud y + ue y + uf y - v y := by
  pointwise [k0_pay1, k0_pay62]

/-! ### The counts of the rows after a tile -/

theorem word_next : ∀ (t : Fin 4) (r : Fin 16), ∀ w ∈ [2, 4, 8, 16],
    (IntOp.minsi (IntOp.addi (IntOp.addi (IntOp.muli (IntOp.addi (BitVec.ofNat 32 t.val) 1#32) 1056#32) (BitVec.ofNat 32 r.val)) 1#32) (BitVec.ofNat 32 w)).toInt
      = ((min (t.val * 1056 + (1056 + r.val) + 1) w : ℕ) : ℤ) := by decide +kernel

theorem count_next (t : Fin cfg0.N) (w : ℕ) (hw : w ∈ [2, 4, 8, 16]) (y : S16x128.Idx) :
    count (k0_pay7 (grid0.coords t)) (BitVec.ofNat 32 w) y = met (t.val * 1056 + (1056 + (y 0).val)) w := by
  have e : k0_pay7 (grid0.coords t) y = IntOp.addi (IntOp.muli (IntOp.addi (BitVec.ofNat 32 t.val) 1#32) 1056#32) (BitVec.ofNat 32 (y 0).val) := by
    rw [← coord t]; pointwise [k0_pay7]; rfl
  unfold count met
  rw [e, ← word_next ⟨t.val, t.isLt⟩ (y 0) w hw]
  rfl

theorem next_at (t : Fin cfg0.N) (x : EReal) : next (BitVec.ofNat 32 ((grid0.coords t) 0).val) x = if t.val < 3 then x else 0 := by
  rw [coord t]
  have hs : ∀ s : Fin 4, (Scalar.cmpi .slt (BitVec.ofNat 32 s.val) 3#32 : BitVec 1) = if s.val < 3 then 1#1 else 0#1 := by decide
  unfold next
  rw [hs ⟨t.val, t.isLt⟩]
  by_cases h : t.val < 3
  · rw [if_pos h, if_pos h]; rfl
  · rw [if_neg h, if_neg h]; rfl

/-! ### A group's gradient of the rows -/

/-- A row of the cotangent, and zero past the last. -/
def cot (d : S4224x512.Idx → EReal) (n : ℕ) (C : Fin 512) : EReal := if h : n < 4224 then d (ix2 (⟨n, h⟩ : Fin 4224) C) else 0

/-- The residual's cotangent. -/
def back (f : ℕ → Fin 512 → EReal) (s : S1x512.Idx → EReal) (w : S4x128x128.Idx → EReal) (n : ℕ) (g : Fin 4) (a : Fin 128) : EReal :=
  ∑ b : Fin 128, f n (col g b) * s (ix2 0 (col g b)) * w (ix3 g a b)

/-- The cotangent of each row a window meets. -/
def share (f : ℕ → Fin 512 → EReal) (s : S1x512.Idx → EReal) (w : S4x128x128.Idx → EReal) (g : Fin 4) (n : ℕ) (a : Fin 128) : EReal :=
  Ideal.div (back f s w n g a) (met n (wid g))

/-- The gradient of a row: the windows that meet it, less the row's own. -/
def rowGrad (f : ℕ → Fin 512 → EReal) (s : S1x512.Idx → EReal) (w : S4x128x128.Idx → EReal) (n : ℕ) (g : Fin 4) (a : Fin 128) : EReal :=
  ∑ k ∈ Finset.range (wid g), share f s w g (n + k) a - back f s w n g a

theorem backStep_eq (f : ℕ → Fin 512 → EReal) (s : S1x512.Idx → Elt Ideal .f32) (w : S4x128x128.Idx → Elt Ideal .bf16) (n : ℕ) (g : Fin 4) (o q : ℕ) (inb) (inb')
    (ho : o = 128 * g.val) (hq : q = g.val) (dy : Fin 128 → EReal) (hd : ∀ b, dy b = f n (col g b)) (a : Fin 128) :
    backStep dy (View.ld (Val := Elt Ideal) (e' := .f32) s (Rect.unit ![0, o] ![1, 128] inb')) (View.ld (Val := Elt Ideal) (e' := .bf16) w (Rect.unit ![q, 0, 0] ![1, 128, 128] inb)) a
      = back f s w n g a := by
  subst ho hq
  unfold backStep back
  refine Finset.sum_congr rfl fun b _ => congrArg₂ (· * ·) (congrArg₂ (· * ·) (hd b) ?_) ?_
  · exact View.ld_unit_apply_of (Val := Elt Ideal) (e := .f32) s _ _ inb' (ix2 0 b) (ix2 0 (col g b)) (by intro a; fin_cases a <;> simp [col])
  · exact View.ld_unit_apply_of (Val := Elt Ideal) (e := .bf16) w _ _ inb (ix3 0 a b) (ix3 g a b) (by intro a; fin_cases a <;> simp)

/-- A load from the scratch of quotients, of the group stored last. -/
theorem ld_group (q : ℕ → Fin 128 → EReal) (M : Tile) (H : Halo) (hM : ∀ y, M y = q (y 0).val (y 1)) (hH : ∀ y, H y = q (1056 + (y 0).val) (y 1))
    (tl : List (View.Piece (Elt Ideal) S1072x512 .f32)) (o p : ℕ) (inb) (inb1) (inb2) (hp : p + 128 ≤ 512) (ho : o + 1056 ≤ 1072) (y : S1056x128.Idx) :
    View.ld (View.canon ((⟨Rect.unit ![1056, p] ![16, 128] inb1, H⟩ : View.Piece (Elt Ideal) S1072x512 .f32) :: ⟨Rect.unit ![0, p] ![1056, 128] inb2, M⟩ :: tl))
      (Rect.unit ![o, p] ![1056, 128] inb) y = q ((y 0).val + o) (y 1) := by
  have h0 : (y 0).val < 1056 := (y 0).isLt
  have h1 : (y 1).val < 128 := (y 1).isLt
  refine (View.ld_unit_apply_of _ _ _ inb y (ix2 (⟨o + (y 0).val, by omega⟩ : Fin 1072) (⟨p + (y 1).val, by omega⟩ : Fin 512)) (by intro a; fin_cases a <;> rfl)).trans ?_
  refine (View.canon_append_of_piecesOf (Val := Elt Ideal) (e := .f32) (s := S1072x512)
    (fun j => q (j 0).val ⟨(j 1).val - p - ((j 1).val - p) / 128 * 128, by omega⟩) tl [_, _] ⟨fun x => ?_, fun x => ?_, trivial⟩ _ ?_).trans ?_
  · refine (hH x).trans (congrArg₂ q ?_ (Fin.ext ?_))
    · simp
    · have : (x 1).val < 128 := (x 1).isLt
      simp; omega
  · refine (hM x).trans (congrArg₂ q ?_ (Fin.ext ?_))
    · simp
    · have : (x 1).val < 128 := (x 1).isLt
      simp; omega
  · by_cases h : 1056 ≤ o + (y 0).val
    · refine ⟨_, List.mem_cons_self, ?_⟩
      rw [Rect.mem_set_unit]; intro a
      fin_cases a <;> simp <;> omega
    · refine ⟨_, List.mem_cons_of_mem _ List.mem_cons_self, ?_⟩
      rw [Rect.mem_set_unit]; intro a
      fin_cases a <;> simp <;> omega
  · refine congrArg₂ q (Nat.add_comm _ _) (Fin.ext ?_)
    show p + (y 1).val - p - (p + (y 1).val - p) / 128 * 128 = (y 1).val
    omega

section Rows

variable (f : ℕ → Fin 512 → EReal) (t : Fin cfg0.N) (d : S1056x512.Idx → Elt Ideal .f32) (e : S16x512.Idx → Elt Ideal .f32)
  (S : S1x512.Idx → Elt Ideal .f32) (W : S4x128x128.Idx → Elt Ideal .bf16)
  (hd : ∀ (r : Fin 1056) (C : Fin 512), d (ix2 r C) = f (t.val * 1056 + r.val) C)
  (he : ∀ (r : Fin 16) (C : Fin 512), (if t.val < 3 then e (ix2 r C) else 0) = f (t.val * 1056 + (1056 + r.val)) C)

include hd in
theorem ld_cot (g : Fin 4) (o : ℕ) (ho : o = 128 * g.val) (inb) (r : Fin 1056) (b : Fin 128) :
    View.ld (Val := Elt Ideal) (e' := .f32) d (Rect.unit ![0, o] ![1056, 128] inb) (ix2 r b) = f (t.val * 1056 + r.val) (col g b) := by
  subst ho
  exact (View.ld_unit_apply_of (Val := Elt Ideal) (e := .f32) d _ _ inb (ix2 r b) (ix2 r (col g b)) (by intro a; fin_cases a <;> simp [col])).trans (hd r _)

include he in
theorem ld_next (g : Fin 4) (o : ℕ) (ho : o = 128 * g.val) (inb) (r : Fin 16) (b : Fin 128) :
    next (BitVec.ofNat 32 ((grid0.coords t) 0).val) (View.ld (Val := Elt Ideal) (e' := .f32) e (Rect.unit ![0, o] ![16, 128] inb) (ix2 r b)) = f (t.val * 1056 + (1056 + r.val)) (col g b) := by
  subst ho
  rw [next_at, ← he r]
  exact congrArg (fun x => if t.val < 3 then x else 0)
    (View.ld_unit_apply_of (Val := Elt Ideal) (e := .f32) e _ _ inb (ix2 r b) (ix2 r (col g b)) (by intro a; fin_cases a <;> simp [col]))

include hd

theorem back_main0 (wb) (sb) (db) (y : S1056x128.Idx) :
    k0_pay16 (F := Ideal) (View.ld W (Rect.unit ![0, 0, 0] ![1, 128, 128] wb)) (View.ld S (Rect.unit ![0, 0] ![1, 128] sb)) (View.ld d (Rect.unit ![0, 0] ![1056, 128] db)) y = back f S W (t.val * 1056 + (y 0).val) 0 (y 1) :=
  (back0 _ _ _ y).trans (backStep_eq f S W _ 0 0 0 _ _ rfl rfl _ (ld_cot f t d hd 0 0 rfl _ (y 0)) (y 1))

theorem back_main1 (wb) (sb) (db) (y : S1056x128.Idx) :
    k0_pay30 (F := Ideal) (View.ld W (Rect.unit ![1, 0, 0] ![1, 128, 128] wb)) (View.ld S (Rect.unit ![0, 128] ![1, 128] sb)) (View.ld d (Rect.unit ![0, 128] ![1056, 128] db)) y = back f S W (t.val * 1056 + (y 0).val) 1 (y 1) :=
  (back1 _ _ _ y).trans (backStep_eq f S W _ 1 128 1 _ _ rfl rfl _ (ld_cot f t d hd 1 128 rfl _ (y 0)) (y 1))

theorem back_main2 (wb) (sb) (db) (y : S1056x128.Idx) :
    k0_pay43 (F := Ideal) (k0_pay35 (View.ld W (Rect.unit ![2, 0, 0] ![1, 128, 128] wb))) (k0_pay36 (View.ld S (Rect.unit ![0, 256] ![1, 128] sb))) (k0_pay37 (View.ld d (Rect.unit ![0, 256] ![1056, 128] db))) y = back f S W (t.val * 1056 + (y 0).val) 2 (y 1) :=
  (back2 _ _ _ y).trans (backStep_eq f S W _ 2 256 2 _ _ rfl rfl _ (ld_cot f t d hd 2 256 rfl _ (y 0)) (y 1))

theorem back_main3 (wb) (sb) (db) (y : S1056x128.Idx) :
    k0_pay58 (F := Ideal) (View.ld W (Rect.unit ![3, 0, 0] ![1, 128, 128] wb)) (View.ld S (Rect.unit ![0, 384] ![1, 128] sb)) (View.ld d (Rect.unit ![0, 384] ![1056, 128] db)) y = back f S W (t.val * 1056 + (y 0).val) 3 (y 1) :=
  (back3 _ _ _ y).trans (backStep_eq f S W _ 3 384 3 _ _ rfl rfl _ (ld_cot f t d hd 3 384 rfl _ (y 0)) (y 1))

theorem share_main0 (wb) (sb) (db) (y : S1056x128.Idx) :
    k0_pay18 (F := Ideal) (k0_pay6 (grid0.coords t)) (k0_pay16 (F := Ideal) (View.ld W (Rect.unit ![0, 0, 0] ![1, 128, 128] wb)) (View.ld S (Rect.unit ![0, 0] ![1, 128] sb)) (View.ld d (Rect.unit ![0, 0] ![1056, 128] db))) y = share f S W 0 (t.val * 1056 + (y 0).val) (y 1) := by
  rw [quot0, count_at t 2 (by decide)]
  exact congrArg (Ideal.div · _) (back_main0 f t d S W hd wb sb db y)

theorem share_main1 (wb) (sb) (db) (y : S1056x128.Idx) :
    k0_pay31 (F := Ideal) (k0_pay6 (grid0.coords t)) (k0_pay30 (F := Ideal) (View.ld W (Rect.unit ![1, 0, 0] ![1, 128, 128] wb)) (View.ld S (Rect.unit ![0, 128] ![1, 128] sb)) (View.ld d (Rect.unit ![0, 128] ![1056, 128] db))) y = share f S W 1 (t.val * 1056 + (y 0).val) (y 1) := by
  rw [quot1, count_at t 4 (by decide)]
  exact congrArg (Ideal.div · _) (back_main1 f t d S W hd wb sb db y)

theorem share_main2 (wb) (sb) (db) (y : S1056x128.Idx) :
    k0_pay45 (F := Ideal) (k0_pay6 (grid0.coords t)) (k0_pay35 (View.ld W (Rect.unit ![2, 0, 0] ![1, 128, 128] wb))) (k0_pay36 (View.ld S (Rect.unit ![0, 256] ![1, 128] sb))) (k0_pay37 (View.ld d (Rect.unit ![0, 256] ![1056, 128] db))) y = share f S W 2 (t.val * 1056 + (y 0).val) (y 1) := by
  rw [quot2, count_at t 8 (by decide)]
  exact congrArg (Ideal.div · _) (back_main2 f t d S W hd wb sb db y)

theorem share_main3 (wb) (sb) (db) (y : S1056x128.Idx) :
    k0_pay60 (F := Ideal) (k0_pay6 (grid0.coords t)) (k0_pay58 (F := Ideal) (View.ld W (Rect.unit ![3, 0, 0] ![1, 128, 128] wb)) (View.ld S (Rect.unit ![0, 384] ![1, 128] sb)) (View.ld d (Rect.unit ![0, 384] ![1056, 128] db))) y = share f S W 3 (t.val * 1056 + (y 0).val) (y 1) := by
  rw [quot3, count_at t 16 (by decide)]
  exact congrArg (Ideal.div · _) (back_main3 f t d S W hd wb sb db y)

omit hd
include he

theorem share_next0 (wb) (sb) (eb) (y : S16x128.Idx) :
    k0_pay19 (F := Ideal) (k0_pay7 (grid0.coords t)) (k0_pay10 (View.ld W (Rect.unit ![0, 0, 0] ![1, 128, 128] wb))) (k0_pay17 (BitVec.ofNat 32 ((grid0.coords t) 0).val) (View.ld S (Rect.unit ![0, 0] ![1, 128] sb)) (View.ld e (Rect.unit ![0, 0] ![16, 128] eb))) y = share f S W 0 (t.val * 1056 + (1056 + (y 0).val)) (y 1) := by
  rw [next0, count_next t 2 (by decide)]
  exact congrArg (Ideal.div · _) (backStep_eq f S W _ 0 0 0 _ _ rfl rfl _ (ld_next f t e he 0 0 rfl _ (y 0)) (y 1))

theorem share_next1 (wb) (sb) (eb) (y : S16x128.Idx) :
    k0_pay32 (F := Ideal) (k0_pay7 (grid0.coords t)) (k0_pay24 (View.ld W (Rect.unit ![1, 0, 0] ![1, 128, 128] wb))) (k0_pay25 (View.ld S (Rect.unit ![0, 128] ![1, 128] sb))) (Scalar.cmpi .slt (BitVec.ofNat 32 ((grid0.coords t) 0).val) 3#32) (View.ld e (Rect.unit ![0, 128] ![16, 128] eb)) y = share f S W 1 (t.val * 1056 + (1056 + (y 0).val)) (y 1) := by
  rw [next1, count_next t 4 (by decide)]
  exact congrArg (Ideal.div · _) (backStep_eq f S W _ 1 128 1 _ _ rfl rfl _ (ld_next f t e he 1 128 rfl _ (y 0)) (y 1))

theorem share_next2 (wb) (sb) (eb) (y : S16x128.Idx) :
    k0_pay48 (F := Ideal) (k0_pay44 (BitVec.ofNat 32 ((grid0.coords t) 0).val) (k0_pay35 (View.ld W (Rect.unit ![2, 0, 0] ![1, 128, 128] wb))) (k0_pay36 (View.ld S (Rect.unit ![0, 256] ![1, 128] sb))) (View.ld e (Rect.unit ![0, 256] ![16, 128] eb))) (k0_pay46 (k0_pay7 (grid0.coords t))) k0_pay47 y = share f S W 2 (t.val * 1056 + (1056 + (y 0).val)) (y 1) := by
  rw [next2, count_next t 8 (by decide)]
  exact congrArg (Ideal.div · _) (backStep_eq f S W _ 2 256 2 _ _ rfl rfl _ (ld_next f t e he 2 256 rfl _ (y 0)) (y 1))

theorem share_next3 (wb) (sb) (eb) (y : S16x128.Idx) :
    k0_pay61 (F := Ideal) (k0_pay7 (grid0.coords t)) (k0_pay59 (BitVec.ofNat 32 ((grid0.coords t) 0).val) (View.ld W (Rect.unit ![3, 0, 0] ![1, 128, 128] wb)) (View.ld S (Rect.unit ![0, 384] ![1, 128] sb)) (View.ld e (Rect.unit ![0, 384] ![16, 128] eb))) y = share f S W 3 (t.val * 1056 + (1056 + (y 0).val)) (y 1) := by
  rw [next3, count_next t 16 (by decide)]
  exact congrArg (Ideal.div · _) (backStep_eq f S W _ 3 384 3 _ _ rfl rfl _ (ld_next f t e he 3 384 rfl _ (y 0)) (y 1))

end Rows

variable (m : (ℓ : Loc nD τ sig) → Buf (Elt Ideal) ℓ) (c : Dev nD)
theorem halo_row (t : Fin cfg0.N) (r : Fin 16) (C : Fin 512) (R : Fin 4224) (ht : t.val < 3) (hR : R.val = (t.val * 66 + 66) * 16 + r.val) : iblk m c 3 t (ix2 r C) = V m c main_v1 (ix2 R C) := by
  obtain ⟨R, hR'⟩ := R; obtain rfl : R = (t.val * 66 + 66) * 16 + r.val := hR
  blk_point [iblk, idx t]
theorem emb_tile (o : ℕ) (g : Fin 4) (inb) (h : o = 128 * g.val) (y : S1056x128.Idx) :
    (Rect.unit (s := S1056x512) ![0, o] ![1056, 128] inb).emb y = (ix2 (y 0) (col g (y 1)) : S1056x512.Idx) := by
  subst h
  funext a
  fin_cases a
  · exact Fin.ext (by simp)
  · exact Fin.ext (by simp [col])

/-- A tile's rows of the gradient. -/
def tileGrad (F : ℕ → Fin 512 → EReal) (S : S1x512.Idx → EReal) (W : S4x128x128.Idx → EReal) (t : Fin cfg0.N) (j : S1056x512.Idx) : EReal :=
  rowGrad F S W (t.val * 1056 + (j 0).val) (grp (j 1)) (chn (j 1))

theorem piece_eq (F : ℕ → Fin 512 → EReal) (S : S1x512.Idx → EReal) (W : S4x128x128.Idx → EReal) (t : Fin cfg0.N) (o : ℕ) (g : Fin 4) (inb) (h : o = 128 * g.val)
    (y : S1056x128.Idx) (x : EReal) (hx : x = rowGrad F S W (t.val * 1056 + (y 0).val) g (y 1)) :
    x = tileGrad F S W t ((Rect.unit (s := S1056x512) ![0, o] ![1056, 128] inb).emb y) := by
  refine hx.trans (Eq.trans ?_ (congrArg (tileGrad F S W t) (emb_tile o g inb h y).symm))
  exact congrArg₂ (rowGrad F S W (t.val * 1056 + (y 0).val)) (grp_col g (y 1)).symm (chn_col g (y 1)).symm

/-- The gradient of the rows. -/
theorem du_arr : (dats m 0 c).arrAt 6 cfg0.N = fun j : S4224x512.Idx =>
    rowGrad (cot (V m c main_v1)) (V m c main_v3) (V m c main_v2) (j 0).val (grp (j 1)) (chn (j 1)) := by
  refine (dats m 0 c).arrAt_eq_of_covers 6 _ (by decide +kernel) fun t _ y => ?_
  blk_simp
  rw [after0_6]
  have ht : t.val < 4 := t.isLt
  obtain ⟨F, hF⟩ : ∃ F, F = cot (V m c main_v1) := ⟨_, rfl⟩
  have hd : ∀ (r : Fin 1056) (C : Fin 512), iblk m c 2 t (ix2 r C) = F (t.val * 1056 + r.val) C := fun r C => by
    rw [hF]; unfold cot; rw [dif_pos (by omega)]; exact cot_row m c t r C _ rfl
  have he : ∀ (r : Fin 16) (C : Fin 512), (if t.val < 3 then iblk m c 3 t (ix2 r C) else (0 : EReal)) = F (t.val * 1056 + (1056 + r.val)) C := fun r C => by
    rw [hF]; unfold cot
    by_cases h : t.val < 3
    · rw [if_pos h, dif_pos (by omega)]; exact halo_row m c t r C _ h (by dsimp only; omega)
    · rw [if_neg h, dif_neg (by omega)]
  have hS := scale_all m c t
  have hW := prod_all m c t
  rw [← hF, ← hS, ← hW]
  by_cases h : t.val % 4 = 0
  on_goal 1 => rw [outsAt0_A m c t h]
  on_goal 2 => rw [outsAt0_B m c t h]
  all_goals
    frame_out
    simp only [load_eq]
    clear hS hW hF
    generalize iblk m c 3 t = E at he ⊢
    generalize iblk m c 2 t = D at hd ⊢
    generalize iblk m c 4 t = W
    generalize iblk m c 5 t = S
    refine (View.canon_apply_of_pieces (Val := Elt Ideal) (e := .f32) (S := S1056x512) (tileGrad F S W t) _ (View.PiecesOf.mem ?_) y ?_).trans ?_
    · refine ⟨fun y => ?_, fun y => ?_, fun y => ?_, fun y => ?_, trivial⟩
      · refine (sum3 _ _ _ _ _ _ _ _ _ _ _ _ _ _ _ _ _ y).trans ?_
        rw [back_main3 F t D S W hd]
        simp (disch := decide) only [ld_group (fun r a => share F S W 3 (t.val * 1056 + r) a) _ _ (share_main3 F t D S W hd _ _ _) (share_next3 F t E S W he _ _ _)]
        refine piece_eq F S W t 384 3 _ rfl y _ ?_
        simp only [rowGrad, show wid 3 = 16 from rfl, Finset.sum_range_succ, Finset.sum_range_zero, zero_add, Nat.add_assoc]
      · refine (sum2 _ _ _ _ _ _ _ _ _ y).trans ?_
        rw [back_main2 F t D S W hd]
        simp (disch := decide) only [ld_group (fun r a => share F S W 2 (t.val * 1056 + r) a) _ _ (share_main2 F t D S W hd _ _ _) (share_next2 F t E S W he _ _ _)]
        refine piece_eq F S W t 256 2 _ rfl y _ ?_
        simp only [rowGrad, show wid 2 = 8 from rfl, Finset.sum_range_succ, Finset.sum_range_zero, zero_add, Nat.add_assoc]
      · refine (sum1 _ _ _ _ _ y).trans ?_
        rw [back_main1 F t D S W hd]
        simp (disch := decide) only [ld_group (fun r a => share F S W 1 (t.val * 1056 + r) a) _ _ (share_main1 F t D S W hd _ _ _) (share_next1 F t E S W he _ _ _)]
        refine piece_eq F S W t 128 1 _ rfl y _ ?_
        simp only [rowGrad, show wid 1 = 4 from rfl, Finset.sum_range_succ, Finset.sum_range_zero, zero_add, Nat.add_assoc]
      · refine (sum0 _ _ _ y).trans ?_
        rw [back_main0 F t D S W hd]
        simp (disch := decide) only [ld_group (fun r a => share F S W 0 (t.val * 1056 + r) a) _ _ (share_main0 F t D S W hd _ _ _) (share_next0 F t E S W he _ _ _)]
        refine piece_eq F S W t 0 0 _ rfl y _ ?_
        simp only [rowGrad, show wid 0 = 2 from rfl, Finset.sum_range_succ, Finset.sum_range_zero, zero_add, Nat.add_assoc]
    · have h1 : (y 1).val < 512 := (y 1).isLt
      have h0 : (y 0).val < 1056 := (y 0).isLt
      rcases (by omega : 384 ≤ (y 1).val ∨ 256 ≤ (y 1).val ∧ (y 1).val < 384 ∨ 128 ≤ (y 1).val ∧ (y 1).val < 256 ∨ (y 1).val < 128) with q | q | q | q
      · refine ⟨_, List.mem_cons_self, ?_⟩; rw [Rect.mem_set_unit]; intro a; fin_cases a <;> simp <;> omega
      · refine ⟨_, List.mem_cons_of_mem _ List.mem_cons_self, ?_⟩; rw [Rect.mem_set_unit]; intro a; fin_cases a <;> simp <;> omega
      · refine ⟨_, List.mem_cons_of_mem _ (List.mem_cons_of_mem _ List.mem_cons_self), ?_⟩; rw [Rect.mem_set_unit]; intro a; fin_cases a <;> simp <;> omega
      · refine ⟨_, List.mem_cons_of_mem _ (List.mem_cons_of_mem _ (List.mem_cons_of_mem _ List.mem_cons_self)), ?_⟩; rw [Rect.mem_set_unit]; intro a; fin_cases a <;> simp <;> omega
    · unfold tileGrad
      blk_simp [idx t]
      exact congrArg₂ (rowGrad F S W _) (congrArg grp (Fin.ext (by blk_simp [idx t]))) (congrArg chn (Fin.ext (by blk_simp [idx t])))

end Cert.PoolIdeal.Blocks

end
-- ==== Proof.PoolRowsOps.lean ====
/- The reference's gradient of the pool's rows: the scatters of the windows' shares and their running sum. -/
module

public import proofs.«01_k».proof.Proof.PoolOps
public import proofs.«01_k».proof.Proof.PoolRows
public import Idealize.ShloMosaic.Lib.Routing.OpsPair

@[expose] public section

set_option maxRecDepth 16384

noncomputable section

namespace Cert.PoolRefIdeal.Ops

open Cert.PoolRefIdeal Cert.PoolRefIdeal.Gen Cert.PoolRefIdeal.Read
open Idealize.ShloMosaic Idealize.ShloMosaic.TcCoe Idealize.SL.Sem
open Cert.PoolIdeal.Blocks (col grp chn wid met back share grp_col chn_col)

abbrev rowScatter := scatter_S1x4113x128_S4112x1_S1x4112x128_02_1_1_1

/-- Where an update of the scatter lands. -/
theorem lands (idx : IVec S4112x1 32) (st : Fin 4112 → ℕ) (hs : ∀ n, (idx (ix2 n 0)).toInt = (st n : ℤ)) (j : S1x4112x128.Idx) (i : Fin 4113) (a : Fin 128) :
    rowScatter.resultIdx? j idx = some (ix3 0 i a) ↔ st (j 1) = i.val ∧ j 2 = a := by
  rw [Idealize.ShloMosaic.Routing.resultIdx?_eq_some]
  have w0 : rowScatter.window j 0 = 0 := by
    have : (j 0).val < 1 := (j 0).isLt
    have e : rowScatter.window j 0 = (j 0).val := rfl
    omega
  have w1 : rowScatter.window j 1 = 0 := rfl
  have w2 : rowScatter.window j 2 = (j 2).val := rfl
  have s0 : rowScatter.start j idx 0 = 0 := rfl
  have s2 : rowScatter.start j idx 2 = 0 := rfl
  have s1 : rowScatter.start j idx 1 = (st (j 1) : ℤ) := by
    refine Eq.trans ?_ (hs (j 1))
    unfold ScatterDims.start
    rw [dif_pos (show (1 : Fin 3) ∈ rowScatter.scatterDimsToOperandDims from List.mem_singleton.mpr rfl)]
    refine congrArg (fun k => (idx k).toInt) (funext fun b => Fin.ext ?_)
    match b with
    | ⟨0, _⟩ => rfl
    | ⟨1, _⟩ => rfl
  constructor
  · intro h
    have h1 := h 1
    have h2 := h 2
    rw [s1, w1] at h1
    rw [s2, w2] at h2
    have e1 : ((ix3 0 i a : S1x4113x128.Idx) 1).val = i.val := rfl
    have e2 : ((ix3 0 i a : S1x4113x128.Idx) 2).val = a.val := rfl
    rw [e1] at h1
    rw [e2] at h2
    exact ⟨by omega, Fin.ext (by omega)⟩
  · rintro ⟨h1, h2⟩ b
    have h012 : b = 0 ∨ b = 1 ∨ b = 2 := by fin_cases b <;> simp
    rcases h012 with rfl | rfl | rfl
    · rw [s0, w0]; rfl
    · rw [s1, w1, h1]; exact add_zero _
    · rw [s2, w2, h2]; exact zero_add _

/-- A scatter of rows, element by element. -/
theorem scatter_rows (x : FVec Ideal S1x4113x128 .f32) (idx : IVec S4112x1 32) (upd : FVec Ideal S1x4112x128 .f32) (st : Fin 4112 → ℕ)
    (hs : ∀ n, (idx (ix2 n 0)).toInt = (st n : ℤ)) (i : Fin 4113) (a : Fin 128) :
    Host.scatterAdd rowScatter x idx upd (ix3 0 i a) = x (ix3 0 i a) + ∑ n : Fin 4112, if st n = i.val then upd (ix3 0 n a) else 0 := by
  show Ideal.hostScatterAdd rowScatter x idx upd (ix3 0 i a) = _
  unfold Ideal.hostScatterAdd
  refine congrArg (x (ix3 0 i a) + ·) ?_
  rw [← Finset.sum_filter]
  refine Finset.sum_bij' (fun j _ => j 1) (fun n _ => ix3 0 n a) (fun j hj => ?_) (fun n hn => ?_) (fun j hj => ?_) (fun n hn => rfl) (fun j hj => ?_)
  · exact Finset.mem_filter.mpr ⟨Finset.mem_univ _, ((lands idx st hs j i a).mp (Finset.mem_filter.mp hj).2).1⟩
  · exact Finset.mem_filter.mpr ⟨Finset.mem_univ _, (lands idx st hs _ i a).mpr ⟨(Finset.mem_filter.mp hn).2, rfl⟩⟩
  · have h := ((lands idx st hs j i a).mp (Finset.mem_filter.mp hj).2).2
    funext b
    have h012 : b = 0 ∨ b = 1 ∨ b = 2 := by fin_cases b <;> simp
    rcases h012 with rfl | rfl | rfl
    · exact Subsingleton.elim (α := Fin 1) _ _
    · rfl
    · exact h.symm
  · have h := ((lands idx st hs j i a).mp (Finset.mem_filter.mp hj).2).2
    refine congrArg upd (funext fun b => ?_)
    have h012 : b = 0 ∨ b = 1 ∨ b = 2 := by fin_cases b <;> simp
    rcases h012 with rfl | rfl | rfl
    · exact Subsingleton.elim (α := Fin 1) _ _
    · rfl
    · exact h

/-- The one update of row `m + 1`, where windows have `w` rows. -/
theorem sum_lands (P : ℕ → EReal) (hP : ∀ n, 4112 ≤ n → P n = 0) (w m : ℕ) (hw : 1 ≤ w) :
    (∑ n : Fin 4112, if n.val + 1 - w = m + 1 then -P n.val else 0) = -P (m + w) := by
  by_cases h : m + w < 4112
  · refine (Finset.sum_eq_single (⟨m + w, h⟩ : Fin 4112) (fun n _ hn => if_neg fun e => hn (Fin.ext ?_)) fun hn => absurd (Finset.mem_univ _) hn).trans ?_
    · show n.val = m + w
      omega
    · exact if_pos (by show m + w + 1 - w = m + 1; omega)
  · rw [hP _ (by omega), neg_zero]
    exact Finset.sum_eq_zero fun n _ => if_neg (by have := n.isLt; omega)

/-! ### The residual's cotangent and the windows' shares -/

section Grad

variable (w : FVec Ideal S4x128x128 .f32) (s : FVec Ideal S512 .f32) (d : FVec Ideal S4112x512 .f32)

/-- The cotangent's rows, by number. -/
abbrev cots (d : FVec Ideal S4112x512 .f32) : ℕ → Fin 512 → EReal := fun n C => inp d C n
/-- The scale, as the call takes it. -/
abbrev scales (s : FVec Ideal S512 .f32) : FVec Ideal Cert.PoolIdeal.S1x512 .f32 := fun j => s (ix1 (j 1))

/-- A window's share, and zero past the last row. -/
def part (g : Fin 4) (a : Fin 128) (n : ℕ) : EReal := share (cots d) (scales s) w g n a

theorem met_ne (n w : ℕ) (hw : 1 ≤ w) : met n w ≠ 0 := by
  unfold met
  have h : 1 ≤ min (n + 1) w := by omega
  intro e
  have := EReal.coe_eq_zero.mp e
  have h2 : ((min (n + 1) w : ℕ) : ℤ) = 0 := by exact_mod_cast this
  omega

theorem back_zero (g : Fin 4) (a : Fin 128) (n : ℕ) (hn : 4112 ≤ n) : back (cots d) (scales s) w n g a = 0 := by
  refine Finset.sum_eq_zero fun b _ => ?_
  unfold cots inp
  rw [dif_neg (by omega), zero_mul, zero_mul]

theorem one_le_wid (g : Fin 4) : 1 ≤ wid g := Nat.one_le_two_pow

theorem part_zero (g : Fin 4) (a : Fin 128) (n : ℕ) (hn : 4112 ≤ n) : part w s d g a n = 0 := by
  unfold part share
  rw [back_zero w s d g a n hn]
  exact Ideal.zero_div (met_ne n _ (one_le_wid g))

theorem pulled (n : Fin 4112) (g : Fin 4) (a : Fin 128) : val_main_v128 (F := Ideal) w s d (ix4 0 n g a) = back (cots d) (scales s) w n.val g a := by
  have hc : ∀ b : Fin 128, col g b = (⟨g.val * 128 + b.val, by omega⟩ : Fin 512) := fun b => Fin.ext (congrArg (· + b.val) (Nat.mul_comm _ _))
  unfold back cots inp
  simp only [dif_pos n.isLt, hc]
  pointwise [val_main_v128, val_main_v127, val_main_v126, val_main_v125, val_main_v123, val_main_v122, val_main_v118, val_main_v114]
  rfl

theorem pulled0 (n : Fin 4112) (a : Fin 128) : val_main_v132 (F := Ideal) w s d (ix3 0 n a) = back (cots d) (scales s) w n.val 0 a := by
  refine Eq.trans ?_ (pulled w s d n 0 a)
  pointwise [val_main_v132, val_main_v131]

theorem part0 (n : Fin 4112) (a : Fin 128) : val_main_v177 (F := Ideal) w s d (ix3 0 n a) = part w s d 0 a n.val := by
  refine Eq.trans ?_ (congrArg₂ Ideal.div (pulled0 w s d n a) (count0 n))
  pointwise [val_main_v177, val_main_v176, val_main_v26]

theorem sums0 (i : Fin 4113) (a : Fin 128) : val_main_v182 (F := Ideal) w s d (ix3 0 i a)
    = (∑ n : Fin 4112, if n.val + 1 - 2 = i.val then -part w s d 0 a n.val else 0) + (if 1 ≤ i.val then part w s d 0 a (i.val - 1) else 0) := by
  have e : val_main_v180 (F := Ideal) w s d (ix3 0 i a) = ∑ n : Fin 4112, if n.val + 1 - 2 = i.val then -part w s d 0 a n.val else 0 := by
    unfold val_main_v180
    rw [scatter_rows _ _ _ (fun n => n.val + 1 - 2) start0 i a]
    have z : val_main_v179 (F := Ideal) (ix3 0 i a) = 0 := by pointwise [val_main_v179, val_main_cst_39]
    rw [z, zero_add]
    refine Finset.sum_congr rfl fun n _ => ?_
    refine congrArg (fun x => if n.val + 1 - 2 = i.val then x else 0) ?_
    refine Eq.trans ?_ (congrArg (fun x : EReal => -x) (part0 w s d n a))
    pointwise [val_main_v178]
  have f : val_main_v181 (F := Ideal) w s d (ix3 0 i a) = if 1 ≤ i.val then part w s d 0 a (i.val - 1) else 0 := by
    by_cases h : 1 ≤ i.val
    · rw [if_pos h]
      refine Eq.trans ?_ (part0 w s d ⟨i.val - 1, by omega⟩ a)
      pointwise [val_main_v181]
      exact dif_pos ⟨h, by omega⟩
    · rw [if_neg h]
      pointwise [val_main_v181, val_main_cst_40]
      exact dif_neg fun q => h q.1
  rw [← e, ← f]
  pointwise [val_main_v182]

theorem pulled1 (n : Fin 4112) (a : Fin 128) : val_main_v134 (F := Ideal) w s d (ix3 0 n a) = back (cots d) (scales s) w n.val 1 a := by
  refine Eq.trans ?_ (pulled w s d n 1 a)
  pointwise [val_main_v134, val_main_v133]

theorem part1 (n : Fin 4112) (a : Fin 128) : val_main_v165 (F := Ideal) w s d (ix3 0 n a) = part w s d 1 a n.val := by
  refine Eq.trans ?_ (congrArg₂ Ideal.div (pulled1 w s d n a) (count1 n))
  pointwise [val_main_v165, val_main_v164, val_main_v51]

theorem sums1 (i : Fin 4113) (a : Fin 128) : val_main_v170 (F := Ideal) w s d (ix3 0 i a)
    = (∑ n : Fin 4112, if n.val + 1 - 4 = i.val then -part w s d 1 a n.val else 0) + (if 1 ≤ i.val then part w s d 1 a (i.val - 1) else 0) := by
  have e : val_main_v168 (F := Ideal) w s d (ix3 0 i a) = ∑ n : Fin 4112, if n.val + 1 - 4 = i.val then -part w s d 1 a n.val else 0 := by
    unfold val_main_v168
    rw [scatter_rows _ _ _ (fun n => n.val + 1 - 4) start1 i a]
    have z : val_main_v167 (F := Ideal) (ix3 0 i a) = 0 := by pointwise [val_main_v167, val_main_cst_35]
    rw [z, zero_add]
    refine Finset.sum_congr rfl fun n _ => ?_
    refine congrArg (fun x => if n.val + 1 - 4 = i.val then x else 0) ?_
    refine Eq.trans ?_ (congrArg (fun x : EReal => -x) (part1 w s d n a))
    pointwise [val_main_v166]
  have f : val_main_v169 (F := Ideal) w s d (ix3 0 i a) = if 1 ≤ i.val then part w s d 1 a (i.val - 1) else 0 := by
    by_cases h : 1 ≤ i.val
    · rw [if_pos h]
      refine Eq.trans ?_ (part1 w s d ⟨i.val - 1, by omega⟩ a)
      pointwise [val_main_v169]
      exact dif_pos ⟨h, by omega⟩
    · rw [if_neg h]
      pointwise [val_main_v169, val_main_cst_36]
      exact dif_neg fun q => h q.1
  rw [← e, ← f]
  pointwise [val_main_v170]

theorem pulled2 (n : Fin 4112) (a : Fin 128) : val_main_v136 (F := Ideal) w s d (ix3 0 n a) = back (cots d) (scales s) w n.val 2 a := by
  refine Eq.trans ?_ (pulled w s d n 2 a)
  pointwise [val_main_v136, val_main_v135]

theorem part2 (n : Fin 4112) (a : Fin 128) : val_main_v153 (F := Ideal) w s d (ix3 0 n a) = part w s d 2 a n.val := by
  refine Eq.trans ?_ (congrArg₂ Ideal.div (pulled2 w s d n a) (count2 n))
  pointwise [val_main_v153, val_main_v152, val_main_v76]

theorem sums2 (i : Fin 4113) (a : Fin 128) : val_main_v158 (F := Ideal) w s d (ix3 0 i a)
    = (∑ n : Fin 4112, if n.val + 1 - 8 = i.val then -part w s d 2 a n.val else 0) + (if 1 ≤ i.val then part w s d 2 a (i.val - 1) else 0) := by
  have e : val_main_v156 (F := Ideal) w s d (ix3 0 i a) = ∑ n : Fin 4112, if n.val + 1 - 8 = i.val then -part w s d 2 a n.val else 0 := by
    unfold val_main_v156
    rw [scatter_rows _ _ _ (fun n => n.val + 1 - 8) start2 i a]
    have z : val_main_v155 (F := Ideal) (ix3 0 i a) = 0 := by pointwise [val_main_v155, val_main_cst_31]
    rw [z, zero_add]
    refine Finset.sum_congr rfl fun n _ => ?_
    refine congrArg (fun x => if n.val + 1 - 8 = i.val then x else 0) ?_
    refine Eq.trans ?_ (congrArg (fun x : EReal => -x) (part2 w s d n a))
    pointwise [val_main_v154]
  have f : val_main_v157 (F := Ideal) w s d (ix3 0 i a) = if 1 ≤ i.val then part w s d 2 a (i.val - 1) else 0 := by
    by_cases h : 1 ≤ i.val
    · rw [if_pos h]
      refine Eq.trans ?_ (part2 w s d ⟨i.val - 1, by omega⟩ a)
      pointwise [val_main_v157]
      exact dif_pos ⟨h, by omega⟩
    · rw [if_neg h]
      pointwise [val_main_v157, val_main_cst_32]
      exact dif_neg fun q => h q.1
  rw [← e, ← f]
  pointwise [val_main_v158]

theorem pulled3 (n : Fin 4112) (a : Fin 128) : val_main_v138 (F := Ideal) w s d (ix3 0 n a) = back (cots d) (scales s) w n.val 3 a := by
  refine Eq.trans ?_ (pulled w s d n 3 a)
  pointwise [val_main_v138, val_main_v137]

theorem part3 (n : Fin 4112) (a : Fin 128) : val_main_v142 (F := Ideal) w s d (ix3 0 n a) = part w s d 3 a n.val := by
  refine Eq.trans ?_ (congrArg₂ Ideal.div (pulled3 w s d n a) (count3 n))
  pointwise [val_main_v142, val_main_v141, val_main_v101]

theorem sums3 (i : Fin 4113) (a : Fin 128) : val_main_v147 (F := Ideal) w s d (ix3 0 i a)
    = (∑ n : Fin 4112, if n.val + 1 - 16 = i.val then -part w s d 3 a n.val else 0) + (if 1 ≤ i.val then part w s d 3 a (i.val - 1) else 0) := by
  have e : val_main_v145 (F := Ideal) w s d (ix3 0 i a) = ∑ n : Fin 4112, if n.val + 1 - 16 = i.val then -part w s d 3 a n.val else 0 := by
    unfold val_main_v145
    rw [scatter_rows _ _ _ (fun n => n.val + 1 - 16) start3 i a]
    have z : val_main_v144 (F := Ideal) (ix3 0 i a) = 0 := by pointwise [val_main_v144, val_main_cst_27]
    rw [z, zero_add]
    refine Finset.sum_congr rfl fun n _ => ?_
    refine congrArg (fun x => if n.val + 1 - 16 = i.val then x else 0) ?_
    refine Eq.trans ?_ (congrArg (fun x : EReal => -x) (part3 w s d n a))
    pointwise [val_main_v143]
  have f : val_main_v146 (F := Ideal) w s d (ix3 0 i a) = if 1 ≤ i.val then part w s d 3 a (i.val - 1) else 0 := by
    by_cases h : 1 ≤ i.val
    · rw [if_pos h]
      refine Eq.trans ?_ (part3 w s d ⟨i.val - 1, by omega⟩ a)
      pointwise [val_main_v146]
      exact dif_pos ⟨h, by omega⟩
    · rw [if_neg h]
      pointwise [val_main_v146, val_main_cst_28]
      exact dif_neg fun q => h q.1
  rw [← e, ← f]
  pointwise [val_main_v147]

theorem diff0 (m : Fin 4112) (a : Fin 128) : val_main_v182 (F := Ideal) w s d (ix3 0 ⟨m.val + 1, by omega⟩ a) = -part w s d 0 a (m.val + 2) + part w s d 0 a m.val := by
  rw [sums0, sum_lands (part w s d 0 a) (part_zero w s d 0 a) 2 m.val (by decide)]
  exact congrArg (-part w s d 0 a (m.val + 2) + ·) (if_pos (Nat.le_add_left 1 _))

theorem diff1 (m : Fin 4112) (a : Fin 128) : val_main_v170 (F := Ideal) w s d (ix3 0 ⟨m.val + 1, by omega⟩ a) = -part w s d 1 a (m.val + 4) + part w s d 1 a m.val := by
  rw [sums1, sum_lands (part w s d 1 a) (part_zero w s d 1 a) 4 m.val (by decide)]
  exact congrArg (-part w s d 1 a (m.val + 4) + ·) (if_pos (Nat.le_add_left 1 _))

theorem diff2 (m : Fin 4112) (a : Fin 128) : val_main_v158 (F := Ideal) w s d (ix3 0 ⟨m.val + 1, by omega⟩ a) = -part w s d 2 a (m.val + 8) + part w s d 2 a m.val := by
  rw [sums2, sum_lands (part w s d 2 a) (part_zero w s d 2 a) 8 m.val (by decide)]
  exact congrArg (-part w s d 2 a (m.val + 8) + ·) (if_pos (Nat.le_add_left 1 _))

theorem diff3 (m : Fin 4112) (a : Fin 128) : val_main_v147 (F := Ideal) w s d (ix3 0 ⟨m.val + 1, by omega⟩ a) = -part w s d 3 a (m.val + 16) + part w s d 3 a m.val := by
  rw [sums3, sum_lands (part w s d 3 a) (part_zero w s d 3 a) 16 m.val (by decide)]
  exact congrArg (-part w s d 3 a (m.val + 16) + ·) (if_pos (Nat.le_add_left 1 _))

theorem next_row (m : Fin 4112) (C : Fin 512) : val_main_v186 (F := Ideal) w s d (ix3 0 m C) = val_main_v184 (F := Ideal) w s d (ix3 0 ⟨m.val + 1, by omega⟩ C) := by
  have e : (⟨m.val + 1, by omega⟩ : Fin 4113) = ⟨1 + m.val, by omega⟩ := Fin.ext (Nat.add_comm _ _)
  rw [e]
  pointwise [val_main_v186]

theorem stack0 (i : Fin 4113) (a : Fin 128) : val_main_v184 (F := Ideal) w s d (ix3 0 i (col 0 a)) = val_main_v182 (F := Ideal) w s d (ix3 0 i a) := by
  pointwise [val_main_v184, val_main_v183, val_main_v172, val_main_v171, val_main_v160, val_main_v159, val_main_v148, val_main_cst_29, val_main_cst_33, val_main_cst_37, val_main_cst_41, col]
  rw [dif_neg (by omega), dif_neg (by omega), dif_neg (fun q => q.1)]
  simp only [zero_add, add_zero]

theorem own0 (n : Fin 4112) (a : Fin 128) : val_main_v175 (F := Ideal) w s d (ix3 0 n (col 0 a)) = -val_main_v132 (F := Ideal) w s d (ix3 0 n a) := by
  pointwise [val_main_v175, val_main_v174, val_main_v173, val_main_v163, val_main_v162, val_main_v161, val_main_v151, val_main_v150, val_main_v149, val_main_v140, val_main_v139, val_main_cst_26, val_main_cst_30, val_main_cst_34, val_main_cst_38, col]
  rw [dif_neg (by omega), dif_neg (by omega), dif_neg (fun q => q.1)]
  simp only [zero_add, add_zero]

theorem stack1 (i : Fin 4113) (a : Fin 128) : val_main_v184 (F := Ideal) w s d (ix3 0 i (col 1 a)) = val_main_v170 (F := Ideal) w s d (ix3 0 i a) := by
  pointwise [val_main_v184, val_main_v183, val_main_v172, val_main_v171, val_main_v160, val_main_v159, val_main_v148, val_main_cst_29, val_main_cst_33, val_main_cst_37, val_main_cst_41, col]
  rw [dif_neg (by omega), dif_neg (by omega)]
  simp only [zero_add, add_zero]

theorem own1 (n : Fin 4112) (a : Fin 128) : val_main_v175 (F := Ideal) w s d (ix3 0 n (col 1 a)) = -val_main_v134 (F := Ideal) w s d (ix3 0 n a) := by
  pointwise [val_main_v175, val_main_v174, val_main_v173, val_main_v163, val_main_v162, val_main_v161, val_main_v151, val_main_v150, val_main_v149, val_main_v140, val_main_v139, val_main_cst_26, val_main_cst_30, val_main_cst_34, val_main_cst_38, col]
  rw [dif_neg (by omega), dif_neg (by omega)]
  simp only [zero_add, add_zero]

theorem stack2 (i : Fin 4113) (a : Fin 128) : val_main_v184 (F := Ideal) w s d (ix3 0 i (col 2 a)) = val_main_v158 (F := Ideal) w s d (ix3 0 i a) := by
  pointwise [val_main_v184, val_main_v183, val_main_v172, val_main_v171, val_main_v160, val_main_v159, val_main_v148, val_main_cst_29, val_main_cst_33, val_main_cst_37, val_main_cst_41, col]
  rw [dif_neg (by omega), dif_neg (by omega), dif_neg (by omega)]
  simp only [zero_add, add_zero]

theorem own2 (n : Fin 4112) (a : Fin 128) : val_main_v175 (F := Ideal) w s d (ix3 0 n (col 2 a)) = -val_main_v136 (F := Ideal) w s d (ix3 0 n a) := by
  pointwise [val_main_v175, val_main_v174, val_main_v173, val_main_v163, val_main_v162, val_main_v161, val_main_v151, val_main_v150, val_main_v149, val_main_v140, val_main_v139, val_main_cst_26, val_main_cst_30, val_main_cst_34, val_main_cst_38, col]
  rw [dif_neg (by omega), dif_neg (by omega), dif_neg (by omega)]
  simp only [zero_add, add_zero]

theorem stack3 (i : Fin 4113) (a : Fin 128) : val_main_v184 (F := Ideal) w s d (ix3 0 i (col 3 a)) = val_main_v147 (F := Ideal) w s d (ix3 0 i a) := by
  pointwise [val_main_v184, val_main_v183, val_main_v172, val_main_v171, val_main_v160, val_main_v159, val_main_v148, val_main_cst_29, val_main_cst_33, val_main_cst_37, val_main_cst_41, col]
  rw [dif_neg (by omega), dif_neg (by omega), dif_neg (by omega)]
  simp only [zero_add, add_zero]

theorem own3 (n : Fin 4112) (a : Fin 128) : val_main_v175 (F := Ideal) w s d (ix3 0 n (col 3 a)) = -val_main_v138 (F := Ideal) w s d (ix3 0 n a) := by
  pointwise [val_main_v175, val_main_v174, val_main_v173, val_main_v163, val_main_v162, val_main_v161, val_main_v151, val_main_v150, val_main_v149, val_main_v140, val_main_v139, val_main_cst_26, val_main_cst_30, val_main_cst_34, val_main_cst_38, col]
  rw [dif_neg (by omega), dif_neg (by omega), dif_neg (by omega)]
  simp only [zero_add, add_zero]

theorem last_sum (n : Fin 4112) (C : Fin 512) : val_main_v189 (F := Ideal) w s d (ix2 n C) = val_main_v188 (F := Ideal) w s d (ix3 0 n C) := by
  pointwise [val_main_v189, val_main_cst_42]
  exact Fintype.sum_unique _

theorem down (n : Fin 4112) (C : Fin 512) : val_main_v187 (F := Ideal) w s d (ix3 0 n C) = ∑ k ∈ Finset.range 4112, colOf (val_main_v186 (F := Ideal) w s d) C (n.val + k) := by
  unfold val_main_v187
  rw [window_sum 0 4111 _ _ (fun j => by pointwise [val_main_call1_v0, val_main_call1_cst]) _ _ n C]
  rw [← Fin.sum_univ_eq_sum_range (fun k => colOf (val_main_v186 (F := Ideal) w s d) C (n.val + k)) 4112]
  exact Finset.sum_congr rfl fun k _ => if_pos (Nat.zero_le _)

end Grad

end Cert.PoolRefIdeal.Ops

end
-- ==== Proof.PoolEquation.lean ====
/- The pool: a window's rows added one by one, against a difference of running sums; the gradients of the product and of the scale. -/
module

public import proofs.«01_k».proof.Proof.PoolOps
public import proofs.«01_k».proof.Proof.PoolArrays
public import proofs.«01_k».proof.Proof.Finite
public import proofs.«01_k».proof.Proof.Gen.Pre_pool_finite
public import proofs.«01_k».proof.Proof.Online

@[expose] public section

set_option maxRecDepth 16384

noncomputable section

namespace Cert.PoolEquation

open Cert.PoolIdeal Cert.PoolIdeal.Gen Cert.PoolIdeal.Blocks Cert.PoolRefIdeal.Ops Cert.Finite
open Idealize.ShloMosaic Idealize.ShloMosaic.TcCoe Idealize.SL.Sem Idealize.ShloMosaic.Pipeline Idealize.ShloMosaic.StableHlo

/-- The last `w` of the first `n + 1` numbers, and those before them. -/
theorem window_real (f : ℕ → ℝ) (n w : ℕ) :
    ∑ k ∈ Finset.range w, (if k ≤ n then f (n - k) else 0) + ∑ i ∈ Finset.range (n + 1 - w), f i = ∑ i ∈ Finset.range (n + 1), f i := by
  induction w with
  | zero => simp
  | succ w ih =>
    rw [← ih, Finset.sum_range_succ, add_assoc]
    by_cases h : w ≤ n
    · rw [if_pos h, show n + 1 - w = (n - w) + 1 by omega, show n + 1 - (w + 1) = n - w by omega, Finset.sum_range_succ]
      ring
    · rw [if_neg h, show n + 1 - w = 0 by omega, show n + 1 - (w + 1) = 0 by omega, zero_add]

/-- The same as a difference, over the extended reals. -/
theorem window_eq (f : ℕ → EReal) (hf : ∀ n, IsReal (f n)) (n w : ℕ) :
    ∑ k ∈ Finset.range w, (if k ≤ n then f (n - k) else 0) = ∑ i ∈ Finset.range (n + 1), f i - ∑ i ∈ Finset.range (n + 1 - w), f i := by
  choose g hg using hf
  obtain rfl : f = fun n => (g n : EReal) := funext hg
  rw [← Cert.Online.coe_sum, ← Cert.Online.coe_sum, ← EReal.coe_sub, ← window_real g n w, add_sub_cancel_right, Cert.Online.coe_sum]
  refine Finset.sum_congr rfl fun k _ => ?_
  split_ifs <;> rfl

/-- Rows past the input's are zero. -/
def Padded (P : S4224x512.Idx → EReal) (x : S4112x512.Idx → EReal) : Prop := ∀ (R : Fin 4224) (C : Fin 512), P (ix2 R C) = inp x C R.val

theorem inp_real (x : S4112x512.Idx → EReal) (hx : ∀ i, IsReal (x i)) (C : Fin 512) (n : ℕ) : IsReal (inp x C n) := by
  unfold inp
  split_ifs
  · exact hx _
  · exact IsReal.zero

theorem row_at {P : S4224x512.Idx → EReal} {x : S4112x512.Idx → EReal} (h : Padded P x) (n k : ℕ) (hn : n < 4112) (hk : k ≤ 16) (C : Fin 512) :
    row P (n + 16 - k) C = if k ≤ n then inp x C (n - k) else 0 := by
  unfold row
  by_cases h2 : k ≤ n
  · rw [dif_pos (show 16 ≤ n + 16 - k ∧ n + 16 - k < 4240 by omega), if_pos h2, h]
    exact congrArg (inp x C) (show n + 16 - k - 16 = n - k by omega)
  · rw [dif_neg (show ¬ (16 ≤ n + 16 - k ∧ n + 16 - k < 4240) by omega), if_neg h2]

theorem wid_le (g : Fin 4) : wid g ≤ 16 := by fin_cases g <;> decide

/-- The residual of a row, either way. -/
theorem resid_eq {P : S4224x512.Idx → EReal} {x : S4112x512.Idx → EReal} (h : Padded P x) (hx : ∀ i, IsReal (x i)) (n : Fin 4112) (g : Fin 4) (C : Fin 512) :
    resid (row P) (wid g) n.val C = refResid x (wid g) n C := by
  unfold resid refResid
  have e : row P (n.val + 16) C = x (ix2 n C) := by
    refine (row_at h n.val 0 n.isLt (by omega) C).trans ?_
    rw [if_pos (Nat.zero_le _)]
    exact dif_pos n.isLt
  have s : ∑ k ∈ Finset.range (wid g), row P (n.val + 16 - k) C = pre x C (n.val + 1) - pre x C (n.val + 1 - wid g) :=
    (Finset.sum_congr rfl fun k hk => row_at h n.val k n.isLt (by have := Finset.mem_range.mp hk; have := wid_le g; omega) C).trans
      (window_eq (inp x C) (inp_real x hx C) n.val (wid g))
  rw [e, s]

/-- A sum over the padded rows whose terms vanish past the input's. -/
theorem sum_rows (f : Fin 4224 → EReal) (hf : ∀ R : Fin 4224, 4112 ≤ R.val → f R = 0) : ∑ R, f R = ∑ n : Fin 4112, f ⟨n.val, by omega⟩ := by
  refine (Fin.sum_univ_add (a := 4112) (b := 112) f).trans ?_
  rw [Finset.sum_eq_zero fun (i : Fin 112) _ => hf (Fin.natAdd 4112 i) (Nat.le_add_right _ _), add_zero]
  rfl

theorem scale_eq {P D : S4224x512.Idx → EReal} {x d : S4112x512.Idx → EReal} (h : Padded P x) (hd : Padded D d) (hx : ∀ i, IsReal (x i))
    (w : FVec Ideal S4x128x128 .f32) (C : Fin 512) :
    scaleGrad P D w (grp C) (chn C) = Cert.PoolRefIdeal.Read.val_main_v191 (F := Ideal) x w d (ix2 0 C) := by
  rw [scale_at]
  unfold scaleGrad
  rw [sum_rows _ fun R hR => by rw [hd, inp, dif_neg (by omega), zero_mul]]
  refine Finset.sum_congr rfl fun n _ => ?_
  rw [hd, inp, dif_pos n.isLt, mul_comm, col_eta]
  congr 1
  refine Finset.sum_congr rfl fun a _ => ?_
  rw [mul_comm]
  congr 1
  exact resid_eq h hx n (grp C) _

theorem weight_eq {P D : S4224x512.Idx → EReal} {x d : S4112x512.Idx → EReal} (h : Padded P x) (hd : Padded D d) (hx : ∀ i, IsReal (x i))
    (s : FVec Ideal S512 .f32) (s' : FVec Ideal S1x512 .f32) (hs : ∀ C, s' (ix2 0 C) = s (ix1 C)) (g : Fin 4) (a b : Fin 128) :
    weightGrad P D s' g a b = Cert.PoolRefIdeal.Read.val_main_v130 (F := Ideal) x s d (ix3 g a b) := by
  rw [weight_at]
  unfold weightGrad
  rw [sum_rows _ fun R hR => by rw [hd, inp, dif_neg (by omega), zero_mul, mul_zero]]
  refine Finset.sum_congr rfl fun n _ => ?_
  rw [hd, inp, dif_pos n.isLt, mul_comm, hs]
  congr 1
  exact resid_eq h hx n g _

variable (m : (ℓ : Loc nD τ sig) → Buf (Elt Ideal) ℓ) (c : Dev nD)

/-- The integer zero, cast: the value the rows are padded with. -/
theorem zero_cast : (FloatOps.sitofp (F := Ideal) FTy.f32 0#32 : EReal) = 0 := by
  show (((0#32 : BitVec 32).toInt : ℝ) : EReal) = 0
  simp

abbrev below (X : FVec Ideal S4112x512 .f32) : FVec Ideal S4224x512 .f32 :=
  pad S4224x512 ![0, 0] ![112, 0] ![0, 0] X (sitofp .f32 (constantI S_ 32 0#32)) pads_S4112x512_S4224x512_01120_000 h_S_

theorem below_padded (X : FVec Ideal S4112x512 .f32) : Padded (below X) X := by
  intro R C
  unfold inp
  pointwise []
  rw [zero_cast]

theorem entry0 : V m c main_v0 = below (m ((c.tc : Thread nD τ).loc main_arg0)) := by
  simp only [V, hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp

theorem entry1 : V m c main_v1 = below (m ((c.tc : Thread nD τ).loc main_arg3)) := by
  simp only [V, hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp

theorem entry2 : V m c main_v2 = m ((c.tc : Thread nD τ).loc main_arg1) := by
  simp only [V, hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
  rfl

theorem entry3 : V m c main_v3 = shapeCast S1x512 (m ((c.tc : Thread nD τ).loc main_arg2)) shapeCasts_S512_S1x512 := by
  simp only [V, hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp
  rfl

theorem scale_row (s : FVec Ideal S512 .f32) (C : Fin 512) : shapeCast S1x512 s shapeCasts_S512_S1x512 (ix2 0 C) = s (ix1 C) := by pointwise []

/-- The precondition, entry by entry. -/
theorem finite_of_pre {x : FVec Ideal S4112x512 .f32} {w : FVec Ideal S4x128x128 .f32} {s : FVec Ideal S512 .f32} {d : FVec Ideal S4112x512 .f32}
    (h : Cert.Pre_pool_finite.fn (F := Ideal) x w s d = fun _ => 1#1) : (∀ i, IsReal (x i)) ∧ (∀ i, IsReal (w i)) ∧ (∀ i, IsReal (s i)) ∧ ∀ i, IsReal (d i) := by
  have h0 := congrFun h (fun a => a.elim0)
  unfold Cert.Pre_pool_finite.fn Cert.Pre_pool_finite.fn_part1 at h0
  simp only [andi, IntOp.andi_eq_one] at h0
  obtain ⟨⟨⟨a0, a1⟩, a2⟩, a3⟩ := h0
  haveI : Subsingleton Cert.Pre_pool_finite.S_.Idx := ⟨fun i j => funext fun a => a.elim0⟩
  exact ⟨isReal_of_all _ _ _ _ _ _ a0, isReal_of_all _ _ _ _ _ _ a1, isReal_of_all _ _ _ _ _ _ a2, isReal_of_all _ _ _ _ _ _ a3⟩

end Cert.PoolEquation

end
-- ==== Proof.PoolRowsEquation.lean ====
/- The pool: a row's gradient, from the windows that meet it, against the reference's running sum from below. -/
module

public import proofs.«01_k».proof.Proof.PoolRowsOps
public import proofs.«01_k».proof.Proof.PoolEquation

@[expose] public section

set_option maxRecDepth 16384

noncomputable section

namespace Cert.PoolEquation

open Cert.PoolIdeal.Blocks Cert.PoolRefIdeal.Ops Cert.PoolRefIdeal.Read Cert.Finite
open Cert.PoolRefIdeal (S4112x512 S4224x512 S4x128x128 S512)
open Idealize.ShloMosaic Idealize.ShloMosaic.TcCoe Idealize.SL.Sem

/-- A sum of differences of terms `w` apart, whose last terms are zero. -/
theorem apart_real (h : ℕ → ℝ) (R w : ℕ) (hz : ∀ n, R + 4112 ≤ n → h n = 0) :
    ∑ k ∈ Finset.range 4112, (-h (R + k + w) + h (R + k)) = ∑ k ∈ Finset.range w, h (R + k) := by
  have e1 := Finset.sum_range_add (fun k => h (R + k)) 4112 w
  have e2 := Finset.sum_range_add (fun k => h (R + k)) w 4112
  rw [Finset.sum_eq_zero (s := Finset.range w) (f := fun k => h (R + (4112 + k))) (fun k _ => hz _ (by omega)), add_zero] at e1
  rw [Nat.add_comm w 4112, e1] at e2
  rw [Finset.sum_add_distrib, e2, Finset.sum_neg_distrib]
  have e3 : ∑ k ∈ Finset.range 4112, h (R + k + w) = ∑ k ∈ Finset.range 4112, h (R + (w + k)) :=
    Finset.sum_congr rfl fun k _ => congrArg h (by omega)
  rw [e3]
  ring

theorem apart_eq (P : ℕ → EReal) (hP : ∀ n, IsReal (P n)) (R w : ℕ) (hz : ∀ n, 4112 ≤ n → P n = 0) :
    ∑ k ∈ Finset.range 4112, (-P (R + k + w) + P (R + k)) = ∑ k ∈ Finset.range w, P (R + k) := by
  choose h hh using hP
  obtain rfl : P = fun n => (h n : EReal) := funext hh
  rw [← Cert.Online.coe_sum, ← apart_real h R w fun n hn => EReal.coe_eq_zero.mp (hz n (by omega)), Cert.Online.coe_sum]
  exact Finset.sum_congr rfl fun k _ => by rw [EReal.coe_add, EReal.coe_neg]

section

variable (w : FVec Ideal S4x128x128 .f32) (s : FVec Ideal S512 .f32) (d : FVec Ideal S4112x512 .f32)

/-- The reference's difference of shares, at any channel. -/
theorem diff_at (m : Fin 4112) (g : Fin 4) (a : Fin 128) :
    val_main_v186 (F := Ideal) w s d (ix3 0 m (col g a)) = -part w s d g a (m.val + wid g) + part w s d g a m.val := by
  rw [next_row]
  fin_cases g
  · exact (stack0 w s d _ a).trans (diff0 w s d m a)
  · exact (stack1 w s d _ a).trans (diff1 w s d m a)
  · exact (stack2 w s d _ a).trans (diff2 w s d m a)
  · exact (stack3 w s d _ a).trans (diff3 w s d m a)

theorem own_at (n : Fin 4112) (g : Fin 4) (a : Fin 128) : val_main_v175 (F := Ideal) w s d (ix3 0 n (col g a)) = -back (cots d) (scales s) w n.val g a := by
  fin_cases g
  · exact (own0 w s d n a).trans (congrArg (fun x : EReal => -x) (pulled0 w s d n a))
  · exact (own1 w s d n a).trans (congrArg (fun x : EReal => -x) (pulled1 w s d n a))
  · exact (own2 w s d n a).trans (congrArg (fun x : EReal => -x) (pulled2 w s d n a))
  · exact (own3 w s d n a).trans (congrArg (fun x : EReal => -x) (pulled3 w s d n a))

variable (hw : ∀ i, IsReal (w i)) (hs : ∀ i, IsReal (s i)) (hd : ∀ i, IsReal (d i))

include hw hs hd in
theorem part_real (g : Fin 4) (a : Fin 128) (n : ℕ) : IsReal (part w s d g a n) := by
  have hb : IsReal (back (cots d) (scales s) w n g a) := IsReal.sum _ _ fun b _ => ((inp_real d hd _ n).mul (hs _)).mul (hw _)
  unfold part share
  generalize back (cots d) (scales s) w n g a = x at hb
  have h := met_ne n (wid g) (one_le_wid g)
  unfold met at h ⊢
  rw [Ideal.div_coe fun e => h (by rw [e]; rfl)]
  exact hb.mul (IsReal.coe _)

include hw hs hd in
/-- A row's gradient, either way. -/
theorem row_grad (n : Fin 4112) (g : Fin 4) (a : Fin 128) :
    rowGrad (cots d) (scales s) w n.val g a = val_main_v188 (F := Ideal) w s d (ix3 0 n (col g a)) := by
  have e : ∀ k, colOf (val_main_v186 (F := Ideal) w s d) (col g a) (n.val + k) = -part w s d g a (n.val + k + wid g) + part w s d g a (n.val + k) := fun k => by
    unfold colOf
    by_cases h : n.val + k < 4112
    · rw [dif_pos h]; exact diff_at w s d ⟨n.val + k, h⟩ g a
    · rw [dif_neg h, part_zero w s d g a _ (by omega), part_zero w s d g a _ (by omega), neg_zero, add_zero]
  have f : val_main_v187 (F := Ideal) w s d (ix3 0 n (col g a)) = ∑ k ∈ Finset.range (wid g), part w s d g a (n.val + k) := by
    rw [down]
    simp only [e]
    exact apart_eq _ (part_real w s d hw hs hd g a) n.val (wid g) (part_zero w s d g a)
  refine Eq.trans ?_ (congrArg₂ (· + ·) (own_at w s d n g a) f).symm
  unfold rowGrad
  rw [sub_eq_add_neg, add_comm]
  rfl

theorem zero_grad (R : ℕ) (hR : 4112 ≤ R) (g : Fin 4) (a : Fin 128) : rowGrad (cots d) (scales s) w R g a = 0 := by
  unfold rowGrad
  rw [back_zero w s d g a R hR, sub_zero]
  exact Finset.sum_eq_zero fun k _ => part_zero w s d g a _ (by omega)

include hw hs hd in
theorem rows_eq {D : S4224x512.Idx → EReal} {s' : Cert.PoolIdeal.S1x512.Idx → EReal} (hD : Padded D d) (hs' : ∀ C, s' (ix2 0 C) = s (ix1 C)) (R : Fin 4224) (C : Fin 512) :
    rowGrad (cot D) s' w R.val (grp C) (chn C) = val_main_v190 (F := Ideal) w s d (ix2 R C) := by
  have e1 : cot D = cots d := by
    funext n C
    unfold cot
    by_cases h : n < 4224
    · rw [dif_pos h, hD]
    · rw [dif_neg h]; unfold cots inp; rw [dif_neg (by omega)]
  have e2 : s' = scales s := by
    funext j
    refine Eq.trans (congrArg s' ?_) (hs' (j 1))
    funext a
    fin_cases a
    · exact Subsingleton.elim (α := Fin 1) _ _
    · rfl
  rw [e1, e2]
  by_cases h : R.val < 4112
  · refine (row_grad w s d hw hs hd ⟨R.val, h⟩ (grp C) (chn C)).trans ?_
    rw [col_eta, ← last_sum]
    pointwise [val_main_v190]
    rw [dif_pos h]
  · rw [zero_grad w s d R.val (by omega)]
    pointwise [val_main_v190, val_main_call2_v0, val_main_c_43]
    rw [dif_neg h, zero_cast]

end

end Cert.PoolEquation

end
-- ==== Proof.PoolClaim.lean ====
/- The pool's claim against its reference: the gradients of the rows, of the products and of the scale. -/
module

public import proofs.«01_k».proof.Defs
public import proofs.«01_k».proof.Proof.PoolRowsEquation
public import proofs.«01_k».proof.Proof.Gen.PoolIdeal.Value
public import proofs.«01_k».proof.Proof.Gen.PoolRefIdeal.Run
public import proofs.«01_k».proof.Proof.Gen.PoolIdeal
public import proofs.«01_k».proof.Proof.Gen.PoolRefIdeal

@[expose] public section

set_option maxRecDepth 16384

noncomputable section

namespace Cert.PoolClaim

open Cert.PoolIdeal Cert.PoolIdeal.Gen Cert.PoolIdeal.Blocks Cert.PoolEquation
open Idealize.ShloMosaic Idealize.ShloMosaic.TcCoe Idealize.SL.Sem

/-- The call ends with the reference's three arrays. -/
theorem run (m : (ℓ : Loc nD τ sig) → Buf (Elt Ideal) ℓ) (ρ : Dev nD → PrngReg) (hpre : Cert.Pre_PoolIdeal_pool_finite m) :
    θ_run defs (onTc (τ := τ) (main (F := Ideal))) ⟨m, fun _ => 0, ρ⟩ (fun r => ∀ c : Dev nD,
      r.2.mem ((c.tc : Thread nD τ).loc main_v4_0) = Cert.PoolRefIdeal.Read.val_main_v190 (F := Ideal) (m ((c.tc : Thread nD τ).loc main_arg1)) (m ((c.tc : Thread nD τ).loc main_arg2)) (m ((c.tc : Thread nD τ).loc main_arg3))
      ∧ r.2.mem ((c.tc : Thread nD τ).loc main_v4_1) = Cert.PoolRefIdeal.Read.val_main_v130 (F := Ideal) (m ((c.tc : Thread nD τ).loc main_arg0)) (m ((c.tc : Thread nD τ).loc main_arg2)) (m ((c.tc : Thread nD τ).loc main_arg3))
      ∧ r.2.mem ((c.tc : Thread nD τ).loc main_v4_2) = Cert.PoolRefIdeal.Read.val_main_v191 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨hx, hw, hs, hd⟩ := finite_of_pre (hpre c)
    obtain ⟨r0, r1, r2, h'⟩ := h c
    refine ⟨r0.trans ((du_arr m c).trans ?_), r1.trans ((dweight_arr m c).trans ?_), r2.trans ((dscale_arr m c).trans ?_), h'⟩
    · rw [entry1, entry2, entry3]
      exact funext fun y => (rows_eq _ _ _ hw hs hd (below_padded _) (scale_row _) (y 0) (y 1)).trans
        (congrArg _ (funext fun a => by fin_cases a <;> rfl))
    · rw [entry0, entry1, entry3]
      exact funext fun y => (weight_eq (below_padded _) (below_padded _) hx _ _ (scale_row _) (y 0) (y 1) (y 2)).trans
        (congrArg _ (funext fun a => by fin_cases a <;> rfl))
    · rw [entry0, entry1, entry2]
      refine funext fun y => (scale_eq (below_padded _) (below_padded _) hx _ (y 1)).trans (congrArg _ ?_)
      exact funext fun a => by
        fin_cases a
        · exact Subsingleton.elim (α := Fin 1) _ _
        · rfl) (Cert.PoolIdeal.Value.run_blocks m ρ)

theorem algebraic : Cert.algebraic_PoolIdeal_PoolRefIdeal_pre_pool_finite :=
  fun m ρ m' ρ' hpre hag => ⟨_, _, _, run m ρ hpre, (θ_run _ _ _).mono (fun _ h c => by
    obtain ⟨a0, a1, a2, a3⟩ := hag c
    obtain ⟨r0, r1, r2, h'⟩ := h c
    refine ⟨r0.trans ?_, r1.trans ?_, r2.trans ?_, h'⟩
    · rw [Cert.PoolRefIdeal.Read.val_main_v190_eq, ← a1, ← a2, ← a3]
    · rw [Cert.PoolRefIdeal.Read.val_main_v130_eq, ← a0, ← a2, ← a3]
    · rw [Cert.PoolRefIdeal.Read.val_main_v191_eq, ← a0, ← a1, ← a3]) (Cert.PoolRefIdeal.Value.run m' ρ')⟩

/-- The reference ends without fault, its arguments as they were. -/
theorem frame_ref : Cert.quiescent_PoolRefIdeal := fun m ρ _ =>
  (θ_run Cert.PoolRefIdeal.defs _ _).mono (fun r h => ⟨fun c => (h c).2.2.2, sem_eq_zero_of_no_sems (by decide) r.2⟩)
    (Cert.PoolRefIdeal.Value.run (F := Ideal) m ρ)

end Cert.PoolClaim

end
-- ==== Proof.lean ====
module

public import proofs.«01_k».proof.Proof.Gen.AttnRefIdeal.Run
public import proofs.«01_k».proof.Proof.Gen.AttnRefIdeal.Read
public import proofs.«01_k».proof.Proof.Gen.Attn
public import proofs.«01_k».proof.Proof.Gen.AttnIdeal
public import proofs.«01_k».proof.Proof.Gen.AttnRefIdeal
public import proofs.«01_k».proof.Proof.Gen.Pre_attn_finite
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Regions
public import proofs.«01_k».proof.Proof.Gen.AttnIdeal.Points
public import proofs.«01_k».proof.Proof.Gen.GateRefIdeal.Run
public import proofs.«01_k».proof.Proof.Gen.GateRefIdeal.Read
public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Pre_gate_finite
public import proofs.«01_k».proof.Proof.GateClaim
public import proofs.«01_k».proof.Proof.Gen.NormRefIdeal.Run
public import proofs.«01_k».proof.Proof.Gen.NormRefIdeal.Read
public import proofs.«01_k».proof.Proof.Gen.NormIdeal.Value
public import proofs.«01_k».proof.Proof.Gen.Norm
public import proofs.«01_k».proof.Proof.Gen.NormIdeal
public import proofs.«01_k».proof.Proof.Gen.NormRefIdeal
public import proofs.«01_k».proof.Proof.Gen.Pre_norm_finite
public import proofs.«01_k».proof.Proof.Gen.Loss
public import proofs.«01_k».proof.Proof.Gen.LossRefIdeal
public import proofs.«01_k».proof.Proof.Gen.LossIdeal
public import proofs.«01_k».proof.Proof.Gen.LossIdeal.Frame
public import proofs.«01_k».proof.Proof.Gen.Loss.Frame
public import proofs.«01_k».proof.Proof.Gen.Norm.Frame
public import proofs.«01_k».proof.Proof.Gen.LossRefIdeal.Run
public import proofs.«01_k».proof.Proof.Gen.LossRefIdeal.Read
public import proofs.«01_k».proof.Proof.Gen.PoolRefIdeal.Run
public import proofs.«01_k».proof.Proof.Gen.PoolRefIdeal.Read
public import proofs.«01_k».proof.Proof.Gen.PoolIdeal.Value
public import proofs.«01_k».proof.Proof.Gen.Pool
public import proofs.«01_k».proof.Proof.Gen.PoolIdeal
public import proofs.«01_k».proof.Proof.Gen.PoolRefIdeal
public import proofs.«01_k».proof.Proof.Gen.Pool.Frame
public import proofs.«01_k».proof.Proof.Gen.PoolIdeal.Frame
public import proofs.«01_k».proof.Proof.Gen.Pool.Skeleton
public import proofs.«01_k».proof.Proof.Gen.Pool.Launch
public import proofs.«01_k».proof.Proof.Gen.Pool.Points
public import proofs.«01_k».proof.Proof.Gen.PoolIdeal.Skeleton
public import proofs.«01_k».proof.Proof.Gen.PoolIdeal.Launch
public import proofs.«01_k».proof.Proof.Gen.PoolIdeal.Points
public import proofs.«01_k».proof.Proof.AttnClaim
public import proofs.«01_k».proof.Proof.AttnFrame
public import proofs.«01_k».proof.Proof.NormClaim
public import proofs.«01_k».proof.Proof.LossClaim
public import proofs.«01_k».proof.Proof.Gen.Pre_pool_finite
public import proofs.«01_k».proof.Proof.PoolClaim
public import Idealize.ShloMosaic.Adequacy
public import Idealize.ShloMosaic.Init

@[expose] public section

noncomputable section

namespace Cert.Proof

open Idealize.ShloMosaic Idealize.SL.Sem Cert.Gate

theorem claim : Cert.Claim := ⟨Cert.Gate.Gen.facts, Cert.GateIdeal.Gen.facts, Cert.GateRefIdeal.Gen.facts,
  Cert.Attn.Gen.facts, Cert.AttnIdeal.Gen.facts, Cert.AttnRefIdeal.Gen.facts,
  Cert.Norm.Gen.facts, Cert.NormIdeal.Gen.facts, Cert.NormRefIdeal.Gen.facts,
  Cert.Loss.Gen.facts, Cert.LossIdeal.Gen.facts, Cert.LossRefIdeal.Gen.facts,
  Cert.Pool.Gen.facts, Cert.PoolIdeal.Gen.facts, Cert.PoolRefIdeal.Gen.facts,
  Cert.Pre_gate_finite.Gen.facts, Cert.Pre_attn_finite.Gen.facts, Cert.Pre_norm_finite.Gen.facts, Cert.Pre_pool_finite.Gen.facts,
  fun m ρ _ => Cert.Gate.Gen.frame m ρ,
  fun m ρ _ => Cert.GateIdeal.Gen.frame m ρ,
  fun m ρ _ => Cert.GateIdeal.Gen.frame m ρ,
  Cert.GateClaim.frame_ref,
  fun m ρ _ => Cert.GateClaim.frame_ref m ρ trivial,
  Cert.AttnFrame.frame,
  fun m ρ _ => Cert.AttnWhole.frame m ρ,
  fun m ρ _ => Cert.AttnWhole.frame m ρ,
  Cert.AttnClaim.frame_ref,
  fun m ρ _ => Cert.AttnClaim.frame_ref m ρ trivial,
  fun m ρ _ => Cert.Norm.Gen.frame m ρ,
  fun m ρ _ => Cert.NormIdeal.Gen.frame m ρ,
  fun m ρ _ => Cert.NormIdeal.Gen.frame m ρ,
  Cert.NormClaim.frame_ref,
  fun m ρ _ => Cert.NormClaim.frame_ref m ρ trivial,
  fun m ρ _ => Cert.Loss.Gen.frame m ρ,
  fun m ρ _ => Cert.LossIdeal.Gen.frame m ρ,
  Cert.LossClaim.frame_ref,
  fun m ρ _ => Cert.Pool.Gen.frame m ρ,
  fun m ρ _ => Cert.PoolIdeal.Gen.frame m ρ,
  fun m ρ _ => Cert.PoolIdeal.Gen.frame m ρ,
  Cert.PoolClaim.frame_ref,
  fun m ρ _ => Cert.PoolClaim.frame_ref m ρ trivial,
  trivial,
  Cert.GateClaim.algebraic,
  Cert.AttnClaim.preserves,
  Cert.AttnClaim.algebraic,
  trivial,
  Cert.NormClaim.algebraic,
  trivial,
  Cert.LossClaim.algebraic,
  trivial,
  Cert.PoolClaim.algebraic⟩

end Cert.Proof

end
